-- ==== Defs.lean ====
def Pre_Kernel [hPre_named : Cert.Pre_named.Facts] (m : (ℓ : Loc Cert.Kernel.nD Cert.Kernel.τ Cert.Kernel.sig) → Buf (Elt Bits) ℓ) : Prop :=
  ∀ c : Dev Cert.Kernel.nD,
    (Cert.Pre_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_named : Cert.Pre_named.Facts] (m : (ℓ : Loc Cert.KernelIdeal.nD Cert.KernelIdeal.τ Cert.KernelIdeal.sig) → Buf (Elt Ideal) ℓ) : Prop :=
  ∀ c : Dev Cert.KernelIdeal.nD,
    (Cert.Pre_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_named : Cert.Pre_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_named : Cert.Pre_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_named : Cert.Pre_named.Facts) (hPre_routed : Cert.Pre_routed.Facts),
    quiescent_Kernel (hKernel := hKernel) (hPre_named := hPre_named)
    ∧ quiescent_KernelIdeal (hKernelIdeal := hKernelIdeal) (hPre_named := hPre_named)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ preserves_Kernel_KernelIdeal
    ∧ algebraic_KernelIdeal_ReferenceIdeal_pre_routed (hKernelIdeal := hKernelIdeal) (hReferenceIdeal := hReferenceIdeal) (hPre_routed := hPre_routed)
-- ==== Pre_named.lean ====
abbrev S48x1x2048 : Shape := ⟨3, ![48, 1, 2048]⟩
abbrev S48x1x2 : Shape := ⟨3, ![48, 1, 2]⟩
abbrev S8x8192x1024 : Shape := ⟨3, ![8, 8192, 1024]⟩
abbrev S8x8192x16 : Shape := ⟨3, ![8, 8192, 16]⟩
abbrev S8x2048x2048 : Shape := ⟨3, ![8, 2048, 2048]⟩
abbrev S8x2048x32 : Shape := ⟨3, ![8, 2048, 32]⟩
abbrev S_ : Shape := ⟨0, ![]⟩

class Facts : Prop where
  bcast_S_S48x1x2 : S_.BroadcastsInDim S48x1x2 (![] : Fin 0 → Fin S48x1x2.rank)

variable [Facts]

def fn {F : FTy → Type} [FloatOps F] (main_arg0 : FVec F S48x1x2048 .bf16) (main_arg1 : IVec S48x1x2 32) (main_arg2 : FVec F S48x1x2 .f32) (main_arg3 : IVec S8x8192x1024 8) (main_arg4 : FVec F S8x8192x16 .bf16) (main_arg5 : IVec S8x2048x2048 8) (main_arg6 : FVec F S8x2048x32 .bf16) : IVec S48x1x2 1 :=
  let main_c : IVec S_ 32 := constantI S_ 32 0#32
  let main_v0 : IVec S48x1x2 32 := broadcastInDim S48x1x2 ![] bcast_S_S48x1x2 main_c
  let main_v1 : IVec S48x1x2 1 := cmpi .sge main_arg1 main_v0
  let main_c_0 : IVec S_ 32 := constantI S_ 32 8#32
  let main_v2 : IVec S48x1x2 32 := broadcastInDim S48x1x2 ![] bcast_S_S48x1x2 main_c_0
  let main_v3 : IVec S48x1x2 1 := cmpi .slt main_arg1 main_v2
  let main_v4 : IVec S48x1x2 1 := andi main_v1 main_v3
  main_v4
-- ==== Pre_routed.lean ====
abbrev S48x1x2048 : Shape := ⟨3, ![48, 1, 2048]⟩
abbrev S48x1x2 : Shape := ⟨3, ![48, 1, 2]⟩
abbrev S8x8192x1024 : Shape := ⟨3, ![8, 8192, 1024]⟩
abbrev S8x8192x16 : Shape := ⟨3, ![8, 8192, 16]⟩
abbrev S8x2048x2048 : Shape := ⟨3, ![8, 2048, 2048]⟩
abbrev S8x2048x32 : Shape := ⟨3, ![8, 2048, 32]⟩
abbrev S48x1x1 : Shape := ⟨3, ![48, 1, 1]⟩
abbrev S_ : Shape := ⟨0, ![]⟩

class Facts : Prop where
  slices_S48x1x2_S48x1x1_0_0_0 : S48x1x2.Slices ![0, 0, 0] S48x1x1
  slices_S48x1x2_S48x1x1_0_0_1 : S48x1x2.Slices ![0, 0, 1] S48x1x1
  bcast_S_S48x1x2 : S_.BroadcastsInDim S48x1x2 (![] : Fin 0 → Fin S48x1x2.rank)
  bcast_S48x1x1_S48x1x2_0_1_2 : S48x1x1.BroadcastsInDim S48x1x2 (![0, 1, 2] : Fin 3 → Fin S48x1x2.rank)

variable [Facts]

def fn {F : FTy → Type} [FloatOps F] (main_arg0 : FVec F S48x1x2048 .bf16) (main_arg1 : IVec S48x1x2 32) (main_arg2 : FVec F S48x1x2 .f32) (main_arg3 : IVec S8x8192x1024 8) (main_arg4 : FVec F S8x8192x16 .bf16) (main_arg5 : IVec S8x2048x2048 8) (main_arg6 : FVec F S8x2048x32 .bf16) : IVec S48x1x2 1 :=
  let main_v0 : IVec S48x1x1 32 := (extractStridedSlice S48x1x1 ![0, 0, 0] · slices_S48x1x2_S48x1x1_0_0_0) main_arg1
  let main_v1 : IVec S48x1x1 32 := (extractStridedSlice S48x1x1 ![0, 0, 1] · slices_S48x1x2_S48x1x1_0_0_1) main_arg1
  let main_v2 : IVec S48x1x1 1 := cmpi .ne main_v0 main_v1
  let main_c : IVec S_ 32 := constantI S_ 32 0#32
  let main_v3 : IVec S48x1x2 32 := broadcastInDim S48x1x2 ![] bcast_S_S48x1x2 main_c
  let main_v4 : IVec S48x1x2 1 := cmpi .sge main_arg1 main_v3
  let main_c_0 : IVec S_ 32 := constantI S_ 32 8#32
  let main_v5 : IVec S48x1x2 32 := broadcastInDim S48x1x2 ![] bcast_S_S48x1x2 main_c_0
  let main_v6 : IVec S48x1x2 1 := cmpi .slt main_arg1 main_v5
  let main_v7 : IVec S48x1x2 1 := andi main_v4 main_v6
  let main_v8 : IVec S48x1x2 1 := broadcastInDim S48x1x2 ![0, 1, 2] bcast_S48x1x1_S48x1x2_0_1_2 main_v2
  let main_v9 : IVec S48x1x2 1 := andi main_v7 main_v8
  main_v9
-- ==== Kernel.lean ====
abbrev S48x1x2048 : Shape := ⟨3, ![48, 1, 2048]⟩
abbrev S48x1x2 : Shape := ⟨3, ![48, 1, 2]⟩
abbrev S8x8192x1024 : Shape := ⟨3, ![8, 8192, 1024]⟩
abbrev S8x8192x16 : Shape := ⟨3, ![8, 8192, 16]⟩
abbrev S8x2048x2048 : Shape := ⟨3, ![8, 2048, 2048]⟩
abbrev S8x2048x32 : Shape := ⟨3, ![8, 2048, 32]⟩
abbrev S48x2 : Shape := ⟨2, ![48, 2]⟩
abbrev S2x48 : Shape := ⟨2, ![2, 48]⟩
abbrev S48x2048 : Shape := ⟨2, ![48, 2048]⟩
abbrev S8x2x4096x1024 : Shape := ⟨4, ![8, 2, 4096, 1024]⟩
abbrev S8x16x8192 : Shape := ⟨3, ![8, 16, 8192]⟩
abbrev S8x32x2048 : Shape := ⟨3, ![8, 32, 2048]⟩
abbrev S8x2x256x1024 : Shape := ⟨4, ![8, 2, 256, 1024]⟩
abbrev S2x16x8192 : Shape := ⟨3, ![2, 16, 8192]⟩
abbrev S2x32x2048 : Shape := ⟨3, ![2, 32, 2048]⟩
abbrev S2x16x256 : Shape := ⟨3, ![2, 16, 256]⟩
abbrev S48x4096 : Shape := ⟨2, ![48, 4096]⟩
abbrev S9 : Shape := ⟨1, ![9]⟩
abbrev S8 : Shape := ⟨1, ![8]⟩
abbrev S2 : Shape := ⟨1, ![2]⟩
abbrev S1x1 : Shape := ⟨2, ![1, 1]⟩
abbrev S1 : Shape := ⟨1, ![1]⟩
abbrev S_ : Shape := ⟨0, ![]⟩
abbrev S1x16x8192 : Shape := ⟨3, ![1, 16, 8192]⟩
abbrev S16x8192 : Shape := ⟨2, ![16, 8192]⟩
abbrev S1x32x2048 : Shape := ⟨3, ![1, 32, 2048]⟩
abbrev S32x2048 : Shape := ⟨2, ![32, 2048]⟩
abbrev S1x2x256x1024 : Shape := ⟨4, ![1, 2, 256, 1024]⟩
abbrev S2x256x1024 : Shape := ⟨3, ![2, 256, 1024]⟩
abbrev S1x1x256x1024 : Shape := ⟨4, ![1, 1, 256, 1024]⟩
abbrev S256x1024 : Shape := ⟨2, ![256, 1024]⟩
abbrev S1x256x1024 : Shape := ⟨3, ![1, 256, 1024]⟩
abbrev S1x16x256 : Shape := ⟨3, ![1, 16, 256]⟩
abbrev S16x256 : Shape := ⟨2, ![16, 256]⟩
abbrev S1x1x256x128 : Shape := ⟨4, ![1, 1, 256, 128]⟩
abbrev S256x128 : Shape := ⟨2, ![256, 128]⟩
abbrev S128x256 : Shape := ⟨2, ![128, 256]⟩
abbrev S32x256 : Shape := ⟨2, ![32, 256]⟩
abbrev S32x1x256 : Shape := ⟨3, ![32, 1, 256]⟩
abbrev S32x8x256 : Shape := ⟨3, ![32, 8, 256]⟩
abbrev S256x256 : Shape := ⟨2, ![256, 256]⟩
abbrev S1x1x256 : Shape := ⟨3, ![1, 1, 256]⟩
abbrev S1x256 : Shape := ⟨2, ![1, 256]⟩
abbrev S48x256 : Shape := ⟨2, ![48, 256]⟩
abbrev S48 : Shape := ⟨1, ![48]⟩
abbrev S1x48 : Shape := ⟨2, ![1, 48]⟩
abbrev S48x48 : Shape := ⟨2, ![48, 48]⟩
abbrev S48x1 : Shape := ⟨2, ![48, 1]⟩

abbrev nBuf : Space → Nat
  | .hbm => 17
  | .vmem => 10
  | .smem => 2
  | _ => 0

abbrev bufTy : (tb : Table) → Fin (tcTables nBuf tb) → BufTy
  | .hbm, ⟨0, _⟩ => ⟨S48x1x2048, .bf16⟩
  | .hbm, ⟨1, _⟩ => ⟨S48x1x2, .i32⟩
  | .hbm, ⟨2, _⟩ => ⟨S48x1x2, .f32⟩
  | .hbm, ⟨3, _⟩ => ⟨S8x8192x1024, .i8⟩
  | .hbm, ⟨4, _⟩ => ⟨S8x8192x16, .bf16⟩
  | .hbm, ⟨5, _⟩ => ⟨S8x2048x2048, .i8⟩
  | .hbm, ⟨6, _⟩ => ⟨S8x2048x32, .bf16⟩
  | .hbm, ⟨7, _⟩ => ⟨S48x2, .i32⟩
  | .hbm, ⟨8, _⟩ => ⟨S2x48, .i32⟩
  | .hbm, ⟨9, _⟩ => ⟨S48x2, .f32⟩
  | .hbm, ⟨10, _⟩ => ⟨S2x48, .f32⟩
  | .hbm, ⟨11, _⟩ => ⟨S48x2048, .bf16⟩
  | .hbm, ⟨12, _⟩ => ⟨S8x2x4096x1024, .i8⟩
  | .hbm, ⟨13, _⟩ => ⟨S8x16x8192, .bf16⟩
  | .hbm, ⟨14, _⟩ => ⟨S8x32x2048, .bf16⟩
  | .hbm, ⟨15, _⟩ => ⟨S48x2048, .bf16⟩
  | .hbm, ⟨16, _⟩ => ⟨S48x1x2048, .bf16⟩
  | .local _ .vmem, ⟨0, _⟩ => ⟨S48x2048, .bf16⟩
  | .local _ .vmem, ⟨1, _⟩ => ⟨S2x48, .i32⟩
  | .local _ .vmem, ⟨2, _⟩ => ⟨S2x48, .f32⟩
  | .local _ .vmem, ⟨3, _⟩ => ⟨S48x2048, .bf16⟩
  | .local _ .vmem, ⟨4, _⟩ => ⟨S8x2x256x1024, .i8⟩
  | .local _ .vmem, ⟨5, _⟩ => ⟨S2x16x8192, .bf16⟩
  | .local _ .vmem, ⟨6, _⟩ => ⟨S2x32x2048, .bf16⟩
  | .local _ .vmem, ⟨7, _⟩ => ⟨S2x16x256, .bf16⟩
  | .local _ .vmem, ⟨8, _⟩ => ⟨S48x4096, .bf16⟩
  | .local _ .vmem, ⟨9, _⟩ => ⟨S48x2048, .f32⟩
  | .local _ .smem, ⟨0, _⟩ => ⟨S2x48, .i32⟩
  | .local _ .smem, ⟨1, _⟩ => ⟨S9, .i32⟩
  | _, _ => ⟨S48x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_stg0_0 : Ref sig .tc := ⟨.smem, 0, rfl⟩
abbrev cc0_scratch6 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c48_i32 : BitVec 32 := 48#32
  let v0 : BitVec 32 := Scalar.addi c0_i32_0 c48_i32
  let c1_i32 : BitVec 32 := 1#32
  ⟨c0_i32_0, v0, c1_i32⟩
def k0_off1 (k0_t1 : Fin k0_t1_loop.trips) : Fin 2 → Nat :=
  let c0_115 : Index := 0#32
  let c0_i32_0 : BitVec 32 := 0#32
  let c1_i32 : BitVec 32 := 1#32
  let arg19 : BitVec 32 := Scf.iv c0_i32_0 c1_i32 k0_t1
  let v147 : Index := Scalar.indexCast arg19
  ![0, v147.toNat]
@[reducible] def k0_t2_loop : Scf.Loop 32 :=
  let c0_i32_2 : BitVec 32 := 0#32
  let c48_i32_3 : BitVec 32 := 48#32
  let v2 : BitVec 32 := Scalar.addi c0_i32_2 c48_i32_3
  let c1_i32_4 : BitVec 32 := 1#32
  ⟨c0_i32_2, v2, c1_i32_4⟩
def k0_off2 (k0_t2 : Fin k0_t2_loop.trips) : Fin 2 → Nat :=
  let c1 : Index := 1#32
  let c0_i32_2 : BitVec 32 := 0#32
  let c1_i32_4 : BitVec 32 := 1#32
  let arg19 : BitVec 32 := Scf.iv c0_i32_2 c1_i32_4 k0_t2
  let v147 : Index := Scalar.indexCast arg19
  ![1, v147.toNat]
def k0_off3 (v3 : BitVec 32) : Fin 1 → Nat :=
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let v8 : Index := Scalar.indexCast v7
  ![v8.toNat]

def k0_off4 (v3 : BitVec 32) : Fin 1 → Nat :=
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let v13 : Index := Scalar.indexCast v12
  ![v13.toNat]
def k0_off5 (v3 : BitVec 32) : Fin 1 → Nat :=
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let v18 : Index := Scalar.indexCast v17
  ![v18.toNat]
def k0_off6 (v3 : BitVec 32) : Fin 1 → Nat :=
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let v23 : Index := Scalar.indexCast v22
  ![v23.toNat]
def k0_off7 (v3 : BitVec 32) : Fin 1 → Nat :=
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let v28 : Index := Scalar.indexCast v27
  ![v28.toNat]
def k0_off8 (v3 : BitVec 32) : Fin 1 → Nat :=
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let v33 : Index := Scalar.indexCast v32
  ![v33.toNat]
def k0_off9 (v3 : BitVec 32) : Fin 1 → Nat :=
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let v38 : Index := Scalar.indexCast v37
  ![v38.toNat]
def k0_off10 : Fin 1 → Nat :=
  let c0_i32_25 : BitVec 32 := 0#32
  let c2_i32_26 : BitVec 32 := 2#32
  let v44 : BitVec 32 := Scalar.remsi c0_i32_25 c2_i32_26
  ![v44.toNat]
def k0_off11 : Fin 3 → Nat :=
  let c0_i32_25 : BitVec 32 := 0#32
  let c2_i32_26 : BitVec 32 := 2#32
  let v44 : BitVec 32 := Scalar.remsi c0_i32_25 c2_i32_26
  let c0_i32_28 : BitVec 32 := 0#32
  let c0_i32_29 : BitVec 32 := 0#32
  ![v44.toNat, 0, 0]
def k0_off12 (v45 : BitVec 32) : Fin 3 → Nat :=
  let c0_i32_30 : BitVec 32 := 0#32
  let c0_i32_31 : BitVec 32 := 0#32
  ![v45.toNat, 0, 0]

def k0_off13 : Fin 1 → Nat :=
  let c0_i32_25 : BitVec 32 := 0#32
  let c2_i32_26 : BitVec 32 := 2#32
  let v44 : BitVec 32 := Scalar.remsi c0_i32_25 c2_i32_26
  ![v44.toNat]
def k0_off14 : Fin 3 → Nat :=
  let c0_i32_25 : BitVec 32 := 0#32
  let c2_i32_26 : BitVec 32 := 2#32
  let v44 : BitVec 32 := Scalar.remsi c0_i32_25 c2_i32_26
  let c0_i32_32 : BitVec 32 := 0#32
  let c0_i32_33 : BitVec 32 := 0#32
  ![v44.toNat, 0, 0]
def k0_off15 (v45 : BitVec 32) : Fin 3 → Nat :=
  let c0_i32_34 : BitVec 32 := 0#32
  let c0_i32_35 : BitVec 32 := 0#32
  ![v45.toNat, 0, 0]

def k0_chk2 (v45 : BitVec 32) : Prop :=
  (∀ a, (k0_off12 v45) a + S1x16x8192.size a ≤ S8x16x8192.size a) ∧
  (∀ (hinb : ∀ a, (k0_off12 v45) a + S1x16x8192.size a ≤ S8x16x8192.size a), (Rect.unit (s := S8x16x8192) (k0_off12 v45) S1x16x8192.size hinb).WholeWords (EltTy.packing .bf16)) ∧
  (∀ a, (k0_off15 v45) a + S1x32x2048.size a ≤ S8x32x2048.size a) ∧
  (∀ (hinb : ∀ a, (k0_off15 v45) a + S1x32x2048.size a ≤ S8x32x2048.size a), (Rect.unit (s := S8x32x2048) (k0_off15 v45) S1x32x2048.size hinb).WholeWords (EltTy.packing .bf16))
theorem k0_off12_inb : ∀ (v45 : BitVec 32) (k0_hw2 : k0_chk2 v45), ∀ a, (k0_off12 v45) a + S1x16x8192.size a ≤ S8x16x8192.size a := fun v45 k0_hw2 => k0_hw2.1
theorem k0_off12_wordsbf16 : ∀ (v45 : BitVec 32) (k0_hw2 : k0_chk2 v45), (Rect.unit (s := S8x16x8192) (k0_off12 v45) S1x16x8192.size (k0_off12_inb v45 k0_hw2)).WholeWords (EltTy.packing .bf16) := fun v45 k0_hw2 => k0_hw2.2.1 (k0_off12_inb v45 k0_hw2)
theorem k0_off15_inb : ∀ (v45 : BitVec 32) (k0_hw2 : k0_chk2 v45), ∀ a, (k0_off15 v45) a + S1x32x2048.size a ≤ S8x32x2048.size a := fun v45 k0_hw2 => k0_hw2.2.2.1
theorem k0_off15_wordsbf16 : ∀ (v45 : BitVec 32) (k0_hw2 : k0_chk2 v45), (Rect.unit (s := S8x32x2048) (k0_off15 v45) S1x32x2048.size (k0_off15_inb v45 k0_hw2)).WholeWords (EltTy.packing .bf16) := fun v45 k0_hw2 => k0_hw2.2.2.2 (k0_off15_inb v45 k0_hw2)

def k0_off16 : Fin 1 → Nat :=
  let c0_i32_37 : BitVec 32 := 0#32
  let c24_i32_38 : BitVec 32 := 24#32
  let v59 : BitVec 32 := Scalar.divsi c0_i32_37 c24_i32_38
  let v61 : Index := Scalar.indexCast v59
  ![v61.toNat]
def k0_cond1 : BitVec 1 :=
  let c0_i32_39 : BitVec 32 := 0#32
  let c24_i32_40 : BitVec 32 := 24#32
  let v60 : BitVec 32 := Scalar.remsi c0_i32_39 c24_i32_40
  let c16_i32 : BitVec 32 := 16#32
  let v63 : BitVec 1 := Scalar.cmpi .slt v60 c16_i32
  let v64 : BitVec 32 := Scalar.extui v63
  let c0_i32_41 : BitVec 32 := 0#32
  let v65 : BitVec 1 := Scalar.cmpi .ne v64 c0_i32_41
  v65

def k0_mult1 : BitVec 32 :=
  let c0_i32_39 : BitVec 32 := 0#32
  let c24_i32_40 : BitVec 32 := 24#32
  let v60 : BitVec 32 := Scalar.remsi c0_i32_39 c24_i32_40
  let c256_i32 : BitVec 32 := 256#32
  let v147 : BitVec 32 := Scalar.muli v60 c256_i32
  v147
def k0_off17 : Fin 1 → Nat :=
  let c0_i32_36 : BitVec 32 := 0#32
  let c8_i32 : BitVec 32 := 8#32
  let v58 : BitVec 32 := Scalar.remsi c0_i32_36 c8_i32
  ![v58.toNat]
def k0_off18 : Fin 4 → Nat :=
  let c0_i32_36 : BitVec 32 := 0#32
  let c8_i32 : BitVec 32 := 8#32
  let v58 : BitVec 32 := Scalar.remsi c0_i32_36 c8_i32
  let c0_i32_115 : BitVec 32 := 0#32
  let c0_i32_116 : BitVec 32 := 0#32
  let c0_i32_117 : BitVec 32 := 0#32
  ![v58.toNat, 0, 0, 0]
def k0_off19 (v62 : BitVec 32) : Fin 4 → Nat :=
  let c0_i32_118 : BitVec 32 := 0#32
  let c0_i32_39 : BitVec 32 := 0#32
  let c24_i32_40 : BitVec 32 := 24#32
  let v60 : BitVec 32 := Scalar.remsi c0_i32_39 c24_i32_40
  let c256_i32 : BitVec 32 := 256#32
  let v147 : BitVec 32 := Scalar.muli v60 c256_i32
  let v148 : BitVec 32 := v147
  let c0_i32_119 : BitVec 32 := 0#32
  ![v62.toNat, 0, v148.toNat, 0]

def k0_cond2 : BitVec 1 :=
  let c0_i32_39 : BitVec 32 := 0#32
  let c24_i32_40 : BitVec 32 := 24#32
  let v60 : BitVec 32 := Scalar.remsi c0_i32_39 c24_i32_40
  let c16_i32_42 : BitVec 32 := 16#32
  let v66 : BitVec 1 := Scalar.cmpi .sge v60 c16_i32_42
  let v67 : BitVec 32 := Scalar.extui v66
  let c0_i32_43 : BitVec 32 := 0#32
  let v68 : BitVec 1 := Scalar.cmpi .ne v67 c0_i32_43
  v68

def k0_mult2 : BitVec 32 :=
  let c0_i32_39 : BitVec 32 := 0#32
  let c24_i32_40 : BitVec 32 := 24#32
  let v60 : BitVec 32 := Scalar.remsi c0_i32_39 c24_i32_40
  let c16_i32_115 : BitVec 32 := 16#32
  let v147 : BitVec 32 := Scalar.subi v60 c16_i32_115
  let c256_i32 : BitVec 32 := 256#32
  let v148 : BitVec 32 := Scalar.muli v147 c256_i32
  v148
def k0_off20 : Fin 1 → Nat :=
  let c0_i32_36 : BitVec 32 := 0#32
  let c8_i32 : BitVec 32 := 8#32
  let v58 : BitVec 32 := Scalar.remsi c0_i32_36 c8_i32
  ![v58.toNat]
def k0_off21 : Fin 4 → Nat :=
  let c0_i32_36 : BitVec 32 := 0#32
  let c8_i32 : BitVec 32 := 8#32
  let v58 : BitVec 32 := Scalar.remsi c0_i32_36 c8_i32
  let c0_i32_116 : BitVec 32 := 0#32
  let c0_i32_117 : BitVec 32 := 0#32
  let c0_i32_118 : BitVec 32 := 0#32
  ![v58.toNat, 0, 0, 0]
def k0_off22 (v62 : BitVec 32) : Fin 3 → Nat :=
  let c0_i32_39 : BitVec 32 := 0#32
  let c24_i32_40 : BitVec 32 := 24#32
  let v60 : BitVec 32 := Scalar.remsi c0_i32_39 c24_i32_40
  let c16_i32_115 : BitVec 32 := 16#32
  let v147 : BitVec 32 := Scalar.subi v60 c16_i32_115
  let c256_i32 : BitVec 32 := 256#32
  let v148 : BitVec 32 := Scalar.muli v147 c256_i32
  let v149 : BitVec 32 := v148
  let c0_i32_119 : BitVec 32 := 0#32
  ![v62.toNat, v149.toNat, 0]
def k0_off23 : Fin 4 → Nat :=
  let c0_i32_36 : BitVec 32 := 0#32
  let c8_i32 : BitVec 32 := 8#32
  let v58 : BitVec 32 := Scalar.remsi c0_i32_36 c8_i32
  let c1_i32_120 : BitVec 32 := 1#32
  let c0_i32_121 : BitVec 32 := 0#32
  let c0_i32_122 : BitVec 32 := 0#32
  ![v58.toNat, 1, 0, 0]
def k0_off24 (v62 : BitVec 32) : Fin 3 → Nat :=
  let c0_i32_39 : BitVec 32 := 0#32
  let c24_i32_40 : BitVec 32 := 24#32
  let v60 : BitVec 32 := Scalar.remsi c0_i32_39 c24_i32_40
  let c16_i32_115 : BitVec 32 := 16#32
  let v147 : BitVec 32 := Scalar.subi v60 c16_i32_115
  let c256_i32 : BitVec 32 := 256#32
  let v148 : BitVec 32 := Scalar.muli v147 c256_i32
  let v149 : BitVec 32 := v148
  let c1024_i32 : BitVec 32 := 1024#32
  ![v62.toNat, v149.toNat, 1024]

def k0_chk3 (v62 : BitVec 32) : Prop :=
  (∀ (k0_h1 : k0_cond1 = 1#1), ∀ a, (k0_off19 v62) a + S1x2x256x1024.size a ≤ S8x2x4096x1024.size a) ∧
  (∀ (k0_h1 : k0_cond1 = 1#1), ∀ (hinb : ∀ a, (k0_off19 v62) a + S1x2x256x1024.size a ≤ S8x2x4096x1024.size a), (Rect.unit (s := S8x2x4096x1024) (k0_off19 v62) S1x2x256x1024.size hinb).WholeWords (EltTy.packing .i8)) ∧
  (∀ (k0_h2 : k0_cond2 = 1#1), ∀ a, (k0_off22 v62) a + S1x256x1024.size a ≤ S8x2048x2048.size a) ∧
  (∀ (k0_h2 : k0_cond2 = 1#1), ∀ (hinb : ∀ a, (k0_off22 v62) a + S1x256x1024.size a ≤ S8x2048x2048.size a), (Rect.unit (s := S8x2048x2048) (k0_off22 v62) S1x256x1024.size hinb).WholeWords (EltTy.packing .i8)) ∧
  (∀ (k0_h2 : k0_cond2 = 1#1), ∀ a, (k0_off24 v62) a + S1x256x1024.size a ≤ S8x2048x2048.size a) ∧
  (∀ (k0_h2 : k0_cond2 = 1#1), ∀ (hinb : ∀ a, (k0_off24 v62) a + S1x256x1024.size a ≤ S8x2048x2048.size a), (Rect.unit (s := S8x2048x2048) (k0_off24 v62) S1x256x1024.size hinb).WholeWords (EltTy.packing .i8))
theorem k0_off19_inb : ∀ (v62 : BitVec 32) (k0_hw3 : k0_chk3 v62), ∀ (k0_h1 : k0_cond1 = 1#1), ∀ a, (k0_off19 v62) a + S1x2x256x1024.size a ≤ S8x2x4096x1024.size a := fun v62 k0_hw3 k0_h1 => k0_hw3.1 k0_h1
theorem k0_off19_wordsi8 : ∀ (v62 : BitVec 32) (k0_hw3 : k0_chk3 v62), ∀ (k0_h1 : k0_cond1 = 1#1), (Rect.unit (s := S8x2x4096x1024) (k0_off19 v62) S1x2x256x1024.size (k0_off19_inb v62 k0_hw3 k0_h1)).WholeWords (EltTy.packing .i8) := fun v62 k0_hw3 k0_h1 => k0_hw3.2.1 k0_h1 (k0_off19_inb v62 k0_hw3 k0_h1)
theorem k0_off22_inb : ∀ (v62 : BitVec 32) (k0_hw3 : k0_chk3 v62), ∀ (k0_h2 : k0_cond2 = 1#1), ∀ a, (k0_off22 v62) a + S1x256x1024.size a ≤ S8x2048x2048.size a := fun v62 k0_hw3 k0_h2 => k0_hw3.2.2.1 k0_h2
theorem k0_off22_wordsi8 : ∀ (v62 : BitVec 32) (k0_hw3 : k0_chk3 v62), ∀ (k0_h2 : k0_cond2 = 1#1), (Rect.unit (s := S8x2048x2048) (k0_off22 v62) S1x256x1024.size (k0_off22_inb v62 k0_hw3 k0_h2)).WholeWords (EltTy.packing .i8) := fun v62 k0_hw3 k0_h2 => k0_hw3.2.2.2.1 k0_h2 (k0_off22_inb v62 k0_hw3 k0_h2)
theorem k0_off24_inb : ∀ (v62 : BitVec 32) (k0_hw3 : k0_chk3 v62), ∀ (k0_h2 : k0_cond2 = 1#1), ∀ a, (k0_off24 v62) a + S1x256x1024.size a ≤ S8x2048x2048.size a := fun v62 k0_hw3 k0_h2 => k0_hw3.2.2.2.2.1 k0_h2
theorem k0_off24_wordsi8 : ∀ (v62 : BitVec 32) (k0_hw3 : k0_chk3 v62), ∀ (k0_h2 : k0_cond2 = 1#1), (Rect.unit (s := S8x2048x2048) (k0_off24 v62) S1x256x1024.size (k0_off24_inb v62 k0_hw3 k0_h2)).WholeWords (EltTy.packing .i8) := fun v62 k0_hw3 k0_h2 => k0_hw3.2.2.2.2.2 k0_h2 (k0_off24_inb v62 k0_hw3 k0_h2)

def k0_off25 : Fin 1 → Nat :=
  let c1_i32_46 : BitVec 32 := 1#32
  let c24_i32_47 : BitVec 32 := 24#32
  let v70 : BitVec 32 := Scalar.divsi c1_i32_46 c24_i32_47
  let v72 : Index := Scalar.indexCast v70
  ![v72.toNat]
def k0_cond3 : BitVec 1 :=
  let c1_i32_48 : BitVec 32 := 1#32
  let c24_i32_49 : BitVec 32 := 24#32
  let v71 : BitVec 32 := Scalar.remsi c1_i32_48 c24_i32_49
  let c16_i32_50 : BitVec 32 := 16#32
  let v74 : BitVec 1 := Scalar.cmpi .slt v71 c16_i32_50
  let v75 : BitVec 32 := Scalar.extui v74
  let c0_i32_51 : BitVec 32 := 0#32
  let v76 : BitVec 1 := Scalar.cmpi .ne v75 c0_i32_51
  v76

def k0_mult3 : BitVec 32 :=
  let c1_i32_48 : BitVec 32 := 1#32
  let c24_i32_49 : BitVec 32 := 24#32
  let v71 : BitVec 32 := Scalar.remsi c1_i32_48 c24_i32_49
  let c256_i32 : BitVec 32 := 256#32
  let v147 : BitVec 32 := Scalar.muli v71 c256_i32
  v147
def k0_off26 : Fin 1 → Nat :=
  let c1_i32_44 : BitVec 32 := 1#32
  let c8_i32_45 : BitVec 32 := 8#32
  let v69 : BitVec 32 := Scalar.remsi c1_i32_44 c8_i32_45
  ![v69.toNat]
def k0_off27 : Fin 4 → Nat :=
  let c1_i32_44 : BitVec 32 := 1#32
  let c8_i32_45 : BitVec 32 := 8#32
  let v69 : BitVec 32 := Scalar.remsi c1_i32_44 c8_i32_45
  let c0_i32_115 : BitVec 32 := 0#32
  let c0_i32_116 : BitVec 32 := 0#32
  let c0_i32_117 : BitVec 32 := 0#32
  ![v69.toNat, 0, 0, 0]
def k0_off28 (v73 : BitVec 32) : Fin 4 → Nat :=
  let c0_i32_118 : BitVec 32 := 0#32
  let c1_i32_48 : BitVec 32 := 1#32
  let c24_i32_49 : BitVec 32 := 24#32
  let v71 : BitVec 32 := Scalar.remsi c1_i32_48 c24_i32_49
  let c256_i32 : BitVec 32 := 256#32
  let v147 : BitVec 32 := Scalar.muli v71 c256_i32
  let v148 : BitVec 32 := v147
  let c0_i32_119 : BitVec 32 := 0#32
  ![v73.toNat, 0, v148.toNat, 0]

def k0_cond4 : BitVec 1 :=
  let c1_i32_48 : BitVec 32 := 1#32
  let c24_i32_49 : BitVec 32 := 24#32
  let v71 : BitVec 32 := Scalar.remsi c1_i32_48 c24_i32_49
  let c16_i32_52 : BitVec 32 := 16#32
  let v77 : BitVec 1 := Scalar.cmpi .sge v71 c16_i32_52
  let v78 : BitVec 32 := Scalar.extui v77
  let c0_i32_53 : BitVec 32 := 0#32
  let v79 : BitVec 1 := Scalar.cmpi .ne v78 c0_i32_53
  v79

def k0_mult4 : BitVec 32 :=
  let c1_i32_48 : BitVec 32 := 1#32
  let c24_i32_49 : BitVec 32 := 24#32
  let v71 : BitVec 32 := Scalar.remsi c1_i32_48 c24_i32_49
  let c16_i32_115 : BitVec 32 := 16#32
  let v147 : BitVec 32 := Scalar.subi v71 c16_i32_115
  let c256_i32 : BitVec 32 := 256#32
  let v148 : BitVec 32 := Scalar.muli v147 c256_i32
  v148
def k0_off29 : Fin 1 → Nat :=
  let c1_i32_44 : BitVec 32 := 1#32
  let c8_i32_45 : BitVec 32 := 8#32
  let v69 : BitVec 32 := Scalar.remsi c1_i32_44 c8_i32_45
  ![v69.toNat]
def k0_off30 : Fin 4 → Nat :=
  let c1_i32_44 : BitVec 32 := 1#32
  let c8_i32_45 : BitVec 32 := 8#32
  let v69 : BitVec 32 := Scalar.remsi c1_i32_44 c8_i32_45
  let c0_i32_116 : BitVec 32 := 0#32
  let c0_i32_117 : BitVec 32 := 0#32
  let c0_i32_118 : BitVec 32 := 0#32
  ![v69.toNat, 0, 0, 0]
def k0_off31 (v73 : BitVec 32) : Fin 3 → Nat :=
  let c1_i32_48 : BitVec 32 := 1#32
  let c24_i32_49 : BitVec 32 := 24#32
  let v71 : BitVec 32 := Scalar.remsi c1_i32_48 c24_i32_49
  let c16_i32_115 : BitVec 32 := 16#32
  let v147 : BitVec 32 := Scalar.subi v71 c16_i32_115
  let c256_i32 : BitVec 32 := 256#32
  let v148 : BitVec 32 := Scalar.muli v147 c256_i32
  let v149 : BitVec 32 := v148
  let c0_i32_119 : BitVec 32 := 0#32
  ![v73.toNat, v149.toNat, 0]
def k0_off32 : Fin 4 → Nat :=
  let c1_i32_44 : BitVec 32 := 1#32
  let c8_i32_45 : BitVec 32 := 8#32
  let v69 : BitVec 32 := Scalar.remsi c1_i32_44 c8_i32_45
  let c1_i32_120 : BitVec 32 := 1#32
  let c0_i32_121 : BitVec 32 := 0#32
  let c0_i32_122 : BitVec 32 := 0#32
  ![v69.toNat, 1, 0, 0]
def k0_off33 (v73 : BitVec 32) : Fin 3 → Nat :=
  let c1_i32_48 : BitVec 32 := 1#32
  let c24_i32_49 : BitVec 32 := 24#32
  let v71 : BitVec 32 := Scalar.remsi c1_i32_48 c24_i32_49
  let c16_i32_115 : BitVec 32 := 16#32
  let v147 : BitVec 32 := Scalar.subi v71 c16_i32_115
  let c256_i32 : BitVec 32 := 256#32
  let v148 : BitVec 32 := Scalar.muli v147 c256_i32
  let v149 : BitVec 32 := v148
  let c1024_i32 : BitVec 32 := 1024#32
  ![v73.toNat, v149.toNat, 1024]

def k0_chk4 (v73 : BitVec 32) : Prop :=
  (∀ (k0_h3 : k0_cond3 = 1#1), ∀ a, (k0_off28 v73) a + S1x2x256x1024.size a ≤ S8x2x4096x1024.size a) ∧
  (∀ (k0_h3 : k0_cond3 = 1#1), ∀ (hinb : ∀ a, (k0_off28 v73) a + S1x2x256x1024.size a ≤ S8x2x4096x1024.size a), (Rect.unit (s := S8x2x4096x1024) (k0_off28 v73) S1x2x256x1024.size hinb).WholeWords (EltTy.packing .i8)) ∧
  (∀ (k0_h4 : k0_cond4 = 1#1), ∀ a, (k0_off31 v73) a + S1x256x1024.size a ≤ S8x2048x2048.size a) ∧
  (∀ (k0_h4 : k0_cond4 = 1#1), ∀ (hinb : ∀ a, (k0_off31 v73) a + S1x256x1024.size a ≤ S8x2048x2048.size a), (Rect.unit (s := S8x2048x2048) (k0_off31 v73) S1x256x1024.size hinb).WholeWords (EltTy.packing .i8)) ∧
  (∀ (k0_h4 : k0_cond4 = 1#1), ∀ a, (k0_off33 v73) a + S1x256x1024.size a ≤ S8x2048x2048.size a) ∧
  (∀ (k0_h4 : k0_cond4 = 1#1), ∀ (hinb : ∀ a, (k0_off33 v73) a + S1x256x1024.size a ≤ S8x2048x2048.size a), (Rect.unit (s := S8x2048x2048) (k0_off33 v73) S1x256x1024.size hinb).WholeWords (EltTy.packing .i8))
theorem k0_off28_inb : ∀ (v73 : BitVec 32) (k0_hw4 : k0_chk4 v73), ∀ (k0_h3 : k0_cond3 = 1#1), ∀ a, (k0_off28 v73) a + S1x2x256x1024.size a ≤ S8x2x4096x1024.size a := fun v73 k0_hw4 k0_h3 => k0_hw4.1 k0_h3
theorem k0_off28_wordsi8 : ∀ (v73 : BitVec 32) (k0_hw4 : k0_chk4 v73), ∀ (k0_h3 : k0_cond3 = 1#1), (Rect.unit (s := S8x2x4096x1024) (k0_off28 v73) S1x2x256x1024.size (k0_off28_inb v73 k0_hw4 k0_h3)).WholeWords (EltTy.packing .i8) := fun v73 k0_hw4 k0_h3 => k0_hw4.2.1 k0_h3 (k0_off28_inb v73 k0_hw4 k0_h3)
theorem k0_off31_inb : ∀ (v73 : BitVec 32) (k0_hw4 : k0_chk4 v73), ∀ (k0_h4 : k0_cond4 = 1#1), ∀ a, (k0_off31 v73) a + S1x256x1024.size a ≤ S8x2048x2048.size a := fun v73 k0_hw4 k0_h4 => k0_hw4.2.2.1 k0_h4
theorem k0_off31_wordsi8 : ∀ (v73 : BitVec 32) (k0_hw4 : k0_chk4 v73), ∀ (k0_h4 : k0_cond4 = 1#1), (Rect.unit (s := S8x2048x2048) (k0_off31 v73) S1x256x1024.size (k0_off31_inb v73 k0_hw4 k0_h4)).WholeWords (EltTy.packing .i8) := fun v73 k0_hw4 k0_h4 => k0_hw4.2.2.2.1 k0_h4 (k0_off31_inb v73 k0_hw4 k0_h4)
theorem k0_off33_inb : ∀ (v73 : BitVec 32) (k0_hw4 : k0_chk4 v73), ∀ (k0_h4 : k0_cond4 = 1#1), ∀ a, (k0_off33 v73) a + S1x256x1024.size a ≤ S8x2048x2048.size a := fun v73 k0_hw4 k0_h4 => k0_hw4.2.2.2.2.1 k0_h4
theorem k0_off33_wordsi8 : ∀ (v73 : BitVec 32) (k0_hw4 : k0_chk4 v73), ∀ (k0_h4 : k0_cond4 = 1#1), (Rect.unit (s := S8x2048x2048) (k0_off33 v73) S1x256x1024.size (k0_off33_inb v73 k0_hw4 k0_h4)).WholeWords (EltTy.packing .i8) := fun v73 k0_hw4 k0_h4 => k0_hw4.2.2.2.2.2 k0_h4 (k0_off33_inb v73 k0_hw4 k0_h4)

def k0_off34 : Fin 1 → Nat :=
  let c2_i32_56 : BitVec 32 := 2#32
  let c24_i32_57 : BitVec 32 := 24#32
  let v81 : BitVec 32 := Scalar.divsi c2_i32_56 c24_i32_57
  let v83 : Index := Scalar.indexCast v81
  ![v83.toNat]
def k0_cond5 : BitVec 1 :=
  let c2_i32_58 : BitVec 32 := 2#32
  let c24_i32_59 : BitVec 32 := 24#32
  let v82 : BitVec 32 := Scalar.remsi c2_i32_58 c24_i32_59
  let c16_i32_60 : BitVec 32 := 16#32
  let v85 : BitVec 1 := Scalar.cmpi .slt v82 c16_i32_60
  let v86 : BitVec 32 := Scalar.extui v85
  let c0_i32_61 : BitVec 32 := 0#32
  let v87 : BitVec 1 := Scalar.cmpi .ne v86 c0_i32_61
  v87

def k0_mult5 : BitVec 32 :=
  let c2_i32_58 : BitVec 32 := 2#32
  let c24_i32_59 : BitVec 32 := 24#32
  let v82 : BitVec 32 := Scalar.remsi c2_i32_58 c24_i32_59
  let c256_i32 : BitVec 32 := 256#32
  let v147 : BitVec 32 := Scalar.muli v82 c256_i32
  v147
def k0_off35 : Fin 1 → Nat :=
  let c2_i32_54 : BitVec 32 := 2#32
  let c8_i32_55 : BitVec 32 := 8#32
  let v80 : BitVec 32 := Scalar.remsi c2_i32_54 c8_i32_55
  ![v80.toNat]
def k0_off36 : Fin 4 → Nat :=
  let c2_i32_54 : BitVec 32 := 2#32
  let c8_i32_55 : BitVec 32 := 8#32
  let v80 : BitVec 32 := Scalar.remsi c2_i32_54 c8_i32_55
  let c0_i32_115 : BitVec 32 := 0#32
  let c0_i32_116 : BitVec 32 := 0#32
  let c0_i32_117 : BitVec 32 := 0#32
  ![v80.toNat, 0, 0, 0]
def k0_off37 (v84 : BitVec 32) : Fin 4 → Nat :=
  let c0_i32_118 : BitVec 32 := 0#32
  let c2_i32_58 : BitVec 32 := 2#32
  let c24_i32_59 : BitVec 32 := 24#32
  let v82 : BitVec 32 := Scalar.remsi c2_i32_58 c24_i32_59
  let c256_i32 : BitVec 32 := 256#32
  let v147 : BitVec 32 := Scalar.muli v82 c256_i32
  let v148 : BitVec 32 := v147
  let c0_i32_119 : BitVec 32 := 0#32
  ![v84.toNat, 0, v148.toNat, 0]

def k0_cond6 : BitVec 1 :=
  let c2_i32_58 : BitVec 32 := 2#32
  let c24_i32_59 : BitVec 32 := 24#32
  let v82 : BitVec 32 := Scalar.remsi c2_i32_58 c24_i32_59
  let c16_i32_62 : BitVec 32 := 16#32
  let v88 : BitVec 1 := Scalar.cmpi .sge v82 c16_i32_62
  let v89 : BitVec 32 := Scalar.extui v88
  let c0_i32_63 : BitVec 32 := 0#32
  let v90 : BitVec 1 := Scalar.cmpi .ne v89 c0_i32_63
  v90

def k0_mult6 : BitVec 32 :=
  let c2_i32_58 : BitVec 32 := 2#32
  let c24_i32_59 : BitVec 32 := 24#32
  let v82 : BitVec 32 := Scalar.remsi c2_i32_58 c24_i32_59
  let c16_i32_115 : BitVec 32 := 16#32
  let v147 : BitVec 32 := Scalar.subi v82 c16_i32_115
  let c256_i32 : BitVec 32 := 256#32
  let v148 : BitVec 32 := Scalar.muli v147 c256_i32
  v148
def k0_off38 : Fin 1 → Nat :=
  let c2_i32_54 : BitVec 32 := 2#32
  let c8_i32_55 : BitVec 32 := 8#32
  let v80 : BitVec 32 := Scalar.remsi c2_i32_54 c8_i32_55
  ![v80.toNat]
def k0_off39 : Fin 4 → Nat :=
  let c2_i32_54 : BitVec 32 := 2#32
  let c8_i32_55 : BitVec 32 := 8#32
  let v80 : BitVec 32 := Scalar.remsi c2_i32_54 c8_i32_55
  let c0_i32_116 : BitVec 32 := 0#32
  let c0_i32_117 : BitVec 32 := 0#32
  let c0_i32_118 : BitVec 32 := 0#32
  ![v80.toNat, 0, 0, 0]
def k0_off40 (v84 : BitVec 32) : Fin 3 → Nat :=
  let c2_i32_58 : BitVec 32 := 2#32
  let c24_i32_59 : BitVec 32 := 24#32
  let v82 : BitVec 32 := Scalar.remsi c2_i32_58 c24_i32_59
  let c16_i32_115 : BitVec 32 := 16#32
  let v147 : BitVec 32 := Scalar.subi v82 c16_i32_115
  let c256_i32 : BitVec 32 := 256#32
  let v148 : BitVec 32 := Scalar.muli v147 c256_i32
  let v149 : BitVec 32 := v148
  let c0_i32_119 : BitVec 32 := 0#32
  ![v84.toNat, v149.toNat, 0]
def k0_off41 : Fin 4 → Nat :=
  let c2_i32_54 : BitVec 32 := 2#32
  let c8_i32_55 : BitVec 32 := 8#32
  let v80 : BitVec 32 := Scalar.remsi c2_i32_54 c8_i32_55
  let c1_i32_120 : BitVec 32 := 1#32
  let c0_i32_121 : BitVec 32 := 0#32
  let c0_i32_122 : BitVec 32 := 0#32
  ![v80.toNat, 1, 0, 0]
def k0_off42 (v84 : BitVec 32) : Fin 3 → Nat :=
  let c2_i32_58 : BitVec 32 := 2#32
  let c24_i32_59 : BitVec 32 := 24#32
  let v82 : BitVec 32 := Scalar.remsi c2_i32_58 c24_i32_59
  let c16_i32_115 : BitVec 32 := 16#32
  let v147 : BitVec 32 := Scalar.subi v82 c16_i32_115
  let c256_i32 : BitVec 32 := 256#32
  let v148 : BitVec 32 := Scalar.muli v147 c256_i32
  let v149 : BitVec 32 := v148
  let c1024_i32 : BitVec 32 := 1024#32
  ![v84.toNat, v149.toNat, 1024]

def k0_chk5 (v84 : BitVec 32) : Prop :=
  (∀ (k0_h5 : k0_cond5 = 1#1), ∀ a, (k0_off37 v84) a + S1x2x256x1024.size a ≤ S8x2x4096x1024.size a) ∧
  (∀ (k0_h5 : k0_cond5 = 1#1), ∀ (hinb : ∀ a, (k0_off37 v84) a + S1x2x256x1024.size a ≤ S8x2x4096x1024.size a), (Rect.unit (s := S8x2x4096x1024) (k0_off37 v84) S1x2x256x1024.size hinb).WholeWords (EltTy.packing .i8)) ∧
  (∀ (k0_h6 : k0_cond6 = 1#1), ∀ a, (k0_off40 v84) a + S1x256x1024.size a ≤ S8x2048x2048.size a) ∧
  (∀ (k0_h6 : k0_cond6 = 1#1), ∀ (hinb : ∀ a, (k0_off40 v84) a + S1x256x1024.size a ≤ S8x2048x2048.size a), (Rect.unit (s := S8x2048x2048) (k0_off40 v84) S1x256x1024.size hinb).WholeWords (EltTy.packing .i8)) ∧
  (∀ (k0_h6 : k0_cond6 = 1#1), ∀ a, (k0_off42 v84) a + S1x256x1024.size a ≤ S8x2048x2048.size a) ∧
  (∀ (k0_h6 : k0_cond6 = 1#1), ∀ (hinb : ∀ a, (k0_off42 v84) a + S1x256x1024.size a ≤ S8x2048x2048.size a), (Rect.unit (s := S8x2048x2048) (k0_off42 v84) S1x256x1024.size hinb).WholeWords (EltTy.packing .i8))
theorem k0_off37_inb : ∀ (v84 : BitVec 32) (k0_hw5 : k0_chk5 v84), ∀ (k0_h5 : k0_cond5 = 1#1), ∀ a, (k0_off37 v84) a + S1x2x256x1024.size a ≤ S8x2x4096x1024.size a := fun v84 k0_hw5 k0_h5 => k0_hw5.1 k0_h5
theorem k0_off37_wordsi8 : ∀ (v84 : BitVec 32) (k0_hw5 : k0_chk5 v84), ∀ (k0_h5 : k0_cond5 = 1#1), (Rect.unit (s := S8x2x4096x1024) (k0_off37 v84) S1x2x256x1024.size (k0_off37_inb v84 k0_hw5 k0_h5)).WholeWords (EltTy.packing .i8) := fun v84 k0_hw5 k0_h5 => k0_hw5.2.1 k0_h5 (k0_off37_inb v84 k0_hw5 k0_h5)
theorem k0_off40_inb : ∀ (v84 : BitVec 32) (k0_hw5 : k0_chk5 v84), ∀ (k0_h6 : k0_cond6 = 1#1), ∀ a, (k0_off40 v84) a + S1x256x1024.size a ≤ S8x2048x2048.size a := fun v84 k0_hw5 k0_h6 => k0_hw5.2.2.1 k0_h6
theorem k0_off40_wordsi8 : ∀ (v84 : BitVec 32) (k0_hw5 : k0_chk5 v84), ∀ (k0_h6 : k0_cond6 = 1#1), (Rect.unit (s := S8x2048x2048) (k0_off40 v84) S1x256x1024.size (k0_off40_inb v84 k0_hw5 k0_h6)).WholeWords (EltTy.packing .i8) := fun v84 k0_hw5 k0_h6 => k0_hw5.2.2.2.1 k0_h6 (k0_off40_inb v84 k0_hw5 k0_h6)
theorem k0_off42_inb : ∀ (v84 : BitVec 32) (k0_hw5 : k0_chk5 v84), ∀ (k0_h6 : k0_cond6 = 1#1), ∀ a, (k0_off42 v84) a + S1x256x1024.size a ≤ S8x2048x2048.size a := fun v84 k0_hw5 k0_h6 => k0_hw5.2.2.2.2.1 k0_h6
theorem k0_off42_wordsi8 : ∀ (v84 : BitVec 32) (k0_hw5 : k0_chk5 v84), ∀ (k0_h6 : k0_cond6 = 1#1), (Rect.unit (s := S8x2048x2048) (k0_off42 v84) S1x256x1024.size (k0_off42_inb v84 k0_hw5 k0_h6)).WholeWords (EltTy.packing .i8) := fun v84 k0_hw5 k0_h6 => k0_hw5.2.2.2.2.2 k0_h6 (k0_off42_inb v84 k0_hw5 k0_h6)

def k0_off43 : Fin 1 → Nat :=
  let c3_i32_66 : BitVec 32 := 3#32
  let c24_i32_67 : BitVec 32 := 24#32
  let v92 : BitVec 32 := Scalar.divsi c3_i32_66 c24_i32_67
  let v94 : Index := Scalar.indexCast v92
  ![v94.toNat]
def k0_cond7 : BitVec 1 :=
  let c3_i32_68 : BitVec 32 := 3#32
  let c24_i32_69 : BitVec 32 := 24#32
  let v93 : BitVec 32 := Scalar.remsi c3_i32_68 c24_i32_69
  let c16_i32_70 : BitVec 32 := 16#32
  let v96 : BitVec 1 := Scalar.cmpi .slt v93 c16_i32_70
  let v97 : BitVec 32 := Scalar.extui v96
  let c0_i32_71 : BitVec 32 := 0#32
  let v98 : BitVec 1 := Scalar.cmpi .ne v97 c0_i32_71
  v98

def k0_mult7 : BitVec 32 :=
  let c3_i32_68 : BitVec 32 := 3#32
  let c24_i32_69 : BitVec 32 := 24#32
  let v93 : BitVec 32 := Scalar.remsi c3_i32_68 c24_i32_69
  let c256_i32 : BitVec 32 := 256#32
  let v147 : BitVec 32 := Scalar.muli v93 c256_i32
  v147
def k0_off44 : Fin 1 → Nat :=
  let c3_i32_64 : BitVec 32 := 3#32
  let c8_i32_65 : BitVec 32 := 8#32
  let v91 : BitVec 32 := Scalar.remsi c3_i32_64 c8_i32_65
  ![v91.toNat]
def k0_off45 : Fin 4 → Nat :=
  let c3_i32_64 : BitVec 32 := 3#32
  let c8_i32_65 : BitVec 32 := 8#32
  let v91 : BitVec 32 := Scalar.remsi c3_i32_64 c8_i32_65
  let c0_i32_115 : BitVec 32 := 0#32
  let c0_i32_116 : BitVec 32 := 0#32
  let c0_i32_117 : BitVec 32 := 0#32
  ![v91.toNat, 0, 0, 0]
def k0_off46 (v95 : BitVec 32) : Fin 4 → Nat :=
  let c0_i32_118 : BitVec 32 := 0#32
  let c3_i32_68 : BitVec 32 := 3#32
  let c24_i32_69 : BitVec 32 := 24#32
  let v93 : BitVec 32 := Scalar.remsi c3_i32_68 c24_i32_69
  let c256_i32 : BitVec 32 := 256#32
  let v147 : BitVec 32 := Scalar.muli v93 c256_i32
  let v148 : BitVec 32 := v147
  let c0_i32_119 : BitVec 32 := 0#32
  ![v95.toNat, 0, v148.toNat, 0]

def k0_cond8 : BitVec 1 :=
  let c3_i32_68 : BitVec 32 := 3#32
  let c24_i32_69 : BitVec 32 := 24#32
  let v93 : BitVec 32 := Scalar.remsi c3_i32_68 c24_i32_69
  let c16_i32_72 : BitVec 32 := 16#32
  let v99 : BitVec 1 := Scalar.cmpi .sge v93 c16_i32_72
  let v100 : BitVec 32 := Scalar.extui v99
  let c0_i32_73 : BitVec 32 := 0#32
  let v101 : BitVec 1 := Scalar.cmpi .ne v100 c0_i32_73
  v101

def k0_mult8 : BitVec 32 :=
  let c3_i32_68 : BitVec 32 := 3#32
  let c24_i32_69 : BitVec 32 := 24#32
  let v93 : BitVec 32 := Scalar.remsi c3_i32_68 c24_i32_69
  let c16_i32_115 : BitVec 32 := 16#32
  let v147 : BitVec 32 := Scalar.subi v93 c16_i32_115
  let c256_i32 : BitVec 32 := 256#32
  let v148 : BitVec 32 := Scalar.muli v147 c256_i32
  v148
def k0_off47 : Fin 1 → Nat :=
  let c3_i32_64 : BitVec 32 := 3#32
  let c8_i32_65 : BitVec 32 := 8#32
  let v91 : BitVec 32 := Scalar.remsi c3_i32_64 c8_i32_65
  ![v91.toNat]
def k0_off48 : Fin 4 → Nat :=
  let c3_i32_64 : BitVec 32 := 3#32
  let c8_i32_65 : BitVec 32 := 8#32
  let v91 : BitVec 32 := Scalar.remsi c3_i32_64 c8_i32_65
  let c0_i32_116 : BitVec 32 := 0#32
  let c0_i32_117 : BitVec 32 := 0#32
  let c0_i32_118 : BitVec 32 := 0#32
  ![v91.toNat, 0, 0, 0]
def k0_off49 (v95 : BitVec 32) : Fin 3 → Nat :=
  let c3_i32_68 : BitVec 32 := 3#32
  let c24_i32_69 : BitVec 32 := 24#32
  let v93 : BitVec 32 := Scalar.remsi c3_i32_68 c24_i32_69
  let c16_i32_115 : BitVec 32 := 16#32
  let v147 : BitVec 32 := Scalar.subi v93 c16_i32_115
  let c256_i32 : BitVec 32 := 256#32
  let v148 : BitVec 32 := Scalar.muli v147 c256_i32
  let v149 : BitVec 32 := v148
  let c0_i32_119 : BitVec 32 := 0#32
  ![v95.toNat, v149.toNat, 0]
def k0_off50 : Fin 4 → Nat :=
  let c3_i32_64 : BitVec 32 := 3#32
  let c8_i32_65 : BitVec 32 := 8#32
  let v91 : BitVec 32 := Scalar.remsi c3_i32_64 c8_i32_65
  let c1_i32_120 : BitVec 32 := 1#32
  let c0_i32_121 : BitVec 32 := 0#32
  let c0_i32_122 : BitVec 32 := 0#32
  ![v91.toNat, 1, 0, 0]
def k0_off51 (v95 : BitVec 32) : Fin 3 → Nat :=
  let c3_i32_68 : BitVec 32 := 3#32
  let c24_i32_69 : BitVec 32 := 24#32
  let v93 : BitVec 32 := Scalar.remsi c3_i32_68 c24_i32_69
  let c16_i32_115 : BitVec 32 := 16#32
  let v147 : BitVec 32 := Scalar.subi v93 c16_i32_115
  let c256_i32 : BitVec 32 := 256#32
  let v148 : BitVec 32 := Scalar.muli v147 c256_i32
  let v149 : BitVec 32 := v148
  let c1024_i32 : BitVec 32 := 1024#32
  ![v95.toNat, v149.toNat, 1024]

def k0_chk6 (v95 : BitVec 32) : Prop :=
  (∀ (k0_h7 : k0_cond7 = 1#1), ∀ a, (k0_off46 v95) a + S1x2x256x1024.size a ≤ S8x2x4096x1024.size a) ∧
  (∀ (k0_h7 : k0_cond7 = 1#1), ∀ (hinb : ∀ a, (k0_off46 v95) a + S1x2x256x1024.size a ≤ S8x2x4096x1024.size a), (Rect.unit (s := S8x2x4096x1024) (k0_off46 v95) S1x2x256x1024.size hinb).WholeWords (EltTy.packing .i8)) ∧
  (∀ (k0_h8 : k0_cond8 = 1#1), ∀ a, (k0_off49 v95) a + S1x256x1024.size a ≤ S8x2048x2048.size a) ∧
  (∀ (k0_h8 : k0_cond8 = 1#1), ∀ (hinb : ∀ a, (k0_off49 v95) a + S1x256x1024.size a ≤ S8x2048x2048.size a), (Rect.unit (s := S8x2048x2048) (k0_off49 v95) S1x256x1024.size hinb).WholeWords (EltTy.packing .i8)) ∧
  (∀ (k0_h8 : k0_cond8 = 1#1), ∀ a, (k0_off51 v95) a + S1x256x1024.size a ≤ S8x2048x2048.size a) ∧
  (∀ (k0_h8 : k0_cond8 = 1#1), ∀ (hinb : ∀ a, (k0_off51 v95) a + S1x256x1024.size a ≤ S8x2048x2048.size a), (Rect.unit (s := S8x2048x2048) (k0_off51 v95) S1x256x1024.size hinb).WholeWords (EltTy.packing .i8))
theorem k0_off46_inb : ∀ (v95 : BitVec 32) (k0_hw6 : k0_chk6 v95), ∀ (k0_h7 : k0_cond7 = 1#1), ∀ a, (k0_off46 v95) a + S1x2x256x1024.size a ≤ S8x2x4096x1024.size a := fun v95 k0_hw6 k0_h7 => k0_hw6.1 k0_h7
theorem k0_off46_wordsi8 : ∀ (v95 : BitVec 32) (k0_hw6 : k0_chk6 v95), ∀ (k0_h7 : k0_cond7 = 1#1), (Rect.unit (s := S8x2x4096x1024) (k0_off46 v95) S1x2x256x1024.size (k0_off46_inb v95 k0_hw6 k0_h7)).WholeWords (EltTy.packing .i8) := fun v95 k0_hw6 k0_h7 => k0_hw6.2.1 k0_h7 (k0_off46_inb v95 k0_hw6 k0_h7)
theorem k0_off49_inb : ∀ (v95 : BitVec 32) (k0_hw6 : k0_chk6 v95), ∀ (k0_h8 : k0_cond8 = 1#1), ∀ a, (k0_off49 v95) a + S1x256x1024.size a ≤ S8x2048x2048.size a := fun v95 k0_hw6 k0_h8 => k0_hw6.2.2.1 k0_h8
theorem k0_off49_wordsi8 : ∀ (v95 : BitVec 32) (k0_hw6 : k0_chk6 v95), ∀ (k0_h8 : k0_cond8 = 1#1), (Rect.unit (s := S8x2048x2048) (k0_off49 v95) S1x256x1024.size (k0_off49_inb v95 k0_hw6 k0_h8)).WholeWords (EltTy.packing .i8) := fun v95 k0_hw6 k0_h8 => k0_hw6.2.2.2.1 k0_h8 (k0_off49_inb v95 k0_hw6 k0_h8)
theorem k0_off51_inb : ∀ (v95 : BitVec 32) (k0_hw6 : k0_chk6 v95), ∀ (k0_h8 : k0_cond8 = 1#1), ∀ a, (k0_off51 v95) a + S1x256x1024.size a ≤ S8x2048x2048.size a := fun v95 k0_hw6 k0_h8 => k0_hw6.2.2.2.2.1 k0_h8
theorem k0_off51_wordsi8 : ∀ (v95 : BitVec 32) (k0_hw6 : k0_chk6 v95), ∀ (k0_h8 : k0_cond8 = 1#1), (Rect.unit (s := S8x2048x2048) (k0_off51 v95) S1x256x1024.size (k0_off51_inb v95 k0_hw6 k0_h8)).WholeWords (EltTy.packing .i8) := fun v95 k0_hw6 k0_h8 => k0_hw6.2.2.2.2.2 k0_h8 (k0_off51_inb v95 k0_hw6 k0_h8)

def k0_off52 : Fin 1 → Nat :=
  let c4_i32_76 : BitVec 32 := 4#32
  let c24_i32_77 : BitVec 32 := 24#32
  let v103 : BitVec 32 := Scalar.divsi c4_i32_76 c24_i32_77
  let v105 : Index := Scalar.indexCast v103
  ![v105.toNat]
def k0_cond9 : BitVec 1 :=
  let c4_i32_78 : BitVec 32 := 4#32
  let c24_i32_79 : BitVec 32 := 24#32
  let v104 : BitVec 32 := Scalar.remsi c4_i32_78 c24_i32_79
  let c16_i32_80 : BitVec 32 := 16#32
  let v107 : BitVec 1 := Scalar.cmpi .slt v104 c16_i32_80
  let v108 : BitVec 32 := Scalar.extui v107
  let c0_i32_81 : BitVec 32 := 0#32
  let v109 : BitVec 1 := Scalar.cmpi .ne v108 c0_i32_81
  v109

def k0_mult9 : BitVec 32 :=
  let c4_i32_78 : BitVec 32 := 4#32
  let c24_i32_79 : BitVec 32 := 24#32
  let v104 : BitVec 32 := Scalar.remsi c4_i32_78 c24_i32_79
  let c256_i32 : BitVec 32 := 256#32
  let v147 : BitVec 32 := Scalar.muli v104 c256_i32
  v147
def k0_off53 : Fin 1 → Nat :=
  let c4_i32_74 : BitVec 32 := 4#32
  let c8_i32_75 : BitVec 32 := 8#32
  let v102 : BitVec 32 := Scalar.remsi c4_i32_74 c8_i32_75
  ![v102.toNat]
def k0_off54 : Fin 4 → Nat :=
  let c4_i32_74 : BitVec 32 := 4#32
  let c8_i32_75 : BitVec 32 := 8#32
  let v102 : BitVec 32 := Scalar.remsi c4_i32_74 c8_i32_75
  let c0_i32_115 : BitVec 32 := 0#32
  let c0_i32_116 : BitVec 32 := 0#32
  let c0_i32_117 : BitVec 32 := 0#32
  ![v102.toNat, 0, 0, 0]
def k0_off55 (v106 : BitVec 32) : Fin 4 → Nat :=
  let c0_i32_118 : BitVec 32 := 0#32
  let c4_i32_78 : BitVec 32 := 4#32
  let c24_i32_79 : BitVec 32 := 24#32
  let v104 : BitVec 32 := Scalar.remsi c4_i32_78 c24_i32_79
  let c256_i32 : BitVec 32 := 256#32
  let v147 : BitVec 32 := Scalar.muli v104 c256_i32
  let v148 : BitVec 32 := v147
  let c0_i32_119 : BitVec 32 := 0#32
  ![v106.toNat, 0, v148.toNat, 0]

def k0_cond10 : BitVec 1 :=
  let c4_i32_78 : BitVec 32 := 4#32
  let c24_i32_79 : BitVec 32 := 24#32
  let v104 : BitVec 32 := Scalar.remsi c4_i32_78 c24_i32_79
  let c16_i32_82 : BitVec 32 := 16#32
  let v110 : BitVec 1 := Scalar.cmpi .sge v104 c16_i32_82
  let v111 : BitVec 32 := Scalar.extui v110
  let c0_i32_83 : BitVec 32 := 0#32
  let v112 : BitVec 1 := Scalar.cmpi .ne v111 c0_i32_83
  v112

def k0_mult10 : BitVec 32 :=
  let c4_i32_78 : BitVec 32 := 4#32
  let c24_i32_79 : BitVec 32 := 24#32
  let v104 : BitVec 32 := Scalar.remsi c4_i32_78 c24_i32_79
  let c16_i32_115 : BitVec 32 := 16#32
  let v147 : BitVec 32 := Scalar.subi v104 c16_i32_115
  let c256_i32 : BitVec 32 := 256#32
  let v148 : BitVec 32 := Scalar.muli v147 c256_i32
  v148
def k0_off56 : Fin 1 → Nat :=
  let c4_i32_74 : BitVec 32 := 4#32
  let c8_i32_75 : BitVec 32 := 8#32
  let v102 : BitVec 32 := Scalar.remsi c4_i32_74 c8_i32_75
  ![v102.toNat]
def k0_off57 : Fin 4 → Nat :=
  let c4_i32_74 : BitVec 32 := 4#32
  let c8_i32_75 : BitVec 32 := 8#32
  let v102 : BitVec 32 := Scalar.remsi c4_i32_74 c8_i32_75
  let c0_i32_116 : BitVec 32 := 0#32
  let c0_i32_117 : BitVec 32 := 0#32
  let c0_i32_118 : BitVec 32 := 0#32
  ![v102.toNat, 0, 0, 0]
def k0_off58 (v106 : BitVec 32) : Fin 3 → Nat :=
  let c4_i32_78 : BitVec 32 := 4#32
  let c24_i32_79 : BitVec 32 := 24#32
  let v104 : BitVec 32 := Scalar.remsi c4_i32_78 c24_i32_79
  let c16_i32_115 : BitVec 32 := 16#32
  let v147 : BitVec 32 := Scalar.subi v104 c16_i32_115
  let c256_i32 : BitVec 32 := 256#32
  let v148 : BitVec 32 := Scalar.muli v147 c256_i32
  let v149 : BitVec 32 := v148
  let c0_i32_119 : BitVec 32 := 0#32
  ![v106.toNat, v149.toNat, 0]
def k0_off59 : Fin 4 → Nat :=
  let c4_i32_74 : BitVec 32 := 4#32
  let c8_i32_75 : BitVec 32 := 8#32
  let v102 : BitVec 32 := Scalar.remsi c4_i32_74 c8_i32_75
  let c1_i32_120 : BitVec 32 := 1#32
  let c0_i32_121 : BitVec 32 := 0#32
  let c0_i32_122 : BitVec 32 := 0#32
  ![v102.toNat, 1, 0, 0]
def k0_off60 (v106 : BitVec 32) : Fin 3 → Nat :=
  let c4_i32_78 : BitVec 32 := 4#32
  let c24_i32_79 : BitVec 32 := 24#32
  let v104 : BitVec 32 := Scalar.remsi c4_i32_78 c24_i32_79
  let c16_i32_115 : BitVec 32 := 16#32
  let v147 : BitVec 32 := Scalar.subi v104 c16_i32_115
  let c256_i32 : BitVec 32 := 256#32
  let v148 : BitVec 32 := Scalar.muli v147 c256_i32
  let v149 : BitVec 32 := v148
  let c1024_i32 : BitVec 32 := 1024#32
  ![v106.toNat, v149.toNat, 1024]

def k0_chk7 (v106 : BitVec 32) : Prop :=
  (∀ (k0_h9 : k0_cond9 = 1#1), ∀ a, (k0_off55 v106) a + S1x2x256x1024.size a ≤ S8x2x4096x1024.size a) ∧
  (∀ (k0_h9 : k0_cond9 = 1#1), ∀ (hinb : ∀ a, (k0_off55 v106) a + S1x2x256x1024.size a ≤ S8x2x4096x1024.size a), (Rect.unit (s := S8x2x4096x1024) (k0_off55 v106) S1x2x256x1024.size hinb).WholeWords (EltTy.packing .i8)) ∧
  (∀ (k0_h10 : k0_cond10 = 1#1), ∀ a, (k0_off58 v106) a + S1x256x1024.size a ≤ S8x2048x2048.size a) ∧
  (∀ (k0_h10 : k0_cond10 = 1#1), ∀ (hinb : ∀ a, (k0_off58 v106) a + S1x256x1024.size a ≤ S8x2048x2048.size a), (Rect.unit (s := S8x2048x2048) (k0_off58 v106) S1x256x1024.size hinb).WholeWords (EltTy.packing .i8)) ∧
  (∀ (k0_h10 : k0_cond10 = 1#1), ∀ a, (k0_off60 v106) a + S1x256x1024.size a ≤ S8x2048x2048.size a) ∧
  (∀ (k0_h10 : k0_cond10 = 1#1), ∀ (hinb : ∀ a, (k0_off60 v106) a + S1x256x1024.size a ≤ S8x2048x2048.size a), (Rect.unit (s := S8x2048x2048) (k0_off60 v106) S1x256x1024.size hinb).WholeWords (EltTy.packing .i8))
theorem k0_off55_inb : ∀ (v106 : BitVec 32) (k0_hw7 : k0_chk7 v106), ∀ (k0_h9 : k0_cond9 = 1#1), ∀ a, (k0_off55 v106) a + S1x2x256x1024.size a ≤ S8x2x4096x1024.size a := fun v106 k0_hw7 k0_h9 => k0_hw7.1 k0_h9
theorem k0_off55_wordsi8 : ∀ (v106 : BitVec 32) (k0_hw7 : k0_chk7 v106), ∀ (k0_h9 : k0_cond9 = 1#1), (Rect.unit (s := S8x2x4096x1024) (k0_off55 v106) S1x2x256x1024.size (k0_off55_inb v106 k0_hw7 k0_h9)).WholeWords (EltTy.packing .i8) := fun v106 k0_hw7 k0_h9 => k0_hw7.2.1 k0_h9 (k0_off55_inb v106 k0_hw7 k0_h9)
theorem k0_off58_inb : ∀ (v106 : BitVec 32) (k0_hw7 : k0_chk7 v106), ∀ (k0_h10 : k0_cond10 = 1#1), ∀ a, (k0_off58 v106) a + S1x256x1024.size a ≤ S8x2048x2048.size a := fun v106 k0_hw7 k0_h10 => k0_hw7.2.2.1 k0_h10
theorem k0_off58_wordsi8 : ∀ (v106 : BitVec 32) (k0_hw7 : k0_chk7 v106), ∀ (k0_h10 : k0_cond10 = 1#1), (Rect.unit (s := S8x2048x2048) (k0_off58 v106) S1x256x1024.size (k0_off58_inb v106 k0_hw7 k0_h10)).WholeWords (EltTy.packing .i8) := fun v106 k0_hw7 k0_h10 => k0_hw7.2.2.2.1 k0_h10 (k0_off58_inb v106 k0_hw7 k0_h10)
theorem k0_off60_inb : ∀ (v106 : BitVec 32) (k0_hw7 : k0_chk7 v106), ∀ (k0_h10 : k0_cond10 = 1#1), ∀ a, (k0_off60 v106) a + S1x256x1024.size a ≤ S8x2048x2048.size a := fun v106 k0_hw7 k0_h10 => k0_hw7.2.2.2.2.1 k0_h10
theorem k0_off60_wordsi8 : ∀ (v106 : BitVec 32) (k0_hw7 : k0_chk7 v106), ∀ (k0_h10 : k0_cond10 = 1#1), (Rect.unit (s := S8x2048x2048) (k0_off60 v106) S1x256x1024.size (k0_off60_inb v106 k0_hw7 k0_h10)).WholeWords (EltTy.packing .i8) := fun v106 k0_hw7 k0_h10 => k0_hw7.2.2.2.2.2 k0_h10 (k0_off60_inb v106 k0_hw7 k0_h10)

def k0_off61 : Fin 1 → Nat :=
  let c5_i32_86 : BitVec 32 := 5#32
  let c24_i32_87 : BitVec 32 := 24#32
  let v114 : BitVec 32 := Scalar.divsi c5_i32_86 c24_i32_87
  let v116 : Index := Scalar.indexCast v114
  ![v116.toNat]
def k0_cond11 : BitVec 1 :=
  let c5_i32_88 : BitVec 32 := 5#32
  let c24_i32_89 : BitVec 32 := 24#32
  let v115 : BitVec 32 := Scalar.remsi c5_i32_88 c24_i32_89
  let c16_i32_90 : BitVec 32 := 16#32
  let v118 : BitVec 1 := Scalar.cmpi .slt v115 c16_i32_90
  let v119 : BitVec 32 := Scalar.extui v118
  let c0_i32_91 : BitVec 32 := 0#32
  let v120 : BitVec 1 := Scalar.cmpi .ne v119 c0_i32_91
  v120

def k0_mult11 : BitVec 32 :=
  let c5_i32_88 : BitVec 32 := 5#32
  let c24_i32_89 : BitVec 32 := 24#32
  let v115 : BitVec 32 := Scalar.remsi c5_i32_88 c24_i32_89
  let c256_i32 : BitVec 32 := 256#32
  let v147 : BitVec 32 := Scalar.muli v115 c256_i32
  v147
def k0_off62 : Fin 1 → Nat :=
  let c5_i32_84 : BitVec 32 := 5#32
  let c8_i32_85 : BitVec 32 := 8#32
  let v113 : BitVec 32 := Scalar.remsi c5_i32_84 c8_i32_85
  ![v113.toNat]
def k0_off63 : Fin 4 → Nat :=
  let c5_i32_84 : BitVec 32 := 5#32
  let c8_i32_85 : BitVec 32 := 8#32
  let v113 : BitVec 32 := Scalar.remsi c5_i32_84 c8_i32_85
  let c0_i32_115 : BitVec 32 := 0#32
  let c0_i32_116 : BitVec 32 := 0#32
  let c0_i32_117 : BitVec 32 := 0#32
  ![v113.toNat, 0, 0, 0]
def k0_off64 (v117 : BitVec 32) : Fin 4 → Nat :=
  let c0_i32_118 : BitVec 32 := 0#32
  let c5_i32_88 : BitVec 32 := 5#32
  let c24_i32_89 : BitVec 32 := 24#32
  let v115 : BitVec 32 := Scalar.remsi c5_i32_88 c24_i32_89
  let c256_i32 : BitVec 32 := 256#32
  let v147 : BitVec 32 := Scalar.muli v115 c256_i32
  let v148 : BitVec 32 := v147
  let c0_i32_119 : BitVec 32 := 0#32
  ![v117.toNat, 0, v148.toNat, 0]

def k0_cond12 : BitVec 1 :=
  let c5_i32_88 : BitVec 32 := 5#32
  let c24_i32_89 : BitVec 32 := 24#32
  let v115 : BitVec 32 := Scalar.remsi c5_i32_88 c24_i32_89
  let c16_i32_92 : BitVec 32 := 16#32
  let v121 : BitVec 1 := Scalar.cmpi .sge v115 c16_i32_92
  let v122 : BitVec 32 := Scalar.extui v121
  let c0_i32_93 : BitVec 32 := 0#32
  let v123 : BitVec 1 := Scalar.cmpi .ne v122 c0_i32_93
  v123

def k0_mult12 : BitVec 32 :=
  let c5_i32_88 : BitVec 32 := 5#32
  let c24_i32_89 : BitVec 32 := 24#32
  let v115 : BitVec 32 := Scalar.remsi c5_i32_88 c24_i32_89
  let c16_i32_115 : BitVec 32 := 16#32
  let v147 : BitVec 32 := Scalar.subi v115 c16_i32_115
  let c256_i32 : BitVec 32 := 256#32
  let v148 : BitVec 32 := Scalar.muli v147 c256_i32
  v148
def k0_off65 : Fin 1 → Nat :=
  let c5_i32_84 : BitVec 32 := 5#32
  let c8_i32_85 : BitVec 32 := 8#32
  let v113 : BitVec 32 := Scalar.remsi c5_i32_84 c8_i32_85
  ![v113.toNat]
def k0_off66 : Fin 4 → Nat :=
  let c5_i32_84 : BitVec 32 := 5#32
  let c8_i32_85 : BitVec 32 := 8#32
  let v113 : BitVec 32 := Scalar.remsi c5_i32_84 c8_i32_85
  let c0_i32_116 : BitVec 32 := 0#32
  let c0_i32_117 : BitVec 32 := 0#32
  let c0_i32_118 : BitVec 32 := 0#32
  ![v113.toNat, 0, 0, 0]
def k0_off67 (v117 : BitVec 32) : Fin 3 → Nat :=
  let c5_i32_88 : BitVec 32 := 5#32
  let c24_i32_89 : BitVec 32 := 24#32
  let v115 : BitVec 32 := Scalar.remsi c5_i32_88 c24_i32_89
  let c16_i32_115 : BitVec 32 := 16#32
  let v147 : BitVec 32 := Scalar.subi v115 c16_i32_115
  let c256_i32 : BitVec 32 := 256#32
  let v148 : BitVec 32 := Scalar.muli v147 c256_i32
  let v149 : BitVec 32 := v148
  let c0_i32_119 : BitVec 32 := 0#32
  ![v117.toNat, v149.toNat, 0]
def k0_off68 : Fin 4 → Nat :=
  let c5_i32_84 : BitVec 32 := 5#32
  let c8_i32_85 : BitVec 32 := 8#32
  let v113 : BitVec 32 := Scalar.remsi c5_i32_84 c8_i32_85
  let c1_i32_120 : BitVec 32 := 1#32
  let c0_i32_121 : BitVec 32 := 0#32
  let c0_i32_122 : BitVec 32 := 0#32
  ![v113.toNat, 1, 0, 0]
def k0_off69 (v117 : BitVec 32) : Fin 3 → Nat :=
  let c5_i32_88 : BitVec 32 := 5#32
  let c24_i32_89 : BitVec 32 := 24#32
  let v115 : BitVec 32 := Scalar.remsi c5_i32_88 c24_i32_89
  let c16_i32_115 : BitVec 32 := 16#32
  let v147 : BitVec 32 := Scalar.subi v115 c16_i32_115
  let c256_i32 : BitVec 32 := 256#32
  let v148 : BitVec 32 := Scalar.muli v147 c256_i32
  let v149 : BitVec 32 := v148
  let c1024_i32 : BitVec 32 := 1024#32
  ![v117.toNat, v149.toNat, 1024]

def k0_chk8 (v117 : BitVec 32) : Prop :=
  (∀ (k0_h11 : k0_cond11 = 1#1), ∀ a, (k0_off64 v117) a + S1x2x256x1024.size a ≤ S8x2x4096x1024.size a) ∧
  (∀ (k0_h11 : k0_cond11 = 1#1), ∀ (hinb : ∀ a, (k0_off64 v117) a + S1x2x256x1024.size a ≤ S8x2x4096x1024.size a), (Rect.unit (s := S8x2x4096x1024) (k0_off64 v117) S1x2x256x1024.size hinb).WholeWords (EltTy.packing .i8)) ∧
  (∀ (k0_h12 : k0_cond12 = 1#1), ∀ a, (k0_off67 v117) a + S1x256x1024.size a ≤ S8x2048x2048.size a) ∧
  (∀ (k0_h12 : k0_cond12 = 1#1), ∀ (hinb : ∀ a, (k0_off67 v117) a + S1x256x1024.size a ≤ S8x2048x2048.size a), (Rect.unit (s := S8x2048x2048) (k0_off67 v117) S1x256x1024.size hinb).WholeWords (EltTy.packing .i8)) ∧
  (∀ (k0_h12 : k0_cond12 = 1#1), ∀ a, (k0_off69 v117) a + S1x256x1024.size a ≤ S8x2048x2048.size a) ∧
  (∀ (k0_h12 : k0_cond12 = 1#1), ∀ (hinb : ∀ a, (k0_off69 v117) a + S1x256x1024.size a ≤ S8x2048x2048.size a), (Rect.unit (s := S8x2048x2048) (k0_off69 v117) S1x256x1024.size hinb).WholeWords (EltTy.packing .i8))
theorem k0_off64_inb : ∀ (v117 : BitVec 32) (k0_hw8 : k0_chk8 v117), ∀ (k0_h11 : k0_cond11 = 1#1), ∀ a, (k0_off64 v117) a + S1x2x256x1024.size a ≤ S8x2x4096x1024.size a := fun v117 k0_hw8 k0_h11 => k0_hw8.1 k0_h11
theorem k0_off64_wordsi8 : ∀ (v117 : BitVec 32) (k0_hw8 : k0_chk8 v117), ∀ (k0_h11 : k0_cond11 = 1#1), (Rect.unit (s := S8x2x4096x1024) (k0_off64 v117) S1x2x256x1024.size (k0_off64_inb v117 k0_hw8 k0_h11)).WholeWords (EltTy.packing .i8) := fun v117 k0_hw8 k0_h11 => k0_hw8.2.1 k0_h11 (k0_off64_inb v117 k0_hw8 k0_h11)
theorem k0_off67_inb : ∀ (v117 : BitVec 32) (k0_hw8 : k0_chk8 v117), ∀ (k0_h12 : k0_cond12 = 1#1), ∀ a, (k0_off67 v117) a + S1x256x1024.size a ≤ S8x2048x2048.size a := fun v117 k0_hw8 k0_h12 => k0_hw8.2.2.1 k0_h12
theorem k0_off67_wordsi8 : ∀ (v117 : BitVec 32) (k0_hw8 : k0_chk8 v117), ∀ (k0_h12 : k0_cond12 = 1#1), (Rect.unit (s := S8x2048x2048) (k0_off67 v117) S1x256x1024.size (k0_off67_inb v117 k0_hw8 k0_h12)).WholeWords (EltTy.packing .i8) := fun v117 k0_hw8 k0_h12 => k0_hw8.2.2.2.1 k0_h12 (k0_off67_inb v117 k0_hw8 k0_h12)
theorem k0_off69_inb : ∀ (v117 : BitVec 32) (k0_hw8 : k0_chk8 v117), ∀ (k0_h12 : k0_cond12 = 1#1), ∀ a, (k0_off69 v117) a + S1x256x1024.size a ≤ S8x2048x2048.size a := fun v117 k0_hw8 k0_h12 => k0_hw8.2.2.2.2.1 k0_h12
theorem k0_off69_wordsi8 : ∀ (v117 : BitVec 32) (k0_hw8 : k0_chk8 v117), ∀ (k0_h12 : k0_cond12 = 1#1), (Rect.unit (s := S8x2048x2048) (k0_off69 v117) S1x256x1024.size (k0_off69_inb v117 k0_hw8 k0_h12)).WholeWords (EltTy.packing .i8) := fun v117 k0_hw8 k0_h12 => k0_hw8.2.2.2.2.2 k0_h12 (k0_off69_inb v117 k0_hw8 k0_h12)

def k0_off70 : Fin 1 → Nat :=
  let c6_i32_96 : BitVec 32 := 6#32
  let c24_i32_97 : BitVec 32 := 24#32
  let v125 : BitVec 32 := Scalar.divsi c6_i32_96 c24_i32_97
  let v127 : Index := Scalar.indexCast v125
  ![v127.toNat]
def k0_cond13 : BitVec 1 :=
  let c6_i32_98 : BitVec 32 := 6#32
  let c24_i32_99 : BitVec 32 := 24#32
  let v126 : BitVec 32 := Scalar.remsi c6_i32_98 c24_i32_99
  let c16_i32_100 : BitVec 32 := 16#32
  let v129 : BitVec 1 := Scalar.cmpi .slt v126 c16_i32_100
  let v130 : BitVec 32 := Scalar.extui v129
  let c0_i32_101 : BitVec 32 := 0#32
  let v131 : BitVec 1 := Scalar.cmpi .ne v130 c0_i32_101
  v131

def k0_mult13 : BitVec 32 :=
  let c6_i32_98 : BitVec 32 := 6#32
  let c24_i32_99 : BitVec 32 := 24#32
  let v126 : BitVec 32 := Scalar.remsi c6_i32_98 c24_i32_99
  let c256_i32 : BitVec 32 := 256#32
  let v147 : BitVec 32 := Scalar.muli v126 c256_i32
  v147
def k0_off71 : Fin 1 → Nat :=
  let c6_i32_94 : BitVec 32 := 6#32
  let c8_i32_95 : BitVec 32 := 8#32
  let v124 : BitVec 32 := Scalar.remsi c6_i32_94 c8_i32_95
  ![v124.toNat]
def k0_off72 : Fin 4 → Nat :=
  let c6_i32_94 : BitVec 32 := 6#32
  let c8_i32_95 : BitVec 32 := 8#32
  let v124 : BitVec 32 := Scalar.remsi c6_i32_94 c8_i32_95
  let c0_i32_115 : BitVec 32 := 0#32
  let c0_i32_116 : BitVec 32 := 0#32
  let c0_i32_117 : BitVec 32 := 0#32
  ![v124.toNat, 0, 0, 0]
def k0_off73 (v128 : BitVec 32) : Fin 4 → Nat :=
  let c0_i32_118 : BitVec 32 := 0#32
  let c6_i32_98 : BitVec 32 := 6#32
  let c24_i32_99 : BitVec 32 := 24#32
  let v126 : BitVec 32 := Scalar.remsi c6_i32_98 c24_i32_99
  let c256_i32 : BitVec 32 := 256#32
  let v147 : BitVec 32 := Scalar.muli v126 c256_i32
  let v148 : BitVec 32 := v147
  let c0_i32_119 : BitVec 32 := 0#32
  ![v128.toNat, 0, v148.toNat, 0]

def k0_cond14 : BitVec 1 :=
  let c6_i32_98 : BitVec 32 := 6#32
  let c24_i32_99 : BitVec 32 := 24#32
  let v126 : BitVec 32 := Scalar.remsi c6_i32_98 c24_i32_99
  let c16_i32_102 : BitVec 32 := 16#32
  let v132 : BitVec 1 := Scalar.cmpi .sge v126 c16_i32_102
  let v133 : BitVec 32 := Scalar.extui v132
  let c0_i32_103 : BitVec 32 := 0#32
  let v134 : BitVec 1 := Scalar.cmpi .ne v133 c0_i32_103
  v134

def k0_mult14 : BitVec 32 :=
  let c6_i32_98 : BitVec 32 := 6#32
  let c24_i32_99 : BitVec 32 := 24#32
  let v126 : BitVec 32 := Scalar.remsi c6_i32_98 c24_i32_99
  let c16_i32_115 : BitVec 32 := 16#32
  let v147 : BitVec 32 := Scalar.subi v126 c16_i32_115
  let c256_i32 : BitVec 32 := 256#32
  let v148 : BitVec 32 := Scalar.muli v147 c256_i32
  v148
def k0_off74 : Fin 1 → Nat :=
  let c6_i32_94 : BitVec 32 := 6#32
  let c8_i32_95 : BitVec 32 := 8#32
  let v124 : BitVec 32 := Scalar.remsi c6_i32_94 c8_i32_95
  ![v124.toNat]
def k0_off75 : Fin 4 → Nat :=
  let c6_i32_94 : BitVec 32 := 6#32
  let c8_i32_95 : BitVec 32 := 8#32
  let v124 : BitVec 32 := Scalar.remsi c6_i32_94 c8_i32_95
  let c0_i32_116 : BitVec 32 := 0#32
  let c0_i32_117 : BitVec 32 := 0#32
  let c0_i32_118 : BitVec 32 := 0#32
  ![v124.toNat, 0, 0, 0]
def k0_off76 (v128 : BitVec 32) : Fin 3 → Nat :=
  let c6_i32_98 : BitVec 32 := 6#32
  let c24_i32_99 : BitVec 32 := 24#32
  let v126 : BitVec 32 := Scalar.remsi c6_i32_98 c24_i32_99
  let c16_i32_115 : BitVec 32 := 16#32
  let v147 : BitVec 32 := Scalar.subi v126 c16_i32_115
  let c256_i32 : BitVec 32 := 256#32
  let v148 : BitVec 32 := Scalar.muli v147 c256_i32
  let v149 : BitVec 32 := v148
  let c0_i32_119 : BitVec 32 := 0#32
  ![v128.toNat, v149.toNat, 0]
def k0_off77 : Fin 4 → Nat :=
  let c6_i32_94 : BitVec 32 := 6#32
  let c8_i32_95 : BitVec 32 := 8#32
  let v124 : BitVec 32 := Scalar.remsi c6_i32_94 c8_i32_95
  let c1_i32_120 : BitVec 32 := 1#32
  let c0_i32_121 : BitVec 32 := 0#32
  let c0_i32_122 : BitVec 32 := 0#32
  ![v124.toNat, 1, 0, 0]
def k0_off78 (v128 : BitVec 32) : Fin 3 → Nat :=
  let c6_i32_98 : BitVec 32 := 6#32
  let c24_i32_99 : BitVec 32 := 24#32
  let v126 : BitVec 32 := Scalar.remsi c6_i32_98 c24_i32_99
  let c16_i32_115 : BitVec 32 := 16#32
  let v147 : BitVec 32 := Scalar.subi v126 c16_i32_115
  let c256_i32 : BitVec 32 := 256#32
  let v148 : BitVec 32 := Scalar.muli v147 c256_i32
  let v149 : BitVec 32 := v148
  let c1024_i32 : BitVec 32 := 1024#32
  ![v128.toNat, v149.toNat, 1024]

def k0_chk9 (v128 : BitVec 32) : Prop :=
  (∀ (k0_h13 : k0_cond13 = 1#1), ∀ a, (k0_off73 v128) a + S1x2x256x1024.size a ≤ S8x2x4096x1024.size a) ∧
  (∀ (k0_h13 : k0_cond13 = 1#1), ∀ (hinb : ∀ a, (k0_off73 v128) a + S1x2x256x1024.size a ≤ S8x2x4096x1024.size a), (Rect.unit (s := S8x2x4096x1024) (k0_off73 v128) S1x2x256x1024.size hinb).WholeWords (EltTy.packing .i8)) ∧
  (∀ (k0_h14 : k0_cond14 = 1#1), ∀ a, (k0_off76 v128) a + S1x256x1024.size a ≤ S8x2048x2048.size a) ∧
  (∀ (k0_h14 : k0_cond14 = 1#1), ∀ (hinb : ∀ a, (k0_off76 v128) a + S1x256x1024.size a ≤ S8x2048x2048.size a), (Rect.unit (s := S8x2048x2048) (k0_off76 v128) S1x256x1024.size hinb).WholeWords (EltTy.packing .i8)) ∧
  (∀ (k0_h14 : k0_cond14 = 1#1), ∀ a, (k0_off78 v128) a + S1x256x1024.size a ≤ S8x2048x2048.size a) ∧
  (∀ (k0_h14 : k0_cond14 = 1#1), ∀ (hinb : ∀ a, (k0_off78 v128) a + S1x256x1024.size a ≤ S8x2048x2048.size a), (Rect.unit (s := S8x2048x2048) (k0_off78 v128) S1x256x1024.size hinb).WholeWords (EltTy.packing .i8))
theorem k0_off73_inb : ∀ (v128 : BitVec 32) (k0_hw9 : k0_chk9 v128), ∀ (k0_h13 : k0_cond13 = 1#1), ∀ a, (k0_off73 v128) a + S1x2x256x1024.size a ≤ S8x2x4096x1024.size a := fun v128 k0_hw9 k0_h13 => k0_hw9.1 k0_h13
theorem k0_off73_wordsi8 : ∀ (v128 : BitVec 32) (k0_hw9 : k0_chk9 v128), ∀ (k0_h13 : k0_cond13 = 1#1), (Rect.unit (s := S8x2x4096x1024) (k0_off73 v128) S1x2x256x1024.size (k0_off73_inb v128 k0_hw9 k0_h13)).WholeWords (EltTy.packing .i8) := fun v128 k0_hw9 k0_h13 => k0_hw9.2.1 k0_h13 (k0_off73_inb v128 k0_hw9 k0_h13)
theorem k0_off76_inb : ∀ (v128 : BitVec 32) (k0_hw9 : k0_chk9 v128), ∀ (k0_h14 : k0_cond14 = 1#1), ∀ a, (k0_off76 v128) a + S1x256x1024.size a ≤ S8x2048x2048.size a := fun v128 k0_hw9 k0_h14 => k0_hw9.2.2.1 k0_h14
theorem k0_off76_wordsi8 : ∀ (v128 : BitVec 32) (k0_hw9 : k0_chk9 v128), ∀ (k0_h14 : k0_cond14 = 1#1), (Rect.unit (s := S8x2048x2048) (k0_off76 v128) S1x256x1024.size (k0_off76_inb v128 k0_hw9 k0_h14)).WholeWords (EltTy.packing .i8) := fun v128 k0_hw9 k0_h14 => k0_hw9.2.2.2.1 k0_h14 (k0_off76_inb v128 k0_hw9 k0_h14)
theorem k0_off78_inb : ∀ (v128 : BitVec 32) (k0_hw9 : k0_chk9 v128), ∀ (k0_h14 : k0_cond14 = 1#1), ∀ a, (k0_off78 v128) a + S1x256x1024.size a ≤ S8x2048x2048.size a := fun v128 k0_hw9 k0_h14 => k0_hw9.2.2.2.2.1 k0_h14
theorem k0_off78_wordsi8 : ∀ (v128 : BitVec 32) (k0_hw9 : k0_chk9 v128), ∀ (k0_h14 : k0_cond14 = 1#1), (Rect.unit (s := S8x2048x2048) (k0_off78 v128) S1x256x1024.size (k0_off78_inb v128 k0_hw9 k0_h14)).WholeWords (EltTy.packing .i8) := fun v128 k0_hw9 k0_h14 => k0_hw9.2.2.2.2.2 k0_h14 (k0_off78_inb v128 k0_hw9 k0_h14)

@[reducible] def k0_t3_loop (v3 : BitVec 32) : Scf.Loop 32 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_109 : BitVec 32 := 1#32
  ⟨c0_i32_107, v143, c1_i32_109⟩
def k0_off79 (v3 : BitVec 32) (k0_t3 : Fin (k0_t3_loop v3).trips) : Fin 1 → Nat :=
  let c0_i32_107 : BitVec 32 := 0#32
  let c1_i32_109 : BitVec 32 := 1#32
  let arg19 : BitVec 32 := Scf.iv c0_i32_107 c1_i32_109 k0_t3
  let v149 : Index := Scalar.indexCast arg19
  ![v149.toNat]
def k0_off80 (v3 : BitVec 32) (k0_t3 : Fin (k0_t3_loop v3).trips) : Fin 1 → Nat :=
  let c0_i32_107 : BitVec 32 := 0#32
  let c1_i32_109 : BitVec 32 := 1#32
  let arg19 : BitVec 32 := Scf.iv c0_i32_107 c1_i32_109 k0_t3
  let c2_i32_116 : BitVec 32 := 2#32
  let v148 : BitVec 32 := Scalar.remsi arg19 c2_i32_116
  ![v148.toNat]
def k0_off81 (v3 : BitVec 32) (k0_t3 : Fin (k0_t3_loop v3).trips) : Fin 3 → Nat :=
  let c0_i32_107 : BitVec 32 := 0#32
  let c1_i32_109 : BitVec 32 := 1#32
  let arg19 : BitVec 32 := Scf.iv c0_i32_107 c1_i32_109 k0_t3
  let c2_i32_116 : BitVec 32 := 2#32
  let v148 : BitVec 32 := Scalar.remsi arg19 c2_i32_116
  let c0_i32_117 : BitVec 32 := 0#32
  let c0_i32_118 : BitVec 32 := 0#32
  ![v148.toNat, 0, 0]
def k0_off82 (v150 : BitVec 32) : Fin 3 → Nat :=
  let c0_i32_119 : BitVec 32 := 0#32
  let c0_i32_120 : BitVec 32 := 0#32
  ![v150.toNat, 0, 0]

def k0_off83 (v3 : BitVec 32) (k0_t3 : Fin (k0_t3_loop v3).trips) : Fin 1 → Nat :=
  let c0_i32_107 : BitVec 32 := 0#32
  let c1_i32_109 : BitVec 32 := 1#32
  let arg19 : BitVec 32 := Scf.iv c0_i32_107 c1_i32_109 k0_t3
  let c2_i32_116 : BitVec 32 := 2#32
  let v148 : BitVec 32 := Scalar.remsi arg19 c2_i32_116
  ![v148.toNat]
def k0_off84 (v3 : BitVec 32) (k0_t3 : Fin (k0_t3_loop v3).trips) : Fin 3 → Nat :=
  let c0_i32_107 : BitVec 32 := 0#32
  let c1_i32_109 : BitVec 32 := 1#32
  let arg19 : BitVec 32 := Scf.iv c0_i32_107 c1_i32_109 k0_t3
  let c2_i32_116 : BitVec 32 := 2#32
  let v148 : BitVec 32 := Scalar.remsi arg19 c2_i32_116
  let c0_i32_121 : BitVec 32 := 0#32
  let c0_i32_122 : BitVec 32 := 0#32
  ![v148.toNat, 0, 0]
def k0_off85 (v150 : BitVec 32) : Fin 3 → Nat :=
  let c0_i32_123 : BitVec 32 := 0#32
  let c0_i32_124 : BitVec 32 := 0#32
  ![v150.toNat, 0, 0]

def k0_chk10 (v150 : BitVec 32) : Prop :=
  (∀ a, (k0_off82 v150) a + S1x16x8192.size a ≤ S8x16x8192.size a) ∧
  (∀ (hinb : ∀ a, (k0_off82 v150) a + S1x16x8192.size a ≤ S8x16x8192.size a), (Rect.unit (s := S8x16x8192) (k0_off82 v150) S1x16x8192.size hinb).WholeWords (EltTy.packing .bf16)) ∧
  (∀ a, (k0_off85 v150) a + S1x32x2048.size a ≤ S8x32x2048.size a) ∧
  (∀ (hinb : ∀ a, (k0_off85 v150) a + S1x32x2048.size a ≤ S8x32x2048.size a), (Rect.unit (s := S8x32x2048) (k0_off85 v150) S1x32x2048.size hinb).WholeWords (EltTy.packing .bf16))
theorem k0_off82_inb : ∀ (v150 : BitVec 32) (k0_hw10 : k0_chk10 v150), ∀ a, (k0_off82 v150) a + S1x16x8192.size a ≤ S8x16x8192.size a := fun v150 k0_hw10 => k0_hw10.1
theorem k0_off82_wordsbf16 : ∀ (v150 : BitVec 32) (k0_hw10 : k0_chk10 v150), (Rect.unit (s := S8x16x8192) (k0_off82 v150) S1x16x8192.size (k0_off82_inb v150 k0_hw10)).WholeWords (EltTy.packing .bf16) := fun v150 k0_hw10 => k0_hw10.2.1 (k0_off82_inb v150 k0_hw10)
theorem k0_off85_inb : ∀ (v150 : BitVec 32) (k0_hw10 : k0_chk10 v150), ∀ a, (k0_off85 v150) a + S1x32x2048.size a ≤ S8x32x2048.size a := fun v150 k0_hw10 => k0_hw10.2.2.1
theorem k0_off85_wordsbf16 : ∀ (v150 : BitVec 32) (k0_hw10 : k0_chk10 v150), (Rect.unit (s := S8x32x2048) (k0_off85 v150) S1x32x2048.size (k0_off85_inb v150 k0_hw10)).WholeWords (EltTy.packing .bf16) := fun v150 k0_hw10 => k0_hw10.2.2.2 (k0_off85_inb v150 k0_hw10)

def k0_off86 (v3 : BitVec 32) (k0_t3 : Fin (k0_t3_loop v3).trips) : Fin 1 → Nat :=
  let c0_i32_107 : BitVec 32 := 0#32
  let c1_i32_109 : BitVec 32 := 1#32
  let arg19 : BitVec 32 := Scf.iv c0_i32_107 c1_i32_109 k0_t3
  let c1_i32_151 : BitVec 32 := 1#32
  let v207 : BitVec 32 := Scalar.addi arg19 c1_i32_151
  let v209 : Index := Scalar.indexCast v207
  ![v209.toNat]
def k0_cond15 (v3 : BitVec 32) (k0_t3 : Fin (k0_t3_loop v3).trips) : BitVec 1 :=
  let c0_i32_107 : BitVec 32 := 0#32
  let c1_i32_109 : BitVec 32 := 1#32
  let arg19 : BitVec 32 := Scf.iv c0_i32_107 c1_i32_109 k0_t3
  let c1_i32_125 : BitVec 32 := 1#32
  let v163 : BitVec 32 := Scalar.addi arg19 c1_i32_125
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v164 : BitVec 1 := Scalar.cmpi .slt v163 v42
  let v165 : BitVec 32 := Scalar.extui v164
  let c0_i32_126 : BitVec 32 := 0#32
  let v166 : BitVec 1 := Scalar.cmpi .ne v165 c0_i32_126
  v166

def k0_off87 (v3 : BitVec 32) (k0_t3 : Fin (k0_t3_loop v3).trips) : Fin 1 → Nat :=
  let c0_i32_107 : BitVec 32 := 0#32
  let c1_i32_109 : BitVec 32 := 1#32
  let arg19 : BitVec 32 := Scf.iv c0_i32_107 c1_i32_109 k0_t3
  let c1_i32_151 : BitVec 32 := 1#32
  let v207 : BitVec 32 := Scalar.addi arg19 c1_i32_151
  let c2_i32_152 : BitVec 32 := 2#32
  let v208 : BitVec 32 := Scalar.remsi v207 c2_i32_152
  ![v208.toNat]
def k0_off88 (v3 : BitVec 32) (k0_t3 : Fin (k0_t3_loop v3).trips) : Fin 3 → Nat :=
  let c0_i32_107 : BitVec 32 := 0#32
  let c1_i32_109 : BitVec 32 := 1#32
  let arg19 : BitVec 32 := Scf.iv c0_i32_107 c1_i32_109 k0_t3
  let c1_i32_151 : BitVec 32 := 1#32
  let v207 : BitVec 32 := Scalar.addi arg19 c1_i32_151
  let c2_i32_152 : BitVec 32 := 2#32
  let v208 : BitVec 32 := Scalar.remsi v207 c2_i32_152
  let c0_i32_153 : BitVec 32 := 0#32
  let c0_i32_154 : BitVec 32 := 0#32
  ![v208.toNat, 0, 0]
def k0_off89 (v210 : BitVec 32) : Fin 3 → Nat :=
  let c0_i32_155 : BitVec 32 := 0#32
  let c0_i32_156 : BitVec 32 := 0#32
  ![v210.toNat, 0, 0]

def k0_off90 (v3 : BitVec 32) (k0_t3 : Fin (k0_t3_loop v3).trips) : Fin 1 → Nat :=
  let c0_i32_107 : BitVec 32 := 0#32
  let c1_i32_109 : BitVec 32 := 1#32
  let arg19 : BitVec 32 := Scf.iv c0_i32_107 c1_i32_109 k0_t3
  let c1_i32_151 : BitVec 32 := 1#32
  let v207 : BitVec 32 := Scalar.addi arg19 c1_i32_151
  let c2_i32_152 : BitVec 32 := 2#32
  let v208 : BitVec 32 := Scalar.remsi v207 c2_i32_152
  ![v208.toNat]
def k0_off91 (v3 : BitVec 32) (k0_t3 : Fin (k0_t3_loop v3).trips) : Fin 3 → Nat :=
  let c0_i32_107 : BitVec 32 := 0#32
  let c1_i32_109 : BitVec 32 := 1#32
  let arg19 : BitVec 32 := Scf.iv c0_i32_107 c1_i32_109 k0_t3
  let c1_i32_151 : BitVec 32 := 1#32
  let v207 : BitVec 32 := Scalar.addi arg19 c1_i32_151
  let c2_i32_152 : BitVec 32 := 2#32
  let v208 : BitVec 32 := Scalar.remsi v207 c2_i32_152
  let c0_i32_157 : BitVec 32 := 0#32
  let c0_i32_158 : BitVec 32 := 0#32
  ![v208.toNat, 0, 0]
def k0_off92 (v210 : BitVec 32) : Fin 3 → Nat :=
  let c0_i32_159 : BitVec 32 := 0#32
  let c0_i32_160 : BitVec 32 := 0#32
  ![v210.toNat, 0, 0]

def k0_chk11 (v3 : BitVec 32) (k0_t3 : Fin (k0_t3_loop v3).trips) (v210 : BitVec 32) : Prop :=
  (∀ (k0_h15 : k0_cond15 v3 k0_t3 = 1#1), ∀ a, (k0_off89 v210) a + S1x16x8192.size a ≤ S8x16x8192.size a) ∧
  (∀ (k0_h15 : k0_cond15 v3 k0_t3 = 1#1), ∀ (hinb : ∀ a, (k0_off89 v210) a + S1x16x8192.size a ≤ S8x16x8192.size a), (Rect.unit (s := S8x16x8192) (k0_off89 v210) S1x16x8192.size hinb).WholeWords (EltTy.packing .bf16)) ∧
  (∀ (k0_h15 : k0_cond15 v3 k0_t3 = 1#1), ∀ a, (k0_off92 v210) a + S1x32x2048.size a ≤ S8x32x2048.size a) ∧
  (∀ (k0_h15 : k0_cond15 v3 k0_t3 = 1#1), ∀ (hinb : ∀ a, (k0_off92 v210) a + S1x32x2048.size a ≤ S8x32x2048.size a), (Rect.unit (s := S8x32x2048) (k0_off92 v210) S1x32x2048.size hinb).WholeWords (EltTy.packing .bf16))
theorem k0_off89_inb : ∀ (v3 : BitVec 32) (k0_t3 : Fin (k0_t3_loop v3).trips) (v210 : BitVec 32) (k0_hw11 : k0_chk11 v3 k0_t3 v210), ∀ (k0_h15 : k0_cond15 v3 k0_t3 = 1#1), ∀ a, (k0_off89 v210) a + S1x16x8192.size a ≤ S8x16x8192.size a := fun v3 k0_t3 v210 k0_hw11 k0_h15 => k0_hw11.1 k0_h15
theorem k0_off89_wordsbf16 : ∀ (v3 : BitVec 32) (k0_t3 : Fin (k0_t3_loop v3).trips) (v210 : BitVec 32) (k0_hw11 : k0_chk11 v3 k0_t3 v210), ∀ (k0_h15 : k0_cond15 v3 k0_t3 = 1#1), (Rect.unit (s := S8x16x8192) (k0_off89 v210) S1x16x8192.size (k0_off89_inb v3 k0_t3 v210 k0_hw11 k0_h15)).WholeWords (EltTy.packing .bf16) := fun v3 k0_t3 v210 k0_hw11 k0_h15 => k0_hw11.2.1 k0_h15 (k0_off89_inb v3 k0_t3 v210 k0_hw11 k0_h15)
theorem k0_off92_inb : ∀ (v3 : BitVec 32) (k0_t3 : Fin (k0_t3_loop v3).trips) (v210 : BitVec 32) (k0_hw11 : k0_chk11 v3 k0_t3 v210), ∀ (k0_h15 : k0_cond15 v3 k0_t3 = 1#1), ∀ a, (k0_off92 v210) a + S1x32x2048.size a ≤ S8x32x2048.size a := fun v3 k0_t3 v210 k0_hw11 k0_h15 => k0_hw11.2.2.1 k0_h15
theorem k0_off92_wordsbf16 : ∀ (v3 : BitVec 32) (k0_t3 : Fin (k0_t3_loop v3).trips) (v210 : BitVec 32) (k0_hw11 : k0_chk11 v3 k0_t3 v210), ∀ (k0_h15 : k0_cond15 v3 k0_t3 = 1#1), (Rect.unit (s := S8x32x2048) (k0_off92 v210) S1x32x2048.size (k0_off92_inb v3 k0_t3 v210 k0_hw11 k0_h15)).WholeWords (EltTy.packing .bf16) := fun v3 k0_t3 v210 k0_hw11 k0_h15 => k0_hw11.2.2.2 k0_h15 (k0_off92_inb v3 k0_t3 v210 k0_hw11 k0_h15)

@[reducible] def k0_t4_loop : Scf.Loop 32 :=
  let c0_i32_128 : BitVec 32 := 0#32
  let c16_i32_129 : BitVec 32 := 16#32
  let v167 : BitVec 32 := Scalar.addi c0_i32_128 c16_i32_129
  let c1_i32_130 : BitVec 32 := 1#32
  ⟨c0_i32_128, v167, c1_i32_130⟩
def k0_off93 (v3 : BitVec 32) (k0_t3 : Fin (k0_t3_loop v3).trips) (k0_t4 : Fin k0_t4_loop.trips) : Fin 1 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c24_i32_154 : BitVec 32 := 24#32
  let v211 : BitVec 32 := Scalar.divsi v208 c24_i32_154
  let v213 : Index := Scalar.indexCast v211
  ![v213.toNat]
def k0_cond16 (v3 : BitVec 32) (k0_t3 : Fin (k0_t3_loop v3).trips) (k0_t4 : Fin k0_t4_loop.trips) : BitVec 1 :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c24_i32_155 : BitVec 32 := 24#32
  let v212 : BitVec 32 := Scalar.remsi v208 c24_i32_155
  let c16_i32_156 : BitVec 32 := 16#32
  let v215 : BitVec 1 := Scalar.cmpi .slt v212 c16_i32_156
  let v216 : BitVec 32 := Scalar.extui v215
  let c0_i32_157 : BitVec 32 := 0#32
  let v217 : BitVec 1 := Scalar.cmpi .ne v216 c0_i32_157
  v217

def k0_mult15 (v3 : BitVec 32) (k0_t3 : Fin (k0_t3_loop v3).trips) (k0_t4 : Fin k0_t4_loop.trips) : BitVec 32 :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c24_i32_155 : BitVec 32 := 24#32
  let v212 : BitVec 32 := Scalar.remsi v208 c24_i32_155
  let c256_i32_403 : BitVec 32 := 256#32
  let v846 : BitVec 32 := Scalar.muli v212 c256_i32_403
  v846
def k0_off94 (v3 : BitVec 32) (k0_t3 : Fin (k0_t3_loop v3).trips) (k0_t4 : Fin k0_t4_loop.trips) : Fin 1 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_153 : BitVec 32 := 8#32
  let v210 : BitVec 32 := Scalar.remsi v208 c8_i32_153
  ![v210.toNat]
def k0_off95 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_153 : BitVec 32 := 8#32
  let v210 : BitVec 32 := Scalar.remsi v208 c8_i32_153
  let c0_i32_404 : BitVec 32 := 0#32
  let c0_i32_405 : BitVec 32 := 0#32
  let c0_i32_406 : BitVec 32 := 0#32
  ![v210.toNat, 0, 0, 0]
def k0_off96 (v3 : BitVec 32) (k0_t3 : Fin (k0_t3_loop v3).trips) (k0_t4 : Fin k0_t4_loop.trips) (v214 : BitVec 32) : Fin 4 → Nat :=
  let c0_i32_407 : BitVec 32 := 0#32
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c24_i32_155 : BitVec 32 := 24#32
  let v212 : BitVec 32 := Scalar.remsi v208 c24_i32_155
  let c256_i32_403 : BitVec 32 := 256#32
  let v846 : BitVec 32 := Scalar.muli v212 c256_i32_403
  let v847 : BitVec 32 := v846
  let c0_i32_408 : BitVec 32 := 0#32
  ![v214.toNat, 0, v847.toNat, 0]

def k0_cond17 (v3 : BitVec 32) (k0_t3 : Fin (k0_t3_loop v3).trips) (k0_t4 : Fin k0_t4_loop.trips) : BitVec 1 :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c24_i32_155 : BitVec 32 := 24#32
  let v212 : BitVec 32 := Scalar.remsi v208 c24_i32_155
  let c16_i32_158 : BitVec 32 := 16#32
  let v218 : BitVec 1 := Scalar.cmpi .sge v212 c16_i32_158
  let v219 : BitVec 32 := Scalar.extui v218
  let c0_i32_159 : BitVec 32 := 0#32
  let v220 : BitVec 1 := Scalar.cmpi .ne v219 c0_i32_159
  v220

def k0_mult16 (v3 : BitVec 32) (k0_t3 : Fin (k0_t3_loop v3).trips) (k0_t4 : Fin k0_t4_loop.trips) : BitVec 32 :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c24_i32_155 : BitVec 32 := 24#32
  let v212 : BitVec 32 := Scalar.remsi v208 c24_i32_155
  let c16_i32_403 : BitVec 32 := 16#32
  let v846 : BitVec 32 := Scalar.subi v212 c16_i32_403
  let c256_i32_404 : BitVec 32 := 256#32
  let v847 : BitVec 32 := Scalar.muli v846 c256_i32_404
  v847
def k0_off97 (v3 : BitVec 32) (k0_t3 : Fin (k0_t3_loop v3).trips) (k0_t4 : Fin k0_t4_loop.trips) : Fin 1 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_153 : BitVec 32 := 8#32
  let v210 : BitVec 32 := Scalar.remsi v208 c8_i32_153
  ![v210.toNat]
def k0_off98 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_153 : BitVec 32 := 8#32
  let v210 : BitVec 32 := Scalar.remsi v208 c8_i32_153
  let c0_i32_405 : BitVec 32 := 0#32
  let c0_i32_406 : BitVec 32 := 0#32
  let c0_i32_407 : BitVec 32 := 0#32
  ![v210.toNat, 0, 0, 0]
def k0_off99 (v3 : BitVec 32) (k0_t3 : Fin (k0_t3_loop v3).trips) (k0_t4 : Fin k0_t4_loop.trips) (v214 : BitVec 32) : Fin 3 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c24_i32_155 : BitVec 32 := 24#32
  let v212 : BitVec 32 := Scalar.remsi v208 c24_i32_155
  let c16_i32_403 : BitVec 32 := 16#32
  let v846 : BitVec 32 := Scalar.subi v212 c16_i32_403
  let c256_i32_404 : BitVec 32 := 256#32
  let v847 : BitVec 32 := Scalar.muli v846 c256_i32_404
  let v848 : BitVec 32 := v847
  let c0_i32_408 : BitVec 32 := 0#32
  ![v214.toNat, v848.toNat, 0]
def k0_off100 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_153 : BitVec 32 := 8#32
  let v210 : BitVec 32 := Scalar.remsi v208 c8_i32_153
  let c1_i32_409 : BitVec 32 := 1#32
  let c0_i32_410 : BitVec 32 := 0#32
  let c0_i32_411 : BitVec 32 := 0#32
  ![v210.toNat, 1, 0, 0]
def k0_off101 (v3 : BitVec 32) (k0_t3 : Fin (k0_t3_loop v3).trips) (k0_t4 : Fin k0_t4_loop.trips) (v214 : BitVec 32) : Fin 3 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c24_i32_155 : BitVec 32 := 24#32
  let v212 : BitVec 32 := Scalar.remsi v208 c24_i32_155
  let c16_i32_403 : BitVec 32 := 16#32
  let v846 : BitVec 32 := Scalar.subi v212 c16_i32_403
  let c256_i32_404 : BitVec 32 := 256#32
  let v847 : BitVec 32 := Scalar.muli v846 c256_i32_404
  let v848 : BitVec 32 := v847
  let c1024_i32 : BitVec 32 := 1024#32
  ![v214.toNat, v848.toNat, 1024]

def k0_chk12 (v3 : BitVec 32) (k0_t3 : Fin (k0_t3_loop v3).trips) (k0_t4 : Fin k0_t4_loop.trips) (v214 : BitVec 32) : Prop :=
  (∀ (k0_h16 : k0_cond16 v3 k0_t3 k0_t4 = 1#1), ∀ a, (k0_off96 v3 k0_t3 k0_t4 v214) a + S1x2x256x1024.size a ≤ S8x2x4096x1024.size a) ∧
  (∀ (k0_h16 : k0_cond16 v3 k0_t3 k0_t4 = 1#1), ∀ (hinb : ∀ a, (k0_off96 v3 k0_t3 k0_t4 v214) a + S1x2x256x1024.size a ≤ S8x2x4096x1024.size a), (Rect.unit (s := S8x2x4096x1024) (k0_off96 v3 k0_t3 k0_t4 v214) S1x2x256x1024.size hinb).WholeWords (EltTy.packing .i8)) ∧
  (∀ (k0_h17 : k0_cond17 v3 k0_t3 k0_t4 = 1#1), ∀ a, (k0_off99 v3 k0_t3 k0_t4 v214) a + S1x256x1024.size a ≤ S8x2048x2048.size a) ∧
  (∀ (k0_h17 : k0_cond17 v3 k0_t3 k0_t4 = 1#1), ∀ (hinb : ∀ a, (k0_off99 v3 k0_t3 k0_t4 v214) a + S1x256x1024.size a ≤ S8x2048x2048.size a), (Rect.unit (s := S8x2048x2048) (k0_off99 v3 k0_t3 k0_t4 v214) S1x256x1024.size hinb).WholeWords (EltTy.packing .i8)) ∧
  (∀ (k0_h17 : k0_cond17 v3 k0_t3 k0_t4 = 1#1), ∀ a, (k0_off101 v3 k0_t3 k0_t4 v214) a + S1x256x1024.size a ≤ S8x2048x2048.size a) ∧
  (∀ (k0_h17 : k0_cond17 v3 k0_t3 k0_t4 = 1#1), ∀ (hinb : ∀ a, (k0_off101 v3 k0_t3 k0_t4 v214) a + S1x256x1024.size a ≤ S8x2048x2048.size a), (Rect.unit (s := S8x2048x2048) (k0_off101 v3 k0_t3 k0_t4 v214) S1x256x1024.size hinb).WholeWords (EltTy.packing .i8))
theorem k0_off96_inb : ∀ (v3 : BitVec 32) (k0_t3 : Fin (k0_t3_loop v3).trips) (k0_t4 : Fin k0_t4_loop.trips) (v214 : BitVec 32) (k0_hw12 : k0_chk12 v3 k0_t3 k0_t4 v214), ∀ (k0_h16 : k0_cond16 v3 k0_t3 k0_t4 = 1#1), ∀ a, (k0_off96 v3 k0_t3 k0_t4 v214) a + S1x2x256x1024.size a ≤ S8x2x4096x1024.size a := fun v3 k0_t3 k0_t4 v214 k0_hw12 k0_h16 => k0_hw12.1 k0_h16
theorem k0_off96_wordsi8 : ∀ (v3 : BitVec 32) (k0_t3 : Fin (k0_t3_loop v3).trips) (k0_t4 : Fin k0_t4_loop.trips) (v214 : BitVec 32) (k0_hw12 : k0_chk12 v3 k0_t3 k0_t4 v214), ∀ (k0_h16 : k0_cond16 v3 k0_t3 k0_t4 = 1#1), (Rect.unit (s := S8x2x4096x1024) (k0_off96 v3 k0_t3 k0_t4 v214) S1x2x256x1024.size (k0_off96_inb v3 k0_t3 k0_t4 v214 k0_hw12 k0_h16)).WholeWords (EltTy.packing .i8) := fun v3 k0_t3 k0_t4 v214 k0_hw12 k0_h16 => k0_hw12.2.1 k0_h16 (k0_off96_inb v3 k0_t3 k0_t4 v214 k0_hw12 k0_h16)
theorem k0_off99_inb : ∀ (v3 : BitVec 32) (k0_t3 : Fin (k0_t3_loop v3).trips) (k0_t4 : Fin k0_t4_loop.trips) (v214 : BitVec 32) (k0_hw12 : k0_chk12 v3 k0_t3 k0_t4 v214), ∀ (k0_h17 : k0_cond17 v3 k0_t3 k0_t4 = 1#1), ∀ a, (k0_off99 v3 k0_t3 k0_t4 v214) a + S1x256x1024.size a ≤ S8x2048x2048.size a := fun v3 k0_t3 k0_t4 v214 k0_hw12 k0_h17 => k0_hw12.2.2.1 k0_h17
theorem k0_off99_wordsi8 : ∀ (v3 : BitVec 32) (k0_t3 : Fin (k0_t3_loop v3).trips) (k0_t4 : Fin k0_t4_loop.trips) (v214 : BitVec 32) (k0_hw12 : k0_chk12 v3 k0_t3 k0_t4 v214), ∀ (k0_h17 : k0_cond17 v3 k0_t3 k0_t4 = 1#1), (Rect.unit (s := S8x2048x2048) (k0_off99 v3 k0_t3 k0_t4 v214) S1x256x1024.size (k0_off99_inb v3 k0_t3 k0_t4 v214 k0_hw12 k0_h17)).WholeWords (EltTy.packing .i8) := fun v3 k0_t3 k0_t4 v214 k0_hw12 k0_h17 => k0_hw12.2.2.2.1 k0_h17 (k0_off99_inb v3 k0_t3 k0_t4 v214 k0_hw12 k0_h17)
theorem k0_off101_inb : ∀ (v3 : BitVec 32) (k0_t3 : Fin (k0_t3_loop v3).trips) (k0_t4 : Fin k0_t4_loop.trips) (v214 : BitVec 32) (k0_hw12 : k0_chk12 v3 k0_t3 k0_t4 v214), ∀ (k0_h17 : k0_cond17 v3 k0_t3 k0_t4 = 1#1), ∀ a, (k0_off101 v3 k0_t3 k0_t4 v214) a + S1x256x1024.size a ≤ S8x2048x2048.size a := fun v3 k0_t3 k0_t4 v214 k0_hw12 k0_h17 => k0_hw12.2.2.2.2.1 k0_h17
theorem k0_off101_wordsi8 : ∀ (v3 : BitVec 32) (k0_t3 : Fin (k0_t3_loop v3).trips) (k0_t4 : Fin k0_t4_loop.trips) (v214 : BitVec 32) (k0_hw12 : k0_chk12 v3 k0_t3 k0_t4 v214), ∀ (k0_h17 : k0_cond17 v3 k0_t3 k0_t4 = 1#1), (Rect.unit (s := S8x2048x2048) (k0_off101 v3 k0_t3 k0_t4 v214) S1x256x1024.size (k0_off101_inb v3 k0_t3 k0_t4 v214 k0_hw12 k0_h17)).WholeWords (EltTy.packing .i8) := fun v3 k0_t3 k0_t4 v214 k0_hw12 k0_h17 => k0_hw12.2.2.2.2.2 k0_h17 (k0_off101_inb v3 k0_t3 k0_t4 v214 k0_hw12 k0_h17)

def k0_off102 (v3 : BitVec 32) (k0_t3 : Fin (k0_t3_loop v3).trips) (k0_t4 : Fin k0_t4_loop.trips) : Fin 1 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c24_i32_406 : BitVec 32 := 24#32
  let v849 : BitVec 32 := Scalar.divsi v847 c24_i32_406
  let v851 : Index := Scalar.indexCast v849
  ![v851.toNat]
def k0_cond18 (v3 : BitVec 32) (k0_t3 : Fin (k0_t3_loop v3).trips) (k0_t4 : Fin k0_t4_loop.trips) : BitVec 1 :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_160 : BitVec 32 := 8#32
  let v221 : BitVec 32 := Scalar.addi v208 c8_i32_160
  let c1_i32_161 : BitVec 32 := 1#32
  let v222 : BitVec 32 := Scalar.subi v221 c1_i32_161
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let c24_i32 : BitVec 32 := 24#32
  let v43 : BitVec 32 := Scalar.muli v42 c24_i32
  let v223 : BitVec 1 := Scalar.cmpi .slt v222 v43
  let v224 : BitVec 32 := Scalar.extui v223
  let c0_i32_162 : BitVec 32 := 0#32
  let v225 : BitVec 1 := Scalar.cmpi .ne v224 c0_i32_162
  v225

def k0_cond19 (v3 : BitVec 32) (k0_t3 : Fin (k0_t3_loop v3).trips) (k0_t4 : Fin k0_t4_loop.trips) : BitVec 1 :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c24_i32_407 : BitVec 32 := 24#32
  let v850 : BitVec 32 := Scalar.remsi v847 c24_i32_407
  let c16_i32_408 : BitVec 32 := 16#32
  let v853 : BitVec 1 := Scalar.cmpi .slt v850 c16_i32_408
  let v854 : BitVec 32 := Scalar.extui v853
  let c0_i32_409 : BitVec 32 := 0#32
  let v855 : BitVec 1 := Scalar.cmpi .ne v854 c0_i32_409
  v855

def k0_mult17 (v3 : BitVec 32) (k0_t3 : Fin (k0_t3_loop v3).trips) (k0_t4 : Fin k0_t4_loop.trips) : BitVec 32 :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c24_i32_407 : BitVec 32 := 24#32
  let v850 : BitVec 32 := Scalar.remsi v847 c24_i32_407
  let c256_i32_412 : BitVec 32 := 256#32
  let v859 : BitVec 32 := Scalar.muli v850 c256_i32_412
  v859
def k0_off103 (v3 : BitVec 32) (k0_t3 : Fin (k0_t3_loop v3).trips) (k0_t4 : Fin k0_t4_loop.trips) : Fin 1 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c8_i32_405 : BitVec 32 := 8#32
  let v848 : BitVec 32 := Scalar.remsi v847 c8_i32_405
  ![v848.toNat]
def k0_off104 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c8_i32_405 : BitVec 32 := 8#32
  let v848 : BitVec 32 := Scalar.remsi v847 c8_i32_405
  let c0_i32_413 : BitVec 32 := 0#32
  let c0_i32_414 : BitVec 32 := 0#32
  let c0_i32_415 : BitVec 32 := 0#32
  ![v848.toNat, 0, 0, 0]
def k0_off105 (v3 : BitVec 32) (k0_t3 : Fin (k0_t3_loop v3).trips) (k0_t4 : Fin k0_t4_loop.trips) (v852 : BitVec 32) : Fin 4 → Nat :=
  let c0_i32_416 : BitVec 32 := 0#32
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c24_i32_407 : BitVec 32 := 24#32
  let v850 : BitVec 32 := Scalar.remsi v847 c24_i32_407
  let c256_i32_412 : BitVec 32 := 256#32
  let v859 : BitVec 32 := Scalar.muli v850 c256_i32_412
  let v860 : BitVec 32 := v859
  let c0_i32_417 : BitVec 32 := 0#32
  ![v852.toNat, 0, v860.toNat, 0]

def k0_cond20 (v3 : BitVec 32) (k0_t3 : Fin (k0_t3_loop v3).trips) (k0_t4 : Fin k0_t4_loop.trips) : BitVec 1 :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c24_i32_407 : BitVec 32 := 24#32
  let v850 : BitVec 32 := Scalar.remsi v847 c24_i32_407
  let c16_i32_410 : BitVec 32 := 16#32
  let v856 : BitVec 1 := Scalar.cmpi .sge v850 c16_i32_410
  let v857 : BitVec 32 := Scalar.extui v856
  let c0_i32_411 : BitVec 32 := 0#32
  let v858 : BitVec 1 := Scalar.cmpi .ne v857 c0_i32_411
  v858

def k0_mult18 (v3 : BitVec 32) (k0_t3 : Fin (k0_t3_loop v3).trips) (k0_t4 : Fin k0_t4_loop.trips) : BitVec 32 :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c24_i32_407 : BitVec 32 := 24#32
  let v850 : BitVec 32 := Scalar.remsi v847 c24_i32_407
  let c16_i32_412 : BitVec 32 := 16#32
  let v859 : BitVec 32 := Scalar.subi v850 c16_i32_412
  let c256_i32_413 : BitVec 32 := 256#32
  let v860 : BitVec 32 := Scalar.muli v859 c256_i32_413
  v860
def k0_off106 (v3 : BitVec 32) (k0_t3 : Fin (k0_t3_loop v3).trips) (k0_t4 : Fin k0_t4_loop.trips) : Fin 1 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c8_i32_405 : BitVec 32 := 8#32
  let v848 : BitVec 32 := Scalar.remsi v847 c8_i32_405
  ![v848.toNat]
def k0_off107 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c8_i32_405 : BitVec 32 := 8#32
  let v848 : BitVec 32 := Scalar.remsi v847 c8_i32_405
  let c0_i32_414 : BitVec 32 := 0#32
  let c0_i32_415 : BitVec 32 := 0#32
  let c0_i32_416 : BitVec 32 := 0#32
  ![v848.toNat, 0, 0, 0]
def k0_off108 (v3 : BitVec 32) (k0_t3 : Fin (k0_t3_loop v3).trips) (k0_t4 : Fin k0_t4_loop.trips) (v852 : BitVec 32) : Fin 3 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c24_i32_407 : BitVec 32 := 24#32
  let v850 : BitVec 32 := Scalar.remsi v847 c24_i32_407
  let c16_i32_412 : BitVec 32 := 16#32
  let v859 : BitVec 32 := Scalar.subi v850 c16_i32_412
  let c256_i32_413 : BitVec 32 := 256#32
  let v860 : BitVec 32 := Scalar.muli v859 c256_i32_413
  let v861 : BitVec 32 := v860
  let c0_i32_417 : BitVec 32 := 0#32
  ![v852.toNat, v861.toNat, 0]
def k0_off109 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c8_i32_405 : BitVec 32 := 8#32
  let v848 : BitVec 32 := Scalar.remsi v847 c8_i32_405
  let c1_i32_418 : BitVec 32 := 1#32
  let c0_i32_419 : BitVec 32 := 0#32
  let c0_i32_420 : BitVec 32 := 0#32
  ![v848.toNat, 1, 0, 0]
def k0_off110 (v3 : BitVec 32) (k0_t3 : Fin (k0_t3_loop v3).trips) (k0_t4 : Fin k0_t4_loop.trips) (v852 : BitVec 32) : Fin 3 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c24_i32_407 : BitVec 32 := 24#32
  let v850 : BitVec 32 := Scalar.remsi v847 c24_i32_407
  let c16_i32_412 : BitVec 32 := 16#32
  let v859 : BitVec 32 := Scalar.subi v850 c16_i32_412
  let c256_i32_413 : BitVec 32 := 256#32
  let v860 : BitVec 32 := Scalar.muli v859 c256_i32_413
  let v861 : BitVec 32 := v860
  let c1024_i32 : BitVec 32 := 1024#32
  ![v852.toNat, v861.toNat, 1024]

def k0_chk13 (v3 : BitVec 32) (k0_t3 : Fin (k0_t3_loop v3).trips) (k0_t4 : Fin k0_t4_loop.trips) (v852 : BitVec 32) : Prop :=
  (∀ (k0_h18 : k0_cond18 v3 k0_t3 k0_t4 = 1#1), ∀ (k0_h19 : k0_cond19 v3 k0_t3 k0_t4 = 1#1), ∀ a, (k0_off105 v3 k0_t3 k0_t4 v852) a + S1x2x256x1024.size a ≤ S8x2x4096x1024.size a) ∧
  (∀ (k0_h18 : k0_cond18 v3 k0_t3 k0_t4 = 1#1), ∀ (k0_h19 : k0_cond19 v3 k0_t3 k0_t4 = 1#1), ∀ (hinb : ∀ a, (k0_off105 v3 k0_t3 k0_t4 v852) a + S1x2x256x1024.size a ≤ S8x2x4096x1024.size a), (Rect.unit (s := S8x2x4096x1024) (k0_off105 v3 k0_t3 k0_t4 v852) S1x2x256x1024.size hinb).WholeWords (EltTy.packing .i8)) ∧
  (∀ (k0_h18 : k0_cond18 v3 k0_t3 k0_t4 = 1#1), ∀ (k0_h20 : k0_cond20 v3 k0_t3 k0_t4 = 1#1), ∀ a, (k0_off108 v3 k0_t3 k0_t4 v852) a + S1x256x1024.size a ≤ S8x2048x2048.size a) ∧
  (∀ (k0_h18 : k0_cond18 v3 k0_t3 k0_t4 = 1#1), ∀ (k0_h20 : k0_cond20 v3 k0_t3 k0_t4 = 1#1), ∀ (hinb : ∀ a, (k0_off108 v3 k0_t3 k0_t4 v852) a + S1x256x1024.size a ≤ S8x2048x2048.size a), (Rect.unit (s := S8x2048x2048) (k0_off108 v3 k0_t3 k0_t4 v852) S1x256x1024.size hinb).WholeWords (EltTy.packing .i8)) ∧
  (∀ (k0_h18 : k0_cond18 v3 k0_t3 k0_t4 = 1#1), ∀ (k0_h20 : k0_cond20 v3 k0_t3 k0_t4 = 1#1), ∀ a, (k0_off110 v3 k0_t3 k0_t4 v852) a + S1x256x1024.size a ≤ S8x2048x2048.size a) ∧
  (∀ (k0_h18 : k0_cond18 v3 k0_t3 k0_t4 = 1#1), ∀ (k0_h20 : k0_cond20 v3 k0_t3 k0_t4 = 1#1), ∀ (hinb : ∀ a, (k0_off110 v3 k0_t3 k0_t4 v852) a + S1x256x1024.size a ≤ S8x2048x2048.size a), (Rect.unit (s := S8x2048x2048) (k0_off110 v3 k0_t3 k0_t4 v852) S1x256x1024.size hinb).WholeWords (EltTy.packing .i8))
theorem k0_off105_inb : ∀ (v3 : BitVec 32) (k0_t3 : Fin (k0_t3_loop v3).trips) (k0_t4 : Fin k0_t4_loop.trips) (v852 : BitVec 32) (k0_hw13 : k0_chk13 v3 k0_t3 k0_t4 v852), ∀ (k0_h18 : k0_cond18 v3 k0_t3 k0_t4 = 1#1), ∀ (k0_h19 : k0_cond19 v3 k0_t3 k0_t4 = 1#1), ∀ a, (k0_off105 v3 k0_t3 k0_t4 v852) a + S1x2x256x1024.size a ≤ S8x2x4096x1024.size a := fun v3 k0_t3 k0_t4 v852 k0_hw13 k0_h18 k0_h19 => k0_hw13.1 k0_h18 k0_h19
theorem k0_off105_wordsi8 : ∀ (v3 : BitVec 32) (k0_t3 : Fin (k0_t3_loop v3).trips) (k0_t4 : Fin k0_t4_loop.trips) (v852 : BitVec 32) (k0_hw13 : k0_chk13 v3 k0_t3 k0_t4 v852), ∀ (k0_h18 : k0_cond18 v3 k0_t3 k0_t4 = 1#1), ∀ (k0_h19 : k0_cond19 v3 k0_t3 k0_t4 = 1#1), (Rect.unit (s := S8x2x4096x1024) (k0_off105 v3 k0_t3 k0_t4 v852) S1x2x256x1024.size (k0_off105_inb v3 k0_t3 k0_t4 v852 k0_hw13 k0_h18 k0_h19)).WholeWords (EltTy.packing .i8) := fun v3 k0_t3 k0_t4 v852 k0_hw13 k0_h18 k0_h19 => k0_hw13.2.1 k0_h18 k0_h19 (k0_off105_inb v3 k0_t3 k0_t4 v852 k0_hw13 k0_h18 k0_h19)
theorem k0_off108_inb : ∀ (v3 : BitVec 32) (k0_t3 : Fin (k0_t3_loop v3).trips) (k0_t4 : Fin k0_t4_loop.trips) (v852 : BitVec 32) (k0_hw13 : k0_chk13 v3 k0_t3 k0_t4 v852), ∀ (k0_h18 : k0_cond18 v3 k0_t3 k0_t4 = 1#1), ∀ (k0_h20 : k0_cond20 v3 k0_t3 k0_t4 = 1#1), ∀ a, (k0_off108 v3 k0_t3 k0_t4 v852) a + S1x256x1024.size a ≤ S8x2048x2048.size a := fun v3 k0_t3 k0_t4 v852 k0_hw13 k0_h18 k0_h20 => k0_hw13.2.2.1 k0_h18 k0_h20
theorem k0_off108_wordsi8 : ∀ (v3 : BitVec 32) (k0_t3 : Fin (k0_t3_loop v3).trips) (k0_t4 : Fin k0_t4_loop.trips) (v852 : BitVec 32) (k0_hw13 : k0_chk13 v3 k0_t3 k0_t4 v852), ∀ (k0_h18 : k0_cond18 v3 k0_t3 k0_t4 = 1#1), ∀ (k0_h20 : k0_cond20 v3 k0_t3 k0_t4 = 1#1), (Rect.unit (s := S8x2048x2048) (k0_off108 v3 k0_t3 k0_t4 v852) S1x256x1024.size (k0_off108_inb v3 k0_t3 k0_t4 v852 k0_hw13 k0_h18 k0_h20)).WholeWords (EltTy.packing .i8) := fun v3 k0_t3 k0_t4 v852 k0_hw13 k0_h18 k0_h20 => k0_hw13.2.2.2.1 k0_h18 k0_h20 (k0_off108_inb v3 k0_t3 k0_t4 v852 k0_hw13 k0_h18 k0_h20)
theorem k0_off110_inb : ∀ (v3 : BitVec 32) (k0_t3 : Fin (k0_t3_loop v3).trips) (k0_t4 : Fin k0_t4_loop.trips) (v852 : BitVec 32) (k0_hw13 : k0_chk13 v3 k0_t3 k0_t4 v852), ∀ (k0_h18 : k0_cond18 v3 k0_t3 k0_t4 = 1#1), ∀ (k0_h20 : k0_cond20 v3 k0_t3 k0_t4 = 1#1), ∀ a, (k0_off110 v3 k0_t3 k0_t4 v852) a + S1x256x1024.size a ≤ S8x2048x2048.size a := fun v3 k0_t3 k0_t4 v852 k0_hw13 k0_h18 k0_h20 => k0_hw13.2.2.2.2.1 k0_h18 k0_h20
theorem k0_off110_wordsi8 : ∀ (v3 : BitVec 32) (k0_t3 : Fin (k0_t3_loop v3).trips) (k0_t4 : Fin k0_t4_loop.trips) (v852 : BitVec 32) (k0_hw13 : k0_chk13 v3 k0_t3 k0_t4 v852), ∀ (k0_h18 : k0_cond18 v3 k0_t3 k0_t4 = 1#1), ∀ (k0_h20 : k0_cond20 v3 k0_t3 k0_t4 = 1#1), (Rect.unit (s := S8x2048x2048) (k0_off110 v3 k0_t3 k0_t4 v852) S1x256x1024.size (k0_off110_inb v3 k0_t3 k0_t4 v852 k0_hw13 k0_h18 k0_h20)).WholeWords (EltTy.packing .i8) := fun v3 k0_t3 k0_t4 v852 k0_hw13 k0_h18 k0_h20 => k0_hw13.2.2.2.2.2 k0_h18 k0_h20 (k0_off110_inb v3 k0_t3 k0_t4 v852 k0_hw13 k0_h18 k0_h20)

def k0_mult19 (k0_t4 : Fin k0_t4_loop.trips) : BitVec 32 :=
  let c0_i32_163 : BitVec 32 := 0#32
  let c0_i32_128 : BitVec 32 := 0#32
  let c1_i32_130 : BitVec 32 := 1#32
  let arg20 : BitVec 32 := Scf.iv c0_i32_128 c1_i32_130 k0_t4
  let c256_i32 : BitVec 32 := 256#32
  let v226 : BitVec 32 := Scalar.muli arg20 c256_i32
  let v227 : BitVec 32 := Scalar.addi c0_i32_163 v226
  v227
def k0_off111 (v3 : BitVec 32) (k0_t3 : Fin (k0_t3_loop v3).trips) (k0_t4 : Fin k0_t4_loop.trips) (c0_i32_163 : BitVec 32) : Fin 3 → Nat :=
  let c0_i32_107 : BitVec 32 := 0#32
  let c1_i32_109 : BitVec 32 := 1#32
  let arg19 : BitVec 32 := Scf.iv c0_i32_107 c1_i32_109 k0_t3
  let c2_i32_115 : BitVec 32 := 2#32
  let v147 : BitVec 32 := Scalar.remsi arg19 c2_i32_115
  let v229 : Index := Scalar.indexCast v147
  let c0_164 : Index := 0#32
  let c0_i32_128 : BitVec 32 := 0#32
  let c1_i32_130 : BitVec 32 := 1#32
  let arg20 : BitVec 32 := Scf.iv c0_i32_128 c1_i32_130 k0_t4
  let c256_i32 : BitVec 32 := 256#32
  let v226 : BitVec 32 := Scalar.muli arg20 c256_i32
  let v227 : BitVec 32 := Scalar.addi c0_i32_163 v226
  let v228 : BitVec 32 := v227
  let v230 : Index := Scalar.indexCast v228
  ![v229.toNat, 0, v230.toNat]
def k0_mult20 (k0_t4 : Fin k0_t4_loop.trips) : BitVec 32 :=
  let c4096_i32 : BitVec 32 := 4096#32
  let c0_i32_128 : BitVec 32 := 0#32
  let c1_i32_130 : BitVec 32 := 1#32
  let arg20 : BitVec 32 := Scf.iv c0_i32_128 c1_i32_130 k0_t4
  let c256_i32_168 : BitVec 32 := 256#32
  let v236 : BitVec 32 := Scalar.muli arg20 c256_i32_168
  let v237 : BitVec 32 := Scalar.addi c4096_i32 v236
  v237
def k0_off112 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_152 : BitVec 32 := 8#32
  let v209 : BitVec 32 := Scalar.remsi v208 c8_i32_152
  let v246 : Index := Scalar.indexCast v209
  let c0_172 : Index := 0#32
  let c0_173 : Index := 0#32
  let c0_174 : Index := 0#32
  ![v246.toNat, 0, 0, 0]
def k0_off113 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_152 : BitVec 32 := 8#32
  let v209 : BitVec 32 := Scalar.remsi v208 c8_i32_152
  let v282 : Index := Scalar.indexCast v209
  let c0_186 : Index := 0#32
  let c0_187 : Index := 0#32
  let c128 : Index := 128#32
  ![v282.toNat, 0, 0, 128]
def k0_off114 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_152 : BitVec 32 := 8#32
  let v209 : BitVec 32 := Scalar.remsi v208 c8_i32_152
  let v319 : Index := Scalar.indexCast v209
  let c0_198 : Index := 0#32
  let c0_199 : Index := 0#32
  let c256_200 : Index := 256#32
  ![v319.toNat, 0, 0, 256]
def k0_off115 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_152 : BitVec 32 := 8#32
  let v209 : BitVec 32 := Scalar.remsi v208 c8_i32_152
  let v356 : Index := Scalar.indexCast v209
  let c0_211 : Index := 0#32
  let c0_212 : Index := 0#32
  let c384 : Index := 384#32
  ![v356.toNat, 0, 0, 384]
def k0_off116 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_152 : BitVec 32 := 8#32
  let v209 : BitVec 32 := Scalar.remsi v208 c8_i32_152
  let v393 : Index := Scalar.indexCast v209
  let c0_223 : Index := 0#32
  let c0_224 : Index := 0#32
  let c512_225 : Index := 512#32
  ![v393.toNat, 0, 0, 512]
def k0_off117 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_152 : BitVec 32 := 8#32
  let v209 : BitVec 32 := Scalar.remsi v208 c8_i32_152
  let v430 : Index := Scalar.indexCast v209
  let c0_236 : Index := 0#32
  let c0_237 : Index := 0#32
  let c640 : Index := 640#32
  ![v430.toNat, 0, 0, 640]
def k0_off118 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_152 : BitVec 32 := 8#32
  let v209 : BitVec 32 := Scalar.remsi v208 c8_i32_152
  let v467 : Index := Scalar.indexCast v209
  let c0_248 : Index := 0#32
  let c0_249 : Index := 0#32
  let c768_250 : Index := 768#32
  ![v467.toNat, 0, 0, 768]
def k0_off119 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_152 : BitVec 32 := 8#32
  let v209 : BitVec 32 := Scalar.remsi v208 c8_i32_152
  let v504 : Index := Scalar.indexCast v209
  let c0_261 : Index := 0#32
  let c0_262 : Index := 0#32
  let c896 : Index := 896#32
  ![v504.toNat, 0, 0, 896]
def k0_off120 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_152 : BitVec 32 := 8#32
  let v209 : BitVec 32 := Scalar.remsi v208 c8_i32_152
  let v541 : Index := Scalar.indexCast v209
  let c1_273 : Index := 1#32
  let c0_274 : Index := 0#32
  let c0_275 : Index := 0#32
  ![v541.toNat, 1, 0, 0]
def k0_off121 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_152 : BitVec 32 := 8#32
  let v209 : BitVec 32 := Scalar.remsi v208 c8_i32_152
  let v577 : Index := Scalar.indexCast v209
  let c1_289 : Index := 1#32
  let c0_290 : Index := 0#32
  let c128_291 : Index := 128#32
  ![v577.toNat, 1, 0, 128]
def k0_off122 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_152 : BitVec 32 := 8#32
  let v209 : BitVec 32 := Scalar.remsi v208 c8_i32_152
  let v614 : Index := Scalar.indexCast v209
  let c1_305 : Index := 1#32
  let c0_306 : Index := 0#32
  let c256_307 : Index := 256#32
  ![v614.toNat, 1, 0, 256]
def k0_off123 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_152 : BitVec 32 := 8#32
  let v209 : BitVec 32 := Scalar.remsi v208 c8_i32_152
  let v651 : Index := Scalar.indexCast v209
  let c1_321 : Index := 1#32
  let c0_322 : Index := 0#32
  let c384_323 : Index := 384#32
  ![v651.toNat, 1, 0, 384]
def k0_off124 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_152 : BitVec 32 := 8#32
  let v209 : BitVec 32 := Scalar.remsi v208 c8_i32_152
  let v688 : Index := Scalar.indexCast v209
  let c1_337 : Index := 1#32
  let c0_338 : Index := 0#32
  let c512_339 : Index := 512#32
  ![v688.toNat, 1, 0, 512]
def k0_off125 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_152 : BitVec 32 := 8#32
  let v209 : BitVec 32 := Scalar.remsi v208 c8_i32_152
  let v725 : Index := Scalar.indexCast v209
  let c1_353 : Index := 1#32
  let c0_354 : Index := 0#32
  let c640_355 : Index := 640#32
  ![v725.toNat, 1, 0, 640]
def k0_off126 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_152 : BitVec 32 := 8#32
  let v209 : BitVec 32 := Scalar.remsi v208 c8_i32_152
  let v762 : Index := Scalar.indexCast v209
  let c1_369 : Index := 1#32
  let c0_370 : Index := 0#32
  let c768_371 : Index := 768#32
  ![v762.toNat, 1, 0, 768]
def k0_off127 (v3 : BitVec 32) (k0_t3 : Fin (k0_t3_loop v3).trips) (k0_t4 : Fin k0_t4_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t4
  let v208 : BitVec 32 := Scalar.addi v207 arg20
  let c8_i32_152 : BitVec 32 := 8#32
  let v209 : BitVec 32 := Scalar.remsi v208 c8_i32_152
  let v799 : Index := Scalar.indexCast v209
  let c1_385 : Index := 1#32
  let c0_386 : Index := 0#32
  let c896_387 : Index := 896#32
  ![v799.toNat, 1, 0, 896]
def k0_mult21 (k0_t4 : Fin k0_t4_loop.trips) : BitVec 32 :=
  let c0_i32_128 : BitVec 32 := 0#32
  let c1_i32_130 : BitVec 32 := 1#32
  let arg20 : BitVec 32 := Scf.iv c0_i32_128 c1_i32_130 k0_t4
  let c256_i32_401 : BitVec 32 := 256#32
  let v840 : BitVec 32 := Scalar.muli arg20 c256_i32_401
  v840
def k0_off128 (k0_t4 : Fin k0_t4_loop.trips) : Fin 2 → Nat :=
  let c0_402 : Index := 0#32
  let c0_i32_128 : BitVec 32 := 0#32
  let c1_i32_130 : BitVec 32 := 1#32
  let arg20 : BitVec 32 := Scf.iv c0_i32_128 c1_i32_130 k0_t4
  let c256_i32_401 : BitVec 32 := 256#32
  let v840 : BitVec 32 := Scalar.muli arg20 c256_i32_401
  let v841 : BitVec 32 := v840
  let v842 : Index := Scalar.indexCast v841
  ![0, v842.toNat]
def k0_off129 (v3 : BitVec 32) (k0_t3 : Fin (k0_t3_loop v3).trips) : Fin 1 → Nat :=
  let c0_i32_107 : BitVec 32 := 0#32
  let c1_i32_109 : BitVec 32 := 1#32
  let arg19 : BitVec 32 := Scf.iv c0_i32_107 c1_i32_109 k0_t3
  let v168 : Index := Scalar.indexCast arg19
  ![v168.toNat]
@[reducible] def k0_t5_loop : Scf.Loop 32 :=
  let c0_i32_147 : BitVec 32 := 0#32
  let c8_i32_148 : BitVec 32 := 8#32
  let v206 : BitVec 32 := Scalar.addi c0_i32_147 c8_i32_148
  let c1_i32_149 : BitVec 32 := 1#32
  ⟨c0_i32_147, v206, c1_i32_149⟩
def k0_off130 (v3 : BitVec 32) (k0_t3 : Fin (k0_t3_loop v3).trips) (k0_t5 : Fin k0_t5_loop.trips) : Fin 1 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c24_i32_155 : BitVec 32 := 24#32
  let v212 : BitVec 32 := Scalar.divsi v209 c24_i32_155
  let v214 : Index := Scalar.indexCast v212
  ![v214.toNat]
def k0_cond21 (v3 : BitVec 32) (k0_t3 : Fin (k0_t3_loop v3).trips) (k0_t5 : Fin k0_t5_loop.trips) : BitVec 1 :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c24_i32_156 : BitVec 32 := 24#32
  let v213 : BitVec 32 := Scalar.remsi v209 c24_i32_156
  let c16_i32_157 : BitVec 32 := 16#32
  let v216 : BitVec 1 := Scalar.cmpi .slt v213 c16_i32_157
  let v217 : BitVec 32 := Scalar.extui v216
  let c0_i32_158 : BitVec 32 := 0#32
  let v218 : BitVec 1 := Scalar.cmpi .ne v217 c0_i32_158
  v218

def k0_mult22 (v3 : BitVec 32) (k0_t3 : Fin (k0_t3_loop v3).trips) (k0_t5 : Fin k0_t5_loop.trips) : BitVec 32 :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c24_i32_156 : BitVec 32 := 24#32
  let v213 : BitVec 32 := Scalar.remsi v209 c24_i32_156
  let c256_i32_394 : BitVec 32 := 256#32
  let v828 : BitVec 32 := Scalar.muli v213 c256_i32_394
  v828
def k0_off131 (v3 : BitVec 32) (k0_t3 : Fin (k0_t3_loop v3).trips) (k0_t5 : Fin k0_t5_loop.trips) : Fin 1 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_154 : BitVec 32 := 8#32
  let v211 : BitVec 32 := Scalar.remsi v209 c8_i32_154
  ![v211.toNat]
def k0_off132 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_154 : BitVec 32 := 8#32
  let v211 : BitVec 32 := Scalar.remsi v209 c8_i32_154
  let c0_i32_395 : BitVec 32 := 0#32
  let c0_i32_396 : BitVec 32 := 0#32
  let c0_i32_397 : BitVec 32 := 0#32
  ![v211.toNat, 0, 0, 0]
def k0_off133 (v3 : BitVec 32) (k0_t3 : Fin (k0_t3_loop v3).trips) (k0_t5 : Fin k0_t5_loop.trips) (v215 : BitVec 32) : Fin 4 → Nat :=
  let c0_i32_398 : BitVec 32 := 0#32
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c24_i32_156 : BitVec 32 := 24#32
  let v213 : BitVec 32 := Scalar.remsi v209 c24_i32_156
  let c256_i32_394 : BitVec 32 := 256#32
  let v828 : BitVec 32 := Scalar.muli v213 c256_i32_394
  let v829 : BitVec 32 := v828
  let c0_i32_399 : BitVec 32 := 0#32
  ![v215.toNat, 0, v829.toNat, 0]

def k0_cond22 (v3 : BitVec 32) (k0_t3 : Fin (k0_t3_loop v3).trips) (k0_t5 : Fin k0_t5_loop.trips) : BitVec 1 :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c24_i32_156 : BitVec 32 := 24#32
  let v213 : BitVec 32 := Scalar.remsi v209 c24_i32_156
  let c16_i32_159 : BitVec 32 := 16#32
  let v219 : BitVec 1 := Scalar.cmpi .sge v213 c16_i32_159
  let v220 : BitVec 32 := Scalar.extui v219
  let c0_i32_160 : BitVec 32 := 0#32
  let v221 : BitVec 1 := Scalar.cmpi .ne v220 c0_i32_160
  v221

def k0_mult23 (v3 : BitVec 32) (k0_t3 : Fin (k0_t3_loop v3).trips) (k0_t5 : Fin k0_t5_loop.trips) : BitVec 32 :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c24_i32_156 : BitVec 32 := 24#32
  let v213 : BitVec 32 := Scalar.remsi v209 c24_i32_156
  let c16_i32_394 : BitVec 32 := 16#32
  let v828 : BitVec 32 := Scalar.subi v213 c16_i32_394
  let c256_i32_395 : BitVec 32 := 256#32
  let v829 : BitVec 32 := Scalar.muli v828 c256_i32_395
  v829
def k0_off134 (v3 : BitVec 32) (k0_t3 : Fin (k0_t3_loop v3).trips) (k0_t5 : Fin k0_t5_loop.trips) : Fin 1 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_154 : BitVec 32 := 8#32
  let v211 : BitVec 32 := Scalar.remsi v209 c8_i32_154
  ![v211.toNat]
def k0_off135 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_154 : BitVec 32 := 8#32
  let v211 : BitVec 32 := Scalar.remsi v209 c8_i32_154
  let c0_i32_396 : BitVec 32 := 0#32
  let c0_i32_397 : BitVec 32 := 0#32
  let c0_i32_398 : BitVec 32 := 0#32
  ![v211.toNat, 0, 0, 0]
def k0_off136 (v3 : BitVec 32) (k0_t3 : Fin (k0_t3_loop v3).trips) (k0_t5 : Fin k0_t5_loop.trips) (v215 : BitVec 32) : Fin 3 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c24_i32_156 : BitVec 32 := 24#32
  let v213 : BitVec 32 := Scalar.remsi v209 c24_i32_156
  let c16_i32_394 : BitVec 32 := 16#32
  let v828 : BitVec 32 := Scalar.subi v213 c16_i32_394
  let c256_i32_395 : BitVec 32 := 256#32
  let v829 : BitVec 32 := Scalar.muli v828 c256_i32_395
  let v830 : BitVec 32 := v829
  let c0_i32_399 : BitVec 32 := 0#32
  ![v215.toNat, v830.toNat, 0]
def k0_off137 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_154 : BitVec 32 := 8#32
  let v211 : BitVec 32 := Scalar.remsi v209 c8_i32_154
  let c1_i32_400 : BitVec 32 := 1#32
  let c0_i32_401 : BitVec 32 := 0#32
  let c0_i32_402 : BitVec 32 := 0#32
  ![v211.toNat, 1, 0, 0]
def k0_off138 (v3 : BitVec 32) (k0_t3 : Fin (k0_t3_loop v3).trips) (k0_t5 : Fin k0_t5_loop.trips) (v215 : BitVec 32) : Fin 3 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c24_i32_156 : BitVec 32 := 24#32
  let v213 : BitVec 32 := Scalar.remsi v209 c24_i32_156
  let c16_i32_394 : BitVec 32 := 16#32
  let v828 : BitVec 32 := Scalar.subi v213 c16_i32_394
  let c256_i32_395 : BitVec 32 := 256#32
  let v829 : BitVec 32 := Scalar.muli v828 c256_i32_395
  let v830 : BitVec 32 := v829
  let c1024_i32 : BitVec 32 := 1024#32
  ![v215.toNat, v830.toNat, 1024]

def k0_chk14 (v3 : BitVec 32) (k0_t3 : Fin (k0_t3_loop v3).trips) (k0_t5 : Fin k0_t5_loop.trips) (v215 : BitVec 32) : Prop :=
  (∀ (k0_h21 : k0_cond21 v3 k0_t3 k0_t5 = 1#1), ∀ a, (k0_off133 v3 k0_t3 k0_t5 v215) a + S1x2x256x1024.size a ≤ S8x2x4096x1024.size a) ∧
  (∀ (k0_h21 : k0_cond21 v3 k0_t3 k0_t5 = 1#1), ∀ (hinb : ∀ a, (k0_off133 v3 k0_t3 k0_t5 v215) a + S1x2x256x1024.size a ≤ S8x2x4096x1024.size a), (Rect.unit (s := S8x2x4096x1024) (k0_off133 v3 k0_t3 k0_t5 v215) S1x2x256x1024.size hinb).WholeWords (EltTy.packing .i8)) ∧
  (∀ (k0_h22 : k0_cond22 v3 k0_t3 k0_t5 = 1#1), ∀ a, (k0_off136 v3 k0_t3 k0_t5 v215) a + S1x256x1024.size a ≤ S8x2048x2048.size a) ∧
  (∀ (k0_h22 : k0_cond22 v3 k0_t3 k0_t5 = 1#1), ∀ (hinb : ∀ a, (k0_off136 v3 k0_t3 k0_t5 v215) a + S1x256x1024.size a ≤ S8x2048x2048.size a), (Rect.unit (s := S8x2048x2048) (k0_off136 v3 k0_t3 k0_t5 v215) S1x256x1024.size hinb).WholeWords (EltTy.packing .i8)) ∧
  (∀ (k0_h22 : k0_cond22 v3 k0_t3 k0_t5 = 1#1), ∀ a, (k0_off138 v3 k0_t3 k0_t5 v215) a + S1x256x1024.size a ≤ S8x2048x2048.size a) ∧
  (∀ (k0_h22 : k0_cond22 v3 k0_t3 k0_t5 = 1#1), ∀ (hinb : ∀ a, (k0_off138 v3 k0_t3 k0_t5 v215) a + S1x256x1024.size a ≤ S8x2048x2048.size a), (Rect.unit (s := S8x2048x2048) (k0_off138 v3 k0_t3 k0_t5 v215) S1x256x1024.size hinb).WholeWords (EltTy.packing .i8))
theorem k0_off133_inb : ∀ (v3 : BitVec 32) (k0_t3 : Fin (k0_t3_loop v3).trips) (k0_t5 : Fin k0_t5_loop.trips) (v215 : BitVec 32) (k0_hw14 : k0_chk14 v3 k0_t3 k0_t5 v215), ∀ (k0_h21 : k0_cond21 v3 k0_t3 k0_t5 = 1#1), ∀ a, (k0_off133 v3 k0_t3 k0_t5 v215) a + S1x2x256x1024.size a ≤ S8x2x4096x1024.size a := fun v3 k0_t3 k0_t5 v215 k0_hw14 k0_h21 => k0_hw14.1 k0_h21
theorem k0_off133_wordsi8 : ∀ (v3 : BitVec 32) (k0_t3 : Fin (k0_t3_loop v3).trips) (k0_t5 : Fin k0_t5_loop.trips) (v215 : BitVec 32) (k0_hw14 : k0_chk14 v3 k0_t3 k0_t5 v215), ∀ (k0_h21 : k0_cond21 v3 k0_t3 k0_t5 = 1#1), (Rect.unit (s := S8x2x4096x1024) (k0_off133 v3 k0_t3 k0_t5 v215) S1x2x256x1024.size (k0_off133_inb v3 k0_t3 k0_t5 v215 k0_hw14 k0_h21)).WholeWords (EltTy.packing .i8) := fun v3 k0_t3 k0_t5 v215 k0_hw14 k0_h21 => k0_hw14.2.1 k0_h21 (k0_off133_inb v3 k0_t3 k0_t5 v215 k0_hw14 k0_h21)
theorem k0_off136_inb : ∀ (v3 : BitVec 32) (k0_t3 : Fin (k0_t3_loop v3).trips) (k0_t5 : Fin k0_t5_loop.trips) (v215 : BitVec 32) (k0_hw14 : k0_chk14 v3 k0_t3 k0_t5 v215), ∀ (k0_h22 : k0_cond22 v3 k0_t3 k0_t5 = 1#1), ∀ a, (k0_off136 v3 k0_t3 k0_t5 v215) a + S1x256x1024.size a ≤ S8x2048x2048.size a := fun v3 k0_t3 k0_t5 v215 k0_hw14 k0_h22 => k0_hw14.2.2.1 k0_h22
theorem k0_off136_wordsi8 : ∀ (v3 : BitVec 32) (k0_t3 : Fin (k0_t3_loop v3).trips) (k0_t5 : Fin k0_t5_loop.trips) (v215 : BitVec 32) (k0_hw14 : k0_chk14 v3 k0_t3 k0_t5 v215), ∀ (k0_h22 : k0_cond22 v3 k0_t3 k0_t5 = 1#1), (Rect.unit (s := S8x2048x2048) (k0_off136 v3 k0_t3 k0_t5 v215) S1x256x1024.size (k0_off136_inb v3 k0_t3 k0_t5 v215 k0_hw14 k0_h22)).WholeWords (EltTy.packing .i8) := fun v3 k0_t3 k0_t5 v215 k0_hw14 k0_h22 => k0_hw14.2.2.2.1 k0_h22 (k0_off136_inb v3 k0_t3 k0_t5 v215 k0_hw14 k0_h22)
theorem k0_off138_inb : ∀ (v3 : BitVec 32) (k0_t3 : Fin (k0_t3_loop v3).trips) (k0_t5 : Fin k0_t5_loop.trips) (v215 : BitVec 32) (k0_hw14 : k0_chk14 v3 k0_t3 k0_t5 v215), ∀ (k0_h22 : k0_cond22 v3 k0_t3 k0_t5 = 1#1), ∀ a, (k0_off138 v3 k0_t3 k0_t5 v215) a + S1x256x1024.size a ≤ S8x2048x2048.size a := fun v3 k0_t3 k0_t5 v215 k0_hw14 k0_h22 => k0_hw14.2.2.2.2.1 k0_h22
theorem k0_off138_wordsi8 : ∀ (v3 : BitVec 32) (k0_t3 : Fin (k0_t3_loop v3).trips) (k0_t5 : Fin k0_t5_loop.trips) (v215 : BitVec 32) (k0_hw14 : k0_chk14 v3 k0_t3 k0_t5 v215), ∀ (k0_h22 : k0_cond22 v3 k0_t3 k0_t5 = 1#1), (Rect.unit (s := S8x2048x2048) (k0_off138 v3 k0_t3 k0_t5 v215) S1x256x1024.size (k0_off138_inb v3 k0_t3 k0_t5 v215 k0_hw14 k0_h22)).WholeWords (EltTy.packing .i8) := fun v3 k0_t3 k0_t5 v215 k0_hw14 k0_h22 => k0_hw14.2.2.2.2.2 k0_h22 (k0_off138_inb v3 k0_t3 k0_t5 v215 k0_hw14 k0_h22)

def k0_off139 (v3 : BitVec 32) (k0_t3 : Fin (k0_t3_loop v3).trips) (k0_t5 : Fin k0_t5_loop.trips) : Fin 1 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c24_i32_397 : BitVec 32 := 24#32
  let v831 : BitVec 32 := Scalar.divsi v829 c24_i32_397
  let v833 : Index := Scalar.indexCast v831
  ![v833.toNat]
def k0_cond23 (v3 : BitVec 32) (k0_t3 : Fin (k0_t3_loop v3).trips) (k0_t5 : Fin k0_t5_loop.trips) : BitVec 1 :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_161 : BitVec 32 := 8#32
  let v222 : BitVec 32 := Scalar.addi v209 c8_i32_161
  let c1_i32_162 : BitVec 32 := 1#32
  let v223 : BitVec 32 := Scalar.subi v222 c1_i32_162
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let c24_i32 : BitVec 32 := 24#32
  let v43 : BitVec 32 := Scalar.muli v42 c24_i32
  let v224 : BitVec 1 := Scalar.cmpi .slt v223 v43
  let v225 : BitVec 32 := Scalar.extui v224
  let c0_i32_163 : BitVec 32 := 0#32
  let v226 : BitVec 1 := Scalar.cmpi .ne v225 c0_i32_163
  v226

def k0_cond24 (v3 : BitVec 32) (k0_t3 : Fin (k0_t3_loop v3).trips) (k0_t5 : Fin k0_t5_loop.trips) : BitVec 1 :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c24_i32_398 : BitVec 32 := 24#32
  let v832 : BitVec 32 := Scalar.remsi v829 c24_i32_398
  let c16_i32_399 : BitVec 32 := 16#32
  let v835 : BitVec 1 := Scalar.cmpi .slt v832 c16_i32_399
  let v836 : BitVec 32 := Scalar.extui v835
  let c0_i32_400 : BitVec 32 := 0#32
  let v837 : BitVec 1 := Scalar.cmpi .ne v836 c0_i32_400
  v837

def k0_mult24 (v3 : BitVec 32) (k0_t3 : Fin (k0_t3_loop v3).trips) (k0_t5 : Fin k0_t5_loop.trips) : BitVec 32 :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c24_i32_398 : BitVec 32 := 24#32
  let v832 : BitVec 32 := Scalar.remsi v829 c24_i32_398
  let c256_i32_403 : BitVec 32 := 256#32
  let v841 : BitVec 32 := Scalar.muli v832 c256_i32_403
  v841
def k0_off140 (v3 : BitVec 32) (k0_t3 : Fin (k0_t3_loop v3).trips) (k0_t5 : Fin k0_t5_loop.trips) : Fin 1 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c8_i32_396 : BitVec 32 := 8#32
  let v830 : BitVec 32 := Scalar.remsi v829 c8_i32_396
  ![v830.toNat]
def k0_off141 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c8_i32_396 : BitVec 32 := 8#32
  let v830 : BitVec 32 := Scalar.remsi v829 c8_i32_396
  let c0_i32_404 : BitVec 32 := 0#32
  let c0_i32_405 : BitVec 32 := 0#32
  let c0_i32_406 : BitVec 32 := 0#32
  ![v830.toNat, 0, 0, 0]
def k0_off142 (v3 : BitVec 32) (k0_t3 : Fin (k0_t3_loop v3).trips) (k0_t5 : Fin k0_t5_loop.trips) (v834 : BitVec 32) : Fin 4 → Nat :=
  let c0_i32_407 : BitVec 32 := 0#32
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c24_i32_398 : BitVec 32 := 24#32
  let v832 : BitVec 32 := Scalar.remsi v829 c24_i32_398
  let c256_i32_403 : BitVec 32 := 256#32
  let v841 : BitVec 32 := Scalar.muli v832 c256_i32_403
  let v842 : BitVec 32 := v841
  let c0_i32_408 : BitVec 32 := 0#32
  ![v834.toNat, 0, v842.toNat, 0]

def k0_cond25 (v3 : BitVec 32) (k0_t3 : Fin (k0_t3_loop v3).trips) (k0_t5 : Fin k0_t5_loop.trips) : BitVec 1 :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c24_i32_398 : BitVec 32 := 24#32
  let v832 : BitVec 32 := Scalar.remsi v829 c24_i32_398
  let c16_i32_401 : BitVec 32 := 16#32
  let v838 : BitVec 1 := Scalar.cmpi .sge v832 c16_i32_401
  let v839 : BitVec 32 := Scalar.extui v838
  let c0_i32_402 : BitVec 32 := 0#32
  let v840 : BitVec 1 := Scalar.cmpi .ne v839 c0_i32_402
  v840

def k0_mult25 (v3 : BitVec 32) (k0_t3 : Fin (k0_t3_loop v3).trips) (k0_t5 : Fin k0_t5_loop.trips) : BitVec 32 :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c24_i32_398 : BitVec 32 := 24#32
  let v832 : BitVec 32 := Scalar.remsi v829 c24_i32_398
  let c16_i32_403 : BitVec 32 := 16#32
  let v841 : BitVec 32 := Scalar.subi v832 c16_i32_403
  let c256_i32_404 : BitVec 32 := 256#32
  let v842 : BitVec 32 := Scalar.muli v841 c256_i32_404
  v842
def k0_off143 (v3 : BitVec 32) (k0_t3 : Fin (k0_t3_loop v3).trips) (k0_t5 : Fin k0_t5_loop.trips) : Fin 1 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c8_i32_396 : BitVec 32 := 8#32
  let v830 : BitVec 32 := Scalar.remsi v829 c8_i32_396
  ![v830.toNat]
def k0_off144 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c8_i32_396 : BitVec 32 := 8#32
  let v830 : BitVec 32 := Scalar.remsi v829 c8_i32_396
  let c0_i32_405 : BitVec 32 := 0#32
  let c0_i32_406 : BitVec 32 := 0#32
  let c0_i32_407 : BitVec 32 := 0#32
  ![v830.toNat, 0, 0, 0]
def k0_off145 (v3 : BitVec 32) (k0_t3 : Fin (k0_t3_loop v3).trips) (k0_t5 : Fin k0_t5_loop.trips) (v834 : BitVec 32) : Fin 3 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c24_i32_398 : BitVec 32 := 24#32
  let v832 : BitVec 32 := Scalar.remsi v829 c24_i32_398
  let c16_i32_403 : BitVec 32 := 16#32
  let v841 : BitVec 32 := Scalar.subi v832 c16_i32_403
  let c256_i32_404 : BitVec 32 := 256#32
  let v842 : BitVec 32 := Scalar.muli v841 c256_i32_404
  let v843 : BitVec 32 := v842
  let c0_i32_408 : BitVec 32 := 0#32
  ![v834.toNat, v843.toNat, 0]
def k0_off146 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c8_i32_396 : BitVec 32 := 8#32
  let v830 : BitVec 32 := Scalar.remsi v829 c8_i32_396
  let c1_i32_409 : BitVec 32 := 1#32
  let c0_i32_410 : BitVec 32 := 0#32
  let c0_i32_411 : BitVec 32 := 0#32
  ![v830.toNat, 1, 0, 0]
def k0_off147 (v3 : BitVec 32) (k0_t3 : Fin (k0_t3_loop v3).trips) (k0_t5 : Fin k0_t5_loop.trips) (v834 : BitVec 32) : Fin 3 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c24_i32_398 : BitVec 32 := 24#32
  let v832 : BitVec 32 := Scalar.remsi v829 c24_i32_398
  let c16_i32_403 : BitVec 32 := 16#32
  let v841 : BitVec 32 := Scalar.subi v832 c16_i32_403
  let c256_i32_404 : BitVec 32 := 256#32
  let v842 : BitVec 32 := Scalar.muli v841 c256_i32_404
  let v843 : BitVec 32 := v842
  let c1024_i32 : BitVec 32 := 1024#32
  ![v834.toNat, v843.toNat, 1024]

def k0_chk15 (v3 : BitVec 32) (k0_t3 : Fin (k0_t3_loop v3).trips) (k0_t5 : Fin k0_t5_loop.trips) (v834 : BitVec 32) : Prop :=
  (∀ (k0_h23 : k0_cond23 v3 k0_t3 k0_t5 = 1#1), ∀ (k0_h24 : k0_cond24 v3 k0_t3 k0_t5 = 1#1), ∀ a, (k0_off142 v3 k0_t3 k0_t5 v834) a + S1x2x256x1024.size a ≤ S8x2x4096x1024.size a) ∧
  (∀ (k0_h23 : k0_cond23 v3 k0_t3 k0_t5 = 1#1), ∀ (k0_h24 : k0_cond24 v3 k0_t3 k0_t5 = 1#1), ∀ (hinb : ∀ a, (k0_off142 v3 k0_t3 k0_t5 v834) a + S1x2x256x1024.size a ≤ S8x2x4096x1024.size a), (Rect.unit (s := S8x2x4096x1024) (k0_off142 v3 k0_t3 k0_t5 v834) S1x2x256x1024.size hinb).WholeWords (EltTy.packing .i8)) ∧
  (∀ (k0_h23 : k0_cond23 v3 k0_t3 k0_t5 = 1#1), ∀ (k0_h25 : k0_cond25 v3 k0_t3 k0_t5 = 1#1), ∀ a, (k0_off145 v3 k0_t3 k0_t5 v834) a + S1x256x1024.size a ≤ S8x2048x2048.size a) ∧
  (∀ (k0_h23 : k0_cond23 v3 k0_t3 k0_t5 = 1#1), ∀ (k0_h25 : k0_cond25 v3 k0_t3 k0_t5 = 1#1), ∀ (hinb : ∀ a, (k0_off145 v3 k0_t3 k0_t5 v834) a + S1x256x1024.size a ≤ S8x2048x2048.size a), (Rect.unit (s := S8x2048x2048) (k0_off145 v3 k0_t3 k0_t5 v834) S1x256x1024.size hinb).WholeWords (EltTy.packing .i8)) ∧
  (∀ (k0_h23 : k0_cond23 v3 k0_t3 k0_t5 = 1#1), ∀ (k0_h25 : k0_cond25 v3 k0_t3 k0_t5 = 1#1), ∀ a, (k0_off147 v3 k0_t3 k0_t5 v834) a + S1x256x1024.size a ≤ S8x2048x2048.size a) ∧
  (∀ (k0_h23 : k0_cond23 v3 k0_t3 k0_t5 = 1#1), ∀ (k0_h25 : k0_cond25 v3 k0_t3 k0_t5 = 1#1), ∀ (hinb : ∀ a, (k0_off147 v3 k0_t3 k0_t5 v834) a + S1x256x1024.size a ≤ S8x2048x2048.size a), (Rect.unit (s := S8x2048x2048) (k0_off147 v3 k0_t3 k0_t5 v834) S1x256x1024.size hinb).WholeWords (EltTy.packing .i8))
theorem k0_off142_inb : ∀ (v3 : BitVec 32) (k0_t3 : Fin (k0_t3_loop v3).trips) (k0_t5 : Fin k0_t5_loop.trips) (v834 : BitVec 32) (k0_hw15 : k0_chk15 v3 k0_t3 k0_t5 v834), ∀ (k0_h23 : k0_cond23 v3 k0_t3 k0_t5 = 1#1), ∀ (k0_h24 : k0_cond24 v3 k0_t3 k0_t5 = 1#1), ∀ a, (k0_off142 v3 k0_t3 k0_t5 v834) a + S1x2x256x1024.size a ≤ S8x2x4096x1024.size a := fun v3 k0_t3 k0_t5 v834 k0_hw15 k0_h23 k0_h24 => k0_hw15.1 k0_h23 k0_h24
theorem k0_off142_wordsi8 : ∀ (v3 : BitVec 32) (k0_t3 : Fin (k0_t3_loop v3).trips) (k0_t5 : Fin k0_t5_loop.trips) (v834 : BitVec 32) (k0_hw15 : k0_chk15 v3 k0_t3 k0_t5 v834), ∀ (k0_h23 : k0_cond23 v3 k0_t3 k0_t5 = 1#1), ∀ (k0_h24 : k0_cond24 v3 k0_t3 k0_t5 = 1#1), (Rect.unit (s := S8x2x4096x1024) (k0_off142 v3 k0_t3 k0_t5 v834) S1x2x256x1024.size (k0_off142_inb v3 k0_t3 k0_t5 v834 k0_hw15 k0_h23 k0_h24)).WholeWords (EltTy.packing .i8) := fun v3 k0_t3 k0_t5 v834 k0_hw15 k0_h23 k0_h24 => k0_hw15.2.1 k0_h23 k0_h24 (k0_off142_inb v3 k0_t3 k0_t5 v834 k0_hw15 k0_h23 k0_h24)
theorem k0_off145_inb : ∀ (v3 : BitVec 32) (k0_t3 : Fin (k0_t3_loop v3).trips) (k0_t5 : Fin k0_t5_loop.trips) (v834 : BitVec 32) (k0_hw15 : k0_chk15 v3 k0_t3 k0_t5 v834), ∀ (k0_h23 : k0_cond23 v3 k0_t3 k0_t5 = 1#1), ∀ (k0_h25 : k0_cond25 v3 k0_t3 k0_t5 = 1#1), ∀ a, (k0_off145 v3 k0_t3 k0_t5 v834) a + S1x256x1024.size a ≤ S8x2048x2048.size a := fun v3 k0_t3 k0_t5 v834 k0_hw15 k0_h23 k0_h25 => k0_hw15.2.2.1 k0_h23 k0_h25
theorem k0_off145_wordsi8 : ∀ (v3 : BitVec 32) (k0_t3 : Fin (k0_t3_loop v3).trips) (k0_t5 : Fin k0_t5_loop.trips) (v834 : BitVec 32) (k0_hw15 : k0_chk15 v3 k0_t3 k0_t5 v834), ∀ (k0_h23 : k0_cond23 v3 k0_t3 k0_t5 = 1#1), ∀ (k0_h25 : k0_cond25 v3 k0_t3 k0_t5 = 1#1), (Rect.unit (s := S8x2048x2048) (k0_off145 v3 k0_t3 k0_t5 v834) S1x256x1024.size (k0_off145_inb v3 k0_t3 k0_t5 v834 k0_hw15 k0_h23 k0_h25)).WholeWords (EltTy.packing .i8) := fun v3 k0_t3 k0_t5 v834 k0_hw15 k0_h23 k0_h25 => k0_hw15.2.2.2.1 k0_h23 k0_h25 (k0_off145_inb v3 k0_t3 k0_t5 v834 k0_hw15 k0_h23 k0_h25)
theorem k0_off147_inb : ∀ (v3 : BitVec 32) (k0_t3 : Fin (k0_t3_loop v3).trips) (k0_t5 : Fin k0_t5_loop.trips) (v834 : BitVec 32) (k0_hw15 : k0_chk15 v3 k0_t3 k0_t5 v834), ∀ (k0_h23 : k0_cond23 v3 k0_t3 k0_t5 = 1#1), ∀ (k0_h25 : k0_cond25 v3 k0_t3 k0_t5 = 1#1), ∀ a, (k0_off147 v3 k0_t3 k0_t5 v834) a + S1x256x1024.size a ≤ S8x2048x2048.size a := fun v3 k0_t3 k0_t5 v834 k0_hw15 k0_h23 k0_h25 => k0_hw15.2.2.2.2.1 k0_h23 k0_h25
theorem k0_off147_wordsi8 : ∀ (v3 : BitVec 32) (k0_t3 : Fin (k0_t3_loop v3).trips) (k0_t5 : Fin k0_t5_loop.trips) (v834 : BitVec 32) (k0_hw15 : k0_chk15 v3 k0_t3 k0_t5 v834), ∀ (k0_h23 : k0_cond23 v3 k0_t3 k0_t5 = 1#1), ∀ (k0_h25 : k0_cond25 v3 k0_t3 k0_t5 = 1#1), (Rect.unit (s := S8x2048x2048) (k0_off147 v3 k0_t3 k0_t5 v834) S1x256x1024.size (k0_off147_inb v3 k0_t3 k0_t5 v834 k0_hw15 k0_h23 k0_h25)).WholeWords (EltTy.packing .i8) := fun v3 k0_t3 k0_t5 v834 k0_hw15 k0_h23 k0_h25 => k0_hw15.2.2.2.2.2 k0_h23 k0_h25 (k0_off147_inb v3 k0_t3 k0_t5 v834 k0_hw15 k0_h23 k0_h25)

def k0_mult26 (k0_t5 : Fin k0_t5_loop.trips) : BitVec 32 :=
  let c0_i32_147 : BitVec 32 := 0#32
  let c1_i32_149 : BitVec 32 := 1#32
  let arg20 : BitVec 32 := Scf.iv c0_i32_147 c1_i32_149 k0_t5
  let c256_i32 : BitVec 32 := 256#32
  let v227 : BitVec 32 := Scalar.muli arg20 c256_i32
  v227
def k0_off148 (v3 : BitVec 32) (k0_t3 : Fin (k0_t3_loop v3).trips) (k0_t5 : Fin k0_t5_loop.trips) : Fin 3 → Nat :=
  let c0_i32_107 : BitVec 32 := 0#32
  let c1_i32_109 : BitVec 32 := 1#32
  let arg19 : BitVec 32 := Scf.iv c0_i32_107 c1_i32_109 k0_t3
  let c2_i32_115 : BitVec 32 := 2#32
  let v147 : BitVec 32 := Scalar.remsi arg19 c2_i32_115
  let v229 : Index := Scalar.indexCast v147
  let c0_164 : Index := 0#32
  let c0_i32_147 : BitVec 32 := 0#32
  let c1_i32_149 : BitVec 32 := 1#32
  let arg20 : BitVec 32 := Scf.iv c0_i32_147 c1_i32_149 k0_t5
  let c256_i32 : BitVec 32 := 256#32
  let v227 : BitVec 32 := Scalar.muli arg20 c256_i32
  let v228 : BitVec 32 := v227
  let v230 : Index := Scalar.indexCast v228
  ![v229.toNat, 0, v230.toNat]
def k0_off149 (v3 : BitVec 32) (k0_t3 : Fin (k0_t3_loop v3).trips) (k0_t5 : Fin k0_t5_loop.trips) : Fin 3 → Nat :=
  let c0_i32_107 : BitVec 32 := 0#32
  let c1_i32_109 : BitVec 32 := 1#32
  let arg19 : BitVec 32 := Scf.iv c0_i32_107 c1_i32_109 k0_t3
  let c2_i32_115 : BitVec 32 := 2#32
  let v147 : BitVec 32 := Scalar.remsi arg19 c2_i32_115
  let v236 : Index := Scalar.indexCast v147
  let c16 : Index := 16#32
  let c0_i32_147 : BitVec 32 := 0#32
  let c1_i32_149 : BitVec 32 := 1#32
  let arg20 : BitVec 32 := Scf.iv c0_i32_147 c1_i32_149 k0_t5
  let c256_i32 : BitVec 32 := 256#32
  let v227 : BitVec 32 := Scalar.muli arg20 c256_i32
  let v228 : BitVec 32 := v227
  let v237 : Index := Scalar.indexCast v228
  ![v236.toNat, 16, v237.toNat]
def k0_off150 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_153 : BitVec 32 := 8#32
  let v210 : BitVec 32 := Scalar.remsi v209 c8_i32_153
  let v243 : Index := Scalar.indexCast v210
  let c0_170 : Index := 0#32
  let c0_171 : Index := 0#32
  let c0_172 : Index := 0#32
  ![v243.toNat, 0, 0, 0]
def k0_off151 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_153 : BitVec 32 := 8#32
  let v210 : BitVec 32 := Scalar.remsi v209 c8_i32_153
  let v278 : Index := Scalar.indexCast v210
  let c0_184 : Index := 0#32
  let c0_185 : Index := 0#32
  let c128 : Index := 128#32
  ![v278.toNat, 0, 0, 128]
def k0_off152 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_153 : BitVec 32 := 8#32
  let v210 : BitVec 32 := Scalar.remsi v209 c8_i32_153
  let v314 : Index := Scalar.indexCast v210
  let c0_196 : Index := 0#32
  let c0_197 : Index := 0#32
  let c256_198 : Index := 256#32
  ![v314.toNat, 0, 0, 256]
def k0_off153 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_153 : BitVec 32 := 8#32
  let v210 : BitVec 32 := Scalar.remsi v209 c8_i32_153
  let v350 : Index := Scalar.indexCast v210
  let c0_209 : Index := 0#32
  let c0_210 : Index := 0#32
  let c384 : Index := 384#32
  ![v350.toNat, 0, 0, 384]
def k0_off154 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_153 : BitVec 32 := 8#32
  let v210 : BitVec 32 := Scalar.remsi v209 c8_i32_153
  let v386 : Index := Scalar.indexCast v210
  let c0_221 : Index := 0#32
  let c0_222 : Index := 0#32
  let c512_223 : Index := 512#32
  ![v386.toNat, 0, 0, 512]
def k0_off155 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_153 : BitVec 32 := 8#32
  let v210 : BitVec 32 := Scalar.remsi v209 c8_i32_153
  let v422 : Index := Scalar.indexCast v210
  let c0_234 : Index := 0#32
  let c0_235 : Index := 0#32
  let c640 : Index := 640#32
  ![v422.toNat, 0, 0, 640]
def k0_off156 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_153 : BitVec 32 := 8#32
  let v210 : BitVec 32 := Scalar.remsi v209 c8_i32_153
  let v458 : Index := Scalar.indexCast v210
  let c0_246 : Index := 0#32
  let c0_247 : Index := 0#32
  let c768_248 : Index := 768#32
  ![v458.toNat, 0, 0, 768]
def k0_off157 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_153 : BitVec 32 := 8#32
  let v210 : BitVec 32 := Scalar.remsi v209 c8_i32_153
  let v494 : Index := Scalar.indexCast v210
  let c0_259 : Index := 0#32
  let c0_260 : Index := 0#32
  let c896 : Index := 896#32
  ![v494.toNat, 0, 0, 896]
def k0_off158 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_153 : BitVec 32 := 8#32
  let v210 : BitVec 32 := Scalar.remsi v209 c8_i32_153
  let v530 : Index := Scalar.indexCast v210
  let c1_271 : Index := 1#32
  let c0_272 : Index := 0#32
  let c0_273 : Index := 0#32
  ![v530.toNat, 1, 0, 0]
def k0_off159 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_153 : BitVec 32 := 8#32
  let v210 : BitVec 32 := Scalar.remsi v209 c8_i32_153
  let v565 : Index := Scalar.indexCast v210
  let c1_286 : Index := 1#32
  let c0_287 : Index := 0#32
  let c128_288 : Index := 128#32
  ![v565.toNat, 1, 0, 128]
def k0_off160 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_153 : BitVec 32 := 8#32
  let v210 : BitVec 32 := Scalar.remsi v209 c8_i32_153
  let v601 : Index := Scalar.indexCast v210
  let c1_301 : Index := 1#32
  let c0_302 : Index := 0#32
  let c256_303 : Index := 256#32
  ![v601.toNat, 1, 0, 256]
def k0_off161 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_153 : BitVec 32 := 8#32
  let v210 : BitVec 32 := Scalar.remsi v209 c8_i32_153
  let v637 : Index := Scalar.indexCast v210
  let c1_316 : Index := 1#32
  let c0_317 : Index := 0#32
  let c384_318 : Index := 384#32
  ![v637.toNat, 1, 0, 384]
def k0_off162 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_153 : BitVec 32 := 8#32
  let v210 : BitVec 32 := Scalar.remsi v209 c8_i32_153
  let v673 : Index := Scalar.indexCast v210
  let c1_331 : Index := 1#32
  let c0_332 : Index := 0#32
  let c512_333 : Index := 512#32
  ![v673.toNat, 1, 0, 512]
def k0_off163 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_153 : BitVec 32 := 8#32
  let v210 : BitVec 32 := Scalar.remsi v209 c8_i32_153
  let v709 : Index := Scalar.indexCast v210
  let c1_346 : Index := 1#32
  let c0_347 : Index := 0#32
  let c640_348 : Index := 640#32
  ![v709.toNat, 1, 0, 640]
def k0_off164 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_153 : BitVec 32 := 8#32
  let v210 : BitVec 32 := Scalar.remsi v209 c8_i32_153
  let v745 : Index := Scalar.indexCast v210
  let c1_361 : Index := 1#32
  let c0_362 : Index := 0#32
  let c768_363 : Index := 768#32
  ![v745.toNat, 1, 0, 768]
def k0_off165 (v3 : BitVec 32) (k0_t3 : Fin (k0_t3_loop v3).trips) (k0_t5 : Fin k0_t5_loop.trips) : Fin 4 → Nat :=
  let c0_i32_107 : BitVec 32 := 0#32
  let c1_i32_109 : BitVec 32 := 1#32
  let arg19 : BitVec 32 := Scf.iv c0_i32_107 c1_i32_109 k0_t3
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t5
  let v209 : BitVec 32 := Scalar.addi v208 arg20
  let c8_i32_153 : BitVec 32 := 8#32
  let v210 : BitVec 32 := Scalar.remsi v209 c8_i32_153
  let v781 : Index := Scalar.indexCast v210
  let c1_376 : Index := 1#32
  let c0_377 : Index := 0#32
  let c896_378 : Index := 896#32
  ![v781.toNat, 1, 0, 896]
def k0_off166 (k0_t5 : Fin k0_t5_loop.trips) : Fin 2 → Nat :=
  let c0_391 : Index := 0#32
  let c0_i32_147 : BitVec 32 := 0#32
  let c1_i32_149 : BitVec 32 := 1#32
  let arg20 : BitVec 32 := Scf.iv c0_i32_147 c1_i32_149 k0_t5
  let c256_i32 : BitVec 32 := 256#32
  let v227 : BitVec 32 := Scalar.muli arg20 c256_i32
  let v228 : BitVec 32 := v227
  let v817 : Index := Scalar.indexCast v228
  ![0, v817.toNat]
@[reducible] def k0_t6_loop (v3 : BitVec 32) : Scf.Loop 32 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let v140 : BitVec 32 := Scalar.addi c0_i32_107 v139
  let c1_i32_110 : BitVec 32 := 1#32
  ⟨v143, v140, c1_i32_110⟩
def k0_off167 (v3 : BitVec 32) (k0_t6 : Fin (k0_t6_loop v3).trips) : Fin 1 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let v149 : Index := Scalar.indexCast arg19
  ![v149.toNat]
def k0_off168 (v3 : BitVec 32) (k0_t6 : Fin (k0_t6_loop v3).trips) : Fin 1 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c2_i32_116 : BitVec 32 := 2#32
  let v148 : BitVec 32 := Scalar.remsi arg19 c2_i32_116
  ![v148.toNat]
def k0_off169 (v3 : BitVec 32) (k0_t6 : Fin (k0_t6_loop v3).trips) : Fin 3 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c2_i32_116 : BitVec 32 := 2#32
  let v148 : BitVec 32 := Scalar.remsi arg19 c2_i32_116
  let c0_i32_117 : BitVec 32 := 0#32
  let c0_i32_118 : BitVec 32 := 0#32
  ![v148.toNat, 0, 0]
def k0_off170 (v150 : BitVec 32) : Fin 3 → Nat :=
  let c0_i32_119 : BitVec 32 := 0#32
  let c0_i32_120 : BitVec 32 := 0#32
  ![v150.toNat, 0, 0]

def k0_off171 (v3 : BitVec 32) (k0_t6 : Fin (k0_t6_loop v3).trips) : Fin 1 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c2_i32_116 : BitVec 32 := 2#32
  let v148 : BitVec 32 := Scalar.remsi arg19 c2_i32_116
  ![v148.toNat]
def k0_off172 (v3 : BitVec 32) (k0_t6 : Fin (k0_t6_loop v3).trips) : Fin 3 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c2_i32_116 : BitVec 32 := 2#32
  let v148 : BitVec 32 := Scalar.remsi arg19 c2_i32_116
  let c0_i32_121 : BitVec 32 := 0#32
  let c0_i32_122 : BitVec 32 := 0#32
  ![v148.toNat, 0, 0]
def k0_off173 (v150 : BitVec 32) : Fin 3 → Nat :=
  let c0_i32_123 : BitVec 32 := 0#32
  let c0_i32_124 : BitVec 32 := 0#32
  ![v150.toNat, 0, 0]

def k0_chk16 (v150 : BitVec 32) : Prop :=
  (∀ a, (k0_off170 v150) a + S1x16x8192.size a ≤ S8x16x8192.size a) ∧
  (∀ (hinb : ∀ a, (k0_off170 v150) a + S1x16x8192.size a ≤ S8x16x8192.size a), (Rect.unit (s := S8x16x8192) (k0_off170 v150) S1x16x8192.size hinb).WholeWords (EltTy.packing .bf16)) ∧
  (∀ a, (k0_off173 v150) a + S1x32x2048.size a ≤ S8x32x2048.size a) ∧
  (∀ (hinb : ∀ a, (k0_off173 v150) a + S1x32x2048.size a ≤ S8x32x2048.size a), (Rect.unit (s := S8x32x2048) (k0_off173 v150) S1x32x2048.size hinb).WholeWords (EltTy.packing .bf16))
theorem k0_off170_inb : ∀ (v150 : BitVec 32) (k0_hw16 : k0_chk16 v150), ∀ a, (k0_off170 v150) a + S1x16x8192.size a ≤ S8x16x8192.size a := fun v150 k0_hw16 => k0_hw16.1
theorem k0_off170_wordsbf16 : ∀ (v150 : BitVec 32) (k0_hw16 : k0_chk16 v150), (Rect.unit (s := S8x16x8192) (k0_off170 v150) S1x16x8192.size (k0_off170_inb v150 k0_hw16)).WholeWords (EltTy.packing .bf16) := fun v150 k0_hw16 => k0_hw16.2.1 (k0_off170_inb v150 k0_hw16)
theorem k0_off173_inb : ∀ (v150 : BitVec 32) (k0_hw16 : k0_chk16 v150), ∀ a, (k0_off173 v150) a + S1x32x2048.size a ≤ S8x32x2048.size a := fun v150 k0_hw16 => k0_hw16.2.2.1
theorem k0_off173_wordsbf16 : ∀ (v150 : BitVec 32) (k0_hw16 : k0_chk16 v150), (Rect.unit (s := S8x32x2048) (k0_off173 v150) S1x32x2048.size (k0_off173_inb v150 k0_hw16)).WholeWords (EltTy.packing .bf16) := fun v150 k0_hw16 => k0_hw16.2.2.2 (k0_off173_inb v150 k0_hw16)

def k0_off174 (v3 : BitVec 32) (k0_t6 : Fin (k0_t6_loop v3).trips) : Fin 1 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c1_i32_151 : BitVec 32 := 1#32
  let v207 : BitVec 32 := Scalar.addi arg19 c1_i32_151
  let v209 : Index := Scalar.indexCast v207
  ![v209.toNat]
def k0_cond26 (v3 : BitVec 32) (k0_t6 : Fin (k0_t6_loop v3).trips) : BitVec 1 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c1_i32_125 : BitVec 32 := 1#32
  let v163 : BitVec 32 := Scalar.addi arg19 c1_i32_125
  let v164 : BitVec 1 := Scalar.cmpi .slt v163 v42
  let v165 : BitVec 32 := Scalar.extui v164
  let c0_i32_126 : BitVec 32 := 0#32
  let v166 : BitVec 1 := Scalar.cmpi .ne v165 c0_i32_126
  v166

def k0_off175 (v3 : BitVec 32) (k0_t6 : Fin (k0_t6_loop v3).trips) : Fin 1 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c1_i32_151 : BitVec 32 := 1#32
  let v207 : BitVec 32 := Scalar.addi arg19 c1_i32_151
  let c2_i32_152 : BitVec 32 := 2#32
  let v208 : BitVec 32 := Scalar.remsi v207 c2_i32_152
  ![v208.toNat]
def k0_off176 (v3 : BitVec 32) (k0_t6 : Fin (k0_t6_loop v3).trips) : Fin 3 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c1_i32_151 : BitVec 32 := 1#32
  let v207 : BitVec 32 := Scalar.addi arg19 c1_i32_151
  let c2_i32_152 : BitVec 32 := 2#32
  let v208 : BitVec 32 := Scalar.remsi v207 c2_i32_152
  let c0_i32_153 : BitVec 32 := 0#32
  let c0_i32_154 : BitVec 32 := 0#32
  ![v208.toNat, 0, 0]
def k0_off177 (v210 : BitVec 32) : Fin 3 → Nat :=
  let c0_i32_155 : BitVec 32 := 0#32
  let c0_i32_156 : BitVec 32 := 0#32
  ![v210.toNat, 0, 0]

def k0_off178 (v3 : BitVec 32) (k0_t6 : Fin (k0_t6_loop v3).trips) : Fin 1 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c1_i32_151 : BitVec 32 := 1#32
  let v207 : BitVec 32 := Scalar.addi arg19 c1_i32_151
  let c2_i32_152 : BitVec 32 := 2#32
  let v208 : BitVec 32 := Scalar.remsi v207 c2_i32_152
  ![v208.toNat]
def k0_off179 (v3 : BitVec 32) (k0_t6 : Fin (k0_t6_loop v3).trips) : Fin 3 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c1_i32_151 : BitVec 32 := 1#32
  let v207 : BitVec 32 := Scalar.addi arg19 c1_i32_151
  let c2_i32_152 : BitVec 32 := 2#32
  let v208 : BitVec 32 := Scalar.remsi v207 c2_i32_152
  let c0_i32_157 : BitVec 32 := 0#32
  let c0_i32_158 : BitVec 32 := 0#32
  ![v208.toNat, 0, 0]
def k0_off180 (v210 : BitVec 32) : Fin 3 → Nat :=
  let c0_i32_159 : BitVec 32 := 0#32
  let c0_i32_160 : BitVec 32 := 0#32
  ![v210.toNat, 0, 0]

def k0_chk17 (v3 : BitVec 32) (k0_t6 : Fin (k0_t6_loop v3).trips) (v210 : BitVec 32) : Prop :=
  (∀ (k0_h26 : k0_cond26 v3 k0_t6 = 1#1), ∀ a, (k0_off177 v210) a + S1x16x8192.size a ≤ S8x16x8192.size a) ∧
  (∀ (k0_h26 : k0_cond26 v3 k0_t6 = 1#1), ∀ (hinb : ∀ a, (k0_off177 v210) a + S1x16x8192.size a ≤ S8x16x8192.size a), (Rect.unit (s := S8x16x8192) (k0_off177 v210) S1x16x8192.size hinb).WholeWords (EltTy.packing .bf16)) ∧
  (∀ (k0_h26 : k0_cond26 v3 k0_t6 = 1#1), ∀ a, (k0_off180 v210) a + S1x32x2048.size a ≤ S8x32x2048.size a) ∧
  (∀ (k0_h26 : k0_cond26 v3 k0_t6 = 1#1), ∀ (hinb : ∀ a, (k0_off180 v210) a + S1x32x2048.size a ≤ S8x32x2048.size a), (Rect.unit (s := S8x32x2048) (k0_off180 v210) S1x32x2048.size hinb).WholeWords (EltTy.packing .bf16))
theorem k0_off177_inb : ∀ (v3 : BitVec 32) (k0_t6 : Fin (k0_t6_loop v3).trips) (v210 : BitVec 32) (k0_hw17 : k0_chk17 v3 k0_t6 v210), ∀ (k0_h26 : k0_cond26 v3 k0_t6 = 1#1), ∀ a, (k0_off177 v210) a + S1x16x8192.size a ≤ S8x16x8192.size a := fun v3 k0_t6 v210 k0_hw17 k0_h26 => k0_hw17.1 k0_h26
theorem k0_off177_wordsbf16 : ∀ (v3 : BitVec 32) (k0_t6 : Fin (k0_t6_loop v3).trips) (v210 : BitVec 32) (k0_hw17 : k0_chk17 v3 k0_t6 v210), ∀ (k0_h26 : k0_cond26 v3 k0_t6 = 1#1), (Rect.unit (s := S8x16x8192) (k0_off177 v210) S1x16x8192.size (k0_off177_inb v3 k0_t6 v210 k0_hw17 k0_h26)).WholeWords (EltTy.packing .bf16) := fun v3 k0_t6 v210 k0_hw17 k0_h26 => k0_hw17.2.1 k0_h26 (k0_off177_inb v3 k0_t6 v210 k0_hw17 k0_h26)
theorem k0_off180_inb : ∀ (v3 : BitVec 32) (k0_t6 : Fin (k0_t6_loop v3).trips) (v210 : BitVec 32) (k0_hw17 : k0_chk17 v3 k0_t6 v210), ∀ (k0_h26 : k0_cond26 v3 k0_t6 = 1#1), ∀ a, (k0_off180 v210) a + S1x32x2048.size a ≤ S8x32x2048.size a := fun v3 k0_t6 v210 k0_hw17 k0_h26 => k0_hw17.2.2.1 k0_h26
theorem k0_off180_wordsbf16 : ∀ (v3 : BitVec 32) (k0_t6 : Fin (k0_t6_loop v3).trips) (v210 : BitVec 32) (k0_hw17 : k0_chk17 v3 k0_t6 v210), ∀ (k0_h26 : k0_cond26 v3 k0_t6 = 1#1), (Rect.unit (s := S8x32x2048) (k0_off180 v210) S1x32x2048.size (k0_off180_inb v3 k0_t6 v210 k0_hw17 k0_h26)).WholeWords (EltTy.packing .bf16) := fun v3 k0_t6 v210 k0_hw17 k0_h26 => k0_hw17.2.2.2 k0_h26 (k0_off180_inb v3 k0_t6 v210 k0_hw17 k0_h26)

@[reducible] def k0_t7_loop : Scf.Loop 32 :=
  let c0_i32_128 : BitVec 32 := 0#32
  let c16_i32_129 : BitVec 32 := 16#32
  let v167 : BitVec 32 := Scalar.addi c0_i32_128 c16_i32_129
  let c1_i32_130 : BitVec 32 := 1#32
  ⟨c0_i32_128, v167, c1_i32_130⟩
def k0_off181 (v3 : BitVec 32) (k0_t6 : Fin (k0_t6_loop v3).trips) (k0_t7 : Fin k0_t7_loop.trips) : Fin 1 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c24_i32_154 : BitVec 32 := 24#32
  let v211 : BitVec 32 := Scalar.divsi v208 c24_i32_154
  let v213 : Index := Scalar.indexCast v211
  ![v213.toNat]
def k0_mult27 (v3 : BitVec 32) (k0_t6 : Fin (k0_t6_loop v3).trips) (k0_t7 : Fin k0_t7_loop.trips) : BitVec 32 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c24_i32_155 : BitVec 32 := 24#32
  let v212 : BitVec 32 := Scalar.remsi v208 c24_i32_155
  let c256_i32_403 : BitVec 32 := 256#32
  let v846 : BitVec 32 := Scalar.muli v212 c256_i32_403
  v846
def k0_cond27 (v3 : BitVec 32) (k0_t6 : Fin (k0_t6_loop v3).trips) (k0_t7 : Fin k0_t7_loop.trips) : BitVec 1 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c24_i32_155 : BitVec 32 := 24#32
  let v212 : BitVec 32 := Scalar.remsi v208 c24_i32_155
  let c16_i32_156 : BitVec 32 := 16#32
  let v215 : BitVec 1 := Scalar.cmpi .slt v212 c16_i32_156
  let v216 : BitVec 32 := Scalar.extui v215
  let c0_i32_157 : BitVec 32 := 0#32
  let v217 : BitVec 1 := Scalar.cmpi .ne v216 c0_i32_157
  v217

def k0_off182 (v3 : BitVec 32) (k0_t6 : Fin (k0_t6_loop v3).trips) (k0_t7 : Fin k0_t7_loop.trips) : Fin 1 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_153 : BitVec 32 := 8#32
  let v210 : BitVec 32 := Scalar.remsi v208 c8_i32_153
  ![v210.toNat]
def k0_off183 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_153 : BitVec 32 := 8#32
  let v210 : BitVec 32 := Scalar.remsi v208 c8_i32_153
  let c0_i32_404 : BitVec 32 := 0#32
  let c0_i32_405 : BitVec 32 := 0#32
  let c0_i32_406 : BitVec 32 := 0#32
  ![v210.toNat, 0, 0, 0]
def k0_off184 (v3 : BitVec 32) (k0_t6 : Fin (k0_t6_loop v3).trips) (k0_t7 : Fin k0_t7_loop.trips) (v214 : BitVec 32) : Fin 4 → Nat :=
  let c0_i32_407 : BitVec 32 := 0#32
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c24_i32_155 : BitVec 32 := 24#32
  let v212 : BitVec 32 := Scalar.remsi v208 c24_i32_155
  let c256_i32_403 : BitVec 32 := 256#32
  let v846 : BitVec 32 := Scalar.muli v212 c256_i32_403
  let v847 : BitVec 32 := v846
  let c0_i32_408 : BitVec 32 := 0#32
  ![v214.toNat, 0, v847.toNat, 0]

def k0_mult28 (v3 : BitVec 32) (k0_t6 : Fin (k0_t6_loop v3).trips) (k0_t7 : Fin k0_t7_loop.trips) : BitVec 32 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c24_i32_155 : BitVec 32 := 24#32
  let v212 : BitVec 32 := Scalar.remsi v208 c24_i32_155
  let c16_i32_403 : BitVec 32 := 16#32
  let v846 : BitVec 32 := Scalar.subi v212 c16_i32_403
  let c256_i32_404 : BitVec 32 := 256#32
  let v847 : BitVec 32 := Scalar.muli v846 c256_i32_404
  v847
def k0_cond28 (v3 : BitVec 32) (k0_t6 : Fin (k0_t6_loop v3).trips) (k0_t7 : Fin k0_t7_loop.trips) : BitVec 1 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c24_i32_155 : BitVec 32 := 24#32
  let v212 : BitVec 32 := Scalar.remsi v208 c24_i32_155
  let c16_i32_158 : BitVec 32 := 16#32
  let v218 : BitVec 1 := Scalar.cmpi .sge v212 c16_i32_158
  let v219 : BitVec 32 := Scalar.extui v218
  let c0_i32_159 : BitVec 32 := 0#32
  let v220 : BitVec 1 := Scalar.cmpi .ne v219 c0_i32_159
  v220

def k0_off185 (v3 : BitVec 32) (k0_t6 : Fin (k0_t6_loop v3).trips) (k0_t7 : Fin k0_t7_loop.trips) : Fin 1 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_153 : BitVec 32 := 8#32
  let v210 : BitVec 32 := Scalar.remsi v208 c8_i32_153
  ![v210.toNat]
def k0_off186 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_153 : BitVec 32 := 8#32
  let v210 : BitVec 32 := Scalar.remsi v208 c8_i32_153
  let c0_i32_405 : BitVec 32 := 0#32
  let c0_i32_406 : BitVec 32 := 0#32
  let c0_i32_407 : BitVec 32 := 0#32
  ![v210.toNat, 0, 0, 0]
def k0_off187 (v3 : BitVec 32) (k0_t6 : Fin (k0_t6_loop v3).trips) (k0_t7 : Fin k0_t7_loop.trips) (v214 : BitVec 32) : Fin 3 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c24_i32_155 : BitVec 32 := 24#32
  let v212 : BitVec 32 := Scalar.remsi v208 c24_i32_155
  let c16_i32_403 : BitVec 32 := 16#32
  let v846 : BitVec 32 := Scalar.subi v212 c16_i32_403
  let c256_i32_404 : BitVec 32 := 256#32
  let v847 : BitVec 32 := Scalar.muli v846 c256_i32_404
  let v848 : BitVec 32 := v847
  let c0_i32_408 : BitVec 32 := 0#32
  ![v214.toNat, v848.toNat, 0]
def k0_off188 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_153 : BitVec 32 := 8#32
  let v210 : BitVec 32 := Scalar.remsi v208 c8_i32_153
  let c1_i32_409 : BitVec 32 := 1#32
  let c0_i32_410 : BitVec 32 := 0#32
  let c0_i32_411 : BitVec 32 := 0#32
  ![v210.toNat, 1, 0, 0]
def k0_off189 (v3 : BitVec 32) (k0_t6 : Fin (k0_t6_loop v3).trips) (k0_t7 : Fin k0_t7_loop.trips) (v214 : BitVec 32) : Fin 3 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c24_i32_155 : BitVec 32 := 24#32
  let v212 : BitVec 32 := Scalar.remsi v208 c24_i32_155
  let c16_i32_403 : BitVec 32 := 16#32
  let v846 : BitVec 32 := Scalar.subi v212 c16_i32_403
  let c256_i32_404 : BitVec 32 := 256#32
  let v847 : BitVec 32 := Scalar.muli v846 c256_i32_404
  let v848 : BitVec 32 := v847
  let c1024_i32 : BitVec 32 := 1024#32
  ![v214.toNat, v848.toNat, 1024]

def k0_chk18 (v3 : BitVec 32) (k0_t6 : Fin (k0_t6_loop v3).trips) (k0_t7 : Fin k0_t7_loop.trips) (v214 : BitVec 32) : Prop :=
  (∀ (k0_h27 : k0_cond27 v3 k0_t6 k0_t7 = 1#1), ∀ a, (k0_off184 v3 k0_t6 k0_t7 v214) a + S1x2x256x1024.size a ≤ S8x2x4096x1024.size a) ∧
  (∀ (k0_h27 : k0_cond27 v3 k0_t6 k0_t7 = 1#1), ∀ (hinb : ∀ a, (k0_off184 v3 k0_t6 k0_t7 v214) a + S1x2x256x1024.size a ≤ S8x2x4096x1024.size a), (Rect.unit (s := S8x2x4096x1024) (k0_off184 v3 k0_t6 k0_t7 v214) S1x2x256x1024.size hinb).WholeWords (EltTy.packing .i8)) ∧
  (∀ (k0_h28 : k0_cond28 v3 k0_t6 k0_t7 = 1#1), ∀ a, (k0_off187 v3 k0_t6 k0_t7 v214) a + S1x256x1024.size a ≤ S8x2048x2048.size a) ∧
  (∀ (k0_h28 : k0_cond28 v3 k0_t6 k0_t7 = 1#1), ∀ (hinb : ∀ a, (k0_off187 v3 k0_t6 k0_t7 v214) a + S1x256x1024.size a ≤ S8x2048x2048.size a), (Rect.unit (s := S8x2048x2048) (k0_off187 v3 k0_t6 k0_t7 v214) S1x256x1024.size hinb).WholeWords (EltTy.packing .i8)) ∧
  (∀ (k0_h28 : k0_cond28 v3 k0_t6 k0_t7 = 1#1), ∀ a, (k0_off189 v3 k0_t6 k0_t7 v214) a + S1x256x1024.size a ≤ S8x2048x2048.size a) ∧
  (∀ (k0_h28 : k0_cond28 v3 k0_t6 k0_t7 = 1#1), ∀ (hinb : ∀ a, (k0_off189 v3 k0_t6 k0_t7 v214) a + S1x256x1024.size a ≤ S8x2048x2048.size a), (Rect.unit (s := S8x2048x2048) (k0_off189 v3 k0_t6 k0_t7 v214) S1x256x1024.size hinb).WholeWords (EltTy.packing .i8))
theorem k0_off184_inb : ∀ (v3 : BitVec 32) (k0_t6 : Fin (k0_t6_loop v3).trips) (k0_t7 : Fin k0_t7_loop.trips) (v214 : BitVec 32) (k0_hw18 : k0_chk18 v3 k0_t6 k0_t7 v214), ∀ (k0_h27 : k0_cond27 v3 k0_t6 k0_t7 = 1#1), ∀ a, (k0_off184 v3 k0_t6 k0_t7 v214) a + S1x2x256x1024.size a ≤ S8x2x4096x1024.size a := fun v3 k0_t6 k0_t7 v214 k0_hw18 k0_h27 => k0_hw18.1 k0_h27
theorem k0_off184_wordsi8 : ∀ (v3 : BitVec 32) (k0_t6 : Fin (k0_t6_loop v3).trips) (k0_t7 : Fin k0_t7_loop.trips) (v214 : BitVec 32) (k0_hw18 : k0_chk18 v3 k0_t6 k0_t7 v214), ∀ (k0_h27 : k0_cond27 v3 k0_t6 k0_t7 = 1#1), (Rect.unit (s := S8x2x4096x1024) (k0_off184 v3 k0_t6 k0_t7 v214) S1x2x256x1024.size (k0_off184_inb v3 k0_t6 k0_t7 v214 k0_hw18 k0_h27)).WholeWords (EltTy.packing .i8) := fun v3 k0_t6 k0_t7 v214 k0_hw18 k0_h27 => k0_hw18.2.1 k0_h27 (k0_off184_inb v3 k0_t6 k0_t7 v214 k0_hw18 k0_h27)
theorem k0_off187_inb : ∀ (v3 : BitVec 32) (k0_t6 : Fin (k0_t6_loop v3).trips) (k0_t7 : Fin k0_t7_loop.trips) (v214 : BitVec 32) (k0_hw18 : k0_chk18 v3 k0_t6 k0_t7 v214), ∀ (k0_h28 : k0_cond28 v3 k0_t6 k0_t7 = 1#1), ∀ a, (k0_off187 v3 k0_t6 k0_t7 v214) a + S1x256x1024.size a ≤ S8x2048x2048.size a := fun v3 k0_t6 k0_t7 v214 k0_hw18 k0_h28 => k0_hw18.2.2.1 k0_h28
theorem k0_off187_wordsi8 : ∀ (v3 : BitVec 32) (k0_t6 : Fin (k0_t6_loop v3).trips) (k0_t7 : Fin k0_t7_loop.trips) (v214 : BitVec 32) (k0_hw18 : k0_chk18 v3 k0_t6 k0_t7 v214), ∀ (k0_h28 : k0_cond28 v3 k0_t6 k0_t7 = 1#1), (Rect.unit (s := S8x2048x2048) (k0_off187 v3 k0_t6 k0_t7 v214) S1x256x1024.size (k0_off187_inb v3 k0_t6 k0_t7 v214 k0_hw18 k0_h28)).WholeWords (EltTy.packing .i8) := fun v3 k0_t6 k0_t7 v214 k0_hw18 k0_h28 => k0_hw18.2.2.2.1 k0_h28 (k0_off187_inb v3 k0_t6 k0_t7 v214 k0_hw18 k0_h28)
theorem k0_off189_inb : ∀ (v3 : BitVec 32) (k0_t6 : Fin (k0_t6_loop v3).trips) (k0_t7 : Fin k0_t7_loop.trips) (v214 : BitVec 32) (k0_hw18 : k0_chk18 v3 k0_t6 k0_t7 v214), ∀ (k0_h28 : k0_cond28 v3 k0_t6 k0_t7 = 1#1), ∀ a, (k0_off189 v3 k0_t6 k0_t7 v214) a + S1x256x1024.size a ≤ S8x2048x2048.size a := fun v3 k0_t6 k0_t7 v214 k0_hw18 k0_h28 => k0_hw18.2.2.2.2.1 k0_h28
theorem k0_off189_wordsi8 : ∀ (v3 : BitVec 32) (k0_t6 : Fin (k0_t6_loop v3).trips) (k0_t7 : Fin k0_t7_loop.trips) (v214 : BitVec 32) (k0_hw18 : k0_chk18 v3 k0_t6 k0_t7 v214), ∀ (k0_h28 : k0_cond28 v3 k0_t6 k0_t7 = 1#1), (Rect.unit (s := S8x2048x2048) (k0_off189 v3 k0_t6 k0_t7 v214) S1x256x1024.size (k0_off189_inb v3 k0_t6 k0_t7 v214 k0_hw18 k0_h28)).WholeWords (EltTy.packing .i8) := fun v3 k0_t6 k0_t7 v214 k0_hw18 k0_h28 => k0_hw18.2.2.2.2.2 k0_h28 (k0_off189_inb v3 k0_t6 k0_t7 v214 k0_hw18 k0_h28)

def k0_off190 (v3 : BitVec 32) (k0_t6 : Fin (k0_t6_loop v3).trips) (k0_t7 : Fin k0_t7_loop.trips) : Fin 1 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c24_i32_406 : BitVec 32 := 24#32
  let v849 : BitVec 32 := Scalar.divsi v847 c24_i32_406
  let v851 : Index := Scalar.indexCast v849
  ![v851.toNat]
def k0_cond29 (v3 : BitVec 32) (k0_t6 : Fin (k0_t6_loop v3).trips) (k0_t7 : Fin k0_t7_loop.trips) : BitVec 1 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_160 : BitVec 32 := 8#32
  let v221 : BitVec 32 := Scalar.addi v208 c8_i32_160
  let c1_i32_161 : BitVec 32 := 1#32
  let v222 : BitVec 32 := Scalar.subi v221 c1_i32_161
  let c24_i32 : BitVec 32 := 24#32
  let v43 : BitVec 32 := Scalar.muli v42 c24_i32
  let v223 : BitVec 1 := Scalar.cmpi .slt v222 v43
  let v224 : BitVec 32 := Scalar.extui v223
  let c0_i32_162 : BitVec 32 := 0#32
  let v225 : BitVec 1 := Scalar.cmpi .ne v224 c0_i32_162
  v225

def k0_mult29 (v3 : BitVec 32) (k0_t6 : Fin (k0_t6_loop v3).trips) (k0_t7 : Fin k0_t7_loop.trips) : BitVec 32 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c24_i32_407 : BitVec 32 := 24#32
  let v850 : BitVec 32 := Scalar.remsi v847 c24_i32_407
  let c256_i32_412 : BitVec 32 := 256#32
  let v859 : BitVec 32 := Scalar.muli v850 c256_i32_412
  v859
def k0_cond30 (v3 : BitVec 32) (k0_t6 : Fin (k0_t6_loop v3).trips) (k0_t7 : Fin k0_t7_loop.trips) : BitVec 1 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c24_i32_407 : BitVec 32 := 24#32
  let v850 : BitVec 32 := Scalar.remsi v847 c24_i32_407
  let c16_i32_408 : BitVec 32 := 16#32
  let v853 : BitVec 1 := Scalar.cmpi .slt v850 c16_i32_408
  let v854 : BitVec 32 := Scalar.extui v853
  let c0_i32_409 : BitVec 32 := 0#32
  let v855 : BitVec 1 := Scalar.cmpi .ne v854 c0_i32_409
  v855

def k0_off191 (v3 : BitVec 32) (k0_t6 : Fin (k0_t6_loop v3).trips) (k0_t7 : Fin k0_t7_loop.trips) : Fin 1 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c8_i32_405 : BitVec 32 := 8#32
  let v848 : BitVec 32 := Scalar.remsi v847 c8_i32_405
  ![v848.toNat]
def k0_off192 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c8_i32_405 : BitVec 32 := 8#32
  let v848 : BitVec 32 := Scalar.remsi v847 c8_i32_405
  let c0_i32_413 : BitVec 32 := 0#32
  let c0_i32_414 : BitVec 32 := 0#32
  let c0_i32_415 : BitVec 32 := 0#32
  ![v848.toNat, 0, 0, 0]
def k0_off193 (v3 : BitVec 32) (k0_t6 : Fin (k0_t6_loop v3).trips) (k0_t7 : Fin k0_t7_loop.trips) (v852 : BitVec 32) : Fin 4 → Nat :=
  let c0_i32_416 : BitVec 32 := 0#32
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c24_i32_407 : BitVec 32 := 24#32
  let v850 : BitVec 32 := Scalar.remsi v847 c24_i32_407
  let c256_i32_412 : BitVec 32 := 256#32
  let v859 : BitVec 32 := Scalar.muli v850 c256_i32_412
  let v860 : BitVec 32 := v859
  let c0_i32_417 : BitVec 32 := 0#32
  ![v852.toNat, 0, v860.toNat, 0]

def k0_mult30 (v3 : BitVec 32) (k0_t6 : Fin (k0_t6_loop v3).trips) (k0_t7 : Fin k0_t7_loop.trips) : BitVec 32 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c24_i32_407 : BitVec 32 := 24#32
  let v850 : BitVec 32 := Scalar.remsi v847 c24_i32_407
  let c16_i32_412 : BitVec 32 := 16#32
  let v859 : BitVec 32 := Scalar.subi v850 c16_i32_412
  let c256_i32_413 : BitVec 32 := 256#32
  let v860 : BitVec 32 := Scalar.muli v859 c256_i32_413
  v860
def k0_cond31 (v3 : BitVec 32) (k0_t6 : Fin (k0_t6_loop v3).trips) (k0_t7 : Fin k0_t7_loop.trips) : BitVec 1 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c24_i32_407 : BitVec 32 := 24#32
  let v850 : BitVec 32 := Scalar.remsi v847 c24_i32_407
  let c16_i32_410 : BitVec 32 := 16#32
  let v856 : BitVec 1 := Scalar.cmpi .sge v850 c16_i32_410
  let v857 : BitVec 32 := Scalar.extui v856
  let c0_i32_411 : BitVec 32 := 0#32
  let v858 : BitVec 1 := Scalar.cmpi .ne v857 c0_i32_411
  v858

def k0_off194 (v3 : BitVec 32) (k0_t6 : Fin (k0_t6_loop v3).trips) (k0_t7 : Fin k0_t7_loop.trips) : Fin 1 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c8_i32_405 : BitVec 32 := 8#32
  let v848 : BitVec 32 := Scalar.remsi v847 c8_i32_405
  ![v848.toNat]
def k0_off195 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c8_i32_405 : BitVec 32 := 8#32
  let v848 : BitVec 32 := Scalar.remsi v847 c8_i32_405
  let c0_i32_414 : BitVec 32 := 0#32
  let c0_i32_415 : BitVec 32 := 0#32
  let c0_i32_416 : BitVec 32 := 0#32
  ![v848.toNat, 0, 0, 0]
def k0_off196 (v3 : BitVec 32) (k0_t6 : Fin (k0_t6_loop v3).trips) (k0_t7 : Fin k0_t7_loop.trips) (v852 : BitVec 32) : Fin 3 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c24_i32_407 : BitVec 32 := 24#32
  let v850 : BitVec 32 := Scalar.remsi v847 c24_i32_407
  let c16_i32_412 : BitVec 32 := 16#32
  let v859 : BitVec 32 := Scalar.subi v850 c16_i32_412
  let c256_i32_413 : BitVec 32 := 256#32
  let v860 : BitVec 32 := Scalar.muli v859 c256_i32_413
  let v861 : BitVec 32 := v860
  let c0_i32_417 : BitVec 32 := 0#32
  ![v852.toNat, v861.toNat, 0]
def k0_off197 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c8_i32_405 : BitVec 32 := 8#32
  let v848 : BitVec 32 := Scalar.remsi v847 c8_i32_405
  let c1_i32_418 : BitVec 32 := 1#32
  let c0_i32_419 : BitVec 32 := 0#32
  let c0_i32_420 : BitVec 32 := 0#32
  ![v848.toNat, 1, 0, 0]
def k0_off198 (v3 : BitVec 32) (k0_t6 : Fin (k0_t6_loop v3).trips) (k0_t7 : Fin k0_t7_loop.trips) (v852 : BitVec 32) : Fin 3 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_403 : BitVec 32 := 8#32
  let v846 : BitVec 32 := Scalar.addi v208 c8_i32_403
  let c1_i32_404 : BitVec 32 := 1#32
  let v847 : BitVec 32 := Scalar.subi v846 c1_i32_404
  let c24_i32_407 : BitVec 32 := 24#32
  let v850 : BitVec 32 := Scalar.remsi v847 c24_i32_407
  let c16_i32_412 : BitVec 32 := 16#32
  let v859 : BitVec 32 := Scalar.subi v850 c16_i32_412
  let c256_i32_413 : BitVec 32 := 256#32
  let v860 : BitVec 32 := Scalar.muli v859 c256_i32_413
  let v861 : BitVec 32 := v860
  let c1024_i32 : BitVec 32 := 1024#32
  ![v852.toNat, v861.toNat, 1024]

def k0_chk19 (v3 : BitVec 32) (k0_t6 : Fin (k0_t6_loop v3).trips) (k0_t7 : Fin k0_t7_loop.trips) (v852 : BitVec 32) : Prop :=
  (∀ (k0_h29 : k0_cond29 v3 k0_t6 k0_t7 = 1#1), ∀ (k0_h30 : k0_cond30 v3 k0_t6 k0_t7 = 1#1), ∀ a, (k0_off193 v3 k0_t6 k0_t7 v852) a + S1x2x256x1024.size a ≤ S8x2x4096x1024.size a) ∧
  (∀ (k0_h29 : k0_cond29 v3 k0_t6 k0_t7 = 1#1), ∀ (k0_h30 : k0_cond30 v3 k0_t6 k0_t7 = 1#1), ∀ (hinb : ∀ a, (k0_off193 v3 k0_t6 k0_t7 v852) a + S1x2x256x1024.size a ≤ S8x2x4096x1024.size a), (Rect.unit (s := S8x2x4096x1024) (k0_off193 v3 k0_t6 k0_t7 v852) S1x2x256x1024.size hinb).WholeWords (EltTy.packing .i8)) ∧
  (∀ (k0_h29 : k0_cond29 v3 k0_t6 k0_t7 = 1#1), ∀ (k0_h31 : k0_cond31 v3 k0_t6 k0_t7 = 1#1), ∀ a, (k0_off196 v3 k0_t6 k0_t7 v852) a + S1x256x1024.size a ≤ S8x2048x2048.size a) ∧
  (∀ (k0_h29 : k0_cond29 v3 k0_t6 k0_t7 = 1#1), ∀ (k0_h31 : k0_cond31 v3 k0_t6 k0_t7 = 1#1), ∀ (hinb : ∀ a, (k0_off196 v3 k0_t6 k0_t7 v852) a + S1x256x1024.size a ≤ S8x2048x2048.size a), (Rect.unit (s := S8x2048x2048) (k0_off196 v3 k0_t6 k0_t7 v852) S1x256x1024.size hinb).WholeWords (EltTy.packing .i8)) ∧
  (∀ (k0_h29 : k0_cond29 v3 k0_t6 k0_t7 = 1#1), ∀ (k0_h31 : k0_cond31 v3 k0_t6 k0_t7 = 1#1), ∀ a, (k0_off198 v3 k0_t6 k0_t7 v852) a + S1x256x1024.size a ≤ S8x2048x2048.size a) ∧
  (∀ (k0_h29 : k0_cond29 v3 k0_t6 k0_t7 = 1#1), ∀ (k0_h31 : k0_cond31 v3 k0_t6 k0_t7 = 1#1), ∀ (hinb : ∀ a, (k0_off198 v3 k0_t6 k0_t7 v852) a + S1x256x1024.size a ≤ S8x2048x2048.size a), (Rect.unit (s := S8x2048x2048) (k0_off198 v3 k0_t6 k0_t7 v852) S1x256x1024.size hinb).WholeWords (EltTy.packing .i8))
theorem k0_off193_inb : ∀ (v3 : BitVec 32) (k0_t6 : Fin (k0_t6_loop v3).trips) (k0_t7 : Fin k0_t7_loop.trips) (v852 : BitVec 32) (k0_hw19 : k0_chk19 v3 k0_t6 k0_t7 v852), ∀ (k0_h29 : k0_cond29 v3 k0_t6 k0_t7 = 1#1), ∀ (k0_h30 : k0_cond30 v3 k0_t6 k0_t7 = 1#1), ∀ a, (k0_off193 v3 k0_t6 k0_t7 v852) a + S1x2x256x1024.size a ≤ S8x2x4096x1024.size a := fun v3 k0_t6 k0_t7 v852 k0_hw19 k0_h29 k0_h30 => k0_hw19.1 k0_h29 k0_h30
theorem k0_off193_wordsi8 : ∀ (v3 : BitVec 32) (k0_t6 : Fin (k0_t6_loop v3).trips) (k0_t7 : Fin k0_t7_loop.trips) (v852 : BitVec 32) (k0_hw19 : k0_chk19 v3 k0_t6 k0_t7 v852), ∀ (k0_h29 : k0_cond29 v3 k0_t6 k0_t7 = 1#1), ∀ (k0_h30 : k0_cond30 v3 k0_t6 k0_t7 = 1#1), (Rect.unit (s := S8x2x4096x1024) (k0_off193 v3 k0_t6 k0_t7 v852) S1x2x256x1024.size (k0_off193_inb v3 k0_t6 k0_t7 v852 k0_hw19 k0_h29 k0_h30)).WholeWords (EltTy.packing .i8) := fun v3 k0_t6 k0_t7 v852 k0_hw19 k0_h29 k0_h30 => k0_hw19.2.1 k0_h29 k0_h30 (k0_off193_inb v3 k0_t6 k0_t7 v852 k0_hw19 k0_h29 k0_h30)
theorem k0_off196_inb : ∀ (v3 : BitVec 32) (k0_t6 : Fin (k0_t6_loop v3).trips) (k0_t7 : Fin k0_t7_loop.trips) (v852 : BitVec 32) (k0_hw19 : k0_chk19 v3 k0_t6 k0_t7 v852), ∀ (k0_h29 : k0_cond29 v3 k0_t6 k0_t7 = 1#1), ∀ (k0_h31 : k0_cond31 v3 k0_t6 k0_t7 = 1#1), ∀ a, (k0_off196 v3 k0_t6 k0_t7 v852) a + S1x256x1024.size a ≤ S8x2048x2048.size a := fun v3 k0_t6 k0_t7 v852 k0_hw19 k0_h29 k0_h31 => k0_hw19.2.2.1 k0_h29 k0_h31
theorem k0_off196_wordsi8 : ∀ (v3 : BitVec 32) (k0_t6 : Fin (k0_t6_loop v3).trips) (k0_t7 : Fin k0_t7_loop.trips) (v852 : BitVec 32) (k0_hw19 : k0_chk19 v3 k0_t6 k0_t7 v852), ∀ (k0_h29 : k0_cond29 v3 k0_t6 k0_t7 = 1#1), ∀ (k0_h31 : k0_cond31 v3 k0_t6 k0_t7 = 1#1), (Rect.unit (s := S8x2048x2048) (k0_off196 v3 k0_t6 k0_t7 v852) S1x256x1024.size (k0_off196_inb v3 k0_t6 k0_t7 v852 k0_hw19 k0_h29 k0_h31)).WholeWords (EltTy.packing .i8) := fun v3 k0_t6 k0_t7 v852 k0_hw19 k0_h29 k0_h31 => k0_hw19.2.2.2.1 k0_h29 k0_h31 (k0_off196_inb v3 k0_t6 k0_t7 v852 k0_hw19 k0_h29 k0_h31)
theorem k0_off198_inb : ∀ (v3 : BitVec 32) (k0_t6 : Fin (k0_t6_loop v3).trips) (k0_t7 : Fin k0_t7_loop.trips) (v852 : BitVec 32) (k0_hw19 : k0_chk19 v3 k0_t6 k0_t7 v852), ∀ (k0_h29 : k0_cond29 v3 k0_t6 k0_t7 = 1#1), ∀ (k0_h31 : k0_cond31 v3 k0_t6 k0_t7 = 1#1), ∀ a, (k0_off198 v3 k0_t6 k0_t7 v852) a + S1x256x1024.size a ≤ S8x2048x2048.size a := fun v3 k0_t6 k0_t7 v852 k0_hw19 k0_h29 k0_h31 => k0_hw19.2.2.2.2.1 k0_h29 k0_h31
theorem k0_off198_wordsi8 : ∀ (v3 : BitVec 32) (k0_t6 : Fin (k0_t6_loop v3).trips) (k0_t7 : Fin k0_t7_loop.trips) (v852 : BitVec 32) (k0_hw19 : k0_chk19 v3 k0_t6 k0_t7 v852), ∀ (k0_h29 : k0_cond29 v3 k0_t6 k0_t7 = 1#1), ∀ (k0_h31 : k0_cond31 v3 k0_t6 k0_t7 = 1#1), (Rect.unit (s := S8x2048x2048) (k0_off198 v3 k0_t6 k0_t7 v852) S1x256x1024.size (k0_off198_inb v3 k0_t6 k0_t7 v852 k0_hw19 k0_h29 k0_h31)).WholeWords (EltTy.packing .i8) := fun v3 k0_t6 k0_t7 v852 k0_hw19 k0_h29 k0_h31 => k0_hw19.2.2.2.2.2 k0_h29 k0_h31 (k0_off198_inb v3 k0_t6 k0_t7 v852 k0_hw19 k0_h29 k0_h31)

def k0_mult31 (k0_t7 : Fin k0_t7_loop.trips) : BitVec 32 :=
  let c0_i32_163 : BitVec 32 := 0#32
  let c0_i32_128 : BitVec 32 := 0#32
  let c1_i32_130 : BitVec 32 := 1#32
  let arg20 : BitVec 32 := Scf.iv c0_i32_128 c1_i32_130 k0_t7
  let c256_i32 : BitVec 32 := 256#32
  let v226 : BitVec 32 := Scalar.muli arg20 c256_i32
  let v227 : BitVec 32 := Scalar.addi c0_i32_163 v226
  v227
def k0_off199 (v3 : BitVec 32) (k0_t6 : Fin (k0_t6_loop v3).trips) (k0_t7 : Fin k0_t7_loop.trips) (c0_i32_163 : BitVec 32) : Fin 3 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c2_i32_115 : BitVec 32 := 2#32
  let v147 : BitVec 32 := Scalar.remsi arg19 c2_i32_115
  let v229 : Index := Scalar.indexCast v147
  let c0_164 : Index := 0#32
  let c0_i32_128 : BitVec 32 := 0#32
  let c1_i32_130 : BitVec 32 := 1#32
  let arg20 : BitVec 32 := Scf.iv c0_i32_128 c1_i32_130 k0_t7
  let c256_i32 : BitVec 32 := 256#32
  let v226 : BitVec 32 := Scalar.muli arg20 c256_i32
  let v227 : BitVec 32 := Scalar.addi c0_i32_163 v226
  let v228 : BitVec 32 := v227
  let v230 : Index := Scalar.indexCast v228
  ![v229.toNat, 0, v230.toNat]
def k0_mult32 (k0_t7 : Fin k0_t7_loop.trips) : BitVec 32 :=
  let c4096_i32 : BitVec 32 := 4096#32
  let c0_i32_128 : BitVec 32 := 0#32
  let c1_i32_130 : BitVec 32 := 1#32
  let arg20 : BitVec 32 := Scf.iv c0_i32_128 c1_i32_130 k0_t7
  let c256_i32_168 : BitVec 32 := 256#32
  let v236 : BitVec 32 := Scalar.muli arg20 c256_i32_168
  let v237 : BitVec 32 := Scalar.addi c4096_i32 v236
  v237
def k0_off200 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_152 : BitVec 32 := 8#32
  let v209 : BitVec 32 := Scalar.remsi v208 c8_i32_152
  let v246 : Index := Scalar.indexCast v209
  let c0_172 : Index := 0#32
  let c0_173 : Index := 0#32
  let c0_174 : Index := 0#32
  ![v246.toNat, 0, 0, 0]
def k0_off201 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_152 : BitVec 32 := 8#32
  let v209 : BitVec 32 := Scalar.remsi v208 c8_i32_152
  let v282 : Index := Scalar.indexCast v209
  let c0_186 : Index := 0#32
  let c0_187 : Index := 0#32
  let c128 : Index := 128#32
  ![v282.toNat, 0, 0, 128]
def k0_off202 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_152 : BitVec 32 := 8#32
  let v209 : BitVec 32 := Scalar.remsi v208 c8_i32_152
  let v319 : Index := Scalar.indexCast v209
  let c0_198 : Index := 0#32
  let c0_199 : Index := 0#32
  let c256_200 : Index := 256#32
  ![v319.toNat, 0, 0, 256]
def k0_off203 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_152 : BitVec 32 := 8#32
  let v209 : BitVec 32 := Scalar.remsi v208 c8_i32_152
  let v356 : Index := Scalar.indexCast v209
  let c0_211 : Index := 0#32
  let c0_212 : Index := 0#32
  let c384 : Index := 384#32
  ![v356.toNat, 0, 0, 384]
def k0_off204 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_152 : BitVec 32 := 8#32
  let v209 : BitVec 32 := Scalar.remsi v208 c8_i32_152
  let v393 : Index := Scalar.indexCast v209
  let c0_223 : Index := 0#32
  let c0_224 : Index := 0#32
  let c512_225 : Index := 512#32
  ![v393.toNat, 0, 0, 512]
def k0_off205 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_152 : BitVec 32 := 8#32
  let v209 : BitVec 32 := Scalar.remsi v208 c8_i32_152
  let v430 : Index := Scalar.indexCast v209
  let c0_236 : Index := 0#32
  let c0_237 : Index := 0#32
  let c640 : Index := 640#32
  ![v430.toNat, 0, 0, 640]
def k0_off206 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_152 : BitVec 32 := 8#32
  let v209 : BitVec 32 := Scalar.remsi v208 c8_i32_152
  let v467 : Index := Scalar.indexCast v209
  let c0_248 : Index := 0#32
  let c0_249 : Index := 0#32
  let c768_250 : Index := 768#32
  ![v467.toNat, 0, 0, 768]
def k0_off207 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_152 : BitVec 32 := 8#32
  let v209 : BitVec 32 := Scalar.remsi v208 c8_i32_152
  let v504 : Index := Scalar.indexCast v209
  let c0_261 : Index := 0#32
  let c0_262 : Index := 0#32
  let c896 : Index := 896#32
  ![v504.toNat, 0, 0, 896]
def k0_off208 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_152 : BitVec 32 := 8#32
  let v209 : BitVec 32 := Scalar.remsi v208 c8_i32_152
  let v541 : Index := Scalar.indexCast v209
  let c1_273 : Index := 1#32
  let c0_274 : Index := 0#32
  let c0_275 : Index := 0#32
  ![v541.toNat, 1, 0, 0]
def k0_off209 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_152 : BitVec 32 := 8#32
  let v209 : BitVec 32 := Scalar.remsi v208 c8_i32_152
  let v577 : Index := Scalar.indexCast v209
  let c1_289 : Index := 1#32
  let c0_290 : Index := 0#32
  let c128_291 : Index := 128#32
  ![v577.toNat, 1, 0, 128]
def k0_off210 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_152 : BitVec 32 := 8#32
  let v209 : BitVec 32 := Scalar.remsi v208 c8_i32_152
  let v614 : Index := Scalar.indexCast v209
  let c1_305 : Index := 1#32
  let c0_306 : Index := 0#32
  let c256_307 : Index := 256#32
  ![v614.toNat, 1, 0, 256]
def k0_off211 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_152 : BitVec 32 := 8#32
  let v209 : BitVec 32 := Scalar.remsi v208 c8_i32_152
  let v651 : Index := Scalar.indexCast v209
  let c1_321 : Index := 1#32
  let c0_322 : Index := 0#32
  let c384_323 : Index := 384#32
  ![v651.toNat, 1, 0, 384]
def k0_off212 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_152 : BitVec 32 := 8#32
  let v209 : BitVec 32 := Scalar.remsi v208 c8_i32_152
  let v688 : Index := Scalar.indexCast v209
  let c1_337 : Index := 1#32
  let c0_338 : Index := 0#32
  let c512_339 : Index := 512#32
  ![v688.toNat, 1, 0, 512]
def k0_off213 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_152 : BitVec 32 := 8#32
  let v209 : BitVec 32 := Scalar.remsi v208 c8_i32_152
  let v725 : Index := Scalar.indexCast v209
  let c1_353 : Index := 1#32
  let c0_354 : Index := 0#32
  let c640_355 : Index := 640#32
  ![v725.toNat, 1, 0, 640]
def k0_off214 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_152 : BitVec 32 := 8#32
  let v209 : BitVec 32 := Scalar.remsi v208 c8_i32_152
  let v762 : Index := Scalar.indexCast v209
  let c1_369 : Index := 1#32
  let c0_370 : Index := 0#32
  let c768_371 : Index := 768#32
  ![v762.toNat, 1, 0, 768]
def k0_off215 (v3 : BitVec 32) (k0_t6 : Fin (k0_t6_loop v3).trips) (k0_t7 : Fin k0_t7_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c0_i32_128 : BitVec 32 := 0#32
  let c1_i32_130 : BitVec 32 := 1#32
  let arg20 : BitVec 32 := Scf.iv c0_i32_128 c1_i32_130 k0_t7
  let v208 : BitVec 32 := Scalar.addi v207 arg20
  let c8_i32_152 : BitVec 32 := 8#32
  let v209 : BitVec 32 := Scalar.remsi v208 c8_i32_152
  let v799 : Index := Scalar.indexCast v209
  let c1_385 : Index := 1#32
  let c0_386 : Index := 0#32
  let c896_387 : Index := 896#32
  ![v799.toNat, 1, 0, 896]
def k0_mult33 (k0_t7 : Fin k0_t7_loop.trips) : BitVec 32 :=
  let c0_i32_128 : BitVec 32 := 0#32
  let c1_i32_130 : BitVec 32 := 1#32
  let arg20 : BitVec 32 := Scf.iv c0_i32_128 c1_i32_130 k0_t7
  let c256_i32_401 : BitVec 32 := 256#32
  let v840 : BitVec 32 := Scalar.muli arg20 c256_i32_401
  v840
def k0_off216 (k0_t7 : Fin k0_t7_loop.trips) : Fin 2 → Nat :=
  let c0_402 : Index := 0#32
  let c0_i32_128 : BitVec 32 := 0#32
  let c1_i32_130 : BitVec 32 := 1#32
  let arg20 : BitVec 32 := Scf.iv c0_i32_128 c1_i32_130 k0_t7
  let c256_i32_401 : BitVec 32 := 256#32
  let v840 : BitVec 32 := Scalar.muli arg20 c256_i32_401
  let v841 : BitVec 32 := v840
  let v842 : Index := Scalar.indexCast v841
  ![0, v842.toNat]
def k0_off217 (v3 : BitVec 32) (k0_t6 : Fin (k0_t6_loop v3).trips) : Fin 1 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let v168 : Index := Scalar.indexCast arg19
  ![v168.toNat]
@[reducible] def k0_t8_loop : Scf.Loop 32 :=
  let c0_i32_147 : BitVec 32 := 0#32
  let c8_i32_148 : BitVec 32 := 8#32
  let v206 : BitVec 32 := Scalar.addi c0_i32_147 c8_i32_148
  let c1_i32_149 : BitVec 32 := 1#32
  ⟨c0_i32_147, v206, c1_i32_149⟩
def k0_off218 (v3 : BitVec 32) (k0_t6 : Fin (k0_t6_loop v3).trips) (k0_t8 : Fin k0_t8_loop.trips) : Fin 1 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c24_i32_155 : BitVec 32 := 24#32
  let v212 : BitVec 32 := Scalar.divsi v209 c24_i32_155
  let v214 : Index := Scalar.indexCast v212
  ![v214.toNat]
def k0_mult34 (v3 : BitVec 32) (k0_t6 : Fin (k0_t6_loop v3).trips) (k0_t8 : Fin k0_t8_loop.trips) : BitVec 32 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c24_i32_156 : BitVec 32 := 24#32
  let v213 : BitVec 32 := Scalar.remsi v209 c24_i32_156
  let c256_i32_394 : BitVec 32 := 256#32
  let v828 : BitVec 32 := Scalar.muli v213 c256_i32_394
  v828
def k0_cond32 (v3 : BitVec 32) (k0_t6 : Fin (k0_t6_loop v3).trips) (k0_t8 : Fin k0_t8_loop.trips) : BitVec 1 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c24_i32_156 : BitVec 32 := 24#32
  let v213 : BitVec 32 := Scalar.remsi v209 c24_i32_156
  let c16_i32_157 : BitVec 32 := 16#32
  let v216 : BitVec 1 := Scalar.cmpi .slt v213 c16_i32_157
  let v217 : BitVec 32 := Scalar.extui v216
  let c0_i32_158 : BitVec 32 := 0#32
  let v218 : BitVec 1 := Scalar.cmpi .ne v217 c0_i32_158
  v218

def k0_off219 (v3 : BitVec 32) (k0_t6 : Fin (k0_t6_loop v3).trips) (k0_t8 : Fin k0_t8_loop.trips) : Fin 1 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_154 : BitVec 32 := 8#32
  let v211 : BitVec 32 := Scalar.remsi v209 c8_i32_154
  ![v211.toNat]
def k0_off220 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_154 : BitVec 32 := 8#32
  let v211 : BitVec 32 := Scalar.remsi v209 c8_i32_154
  let c0_i32_395 : BitVec 32 := 0#32
  let c0_i32_396 : BitVec 32 := 0#32
  let c0_i32_397 : BitVec 32 := 0#32
  ![v211.toNat, 0, 0, 0]
def k0_off221 (v3 : BitVec 32) (k0_t6 : Fin (k0_t6_loop v3).trips) (k0_t8 : Fin k0_t8_loop.trips) (v215 : BitVec 32) : Fin 4 → Nat :=
  let c0_i32_398 : BitVec 32 := 0#32
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c24_i32_156 : BitVec 32 := 24#32
  let v213 : BitVec 32 := Scalar.remsi v209 c24_i32_156
  let c256_i32_394 : BitVec 32 := 256#32
  let v828 : BitVec 32 := Scalar.muli v213 c256_i32_394
  let v829 : BitVec 32 := v828
  let c0_i32_399 : BitVec 32 := 0#32
  ![v215.toNat, 0, v829.toNat, 0]

def k0_mult35 (v3 : BitVec 32) (k0_t6 : Fin (k0_t6_loop v3).trips) (k0_t8 : Fin k0_t8_loop.trips) : BitVec 32 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c24_i32_156 : BitVec 32 := 24#32
  let v213 : BitVec 32 := Scalar.remsi v209 c24_i32_156
  let c16_i32_394 : BitVec 32 := 16#32
  let v828 : BitVec 32 := Scalar.subi v213 c16_i32_394
  let c256_i32_395 : BitVec 32 := 256#32
  let v829 : BitVec 32 := Scalar.muli v828 c256_i32_395
  v829
def k0_cond33 (v3 : BitVec 32) (k0_t6 : Fin (k0_t6_loop v3).trips) (k0_t8 : Fin k0_t8_loop.trips) : BitVec 1 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c24_i32_156 : BitVec 32 := 24#32
  let v213 : BitVec 32 := Scalar.remsi v209 c24_i32_156
  let c16_i32_159 : BitVec 32 := 16#32
  let v219 : BitVec 1 := Scalar.cmpi .sge v213 c16_i32_159
  let v220 : BitVec 32 := Scalar.extui v219
  let c0_i32_160 : BitVec 32 := 0#32
  let v221 : BitVec 1 := Scalar.cmpi .ne v220 c0_i32_160
  v221

def k0_off222 (v3 : BitVec 32) (k0_t6 : Fin (k0_t6_loop v3).trips) (k0_t8 : Fin k0_t8_loop.trips) : Fin 1 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_154 : BitVec 32 := 8#32
  let v211 : BitVec 32 := Scalar.remsi v209 c8_i32_154
  ![v211.toNat]
def k0_off223 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_154 : BitVec 32 := 8#32
  let v211 : BitVec 32 := Scalar.remsi v209 c8_i32_154
  let c0_i32_396 : BitVec 32 := 0#32
  let c0_i32_397 : BitVec 32 := 0#32
  let c0_i32_398 : BitVec 32 := 0#32
  ![v211.toNat, 0, 0, 0]
def k0_off224 (v3 : BitVec 32) (k0_t6 : Fin (k0_t6_loop v3).trips) (k0_t8 : Fin k0_t8_loop.trips) (v215 : BitVec 32) : Fin 3 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c24_i32_156 : BitVec 32 := 24#32
  let v213 : BitVec 32 := Scalar.remsi v209 c24_i32_156
  let c16_i32_394 : BitVec 32 := 16#32
  let v828 : BitVec 32 := Scalar.subi v213 c16_i32_394
  let c256_i32_395 : BitVec 32 := 256#32
  let v829 : BitVec 32 := Scalar.muli v828 c256_i32_395
  let v830 : BitVec 32 := v829
  let c0_i32_399 : BitVec 32 := 0#32
  ![v215.toNat, v830.toNat, 0]
def k0_off225 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_154 : BitVec 32 := 8#32
  let v211 : BitVec 32 := Scalar.remsi v209 c8_i32_154
  let c1_i32_400 : BitVec 32 := 1#32
  let c0_i32_401 : BitVec 32 := 0#32
  let c0_i32_402 : BitVec 32 := 0#32
  ![v211.toNat, 1, 0, 0]
def k0_off226 (v3 : BitVec 32) (k0_t6 : Fin (k0_t6_loop v3).trips) (k0_t8 : Fin k0_t8_loop.trips) (v215 : BitVec 32) : Fin 3 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c24_i32_156 : BitVec 32 := 24#32
  let v213 : BitVec 32 := Scalar.remsi v209 c24_i32_156
  let c16_i32_394 : BitVec 32 := 16#32
  let v828 : BitVec 32 := Scalar.subi v213 c16_i32_394
  let c256_i32_395 : BitVec 32 := 256#32
  let v829 : BitVec 32 := Scalar.muli v828 c256_i32_395
  let v830 : BitVec 32 := v829
  let c1024_i32 : BitVec 32 := 1024#32
  ![v215.toNat, v830.toNat, 1024]

def k0_chk20 (v3 : BitVec 32) (k0_t6 : Fin (k0_t6_loop v3).trips) (k0_t8 : Fin k0_t8_loop.trips) (v215 : BitVec 32) : Prop :=
  (∀ (k0_h32 : k0_cond32 v3 k0_t6 k0_t8 = 1#1), ∀ a, (k0_off221 v3 k0_t6 k0_t8 v215) a + S1x2x256x1024.size a ≤ S8x2x4096x1024.size a) ∧
  (∀ (k0_h32 : k0_cond32 v3 k0_t6 k0_t8 = 1#1), ∀ (hinb : ∀ a, (k0_off221 v3 k0_t6 k0_t8 v215) a + S1x2x256x1024.size a ≤ S8x2x4096x1024.size a), (Rect.unit (s := S8x2x4096x1024) (k0_off221 v3 k0_t6 k0_t8 v215) S1x2x256x1024.size hinb).WholeWords (EltTy.packing .i8)) ∧
  (∀ (k0_h33 : k0_cond33 v3 k0_t6 k0_t8 = 1#1), ∀ a, (k0_off224 v3 k0_t6 k0_t8 v215) a + S1x256x1024.size a ≤ S8x2048x2048.size a) ∧
  (∀ (k0_h33 : k0_cond33 v3 k0_t6 k0_t8 = 1#1), ∀ (hinb : ∀ a, (k0_off224 v3 k0_t6 k0_t8 v215) a + S1x256x1024.size a ≤ S8x2048x2048.size a), (Rect.unit (s := S8x2048x2048) (k0_off224 v3 k0_t6 k0_t8 v215) S1x256x1024.size hinb).WholeWords (EltTy.packing .i8)) ∧
  (∀ (k0_h33 : k0_cond33 v3 k0_t6 k0_t8 = 1#1), ∀ a, (k0_off226 v3 k0_t6 k0_t8 v215) a + S1x256x1024.size a ≤ S8x2048x2048.size a) ∧
  (∀ (k0_h33 : k0_cond33 v3 k0_t6 k0_t8 = 1#1), ∀ (hinb : ∀ a, (k0_off226 v3 k0_t6 k0_t8 v215) a + S1x256x1024.size a ≤ S8x2048x2048.size a), (Rect.unit (s := S8x2048x2048) (k0_off226 v3 k0_t6 k0_t8 v215) S1x256x1024.size hinb).WholeWords (EltTy.packing .i8))
theorem k0_off221_inb : ∀ (v3 : BitVec 32) (k0_t6 : Fin (k0_t6_loop v3).trips) (k0_t8 : Fin k0_t8_loop.trips) (v215 : BitVec 32) (k0_hw20 : k0_chk20 v3 k0_t6 k0_t8 v215), ∀ (k0_h32 : k0_cond32 v3 k0_t6 k0_t8 = 1#1), ∀ a, (k0_off221 v3 k0_t6 k0_t8 v215) a + S1x2x256x1024.size a ≤ S8x2x4096x1024.size a := fun v3 k0_t6 k0_t8 v215 k0_hw20 k0_h32 => k0_hw20.1 k0_h32
theorem k0_off221_wordsi8 : ∀ (v3 : BitVec 32) (k0_t6 : Fin (k0_t6_loop v3).trips) (k0_t8 : Fin k0_t8_loop.trips) (v215 : BitVec 32) (k0_hw20 : k0_chk20 v3 k0_t6 k0_t8 v215), ∀ (k0_h32 : k0_cond32 v3 k0_t6 k0_t8 = 1#1), (Rect.unit (s := S8x2x4096x1024) (k0_off221 v3 k0_t6 k0_t8 v215) S1x2x256x1024.size (k0_off221_inb v3 k0_t6 k0_t8 v215 k0_hw20 k0_h32)).WholeWords (EltTy.packing .i8) := fun v3 k0_t6 k0_t8 v215 k0_hw20 k0_h32 => k0_hw20.2.1 k0_h32 (k0_off221_inb v3 k0_t6 k0_t8 v215 k0_hw20 k0_h32)
theorem k0_off224_inb : ∀ (v3 : BitVec 32) (k0_t6 : Fin (k0_t6_loop v3).trips) (k0_t8 : Fin k0_t8_loop.trips) (v215 : BitVec 32) (k0_hw20 : k0_chk20 v3 k0_t6 k0_t8 v215), ∀ (k0_h33 : k0_cond33 v3 k0_t6 k0_t8 = 1#1), ∀ a, (k0_off224 v3 k0_t6 k0_t8 v215) a + S1x256x1024.size a ≤ S8x2048x2048.size a := fun v3 k0_t6 k0_t8 v215 k0_hw20 k0_h33 => k0_hw20.2.2.1 k0_h33
theorem k0_off224_wordsi8 : ∀ (v3 : BitVec 32) (k0_t6 : Fin (k0_t6_loop v3).trips) (k0_t8 : Fin k0_t8_loop.trips) (v215 : BitVec 32) (k0_hw20 : k0_chk20 v3 k0_t6 k0_t8 v215), ∀ (k0_h33 : k0_cond33 v3 k0_t6 k0_t8 = 1#1), (Rect.unit (s := S8x2048x2048) (k0_off224 v3 k0_t6 k0_t8 v215) S1x256x1024.size (k0_off224_inb v3 k0_t6 k0_t8 v215 k0_hw20 k0_h33)).WholeWords (EltTy.packing .i8) := fun v3 k0_t6 k0_t8 v215 k0_hw20 k0_h33 => k0_hw20.2.2.2.1 k0_h33 (k0_off224_inb v3 k0_t6 k0_t8 v215 k0_hw20 k0_h33)
theorem k0_off226_inb : ∀ (v3 : BitVec 32) (k0_t6 : Fin (k0_t6_loop v3).trips) (k0_t8 : Fin k0_t8_loop.trips) (v215 : BitVec 32) (k0_hw20 : k0_chk20 v3 k0_t6 k0_t8 v215), ∀ (k0_h33 : k0_cond33 v3 k0_t6 k0_t8 = 1#1), ∀ a, (k0_off226 v3 k0_t6 k0_t8 v215) a + S1x256x1024.size a ≤ S8x2048x2048.size a := fun v3 k0_t6 k0_t8 v215 k0_hw20 k0_h33 => k0_hw20.2.2.2.2.1 k0_h33
theorem k0_off226_wordsi8 : ∀ (v3 : BitVec 32) (k0_t6 : Fin (k0_t6_loop v3).trips) (k0_t8 : Fin k0_t8_loop.trips) (v215 : BitVec 32) (k0_hw20 : k0_chk20 v3 k0_t6 k0_t8 v215), ∀ (k0_h33 : k0_cond33 v3 k0_t6 k0_t8 = 1#1), (Rect.unit (s := S8x2048x2048) (k0_off226 v3 k0_t6 k0_t8 v215) S1x256x1024.size (k0_off226_inb v3 k0_t6 k0_t8 v215 k0_hw20 k0_h33)).WholeWords (EltTy.packing .i8) := fun v3 k0_t6 k0_t8 v215 k0_hw20 k0_h33 => k0_hw20.2.2.2.2.2 k0_h33 (k0_off226_inb v3 k0_t6 k0_t8 v215 k0_hw20 k0_h33)

def k0_off227 (v3 : BitVec 32) (k0_t6 : Fin (k0_t6_loop v3).trips) (k0_t8 : Fin k0_t8_loop.trips) : Fin 1 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c24_i32_397 : BitVec 32 := 24#32
  let v831 : BitVec 32 := Scalar.divsi v829 c24_i32_397
  let v833 : Index := Scalar.indexCast v831
  ![v833.toNat]
def k0_cond34 (v3 : BitVec 32) (k0_t6 : Fin (k0_t6_loop v3).trips) (k0_t8 : Fin k0_t8_loop.trips) : BitVec 1 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_161 : BitVec 32 := 8#32
  let v222 : BitVec 32 := Scalar.addi v209 c8_i32_161
  let c1_i32_162 : BitVec 32 := 1#32
  let v223 : BitVec 32 := Scalar.subi v222 c1_i32_162
  let c24_i32 : BitVec 32 := 24#32
  let v43 : BitVec 32 := Scalar.muli v42 c24_i32
  let v224 : BitVec 1 := Scalar.cmpi .slt v223 v43
  let v225 : BitVec 32 := Scalar.extui v224
  let c0_i32_163 : BitVec 32 := 0#32
  let v226 : BitVec 1 := Scalar.cmpi .ne v225 c0_i32_163
  v226

def k0_mult36 (v3 : BitVec 32) (k0_t6 : Fin (k0_t6_loop v3).trips) (k0_t8 : Fin k0_t8_loop.trips) : BitVec 32 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c24_i32_398 : BitVec 32 := 24#32
  let v832 : BitVec 32 := Scalar.remsi v829 c24_i32_398
  let c256_i32_403 : BitVec 32 := 256#32
  let v841 : BitVec 32 := Scalar.muli v832 c256_i32_403
  v841
def k0_cond35 (v3 : BitVec 32) (k0_t6 : Fin (k0_t6_loop v3).trips) (k0_t8 : Fin k0_t8_loop.trips) : BitVec 1 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c24_i32_398 : BitVec 32 := 24#32
  let v832 : BitVec 32 := Scalar.remsi v829 c24_i32_398
  let c16_i32_399 : BitVec 32 := 16#32
  let v835 : BitVec 1 := Scalar.cmpi .slt v832 c16_i32_399
  let v836 : BitVec 32 := Scalar.extui v835
  let c0_i32_400 : BitVec 32 := 0#32
  let v837 : BitVec 1 := Scalar.cmpi .ne v836 c0_i32_400
  v837

def k0_off228 (v3 : BitVec 32) (k0_t6 : Fin (k0_t6_loop v3).trips) (k0_t8 : Fin k0_t8_loop.trips) : Fin 1 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c8_i32_396 : BitVec 32 := 8#32
  let v830 : BitVec 32 := Scalar.remsi v829 c8_i32_396
  ![v830.toNat]
def k0_off229 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c8_i32_396 : BitVec 32 := 8#32
  let v830 : BitVec 32 := Scalar.remsi v829 c8_i32_396
  let c0_i32_404 : BitVec 32 := 0#32
  let c0_i32_405 : BitVec 32 := 0#32
  let c0_i32_406 : BitVec 32 := 0#32
  ![v830.toNat, 0, 0, 0]
def k0_off230 (v3 : BitVec 32) (k0_t6 : Fin (k0_t6_loop v3).trips) (k0_t8 : Fin k0_t8_loop.trips) (v834 : BitVec 32) : Fin 4 → Nat :=
  let c0_i32_407 : BitVec 32 := 0#32
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c24_i32_398 : BitVec 32 := 24#32
  let v832 : BitVec 32 := Scalar.remsi v829 c24_i32_398
  let c256_i32_403 : BitVec 32 := 256#32
  let v841 : BitVec 32 := Scalar.muli v832 c256_i32_403
  let v842 : BitVec 32 := v841
  let c0_i32_408 : BitVec 32 := 0#32
  ![v834.toNat, 0, v842.toNat, 0]

def k0_mult37 (v3 : BitVec 32) (k0_t6 : Fin (k0_t6_loop v3).trips) (k0_t8 : Fin k0_t8_loop.trips) : BitVec 32 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c24_i32_398 : BitVec 32 := 24#32
  let v832 : BitVec 32 := Scalar.remsi v829 c24_i32_398
  let c16_i32_403 : BitVec 32 := 16#32
  let v841 : BitVec 32 := Scalar.subi v832 c16_i32_403
  let c256_i32_404 : BitVec 32 := 256#32
  let v842 : BitVec 32 := Scalar.muli v841 c256_i32_404
  v842
def k0_cond36 (v3 : BitVec 32) (k0_t6 : Fin (k0_t6_loop v3).trips) (k0_t8 : Fin k0_t8_loop.trips) : BitVec 1 :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c24_i32_398 : BitVec 32 := 24#32
  let v832 : BitVec 32 := Scalar.remsi v829 c24_i32_398
  let c16_i32_401 : BitVec 32 := 16#32
  let v838 : BitVec 1 := Scalar.cmpi .sge v832 c16_i32_401
  let v839 : BitVec 32 := Scalar.extui v838
  let c0_i32_402 : BitVec 32 := 0#32
  let v840 : BitVec 1 := Scalar.cmpi .ne v839 c0_i32_402
  v840

def k0_off231 (v3 : BitVec 32) (k0_t6 : Fin (k0_t6_loop v3).trips) (k0_t8 : Fin k0_t8_loop.trips) : Fin 1 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c8_i32_396 : BitVec 32 := 8#32
  let v830 : BitVec 32 := Scalar.remsi v829 c8_i32_396
  ![v830.toNat]
def k0_off232 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c8_i32_396 : BitVec 32 := 8#32
  let v830 : BitVec 32 := Scalar.remsi v829 c8_i32_396
  let c0_i32_405 : BitVec 32 := 0#32
  let c0_i32_406 : BitVec 32 := 0#32
  let c0_i32_407 : BitVec 32 := 0#32
  ![v830.toNat, 0, 0, 0]
def k0_off233 (v3 : BitVec 32) (k0_t6 : Fin (k0_t6_loop v3).trips) (k0_t8 : Fin k0_t8_loop.trips) (v834 : BitVec 32) : Fin 3 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c24_i32_398 : BitVec 32 := 24#32
  let v832 : BitVec 32 := Scalar.remsi v829 c24_i32_398
  let c16_i32_403 : BitVec 32 := 16#32
  let v841 : BitVec 32 := Scalar.subi v832 c16_i32_403
  let c256_i32_404 : BitVec 32 := 256#32
  let v842 : BitVec 32 := Scalar.muli v841 c256_i32_404
  let v843 : BitVec 32 := v842
  let c0_i32_408 : BitVec 32 := 0#32
  ![v834.toNat, v843.toNat, 0]
def k0_off234 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c8_i32_396 : BitVec 32 := 8#32
  let v830 : BitVec 32 := Scalar.remsi v829 c8_i32_396
  let c1_i32_409 : BitVec 32 := 1#32
  let c0_i32_410 : BitVec 32 := 0#32
  let c0_i32_411 : BitVec 32 := 0#32
  ![v830.toNat, 1, 0, 0]
def k0_off235 (v3 : BitVec 32) (k0_t6 : Fin (k0_t6_loop v3).trips) (k0_t8 : Fin k0_t8_loop.trips) (v834 : BitVec 32) : Fin 3 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_394 : BitVec 32 := 8#32
  let v828 : BitVec 32 := Scalar.addi v209 c8_i32_394
  let c1_i32_395 : BitVec 32 := 1#32
  let v829 : BitVec 32 := Scalar.subi v828 c1_i32_395
  let c24_i32_398 : BitVec 32 := 24#32
  let v832 : BitVec 32 := Scalar.remsi v829 c24_i32_398
  let c16_i32_403 : BitVec 32 := 16#32
  let v841 : BitVec 32 := Scalar.subi v832 c16_i32_403
  let c256_i32_404 : BitVec 32 := 256#32
  let v842 : BitVec 32 := Scalar.muli v841 c256_i32_404
  let v843 : BitVec 32 := v842
  let c1024_i32 : BitVec 32 := 1024#32
  ![v834.toNat, v843.toNat, 1024]

def k0_chk21 (v3 : BitVec 32) (k0_t6 : Fin (k0_t6_loop v3).trips) (k0_t8 : Fin k0_t8_loop.trips) (v834 : BitVec 32) : Prop :=
  (∀ (k0_h34 : k0_cond34 v3 k0_t6 k0_t8 = 1#1), ∀ (k0_h35 : k0_cond35 v3 k0_t6 k0_t8 = 1#1), ∀ a, (k0_off230 v3 k0_t6 k0_t8 v834) a + S1x2x256x1024.size a ≤ S8x2x4096x1024.size a) ∧
  (∀ (k0_h34 : k0_cond34 v3 k0_t6 k0_t8 = 1#1), ∀ (k0_h35 : k0_cond35 v3 k0_t6 k0_t8 = 1#1), ∀ (hinb : ∀ a, (k0_off230 v3 k0_t6 k0_t8 v834) a + S1x2x256x1024.size a ≤ S8x2x4096x1024.size a), (Rect.unit (s := S8x2x4096x1024) (k0_off230 v3 k0_t6 k0_t8 v834) S1x2x256x1024.size hinb).WholeWords (EltTy.packing .i8)) ∧
  (∀ (k0_h34 : k0_cond34 v3 k0_t6 k0_t8 = 1#1), ∀ (k0_h36 : k0_cond36 v3 k0_t6 k0_t8 = 1#1), ∀ a, (k0_off233 v3 k0_t6 k0_t8 v834) a + S1x256x1024.size a ≤ S8x2048x2048.size a) ∧
  (∀ (k0_h34 : k0_cond34 v3 k0_t6 k0_t8 = 1#1), ∀ (k0_h36 : k0_cond36 v3 k0_t6 k0_t8 = 1#1), ∀ (hinb : ∀ a, (k0_off233 v3 k0_t6 k0_t8 v834) a + S1x256x1024.size a ≤ S8x2048x2048.size a), (Rect.unit (s := S8x2048x2048) (k0_off233 v3 k0_t6 k0_t8 v834) S1x256x1024.size hinb).WholeWords (EltTy.packing .i8)) ∧
  (∀ (k0_h34 : k0_cond34 v3 k0_t6 k0_t8 = 1#1), ∀ (k0_h36 : k0_cond36 v3 k0_t6 k0_t8 = 1#1), ∀ a, (k0_off235 v3 k0_t6 k0_t8 v834) a + S1x256x1024.size a ≤ S8x2048x2048.size a) ∧
  (∀ (k0_h34 : k0_cond34 v3 k0_t6 k0_t8 = 1#1), ∀ (k0_h36 : k0_cond36 v3 k0_t6 k0_t8 = 1#1), ∀ (hinb : ∀ a, (k0_off235 v3 k0_t6 k0_t8 v834) a + S1x256x1024.size a ≤ S8x2048x2048.size a), (Rect.unit (s := S8x2048x2048) (k0_off235 v3 k0_t6 k0_t8 v834) S1x256x1024.size hinb).WholeWords (EltTy.packing .i8))
theorem k0_off230_inb : ∀ (v3 : BitVec 32) (k0_t6 : Fin (k0_t6_loop v3).trips) (k0_t8 : Fin k0_t8_loop.trips) (v834 : BitVec 32) (k0_hw21 : k0_chk21 v3 k0_t6 k0_t8 v834), ∀ (k0_h34 : k0_cond34 v3 k0_t6 k0_t8 = 1#1), ∀ (k0_h35 : k0_cond35 v3 k0_t6 k0_t8 = 1#1), ∀ a, (k0_off230 v3 k0_t6 k0_t8 v834) a + S1x2x256x1024.size a ≤ S8x2x4096x1024.size a := fun v3 k0_t6 k0_t8 v834 k0_hw21 k0_h34 k0_h35 => k0_hw21.1 k0_h34 k0_h35
theorem k0_off230_wordsi8 : ∀ (v3 : BitVec 32) (k0_t6 : Fin (k0_t6_loop v3).trips) (k0_t8 : Fin k0_t8_loop.trips) (v834 : BitVec 32) (k0_hw21 : k0_chk21 v3 k0_t6 k0_t8 v834), ∀ (k0_h34 : k0_cond34 v3 k0_t6 k0_t8 = 1#1), ∀ (k0_h35 : k0_cond35 v3 k0_t6 k0_t8 = 1#1), (Rect.unit (s := S8x2x4096x1024) (k0_off230 v3 k0_t6 k0_t8 v834) S1x2x256x1024.size (k0_off230_inb v3 k0_t6 k0_t8 v834 k0_hw21 k0_h34 k0_h35)).WholeWords (EltTy.packing .i8) := fun v3 k0_t6 k0_t8 v834 k0_hw21 k0_h34 k0_h35 => k0_hw21.2.1 k0_h34 k0_h35 (k0_off230_inb v3 k0_t6 k0_t8 v834 k0_hw21 k0_h34 k0_h35)
theorem k0_off233_inb : ∀ (v3 : BitVec 32) (k0_t6 : Fin (k0_t6_loop v3).trips) (k0_t8 : Fin k0_t8_loop.trips) (v834 : BitVec 32) (k0_hw21 : k0_chk21 v3 k0_t6 k0_t8 v834), ∀ (k0_h34 : k0_cond34 v3 k0_t6 k0_t8 = 1#1), ∀ (k0_h36 : k0_cond36 v3 k0_t6 k0_t8 = 1#1), ∀ a, (k0_off233 v3 k0_t6 k0_t8 v834) a + S1x256x1024.size a ≤ S8x2048x2048.size a := fun v3 k0_t6 k0_t8 v834 k0_hw21 k0_h34 k0_h36 => k0_hw21.2.2.1 k0_h34 k0_h36
theorem k0_off233_wordsi8 : ∀ (v3 : BitVec 32) (k0_t6 : Fin (k0_t6_loop v3).trips) (k0_t8 : Fin k0_t8_loop.trips) (v834 : BitVec 32) (k0_hw21 : k0_chk21 v3 k0_t6 k0_t8 v834), ∀ (k0_h34 : k0_cond34 v3 k0_t6 k0_t8 = 1#1), ∀ (k0_h36 : k0_cond36 v3 k0_t6 k0_t8 = 1#1), (Rect.unit (s := S8x2048x2048) (k0_off233 v3 k0_t6 k0_t8 v834) S1x256x1024.size (k0_off233_inb v3 k0_t6 k0_t8 v834 k0_hw21 k0_h34 k0_h36)).WholeWords (EltTy.packing .i8) := fun v3 k0_t6 k0_t8 v834 k0_hw21 k0_h34 k0_h36 => k0_hw21.2.2.2.1 k0_h34 k0_h36 (k0_off233_inb v3 k0_t6 k0_t8 v834 k0_hw21 k0_h34 k0_h36)
theorem k0_off235_inb : ∀ (v3 : BitVec 32) (k0_t6 : Fin (k0_t6_loop v3).trips) (k0_t8 : Fin k0_t8_loop.trips) (v834 : BitVec 32) (k0_hw21 : k0_chk21 v3 k0_t6 k0_t8 v834), ∀ (k0_h34 : k0_cond34 v3 k0_t6 k0_t8 = 1#1), ∀ (k0_h36 : k0_cond36 v3 k0_t6 k0_t8 = 1#1), ∀ a, (k0_off235 v3 k0_t6 k0_t8 v834) a + S1x256x1024.size a ≤ S8x2048x2048.size a := fun v3 k0_t6 k0_t8 v834 k0_hw21 k0_h34 k0_h36 => k0_hw21.2.2.2.2.1 k0_h34 k0_h36
theorem k0_off235_wordsi8 : ∀ (v3 : BitVec 32) (k0_t6 : Fin (k0_t6_loop v3).trips) (k0_t8 : Fin k0_t8_loop.trips) (v834 : BitVec 32) (k0_hw21 : k0_chk21 v3 k0_t6 k0_t8 v834), ∀ (k0_h34 : k0_cond34 v3 k0_t6 k0_t8 = 1#1), ∀ (k0_h36 : k0_cond36 v3 k0_t6 k0_t8 = 1#1), (Rect.unit (s := S8x2048x2048) (k0_off235 v3 k0_t6 k0_t8 v834) S1x256x1024.size (k0_off235_inb v3 k0_t6 k0_t8 v834 k0_hw21 k0_h34 k0_h36)).WholeWords (EltTy.packing .i8) := fun v3 k0_t6 k0_t8 v834 k0_hw21 k0_h34 k0_h36 => k0_hw21.2.2.2.2.2 k0_h34 k0_h36 (k0_off235_inb v3 k0_t6 k0_t8 v834 k0_hw21 k0_h34 k0_h36)

def k0_mult38 (k0_t8 : Fin k0_t8_loop.trips) : BitVec 32 :=
  let c0_i32_147 : BitVec 32 := 0#32
  let c1_i32_149 : BitVec 32 := 1#32
  let arg20 : BitVec 32 := Scf.iv c0_i32_147 c1_i32_149 k0_t8
  let c256_i32 : BitVec 32 := 256#32
  let v227 : BitVec 32 := Scalar.muli arg20 c256_i32
  v227
def k0_off236 (v3 : BitVec 32) (k0_t6 : Fin (k0_t6_loop v3).trips) (k0_t8 : Fin k0_t8_loop.trips) : Fin 3 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c2_i32_115 : BitVec 32 := 2#32
  let v147 : BitVec 32 := Scalar.remsi arg19 c2_i32_115
  let v229 : Index := Scalar.indexCast v147
  let c0_164 : Index := 0#32
  let c0_i32_147 : BitVec 32 := 0#32
  let c1_i32_149 : BitVec 32 := 1#32
  let arg20 : BitVec 32 := Scf.iv c0_i32_147 c1_i32_149 k0_t8
  let c256_i32 : BitVec 32 := 256#32
  let v227 : BitVec 32 := Scalar.muli arg20 c256_i32
  let v228 : BitVec 32 := v227
  let v230 : Index := Scalar.indexCast v228
  ![v229.toNat, 0, v230.toNat]
def k0_off237 (v3 : BitVec 32) (k0_t6 : Fin (k0_t6_loop v3).trips) (k0_t8 : Fin k0_t8_loop.trips) : Fin 3 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c2_i32_115 : BitVec 32 := 2#32
  let v147 : BitVec 32 := Scalar.remsi arg19 c2_i32_115
  let v236 : Index := Scalar.indexCast v147
  let c16 : Index := 16#32
  let c0_i32_147 : BitVec 32 := 0#32
  let c1_i32_149 : BitVec 32 := 1#32
  let arg20 : BitVec 32 := Scf.iv c0_i32_147 c1_i32_149 k0_t8
  let c256_i32 : BitVec 32 := 256#32
  let v227 : BitVec 32 := Scalar.muli arg20 c256_i32
  let v228 : BitVec 32 := v227
  let v237 : Index := Scalar.indexCast v228
  ![v236.toNat, 16, v237.toNat]
def k0_off238 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_153 : BitVec 32 := 8#32
  let v210 : BitVec 32 := Scalar.remsi v209 c8_i32_153
  let v243 : Index := Scalar.indexCast v210
  let c0_170 : Index := 0#32
  let c0_171 : Index := 0#32
  let c0_172 : Index := 0#32
  ![v243.toNat, 0, 0, 0]
def k0_off239 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_153 : BitVec 32 := 8#32
  let v210 : BitVec 32 := Scalar.remsi v209 c8_i32_153
  let v278 : Index := Scalar.indexCast v210
  let c0_184 : Index := 0#32
  let c0_185 : Index := 0#32
  let c128 : Index := 128#32
  ![v278.toNat, 0, 0, 128]
def k0_off240 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_153 : BitVec 32 := 8#32
  let v210 : BitVec 32 := Scalar.remsi v209 c8_i32_153
  let v314 : Index := Scalar.indexCast v210
  let c0_196 : Index := 0#32
  let c0_197 : Index := 0#32
  let c256_198 : Index := 256#32
  ![v314.toNat, 0, 0, 256]
def k0_off241 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_153 : BitVec 32 := 8#32
  let v210 : BitVec 32 := Scalar.remsi v209 c8_i32_153
  let v350 : Index := Scalar.indexCast v210
  let c0_209 : Index := 0#32
  let c0_210 : Index := 0#32
  let c384 : Index := 384#32
  ![v350.toNat, 0, 0, 384]
def k0_off242 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_153 : BitVec 32 := 8#32
  let v210 : BitVec 32 := Scalar.remsi v209 c8_i32_153
  let v386 : Index := Scalar.indexCast v210
  let c0_221 : Index := 0#32
  let c0_222 : Index := 0#32
  let c512_223 : Index := 512#32
  ![v386.toNat, 0, 0, 512]
def k0_off243 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_153 : BitVec 32 := 8#32
  let v210 : BitVec 32 := Scalar.remsi v209 c8_i32_153
  let v422 : Index := Scalar.indexCast v210
  let c0_234 : Index := 0#32
  let c0_235 : Index := 0#32
  let c640 : Index := 640#32
  ![v422.toNat, 0, 0, 640]
def k0_off244 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_153 : BitVec 32 := 8#32
  let v210 : BitVec 32 := Scalar.remsi v209 c8_i32_153
  let v458 : Index := Scalar.indexCast v210
  let c0_246 : Index := 0#32
  let c0_247 : Index := 0#32
  let c768_248 : Index := 768#32
  ![v458.toNat, 0, 0, 768]
def k0_off245 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_153 : BitVec 32 := 8#32
  let v210 : BitVec 32 := Scalar.remsi v209 c8_i32_153
  let v494 : Index := Scalar.indexCast v210
  let c0_259 : Index := 0#32
  let c0_260 : Index := 0#32
  let c896 : Index := 896#32
  ![v494.toNat, 0, 0, 896]
def k0_off246 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_153 : BitVec 32 := 8#32
  let v210 : BitVec 32 := Scalar.remsi v209 c8_i32_153
  let v530 : Index := Scalar.indexCast v210
  let c1_271 : Index := 1#32
  let c0_272 : Index := 0#32
  let c0_273 : Index := 0#32
  ![v530.toNat, 1, 0, 0]
def k0_off247 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_153 : BitVec 32 := 8#32
  let v210 : BitVec 32 := Scalar.remsi v209 c8_i32_153
  let v565 : Index := Scalar.indexCast v210
  let c1_286 : Index := 1#32
  let c0_287 : Index := 0#32
  let c128_288 : Index := 128#32
  ![v565.toNat, 1, 0, 128]
def k0_off248 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_153 : BitVec 32 := 8#32
  let v210 : BitVec 32 := Scalar.remsi v209 c8_i32_153
  let v601 : Index := Scalar.indexCast v210
  let c1_301 : Index := 1#32
  let c0_302 : Index := 0#32
  let c256_303 : Index := 256#32
  ![v601.toNat, 1, 0, 256]
def k0_off249 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_153 : BitVec 32 := 8#32
  let v210 : BitVec 32 := Scalar.remsi v209 c8_i32_153
  let v637 : Index := Scalar.indexCast v210
  let c1_316 : Index := 1#32
  let c0_317 : Index := 0#32
  let c384_318 : Index := 384#32
  ![v637.toNat, 1, 0, 384]
def k0_off250 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_153 : BitVec 32 := 8#32
  let v210 : BitVec 32 := Scalar.remsi v209 c8_i32_153
  let v673 : Index := Scalar.indexCast v210
  let c1_331 : Index := 1#32
  let c0_332 : Index := 0#32
  let c512_333 : Index := 512#32
  ![v673.toNat, 1, 0, 512]
def k0_off251 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_153 : BitVec 32 := 8#32
  let v210 : BitVec 32 := Scalar.remsi v209 c8_i32_153
  let v709 : Index := Scalar.indexCast v210
  let c1_346 : Index := 1#32
  let c0_347 : Index := 0#32
  let c640_348 : Index := 640#32
  ![v709.toNat, 1, 0, 640]
def k0_off252 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_153 : BitVec 32 := 8#32
  let v210 : BitVec 32 := Scalar.remsi v209 c8_i32_153
  let v745 : Index := Scalar.indexCast v210
  let c1_361 : Index := 1#32
  let c0_362 : Index := 0#32
  let c768_363 : Index := 768#32
  ![v745.toNat, 1, 0, 768]
def k0_off253 (v3 : BitVec 32) (k0_t6 : Fin (k0_t6_loop v3).trips) (k0_t8 : Fin k0_t8_loop.trips) : Fin 4 → Nat :=
  let c0_i32_107 : BitVec 32 := 0#32
  let c0_i32_9 : BitVec 32 := 0#32
  let c0_i32_7 : BitVec 32 := 0#32
  let v5 : BitVec 32 := Scalar.shrsi v3 c0_i32_7
  let c1_i32_8 : BitVec 32 := 1#32
  let v6 : BitVec 32 := Scalar.andi v5 c1_i32_8
  let v7 : BitVec 32 := Scalar.addi c0_i32_9 v6
  let c1_i32_11 : BitVec 32 := 1#32
  let v10 : BitVec 32 := Scalar.shrsi v3 c1_i32_11
  let c1_i32_12 : BitVec 32 := 1#32
  let v11 : BitVec 32 := Scalar.andi v10 c1_i32_12
  let v12 : BitVec 32 := Scalar.addi v7 v11
  let c2_i32_13 : BitVec 32 := 2#32
  let v15 : BitVec 32 := Scalar.shrsi v3 c2_i32_13
  let c1_i32_14 : BitVec 32 := 1#32
  let v16 : BitVec 32 := Scalar.andi v15 c1_i32_14
  let v17 : BitVec 32 := Scalar.addi v12 v16
  let c3_i32_15 : BitVec 32 := 3#32
  let v20 : BitVec 32 := Scalar.shrsi v3 c3_i32_15
  let c1_i32_16 : BitVec 32 := 1#32
  let v21 : BitVec 32 := Scalar.andi v20 c1_i32_16
  let v22 : BitVec 32 := Scalar.addi v17 v21
  let c4_i32_17 : BitVec 32 := 4#32
  let v25 : BitVec 32 := Scalar.shrsi v3 c4_i32_17
  let c1_i32_18 : BitVec 32 := 1#32
  let v26 : BitVec 32 := Scalar.andi v25 c1_i32_18
  let v27 : BitVec 32 := Scalar.addi v22 v26
  let c5_i32_19 : BitVec 32 := 5#32
  let v30 : BitVec 32 := Scalar.shrsi v3 c5_i32_19
  let c1_i32_20 : BitVec 32 := 1#32
  let v31 : BitVec 32 := Scalar.andi v30 c1_i32_20
  let v32 : BitVec 32 := Scalar.addi v27 v31
  let c6_i32_21 : BitVec 32 := 6#32
  let v35 : BitVec 32 := Scalar.shrsi v3 c6_i32_21
  let c1_i32_22 : BitVec 32 := 1#32
  let v36 : BitVec 32 := Scalar.andi v35 c1_i32_22
  let v37 : BitVec 32 := Scalar.addi v32 v36
  let c7_i32_23 : BitVec 32 := 7#32
  let v40 : BitVec 32 := Scalar.shrsi v3 c7_i32_23
  let c1_i32_24 : BitVec 32 := 1#32
  let v41 : BitVec 32 := Scalar.andi v40 c1_i32_24
  let v42 : BitVec 32 := Scalar.addi v37 v41
  let v139 : BitVec 32 := Scalar.subi v42 c0_i32_107
  let c1_i32_108 : BitVec 32 := 1#32
  let v141 : BitVec 32 := Scalar.divsi v139 c1_i32_108
  let v142 : BitVec 32 := Scalar.muli v141 c1_i32_108
  let v143 : BitVec 32 := Scalar.addi c0_i32_107 v142
  let c1_i32_110 : BitVec 32 := 1#32
  let arg19 : BitVec 32 := Scf.iv v143 c1_i32_110 k0_t6
  let c24_i32_151 : BitVec 32 := 24#32
  let v207 : BitVec 32 := Scalar.muli arg19 c24_i32_151
  let c16_i32_152 : BitVec 32 := 16#32
  let v208 : BitVec 32 := Scalar.addi v207 c16_i32_152
  let c0_i32_147 : BitVec 32 := 0#32
  let c1_i32_149 : BitVec 32 := 1#32
  let arg20 : BitVec 32 := Scf.iv c0_i32_147 c1_i32_149 k0_t8
  let v209 : BitVec 32 := Scalar.addi v208 arg20
  let c8_i32_153 : BitVec 32 := 8#32
  let v210 : BitVec 32 := Scalar.remsi v209 c8_i32_153
  let v781 : Index := Scalar.indexCast v210
  let c1_376 : Index := 1#32
  let c0_377 : Index := 0#32
  let c896_378 : Index := 896#32
  ![v781.toNat, 1, 0, 896]

def k0_chk1_0 (v3 : BitVec 32) : Prop :=
  (∀ a, (k0_off3 v3) a + S1.size a ≤ S9.size a) ∧
  (∀ a, (k0_off4 v3) a + S1.size a ≤ S9.size a) ∧
  (∀ a, (k0_off5 v3) a + S1.size a ≤ S9.size a) ∧
  (∀ a, (k0_off6 v3) a + S1.size a ≤ S9.size a) ∧
  (∀ a, (k0_off7 v3) a + S1.size a ≤ S9.size a) ∧
  (∀ a, (k0_off8 v3) a + S1.size a ≤ S9.size a) ∧
  (∀ a, (k0_off9 v3) a + S1.size a ≤ S9.size a) ∧
  ((k0_t3_loop v3).OK) ∧
  (∀ k0_t3 : Fin (k0_t3_loop v3).trips, ∀ a, (k0_off79 v3 k0_t3) a + S1.size a ≤ S9.size a) ∧
  (∀ k0_t3 : Fin (k0_t3_loop v3).trips, ∀ a, (k0_off80 v3 k0_t3) a + S1.size a ≤ S2.size a) ∧
  (∀ k0_t3 : Fin (k0_t3_loop v3).trips, ∀ a, (k0_off81 v3 k0_t3) a + S1x16x8192.size a ≤ S2x16x8192.size a) ∧
  (∀ k0_t3 : Fin (k0_t3_loop v3).trips, ∀ (hinb : ∀ a, (k0_off81 v3 k0_t3) a + S1x16x8192.size a ≤ S2x16x8192.size a), (Rect.unit (s := S2x16x8192) (k0_off81 v3 k0_t3) S1x16x8192.size hinb).WholeWords (EltTy.packing .bf16)) ∧
  (∀ k0_t3 : Fin (k0_t3_loop v3).trips, ∀ a, (k0_off83 v3 k0_t3) a + S1.size a ≤ S2.size a) ∧
  (∀ k0_t3 : Fin (k0_t3_loop v3).trips, ∀ a, (k0_off84 v3 k0_t3) a + S1x32x2048.size a ≤ S2x32x2048.size a) ∧
  (∀ k0_t3 : Fin (k0_t3_loop v3).trips, ∀ (hinb : ∀ a, (k0_off84 v3 k0_t3) a + S1x32x2048.size a ≤ S2x32x2048.size a), (Rect.unit (s := S2x32x2048) (k0_off84 v3 k0_t3) S1x32x2048.size hinb).WholeWords (EltTy.packing .bf16)) ∧
  (∀ k0_t3 : Fin (k0_t3_loop v3).trips, ∀ (k0_h15 : k0_cond15 v3 k0_t3 = 1#1), ∀ a, (k0_off86 v3 k0_t3) a + S1.size a ≤ S9.size a) ∧
  (∀ k0_t3 : Fin (k0_t3_loop v3).trips, ∀ (k0_h15 : k0_cond15 v3 k0_t3 = 1#1), ∀ a, (k0_off87 v3 k0_t3) a + S1.size a ≤ S2.size a) ∧
  (∀ k0_t3 : Fin (k0_t3_loop v3).trips, ∀ (k0_h15 : k0_cond15 v3 k0_t3 = 1#1), ∀ a, (k0_off88 v3 k0_t3) a + S1x16x8192.size a ≤ S2x16x8192.size a) ∧
  (∀ k0_t3 : Fin (k0_t3_loop v3).trips, ∀ (k0_h15 : k0_cond15 v3 k0_t3 = 1#1), ∀ (hinb : ∀ a, (k0_off88 v3 k0_t3) a + S1x16x8192.size a ≤ S2x16x8192.size a), (Rect.unit (s := S2x16x8192) (k0_off88 v3 k0_t3) S1x16x8192.size hinb).WholeWords (EltTy.packing .bf16)) ∧
  (∀ k0_t3 : Fin (k0_t3_loop v3).trips, ∀ (k0_h15 : k0_cond15 v3 k0_t3 = 1#1), ∀ a, (k0_off90 v3 k0_t3) a + S1.size a ≤ S2.size a) ∧
  (∀ k0_t3 : Fin (k0_t3_loop v3).trips, ∀ (k0_h15 : k0_cond15 v3 k0_t3 = 1#1), ∀ a, (k0_off91 v3 k0_t3) a + S1x32x2048.size a ≤ S2x32x2048.size a) ∧
  (∀ k0_t3 : Fin (k0_t3_loop v3).trips, ∀ (k0_h15 : k0_cond15 v3 k0_t3 = 1#1), ∀ (hinb : ∀ a, (k0_off91 v3 k0_t3) a + S1x32x2048.size a ≤ S2x32x2048.size a), (Rect.unit (s := S2x32x2048) (k0_off91 v3 k0_t3) S1x32x2048.size hinb).WholeWords (EltTy.packing .bf16)) ∧
  (∀ (k0_t3 : Fin (k0_t3_loop v3).trips) (k0_t4 : Fin k0_t4_loop.trips), ∀ a, (k0_off93 v3 k0_t3 k0_t4) a + S1.size a ≤ S9.size a) ∧
  (∀ (k0_t3 : Fin (k0_t3_loop v3).trips) (k0_t4 : Fin k0_t4_loop.trips), ∀ (k0_h16 : k0_cond16 v3 k0_t3 k0_t4 = 1#1), 256 ∣ (k0_mult15 v3 k0_t3 k0_t4).toNat) ∧
  (∀ (k0_t3 : Fin (k0_t3_loop v3).trips) (k0_t4 : Fin k0_t4_loop.trips), ∀ (k0_h16 : k0_cond16 v3 k0_t3 k0_t4 = 1#1), ∀ a, (k0_off94 v3 k0_t3 k0_t4) a + S1.size a ≤ S8.size a) ∧
  (∀ (k0_t3 : Fin (k0_t3_loop v3).trips) (k0_t4 : Fin k0_t4_loop.trips), ∀ (k0_h16 : k0_cond16 v3 k0_t3 k0_t4 = 1#1), ∀ a, (k0_off95 v3 k0_t3 k0_t4) a + S1x2x256x1024.size a ≤ S8x2x256x1024.size a) ∧
  (∀ (k0_t3 : Fin (k0_t3_loop v3).trips) (k0_t4 : Fin k0_t4_loop.trips), ∀ (k0_h16 : k0_cond16 v3 k0_t3 k0_t4 = 1#1), ∀ (hinb : ∀ a, (k0_off95 v3 k0_t3 k0_t4) a + S1x2x256x1024.size a ≤ S8x2x256x1024.size a), (Rect.unit (s := S8x2x256x1024) (k0_off95 v3 k0_t3 k0_t4) S1x2x256x1024.size hinb).WholeWords (EltTy.packing .i8)) ∧
  (∀ (k0_t3 : Fin (k0_t3_loop v3).trips) (k0_t4 : Fin k0_t4_loop.trips), ∀ (k0_h17 : k0_cond17 v3 k0_t3 k0_t4 = 1#1), 256 ∣ (k0_mult16 v3 k0_t3 k0_t4).toNat) ∧
  (∀ (k0_t3 : Fin (k0_t3_loop v3).trips) (k0_t4 : Fin k0_t4_loop.trips), ∀ (k0_h17 : k0_cond17 v3 k0_t3 k0_t4 = 1#1), ∀ a, (k0_off97 v3 k0_t3 k0_t4) a + S1.size a ≤ S8.size a) ∧
  (∀ (k0_t3 : Fin (k0_t3_loop v3).trips) (k0_t4 : Fin k0_t4_loop.trips), ∀ (k0_h17 : k0_cond17 v3 k0_t3 k0_t4 = 1#1), ∀ a, (k0_off98 v3 k0_t3 k0_t4) a + S1x1x256x1024.size a ≤ S8x2x256x1024.size a) ∧
  (∀ (k0_t3 : Fin (k0_t3_loop v3).trips) (k0_t4 : Fin k0_t4_loop.trips), ∀ (k0_h17 : k0_cond17 v3 k0_t3 k0_t4 = 1#1), ∀ (hinb : ∀ a, (k0_off98 v3 k0_t3 k0_t4) a + S1x1x256x1024.size a ≤ S8x2x256x1024.size a), (Rect.unit (s := S8x2x256x1024) (k0_off98 v3 k0_t3 k0_t4) S1x1x256x1024.size hinb).WholeWords (EltTy.packing .i8)) ∧
  (∀ (k0_t3 : Fin (k0_t3_loop v3).trips) (k0_t4 : Fin k0_t4_loop.trips), ∀ (k0_h17 : k0_cond17 v3 k0_t3 k0_t4 = 1#1), ∀ a, (k0_off100 v3 k0_t3 k0_t4) a + S1x1x256x1024.size a ≤ S8x2x256x1024.size a)
def k0_chk1_1 (v3 : BitVec 32) : Prop :=
  (∀ (k0_t3 : Fin (k0_t3_loop v3).trips) (k0_t4 : Fin k0_t4_loop.trips), ∀ (k0_h17 : k0_cond17 v3 k0_t3 k0_t4 = 1#1), ∀ (hinb : ∀ a, (k0_off100 v3 k0_t3 k0_t4) a + S1x1x256x1024.size a ≤ S8x2x256x1024.size a), (Rect.unit (s := S8x2x256x1024) (k0_off100 v3 k0_t3 k0_t4) S1x1x256x1024.size hinb).WholeWords (EltTy.packing .i8)) ∧
  (∀ (k0_t3 : Fin (k0_t3_loop v3).trips) (k0_t4 : Fin k0_t4_loop.trips), ∀ (k0_h18 : k0_cond18 v3 k0_t3 k0_t4 = 1#1), ∀ a, (k0_off102 v3 k0_t3 k0_t4) a + S1.size a ≤ S9.size a) ∧
  (∀ (k0_t3 : Fin (k0_t3_loop v3).trips) (k0_t4 : Fin k0_t4_loop.trips), ∀ (k0_h18 : k0_cond18 v3 k0_t3 k0_t4 = 1#1), ∀ (k0_h19 : k0_cond19 v3 k0_t3 k0_t4 = 1#1), 256 ∣ (k0_mult17 v3 k0_t3 k0_t4).toNat) ∧
  (∀ (k0_t3 : Fin (k0_t3_loop v3).trips) (k0_t4 : Fin k0_t4_loop.trips), ∀ (k0_h18 : k0_cond18 v3 k0_t3 k0_t4 = 1#1), ∀ (k0_h19 : k0_cond19 v3 k0_t3 k0_t4 = 1#1), ∀ a, (k0_off103 v3 k0_t3 k0_t4) a + S1.size a ≤ S8.size a) ∧
  (∀ (k0_t3 : Fin (k0_t3_loop v3).trips) (k0_t4 : Fin k0_t4_loop.trips), ∀ (k0_h18 : k0_cond18 v3 k0_t3 k0_t4 = 1#1), ∀ (k0_h19 : k0_cond19 v3 k0_t3 k0_t4 = 1#1), ∀ a, (k0_off104 v3 k0_t3 k0_t4) a + S1x2x256x1024.size a ≤ S8x2x256x1024.size a) ∧
  (∀ (k0_t3 : Fin (k0_t3_loop v3).trips) (k0_t4 : Fin k0_t4_loop.trips), ∀ (k0_h18 : k0_cond18 v3 k0_t3 k0_t4 = 1#1), ∀ (k0_h19 : k0_cond19 v3 k0_t3 k0_t4 = 1#1), ∀ (hinb : ∀ a, (k0_off104 v3 k0_t3 k0_t4) a + S1x2x256x1024.size a ≤ S8x2x256x1024.size a), (Rect.unit (s := S8x2x256x1024) (k0_off104 v3 k0_t3 k0_t4) S1x2x256x1024.size hinb).WholeWords (EltTy.packing .i8)) ∧
  (∀ (k0_t3 : Fin (k0_t3_loop v3).trips) (k0_t4 : Fin k0_t4_loop.trips), ∀ (k0_h18 : k0_cond18 v3 k0_t3 k0_t4 = 1#1), ∀ (k0_h20 : k0_cond20 v3 k0_t3 k0_t4 = 1#1), 256 ∣ (k0_mult18 v3 k0_t3 k0_t4).toNat) ∧
  (∀ (k0_t3 : Fin (k0_t3_loop v3).trips) (k0_t4 : Fin k0_t4_loop.trips), ∀ (k0_h18 : k0_cond18 v3 k0_t3 k0_t4 = 1#1), ∀ (k0_h20 : k0_cond20 v3 k0_t3 k0_t4 = 1#1), ∀ a, (k0_off106 v3 k0_t3 k0_t4) a + S1.size a ≤ S8.size a) ∧
  (∀ (k0_t3 : Fin (k0_t3_loop v3).trips) (k0_t4 : Fin k0_t4_loop.trips), ∀ (k0_h18 : k0_cond18 v3 k0_t3 k0_t4 = 1#1), ∀ (k0_h20 : k0_cond20 v3 k0_t3 k0_t4 = 1#1), ∀ a, (k0_off107 v3 k0_t3 k0_t4) a + S1x1x256x1024.size a ≤ S8x2x256x1024.size a) ∧
  (∀ (k0_t3 : Fin (k0_t3_loop v3).trips) (k0_t4 : Fin k0_t4_loop.trips), ∀ (k0_h18 : k0_cond18 v3 k0_t3 k0_t4 = 1#1), ∀ (k0_h20 : k0_cond20 v3 k0_t3 k0_t4 = 1#1), ∀ (hinb : ∀ a, (k0_off107 v3 k0_t3 k0_t4) a + S1x1x256x1024.size a ≤ S8x2x256x1024.size a), (Rect.unit (s := S8x2x256x1024) (k0_off107 v3 k0_t3 k0_t4) S1x1x256x1024.size hinb).WholeWords (EltTy.packing .i8)) ∧
  (∀ (k0_t3 : Fin (k0_t3_loop v3).trips) (k0_t4 : Fin k0_t4_loop.trips), ∀ (k0_h18 : k0_cond18 v3 k0_t3 k0_t4 = 1#1), ∀ (k0_h20 : k0_cond20 v3 k0_t3 k0_t4 = 1#1), ∀ a, (k0_off109 v3 k0_t3 k0_t4) a + S1x1x256x1024.size a ≤ S8x2x256x1024.size a) ∧
  (∀ (k0_t3 : Fin (k0_t3_loop v3).trips) (k0_t4 : Fin k0_t4_loop.trips), ∀ (k0_h18 : k0_cond18 v3 k0_t3 k0_t4 = 1#1), ∀ (k0_h20 : k0_cond20 v3 k0_t3 k0_t4 = 1#1), ∀ (hinb : ∀ a, (k0_off109 v3 k0_t3 k0_t4) a + S1x1x256x1024.size a ≤ S8x2x256x1024.size a), (Rect.unit (s := S8x2x256x1024) (k0_off109 v3 k0_t3 k0_t4) S1x1x256x1024.size hinb).WholeWords (EltTy.packing .i8)) ∧
  (∀ (k0_t3 : Fin (k0_t3_loop v3).trips) (k0_t4 : Fin k0_t4_loop.trips), ∀ (r : Fin 2), ∀ a, (k0_off111 v3 k0_t3 k0_t4 (BitVec.ofNat 32 (4096 * r.val))) a + S1x16x256.size a ≤ S2x16x8192.size a) ∧
  (∀ (k0_t3 : Fin (k0_t3_loop v3).trips) (k0_t4 : Fin k0_t4_loop.trips), ∀ a, (k0_off112 v3 k0_t3 k0_t4) a + S1x1x256x128.size a ≤ S8x2x256x1024.size a) ∧
  (∀ (k0_t3 : Fin (k0_t3_loop v3).trips) (k0_t4 : Fin k0_t4_loop.trips), ∀ a, (k0_off113 v3 k0_t3 k0_t4) a + S1x1x256x128.size a ≤ S8x2x256x1024.size a) ∧
  (∀ (k0_t3 : Fin (k0_t3_loop v3).trips) (k0_t4 : Fin k0_t4_loop.trips), ∀ a, (k0_off114 v3 k0_t3 k0_t4) a + S1x1x256x128.size a ≤ S8x2x256x1024.size a) ∧
  (∀ (k0_t3 : Fin (k0_t3_loop v3).trips) (k0_t4 : Fin k0_t4_loop.trips), ∀ a, (k0_off115 v3 k0_t3 k0_t4) a + S1x1x256x128.size a ≤ S8x2x256x1024.size a) ∧
  (∀ (k0_t3 : Fin (k0_t3_loop v3).trips) (k0_t4 : Fin k0_t4_loop.trips), ∀ a, (k0_off116 v3 k0_t3 k0_t4) a + S1x1x256x128.size a ≤ S8x2x256x1024.size a) ∧
  (∀ (k0_t3 : Fin (k0_t3_loop v3).trips) (k0_t4 : Fin k0_t4_loop.trips), ∀ a, (k0_off117 v3 k0_t3 k0_t4) a + S1x1x256x128.size a ≤ S8x2x256x1024.size a) ∧
  (∀ (k0_t3 : Fin (k0_t3_loop v3).trips) (k0_t4 : Fin k0_t4_loop.trips), ∀ a, (k0_off118 v3 k0_t3 k0_t4) a + S1x1x256x128.size a ≤ S8x2x256x1024.size a) ∧
  (∀ (k0_t3 : Fin (k0_t3_loop v3).trips) (k0_t4 : Fin k0_t4_loop.trips), ∀ a, (k0_off119 v3 k0_t3 k0_t4) a + S1x1x256x128.size a ≤ S8x2x256x1024.size a) ∧
  (∀ (k0_t3 : Fin (k0_t3_loop v3).trips) (k0_t4 : Fin k0_t4_loop.trips), ∀ a, (k0_off120 v3 k0_t3 k0_t4) a + S1x1x256x128.size a ≤ S8x2x256x1024.size a) ∧
  (∀ (k0_t3 : Fin (k0_t3_loop v3).trips) (k0_t4 : Fin k0_t4_loop.trips), ∀ a, (k0_off121 v3 k0_t3 k0_t4) a + S1x1x256x128.size a ≤ S8x2x256x1024.size a) ∧
  (∀ (k0_t3 : Fin (k0_t3_loop v3).trips) (k0_t4 : Fin k0_t4_loop.trips), ∀ a, (k0_off122 v3 k0_t3 k0_t4) a + S1x1x256x128.size a ≤ S8x2x256x1024.size a) ∧
  (∀ (k0_t3 : Fin (k0_t3_loop v3).trips) (k0_t4 : Fin k0_t4_loop.trips), ∀ a, (k0_off123 v3 k0_t3 k0_t4) a + S1x1x256x128.size a ≤ S8x2x256x1024.size a) ∧
  (∀ (k0_t3 : Fin (k0_t3_loop v3).trips) (k0_t4 : Fin k0_t4_loop.trips), ∀ a, (k0_off124 v3 k0_t3 k0_t4) a + S1x1x256x128.size a ≤ S8x2x256x1024.size a) ∧
  (∀ (k0_t3 : Fin (k0_t3_loop v3).trips) (k0_t4 : Fin k0_t4_loop.trips), ∀ a, (k0_off125 v3 k0_t3 k0_t4) a + S1x1x256x128.size a ≤ S8x2x256x1024.size a) ∧
  (∀ (k0_t3 : Fin (k0_t3_loop v3).trips) (k0_t4 : Fin k0_t4_loop.trips), ∀ a, (k0_off126 v3 k0_t3 k0_t4) a + S1x1x256x128.size a ≤ S8x2x256x1024.size a) ∧
  (∀ (k0_t3 : Fin (k0_t3_loop v3).trips) (k0_t4 : Fin k0_t4_loop.trips), ∀ a, (k0_off127 v3 k0_t3 k0_t4) a + S1x1x256x128.size a ≤ S8x2x256x1024.size a) ∧
  (∀ k0_t3 : Fin (k0_t3_loop v3).trips, ∀ a, (k0_off129 v3 k0_t3) a + S1.size a ≤ S9.size a) ∧
  (∀ (k0_t3 : Fin (k0_t3_loop v3).trips) (k0_t5 : Fin k0_t5_loop.trips), ∀ a, (k0_off130 v3 k0_t3 k0_t5) a + S1.size a ≤ S9.size a) ∧
  (∀ (k0_t3 : Fin (k0_t3_loop v3).trips) (k0_t5 : Fin k0_t5_loop.trips), ∀ (k0_h21 : k0_cond21 v3 k0_t3 k0_t5 = 1#1), 256 ∣ (k0_mult22 v3 k0_t3 k0_t5).toNat)
def k0_chk1_2 (v3 : BitVec 32) : Prop :=
  (∀ (k0_t3 : Fin (k0_t3_loop v3).trips) (k0_t5 : Fin k0_t5_loop.trips), ∀ (k0_h21 : k0_cond21 v3 k0_t3 k0_t5 = 1#1), ∀ a, (k0_off131 v3 k0_t3 k0_t5) a + S1.size a ≤ S8.size a) ∧
  (∀ (k0_t3 : Fin (k0_t3_loop v3).trips) (k0_t5 : Fin k0_t5_loop.trips), ∀ (k0_h21 : k0_cond21 v3 k0_t3 k0_t5 = 1#1), ∀ a, (k0_off132 v3 k0_t3 k0_t5) a + S1x2x256x1024.size a ≤ S8x2x256x1024.size a) ∧
  (∀ (k0_t3 : Fin (k0_t3_loop v3).trips) (k0_t5 : Fin k0_t5_loop.trips), ∀ (k0_h21 : k0_cond21 v3 k0_t3 k0_t5 = 1#1), ∀ (hinb : ∀ a, (k0_off132 v3 k0_t3 k0_t5) a + S1x2x256x1024.size a ≤ S8x2x256x1024.size a), (Rect.unit (s := S8x2x256x1024) (k0_off132 v3 k0_t3 k0_t5) S1x2x256x1024.size hinb).WholeWords (EltTy.packing .i8)) ∧
  (∀ (k0_t3 : Fin (k0_t3_loop v3).trips) (k0_t5 : Fin k0_t5_loop.trips), ∀ (k0_h22 : k0_cond22 v3 k0_t3 k0_t5 = 1#1), 256 ∣ (k0_mult23 v3 k0_t3 k0_t5).toNat) ∧
  (∀ (k0_t3 : Fin (k0_t3_loop v3).trips) (k0_t5 : Fin k0_t5_loop.trips), ∀ (k0_h22 : k0_cond22 v3 k0_t3 k0_t5 = 1#1), ∀ a, (k0_off134 v3 k0_t3 k0_t5) a + S1.size a ≤ S8.size a) ∧
  (∀ (k0_t3 : Fin (k0_t3_loop v3).trips) (k0_t5 : Fin k0_t5_loop.trips), ∀ (k0_h22 : k0_cond22 v3 k0_t3 k0_t5 = 1#1), ∀ a, (k0_off135 v3 k0_t3 k0_t5) a + S1x1x256x1024.size a ≤ S8x2x256x1024.size a) ∧
  (∀ (k0_t3 : Fin (k0_t3_loop v3).trips) (k0_t5 : Fin k0_t5_loop.trips), ∀ (k0_h22 : k0_cond22 v3 k0_t3 k0_t5 = 1#1), ∀ (hinb : ∀ a, (k0_off135 v3 k0_t3 k0_t5) a + S1x1x256x1024.size a ≤ S8x2x256x1024.size a), (Rect.unit (s := S8x2x256x1024) (k0_off135 v3 k0_t3 k0_t5) S1x1x256x1024.size hinb).WholeWords (EltTy.packing .i8)) ∧
  (∀ (k0_t3 : Fin (k0_t3_loop v3).trips) (k0_t5 : Fin k0_t5_loop.trips), ∀ (k0_h22 : k0_cond22 v3 k0_t3 k0_t5 = 1#1), ∀ a, (k0_off137 v3 k0_t3 k0_t5) a + S1x1x256x1024.size a ≤ S8x2x256x1024.size a) ∧
  (∀ (k0_t3 : Fin (k0_t3_loop v3).trips) (k0_t5 : Fin k0_t5_loop.trips), ∀ (k0_h22 : k0_cond22 v3 k0_t3 k0_t5 = 1#1), ∀ (hinb : ∀ a, (k0_off137 v3 k0_t3 k0_t5) a + S1x1x256x1024.size a ≤ S8x2x256x1024.size a), (Rect.unit (s := S8x2x256x1024) (k0_off137 v3 k0_t3 k0_t5) S1x1x256x1024.size hinb).WholeWords (EltTy.packing .i8)) ∧
  (∀ (k0_t3 : Fin (k0_t3_loop v3).trips) (k0_t5 : Fin k0_t5_loop.trips), ∀ (k0_h23 : k0_cond23 v3 k0_t3 k0_t5 = 1#1), ∀ a, (k0_off139 v3 k0_t3 k0_t5) a + S1.size a ≤ S9.size a) ∧
  (∀ (k0_t3 : Fin (k0_t3_loop v3).trips) (k0_t5 : Fin k0_t5_loop.trips), ∀ (k0_h23 : k0_cond23 v3 k0_t3 k0_t5 = 1#1), ∀ (k0_h24 : k0_cond24 v3 k0_t3 k0_t5 = 1#1), 256 ∣ (k0_mult24 v3 k0_t3 k0_t5).toNat) ∧
  (∀ (k0_t3 : Fin (k0_t3_loop v3).trips) (k0_t5 : Fin k0_t5_loop.trips), ∀ (k0_h23 : k0_cond23 v3 k0_t3 k0_t5 = 1#1), ∀ (k0_h24 : k0_cond24 v3 k0_t3 k0_t5 = 1#1), ∀ a, (k0_off140 v3 k0_t3 k0_t5) a + S1.size a ≤ S8.size a) ∧
  (∀ (k0_t3 : Fin (k0_t3_loop v3).trips) (k0_t5 : Fin k0_t5_loop.trips), ∀ (k0_h23 : k0_cond23 v3 k0_t3 k0_t5 = 1#1), ∀ (k0_h24 : k0_cond24 v3 k0_t3 k0_t5 = 1#1), ∀ a, (k0_off141 v3 k0_t3 k0_t5) a + S1x2x256x1024.size a ≤ S8x2x256x1024.size a) ∧
  (∀ (k0_t3 : Fin (k0_t3_loop v3).trips) (k0_t5 : Fin k0_t5_loop.trips), ∀ (k0_h23 : k0_cond23 v3 k0_t3 k0_t5 = 1#1), ∀ (k0_h24 : k0_cond24 v3 k0_t3 k0_t5 = 1#1), ∀ (hinb : ∀ a, (k0_off141 v3 k0_t3 k0_t5) a + S1x2x256x1024.size a ≤ S8x2x256x1024.size a), (Rect.unit (s := S8x2x256x1024) (k0_off141 v3 k0_t3 k0_t5) S1x2x256x1024.size hinb).WholeWords (EltTy.packing .i8)) ∧
  (∀ (k0_t3 : Fin (k0_t3_loop v3).trips) (k0_t5 : Fin k0_t5_loop.trips), ∀ (k0_h23 : k0_cond23 v3 k0_t3 k0_t5 = 1#1), ∀ (k0_h25 : k0_cond25 v3 k0_t3 k0_t5 = 1#1), 256 ∣ (k0_mult25 v3 k0_t3 k0_t5).toNat) ∧
  (∀ (k0_t3 : Fin (k0_t3_loop v3).trips) (k0_t5 : Fin k0_t5_loop.trips), ∀ (k0_h23 : k0_cond23 v3 k0_t3 k0_t5 = 1#1), ∀ (k0_h25 : k0_cond25 v3 k0_t3 k0_t5 = 1#1), ∀ a, (k0_off143 v3 k0_t3 k0_t5) a + S1.size a ≤ S8.size a) ∧
  (∀ (k0_t3 : Fin (k0_t3_loop v3).trips) (k0_t5 : Fin k0_t5_loop.trips), ∀ (k0_h23 : k0_cond23 v3 k0_t3 k0_t5 = 1#1), ∀ (k0_h25 : k0_cond25 v3 k0_t3 k0_t5 = 1#1), ∀ a, (k0_off144 v3 k0_t3 k0_t5) a + S1x1x256x1024.size a ≤ S8x2x256x1024.size a) ∧
  (∀ (k0_t3 : Fin (k0_t3_loop v3).trips) (k0_t5 : Fin k0_t5_loop.trips), ∀ (k0_h23 : k0_cond23 v3 k0_t3 k0_t5 = 1#1), ∀ (k0_h25 : k0_cond25 v3 k0_t3 k0_t5 = 1#1), ∀ (hinb : ∀ a, (k0_off144 v3 k0_t3 k0_t5) a + S1x1x256x1024.size a ≤ S8x2x256x1024.size a), (Rect.unit (s := S8x2x256x1024) (k0_off144 v3 k0_t3 k0_t5) S1x1x256x1024.size hinb).WholeWords (EltTy.packing .i8)) ∧
  (∀ (k0_t3 : Fin (k0_t3_loop v3).trips) (k0_t5 : Fin k0_t5_loop.trips), ∀ (k0_h23 : k0_cond23 v3 k0_t3 k0_t5 = 1#1), ∀ (k0_h25 : k0_cond25 v3 k0_t3 k0_t5 = 1#1), ∀ a, (k0_off146 v3 k0_t3 k0_t5) a + S1x1x256x1024.size a ≤ S8x2x256x1024.size a) ∧
  (∀ (k0_t3 : Fin (k0_t3_loop v3).trips) (k0_t5 : Fin k0_t5_loop.trips), ∀ (k0_h23 : k0_cond23 v3 k0_t3 k0_t5 = 1#1), ∀ (k0_h25 : k0_cond25 v3 k0_t3 k0_t5 = 1#1), ∀ (hinb : ∀ a, (k0_off146 v3 k0_t3 k0_t5) a + S1x1x256x1024.size a ≤ S8x2x256x1024.size a), (Rect.unit (s := S8x2x256x1024) (k0_off146 v3 k0_t3 k0_t5) S1x1x256x1024.size hinb).WholeWords (EltTy.packing .i8)) ∧
  (∀ (k0_t3 : Fin (k0_t3_loop v3).trips) (k0_t5 : Fin k0_t5_loop.trips), ∀ a, (k0_off148 v3 k0_t3 k0_t5) a + S1x16x256.size a ≤ S2x32x2048.size a) ∧
  (∀ (k0_t3 : Fin (k0_t3_loop v3).trips) (k0_t5 : Fin k0_t5_loop.trips), ∀ a, (k0_off149 v3 k0_t3 k0_t5) a + S1x16x256.size a ≤ S2x32x2048.size a) ∧
  (∀ (k0_t3 : Fin (k0_t3_loop v3).trips) (k0_t5 : Fin k0_t5_loop.trips), ∀ a, (k0_off150 v3 k0_t3 k0_t5) a + S1x1x256x128.size a ≤ S8x2x256x1024.size a) ∧
  (∀ (k0_t3 : Fin (k0_t3_loop v3).trips) (k0_t5 : Fin k0_t5_loop.trips), ∀ a, (k0_off151 v3 k0_t3 k0_t5) a + S1x1x256x128.size a ≤ S8x2x256x1024.size a) ∧
  (∀ (k0_t3 : Fin (k0_t3_loop v3).trips) (k0_t5 : Fin k0_t5_loop.trips), ∀ a, (k0_off152 v3 k0_t3 k0_t5) a + S1x1x256x128.size a ≤ S8x2x256x1024.size a) ∧
  (∀ (k0_t3 : Fin (k0_t3_loop v3).trips) (k0_t5 : Fin k0_t5_loop.trips), ∀ a, (k0_off153 v3 k0_t3 k0_t5) a + S1x1x256x128.size a ≤ S8x2x256x1024.size a) ∧
  (∀ (k0_t3 : Fin (k0_t3_loop v3).trips) (k0_t5 : Fin k0_t5_loop.trips), ∀ a, (k0_off154 v3 k0_t3 k0_t5) a + S1x1x256x128.size a ≤ S8x2x256x1024.size a) ∧
  (∀ (k0_t3 : Fin (k0_t3_loop v3).trips) (k0_t5 : Fin k0_t5_loop.trips), ∀ a, (k0_off155 v3 k0_t3 k0_t5) a + S1x1x256x128.size a ≤ S8x2x256x1024.size a) ∧
  (∀ (k0_t3 : Fin (k0_t3_loop v3).trips) (k0_t5 : Fin k0_t5_loop.trips), ∀ a, (k0_off156 v3 k0_t3 k0_t5) a + S1x1x256x128.size a ≤ S8x2x256x1024.size a) ∧
  (∀ (k0_t3 : Fin (k0_t3_loop v3).trips) (k0_t5 : Fin k0_t5_loop.trips), ∀ a, (k0_off157 v3 k0_t3 k0_t5) a + S1x1x256x128.size a ≤ S8x2x256x1024.size a) ∧
  (∀ (k0_t3 : Fin (k0_t3_loop v3).trips) (k0_t5 : Fin k0_t5_loop.trips), ∀ a, (k0_off158 v3 k0_t3 k0_t5) a + S1x1x256x128.size a ≤ S8x2x256x1024.size a) ∧
  (∀ (k0_t3 : Fin (k0_t3_loop v3).trips) (k0_t5 : Fin k0_t5_loop.trips), ∀ a, (k0_off159 v3 k0_t3 k0_t5) a + S1x1x256x128.size a ≤ S8x2x256x1024.size a)
def k0_chk1_3 (v3 : BitVec 32) : Prop :=
  (∀ (k0_t3 : Fin (k0_t3_loop v3).trips) (k0_t5 : Fin k0_t5_loop.trips), ∀ a, (k0_off160 v3 k0_t3 k0_t5) a + S1x1x256x128.size a ≤ S8x2x256x1024.size a) ∧
  (∀ (k0_t3 : Fin (k0_t3_loop v3).trips) (k0_t5 : Fin k0_t5_loop.trips), ∀ a, (k0_off161 v3 k0_t3 k0_t5) a + S1x1x256x128.size a ≤ S8x2x256x1024.size a) ∧
  (∀ (k0_t3 : Fin (k0_t3_loop v3).trips) (k0_t5 : Fin k0_t5_loop.trips), ∀ a, (k0_off162 v3 k0_t3 k0_t5) a + S1x1x256x128.size a ≤ S8x2x256x1024.size a) ∧
  (∀ (k0_t3 : Fin (k0_t3_loop v3).trips) (k0_t5 : Fin k0_t5_loop.trips), ∀ a, (k0_off163 v3 k0_t3 k0_t5) a + S1x1x256x128.size a ≤ S8x2x256x1024.size a) ∧
  (∀ (k0_t3 : Fin (k0_t3_loop v3).trips) (k0_t5 : Fin k0_t5_loop.trips), ∀ a, (k0_off164 v3 k0_t3 k0_t5) a + S1x1x256x128.size a ≤ S8x2x256x1024.size a) ∧
  (∀ (k0_t3 : Fin (k0_t3_loop v3).trips) (k0_t5 : Fin k0_t5_loop.trips), ∀ a, (k0_off165 v3 k0_t3 k0_t5) a + S1x1x256x128.size a ≤ S8x2x256x1024.size a) ∧
  ((k0_t6_loop v3).OK) ∧
  (∀ k0_t6 : Fin (k0_t6_loop v3).trips, ∀ a, (k0_off167 v3 k0_t6) a + S1.size a ≤ S9.size a) ∧
  (∀ k0_t6 : Fin (k0_t6_loop v3).trips, ∀ a, (k0_off168 v3 k0_t6) a + S1.size a ≤ S2.size a) ∧
  (∀ k0_t6 : Fin (k0_t6_loop v3).trips, ∀ a, (k0_off169 v3 k0_t6) a + S1x16x8192.size a ≤ S2x16x8192.size a) ∧
  (∀ k0_t6 : Fin (k0_t6_loop v3).trips, ∀ (hinb : ∀ a, (k0_off169 v3 k0_t6) a + S1x16x8192.size a ≤ S2x16x8192.size a), (Rect.unit (s := S2x16x8192) (k0_off169 v3 k0_t6) S1x16x8192.size hinb).WholeWords (EltTy.packing .bf16)) ∧
  (∀ k0_t6 : Fin (k0_t6_loop v3).trips, ∀ a, (k0_off171 v3 k0_t6) a + S1.size a ≤ S2.size a) ∧
  (∀ k0_t6 : Fin (k0_t6_loop v3).trips, ∀ a, (k0_off172 v3 k0_t6) a + S1x32x2048.size a ≤ S2x32x2048.size a) ∧
  (∀ k0_t6 : Fin (k0_t6_loop v3).trips, ∀ (hinb : ∀ a, (k0_off172 v3 k0_t6) a + S1x32x2048.size a ≤ S2x32x2048.size a), (Rect.unit (s := S2x32x2048) (k0_off172 v3 k0_t6) S1x32x2048.size hinb).WholeWords (EltTy.packing .bf16)) ∧
  (∀ k0_t6 : Fin (k0_t6_loop v3).trips, ∀ (k0_h26 : k0_cond26 v3 k0_t6 = 1#1), ∀ a, (k0_off174 v3 k0_t6) a + S1.size a ≤ S9.size a) ∧
  (∀ k0_t6 : Fin (k0_t6_loop v3).trips, ∀ (k0_h26 : k0_cond26 v3 k0_t6 = 1#1), ∀ a, (k0_off175 v3 k0_t6) a + S1.size a ≤ S2.size a) ∧
  (∀ k0_t6 : Fin (k0_t6_loop v3).trips, ∀ (k0_h26 : k0_cond26 v3 k0_t6 = 1#1), ∀ a, (k0_off176 v3 k0_t6) a + S1x16x8192.size a ≤ S2x16x8192.size a) ∧
  (∀ k0_t6 : Fin (k0_t6_loop v3).trips, ∀ (k0_h26 : k0_cond26 v3 k0_t6 = 1#1), ∀ (hinb : ∀ a, (k0_off176 v3 k0_t6) a + S1x16x8192.size a ≤ S2x16x8192.size a), (Rect.unit (s := S2x16x8192) (k0_off176 v3 k0_t6) S1x16x8192.size hinb).WholeWords (EltTy.packing .bf16)) ∧
  (∀ k0_t6 : Fin (k0_t6_loop v3).trips, ∀ (k0_h26 : k0_cond26 v3 k0_t6 = 1#1), ∀ a, (k0_off178 v3 k0_t6) a + S1.size a ≤ S2.size a) ∧
  (∀ k0_t6 : Fin (k0_t6_loop v3).trips, ∀ (k0_h26 : k0_cond26 v3 k0_t6 = 1#1), ∀ a, (k0_off179 v3 k0_t6) a + S1x32x2048.size a ≤ S2x32x2048.size a) ∧
  (∀ k0_t6 : Fin (k0_t6_loop v3).trips, ∀ (k0_h26 : k0_cond26 v3 k0_t6 = 1#1), ∀ (hinb : ∀ a, (k0_off179 v3 k0_t6) a + S1x32x2048.size a ≤ S2x32x2048.size a), (Rect.unit (s := S2x32x2048) (k0_off179 v3 k0_t6) S1x32x2048.size hinb).WholeWords (EltTy.packing .bf16)) ∧
  (∀ (k0_t6 : Fin (k0_t6_loop v3).trips) (k0_t7 : Fin k0_t7_loop.trips), ∀ a, (k0_off181 v3 k0_t6 k0_t7) a + S1.size a ≤ S9.size a) ∧
  (∀ (k0_t6 : Fin (k0_t6_loop v3).trips) (k0_t7 : Fin k0_t7_loop.trips), ∀ (k0_h27 : k0_cond27 v3 k0_t6 k0_t7 = 1#1), 256 ∣ (k0_mult27 v3 k0_t6 k0_t7).toNat) ∧
  (∀ (k0_t6 : Fin (k0_t6_loop v3).trips) (k0_t7 : Fin k0_t7_loop.trips), ∀ (k0_h27 : k0_cond27 v3 k0_t6 k0_t7 = 1#1), ∀ a, (k0_off182 v3 k0_t6 k0_t7) a + S1.size a ≤ S8.size a) ∧
  (∀ (k0_t6 : Fin (k0_t6_loop v3).trips) (k0_t7 : Fin k0_t7_loop.trips), ∀ (k0_h27 : k0_cond27 v3 k0_t6 k0_t7 = 1#1), ∀ a, (k0_off183 v3 k0_t6 k0_t7) a + S1x2x256x1024.size a ≤ S8x2x256x1024.size a) ∧
  (∀ (k0_t6 : Fin (k0_t6_loop v3).trips) (k0_t7 : Fin k0_t7_loop.trips), ∀ (k0_h27 : k0_cond27 v3 k0_t6 k0_t7 = 1#1), ∀ (hinb : ∀ a, (k0_off183 v3 k0_t6 k0_t7) a + S1x2x256x1024.size a ≤ S8x2x256x1024.size a), (Rect.unit (s := S8x2x256x1024) (k0_off183 v3 k0_t6 k0_t7) S1x2x256x1024.size hinb).WholeWords (EltTy.packing .i8)) ∧
  (∀ (k0_t6 : Fin (k0_t6_loop v3).trips) (k0_t7 : Fin k0_t7_loop.trips), ∀ (k0_h28 : k0_cond28 v3 k0_t6 k0_t7 = 1#1), 256 ∣ (k0_mult28 v3 k0_t6 k0_t7).toNat) ∧
  (∀ (k0_t6 : Fin (k0_t6_loop v3).trips) (k0_t7 : Fin k0_t7_loop.trips), ∀ (k0_h28 : k0_cond28 v3 k0_t6 k0_t7 = 1#1), ∀ a, (k0_off185 v3 k0_t6 k0_t7) a + S1.size a ≤ S8.size a) ∧
  (∀ (k0_t6 : Fin (k0_t6_loop v3).trips) (k0_t7 : Fin k0_t7_loop.trips), ∀ (k0_h28 : k0_cond28 v3 k0_t6 k0_t7 = 1#1), ∀ a, (k0_off186 v3 k0_t6 k0_t7) a + S1x1x256x1024.size a ≤ S8x2x256x1024.size a) ∧
  (∀ (k0_t6 : Fin (k0_t6_loop v3).trips) (k0_t7 : Fin k0_t7_loop.trips), ∀ (k0_h28 : k0_cond28 v3 k0_t6 k0_t7 = 1#1), ∀ (hinb : ∀ a, (k0_off186 v3 k0_t6 k0_t7) a + S1x1x256x1024.size a ≤ S8x2x256x1024.size a), (Rect.unit (s := S8x2x256x1024) (k0_off186 v3 k0_t6 k0_t7) S1x1x256x1024.size hinb).WholeWords (EltTy.packing .i8)) ∧
  (∀ (k0_t6 : Fin (k0_t6_loop v3).trips) (k0_t7 : Fin k0_t7_loop.trips), ∀ (k0_h28 : k0_cond28 v3 k0_t6 k0_t7 = 1#1), ∀ a, (k0_off188 v3 k0_t6 k0_t7) a + S1x1x256x1024.size a ≤ S8x2x256x1024.size a) ∧
  (∀ (k0_t6 : Fin (k0_t6_loop v3).trips) (k0_t7 : Fin k0_t7_loop.trips), ∀ (k0_h28 : k0_cond28 v3 k0_t6 k0_t7 = 1#1), ∀ (hinb : ∀ a, (k0_off188 v3 k0_t6 k0_t7) a + S1x1x256x1024.size a ≤ S8x2x256x1024.size a), (Rect.unit (s := S8x2x256x1024) (k0_off188 v3 k0_t6 k0_t7) S1x1x256x1024.size hinb).WholeWords (EltTy.packing .i8))
def k0_chk1_4 (v3 : BitVec 32) : Prop :=
  (∀ (k0_t6 : Fin (k0_t6_loop v3).trips) (k0_t7 : Fin k0_t7_loop.trips), ∀ (k0_h29 : k0_cond29 v3 k0_t6 k0_t7 = 1#1), ∀ a, (k0_off190 v3 k0_t6 k0_t7) a + S1.size a ≤ S9.size a) ∧
  (∀ (k0_t6 : Fin (k0_t6_loop v3).trips) (k0_t7 : Fin k0_t7_loop.trips), ∀ (k0_h29 : k0_cond29 v3 k0_t6 k0_t7 = 1#1), ∀ (k0_h30 : k0_cond30 v3 k0_t6 k0_t7 = 1#1), 256 ∣ (k0_mult29 v3 k0_t6 k0_t7).toNat) ∧
  (∀ (k0_t6 : Fin (k0_t6_loop v3).trips) (k0_t7 : Fin k0_t7_loop.trips), ∀ (k0_h29 : k0_cond29 v3 k0_t6 k0_t7 = 1#1), ∀ (k0_h30 : k0_cond30 v3 k0_t6 k0_t7 = 1#1), ∀ a, (k0_off191 v3 k0_t6 k0_t7) a + S1.size a ≤ S8.size a) ∧
  (∀ (k0_t6 : Fin (k0_t6_loop v3).trips) (k0_t7 : Fin k0_t7_loop.trips), ∀ (k0_h29 : k0_cond29 v3 k0_t6 k0_t7 = 1#1), ∀ (k0_h30 : k0_cond30 v3 k0_t6 k0_t7 = 1#1), ∀ a, (k0_off192 v3 k0_t6 k0_t7) a + S1x2x256x1024.size a ≤ S8x2x256x1024.size a) ∧
  (∀ (k0_t6 : Fin (k0_t6_loop v3).trips) (k0_t7 : Fin k0_t7_loop.trips), ∀ (k0_h29 : k0_cond29 v3 k0_t6 k0_t7 = 1#1), ∀ (k0_h30 : k0_cond30 v3 k0_t6 k0_t7 = 1#1), ∀ (hinb : ∀ a, (k0_off192 v3 k0_t6 k0_t7) a + S1x2x256x1024.size a ≤ S8x2x256x1024.size a), (Rect.unit (s := S8x2x256x1024) (k0_off192 v3 k0_t6 k0_t7) S1x2x256x1024.size hinb).WholeWords (EltTy.packing .i8)) ∧
  (∀ (k0_t6 : Fin (k0_t6_loop v3).trips) (k0_t7 : Fin k0_t7_loop.trips), ∀ (k0_h29 : k0_cond29 v3 k0_t6 k0_t7 = 1#1), ∀ (k0_h31 : k0_cond31 v3 k0_t6 k0_t7 = 1#1), 256 ∣ (k0_mult30 v3 k0_t6 k0_t7).toNat) ∧
  (∀ (k0_t6 : Fin (k0_t6_loop v3).trips) (k0_t7 : Fin k0_t7_loop.trips), ∀ (k0_h29 : k0_cond29 v3 k0_t6 k0_t7 = 1#1), ∀ (k0_h31 : k0_cond31 v3 k0_t6 k0_t7 = 1#1), ∀ a, (k0_off194 v3 k0_t6 k0_t7) a + S1.size a ≤ S8.size a) ∧
  (∀ (k0_t6 : Fin (k0_t6_loop v3).trips) (k0_t7 : Fin k0_t7_loop.trips), ∀ (k0_h29 : k0_cond29 v3 k0_t6 k0_t7 = 1#1), ∀ (k0_h31 : k0_cond31 v3 k0_t6 k0_t7 = 1#1), ∀ a, (k0_off195 v3 k0_t6 k0_t7) a + S1x1x256x1024.size a ≤ S8x2x256x1024.size a) ∧
  (∀ (k0_t6 : Fin (k0_t6_loop v3).trips) (k0_t7 : Fin k0_t7_loop.trips), ∀ (k0_h29 : k0_cond29 v3 k0_t6 k0_t7 = 1#1), ∀ (k0_h31 : k0_cond31 v3 k0_t6 k0_t7 = 1#1), ∀ (hinb : ∀ a, (k0_off195 v3 k0_t6 k0_t7) a + S1x1x256x1024.size a ≤ S8x2x256x1024.size a), (Rect.unit (s := S8x2x256x1024) (k0_off195 v3 k0_t6 k0_t7) S1x1x256x1024.size hinb).WholeWords (EltTy.packing .i8)) ∧
  (∀ (k0_t6 : Fin (k0_t6_loop v3).trips) (k0_t7 : Fin k0_t7_loop.trips), ∀ (k0_h29 : k0_cond29 v3 k0_t6 k0_t7 = 1#1), ∀ (k0_h31 : k0_cond31 v3 k0_t6 k0_t7 = 1#1), ∀ a, (k0_off197 v3 k0_t6 k0_t7) a + S1x1x256x1024.size a ≤ S8x2x256x1024.size a) ∧
  (∀ (k0_t6 : Fin (k0_t6_loop v3).trips) (k0_t7 : Fin k0_t7_loop.trips), ∀ (k0_h29 : k0_cond29 v3 k0_t6 k0_t7 = 1#1), ∀ (k0_h31 : k0_cond31 v3 k0_t6 k0_t7 = 1#1), ∀ (hinb : ∀ a, (k0_off197 v3 k0_t6 k0_t7) a + S1x1x256x1024.size a ≤ S8x2x256x1024.size a), (Rect.unit (s := S8x2x256x1024) (k0_off197 v3 k0_t6 k0_t7) S1x1x256x1024.size hinb).WholeWords (EltTy.packing .i8)) ∧
  (∀ (k0_t6 : Fin (k0_t6_loop v3).trips) (k0_t7 : Fin k0_t7_loop.trips), ∀ (r : Fin 2), ∀ a, (k0_off199 v3 k0_t6 k0_t7 (BitVec.ofNat 32 (4096 * r.val))) a + S1x16x256.size a ≤ S2x16x8192.size a) ∧
  (∀ (k0_t6 : Fin (k0_t6_loop v3).trips) (k0_t7 : Fin k0_t7_loop.trips), ∀ a, (k0_off200 v3 k0_t6 k0_t7) a + S1x1x256x128.size a ≤ S8x2x256x1024.size a) ∧
  (∀ (k0_t6 : Fin (k0_t6_loop v3).trips) (k0_t7 : Fin k0_t7_loop.trips), ∀ a, (k0_off201 v3 k0_t6 k0_t7) a + S1x1x256x128.size a ≤ S8x2x256x1024.size a) ∧
  (∀ (k0_t6 : Fin (k0_t6_loop v3).trips) (k0_t7 : Fin k0_t7_loop.trips), ∀ a, (k0_off202 v3 k0_t6 k0_t7) a + S1x1x256x128.size a ≤ S8x2x256x1024.size a) ∧
  (∀ (k0_t6 : Fin (k0_t6_loop v3).trips) (k0_t7 : Fin k0_t7_loop.trips), ∀ a, (k0_off203 v3 k0_t6 k0_t7) a + S1x1x256x128.size a ≤ S8x2x256x1024.size a) ∧
  (∀ (k0_t6 : Fin (k0_t6_loop v3).trips) (k0_t7 : Fin k0_t7_loop.trips), ∀ a, (k0_off204 v3 k0_t6 k0_t7) a + S1x1x256x128.size a ≤ S8x2x256x1024.size a) ∧
  (∀ (k0_t6 : Fin (k0_t6_loop v3).trips) (k0_t7 : Fin k0_t7_loop.trips), ∀ a, (k0_off205 v3 k0_t6 k0_t7) a + S1x1x256x128.size a ≤ S8x2x256x1024.size a) ∧
  (∀ (k0_t6 : Fin (k0_t6_loop v3).trips) (k0_t7 : Fin k0_t7_loop.trips), ∀ a, (k0_off206 v3 k0_t6 k0_t7) a + S1x1x256x128.size a ≤ S8x2x256x1024.size a) ∧
  (∀ (k0_t6 : Fin (k0_t6_loop v3).trips) (k0_t7 : Fin k0_t7_loop.trips), ∀ a, (k0_off207 v3 k0_t6 k0_t7) a + S1x1x256x128.size a ≤ S8x2x256x1024.size a) ∧
  (∀ (k0_t6 : Fin (k0_t6_loop v3).trips) (k0_t7 : Fin k0_t7_loop.trips), ∀ a, (k0_off208 v3 k0_t6 k0_t7) a + S1x1x256x128.size a ≤ S8x2x256x1024.size a) ∧
  (∀ (k0_t6 : Fin (k0_t6_loop v3).trips) (k0_t7 : Fin k0_t7_loop.trips), ∀ a, (k0_off209 v3 k0_t6 k0_t7) a + S1x1x256x128.size a ≤ S8x2x256x1024.size a) ∧
  (∀ (k0_t6 : Fin (k0_t6_loop v3).trips) (k0_t7 : Fin k0_t7_loop.trips), ∀ a, (k0_off210 v3 k0_t6 k0_t7) a + S1x1x256x128.size a ≤ S8x2x256x1024.size a) ∧
  (∀ (k0_t6 : Fin (k0_t6_loop v3).trips) (k0_t7 : Fin k0_t7_loop.trips), ∀ a, (k0_off211 v3 k0_t6 k0_t7) a + S1x1x256x128.size a ≤ S8x2x256x1024.size a) ∧
  (∀ (k0_t6 : Fin (k0_t6_loop v3).trips) (k0_t7 : Fin k0_t7_loop.trips), ∀ a, (k0_off212 v3 k0_t6 k0_t7) a + S1x1x256x128.size a ≤ S8x2x256x1024.size a) ∧
  (∀ (k0_t6 : Fin (k0_t6_loop v3).trips) (k0_t7 : Fin k0_t7_loop.trips), ∀ a, (k0_off213 v3 k0_t6 k0_t7) a + S1x1x256x128.size a ≤ S8x2x256x1024.size a) ∧
  (∀ (k0_t6 : Fin (k0_t6_loop v3).trips) (k0_t7 : Fin k0_t7_loop.trips), ∀ a, (k0_off214 v3 k0_t6 k0_t7) a + S1x1x256x128.size a ≤ S8x2x256x1024.size a) ∧
  (∀ (k0_t6 : Fin (k0_t6_loop v3).trips) (k0_t7 : Fin k0_t7_loop.trips), ∀ a, (k0_off215 v3 k0_t6 k0_t7) a + S1x1x256x128.size a ≤ S8x2x256x1024.size a) ∧
  (∀ k0_t6 : Fin (k0_t6_loop v3).trips, ∀ a, (k0_off217 v3 k0_t6) a + S1.size a ≤ S9.size a) ∧
  (∀ (k0_t6 : Fin (k0_t6_loop v3).trips) (k0_t8 : Fin k0_t8_loop.trips), ∀ a, (k0_off218 v3 k0_t6 k0_t8) a + S1.size a ≤ S9.size a) ∧
  (∀ (k0_t6 : Fin (k0_t6_loop v3).trips) (k0_t8 : Fin k0_t8_loop.trips), ∀ (k0_h32 : k0_cond32 v3 k0_t6 k0_t8 = 1#1), 256 ∣ (k0_mult34 v3 k0_t6 k0_t8).toNat) ∧
  (∀ (k0_t6 : Fin (k0_t6_loop v3).trips) (k0_t8 : Fin k0_t8_loop.trips), ∀ (k0_h32 : k0_cond32 v3 k0_t6 k0_t8 = 1#1), ∀ a, (k0_off219 v3 k0_t6 k0_t8) a + S1.size a ≤ S8.size a)
def k0_chk1_5 (v3 : BitVec 32) : Prop :=
  (∀ (k0_t6 : Fin (k0_t6_loop v3).trips) (k0_t8 : Fin k0_t8_loop.trips), ∀ (k0_h32 : k0_cond32 v3 k0_t6 k0_t8 = 1#1), ∀ a, (k0_off220 v3 k0_t6 k0_t8) a + S1x2x256x1024.size a ≤ S8x2x256x1024.size a) ∧
  (∀ (k0_t6 : Fin (k0_t6_loop v3).trips) (k0_t8 : Fin k0_t8_loop.trips), ∀ (k0_h32 : k0_cond32 v3 k0_t6 k0_t8 = 1#1), ∀ (hinb : ∀ a, (k0_off220 v3 k0_t6 k0_t8) a + S1x2x256x1024.size a ≤ S8x2x256x1024.size a), (Rect.unit (s := S8x2x256x1024) (k0_off220 v3 k0_t6 k0_t8) S1x2x256x1024.size hinb).WholeWords (EltTy.packing .i8)) ∧
  (∀ (k0_t6 : Fin (k0_t6_loop v3).trips) (k0_t8 : Fin k0_t8_loop.trips), ∀ (k0_h33 : k0_cond33 v3 k0_t6 k0_t8 = 1#1), 256 ∣ (k0_mult35 v3 k0_t6 k0_t8).toNat) ∧
  (∀ (k0_t6 : Fin (k0_t6_loop v3).trips) (k0_t8 : Fin k0_t8_loop.trips), ∀ (k0_h33 : k0_cond33 v3 k0_t6 k0_t8 = 1#1), ∀ a, (k0_off222 v3 k0_t6 k0_t8) a + S1.size a ≤ S8.size a) ∧
  (∀ (k0_t6 : Fin (k0_t6_loop v3).trips) (k0_t8 : Fin k0_t8_loop.trips), ∀ (k0_h33 : k0_cond33 v3 k0_t6 k0_t8 = 1#1), ∀ a, (k0_off223 v3 k0_t6 k0_t8) a + S1x1x256x1024.size a ≤ S8x2x256x1024.size a) ∧
  (∀ (k0_t6 : Fin (k0_t6_loop v3).trips) (k0_t8 : Fin k0_t8_loop.trips), ∀ (k0_h33 : k0_cond33 v3 k0_t6 k0_t8 = 1#1), ∀ (hinb : ∀ a, (k0_off223 v3 k0_t6 k0_t8) a + S1x1x256x1024.size a ≤ S8x2x256x1024.size a), (Rect.unit (s := S8x2x256x1024) (k0_off223 v3 k0_t6 k0_t8) S1x1x256x1024.size hinb).WholeWords (EltTy.packing .i8)) ∧
  (∀ (k0_t6 : Fin (k0_t6_loop v3).trips) (k0_t8 : Fin k0_t8_loop.trips), ∀ (k0_h33 : k0_cond33 v3 k0_t6 k0_t8 = 1#1), ∀ a, (k0_off225 v3 k0_t6 k0_t8) a + S1x1x256x1024.size a ≤ S8x2x256x1024.size a) ∧
  (∀ (k0_t6 : Fin (k0_t6_loop v3).trips) (k0_t8 : Fin k0_t8_loop.trips), ∀ (k0_h33 : k0_cond33 v3 k0_t6 k0_t8 = 1#1), ∀ (hinb : ∀ a, (k0_off225 v3 k0_t6 k0_t8) a + S1x1x256x1024.size a ≤ S8x2x256x1024.size a), (Rect.unit (s := S8x2x256x1024) (k0_off225 v3 k0_t6 k0_t8) S1x1x256x1024.size hinb).WholeWords (EltTy.packing .i8)) ∧
  (∀ (k0_t6 : Fin (k0_t6_loop v3).trips) (k0_t8 : Fin k0_t8_loop.trips), ∀ (k0_h34 : k0_cond34 v3 k0_t6 k0_t8 = 1#1), ∀ a, (k0_off227 v3 k0_t6 k0_t8) a + S1.size a ≤ S9.size a) ∧
  (∀ (k0_t6 : Fin (k0_t6_loop v3).trips) (k0_t8 : Fin k0_t8_loop.trips), ∀ (k0_h34 : k0_cond34 v3 k0_t6 k0_t8 = 1#1), ∀ (k0_h35 : k0_cond35 v3 k0_t6 k0_t8 = 1#1), 256 ∣ (k0_mult36 v3 k0_t6 k0_t8).toNat) ∧
  (∀ (k0_t6 : Fin (k0_t6_loop v3).trips) (k0_t8 : Fin k0_t8_loop.trips), ∀ (k0_h34 : k0_cond34 v3 k0_t6 k0_t8 = 1#1), ∀ (k0_h35 : k0_cond35 v3 k0_t6 k0_t8 = 1#1), ∀ a, (k0_off228 v3 k0_t6 k0_t8) a + S1.size a ≤ S8.size a) ∧
  (∀ (k0_t6 : Fin (k0_t6_loop v3).trips) (k0_t8 : Fin k0_t8_loop.trips), ∀ (k0_h34 : k0_cond34 v3 k0_t6 k0_t8 = 1#1), ∀ (k0_h35 : k0_cond35 v3 k0_t6 k0_t8 = 1#1), ∀ a, (k0_off229 v3 k0_t6 k0_t8) a + S1x2x256x1024.size a ≤ S8x2x256x1024.size a) ∧
  (∀ (k0_t6 : Fin (k0_t6_loop v3).trips) (k0_t8 : Fin k0_t8_loop.trips), ∀ (k0_h34 : k0_cond34 v3 k0_t6 k0_t8 = 1#1), ∀ (k0_h35 : k0_cond35 v3 k0_t6 k0_t8 = 1#1), ∀ (hinb : ∀ a, (k0_off229 v3 k0_t6 k0_t8) a + S1x2x256x1024.size a ≤ S8x2x256x1024.size a), (Rect.unit (s := S8x2x256x1024) (k0_off229 v3 k0_t6 k0_t8) S1x2x256x1024.size hinb).WholeWords (EltTy.packing .i8)) ∧
  (∀ (k0_t6 : Fin (k0_t6_loop v3).trips) (k0_t8 : Fin k0_t8_loop.trips), ∀ (k0_h34 : k0_cond34 v3 k0_t6 k0_t8 = 1#1), ∀ (k0_h36 : k0_cond36 v3 k0_t6 k0_t8 = 1#1), 256 ∣ (k0_mult37 v3 k0_t6 k0_t8).toNat) ∧
  (∀ (k0_t6 : Fin (k0_t6_loop v3).trips) (k0_t8 : Fin k0_t8_loop.trips), ∀ (k0_h34 : k0_cond34 v3 k0_t6 k0_t8 = 1#1), ∀ (k0_h36 : k0_cond36 v3 k0_t6 k0_t8 = 1#1), ∀ a, (k0_off231 v3 k0_t6 k0_t8) a + S1.size a ≤ S8.size a) ∧
  (∀ (k0_t6 : Fin (k0_t6_loop v3).trips) (k0_t8 : Fin k0_t8_loop.trips), ∀ (k0_h34 : k0_cond34 v3 k0_t6 k0_t8 = 1#1), ∀ (k0_h36 : k0_cond36 v3 k0_t6 k0_t8 = 1#1), ∀ a, (k0_off232 v3 k0_t6 k0_t8) a + S1x1x256x1024.size a ≤ S8x2x256x1024.size a) ∧
  (∀ (k0_t6 : Fin (k0_t6_loop v3).trips) (k0_t8 : Fin k0_t8_loop.trips), ∀ (k0_h34 : k0_cond34 v3 k0_t6 k0_t8 = 1#1), ∀ (k0_h36 : k0_cond36 v3 k0_t6 k0_t8 = 1#1), ∀ (hinb : ∀ a, (k0_off232 v3 k0_t6 k0_t8) a + S1x1x256x1024.size a ≤ S8x2x256x1024.size a), (Rect.unit (s := S8x2x256x1024) (k0_off232 v3 k0_t6 k0_t8) S1x1x256x1024.size hinb).WholeWords (EltTy.packing .i8)) ∧
  (∀ (k0_t6 : Fin (k0_t6_loop v3).trips) (k0_t8 : Fin k0_t8_loop.trips), ∀ (k0_h34 : k0_cond34 v3 k0_t6 k0_t8 = 1#1), ∀ (k0_h36 : k0_cond36 v3 k0_t6 k0_t8 = 1#1), ∀ a, (k0_off234 v3 k0_t6 k0_t8) a + S1x1x256x1024.size a ≤ S8x2x256x1024.size a) ∧
  (∀ (k0_t6 : Fin (k0_t6_loop v3).trips) (k0_t8 : Fin k0_t8_loop.trips), ∀ (k0_h34 : k0_cond34 v3 k0_t6 k0_t8 = 1#1), ∀ (k0_h36 : k0_cond36 v3 k0_t6 k0_t8 = 1#1), ∀ (hinb : ∀ a, (k0_off234 v3 k0_t6 k0_t8) a + S1x1x256x1024.size a ≤ S8x2x256x1024.size a), (Rect.unit (s := S8x2x256x1024) (k0_off234 v3 k0_t6 k0_t8) S1x1x256x1024.size hinb).WholeWords (EltTy.packing .i8)) ∧
  (∀ (k0_t6 : Fin (k0_t6_loop v3).trips) (k0_t8 : Fin k0_t8_loop.trips), ∀ a, (k0_off236 v3 k0_t6 k0_t8) a + S1x16x256.size a ≤ S2x32x2048.size a) ∧
  (∀ (k0_t6 : Fin (k0_t6_loop v3).trips) (k0_t8 : Fin k0_t8_loop.trips), ∀ a, (k0_off237 v3 k0_t6 k0_t8) a + S1x16x256.size a ≤ S2x32x2048.size a) ∧
  (∀ (k0_t6 : Fin (k0_t6_loop v3).trips) (k0_t8 : Fin k0_t8_loop.trips), ∀ a, (k0_off238 v3 k0_t6 k0_t8) a + S1x1x256x128.size a ≤ S8x2x256x1024.size a) ∧
  (∀ (k0_t6 : Fin (k0_t6_loop v3).trips) (k0_t8 : Fin k0_t8_loop.trips), ∀ a, (k0_off239 v3 k0_t6 k0_t8) a + S1x1x256x128.size a ≤ S8x2x256x1024.size a) ∧
  (∀ (k0_t6 : Fin (k0_t6_loop v3).trips) (k0_t8 : Fin k0_t8_loop.trips), ∀ a, (k0_off240 v3 k0_t6 k0_t8) a + S1x1x256x128.size a ≤ S8x2x256x1024.size a) ∧
  (∀ (k0_t6 : Fin (k0_t6_loop v3).trips) (k0_t8 : Fin k0_t8_loop.trips), ∀ a, (k0_off241 v3 k0_t6 k0_t8) a + S1x1x256x128.size a ≤ S8x2x256x1024.size a) ∧
  (∀ (k0_t6 : Fin (k0_t6_loop v3).trips) (k0_t8 : Fin k0_t8_loop.trips), ∀ a, (k0_off242 v3 k0_t6 k0_t8) a + S1x1x256x128.size a ≤ S8x2x256x1024.size a) ∧
  (∀ (k0_t6 : Fin (k0_t6_loop v3).trips) (k0_t8 : Fin k0_t8_loop.trips), ∀ a, (k0_off243 v3 k0_t6 k0_t8) a + S1x1x256x128.size a ≤ S8x2x256x1024.size a) ∧
  (∀ (k0_t6 : Fin (k0_t6_loop v3).trips) (k0_t8 : Fin k0_t8_loop.trips), ∀ a, (k0_off244 v3 k0_t6 k0_t8) a + S1x1x256x128.size a ≤ S8x2x256x1024.size a) ∧
  (∀ (k0_t6 : Fin (k0_t6_loop v3).trips) (k0_t8 : Fin k0_t8_loop.trips), ∀ a, (k0_off245 v3 k0_t6 k0_t8) a + S1x1x256x128.size a ≤ S8x2x256x1024.size a) ∧
  (∀ (k0_t6 : Fin (k0_t6_loop v3).trips) (k0_t8 : Fin k0_t8_loop.trips), ∀ a, (k0_off246 v3 k0_t6 k0_t8) a + S1x1x256x128.size a ≤ S8x2x256x1024.size a) ∧
  (∀ (k0_t6 : Fin (k0_t6_loop v3).trips) (k0_t8 : Fin k0_t8_loop.trips), ∀ a, (k0_off247 v3 k0_t6 k0_t8) a + S1x1x256x128.size a ≤ S8x2x256x1024.size a) ∧
  (∀ (k0_t6 : Fin (k0_t6_loop v3).trips) (k0_t8 : Fin k0_t8_loop.trips), ∀ a, (k0_off248 v3 k0_t6 k0_t8) a + S1x1x256x128.size a ≤ S8x2x256x1024.size a)
def k0_chk1_6 (v3 : BitVec 32) : Prop :=
  (∀ (k0_t6 : Fin (k0_t6_loop v3).trips) (k0_t8 : Fin k0_t8_loop.trips), ∀ a, (k0_off249 v3 k0_t6 k0_t8) a + S1x1x256x128.size a ≤ S8x2x256x1024.size a) ∧
  (∀ (k0_t6 : Fin (k0_t6_loop v3).trips) (k0_t8 : Fin k0_t8_loop.trips), ∀ a, (k0_off250 v3 k0_t6 k0_t8) a + S1x1x256x128.size a ≤ S8x2x256x1024.size a) ∧
  (∀ (k0_t6 : Fin (k0_t6_loop v3).trips) (k0_t8 : Fin k0_t8_loop.trips), ∀ a, (k0_off251 v3 k0_t6 k0_t8) a + S1x1x256x128.size a ≤ S8x2x256x1024.size a) ∧
  (∀ (k0_t6 : Fin (k0_t6_loop v3).trips) (k0_t8 : Fin k0_t8_loop.trips), ∀ a, (k0_off252 v3 k0_t6 k0_t8) a + S1x1x256x128.size a ≤ S8x2x256x1024.size a) ∧
  (∀ (k0_t6 : Fin (k0_t6_loop v3).trips) (k0_t8 : Fin k0_t8_loop.trips), ∀ a, (k0_off253 v3 k0_t6 k0_t8) a + S1x1x256x128.size a ≤ S8x2x256x1024.size a)
def k0_chk1 (v3 : BitVec 32) : Prop :=
  k0_chk1_0 v3 ∧
  k0_chk1_1 v3 ∧
  k0_chk1_2 v3 ∧
  k0_chk1_3 v3 ∧
  k0_chk1_4 v3 ∧
  k0_chk1_5 v3 ∧
  k0_chk1_6 v3
theorem k0_off3_inb : ∀ (v3 : BitVec 32) (k0_hw1 : k0_chk1 v3), ∀ a, (k0_off3 v3) a + S1.size a ≤ S9.size a := fun v3 k0_hw1 => k0_hw1.1.1
theorem k0_off4_inb : ∀ (v3 : BitVec 32) (k0_hw1 : k0_chk1 v3), ∀ a, (k0_off4 v3) a + S1.size a ≤ S9.size a := fun v3 k0_hw1 => k0_hw1.1.2.1
theorem k0_off5_inb : ∀ (v3 : BitVec 32) (k0_hw1 : k0_chk1 v3), ∀ a, (k0_off5 v3) a + S1.size a ≤ S9.size a := fun v3 k0_hw1 => k0_hw1.1.2.2.1
theorem k0_off6_inb : ∀ (v3 : BitVec 32) (k0_hw1 : k0_chk1 v3), ∀ a, (k0_off6 v3) a + S1.size a ≤ S9.size a := fun v3 k0_hw1 => k0_hw1.1.2.2.2.1
theorem k0_off7_inb : ∀ (v3 : BitVec 32) (k0_hw1 : k0_chk1 v3), ∀ a, (k0_off7 v3) a + S1.size a ≤ S9.size a := fun v3 k0_hw1 => k0_hw1.1.2.2.2.2.1
theorem k0_off8_inb : ∀ (v3 : BitVec 32) (k0_hw1 : k0_chk1 v3), ∀ a, (k0_off8 v3) a + S1.size a ≤ S9.size a := fun v3 k0_hw1 => k0_hw1.1.2.2.2.2.2.1
theorem k0_off9_inb : ∀ (v3 : BitVec 32) (k0_hw1 : k0_chk1 v3), ∀ a, (k0_off9 v3) a + S1.size a ≤ S9.size a := fun v3 k0_hw1 => k0_hw1.1.2.2.2.2.2.2.1
theorem k0_t3_ok : ∀ (v3 : BitVec 32) (k0_hw1 : k0_chk1 v3), (k0_t3_loop v3).OK := fun v3 k0_hw1 => k0_hw1.1.2.2.2.2.2.2.2.1
theorem k0_off79_inb : ∀ (v3 : BitVec 32) (k0_hw1 : k0_chk1 v3) (k0_t3 : Fin (k0_t3_loop v3).trips), ∀ a, (k0_off79 v3 k0_t3) a + S1.size a ≤ S9.size a := fun v3 k0_hw1 k0_t3 => k0_hw1.1.2.2.2.2.2.2.2.2.1 k0_t3
theorem k0_off80_inb : ∀ (v3 : BitVec 32) (k0_hw1 : k0_chk1 v3) (k0_t3 : Fin (k0_t3_loop v3).trips), ∀ a, (k0_off80 v3 k0_t3) a + S1.size a ≤ S2.size a := fun v3 k0_hw1 k0_t3 => k0_hw1.1.2.2.2.2.2.2.2.2.2.1 k0_t3
theorem k0_off81_inb : ∀ (v3 : BitVec 32) (k0_hw1 : k0_chk1 v3) (k0_t3 : Fin (k0_t3_loop v3).trips), ∀ a, (k0_off81 v3 k0_t3) a + S1x16x8192.size a ≤ S2x16x8192.size a := fun v3 k0_hw1 k0_t3 => k0_hw1.1.2.2.2.2.2.2.2.2.2.2.1 k0_t3
theorem k0_off81_wordsbf16 : ∀ (v3 : BitVec 32) (k0_hw1 : k0_chk1 v3) (k0_t3 : Fin (k0_t3_loop v3).trips), (Rect.unit (s := S2x16x8192) (k0_off81 v3 k0_t3) S1x16x8192.size (k0_off81_inb v3 k0_hw1 k0_t3)).WholeWords (EltTy.packing .bf16) := fun v3 k0_hw1 k0_t3 => k0_hw1.1.2.2.2.2.2.2.2.2.2.2.2.1 k0_t3 (k0_off81_inb v3 k0_hw1 k0_t3)
theorem k0_off83_inb : ∀ (v3 : BitVec 32) (k0_hw1 : k0_chk1 v3) (k0_t3 : Fin (k0_t3_loop v3).trips), ∀ a, (k0_off83 v3 k0_t3) a + S1.size a ≤ S2.size a := fun v3 k0_hw1 k0_t3 => k0_hw1.1.2.2.2.2.2.2.2.2.2.2.2.2.1 k0_t3
theorem k0_off84_inb : ∀ (v3 : BitVec 32) (k0_hw1 : k0_chk1 v3) (k0_t3 : Fin (k0_t3_loop v3).trips), ∀ a, (k0_off84 v3 k0_t3) a + S1x32x2048.size a ≤ S2x32x2048.size a := fun v3 k0_hw1 k0_t3 => k0_hw1.1.2.2.2.2.2.2.2.2.2.2.2.2.2.1 k0_t3
theorem k0_off84_wordsbf16 : ∀ (v3 : BitVec 32) (k0_hw1 : k0_chk1 v3) (k0_t3 : Fin (k0_t3_loop v3).trips), (Rect.unit (s := S2x32x2048) (k0_off84 v3 k0_t3) S1x32x2048.size (k0_off84_inb v3 k0_hw1 k0_t3)).WholeWords (EltTy.packing .bf16) := fun v3 k0_hw1 k0_t3 => k0_hw1.1.2.2.2.2.2.2.2.2.2.2.2.2.2.2.1 k0_t3 (k0_off84_inb v3 k0_hw1 k0_t3)
theorem k0_off86_inb : ∀ (v3 : BitVec 32) (k0_hw1 : k0_chk1 v3) (k0_t3 : Fin (k0_t3_loop v3).trips), ∀ (k0_h15 : k0_cond15 v3 k0_t3 = 1#1), ∀ a, (k0_off86 v3 k0_t3) a + S1.size a ≤ S9.size a := fun v3 k0_hw1 k0_t3 k0_h15 => k0_hw1.1.2.2.2.2.2.2.2.2.2.2.2.2.2.2.2.1 k0_t3 k0_h15
theorem k0_off87_inb : ∀ (v3 : BitVec 32) (k0_hw1 : k0_chk1 v3) (k0_t3 : Fin (k0_t3_loop v3).trips), ∀ (k0_h15 : k0_cond15 v3 k0_t3 = 1#1), ∀ a, (k0_off87 v3 k0_t3) a + S1.size a ≤ S2.size a := fun v3 k0_hw1 k0_t3 k0_h15 => k0_hw1.1.2.2.2.2.2.2.2.2.2.2.2.2.2.2.2.2.1 k0_t3 k0_h15
theorem k0_off88_inb : ∀ (v3 : BitVec 32) (k0_hw1 : k0_chk1 v3) (k0_t3 : Fin (k0_t3_loop v3).trips), ∀ (k0_h15 : k0_cond15 v3 k0_t3 = 1#1), ∀ a, (k0_off88 v3 k0_t3) a + S1x16x8192.size a ≤ S2x16x8192.size a := fun v3 k0_hw1 k0_t3 k0_h15 => k0_hw1.1.2.2.2.2.2.2.2.2.2.2.2.2.2.2.2.2.2.1 k0_t3 k0_h15
theorem k0_off88_wordsbf16 : ∀ (v3 : BitVec 32) (k0_hw1 : k0_chk1 v3) (k0_t3 : Fin (k0_t3_loop v3).trips), ∀ (k0_h15 : k0_cond15 v3 k0_t3 = 1#1), (Rect.unit (s := S2x16x8192) (k0_off88 v3 k0_t3) S1x16x8192.size (k0_off88_inb v3 k0_hw1 k0_t3 k0_h15)).WholeWords (EltTy.packing .bf16) := fun v3 k0_hw1 k0_t3 k0_h15 => k0_hw1.1.2.2.2.2.2.2.2.2.2.2.2.2.2.2.2.2.2.2.1 k0_t3 k0_h15 (k0_off88_inb v3 k0_hw1 k0_t3 k0_h15)
theorem k0_off90_inb : ∀ (v3 : BitVec 32) (k0_hw1 : k0_chk1 v3) (k0_t3 : Fin (k0_t3_loop v3).trips), ∀ (k0_h15 : k0_cond15 v3 k0_t3 = 1#1), ∀ a, (k0_off90 v3 k0_t3) a + S1.size a ≤ S2.size a := fun v3 k0_hw1 k0_t3 k0_h15 => k0_hw1.1.2.2.2.2.2.2.2.2.2.2.2.2.2.2.2.2.2.2.2.1 k0_t3 k0_h15
theorem k0_off91_inb : ∀ (v3 : BitVec 32) (k0_hw1 : k0_chk1 v3) (k0_t3 : Fin (k0_t3_loop v3).trips), ∀ (k0_h15 : k0_cond15 v3 k0_t3 = 1#1), ∀ a, (k0_off91 v3 k0_t3) a + S1x32x2048.size a ≤ S2x32x2048.size a := fun v3 k0_hw1 k0_t3 k0_h15 => k0_hw1.1.2.2.2.2.2.2.2.2.2.2.2.2.2.2.2.2.2.2.2.2.1 k0_t3 k0_h15
theorem k0_off91_wordsbf16 : ∀ (v3 : BitVec 32) (k0_hw1 : k0_chk1 v3) (k0_t3 : Fin (k0_t3_loop v3).trips), ∀ (k0_h15 : k0_cond15 v3 k0_t3 = 1#1), (Rect.unit (s := S2x32x2048) (k0_off91 v3 k0_t3) S1x32x2048.size (k0_off91_inb v3 k0_hw1 k0_t3 k0_h15)).WholeWords (EltTy.packing .bf16) := fun v3 k0_hw1 k0_t3 k0_h15 => k0_hw1.1.2.2.2.2.2.2.2.2.2.2.2.2.2.2.2.2.2.2.2.2.2.1 k0_t3 k0_h15 (k0_off91_inb v3 k0_hw1 k0_t3 k0_h15)
theorem k0_off93_inb : ∀ (v3 : BitVec 32) (k0_hw1 : k0_chk1 v3) (k0_t3 : Fin (k0_t3_loop v3).trips) (k0_t4 : Fin k0_t4_loop.trips), ∀ a, (k0_off93 v3 k0_t3 k0_t4) a + S1.size a ≤ S9.size a := fun v3 k0_hw1 k0_t3 k0_t4 => k0_hw1.1.2.2.2.2.2.2.2.2.2.2.2.2.2.2.2.2.2.2.2.2.2.2.1 k0_t3 k0_t4
theorem k0_mult15_dvd : ∀ (v3 : BitVec 32) (k0_hw1 : k0_chk1 v3) (k0_t3 : Fin (k0_t3_loop v3).trips) (k0_t4 : Fin k0_t4_loop.trips), ∀ (k0_h16 : k0_cond16 v3 k0_t3 k0_t4 = 1#1), 256 ∣ (k0_mult15 v3 k0_t3 k0_t4).toNat := fun v3 k0_hw1 k0_t3 k0_t4 k0_h16 => k0_hw1.1.2.2.2.2.2.2.2.2.2.2.2.2.2.2.2.2.2.2.2.2.2.2.2.1 k0_t3 k0_t4 k0_h16
theorem k0_off94_inb : ∀ (v3 : BitVec 32) (k0_hw1 : k0_chk1 v3) (k0_t3 : Fin (k0_t3_loop v3).trips) (k0_t4 : Fin k0_t4_loop.trips), ∀ (k0_h16 : k0_cond16 v3 k0_t3 k0_t4 = 1#1), ∀ a, (k0_off94 v3 k0_t3 k0_t4) a + S1.size a ≤ S8.size a := fun v3 k0_hw1 k0_t3 k0_t4 k0_h16 => k0_hw1.1.2.2.2.2.2.2.2.2.2.2.2.2.2.2.2.2.2.2.2.2.2.2.2.2.1 k0_t3 k0_t4 k0_h16
theorem k0_off95_inb : ∀ (v3 : BitVec 32) (k0_hw1 : k0_chk1 v3) (k0_t3 : Fin (k0_t3_loop v3).trips) (k0_t4 : Fin k0_t4_loop.trips), ∀ (k0_h16 : k0_cond16 v3 k0_t3 k0_t4 = 1#1), ∀ a, (k0_off95 v3 k0_t3 k0_t4) a + S1x2x256x1024.size a ≤ S8x2x256x1024.size a := fun v3 k0_hw1 k0_t3 k0_t4 k0_h16 => k0_hw1.1.2.2.2.2.2.2.2.2.2.2.2.2.2.2.2.2.2.2.2.2.2.2.2.2.2.1 k0_t3 k0_t4 k0_h16
theorem k0_off95_wordsi8 : ∀ (v3 : BitVec 32) (k0_hw1 : k0_chk1 v3) (k0_t3 : Fin (k0_t3_loop v3).trips) (k0_t4 : Fin k0_t4_loop.trips), ∀ (k0_h16 : k0_cond16 v3 k0_t3 k0_t4 = 1#1), (Rect.unit (s := S8x2x256x1024) (k0_off95 v3 k0_t3 k0_t4) S1x2x256x1024.size (k0_off95_inb v3 k0_hw1 k0_t3 k0_t4 k0_h16)).WholeWords (EltTy.packing .i8) := fun v3 k0_hw1 k0_t3 k0_t4 k0_h16 => k0_hw1.1.2.2.2.2.2.2.2.2.2.2.2.2.2.2.2.2.2.2.2.2.2.2.2.2.2.2.1 k0_t3 k0_t4 k0_h16 (k0_off95_inb v3 k0_hw1 k0_t3 k0_t4 k0_h16)
theorem k0_mult16_dvd : ∀ (v3 : BitVec 32) (k0_hw1 : k0_chk1 v3) (k0_t3 : Fin (k0_t3_loop v3).trips) (k0_t4 : Fin k0_t4_loop.trips), ∀ (k0_h17 : k0_cond17 v3 k0_t3 k0_t4 = 1#1), 256 ∣ (k0_mult16 v3 k0_t3 k0_t4).toNat := fun v3 k0_hw1 k0_t3 k0_t4 k0_h17 => k0_hw1.1.2.2.2.2.2.2.2.2.2.2.2.2.2.2.2.2.2.2.2.2.2.2.2.2.2.2.2.1 k0_t3 k0_t4 k0_h17
theorem k0_off97_inb : ∀ (v3 : BitVec 32) (k0_hw1 : k0_chk1 v3) (k0_t3 : Fin (k0_t3_loop v3).trips) (k0_t4 : Fin k0_t4_loop.trips), ∀ (k0_h17 : k0_cond17 v3 k0_t3 k0_t4 = 1#1), ∀ a, (k0_off97 v3 k0_t3 k0_t4) a + S1.size a ≤ S8.size a := fun v3 k0_hw1 k0_t3 k0_t4 k0_h17 => k0_hw1.1.2.2.2.2.2.2.2.2.2.2.2.2.2.2.2.2.2.2.2.2.2.2.2.2.2.2.2.2.1 k0_t3 k0_t4 k0_h17
theorem k0_off98_inb : ∀ (v3 : BitVec 32) (k0_hw1 : k0_chk1 v3) (k0_t3 : Fin (k0_t3_loop v3).trips) (k0_t4 : Fin k0_t4_loop.trips), ∀ (k0_h17 : k0_cond17 v3 k0_t3 k0_t4 = 1#1), ∀ a, (k0_off98 v3 k0_t3 k0_t4) a + S1x1x256x1024.size a ≤ S8x2x256x1024.size a := fun v3 k0_hw1 k0_t3 k0_t4 k0_h17 => k0_hw1.1.2.2.2.2.2.2.2.2.2.2.2.2.2.2.2.2.2.2.2.2.2.2.2.2.2.2.2.2.2.1 k0_t3 k0_t4 k0_h17
theorem k0_off98_wordsi8 : ∀ (v3 : BitVec 32) (k0_hw1 : k0_chk1 v3) (k0_t3 : Fin (k0_t3_loop v3).trips) (k0_t4 : Fin k0_t4_loop.trips), ∀ (k0_h17 : k0_cond17 v3 k0_t3 k0_t4 = 1#1), (Rect.unit (s := S8x2x256x1024) (k0_off98 v3 k0_t3 k0_t4) S1x1x256x1024.size (k0_off98_inb v3 k0_hw1 k0_t3 k0_t4 k0_h17)).WholeWords (EltTy.packing .i8) := fun v3 k0_hw1 k0_t3 k0_t4 k0_h17 => k0_hw1.1.2.2.2.2.2.2.2.2.2.2.2.2.2.2.2.2.2.2.2.2.2.2.2.2.2.2.2.2.2.2.1 k0_t3 k0_t4 k0_h17 (k0_off98_inb v3 k0_hw1 k0_t3 k0_t4 k0_h17)
theorem k0_off100_inb : ∀ (v3 : BitVec 32) (k0_hw1 : k0_chk1 v3) (k0_t3 : Fin (k0_t3_loop v3).trips) (k0_t4 : Fin k0_t4_loop.trips), ∀ (k0_h17 : k0_cond17 v3 k0_t3 k0_t4 = 1#1), ∀ a, (k0_off100 v3 k0_t3 k0_t4) a + S1x1x256x1024.size a ≤ S8x2x256x1024.size a := fun v3 k0_hw1 k0_t3 k0_t4 k0_h17 => k0_hw1.1.2.2.2.2.2.2.2.2.2.2.2.2.2.2.2.2.2.2.2.2.2.2.2.2.2.2.2.2.2.2.2 k0_t3 k0_t4 k0_h17
theorem k0_off100_wordsi8 : ∀ (v3 : BitVec 32) (k0_hw1 : k0_chk1 v3) (k0_t3 : Fin (k0_t3_loop v3).trips) (k0_t4 : Fin k0_t4_loop.trips), ∀ (k0_h17 : k0_cond17 v3 k0_t3 k0_t4 = 1#1), (Rect.unit (s := S8x2x256x1024) (k0_off100 v3 k0_t3 k0_t4) S1x1x256x1024.size (k0_off100_inb v3 k0_hw1 k0_t3 k0_t4 k0_h17)).WholeWords (EltTy.packing .i8) := fun v3 k0_hw1 k0_t3 k0_t4 k0_h17 => k0_hw1.2.1.1 k0_t3 k0_t4 k0_h17 (k0_off100_inb v3 k0_hw1 k0_t3 k0_t4 k0_h17)
theorem k0_off102_inb : ∀ (v3 : BitVec 32) (k0_hw1 : k0_chk1 v3) (k0_t3 : Fin (k0_t3_loop v3).trips) (k0_t4 : Fin k0_t4_loop.trips), ∀ (k0_h18 : k0_cond18 v3 k0_t3 k0_t4 = 1#1), ∀ a, (k0_off102 v3 k0_t3 k0_t4) a + S1.size a ≤ S9.size a := fun v3 k0_hw1 k0_t3 k0_t4 k0_h18 => k0_hw1.2.1.2.1 k0_t3 k0_t4 k0_h18
theorem k0_mult17_dvd : ∀ (v3 : BitVec 32) (k0_hw1 : k0_chk1 v3) (k0_t3 : Fin (k0_t3_loop v3).trips) (k0_t4 : Fin k0_t4_loop.trips), ∀ (k0_h18 : k0_cond18 v3 k0_t3 k0_t4 = 1#1), ∀ (k0_h19 : k0_cond19 v3 k0_t3 k0_t4 = 1#1), 256 ∣ (k0_mult17 v3 k0_t3 k0_t4).toNat := fun v3 k0_hw1 k0_t3 k0_t4 k0_h18 k0_h19 => k0_hw1.2.1.2.2.1 k0_t3 k0_t4 k0_h18 k0_h19
theorem k0_off103_inb : ∀ (v3 : BitVec 32) (k0_hw1 : k0_chk1 v3) (k0_t3 : Fin (k0_t3_loop v3).trips) (k0_t4 : Fin k0_t4_loop.trips), ∀ (k0_h18 : k0_cond18 v3 k0_t3 k0_t4 = 1#1), ∀ (k0_h19 : k0_cond19 v3 k0_t3 k0_t4 = 1#1), ∀ a, (k0_off103 v3 k0_t3 k0_t4) a + S1.size a ≤ S8.size a := fun v3 k0_hw1 k0_t3 k0_t4 k0_h18 k0_h19 => k0_hw1.2.1.2.2.2.1 k0_t3 k0_t4 k0_h18 k0_h19
theorem k0_off104_inb : ∀ (v3 : BitVec 32) (k0_hw1 : k0_chk1 v3) (k0_t3 : Fin (k0_t3_loop v3).trips) (k0_t4 : Fin k0_t4_loop.trips), ∀ (k0_h18 : k0_cond18 v3 k0_t3 k0_t4 = 1#1), ∀ (k0_h19 : k0_cond19 v3 k0_t3 k0_t4 = 1#1), ∀ a, (k0_off104 v3 k0_t3 k0_t4) a + S1x2x256x1024.size a ≤ S8x2x256x1024.size a := fun v3 k0_hw1 k0_t3 k0_t4 k0_h18 k0_h19 => k0_hw1.2.1.2.2.2.2.1 k0_t3 k0_t4 k0_h18 k0_h19
theorem k0_off104_wordsi8 : ∀ (v3 : BitVec 32) (k0_hw1 : k0_chk1 v3) (k0_t3 : Fin (k0_t3_loop v3).trips) (k0_t4 : Fin k0_t4_loop.trips), ∀ (k0_h18 : k0_cond18 v3 k0_t3 k0_t4 = 1#1), ∀ (k0_h19 : k0_cond19 v3 k0_t3 k0_t4 = 1#1), (Rect.unit (s := S8x2x256x1024) (k0_off104 v3 k0_t3 k0_t4) S1x2x256x1024.size (k0_off104_inb v3 k0_hw1 k0_t3 k0_t4 k0_h18 k0_h19)).WholeWords (EltTy.packing .i8) := fun v3 k0_hw1 k0_t3 k0_t4 k0_h18 k0_h19 => k0_hw1.2.1.2.2.2.2.2.1 k0_t3 k0_t4 k0_h18 k0_h19 (k0_off104_inb v3 k0_hw1 k0_t3 k0_t4 k0_h18 k0_h19)
theorem k0_mult18_dvd : ∀ (v3 : BitVec 32) (k0_hw1 : k0_chk1 v3) (k0_t3 : Fin (k0_t3_loop v3).trips) (k0_t4 : Fin k0_t4_loop.trips), ∀ (k0_h18 : k0_cond18 v3 k0_t3 k0_t4 = 1#1), ∀ (k0_h20 : k0_cond20 v3 k0_t3 k0_t4 = 1#1), 256 ∣ (k0_mult18 v3 k0_t3 k0_t4).toNat := fun v3 k0_hw1 k0_t3 k0_t4 k0_h18 k0_h20 => k0_hw1.2.1.2.2.2.2.2.2.1 k0_t3 k0_t4 k0_h18 k0_h20
theorem k0_off106_inb : ∀ (v3 : BitVec 32) (k0_hw1 : k0_chk1 v3) (k0_t3 : Fin (k0_t3_loop v3).trips) (k0_t4 : Fin k0_t4_loop.trips), ∀ (k0_h18 : k0_cond18 v3 k0_t3 k0_t4 = 1#1), ∀ (k0_h20 : k0_cond20 v3 k0_t3 k0_t4 = 1#1), ∀ a, (k0_off106 v3 k0_t3 k0_t4) a + S1.size a ≤ S8.size a := fun v3 k0_hw1 k0_t3 k0_t4 k0_h18 k0_h20 => k0_hw1.2.1.2.2.2.2.2.2.2.1 k0_t3 k0_t4 k0_h18 k0_h20
theorem k0_off107_inb : ∀ (v3 : BitVec 32) (k0_hw1 : k0_chk1 v3) (k0_t3 : Fin (k0_t3_loop v3).trips) (k0_t4 : Fin k0_t4_loop.trips), ∀ (k0_h18 : k0_cond18 v3 k0_t3 k0_t4 = 1#1), ∀ (k0_h20 : k0_cond20 v3 k0_t3 k0_t4 = 1#1), ∀ a, (k0_off107 v3 k0_t3 k0_t4) a + S1x1x256x1024.size a ≤ S8x2x256x1024.size a := fun v3 k0_hw1 k0_t3 k0_t4 k0_h18 k0_h20 => k0_hw1.2.1.2.2.2.2.2.2.2.2.1 k0_t3 k0_t4 k0_h18 k0_h20
theorem k0_off107_wordsi8 : ∀ (v3 : BitVec 32) (k0_hw1 : k0_chk1 v3) (k0_t3 : Fin (k0_t3_loop v3).trips) (k0_t4 : Fin k0_t4_loop.trips), ∀ (k0_h18 : k0_cond18 v3 k0_t3 k0_t4 = 1#1), ∀ (k0_h20 : k0_cond20 v3 k0_t3 k0_t4 = 1#1), (Rect.unit (s := S8x2x256x1024) (k0_off107 v3 k0_t3 k0_t4) S1x1x256x1024.size (k0_off107_inb v3 k0_hw1 k0_t3 k0_t4 k0_h18 k0_h20)).WholeWords (EltTy.packing .i8) := fun v3 k0_hw1 k0_t3 k0_t4 k0_h18 k0_h20 => k0_hw1.2.1.2.2.2.2.2.2.2.2.2.1 k0_t3 k0_t4 k0_h18 k0_h20 (k0_off107_inb v3 k0_hw1 k0_t3 k0_t4 k0_h18 k0_h20)
theorem k0_off109_inb : ∀ (v3 : BitVec 32) (k0_hw1 : k0_chk1 v3) (k0_t3 : Fin (k0_t3_loop v3).trips) (k0_t4 : Fin k0_t4_loop.trips), ∀ (k0_h18 : k0_cond18 v3 k0_t3 k0_t4 = 1#1), ∀ (k0_h20 : k0_cond20 v3 k0_t3 k0_t4 = 1#1), ∀ a, (k0_off109 v3 k0_t3 k0_t4) a + S1x1x256x1024.size a ≤ S8x2x256x1024.size a := fun v3 k0_hw1 k0_t3 k0_t4 k0_h18 k0_h20 => k0_hw1.2.1.2.2.2.2.2.2.2.2.2.2.1 k0_t3 k0_t4 k0_h18 k0_h20
theorem k0_off109_wordsi8 : ∀ (v3 : BitVec 32) (k0_hw1 : k0_chk1 v3) (k0_t3 : Fin (k0_t3_loop v3).trips) (k0_t4 : Fin k0_t4_loop.trips), ∀ (k0_h18 : k0_cond18 v3 k0_t3 k0_t4 = 1#1), ∀ (k0_h20 : k0_cond20 v3 k0_t3 k0_t4 = 1#1), (Rect.unit (s := S8x2x256x1024) (k0_off109 v3 k0_t3 k0_t4) S1x1x256x1024.size (k0_off109_inb v3 k0_hw1 k0_t3 k0_t4 k0_h18 k0_h20)).WholeWords (EltTy.packing .i8) := fun v3 k0_hw1 k0_t3 k0_t4 k0_h18 k0_h20 => k0_hw1.2.1.2.2.2.2.2.2.2.2.2.2.2.1 k0_t3 k0_t4 k0_h18 k0_h20 (k0_off109_inb v3 k0_hw1 k0_t3 k0_t4 k0_h18 k0_h20)
theorem k0_off111_inb : ∀ (v3 : BitVec 32) (k0_hw1 : k0_chk1 v3) (k0_t3 : Fin (k0_t3_loop v3).trips) (k0_t4 : Fin k0_t4_loop.trips), ∀ (r : Fin 2), ∀ a, (k0_off111 v3 k0_t3 k0_t4 (BitVec.ofNat 32 (4096 * r.val))) a + S1x16x256.size a ≤ S2x16x8192.size a := fun v3 k0_hw1 k0_t3 k0_t4 r => k0_hw1.2.1.2.2.2.2.2.2.2.2.2.2.2.2.1 k0_t3 k0_t4 r
theorem k0_off112_inb : ∀ (v3 : BitVec 32) (k0_hw1 : k0_chk1 v3) (k0_t3 : Fin (k0_t3_loop v3).trips) (k0_t4 : Fin k0_t4_loop.trips), ∀ a, (k0_off112 v3 k0_t3 k0_t4) a + S1x1x256x128.size a ≤ S8x2x256x1024.size a := fun v3 k0_hw1 k0_t3 k0_t4 => k0_hw1.2.1.2.2.2.2.2.2.2.2.2.2.2.2.2.1 k0_t3 k0_t4
theorem k0_off113_inb : ∀ (v3 : BitVec 32) (k0_hw1 : k0_chk1 v3) (k0_t3 : Fin (k0_t3_loop v3).trips) (k0_t4 : Fin k0_t4_loop.trips), ∀ a, (k0_off113 v3 k0_t3 k0_t4) a + S1x1x256x128.size a ≤ S8x2x256x1024.size a := fun v3 k0_hw1 k0_t3 k0_t4 => k0_hw1.2.1.2.2.2.2.2.2.2.2.2.2.2.2.2.2.1 k0_t3 k0_t4
theorem k0_off114_inb : ∀ (v3 : BitVec 32) (k0_hw1 : k0_chk1 v3) (k0_t3 : Fin (k0_t3_loop v3).trips) (k0_t4 : Fin k0_t4_loop.trips), ∀ a, (k0_off114 v3 k0_t3 k0_t4) a + S1x1x256x128.size a ≤ S8x2x256x1024.size a := fun v3 k0_hw1 k0_t3 k0_t4 => k0_hw1.2.1.2.2.2.2.2.2.2.2.2.2.2.2.2.2.2.1 k0_t3 k0_t4
theorem k0_off115_inb : ∀ (v3 : BitVec 32) (k0_hw1 : k0_chk1 v3) (k0_t3 : Fin (k0_t3_loop v3).trips) (k0_t4 : Fin k0_t4_loop.trips), ∀ a, (k0_off115 v3 k0_t3 k0_t4) a + S1x1x256x128.size a ≤ S8x2x256x1024.size a := fun v3 k0_hw1 k0_t3 k0_t4 => k0_hw1.2.1.2.2.2.2.2.2.2.2.2.2.2.2.2.2.2.2.1 k0_t3 k0_t4
theorem k0_off116_inb : ∀ (v3 : BitVec 32) (k0_hw1 : k0_chk1 v3) (k0_t3 : Fin (k0_t3_loop v3).trips) (k0_t4 : Fin k0_t4_loop.trips), ∀ a, (k0_off116 v3 k0_t3 k0_t4) a + S1x1x256x128.size a ≤ S8x2x256x1024.size a := fun v3 k0_hw1 k0_t3 k0_t4 => k0_hw1.2.1.2.2.2.2.2.2.2.2.2.2.2.2.2.2.2.2.2.1 k0_t3 k0_t4
theorem k0_off117_inb : ∀ (v3 : BitVec 32) (k0_hw1 : k0_chk1 v3) (k0_t3 : Fin (k0_t3_loop v3).trips) (k0_t4 : Fin k0_t4_loop.trips), ∀ a, (k0_off117 v3 k0_t3 k0_t4) a + S1x1x256x128.size a ≤ S8x2x256x1024.size a := fun v3 k0_hw1 k0_t3 k0_t4 => k0_hw1.2.1.2.2.2.2.2.2.2.2.2.2.2.2.2.2.2.2.2.2.1 k0_t3 k0_t4
theorem k0_off118_inb : ∀ (v3 : BitVec 32) (k0_hw1 : k0_chk1 v3) (k0_t3 : Fin (k0_t3_loop v3).trips) (k0_t4 : Fin k0_t4_loop.trips), ∀ a, (k0_off118 v3 k0_t3 k0_t4) a + S1x1x256x128.size a ≤ S8x2x256x1024.size a := fun v3 k0_hw1 k0_t3 k0_t4 => k0_hw1.2.1.2.2.2.2.2.2.2.2.2.2.2.2.2.2.2.2.2.2.2.1 k0_t3 k0_t4
theorem k0_off119_inb : ∀ (v3 : BitVec 32) (k0_hw1 : k0_chk1 v3) (k0_t3 : Fin (k0_t3_loop v3).trips) (k0_t4 : Fin k0_t4_loop.trips), ∀ a, (k0_off119 v3 k0_t3 k0_t4) a + S1x1x256x128.size a ≤ S8x2x256x1024.size a := fun v3 k0_hw1 k0_t3 k0_t4 => k0_hw1.2.1.2.2.2.2.2.2.2.2.2.2.2.2.2.2.2.2.2.2.2.2.1 k0_t3 k0_t4
theorem k0_off120_inb : ∀ (v3 : BitVec 32) (k0_hw1 : k0_chk1 v3) (k0_t3 : Fin (k0_t3_loop v3).trips) (k0_t4 : Fin k0_t4_loop.trips), ∀ a, (k0_off120 v3 k0_t3 k0_t4) a + S1x1x256x128.size a ≤ S8x2x256x1024.size a := fun v3 k0_hw1 k0_t3 k0_t4 => k0_hw1.2.1.2.2.2.2.2.2.2.2.2.2.2.2.2.2.2.2.2.2.2.2.2.1 k0_t3 k0_t4
theorem k0_off121_inb : ∀ (v3 : BitVec 32) (k0_hw1 : k0_chk1 v3) (k0_t3 : Fin (k0_t3_loop v3).trips) (k0_t4 : Fin k0_t4_loop.trips), ∀ a, (k0_off121 v3 k0_t3 k0_t4) a + S1x1x256x128.size a ≤ S8x2x256x1024.size a := fun v3 k0_hw1 k0_t3 k0_t4 => k0_hw1.2.1.2.2.2.2.2.2.2.2.2.2.2.2.2.2.2.2.2.2.2.2.2.2.1 k0_t3 k0_t4
theorem k0_off122_inb : ∀ (v3 : BitVec 32) (k0_hw1 : k0_chk1 v3) (k0_t3 : Fin (k0_t3_loop v3).trips) (k0_t4 : Fin k0_t4_loop.trips), ∀ a, (k0_off122 v3 k0_t3 k0_t4) a + S1x1x256x128.size a ≤ S8x2x256x1024.size a := fun v3 k0_hw1 k0_t3 k0_t4 => k0_hw1.2.1.2.2.2.2.2.2.2.2.2.2.2.2.2.2.2.2.2.2.2.2.2.2.2.1 k0_t3 k0_t4
theorem k0_off123_inb : ∀ (v3 : BitVec 32) (k0_hw1 : k0_chk1 v3) (k0_t3 : Fin (k0_t3_loop v3).trips) (k0_t4 : Fin k0_t4_loop.trips), ∀ a, (k0_off123 v3 k0_t3 k0_t4) a + S1x1x256x128.size a ≤ S8x2x256x1024.size a := fun v3 k0_hw1 k0_t3 k0_t4 => k0_hw1.2.1.2.2.2.2.2.2.2.2.2.2.2.2.2.2.2.2.2.2.2.2.2.2.2.2.1 k0_t3 k0_t4
theorem k0_off124_inb : ∀ (v3 : BitVec 32) (k0_hw1 : k0_chk1 v3) (k0_t3 : Fin (k0_t3_loop v3).trips) (k0_t4 : Fin k0_t4_loop.trips), ∀ a, (k0_off124 v3 k0_t3 k0_t4) a + S1x1x256x128.size a ≤ S8x2x256x1024.size a := fun v3 k0_hw1 k0_t3 k0_t4 => k0_hw1.2.1.2.2.2.2.2.2.2.2.2.2.2.2.2.2.2.2.2.2.2.2.2.2.2.2.2.1 k0_t3 k0_t4
theorem k0_off125_inb : ∀ (v3 : BitVec 32) (k0_hw1 : k0_chk1 v3) (k0_t3 : Fin (k0_t3_loop v3).trips) (k0_t4 : Fin k0_t4_loop.trips), ∀ a, (k0_off125 v3 k0_t3 k0_t4) a + S1x1x256x128.size a ≤ S8x2x256x1024.size a := fun v3 k0_hw1 k0_t3 k0_t4 => k0_hw1.2.1.2.2.2.2.2.2.2.2.2.2.2.2.2.2.2.2.2.2.2.2.2.2.2.2.2.2.1 k0_t3 k0_t4
theorem k0_off126_inb : ∀ (v3 : BitVec 32) (k0_hw1 : k0_chk1 v3) (k0_t3 : Fin (k0_t3_loop v3).trips) (k0_t4 : Fin k0_t4_loop.trips), ∀ a, (k0_off126 v3 k0_t3 k0_t4) a + S1x1x256x128.size a ≤ S8x2x256x1024.size a := fun v3 k0_hw1 k0_t3 k0_t4 => k0_hw1.2.1.2.2.2.2.2.2.2.2.2.2.2.2.2.2.2.2.2.2.2.2.2.2.2.2.2.2.2.1 k0_t3 k0_t4
theorem k0_off127_inb : ∀ (v3 : BitVec 32) (k0_hw1 : k0_chk1 v3) (k0_t3 : Fin (k0_t3_loop v3).trips) (k0_t4 : Fin k0_t4_loop.trips), ∀ a, (k0_off127 v3 k0_t3 k0_t4) a + S1x1x256x128.size a ≤ S8x2x256x1024.size a := fun v3 k0_hw1 k0_t3 k0_t4 => k0_hw1.2.1.2.2.2.2.2.2.2.2.2.2.2.2.2.2.2.2.2.2.2.2.2.2.2.2.2.2.2.2.1 k0_t3 k0_t4
theorem k0_off129_inb : ∀ (v3 : BitVec 32) (k0_hw1 : k0_chk1 v3) (k0_t3 : Fin (k0_t3_loop v3).trips), ∀ a, (k0_off129 v3 k0_t3) a + S1.size a ≤ S9.size a := fun v3 k0_hw1 k0_t3 => k0_hw1.2.1.2.2.2.2.2.2.2.2.2.2.2.2.2.2.2.2.2.2.2.2.2.2.2.2.2.2.2.2.2.1 k0_t3
theorem k0_off130_inb : ∀ (v3 : BitVec 32) (k0_hw1 : k0_chk1 v3) (k0_t3 : Fin (k0_t3_loop v3).trips) (k0_t5 : Fin k0_t5_loop.trips), ∀ a, (k0_off130 v3 k0_t3 k0_t5) a + S1.size a ≤ S9.size a := fun v3 k0_hw1 k0_t3 k0_t5 => k0_hw1.2.1.2.2.2.2.2.2.2.2.2.2.2.2.2.2.2.2.2.2.2.2.2.2.2.2.2.2.2.2.2.2.1 k0_t3 k0_t5
theorem k0_mult22_dvd : ∀ (v3 : BitVec 32) (k0_hw1 : k0_chk1 v3) (k0_t3 : Fin (k0_t3_loop v3).trips) (k0_t5 : Fin k0_t5_loop.trips), ∀ (k0_h21 : k0_cond21 v3 k0_t3 k0_t5 = 1#1), 256 ∣ (k0_mult22 v3 k0_t3 k0_t5).toNat := fun v3 k0_hw1 k0_t3 k0_t5 k0_h21 => k0_hw1.2.1.2.2.2.2.2.2.2.2.2.2.2.2.2.2.2.2.2.2.2.2.2.2.2.2.2.2.2.2.2.2.2 k0_t3 k0_t5 k0_h21
theorem k0_off131_inb : ∀ (v3 : BitVec 32) (k0_hw1 : k0_chk1 v3) (k0_t3 : Fin (k0_t3_loop v3).trips) (k0_t5 : Fin k0_t5_loop.trips), ∀ (k0_h21 : k0_cond21 v3 k0_t3 k0_t5 = 1#1), ∀ a, (k0_off131 v3 k0_t3 k0_t5) a + S1.size a ≤ S8.size a := fun v3 k0_hw1 k0_t3 k0_t5 k0_h21 => k0_hw1.2.2.1.1 k0_t3 k0_t5 k0_h21
theorem k0_off132_inb : ∀ (v3 : BitVec 32) (k0_hw1 : k0_chk1 v3) (k0_t3 : Fin (k0_t3_loop v3).trips) (k0_t5 : Fin k0_t5_loop.trips), ∀ (k0_h21 : k0_cond21 v3 k0_t3 k0_t5 = 1#1), ∀ a, (k0_off132 v3 k0_t3 k0_t5) a + S1x2x256x1024.size a ≤ S8x2x256x1024.size a := fun v3 k0_hw1 k0_t3 k0_t5 k0_h21 => k0_hw1.2.2.1.2.1 k0_t3 k0_t5 k0_h21
theorem k0_off132_wordsi8 : ∀ (v3 : BitVec 32) (k0_hw1 : k0_chk1 v3) (k0_t3 : Fin (k0_t3_loop v3).trips) (k0_t5 : Fin k0_t5_loop.trips), ∀ (k0_h21 : k0_cond21 v3 k0_t3 k0_t5 = 1#1), (Rect.unit (s := S8x2x256x1024) (k0_off132 v3 k0_t3 k0_t5) S1x2x256x1024.size (k0_off132_inb v3 k0_hw1 k0_t3 k0_t5 k0_h21)).WholeWords (EltTy.packing .i8) := fun v3 k0_hw1 k0_t3 k0_t5 k0_h21 => k0_hw1.2.2.1.2.2.1 k0_t3 k0_t5 k0_h21 (k0_off132_inb v3 k0_hw1 k0_t3 k0_t5 k0_h21)
theorem k0_mult23_dvd : ∀ (v3 : BitVec 32) (k0_hw1 : k0_chk1 v3) (k0_t3 : Fin (k0_t3_loop v3).trips) (k0_t5 : Fin k0_t5_loop.trips), ∀ (k0_h22 : k0_cond22 v3 k0_t3 k0_t5 = 1#1), 256 ∣ (k0_mult23 v3 k0_t3 k0_t5).toNat := fun v3 k0_hw1 k0_t3 k0_t5 k0_h22 => k0_hw1.2.2.1.2.2.2.1 k0_t3 k0_t5 k0_h22
theorem k0_off134_inb : ∀ (v3 : BitVec 32) (k0_hw1 : k0_chk1 v3) (k0_t3 : Fin (k0_t3_loop v3).trips) (k0_t5 : Fin k0_t5_loop.trips), ∀ (k0_h22 : k0_cond22 v3 k0_t3 k0_t5 = 1#1), ∀ a, (k0_off134 v3 k0_t3 k0_t5) a + S1.size a ≤ S8.size a := fun v3 k0_hw1 k0_t3 k0_t5 k0_h22 => k0_hw1.2.2.1.2.2.2.2.1 k0_t3 k0_t5 k0_h22
theorem k0_off135_inb : ∀ (v3 : BitVec 32) (k0_hw1 : k0_chk1 v3) (k0_t3 : Fin (k0_t3_loop v3).trips) (k0_t5 : Fin k0_t5_loop.trips), ∀ (k0_h22 : k0_cond22 v3 k0_t3 k0_t5 = 1#1), ∀ a, (k0_off135 v3 k0_t3 k0_t5) a + S1x1x256x1024.size a ≤ S8x2x256x1024.size a := fun v3 k0_hw1 k0_t3 k0_t5 k0_h22 => k0_hw1.2.2.1.2.2.2.2.2.1 k0_t3 k0_t5 k0_h22
theorem k0_off135_wordsi8 : ∀ (v3 : BitVec 32) (k0_hw1 : k0_chk1 v3) (k0_t3 : Fin (k0_t3_loop v3).trips) (k0_t5 : Fin k0_t5_loop.trips), ∀ (k0_h22 : k0_cond22 v3 k0_t3 k0_t5 = 1#1), (Rect.unit (s := S8x2x256x1024) (k0_off135 v3 k0_t3 k0_t5) S1x1x256x1024.size (k0_off135_inb v3 k0_hw1 k0_t3 k0_t5 k0_h22)).WholeWords (EltTy.packing .i8) := fun v3 k0_hw1 k0_t3 k0_t5 k0_h22 => k0_hw1.2.2.1.2.2.2.2.2.2.1 k0_t3 k0_t5 k0_h22 (k0_off135_inb v3 k0_hw1 k0_t3 k0_t5 k0_h22)
theorem k0_off137_inb : ∀ (v3 : BitVec 32) (k0_hw1 : k0_chk1 v3) (k0_t3 : Fin (k0_t3_loop v3).trips) (k0_t5 : Fin k0_t5_loop.trips), ∀ (k0_h22 : k0_cond22 v3 k0_t3 k0_t5 = 1#1), ∀ a, (k0_off137 v3 k0_t3 k0_t5) a + S1x1x256x1024.size a ≤ S8x2x256x1024.size a := fun v3 k0_hw1 k0_t3 k0_t5 k0_h22 => k0_hw1.2.2.1.2.2.2.2.2.2.2.1 k0_t3 k0_t5 k0_h22
theorem k0_off137_wordsi8 : ∀ (v3 : BitVec 32) (k0_hw1 : k0_chk1 v3) (k0_t3 : Fin (k0_t3_loop v3).trips) (k0_t5 : Fin k0_t5_loop.trips), ∀ (k0_h22 : k0_cond22 v3 k0_t3 k0_t5 = 1#1), (Rect.unit (s := S8x2x256x1024) (k0_off137 v3 k0_t3 k0_t5) S1x1x256x1024.size (k0_off137_inb v3 k0_hw1 k0_t3 k0_t5 k0_h22)).WholeWords (EltTy.packing .i8) := fun v3 k0_hw1 k0_t3 k0_t5 k0_h22 => k0_hw1.2.2.1.2.2.2.2.2.2.2.2.1 k0_t3 k0_t5 k0_h22 (k0_off137_inb v3 k0_hw1 k0_t3 k0_t5 k0_h22)
theorem k0_off139_inb : ∀ (v3 : BitVec 32) (k0_hw1 : k0_chk1 v3) (k0_t3 : Fin (k0_t3_loop v3).trips) (k0_t5 : Fin k0_t5_loop.trips), ∀ (k0_h23 : k0_cond23 v3 k0_t3 k0_t5 = 1#1), ∀ a, (k0_off139 v3 k0_t3 k0_t5) a + S1.size a ≤ S9.size a := fun v3 k0_hw1 k0_t3 k0_t5 k0_h23 => k0_hw1.2.2.1.2.2.2.2.2.2.2.2.2.1 k0_t3 k0_t5 k0_h23
theorem k0_mult24_dvd : ∀ (v3 : BitVec 32) (k0_hw1 : k0_chk1 v3) (k0_t3 : Fin (k0_t3_loop v3).trips) (k0_t5 : Fin k0_t5_loop.trips), ∀ (k0_h23 : k0_cond23 v3 k0_t3 k0_t5 = 1#1), ∀ (k0_h24 : k0_cond24 v3 k0_t3 k0_t5 = 1#1), 256 ∣ (k0_mult24 v3 k0_t3 k0_t5).toNat := fun v3 k0_hw1 k0_t3 k0_t5 k0_h23 k0_h24 => k0_hw1.2.2.1.2.2.2.2.2.2.2.2.2.2.1 k0_t3 k0_t5 k0_h23 k0_h24
theorem k0_off140_inb : ∀ (v3 : BitVec 32) (k0_hw1 : k0_chk1 v3) (k0_t3 : Fin (k0_t3_loop v3).trips) (k0_t5 : Fin k0_t5_loop.trips), ∀ (k0_h23 : k0_cond23 v3 k0_t3 k0_t5 = 1#1), ∀ (k0_h24 : k0_cond24 v3 k0_t3 k0_t5 = 1#1), ∀ a, (k0_off140 v3 k0_t3 k0_t5) a + S1.size a ≤ S8.size a := fun v3 k0_hw1 k0_t3 k0_t5 k0_h23 k0_h24 => k0_hw1.2.2.1.2.2.2.2.2.2.2.2.2.2.2.1 k0_t3 k0_t5 k0_h23 k0_h24
theorem k0_off141_inb : ∀ (v3 : BitVec 32) (k0_hw1 : k0_chk1 v3) (k0_t3 : Fin (k0_t3_loop v3).trips) (k0_t5 : Fin k0_t5_loop.trips), ∀ (k0_h23 : k0_cond23 v3 k0_t3 k0_t5 = 1#1), ∀ (k0_h24 : k0_cond24 v3 k0_t3 k0_t5 = 1#1), ∀ a, (k0_off141 v3 k0_t3 k0_t5) a + S1x2x256x1024.size a ≤ S8x2x256x1024.size a := fun v3 k0_hw1 k0_t3 k0_t5 k0_h23 k0_h24 => k0_hw1.2.2.1.2.2.2.2.2.2.2.2.2.2.2.2.1 k0_t3 k0_t5 k0_h23 k0_h24
theorem k0_off141_wordsi8 : ∀ (v3 : BitVec 32) (k0_hw1 : k0_chk1 v3) (k0_t3 : Fin (k0_t3_loop v3).trips) (k0_t5 : Fin k0_t5_loop.trips), ∀ (k0_h23 : k0_cond23 v3 k0_t3 k0_t5 = 1#1), ∀ (k0_h24 : k0_cond24 v3 k0_t3 k0_t5 = 1#1), (Rect.unit (s := S8x2x256x1024) (k0_off141 v3 k0_t3 k0_t5) S1x2x256x1024.size (k0_off141_inb v3 k0_hw1 k0_t3 k0_t5 k0_h23 k0_h24)).WholeWords (EltTy.packing .i8) := fun v3 k0_hw1 k0_t3 k0_t5 k0_h23 k0_h24 => k0_hw1.2.2.1.2.2.2.2.2.2.2.2.2.2.2.2.2.1 k0_t3 k0_t5 k0_h23 k0_h24 (k0_off141_inb v3 k0_hw1 k0_t3 k0_t5 k0_h23 k0_h24)
theorem k0_mult25_dvd : ∀ (v3 : BitVec 32) (k0_hw1 : k0_chk1 v3) (k0_t3 : Fin (k0_t3_loop v3).trips) (k0_t5 : Fin k0_t5_loop.trips), ∀ (k0_h23 : k0_cond23 v3 k0_t3 k0_t5 = 1#1), ∀ (k0_h25 : k0_cond25 v3 k0_t3 k0_t5 = 1#1), 256 ∣ (k0_mult25 v3 k0_t3 k0_t5).toNat := fun v3 k0_hw1 k0_t3 k0_t5 k0_h23 k0_h25 => k0_hw1.2.2.1.2.2.2.2.2.2.2.2.2.2.2.2.2.2.1 k0_t3 k0_t5 k0_h23 k0_h25
theorem k0_off143_inb : ∀ (v3 : BitVec 32) (k0_hw1 : k0_chk1 v3) (k0_t3 : Fin (k0_t3_loop v3).trips) (k0_t5 : Fin k0_t5_loop.trips), ∀ (k0_h23 : k0_cond23 v3 k0_t3 k0_t5 = 1#1), ∀ (k0_h25 : k0_cond25 v3 k0_t3 k0_t5 = 1#1), ∀ a, (k0_off143 v3 k0_t3 k0_t5) a + S1.size a ≤ S8.size a := fun v3 k0_hw1 k0_t3 k0_t5 k0_h23 k0_h25 => k0_hw1.2.2.1.2.2.2.2.2.2.2.2.2.2.2.2.2.2.2.1 k0_t3 k0_t5 k0_h23 k0_h25
theorem k0_off144_inb : ∀ (v3 : BitVec 32) (k0_hw1 : k0_chk1 v3) (k0_t3 : Fin (k0_t3_loop v3).trips) (k0_t5 : Fin k0_t5_loop.trips), ∀ (k0_h23 : k0_cond23 v3 k0_t3 k0_t5 = 1#1), ∀ (k0_h25 : k0_cond25 v3 k0_t3 k0_t5 = 1#1), ∀ a, (k0_off144 v3 k0_t3 k0_t5) a + S1x1x256x1024.size a ≤ S8x2x256x1024.size a := fun v3 k0_hw1 k0_t3 k0_t5 k0_h23 k0_h25 => k0_hw1.2.2.1.2.2.2.2.2.2.2.2.2.2.2.2.2.2.2.2.1 k0_t3 k0_t5 k0_h23 k0_h25
theorem k0_off144_wordsi8 : ∀ (v3 : BitVec 32) (k0_hw1 : k0_chk1 v3) (k0_t3 : Fin (k0_t3_loop v3).trips) (k0_t5 : Fin k0_t5_loop.trips), ∀ (k0_h23 : k0_cond23 v3 k0_t3 k0_t5 = 1#1), ∀ (k0_h25 : k0_cond25 v3 k0_t3 k0_t5 = 1#1), (Rect.unit (s := S8x2x256x1024) (k0_off144 v3 k0_t3 k0_t5) S1x1x256x1024.size (k0_off144_inb v3 k0_hw1 k0_t3 k0_t5 k0_h23 k0_h25)).WholeWords (EltTy.packing .i8) := fun v3 k0_hw1 k0_t3 k0_t5 k0_h23 k0_h25 => k0_hw1.2.2.1.2.2.2.2.2.2.2.2.2.2.2.2.2.2.2.2.2.1 k0_t3 k0_t5 k0_h23 k0_h25 (k0_off144_inb v3 k0_hw1 k0_t3 k0_t5 k0_h23 k0_h25)
theorem k0_off146_inb : ∀ (v3 : BitVec 32) (k0_hw1 : k0_chk1 v3) (k0_t3 : Fin (k0_t3_loop v3).trips) (k0_t5 : Fin k0_t5_loop.trips), ∀ (k0_h23 : k0_cond23 v3 k0_t3 k0_t5 = 1#1), ∀ (k0_h25 : k0_cond25 v3 k0_t3 k0_t5 = 1#1), ∀ a, (k0_off146 v3 k0_t3 k0_t5) a + S1x1x256x1024.size a ≤ S8x2x256x1024.size a := fun v3 k0_hw1 k0_t3 k0_t5 k0_h23 k0_h25 => k0_hw1.2.2.1.2.2.2.2.2.2.2.2.2.2.2.2.2.2.2.2.2.2.1 k0_t3 k0_t5 k0_h23 k0_h25
theorem k0_off146_wordsi8 : ∀ (v3 : BitVec 32) (k0_hw1 : k0_chk1 v3) (k0_t3 : Fin (k0_t3_loop v3).trips) (k0_t5 : Fin k0_t5_loop.trips), ∀ (k0_h23 : k0_cond23 v3 k0_t3 k0_t5 = 1#1), ∀ (k0_h25 : k0_cond25 v3 k0_t3 k0_t5 = 1#1), (Rect.unit (s := S8x2x256x1024) (k0_off146 v3 k0_t3 k0_t5) S1x1x256x1024.size (k0_off146_inb v3 k0_hw1 k0_t3 k0_t5 k0_h23 k0_h25)).WholeWords (EltTy.packing .i8) := fun v3 k0_hw1 k0_t3 k0_t5 k0_h23 k0_h25 => k0_hw1.2.2.1.2.2.2.2.2.2.2.2.2.2.2.2.2.2.2.2.2.2.2.1 k0_t3 k0_t5 k0_h23 k0_h25 (k0_off146_inb v3 k0_hw1 k0_t3 k0_t5 k0_h23 k0_h25)
theorem k0_off148_inb : ∀ (v3 : BitVec 32) (k0_hw1 : k0_chk1 v3) (k0_t3 : Fin (k0_t3_loop v3).trips) (k0_t5 : Fin k0_t5_loop.trips), ∀ a, (k0_off148 v3 k0_t3 k0_t5) a + S1x16x256.size a ≤ S2x32x2048.size a := fun v3 k0_hw1 k0_t3 k0_t5 => k0_hw1.2.2.1.2.2.2.2.2.2.2.2.2.2.2.2.2.2.2.2.2.2.2.2.1 k0_t3 k0_t5
theorem k0_off149_inb : ∀ (v3 : BitVec 32) (k0_hw1 : k0_chk1 v3) (k0_t3 : Fin (k0_t3_loop v3).trips) (k0_t5 : Fin k0_t5_loop.trips), ∀ a, (k0_off149 v3 k0_t3 k0_t5) a + S1x16x256.size a ≤ S2x32x2048.size a := fun v3 k0_hw1 k0_t3 k0_t5 => k0_hw1.2.2.1.2.2.2.2.2.2.2.2.2.2.2.2.2.2.2.2.2.2.2.2.2.1 k0_t3 k0_t5
theorem k0_off150_inb : ∀ (v3 : BitVec 32) (k0_hw1 : k0_chk1 v3) (k0_t3 : Fin (k0_t3_loop v3).trips) (k0_t5 : Fin k0_t5_loop.trips), ∀ a, (k0_off150 v3 k0_t3 k0_t5) a + S1x1x256x128.size a ≤ S8x2x256x1024.size a := fun v3 k0_hw1 k0_t3 k0_t5 => k0_hw1.2.2.1.2.2.2.2.2.2.2.2.2.2.2.2.2.2.2.2.2.2.2.2.2.2.1 k0_t3 k0_t5
theorem k0_off151_inb : ∀ (v3 : BitVec 32) (k0_hw1 : k0_chk1 v3) (k0_t3 : Fin (k0_t3_loop v3).trips) (k0_t5 : Fin k0_t5_loop.trips), ∀ a, (k0_off151 v3 k0_t3 k0_t5) a + S1x1x256x128.size a ≤ S8x2x256x1024.size a := fun v3 k0_hw1 k0_t3 k0_t5 => k0_hw1.2.2.1.2.2.2.2.2.2.2.2.2.2.2.2.2.2.2.2.2.2.2.2.2.2.2.1 k0_t3 k0_t5
theorem k0_off152_inb : ∀ (v3 : BitVec 32) (k0_hw1 : k0_chk1 v3) (k0_t3 : Fin (k0_t3_loop v3).trips) (k0_t5 : Fin k0_t5_loop.trips), ∀ a, (k0_off152 v3 k0_t3 k0_t5) a + S1x1x256x128.size a ≤ S8x2x256x1024.size a := fun v3 k0_hw1 k0_t3 k0_t5 => k0_hw1.2.2.1.2.2.2.2.2.2.2.2.2.2.2.2.2.2.2.2.2.2.2.2.2.2.2.2.1 k0_t3 k0_t5
theorem k0_off153_inb : ∀ (v3 : BitVec 32) (k0_hw1 : k0_chk1 v3) (k0_t3 : Fin (k0_t3_loop v3).trips) (k0_t5 : Fin k0_t5_loop.trips), ∀ a, (k0_off153 v3 k0_t3 k0_t5) a + S1x1x256x128.size a ≤ S8x2x256x1024.size a := fun v3 k0_hw1 k0_t3 k0_t5 => k0_hw1.2.2.1.2.2.2.2.2.2.2.2.2.2.2.2.2.2.2.2.2.2.2.2.2.2.2.2.2.1 k0_t3 k0_t5
theorem k0_off154_inb : ∀ (v3 : BitVec 32) (k0_hw1 : k0_chk1 v3) (k0_t3 : Fin (k0_t3_loop v3).trips) (k0_t5 : Fin k0_t5_loop.trips), ∀ a, (k0_off154 v3 k0_t3 k0_t5) a + S1x1x256x128.size a ≤ S8x2x256x1024.size a := fun v3 k0_hw1 k0_t3 k0_t5 => k0_hw1.2.2.1.2.2.2.2.2.2.2.2.2.2.2.2.2.2.2.2.2.2.2.2.2.2.2.2.2.2.1 k0_t3 k0_t5
theorem k0_off155_inb : ∀ (v3 : BitVec 32) (k0_hw1 : k0_chk1 v3) (k0_t3 : Fin (k0_t3_loop v3).trips) (k0_t5 : Fin k0_t5_loop.trips), ∀ a, (k0_off155 v3 k0_t3 k0_t5) a + S1x1x256x128.size a ≤ S8x2x256x1024.size a := fun v3 k0_hw1 k0_t3 k0_t5 => k0_hw1.2.2.1.2.2.2.2.2.2.2.2.2.2.2.2.2.2.2.2.2.2.2.2.2.2.2.2.2.2.2.1 k0_t3 k0_t5
theorem k0_off156_inb : ∀ (v3 : BitVec 32) (k0_hw1 : k0_chk1 v3) (k0_t3 : Fin (k0_t3_loop v3).trips) (k0_t5 : Fin k0_t5_loop.trips), ∀ a, (k0_off156 v3 k0_t3 k0_t5) a + S1x1x256x128.size a ≤ S8x2x256x1024.size a := fun v3 k0_hw1 k0_t3 k0_t5 => k0_hw1.2.2.1.2.2.2.2.2.2.2.2.2.2.2.2.2.2.2.2.2.2.2.2.2.2.2.2.2.2.2.2.1 k0_t3 k0_t5
theorem k0_off157_inb : ∀ (v3 : BitVec 32) (k0_hw1 : k0_chk1 v3) (k0_t3 : Fin (k0_t3_loop v3).trips) (k0_t5 : Fin k0_t5_loop.trips), ∀ a, (k0_off157 v3 k0_t3 k0_t5) a + S1x1x256x128.size a ≤ S8x2x256x1024.size a := fun v3 k0_hw1 k0_t3 k0_t5 => k0_hw1.2.2.1.2.2.2.2.2.2.2.2.2.2.2.2.2.2.2.2.2.2.2.2.2.2.2.2.2.2.2.2.2.1 k0_t3 k0_t5
theorem k0_off158_inb : ∀ (v3 : BitVec 32) (k0_hw1 : k0_chk1 v3) (k0_t3 : Fin (k0_t3_loop v3).trips) (k0_t5 : Fin k0_t5_loop.trips), ∀ a, (k0_off158 v3 k0_t3 k0_t5) a + S1x1x256x128.size a ≤ S8x2x256x1024.size a := fun v3 k0_hw1 k0_t3 k0_t5 => k0_hw1.2.2.1.2.2.2.2.2.2.2.2.2.2.2.2.2.2.2.2.2.2.2.2.2.2.2.2.2.2.2.2.2.2.1 k0_t3 k0_t5
theorem k0_off159_inb : ∀ (v3 : BitVec 32) (k0_hw1 : k0_chk1 v3) (k0_t3 : Fin (k0_t3_loop v3).trips) (k0_t5 : Fin k0_t5_loop.trips), ∀ a, (k0_off159 v3 k0_t3 k0_t5) a + S1x1x256x128.size a ≤ S8x2x256x1024.size a := fun v3 k0_hw1 k0_t3 k0_t5 => k0_hw1.2.2.1.2.2.2.2.2.2.2.2.2.2.2.2.2.2.2.2.2.2.2.2.2.2.2.2.2.2.2.2.2.2.2 k0_t3 k0_t5
theorem k0_off160_inb : ∀ (v3 : BitVec 32) (k0_hw1 : k0_chk1 v3) (k0_t3 : Fin (k0_t3_loop v3).trips) (k0_t5 : Fin k0_t5_loop.trips), ∀ a, (k0_off160 v3 k0_t3 k0_t5) a + S1x1x256x128.size a ≤ S8x2x256x1024.size a := fun v3 k0_hw1 k0_t3 k0_t5 => k0_hw1.2.2.2.1.1 k0_t3 k0_t5
theorem k0_off161_inb : ∀ (v3 : BitVec 32) (k0_hw1 : k0_chk1 v3) (k0_t3 : Fin (k0_t3_loop v3).trips) (k0_t5 : Fin k0_t5_loop.trips), ∀ a, (k0_off161 v3 k0_t3 k0_t5) a + S1x1x256x128.size a ≤ S8x2x256x1024.size a := fun v3 k0_hw1 k0_t3 k0_t5 => k0_hw1.2.2.2.1.2.1 k0_t3 k0_t5
theorem k0_off162_inb : ∀ (v3 : BitVec 32) (k0_hw1 : k0_chk1 v3) (k0_t3 : Fin (k0_t3_loop v3).trips) (k0_t5 : Fin k0_t5_loop.trips), ∀ a, (k0_off162 v3 k0_t3 k0_t5) a + S1x1x256x128.size a ≤ S8x2x256x1024.size a := fun v3 k0_hw1 k0_t3 k0_t5 => k0_hw1.2.2.2.1.2.2.1 k0_t3 k0_t5
theorem k0_off163_inb : ∀ (v3 : BitVec 32) (k0_hw1 : k0_chk1 v3) (k0_t3 : Fin (k0_t3_loop v3).trips) (k0_t5 : Fin k0_t5_loop.trips), ∀ a, (k0_off163 v3 k0_t3 k0_t5) a + S1x1x256x128.size a ≤ S8x2x256x1024.size a := fun v3 k0_hw1 k0_t3 k0_t5 => k0_hw1.2.2.2.1.2.2.2.1 k0_t3 k0_t5
theorem k0_off164_inb : ∀ (v3 : BitVec 32) (k0_hw1 : k0_chk1 v3) (k0_t3 : Fin (k0_t3_loop v3).trips) (k0_t5 : Fin k0_t5_loop.trips), ∀ a, (k0_off164 v3 k0_t3 k0_t5) a + S1x1x256x128.size a ≤ S8x2x256x1024.size a := fun v3 k0_hw1 k0_t3 k0_t5 => k0_hw1.2.2.2.1.2.2.2.2.1 k0_t3 k0_t5
theorem k0_off165_inb : ∀ (v3 : BitVec 32) (k0_hw1 : k0_chk1 v3) (k0_t3 : Fin (k0_t3_loop v3).trips) (k0_t5 : Fin k0_t5_loop.trips), ∀ a, (k0_off165 v3 k0_t3 k0_t5) a + S1x1x256x128.size a ≤ S8x2x256x1024.size a := fun v3 k0_hw1 k0_t3 k0_t5 => k0_hw1.2.2.2.1.2.2.2.2.2.1 k0_t3 k0_t5
theorem k0_t6_ok : ∀ (v3 : BitVec 32) (k0_hw1 : k0_chk1 v3), (k0_t6_loop v3).OK := fun v3 k0_hw1 => k0_hw1.2.2.2.1.2.2.2.2.2.2.1
theorem k0_off167_inb : ∀ (v3 : BitVec 32) (k0_hw1 : k0_chk1 v3) (k0_t6 : Fin (k0_t6_loop v3).trips), ∀ a, (k0_off167 v3 k0_t6) a + S1.size a ≤ S9.size a := fun v3 k0_hw1 k0_t6 => k0_hw1.2.2.2.1.2.2.2.2.2.2.2.1 k0_t6
theorem k0_off168_inb : ∀ (v3 : BitVec 32) (k0_hw1 : k0_chk1 v3) (k0_t6 : Fin (k0_t6_loop v3).trips), ∀ a, (k0_off168 v3 k0_t6) a + S1.size a ≤ S2.size a := fun v3 k0_hw1 k0_t6 => k0_hw1.2.2.2.1.2.2.2.2.2.2.2.2.1 k0_t6
theorem k0_off169_inb : ∀ (v3 : BitVec 32) (k0_hw1 : k0_chk1 v3) (k0_t6 : Fin (k0_t6_loop v3).trips), ∀ a, (k0_off169 v3 k0_t6) a + S1x16x8192.size a ≤ S2x16x8192.size a := fun v3 k0_hw1 k0_t6 => k0_hw1.2.2.2.1.2.2.2.2.2.2.2.2.2.1 k0_t6
theorem k0_off169_wordsbf16 : ∀ (v3 : BitVec 32) (k0_hw1 : k0_chk1 v3) (k0_t6 : Fin (k0_t6_loop v3).trips), (Rect.unit (s := S2x16x8192) (k0_off169 v3 k0_t6) S1x16x8192.size (k0_off169_inb v3 k0_hw1 k0_t6)).WholeWords (EltTy.packing .bf16) := fun v3 k0_hw1 k0_t6 => k0_hw1.2.2.2.1.2.2.2.2.2.2.2.2.2.2.1 k0_t6 (k0_off169_inb v3 k0_hw1 k0_t6)
theorem k0_off171_inb : ∀ (v3 : BitVec 32) (k0_hw1 : k0_chk1 v3) (k0_t6 : Fin (k0_t6_loop v3).trips), ∀ a, (k0_off171 v3 k0_t6) a + S1.size a ≤ S2.size a := fun v3 k0_hw1 k0_t6 => k0_hw1.2.2.2.1.2.2.2.2.2.2.2.2.2.2.2.1 k0_t6
theorem k0_off172_inb : ∀ (v3 : BitVec 32) (k0_hw1 : k0_chk1 v3) (k0_t6 : Fin (k0_t6_loop v3).trips), ∀ a, (k0_off172 v3 k0_t6) a + S1x32x2048.size a ≤ S2x32x2048.size a := fun v3 k0_hw1 k0_t6 => k0_hw1.2.2.2.1.2.2.2.2.2.2.2.2.2.2.2.2.1 k0_t6
theorem k0_off172_wordsbf16 : ∀ (v3 : BitVec 32) (k0_hw1 : k0_chk1 v3) (k0_t6 : Fin (k0_t6_loop v3).trips), (Rect.unit (s := S2x32x2048) (k0_off172 v3 k0_t6) S1x32x2048.size (k0_off172_inb v3 k0_hw1 k0_t6)).WholeWords (EltTy.packing .bf16) := fun v3 k0_hw1 k0_t6 => k0_hw1.2.2.2.1.2.2.2.2.2.2.2.2.2.2.2.2.2.1 k0_t6 (k0_off172_inb v3 k0_hw1 k0_t6)
theorem k0_off174_inb : ∀ (v3 : BitVec 32) (k0_hw1 : k0_chk1 v3) (k0_t6 : Fin (k0_t6_loop v3).trips), ∀ (k0_h26 : k0_cond26 v3 k0_t6 = 1#1), ∀ a, (k0_off174 v3 k0_t6) a + S1.size a ≤ S9.size a := fun v3 k0_hw1 k0_t6 k0_h26 => k0_hw1.2.2.2.1.2.2.2.2.2.2.2.2.2.2.2.2.2.2.1 k0_t6 k0_h26
theorem k0_off175_inb : ∀ (v3 : BitVec 32) (k0_hw1 : k0_chk1 v3) (k0_t6 : Fin (k0_t6_loop v3).trips), ∀ (k0_h26 : k0_cond26 v3 k0_t6 = 1#1), ∀ a, (k0_off175 v3 k0_t6) a + S1.size a ≤ S2.size a := fun v3 k0_hw1 k0_t6 k0_h26 => k0_hw1.2.2.2.1.2.2.2.2.2.2.2.2.2.2.2.2.2.2.2.1 k0_t6 k0_h26
theorem k0_off176_inb : ∀ (v3 : BitVec 32) (k0_hw1 : k0_chk1 v3) (k0_t6 : Fin (k0_t6_loop v3).trips), ∀ (k0_h26 : k0_cond26 v3 k0_t6 = 1#1), ∀ a, (k0_off176 v3 k0_t6) a + S1x16x8192.size a ≤ S2x16x8192.size a := fun v3 k0_hw1 k0_t6 k0_h26 => k0_hw1.2.2.2.1.2.2.2.2.2.2.2.2.2.2.2.2.2.2.2.2.1 k0_t6 k0_h26
theorem k0_off176_wordsbf16 : ∀ (v3 : BitVec 32) (k0_hw1 : k0_chk1 v3) (k0_t6 : Fin (k0_t6_loop v3).trips), ∀ (k0_h26 : k0_cond26 v3 k0_t6 = 1#1), (Rect.unit (s := S2x16x8192) (k0_off176 v3 k0_t6) S1x16x8192.size (k0_off176_inb v3 k0_hw1 k0_t6 k0_h26)).WholeWords (EltTy.packing .bf16) := fun v3 k0_hw1 k0_t6 k0_h26 => k0_hw1.2.2.2.1.2.2.2.2.2.2.2.2.2.2.2.2.2.2.2.2.2.1 k0_t6 k0_h26 (k0_off176_inb v3 k0_hw1 k0_t6 k0_h26)
theorem k0_off178_inb : ∀ (v3 : BitVec 32) (k0_hw1 : k0_chk1 v3) (k0_t6 : Fin (k0_t6_loop v3).trips), ∀ (k0_h26 : k0_cond26 v3 k0_t6 = 1#1), ∀ a, (k0_off178 v3 k0_t6) a + S1.size a ≤ S2.size a := fun v3 k0_hw1 k0_t6 k0_h26 => k0_hw1.2.2.2.1.2.2.2.2.2.2.2.2.2.2.2.2.2.2.2.2.2.2.1 k0_t6 k0_h26
theorem k0_off179_inb : ∀ (v3 : BitVec 32) (k0_hw1 : k0_chk1 v3) (k0_t6 : Fin (k0_t6_loop v3).trips), ∀ (k0_h26 : k0_cond26 v3 k0_t6 = 1#1), ∀ a, (k0_off179 v3 k0_t6) a + S1x32x2048.size a ≤ S2x32x2048.size a := fun v3 k0_hw1 k0_t6 k0_h26 => k0_hw1.2.2.2.1.2.2.2.2.2.2.2.2.2.2.2.2.2.2.2.2.2.2.2.1 k0_t6 k0_h26
theorem k0_off179_wordsbf16 : ∀ (v3 : BitVec 32) (k0_hw1 : k0_chk1 v3) (k0_t6 : Fin (k0_t6_loop v3).trips), ∀ (k0_h26 : k0_cond26 v3 k0_t6 = 1#1), (Rect.unit (s := S2x32x2048) (k0_off179 v3 k0_t6) S1x32x2048.size (k0_off179_inb v3 k0_hw1 k0_t6 k0_h26)).WholeWords (EltTy.packing .bf16) := fun v3 k0_hw1 k0_t6 k0_h26 => k0_hw1.2.2.2.1.2.2.2.2.2.2.2.2.2.2.2.2.2.2.2.2.2.2.2.2.1 k0_t6 k0_h26 (k0_off179_inb v3 k0_hw1 k0_t6 k0_h26)
theorem k0_off181_inb : ∀ (v3 : BitVec 32) (k0_hw1 : k0_chk1 v3) (k0_t6 : Fin (k0_t6_loop v3).trips) (k0_t7 : Fin k0_t7_loop.trips), ∀ a, (k0_off181 v3 k0_t6 k0_t7) a + S1.size a ≤ S9.size a := fun v3 k0_hw1 k0_t6 k0_t7 => k0_hw1.2.2.2.1.2.2.2.2.2.2.2.2.2.2.2.2.2.2.2.2.2.2.2.2.2.1 k0_t6 k0_t7
theorem k0_mult27_dvd : ∀ (v3 : BitVec 32) (k0_hw1 : k0_chk1 v3) (k0_t6 : Fin (k0_t6_loop v3).trips) (k0_t7 : Fin k0_t7_loop.trips), ∀ (k0_h27 : k0_cond27 v3 k0_t6 k0_t7 = 1#1), 256 ∣ (k0_mult27 v3 k0_t6 k0_t7).toNat := fun v3 k0_hw1 k0_t6 k0_t7 k0_h27 => k0_hw1.2.2.2.1.2.2.2.2.2.2.2.2.2.2.2.2.2.2.2.2.2.2.2.2.2.2.1 k0_t6 k0_t7 k0_h27
theorem k0_off182_inb : ∀ (v3 : BitVec 32) (k0_hw1 : k0_chk1 v3) (k0_t6 : Fin (k0_t6_loop v3).trips) (k0_t7 : Fin k0_t7_loop.trips), ∀ (k0_h27 : k0_cond27 v3 k0_t6 k0_t7 = 1#1), ∀ a, (k0_off182 v3 k0_t6 k0_t7) a + S1.size a ≤ S8.size a := fun v3 k0_hw1 k0_t6 k0_t7 k0_h27 => k0_hw1.2.2.2.1.2.2.2.2.2.2.2.2.2.2.2.2.2.2.2.2.2.2.2.2.2.2.2.1 k0_t6 k0_t7 k0_h27
theorem k0_off183_inb : ∀ (v3 : BitVec 32) (k0_hw1 : k0_chk1 v3) (k0_t6 : Fin (k0_t6_loop v3).trips) (k0_t7 : Fin k0_t7_loop.trips), ∀ (k0_h27 : k0_cond27 v3 k0_t6 k0_t7 = 1#1), ∀ a, (k0_off183 v3 k0_t6 k0_t7) a + S1x2x256x1024.size a ≤ S8x2x256x1024.size a := fun v3 k0_hw1 k0_t6 k0_t7 k0_h27 => k0_hw1.2.2.2.1.2.2.2.2.2.2.2.2.2.2.2.2.2.2.2.2.2.2.2.2.2.2.2.2.1 k0_t6 k0_t7 k0_h27
theorem k0_off183_wordsi8 : ∀ (v3 : BitVec 32) (k0_hw1 : k0_chk1 v3) (k0_t6 : Fin (k0_t6_loop v3).trips) (k0_t7 : Fin k0_t7_loop.trips), ∀ (k0_h27 : k0_cond27 v3 k0_t6 k0_t7 = 1#1), (Rect.unit (s := S8x2x256x1024) (k0_off183 v3 k0_t6 k0_t7) S1x2x256x1024.size (k0_off183_inb v3 k0_hw1 k0_t6 k0_t7 k0_h27)).WholeWords (EltTy.packing .i8) := fun v3 k0_hw1 k0_t6 k0_t7 k0_h27 => k0_hw1.2.2.2.1.2.2.2.2.2.2.2.2.2.2.2.2.2.2.2.2.2.2.2.2.2.2.2.2.2.1 k0_t6 k0_t7 k0_h27 (k0_off183_inb v3 k0_hw1 k0_t6 k0_t7 k0_h27)
theorem k0_mult28_dvd : ∀ (v3 : BitVec 32) (k0_hw1 : k0_chk1 v3) (k0_t6 : Fin (k0_t6_loop v3).trips) (k0_t7 : Fin k0_t7_loop.trips), ∀ (k0_h28 : k0_cond28 v3 k0_t6 k0_t7 = 1#1), 256 ∣ (k0_mult28 v3 k0_t6 k0_t7).toNat := fun v3 k0_hw1 k0_t6 k0_t7 k0_h28 => k0_hw1.2.2.2.1.2.2.2.2.2.2.2.2.2.2.2.2.2.2.2.2.2.2.2.2.2.2.2.2.2.2.1 k0_t6 k0_t7 k0_h28
theorem k0_off185_inb : ∀ (v3 : BitVec 32) (k0_hw1 : k0_chk1 v3) (k0_t6 : Fin (k0_t6_loop v3).trips) (k0_t7 : Fin k0_t7_loop.trips), ∀ (k0_h28 : k0_cond28 v3 k0_t6 k0_t7 = 1#1), ∀ a, (k0_off185 v3 k0_t6 k0_t7) a + S1.size a ≤ S8.size a := fun v3 k0_hw1 k0_t6 k0_t7 k0_h28 => k0_hw1.2.2.2.1.2.2.2.2.2.2.2.2.2.2.2.2.2.2.2.2.2.2.2.2.2.2.2.2.2.2.2.1 k0_t6 k0_t7 k0_h28
theorem k0_off186_inb : ∀ (v3 : BitVec 32) (k0_hw1 : k0_chk1 v3) (k0_t6 : Fin (k0_t6_loop v3).trips) (k0_t7 : Fin k0_t7_loop.trips), ∀ (k0_h28 : k0_cond28 v3 k0_t6 k0_t7 = 1#1), ∀ a, (k0_off186 v3 k0_t6 k0_t7) a + S1x1x256x1024.size a ≤ S8x2x256x1024.size a := fun v3 k0_hw1 k0_t6 k0_t7 k0_h28 => k0_hw1.2.2.2.1.2.2.2.2.2.2.2.2.2.2.2.2.2.2.2.2.2.2.2.2.2.2.2.2.2.2.2.2.1 k0_t6 k0_t7 k0_h28
theorem k0_off186_wordsi8 : ∀ (v3 : BitVec 32) (k0_hw1 : k0_chk1 v3) (k0_t6 : Fin (k0_t6_loop v3).trips) (k0_t7 : Fin k0_t7_loop.trips), ∀ (k0_h28 : k0_cond28 v3 k0_t6 k0_t7 = 1#1), (Rect.unit (s := S8x2x256x1024) (k0_off186 v3 k0_t6 k0_t7) S1x1x256x1024.size (k0_off186_inb v3 k0_hw1 k0_t6 k0_t7 k0_h28)).WholeWords (EltTy.packing .i8) := fun v3 k0_hw1 k0_t6 k0_t7 k0_h28 => k0_hw1.2.2.2.1.2.2.2.2.2.2.2.2.2.2.2.2.2.2.2.2.2.2.2.2.2.2.2.2.2.2.2.2.2.1 k0_t6 k0_t7 k0_h28 (k0_off186_inb v3 k0_hw1 k0_t6 k0_t7 k0_h28)
theorem k0_off188_inb : ∀ (v3 : BitVec 32) (k0_hw1 : k0_chk1 v3) (k0_t6 : Fin (k0_t6_loop v3).trips) (k0_t7 : Fin k0_t7_loop.trips), ∀ (k0_h28 : k0_cond28 v3 k0_t6 k0_t7 = 1#1), ∀ a, (k0_off188 v3 k0_t6 k0_t7) a + S1x1x256x1024.size a ≤ S8x2x256x1024.size a := fun v3 k0_hw1 k0_t6 k0_t7 k0_h28 => k0_hw1.2.2.2.1.2.2.2.2.2.2.2.2.2.2.2.2.2.2.2.2.2.2.2.2.2.2.2.2.2.2.2.2.2.2.1 k0_t6 k0_t7 k0_h28
theorem k0_off188_wordsi8 : ∀ (v3 : BitVec 32) (k0_hw1 : k0_chk1 v3) (k0_t6 : Fin (k0_t6_loop v3).trips) (k0_t7 : Fin k0_t7_loop.trips), ∀ (k0_h28 : k0_cond28 v3 k0_t6 k0_t7 = 1#1), (Rect.unit (s := S8x2x256x1024) (k0_off188 v3 k0_t6 k0_t7) S1x1x256x1024.size (k0_off188_inb v3 k0_hw1 k0_t6 k0_t7 k0_h28)).WholeWords (EltTy.packing .i8) := fun v3 k0_hw1 k0_t6 k0_t7 k0_h28 => k0_hw1.2.2.2.1.2.2.2.2.2.2.2.2.2.2.2.2.2.2.2.2.2.2.2.2.2.2.2.2.2.2.2.2.2.2.2 k0_t6 k0_t7 k0_h28 (k0_off188_inb v3 k0_hw1 k0_t6 k0_t7 k0_h28)
theorem k0_off190_inb : ∀ (v3 : BitVec 32) (k0_hw1 : k0_chk1 v3) (k0_t6 : Fin (k0_t6_loop v3).trips) (k0_t7 : Fin k0_t7_loop.trips), ∀ (k0_h29 : k0_cond29 v3 k0_t6 k0_t7 = 1#1), ∀ a, (k0_off190 v3 k0_t6 k0_t7) a + S1.size a ≤ S9.size a := fun v3 k0_hw1 k0_t6 k0_t7 k0_h29 => k0_hw1.2.2.2.2.1.1 k0_t6 k0_t7 k0_h29
theorem k0_mult29_dvd : ∀ (v3 : BitVec 32) (k0_hw1 : k0_chk1 v3) (k0_t6 : Fin (k0_t6_loop v3).trips) (k0_t7 : Fin k0_t7_loop.trips), ∀ (k0_h29 : k0_cond29 v3 k0_t6 k0_t7 = 1#1), ∀ (k0_h30 : k0_cond30 v3 k0_t6 k0_t7 = 1#1), 256 ∣ (k0_mult29 v3 k0_t6 k0_t7).toNat := fun v3 k0_hw1 k0_t6 k0_t7 k0_h29 k0_h30 => k0_hw1.2.2.2.2.1.2.1 k0_t6 k0_t7 k0_h29 k0_h30
theorem k0_off191_inb : ∀ (v3 : BitVec 32) (k0_hw1 : k0_chk1 v3) (k0_t6 : Fin (k0_t6_loop v3).trips) (k0_t7 : Fin k0_t7_loop.trips), ∀ (k0_h29 : k0_cond29 v3 k0_t6 k0_t7 = 1#1), ∀ (k0_h30 : k0_cond30 v3 k0_t6 k0_t7 = 1#1), ∀ a, (k0_off191 v3 k0_t6 k0_t7) a + S1.size a ≤ S8.size a := fun v3 k0_hw1 k0_t6 k0_t7 k0_h29 k0_h30 => k0_hw1.2.2.2.2.1.2.2.1 k0_t6 k0_t7 k0_h29 k0_h30
theorem k0_off192_inb : ∀ (v3 : BitVec 32) (k0_hw1 : k0_chk1 v3) (k0_t6 : Fin (k0_t6_loop v3).trips) (k0_t7 : Fin k0_t7_loop.trips), ∀ (k0_h29 : k0_cond29 v3 k0_t6 k0_t7 = 1#1), ∀ (k0_h30 : k0_cond30 v3 k0_t6 k0_t7 = 1#1), ∀ a, (k0_off192 v3 k0_t6 k0_t7) a + S1x2x256x1024.size a ≤ S8x2x256x1024.size a := fun v3 k0_hw1 k0_t6 k0_t7 k0_h29 k0_h30 => k0_hw1.2.2.2.2.1.2.2.2.1 k0_t6 k0_t7 k0_h29 k0_h30
theorem k0_off192_wordsi8 : ∀ (v3 : BitVec 32) (k0_hw1 : k0_chk1 v3) (k0_t6 : Fin (k0_t6_loop v3).trips) (k0_t7 : Fin k0_t7_loop.trips), ∀ (k0_h29 : k0_cond29 v3 k0_t6 k0_t7 = 1#1), ∀ (k0_h30 : k0_cond30 v3 k0_t6 k0_t7 = 1#1), (Rect.unit (s := S8x2x256x1024) (k0_off192 v3 k0_t6 k0_t7) S1x2x256x1024.size (k0_off192_inb v3 k0_hw1 k0_t6 k0_t7 k0_h29 k0_h30)).WholeWords (EltTy.packing .i8) := fun v3 k0_hw1 k0_t6 k0_t7 k0_h29 k0_h30 => k0_hw1.2.2.2.2.1.2.2.2.2.1 k0_t6 k0_t7 k0_h29 k0_h30 (k0_off192_inb v3 k0_hw1 k0_t6 k0_t7 k0_h29 k0_h30)
theorem k0_mult30_dvd : ∀ (v3 : BitVec 32) (k0_hw1 : k0_chk1 v3) (k0_t6 : Fin (k0_t6_loop v3).trips) (k0_t7 : Fin k0_t7_loop.trips), ∀ (k0_h29 : k0_cond29 v3 k0_t6 k0_t7 = 1#1), ∀ (k0_h31 : k0_cond31 v3 k0_t6 k0_t7 = 1#1), 256 ∣ (k0_mult30 v3 k0_t6 k0_t7).toNat := fun v3 k0_hw1 k0_t6 k0_t7 k0_h29 k0_h31 => k0_hw1.2.2.2.2.1.2.2.2.2.2.1 k0_t6 k0_t7 k0_h29 k0_h31
theorem k0_off194_inb : ∀ (v3 : BitVec 32) (k0_hw1 : k0_chk1 v3) (k0_t6 : Fin (k0_t6_loop v3).trips) (k0_t7 : Fin k0_t7_loop.trips), ∀ (k0_h29 : k0_cond29 v3 k0_t6 k0_t7 = 1#1), ∀ (k0_h31 : k0_cond31 v3 k0_t6 k0_t7 = 1#1), ∀ a, (k0_off194 v3 k0_t6 k0_t7) a + S1.size a ≤ S8.size a := fun v3 k0_hw1 k0_t6 k0_t7 k0_h29 k0_h31 => k0_hw1.2.2.2.2.1.2.2.2.2.2.2.1 k0_t6 k0_t7 k0_h29 k0_h31
theorem k0_off195_inb : ∀ (v3 : BitVec 32) (k0_hw1 : k0_chk1 v3) (k0_t6 : Fin (k0_t6_loop v3).trips) (k0_t7 : Fin k0_t7_loop.trips), ∀ (k0_h29 : k0_cond29 v3 k0_t6 k0_t7 = 1#1), ∀ (k0_h31 : k0_cond31 v3 k0_t6 k0_t7 = 1#1), ∀ a, (k0_off195 v3 k0_t6 k0_t7) a + S1x1x256x1024.size a ≤ S8x2x256x1024.size a := fun v3 k0_hw1 k0_t6 k0_t7 k0_h29 k0_h31 => k0_hw1.2.2.2.2.1.2.2.2.2.2.2.2.1 k0_t6 k0_t7 k0_h29 k0_h31
theorem k0_off195_wordsi8 : ∀ (v3 : BitVec 32) (k0_hw1 : k0_chk1 v3) (k0_t6 : Fin (k0_t6_loop v3).trips) (k0_t7 : Fin k0_t7_loop.trips), ∀ (k0_h29 : k0_cond29 v3 k0_t6 k0_t7 = 1#1), ∀ (k0_h31 : k0_cond31 v3 k0_t6 k0_t7 = 1#1), (Rect.unit (s := S8x2x256x1024) (k0_off195 v3 k0_t6 k0_t7) S1x1x256x1024.size (k0_off195_inb v3 k0_hw1 k0_t6 k0_t7 k0_h29 k0_h31)).WholeWords (EltTy.packing .i8) := fun v3 k0_hw1 k0_t6 k0_t7 k0_h29 k0_h31 => k0_hw1.2.2.2.2.1.2.2.2.2.2.2.2.2.1 k0_t6 k0_t7 k0_h29 k0_h31 (k0_off195_inb v3 k0_hw1 k0_t6 k0_t7 k0_h29 k0_h31)
theorem k0_off197_inb : ∀ (v3 : BitVec 32) (k0_hw1 : k0_chk1 v3) (k0_t6 : Fin (k0_t6_loop v3).trips) (k0_t7 : Fin k0_t7_loop.trips), ∀ (k0_h29 : k0_cond29 v3 k0_t6 k0_t7 = 1#1), ∀ (k0_h31 : k0_cond31 v3 k0_t6 k0_t7 = 1#1), ∀ a, (k0_off197 v3 k0_t6 k0_t7) a + S1x1x256x1024.size a ≤ S8x2x256x1024.size a := fun v3 k0_hw1 k0_t6 k0_t7 k0_h29 k0_h31 => k0_hw1.2.2.2.2.1.2.2.2.2.2.2.2.2.2.1 k0_t6 k0_t7 k0_h29 k0_h31
theorem k0_off197_wordsi8 : ∀ (v3 : BitVec 32) (k0_hw1 : k0_chk1 v3) (k0_t6 : Fin (k0_t6_loop v3).trips) (k0_t7 : Fin k0_t7_loop.trips), ∀ (k0_h29 : k0_cond29 v3 k0_t6 k0_t7 = 1#1), ∀ (k0_h31 : k0_cond31 v3 k0_t6 k0_t7 = 1#1), (Rect.unit (s := S8x2x256x1024) (k0_off197 v3 k0_t6 k0_t7) S1x1x256x1024.size (k0_off197_inb v3 k0_hw1 k0_t6 k0_t7 k0_h29 k0_h31)).WholeWords (EltTy.packing .i8) := fun v3 k0_hw1 k0_t6 k0_t7 k0_h29 k0_h31 => k0_hw1.2.2.2.2.1.2.2.2.2.2.2.2.2.2.2.1 k0_t6 k0_t7 k0_h29 k0_h31 (k0_off197_inb v3 k0_hw1 k0_t6 k0_t7 k0_h29 k0_h31)
theorem k0_off199_inb : ∀ (v3 : BitVec 32) (k0_hw1 : k0_chk1 v3) (k0_t6 : Fin (k0_t6_loop v3).trips) (k0_t7 : Fin k0_t7_loop.trips), ∀ (r : Fin 2), ∀ a, (k0_off199 v3 k0_t6 k0_t7 (BitVec.ofNat 32 (4096 * r.val))) a + S1x16x256.size a ≤ S2x16x8192.size a := fun v3 k0_hw1 k0_t6 k0_t7 r => k0_hw1.2.2.2.2.1.2.2.2.2.2.2.2.2.2.2.2.1 k0_t6 k0_t7 r
theorem k0_off200_inb : ∀ (v3 : BitVec 32) (k0_hw1 : k0_chk1 v3) (k0_t6 : Fin (k0_t6_loop v3).trips) (k0_t7 : Fin k0_t7_loop.trips), ∀ a, (k0_off200 v3 k0_t6 k0_t7) a + S1x1x256x128.size a ≤ S8x2x256x1024.size a := fun v3 k0_hw1 k0_t6 k0_t7 => k0_hw1.2.2.2.2.1.2.2.2.2.2.2.2.2.2.2.2.2.1 k0_t6 k0_t7
theorem k0_off201_inb : ∀ (v3 : BitVec 32) (k0_hw1 : k0_chk1 v3) (k0_t6 : Fin (k0_t6_loop v3).trips) (k0_t7 : Fin k0_t7_loop.trips), ∀ a, (k0_off201 v3 k0_t6 k0_t7) a + S1x1x256x128.size a ≤ S8x2x256x1024.size a := fun v3 k0_hw1 k0_t6 k0_t7 => k0_hw1.2.2.2.2.1.2.2.2.2.2.2.2.2.2.2.2.2.2.1 k0_t6 k0_t7
theorem k0_off202_inb : ∀ (v3 : BitVec 32) (k0_hw1 : k0_chk1 v3) (k0_t6 : Fin (k0_t6_loop v3).trips) (k0_t7 : Fin k0_t7_loop.trips), ∀ a, (k0_off202 v3 k0_t6 k0_t7) a + S1x1x256x128.size a ≤ S8x2x256x1024.size a := fun v3 k0_hw1 k0_t6 k0_t7 => k0_hw1.2.2.2.2.1.2.2.2.2.2.2.2.2.2.2.2.2.2.2.1 k0_t6 k0_t7
theorem k0_off203_inb : ∀ (v3 : BitVec 32) (k0_hw1 : k0_chk1 v3) (k0_t6 : Fin (k0_t6_loop v3).trips) (k0_t7 : Fin k0_t7_loop.trips), ∀ a, (k0_off203 v3 k0_t6 k0_t7) a + S1x1x256x128.size a ≤ S8x2x256x1024.size a := fun v3 k0_hw1 k0_t6 k0_t7 => k0_hw1.2.2.2.2.1.2.2.2.2.2.2.2.2.2.2.2.2.2.2.2.1 k0_t6 k0_t7
theorem k0_off204_inb : ∀ (v3 : BitVec 32) (k0_hw1 : k0_chk1 v3) (k0_t6 : Fin (k0_t6_loop v3).trips) (k0_t7 : Fin k0_t7_loop.trips), ∀ a, (k0_off204 v3 k0_t6 k0_t7) a + S1x1x256x128.size a ≤ S8x2x256x1024.size a := fun v3 k0_hw1 k0_t6 k0_t7 => k0_hw1.2.2.2.2.1.2.2.2.2.2.2.2.2.2.2.2.2.2.2.2.2.1 k0_t6 k0_t7
theorem k0_off205_inb : ∀ (v3 : BitVec 32) (k0_hw1 : k0_chk1 v3) (k0_t6 : Fin (k0_t6_loop v3).trips) (k0_t7 : Fin k0_t7_loop.trips), ∀ a, (k0_off205 v3 k0_t6 k0_t7) a + S1x1x256x128.size a ≤ S8x2x256x1024.size a := fun v3 k0_hw1 k0_t6 k0_t7 => k0_hw1.2.2.2.2.1.2.2.2.2.2.2.2.2.2.2.2.2.2.2.2.2.2.1 k0_t6 k0_t7
theorem k0_off206_inb : ∀ (v3 : BitVec 32) (k0_hw1 : k0_chk1 v3) (k0_t6 : Fin (k0_t6_loop v3).trips) (k0_t7 : Fin k0_t7_loop.trips), ∀ a, (k0_off206 v3 k0_t6 k0_t7) a + S1x1x256x128.size a ≤ S8x2x256x1024.size a := fun v3 k0_hw1 k0_t6 k0_t7 => k0_hw1.2.2.2.2.1.2.2.2.2.2.2.2.2.2.2.2.2.2.2.2.2.2.2.1 k0_t6 k0_t7
theorem k0_off207_inb : ∀ (v3 : BitVec 32) (k0_hw1 : k0_chk1 v3) (k0_t6 : Fin (k0_t6_loop v3).trips) (k0_t7 : Fin k0_t7_loop.trips), ∀ a, (k0_off207 v3 k0_t6 k0_t7) a + S1x1x256x128.size a ≤ S8x2x256x1024.size a := fun v3 k0_hw1 k0_t6 k0_t7 => k0_hw1.2.2.2.2.1.2.2.2.2.2.2.2.2.2.2.2.2.2.2.2.2.2.2.2.1 k0_t6 k0_t7
theorem k0_off208_inb : ∀ (v3 : BitVec 32) (k0_hw1 : k0_chk1 v3) (k0_t6 : Fin (k0_t6_loop v3).trips) (k0_t7 : Fin k0_t7_loop.trips), ∀ a, (k0_off208 v3 k0_t6 k0_t7) a + S1x1x256x128.size a ≤ S8x2x256x1024.size a := fun v3 k0_hw1 k0_t6 k0_t7 => k0_hw1.2.2.2.2.1.2.2.2.2.2.2.2.2.2.2.2.2.2.2.2.2.2.2.2.2.1 k0_t6 k0_t7
theorem k0_off209_inb : ∀ (v3 : BitVec 32) (k0_hw1 : k0_chk1 v3) (k0_t6 : Fin (k0_t6_loop v3).trips) (k0_t7 : Fin k0_t7_loop.trips), ∀ a, (k0_off209 v3 k0_t6 k0_t7) a + S1x1x256x128.size a ≤ S8x2x256x1024.size a := fun v3 k0_hw1 k0_t6 k0_t7 => k0_hw1.2.2.2.2.1.2.2.2.2.2.2.2.2.2.2.2.2.2.2.2.2.2.2.2.2.2.1 k0_t6 k0_t7
theorem k0_off210_inb : ∀ (v3 : BitVec 32) (k0_hw1 : k0_chk1 v3) (k0_t6 : Fin (k0_t6_loop v3).trips) (k0_t7 : Fin k0_t7_loop.trips), ∀ a, (k0_off210 v3 k0_t6 k0_t7) a + S1x1x256x128.size a ≤ S8x2x256x1024.size a := fun v3 k0_hw1 k0_t6 k0_t7 => k0_hw1.2.2.2.2.1.2.2.2.2.2.2.2.2.2.2.2.2.2.2.2.2.2.2.2.2.2.2.1 k0_t6 k0_t7
theorem k0_off211_inb : ∀ (v3 : BitVec 32) (k0_hw1 : k0_chk1 v3) (k0_t6 : Fin (k0_t6_loop v3).trips) (k0_t7 : Fin k0_t7_loop.trips), ∀ a, (k0_off211 v3 k0_t6 k0_t7) a + S1x1x256x128.size a ≤ S8x2x256x1024.size a := fun v3 k0_hw1 k0_t6 k0_t7 => k0_hw1.2.2.2.2.1.2.2.2.2.2.2.2.2.2.2.2.2.2.2.2.2.2.2.2.2.2.2.2.1 k0_t6 k0_t7
theorem k0_off212_inb : ∀ (v3 : BitVec 32) (k0_hw1 : k0_chk1 v3) (k0_t6 : Fin (k0_t6_loop v3).trips) (k0_t7 : Fin k0_t7_loop.trips), ∀ a, (k0_off212 v3 k0_t6 k0_t7) a + S1x1x256x128.size a ≤ S8x2x256x1024.size a := fun v3 k0_hw1 k0_t6 k0_t7 => k0_hw1.2.2.2.2.1.2.2.2.2.2.2.2.2.2.2.2.2.2.2.2.2.2.2.2.2.2.2.2.2.1 k0_t6 k0_t7
theorem k0_off213_inb : ∀ (v3 : BitVec 32) (k0_hw1 : k0_chk1 v3) (k0_t6 : Fin (k0_t6_loop v3).trips) (k0_t7 : Fin k0_t7_loop.trips), ∀ a, (k0_off213 v3 k0_t6 k0_t7) a + S1x1x256x128.size a ≤ S8x2x256x1024.size a := fun v3 k0_hw1 k0_t6 k0_t7 => k0_hw1.2.2.2.2.1.2.2.2.2.2.2.2.2.2.2.2.2.2.2.2.2.2.2.2.2.2.2.2.2.2.1 k0_t6 k0_t7
theorem k0_off214_inb : ∀ (v3 : BitVec 32) (k0_hw1 : k0_chk1 v3) (k0_t6 : Fin (k0_t6_loop v3).trips) (k0_t7 : Fin k0_t7_loop.trips), ∀ a, (k0_off214 v3 k0_t6 k0_t7) a + S1x1x256x128.size a ≤ S8x2x256x1024.size a := fun v3 k0_hw1 k0_t6 k0_t7 => k0_hw1.2.2.2.2.1.2.2.2.2.2.2.2.2.2.2.2.2.2.2.2.2.2.2.2.2.2.2.2.2.2.2.1 k0_t6 k0_t7
theorem k0_off215_inb : ∀ (v3 : BitVec 32) (k0_hw1 : k0_chk1 v3) (k0_t6 : Fin (k0_t6_loop v3).trips) (k0_t7 : Fin k0_t7_loop.trips), ∀ a, (k0_off215 v3 k0_t6 k0_t7) a + S1x1x256x128.size a ≤ S8x2x256x1024.size a := fun v3 k0_hw1 k0_t6 k0_t7 => k0_hw1.2.2.2.2.1.2.2.2.2.2.2.2.2.2.2.2.2.2.2.2.2.2.2.2.2.2.2.2.2.2.2.2.1 k0_t6 k0_t7
theorem k0_off217_inb : ∀ (v3 : BitVec 32) (k0_hw1 : k0_chk1 v3) (k0_t6 : Fin (k0_t6_loop v3).trips), ∀ a, (k0_off217 v3 k0_t6) a + S1.size a ≤ S9.size a := fun v3 k0_hw1 k0_t6 => k0_hw1.2.2.2.2.1.2.2.2.2.2.2.2.2.2.2.2.2.2.2.2.2.2.2.2.2.2.2.2.2.2.2.2.2.1 k0_t6
theorem k0_off218_inb : ∀ (v3 : BitVec 32) (k0_hw1 : k0_chk1 v3) (k0_t6 : Fin (k0_t6_loop v3).trips) (k0_t8 : Fin k0_t8_loop.trips), ∀ a, (k0_off218 v3 k0_t6 k0_t8) a + S1.size a ≤ S9.size a := fun v3 k0_hw1 k0_t6 k0_t8 => k0_hw1.2.2.2.2.1.2.2.2.2.2.2.2.2.2.2.2.2.2.2.2.2.2.2.2.2.2.2.2.2.2.2.2.2.2.1 k0_t6 k0_t8
theorem k0_mult34_dvd : ∀ (v3 : BitVec 32) (k0_hw1 : k0_chk1 v3) (k0_t6 : Fin (k0_t6_loop v3).trips) (k0_t8 : Fin k0_t8_loop.trips), ∀ (k0_h32 : k0_cond32 v3 k0_t6 k0_t8 = 1#1), 256 ∣ (k0_mult34 v3 k0_t6 k0_t8).toNat := fun v3 k0_hw1 k0_t6 k0_t8 k0_h32 => k0_hw1.2.2.2.2.1.2.2.2.2.2.2.2.2.2.2.2.2.2.2.2.2.2.2.2.2.2.2.2.2.2.2.2.2.2.2.1 k0_t6 k0_t8 k0_h32
theorem k0_off219_inb : ∀ (v3 : BitVec 32) (k0_hw1 : k0_chk1 v3) (k0_t6 : Fin (k0_t6_loop v3).trips) (k0_t8 : Fin k0_t8_loop.trips), ∀ (k0_h32 : k0_cond32 v3 k0_t6 k0_t8 = 1#1), ∀ a, (k0_off219 v3 k0_t6 k0_t8) a + S1.size a ≤ S8.size a := fun v3 k0_hw1 k0_t6 k0_t8 k0_h32 => k0_hw1.2.2.2.2.1.2.2.2.2.2.2.2.2.2.2.2.2.2.2.2.2.2.2.2.2.2.2.2.2.2.2.2.2.2.2.2 k0_t6 k0_t8 k0_h32
theorem k0_off220_inb : ∀ (v3 : BitVec 32) (k0_hw1 : k0_chk1 v3) (k0_t6 : Fin (k0_t6_loop v3).trips) (k0_t8 : Fin k0_t8_loop.trips), ∀ (k0_h32 : k0_cond32 v3 k0_t6 k0_t8 = 1#1), ∀ a, (k0_off220 v3 k0_t6 k0_t8) a + S1x2x256x1024.size a ≤ S8x2x256x1024.size a := fun v3 k0_hw1 k0_t6 k0_t8 k0_h32 => k0_hw1.2.2.2.2.2.1.1 k0_t6 k0_t8 k0_h32
theorem k0_off220_wordsi8 : ∀ (v3 : BitVec 32) (k0_hw1 : k0_chk1 v3) (k0_t6 : Fin (k0_t6_loop v3).trips) (k0_t8 : Fin k0_t8_loop.trips), ∀ (k0_h32 : k0_cond32 v3 k0_t6 k0_t8 = 1#1), (Rect.unit (s := S8x2x256x1024) (k0_off220 v3 k0_t6 k0_t8) S1x2x256x1024.size (k0_off220_inb v3 k0_hw1 k0_t6 k0_t8 k0_h32)).WholeWords (EltTy.packing .i8) := fun v3 k0_hw1 k0_t6 k0_t8 k0_h32 => k0_hw1.2.2.2.2.2.1.2.1 k0_t6 k0_t8 k0_h32 (k0_off220_inb v3 k0_hw1 k0_t6 k0_t8 k0_h32)
theorem k0_mult35_dvd : ∀ (v3 : BitVec 32) (k0_hw1 : k0_chk1 v3) (k0_t6 : Fin (k0_t6_loop v3).trips) (k0_t8 : Fin k0_t8_loop.trips), ∀ (k0_h33 : k0_cond33 v3 k0_t6 k0_t8 = 1#1), 256 ∣ (k0_mult35 v3 k0_t6 k0_t8).toNat := fun v3 k0_hw1 k0_t6 k0_t8 k0_h33 => k0_hw1.2.2.2.2.2.1.2.2.1 k0_t6 k0_t8 k0_h33
theorem k0_off222_inb : ∀ (v3 : BitVec 32) (k0_hw1 : k0_chk1 v3) (k0_t6 : Fin (k0_t6_loop v3).trips) (k0_t8 : Fin k0_t8_loop.trips), ∀ (k0_h33 : k0_cond33 v3 k0_t6 k0_t8 = 1#1), ∀ a, (k0_off222 v3 k0_t6 k0_t8) a + S1.size a ≤ S8.size a := fun v3 k0_hw1 k0_t6 k0_t8 k0_h33 => k0_hw1.2.2.2.2.2.1.2.2.2.1 k0_t6 k0_t8 k0_h33
theorem k0_off223_inb : ∀ (v3 : BitVec 32) (k0_hw1 : k0_chk1 v3) (k0_t6 : Fin (k0_t6_loop v3).trips) (k0_t8 : Fin k0_t8_loop.trips), ∀ (k0_h33 : k0_cond33 v3 k0_t6 k0_t8 = 1#1), ∀ a, (k0_off223 v3 k0_t6 k0_t8) a + S1x1x256x1024.size a ≤ S8x2x256x1024.size a := fun v3 k0_hw1 k0_t6 k0_t8 k0_h33 => k0_hw1.2.2.2.2.2.1.2.2.2.2.1 k0_t6 k0_t8 k0_h33
theorem k0_off223_wordsi8 : ∀ (v3 : BitVec 32) (k0_hw1 : k0_chk1 v3) (k0_t6 : Fin (k0_t6_loop v3).trips) (k0_t8 : Fin k0_t8_loop.trips), ∀ (k0_h33 : k0_cond33 v3 k0_t6 k0_t8 = 1#1), (Rect.unit (s := S8x2x256x1024) (k0_off223 v3 k0_t6 k0_t8) S1x1x256x1024.size (k0_off223_inb v3 k0_hw1 k0_t6 k0_t8 k0_h33)).WholeWords (EltTy.packing .i8) := fun v3 k0_hw1 k0_t6 k0_t8 k0_h33 => k0_hw1.2.2.2.2.2.1.2.2.2.2.2.1 k0_t6 k0_t8 k0_h33 (k0_off223_inb v3 k0_hw1 k0_t6 k0_t8 k0_h33)
theorem k0_off225_inb : ∀ (v3 : BitVec 32) (k0_hw1 : k0_chk1 v3) (k0_t6 : Fin (k0_t6_loop v3).trips) (k0_t8 : Fin k0_t8_loop.trips), ∀ (k0_h33 : k0_cond33 v3 k0_t6 k0_t8 = 1#1), ∀ a, (k0_off225 v3 k0_t6 k0_t8) a + S1x1x256x1024.size a ≤ S8x2x256x1024.size a := fun v3 k0_hw1 k0_t6 k0_t8 k0_h33 => k0_hw1.2.2.2.2.2.1.2.2.2.2.2.2.1 k0_t6 k0_t8 k0_h33
theorem k0_off225_wordsi8 : ∀ (v3 : BitVec 32) (k0_hw1 : k0_chk1 v3) (k0_t6 : Fin (k0_t6_loop v3).trips) (k0_t8 : Fin k0_t8_loop.trips), ∀ (k0_h33 : k0_cond33 v3 k0_t6 k0_t8 = 1#1), (Rect.unit (s := S8x2x256x1024) (k0_off225 v3 k0_t6 k0_t8) S1x1x256x1024.size (k0_off225_inb v3 k0_hw1 k0_t6 k0_t8 k0_h33)).WholeWords (EltTy.packing .i8) := fun v3 k0_hw1 k0_t6 k0_t8 k0_h33 => k0_hw1.2.2.2.2.2.1.2.2.2.2.2.2.2.1 k0_t6 k0_t8 k0_h33 (k0_off225_inb v3 k0_hw1 k0_t6 k0_t8 k0_h33)
theorem k0_off227_inb : ∀ (v3 : BitVec 32) (k0_hw1 : k0_chk1 v3) (k0_t6 : Fin (k0_t6_loop v3).trips) (k0_t8 : Fin k0_t8_loop.trips), ∀ (k0_h34 : k0_cond34 v3 k0_t6 k0_t8 = 1#1), ∀ a, (k0_off227 v3 k0_t6 k0_t8) a + S1.size a ≤ S9.size a := fun v3 k0_hw1 k0_t6 k0_t8 k0_h34 => k0_hw1.2.2.2.2.2.1.2.2.2.2.2.2.2.2.1 k0_t6 k0_t8 k0_h34
theorem k0_mult36_dvd : ∀ (v3 : BitVec 32) (k0_hw1 : k0_chk1 v3) (k0_t6 : Fin (k0_t6_loop v3).trips) (k0_t8 : Fin k0_t8_loop.trips), ∀ (k0_h34 : k0_cond34 v3 k0_t6 k0_t8 = 1#1), ∀ (k0_h35 : k0_cond35 v3 k0_t6 k0_t8 = 1#1), 256 ∣ (k0_mult36 v3 k0_t6 k0_t8).toNat := fun v3 k0_hw1 k0_t6 k0_t8 k0_h34 k0_h35 => k0_hw1.2.2.2.2.2.1.2.2.2.2.2.2.2.2.2.1 k0_t6 k0_t8 k0_h34 k0_h35
theorem k0_off228_inb : ∀ (v3 : BitVec 32) (k0_hw1 : k0_chk1 v3) (k0_t6 : Fin (k0_t6_loop v3).trips) (k0_t8 : Fin k0_t8_loop.trips), ∀ (k0_h34 : k0_cond34 v3 k0_t6 k0_t8 = 1#1), ∀ (k0_h35 : k0_cond35 v3 k0_t6 k0_t8 = 1#1), ∀ a, (k0_off228 v3 k0_t6 k0_t8) a + S1.size a ≤ S8.size a := fun v3 k0_hw1 k0_t6 k0_t8 k0_h34 k0_h35 => k0_hw1.2.2.2.2.2.1.2.2.2.2.2.2.2.2.2.2.1 k0_t6 k0_t8 k0_h34 k0_h35
theorem k0_off229_inb : ∀ (v3 : BitVec 32) (k0_hw1 : k0_chk1 v3) (k0_t6 : Fin (k0_t6_loop v3).trips) (k0_t8 : Fin k0_t8_loop.trips), ∀ (k0_h34 : k0_cond34 v3 k0_t6 k0_t8 = 1#1), ∀ (k0_h35 : k0_cond35 v3 k0_t6 k0_t8 = 1#1), ∀ a, (k0_off229 v3 k0_t6 k0_t8) a + S1x2x256x1024.size a ≤ S8x2x256x1024.size a := fun v3 k0_hw1 k0_t6 k0_t8 k0_h34 k0_h35 => k0_hw1.2.2.2.2.2.1.2.2.2.2.2.2.2.2.2.2.2.1 k0_t6 k0_t8 k0_h34 k0_h35
theorem k0_off229_wordsi8 : ∀ (v3 : BitVec 32) (k0_hw1 : k0_chk1 v3) (k0_t6 : Fin (k0_t6_loop v3).trips) (k0_t8 : Fin k0_t8_loop.trips), ∀ (k0_h34 : k0_cond34 v3 k0_t6 k0_t8 = 1#1), ∀ (k0_h35 : k0_cond35 v3 k0_t6 k0_t8 = 1#1), (Rect.unit (s := S8x2x256x1024) (k0_off229 v3 k0_t6 k0_t8) S1x2x256x1024.size (k0_off229_inb v3 k0_hw1 k0_t6 k0_t8 k0_h34 k0_h35)).WholeWords (EltTy.packing .i8) := fun v3 k0_hw1 k0_t6 k0_t8 k0_h34 k0_h35 => k0_hw1.2.2.2.2.2.1.2.2.2.2.2.2.2.2.2.2.2.2.1 k0_t6 k0_t8 k0_h34 k0_h35 (k0_off229_inb v3 k0_hw1 k0_t6 k0_t8 k0_h34 k0_h35)
theorem k0_mult37_dvd : ∀ (v3 : BitVec 32) (k0_hw1 : k0_chk1 v3) (k0_t6 : Fin (k0_t6_loop v3).trips) (k0_t8 : Fin k0_t8_loop.trips), ∀ (k0_h34 : k0_cond34 v3 k0_t6 k0_t8 = 1#1), ∀ (k0_h36 : k0_cond36 v3 k0_t6 k0_t8 = 1#1), 256 ∣ (k0_mult37 v3 k0_t6 k0_t8).toNat := fun v3 k0_hw1 k0_t6 k0_t8 k0_h34 k0_h36 => k0_hw1.2.2.2.2.2.1.2.2.2.2.2.2.2.2.2.2.2.2.2.1 k0_t6 k0_t8 k0_h34 k0_h36
theorem k0_off231_inb : ∀ (v3 : BitVec 32) (k0_hw1 : k0_chk1 v3) (k0_t6 : Fin (k0_t6_loop v3).trips) (k0_t8 : Fin k0_t8_loop.trips), ∀ (k0_h34 : k0_cond34 v3 k0_t6 k0_t8 = 1#1), ∀ (k0_h36 : k0_cond36 v3 k0_t6 k0_t8 = 1#1), ∀ a, (k0_off231 v3 k0_t6 k0_t8) a + S1.size a ≤ S8.size a := fun v3 k0_hw1 k0_t6 k0_t8 k0_h34 k0_h36 => k0_hw1.2.2.2.2.2.1.2.2.2.2.2.2.2.2.2.2.2.2.2.2.1 k0_t6 k0_t8 k0_h34 k0_h36
theorem k0_off232_inb : ∀ (v3 : BitVec 32) (k0_hw1 : k0_chk1 v3) (k0_t6 : Fin (k0_t6_loop v3).trips) (k0_t8 : Fin k0_t8_loop.trips), ∀ (k0_h34 : k0_cond34 v3 k0_t6 k0_t8 = 1#1), ∀ (k0_h36 : k0_cond36 v3 k0_t6 k0_t8 = 1#1), ∀ a, (k0_off232 v3 k0_t6 k0_t8) a + S1x1x256x1024.size a ≤ S8x2x256x1024.size a := fun v3 k0_hw1 k0_t6 k0_t8 k0_h34 k0_h36 => k0_hw1.2.2.2.2.2.1.2.2.2.2.2.2.2.2.2.2.2.2.2.2.2.1 k0_t6 k0_t8 k0_h34 k0_h36
theorem k0_off232_wordsi8 : ∀ (v3 : BitVec 32) (k0_hw1 : k0_chk1 v3) (k0_t6 : Fin (k0_t6_loop v3).trips) (k0_t8 : Fin k0_t8_loop.trips), ∀ (k0_h34 : k0_cond34 v3 k0_t6 k0_t8 = 1#1), ∀ (k0_h36 : k0_cond36 v3 k0_t6 k0_t8 = 1#1), (Rect.unit (s := S8x2x256x1024) (k0_off232 v3 k0_t6 k0_t8) S1x1x256x1024.size (k0_off232_inb v3 k0_hw1 k0_t6 k0_t8 k0_h34 k0_h36)).WholeWords (EltTy.packing .i8) := fun v3 k0_hw1 k0_t6 k0_t8 k0_h34 k0_h36 => k0_hw1.2.2.2.2.2.1.2.2.2.2.2.2.2.2.2.2.2.2.2.2.2.2.1 k0_t6 k0_t8 k0_h34 k0_h36 (k0_off232_inb v3 k0_hw1 k0_t6 k0_t8 k0_h34 k0_h36)
theorem k0_off234_inb : ∀ (v3 : BitVec 32) (k0_hw1 : k0_chk1 v3) (k0_t6 : Fin (k0_t6_loop v3).trips) (k0_t8 : Fin k0_t8_loop.trips), ∀ (k0_h34 : k0_cond34 v3 k0_t6 k0_t8 = 1#1), ∀ (k0_h36 : k0_cond36 v3 k0_t6 k0_t8 = 1#1), ∀ a, (k0_off234 v3 k0_t6 k0_t8) a + S1x1x256x1024.size a ≤ S8x2x256x1024.size a := fun v3 k0_hw1 k0_t6 k0_t8 k0_h34 k0_h36 => k0_hw1.2.2.2.2.2.1.2.2.2.2.2.2.2.2.2.2.2.2.2.2.2.2.2.1 k0_t6 k0_t8 k0_h34 k0_h36
theorem k0_off234_wordsi8 : ∀ (v3 : BitVec 32) (k0_hw1 : k0_chk1 v3) (k0_t6 : Fin (k0_t6_loop v3).trips) (k0_t8 : Fin k0_t8_loop.trips), ∀ (k0_h34 : k0_cond34 v3 k0_t6 k0_t8 = 1#1), ∀ (k0_h36 : k0_cond36 v3 k0_t6 k0_t8 = 1#1), (Rect.unit (s := S8x2x256x1024) (k0_off234 v3 k0_t6 k0_t8) S1x1x256x1024.size (k0_off234_inb v3 k0_hw1 k0_t6 k0_t8 k0_h34 k0_h36)).WholeWords (EltTy.packing .i8) := fun v3 k0_hw1 k0_t6 k0_t8 k0_h34 k0_h36 => k0_hw1.2.2.2.2.2.1.2.2.2.2.2.2.2.2.2.2.2.2.2.2.2.2.2.2.1 k0_t6 k0_t8 k0_h34 k0_h36 (k0_off234_inb v3 k0_hw1 k0_t6 k0_t8 k0_h34 k0_h36)
theorem k0_off236_inb : ∀ (v3 : BitVec 32) (k0_hw1 : k0_chk1 v3) (k0_t6 : Fin (k0_t6_loop v3).trips) (k0_t8 : Fin k0_t8_loop.trips), ∀ a, (k0_off236 v3 k0_t6 k0_t8) a + S1x16x256.size a ≤ S2x32x2048.size a := fun v3 k0_hw1 k0_t6 k0_t8 => k0_hw1.2.2.2.2.2.1.2.2.2.2.2.2.2.2.2.2.2.2.2.2.2.2.2.2.2.1 k0_t6 k0_t8
theorem k0_off237_inb : ∀ (v3 : BitVec 32) (k0_hw1 : k0_chk1 v3) (k0_t6 : Fin (k0_t6_loop v3).trips) (k0_t8 : Fin k0_t8_loop.trips), ∀ a, (k0_off237 v3 k0_t6 k0_t8) a + S1x16x256.size a ≤ S2x32x2048.size a := fun v3 k0_hw1 k0_t6 k0_t8 => k0_hw1.2.2.2.2.2.1.2.2.2.2.2.2.2.2.2.2.2.2.2.2.2.2.2.2.2.2.1 k0_t6 k0_t8
theorem k0_off238_inb : ∀ (v3 : BitVec 32) (k0_hw1 : k0_chk1 v3) (k0_t6 : Fin (k0_t6_loop v3).trips) (k0_t8 : Fin k0_t8_loop.trips), ∀ a, (k0_off238 v3 k0_t6 k0_t8) a + S1x1x256x128.size a ≤ S8x2x256x1024.size a := fun v3 k0_hw1 k0_t6 k0_t8 => k0_hw1.2.2.2.2.2.1.2.2.2.2.2.2.2.2.2.2.2.2.2.2.2.2.2.2.2.2.2.1 k0_t6 k0_t8
theorem k0_off239_inb : ∀ (v3 : BitVec 32) (k0_hw1 : k0_chk1 v3) (k0_t6 : Fin (k0_t6_loop v3).trips) (k0_t8 : Fin k0_t8_loop.trips), ∀ a, (k0_off239 v3 k0_t6 k0_t8) a + S1x1x256x128.size a ≤ S8x2x256x1024.size a := fun v3 k0_hw1 k0_t6 k0_t8 => k0_hw1.2.2.2.2.2.1.2.2.2.2.2.2.2.2.2.2.2.2.2.2.2.2.2.2.2.2.2.2.1 k0_t6 k0_t8
theorem k0_off240_inb : ∀ (v3 : BitVec 32) (k0_hw1 : k0_chk1 v3) (k0_t6 : Fin (k0_t6_loop v3).trips) (k0_t8 : Fin k0_t8_loop.trips), ∀ a, (k0_off240 v3 k0_t6 k0_t8) a + S1x1x256x128.size a ≤ S8x2x256x1024.size a := fun v3 k0_hw1 k0_t6 k0_t8 => k0_hw1.2.2.2.2.2.1.2.2.2.2.2.2.2.2.2.2.2.2.2.2.2.2.2.2.2.2.2.2.2.1 k0_t6 k0_t8
theorem k0_off241_inb : ∀ (v3 : BitVec 32) (k0_hw1 : k0_chk1 v3) (k0_t6 : Fin (k0_t6_loop v3).trips) (k0_t8 : Fin k0_t8_loop.trips), ∀ a, (k0_off241 v3 k0_t6 k0_t8) a + S1x1x256x128.size a ≤ S8x2x256x1024.size a := fun v3 k0_hw1 k0_t6 k0_t8 => k0_hw1.2.2.2.2.2.1.2.2.2.2.2.2.2.2.2.2.2.2.2.2.2.2.2.2.2.2.2.2.2.2.1 k0_t6 k0_t8
theorem k0_off242_inb : ∀ (v3 : BitVec 32) (k0_hw1 : k0_chk1 v3) (k0_t6 : Fin (k0_t6_loop v3).trips) (k0_t8 : Fin k0_t8_loop.trips), ∀ a, (k0_off242 v3 k0_t6 k0_t8) a + S1x1x256x128.size a ≤ S8x2x256x1024.size a := fun v3 k0_hw1 k0_t6 k0_t8 => k0_hw1.2.2.2.2.2.1.2.2.2.2.2.2.2.2.2.2.2.2.2.2.2.2.2.2.2.2.2.2.2.2.2.1 k0_t6 k0_t8
theorem k0_off243_inb : ∀ (v3 : BitVec 32) (k0_hw1 : k0_chk1 v3) (k0_t6 : Fin (k0_t6_loop v3).trips) (k0_t8 : Fin k0_t8_loop.trips), ∀ a, (k0_off243 v3 k0_t6 k0_t8) a + S1x1x256x128.size a ≤ S8x2x256x1024.size a := fun v3 k0_hw1 k0_t6 k0_t8 => k0_hw1.2.2.2.2.2.1.2.2.2.2.2.2.2.2.2.2.2.2.2.2.2.2.2.2.2.2.2.2.2.2.2.2.1 k0_t6 k0_t8
theorem k0_off244_inb : ∀ (v3 : BitVec 32) (k0_hw1 : k0_chk1 v3) (k0_t6 : Fin (k0_t6_loop v3).trips) (k0_t8 : Fin k0_t8_loop.trips), ∀ a, (k0_off244 v3 k0_t6 k0_t8) a + S1x1x256x128.size a ≤ S8x2x256x1024.size a := fun v3 k0_hw1 k0_t6 k0_t8 => k0_hw1.2.2.2.2.2.1.2.2.2.2.2.2.2.2.2.2.2.2.2.2.2.2.2.2.2.2.2.2.2.2.2.2.2.1 k0_t6 k0_t8
theorem k0_off245_inb : ∀ (v3 : BitVec 32) (k0_hw1 : k0_chk1 v3) (k0_t6 : Fin (k0_t6_loop v3).trips) (k0_t8 : Fin k0_t8_loop.trips), ∀ a, (k0_off245 v3 k0_t6 k0_t8) a + S1x1x256x128.size a ≤ S8x2x256x1024.size a := fun v3 k0_hw1 k0_t6 k0_t8 => k0_hw1.2.2.2.2.2.1.2.2.2.2.2.2.2.2.2.2.2.2.2.2.2.2.2.2.2.2.2.2.2.2.2.2.2.2.1 k0_t6 k0_t8
theorem k0_off246_inb : ∀ (v3 : BitVec 32) (k0_hw1 : k0_chk1 v3) (k0_t6 : Fin (k0_t6_loop v3).trips) (k0_t8 : Fin k0_t8_loop.trips), ∀ a, (k0_off246 v3 k0_t6 k0_t8) a + S1x1x256x128.size a ≤ S8x2x256x1024.size a := fun v3 k0_hw1 k0_t6 k0_t8 => k0_hw1.2.2.2.2.2.1.2.2.2.2.2.2.2.2.2.2.2.2.2.2.2.2.2.2.2.2.2.2.2.2.2.2.2.2.2.1 k0_t6 k0_t8
theorem k0_off247_inb : ∀ (v3 : BitVec 32) (k0_hw1 : k0_chk1 v3) (k0_t6 : Fin (k0_t6_loop v3).trips) (k0_t8 : Fin k0_t8_loop.trips), ∀ a, (k0_off247 v3 k0_t6 k0_t8) a + S1x1x256x128.size a ≤ S8x2x256x1024.size a := fun v3 k0_hw1 k0_t6 k0_t8 => k0_hw1.2.2.2.2.2.1.2.2.2.2.2.2.2.2.2.2.2.2.2.2.2.2.2.2.2.2.2.2.2.2.2.2.2.2.2.2.1 k0_t6 k0_t8
theorem k0_off248_inb : ∀ (v3 : BitVec 32) (k0_hw1 : k0_chk1 v3) (k0_t6 : Fin (k0_t6_loop v3).trips) (k0_t8 : Fin k0_t8_loop.trips), ∀ a, (k0_off248 v3 k0_t6 k0_t8) a + S1x1x256x128.size a ≤ S8x2x256x1024.size a := fun v3 k0_hw1 k0_t6 k0_t8 => k0_hw1.2.2.2.2.2.1.2.2.2.2.2.2.2.2.2.2.2.2.2.2.2.2.2.2.2.2.2.2.2.2.2.2.2.2.2.2.2 k0_t6 k0_t8
theorem k0_off249_inb : ∀ (v3 : BitVec 32) (k0_hw1 : k0_chk1 v3) (k0_t6 : Fin (k0_t6_loop v3).trips) (k0_t8 : Fin k0_t8_loop.trips), ∀ a, (k0_off249 v3 k0_t6 k0_t8) a + S1x1x256x128.size a ≤ S8x2x256x1024.size a := fun v3 k0_hw1 k0_t6 k0_t8 => k0_hw1.2.2.2.2.2.2.1 k0_t6 k0_t8
theorem k0_off250_inb : ∀ (v3 : BitVec 32) (k0_hw1 : k0_chk1 v3) (k0_t6 : Fin (k0_t6_loop v3).trips) (k0_t8 : Fin k0_t8_loop.trips), ∀ a, (k0_off250 v3 k0_t6 k0_t8) a + S1x1x256x128.size a ≤ S8x2x256x1024.size a := fun v3 k0_hw1 k0_t6 k0_t8 => k0_hw1.2.2.2.2.2.2.2.1 k0_t6 k0_t8
theorem k0_off251_inb : ∀ (v3 : BitVec 32) (k0_hw1 : k0_chk1 v3) (k0_t6 : Fin (k0_t6_loop v3).trips) (k0_t8 : Fin k0_t8_loop.trips), ∀ a, (k0_off251 v3 k0_t6 k0_t8) a + S1x1x256x128.size a ≤ S8x2x256x1024.size a := fun v3 k0_hw1 k0_t6 k0_t8 => k0_hw1.2.2.2.2.2.2.2.2.1 k0_t6 k0_t8
theorem k0_off252_inb : ∀ (v3 : BitVec 32) (k0_hw1 : k0_chk1 v3) (k0_t6 : Fin (k0_t6_loop v3).trips) (k0_t8 : Fin k0_t8_loop.trips), ∀ a, (k0_off252 v3 k0_t6 k0_t8) a + S1x1x256x128.size a ≤ S8x2x256x1024.size a := fun v3 k0_hw1 k0_t6 k0_t8 => k0_hw1.2.2.2.2.2.2.2.2.2.1 k0_t6 k0_t8
theorem k0_off253_inb : ∀ (v3 : BitVec 32) (k0_hw1 : k0_chk1 v3) (k0_t6 : Fin (k0_t6_loop v3).trips) (k0_t8 : Fin k0_t8_loop.trips), ∀ a, (k0_off253 v3 k0_t6 k0_t8) a + S1x1x256x128.size a ≤ S8x2x256x1024.size a := fun v3 k0_hw1 k0_t6 k0_t8 => k0_hw1.2.2.2.2.2.2.2.2.2.2 k0_t6 k0_t8

def k0_off254 (k0_t8 : Fin k0_t8_loop.trips) : Fin 2 → Nat :=
  let c0_391 : Index := 0#32
  let c0_i32_147 : BitVec 32 := 0#32
  let c1_i32_149 : BitVec 32 := 1#32
  let arg20 : BitVec 32 := Scf.iv c0_i32_147 c1_i32_149 k0_t8
  let c256_i32 : BitVec 32 := 256#32
  let v227 : BitVec 32 := Scalar.muli arg20 c256_i32
  let v228 : BitVec 32 := v227
  let v817 : Index := Scalar.indexCast v228
  ![0, v817.toNat]
abbrev stage0_0 : Fin 1 → Memref sig .tc .smem S2x48 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x48 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S48x1x2048 : Shape := ⟨3, ![48, 1, 2048]⟩
abbrev S48x1x2 : Shape := ⟨3, ![48, 1, 2]⟩
abbrev S8x8192x1024 : Shape := ⟨3, ![8, 8192, 1024]⟩
abbrev S8x8192x16 : Shape := ⟨3, ![8, 8192, 16]⟩
abbrev S8x2048x2048 : Shape := ⟨3, ![8, 2048, 2048]⟩
abbrev S8x2048x32 : Shape := ⟨3, ![8, 2048, 32]⟩
abbrev S1x48x2048 : Shape := ⟨3, ![1, 48, 2048]⟩
abbrev S8x48x2048 : Shape := ⟨3, ![8, 48, 2048]⟩
abbrev S8x8192x16x64 : Shape := ⟨4, ![8, 8192, 16, 64]⟩
abbrev S_ : Shape := ⟨0, ![]⟩
abbrev S8x48x1024x2 : Shape := ⟨4, ![8, 48, 1024, 2]⟩
abbrev S8x48x1024x1 : Shape := ⟨4, ![8, 48, 1024, 1]⟩
abbrev S8x48x1024 : Shape := ⟨3, ![8, 48, 1024]⟩
abbrev S8x48x8192 : Shape := ⟨3, ![8, 48, 8192]⟩
abbrev S8x48x4096 : Shape := ⟨3, ![8, 48, 4096]⟩
abbrev S8x2048x32x64 : Shape := ⟨4, ![8, 2048, 32, 64]⟩
abbrev S8x48x2048x2 : Shape := ⟨4, ![8, 48, 2048, 2]⟩
abbrev S8x48x2048x1 : Shape := ⟨4, ![8, 48, 2048, 1]⟩
abbrev S1x48x2x1 : Shape := ⟨4, ![1, 48, 2, 1]⟩
abbrev S8x48x2x2048 : Shape := ⟨4, ![8, 48, 2, 2048]⟩
abbrev S8x48x1x2048 : Shape := ⟨4, ![8, 48, 1, 2048]⟩
abbrev S48x2x2048 : Shape := ⟨3, ![48, 2, 2048]⟩
abbrev S48x2x1 : Shape := ⟨3, ![48, 2, 1]⟩
abbrev S48x2048 : Shape := ⟨2, ![48, 2048]⟩

abbrev nBuf : Space → Nat
  | .hbm => 95
  | .vmem => 0
  | .smem => 0
  | _ => 0

abbrev bufTy : (tb : Table) → Fin (tcTables nBuf tb) → BufTy
  | .hbm, ⟨0, _⟩ => ⟨S48x1x2048, .bf16⟩
  | .hbm, ⟨1, _⟩ => ⟨S48x1x2, .i32⟩
  | .hbm, ⟨2, _⟩ => ⟨S48x1x2, .f32⟩
  | .hbm, ⟨3, _⟩ => ⟨S8x8192x1024, .i8⟩
  | .hbm, ⟨4, _⟩ => ⟨S8x8192x16, .bf16⟩
  | .hbm, ⟨5, _⟩ => ⟨S8x2048x2048, .i8⟩
  | .hbm, ⟨6, _⟩ => ⟨S8x2048x32, .bf16⟩
  | .hbm, ⟨7, _⟩ => ⟨S1x48x2048, .bf16⟩
  | .hbm, ⟨8, _⟩ => ⟨S8x48x2048, .bf16⟩
  | .hbm, ⟨9, _⟩ => ⟨S8x8192x16x64, .bf16⟩
  | .hbm, ⟨10, _⟩ => ⟨S8x8192x1024, .bf16⟩
  | .hbm, ⟨11, _⟩ => ⟨S8x8192x1024, .i32⟩
  | .hbm, ⟨12, _⟩ => ⟨S_, .i32⟩
  | .hbm, ⟨13, _⟩ => ⟨S8x8192x1024, .i32⟩
  | .hbm, ⟨14, _⟩ => ⟨S8x8192x1024, .i32⟩
  | .hbm, ⟨15, _⟩ => ⟨S8x8192x1024, .bf16⟩
  | .hbm, ⟨16, _⟩ => ⟨S_, .i32⟩
  | .hbm, ⟨17, _⟩ => ⟨S8x8192x1024, .i32⟩
  | .hbm, ⟨18, _⟩ => ⟨S8x8192x1024, .i32⟩
  | .hbm, ⟨19, _⟩ => ⟨S8x8192x1024, .bf16⟩
  | .hbm, ⟨20, _⟩ => ⟨S_, .bf16⟩
  | .hbm, ⟨21, _⟩ => ⟨S8x8192x1024, .bf16⟩
  | .hbm, ⟨22, _⟩ => ⟨S8x8192x1024, .bf16⟩
  | .hbm, ⟨23, _⟩ => ⟨S8x8192x1024, .bf16⟩
  | .hbm, ⟨24, _⟩ => ⟨S_, .bf16⟩
  | .hbm, ⟨25, _⟩ => ⟨S8x8192x1024, .bf16⟩
  | .hbm, ⟨26, _⟩ => ⟨S8x8192x1024, .bf16⟩
  | .hbm, ⟨27, _⟩ => ⟨S8x8192x1024, .bf16⟩
  | .hbm, ⟨28, _⟩ => ⟨S8x48x1024x2, .bf16⟩
  | .hbm, ⟨29, _⟩ => ⟨S8x48x1024x1, .bf16⟩
  | .hbm, ⟨30, _⟩ => ⟨S8x48x1024, .bf16⟩
  | .hbm, ⟨31, _⟩ => ⟨S8x48x8192, .f32⟩
  | .hbm, ⟨32, _⟩ => ⟨S8x48x1024x1, .bf16⟩
  | .hbm, ⟨33, _⟩ => ⟨S8x48x1024, .bf16⟩
  | .hbm, ⟨34, _⟩ => ⟨S8x48x8192, .f32⟩
  | .hbm, ⟨35, _⟩ => ⟨S8x48x8192, .f32⟩
  | .hbm, ⟨36, _⟩ => ⟨S8x48x4096, .f32⟩
  | .hbm, ⟨37, _⟩ => ⟨S8x48x4096, .f32⟩
  | .hbm, ⟨38, _⟩ => ⟨S8x48x4096, .f32⟩
  | .hbm, ⟨39, _⟩ => ⟨S8x48x4096, .f32⟩
  | .hbm, ⟨40, _⟩ => ⟨S_, .f32⟩
  | .hbm, ⟨41, _⟩ => ⟨S8x48x4096, .f32⟩
  | .hbm, ⟨42, _⟩ => ⟨S8x48x4096, .f32⟩
  | .hbm, ⟨43, _⟩ => ⟨S_, .f32⟩
  | .hbm, ⟨44, _⟩ => ⟨S8x48x4096, .f32⟩
  | .hbm, ⟨45, _⟩ => ⟨S8x48x4096, .f32⟩
  | .hbm, ⟨46, _⟩ => ⟨S8x48x4096, .f32⟩
  | .hbm, ⟨47, _⟩ => ⟨S8x48x4096, .f32⟩
  | .hbm, ⟨48, _⟩ => ⟨S8x48x4096, .bf16⟩
  | .hbm, ⟨49, _⟩ => ⟨S8x2048x32x64, .bf16⟩
  | .hbm, ⟨50, _⟩ => ⟨S8x2048x2048, .bf16⟩
  | .hbm, ⟨51, _⟩ => ⟨S8x2048x2048, .i32⟩
  | .hbm, ⟨52, _⟩ => ⟨S_, .i32⟩
  | .hbm, ⟨53, _⟩ => ⟨S8x2048x2048, .i32⟩
  | .hbm, ⟨54, _⟩ => ⟨S8x2048x2048, .i32⟩
  | .hbm, ⟨55, _⟩ => ⟨S8x2048x2048, .bf16⟩
  | .hbm, ⟨56, _⟩ => ⟨S_, .i32⟩
  | .hbm, ⟨57, _⟩ => ⟨S8x2048x2048, .i32⟩
  | .hbm, ⟨58, _⟩ => ⟨S8x2048x2048, .i32⟩
  | .hbm, ⟨59, _⟩ => ⟨S8x2048x2048, .bf16⟩
  | .hbm, ⟨60, _⟩ => ⟨S_, .bf16⟩
  | .hbm, ⟨61, _⟩ => ⟨S8x2048x2048, .bf16⟩
  | .hbm, ⟨62, _⟩ => ⟨S8x2048x2048, .bf16⟩
  | .hbm, ⟨63, _⟩ => ⟨S8x2048x2048, .bf16⟩
  | .hbm, ⟨64, _⟩ => ⟨S_, .bf16⟩
  | .hbm, ⟨65, _⟩ => ⟨S8x2048x2048, .bf16⟩
  | .hbm, ⟨66, _⟩ => ⟨S8x2048x2048, .bf16⟩
  | .hbm, ⟨67, _⟩ => ⟨S8x2048x2048, .bf16⟩
  | .hbm, ⟨68, _⟩ => ⟨S8x48x2048x2, .bf16⟩
  | .hbm, ⟨69, _⟩ => ⟨S8x48x2048x1, .bf16⟩
  | .hbm, ⟨70, _⟩ => ⟨S8x48x2048, .bf16⟩
  | .hbm, ⟨71, _⟩ => ⟨S8x48x2048, .f32⟩
  | .hbm, ⟨72, _⟩ => ⟨S8x48x2048x1, .bf16⟩
  | .hbm, ⟨73, _⟩ => ⟨S8x48x2048, .bf16⟩
  | .hbm, ⟨74, _⟩ => ⟨S8x48x2048, .f32⟩
  | .hbm, ⟨75, _⟩ => ⟨S8x48x2048, .f32⟩
  | .hbm, ⟨76, _⟩ => ⟨S1x48x2x1, .i32⟩
  | .hbm, ⟨77, _⟩ => ⟨S8x48x2x2048, .i32⟩
  | .hbm, ⟨78, _⟩ => ⟨S8x48x2x2048, .i32⟩
  | .hbm, ⟨79, _⟩ => ⟨S8x48x2x2048, .i1⟩
  | .hbm, ⟨80, _⟩ => ⟨S8x48x1x2048, .f32⟩
  | .hbm, ⟨81, _⟩ => ⟨S_, .f32⟩
  | .hbm, ⟨82, _⟩ => ⟨S_, .f32⟩
  | .hbm, ⟨83, _⟩ => ⟨S8x48x2x2048, .f32⟩
  | .hbm, ⟨84, _⟩ => ⟨S8x48x2x2048, .f32⟩
  | .hbm, ⟨85, _⟩ => ⟨S8x48x2x2048, .f32⟩
  | .hbm, ⟨86, _⟩ => ⟨S_, .f32⟩
  | .hbm, ⟨87, _⟩ => ⟨S48x2x2048, .f32⟩
  | .hbm, ⟨88, _⟩ => ⟨S48x2x1, .f32⟩
  | .hbm, ⟨89, _⟩ => ⟨S48x2x2048, .f32⟩
  | .hbm, ⟨90, _⟩ => ⟨S48x2x2048, .f32⟩
  | .hbm, ⟨91, _⟩ => ⟨S_, .f32⟩
  | .hbm, ⟨92, _⟩ => ⟨S48x2048, .f32⟩
  | .hbm, ⟨93, _⟩ => ⟨S48x2048, .bf16⟩
  | .hbm, ⟨94, _⟩ => ⟨S48x1x2048, .bf16⟩
  | _, _ => ⟨S48x1x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_2 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_3 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_6 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v58 : Ref sig .tc := ⟨.hbm, 85, rfl⟩
abbrev main_cst_7 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_8 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩

abbrev nD : Nat := 1
abbrev τ : Topo := Topo.v7x

variable {F : FTy → Type} [FloatOps F]
-- ==== Proof.Same.lean ====
/- The two prints of the kernel's program are one program, so what is proved of one run is proved of the other. -/
module

public import proofs.«01_k».proof.Defs
public import proofs.«01_k».proof.Proof.Gen.Kernel
public import proofs.«01_k».proof.Proof.Gen.KernelIdeal

@[expose] public section

set_option maxRecDepth 65536
set_option maxHeartbeats 4000000

noncomputable section

namespace Cert.Same

open Idealize.ShloMosaic Idealize.SL.Sem

variable {F : FTy → Type} [FloatOps F]

/-- The table that names the kernel's body is the same in both prints, -/
theorem defs₀_eq : Cert.Kernel.defs₀ (F := F) = Cert.KernelIdeal.defs₀ (F := F) := by
  funext k
  match k with
  | .tc =>
    funext l a
    match l, a with
    | ⟨0, _⟩, (t, s) => with_unfolding_all rfl
  | .scScalar _ => rfl
  | .scVector _ _ => rfl

/-- so is the table of the whole program, -/
theorem defs_eq : Cert.Kernel.defs (F := F) = Cert.KernelIdeal.defs (F := F) :=
  congrArg (fun d => Pipeline.defs (Cert.KernelIdeal.pcfgs (F := F)) d) defs₀_eq

/-- and the host program around it. -/
theorem main_eq : Cert.Kernel.main (F := F) = Cert.KernelIdeal.main (F := F) := by with_unfolding_all rfl

end Cert.Same
-- ==== Proof.KernelIdeal.Ring.lean ====
/- The weight ring of the kernel: eight slots of one VMEM buffer, one DMA semaphore each. What a slot, its
   semaphore and its share of the two weight arrays are while the slot is idle, while a copy (or a pair of
   copies) is in flight, and once the copy has been waited for; and the rules that start and await the copies. -/
module

public import proofs.«01_k».proof.Proof.Gen.KernelIdeal.Loops
public import Idealize.ShloMosaic.Lib.Batch
public import Idealize.ShloMosaic.Lib.Ring
public import Idealize.ShloMosaic.Lib.ValueIdx
public import Idealize.ShloMosaic.Lib.ValueIdxCoords
public import Idealize.ShloMosaic.Lib.Pipeline.FrameSuffix

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- The ghost state: the launch's, and the counters of the copies in flight. -/
abbrev UU (nD : Nat) (τ : Topo) : Type := Pipeline.UD sig nD τ
/-- No loop variants. -/
abbrev 𝒱₀ : Variants := Variants.none

local notation "𝕄" => MT nD τ sig Unit (Elt F) ℕ (UU nD τ) ℕ
local notation "EC" => countersEmb (U := UU nD τ)

/-! ## Rectangles -/

theorem inb_slot (s : Fin 8) : ∀ a, (![s.val, 0, 0, 0] : Fin 4 → ℕ) a + S1x2x256x1024.size a ≤ S8x2x256x1024.size a := by
  intro a; have := s.isLt; fin_cases a <;> simp [S1x2x256x1024, S8x2x256x1024] <;> omega
theorem inb_half (s : Fin 8) (i : Fin 2) :
    ∀ a, (![s.val, i.val, 0, 0] : Fin 4 → ℕ) a + S1x1x256x1024.size a ≤ S8x2x256x1024.size a := by
  intro a; have := s.isLt; have := i.isLt; fin_cases a <;> simp [S1x1x256x1024, S8x2x256x1024] <;> omega
theorem inb_w1 (e : Fin 8) (b : Fin 16) :
    ∀ a, (![e.val, 0, b.val * 256, 0] : Fin 4 → ℕ) a + S1x2x256x1024.size a ≤ S8x2x4096x1024.size a := by
  intro a; have := e.isLt; have := b.isLt; fin_cases a <;> simp [S1x2x256x1024, S8x2x4096x1024] <;> omega
theorem inb_w2 (e : Fin 8) (b : Fin 8) (i : Fin 2) :
    ∀ a, (![e.val, b.val * 256, i.val * 1024] : Fin 3 → ℕ) a + S1x256x1024.size a ≤ S8x2048x2048.size a := by
  intro a; have := e.isLt; have := b.isLt; have := i.isLt
  fin_cases a <;> simp [S1x256x1024, S8x2048x2048] <;> omega
theorem inb_sem (s : Fin 8) : ∀ a, (![s.val] : Fin 1 → ℕ) a + S1.size a ≤ S8.size a := by
  intro a; have := s.isLt; fin_cases a <;> simp [S1, S8] <;> omega

variable (arg4 : Memref sig .tc .hbm S8x2x4096x1024 .i8) (arg6 : Memref sig .tc .hbm S8x2048x2048 .i8)
  (arg9 : Memref sig .tc .vmem S8x2x256x1024 .i8) (arg16 : DmaSems sig S8) (c : Dev nD)

/-- Slot `s` of the ring. -/
abbrev slotM (s : Fin 8) : Memref sig .tc .vmem S2x256x1024 .i8 :=
  (arg9.slice (Rect.unit (s := S8x2x256x1024) ![s.val, 0, 0, 0] S1x2x256x1024.size (inb_slot s)) (fun _ => rfl)).squeeze
    S2x256x1024 squeezes_S1x2x256x1024_S2x256x1024
/-- Half `i` of slot `s`. -/
abbrev halfM (s : Fin 8) (i : Fin 2) : Memref sig .tc .vmem S256x1024 .i8 :=
  (arg9.slice (Rect.unit (s := S8x2x256x1024) ![s.val, i.val, 0, 0] S1x1x256x1024.size (inb_half s i)) (fun _ => rfl)).squeeze
    S256x1024 squeezes_S1x1x256x1024_S256x1024
/-- Block `b` of the first weights of expert `e`: the gate rows and the up rows. -/
abbrev w1M (e : Fin 8) (b : Fin 16) : Memref sig .tc .hbm S2x256x1024 .i8 :=
  (arg4.slice (Rect.unit (s := S8x2x4096x1024) ![e.val, 0, b.val * 256, 0] S1x2x256x1024.size (inb_w1 e b)) (fun _ => rfl)).squeeze
    S2x256x1024 squeezes_S1x2x256x1024_S2x256x1024
/-- Half `i` of block `b` of the second weights of expert `e`. -/
abbrev w2M (e : Fin 8) (b : Fin 8) (i : Fin 2) : Memref sig .tc .hbm S256x1024 .i8 :=
  (arg6.slice (Rect.unit (s := S8x2048x2048) ![e.val, b.val * 256, i.val * 1024] S1x256x1024.size (inb_w2 e b i)) (fun _ => rfl)).squeeze
    S256x1024 squeezes_S1x256x1024_S256x1024
/-- The semaphore of slot `s`. -/
abbrev wsem (s : Fin 8) : DmaSem sig :=
  ((arg16.slice (Rect.unit (s := S8) ![s.val] S1.size (inb_sem s))).squeeze S_ squeezes_S1_S_).sem

/-! ## Where the elements of the pieces lie -/

theorem slot_emb (s : Fin 8) (i : Fin 2) (r : Fin 256) (k : Fin 1024) :
    (slotM arg9 s).view.emb (ix3 i r k) = arg9.view.emb (ix4 s i r k) := by
  show arg9.view.emb ((Rect.unit (s := S8x2x256x1024) ![s.val, 0, 0, 0] S1x2x256x1024.size (inb_slot s)).emb
    (Shape.reshapeEquiv _ (ix3 i r k))) = _
  congr 1
  rw [show Shape.reshapeEquiv (s := S1x2x256x1024) (s' := S2x256x1024) squeezes_S1x2x256x1024_S2x256x1024.numel_eq (ix3 i r k)
      = Fin.cons ⟨0, Nat.one_pos⟩ (ix3 i r k) from Shape.reshapeEquiv_cons_one _ _]
  funext a; apply Fin.ext; rw [Rect.emb_apply]
  fin_cases a <;> simp [ix4, ix3] <;> rfl

theorem half_emb (s : Fin 8) (i : Fin 2) (r : Fin 256) (k : Fin 1024) :
    (halfM arg9 s i).view.emb (ix2 r k) = arg9.view.emb (ix4 s i r k) := by
  show arg9.view.emb ((Rect.unit (s := S8x2x256x1024) ![s.val, i.val, 0, 0] S1x1x256x1024.size (inb_half s i)).emb
    (Shape.reshapeEquiv _ (ix2 r k))) = _
  congr 1
  rw [← Shape.reshapeEquiv_reshapeEquiv (s := S1x1x256x1024) (s' := S1x256x1024) (s'' := S256x1024) (by decide) (by decide)]
  rw [show Shape.reshapeEquiv (s := S1x256x1024) (s' := S256x1024) (by decide) (ix2 r k)
      = Fin.cons ⟨0, Nat.one_pos⟩ (ix2 r k) from Shape.reshapeEquiv_cons_one _ _]
  rw [show ∀ x, Shape.reshapeEquiv (s := S1x1x256x1024) (s' := S1x256x1024) (by decide) x
      = Fin.cons ⟨0, Nat.one_pos⟩ x from fun x => Shape.reshapeEquiv_cons_one _ _]
  funext a; apply Fin.ext; rw [Rect.emb_apply]
  fin_cases a <;> simp [ix4, ix2] <;> rfl

theorem w1_emb (e : Fin 8) (b : Fin 16) (i : Fin 2) (r : Fin 256) (k : Fin 1024) :
    (w1M arg4 e b).view.emb (ix3 i r k) = arg4.view.emb (ix4 e i ⟨b.val * 256 + r.val, by omega⟩ k) := by
  show arg4.view.emb ((Rect.unit (s := S8x2x4096x1024) ![e.val, 0, b.val * 256, 0] S1x2x256x1024.size (inb_w1 e b)).emb
    (Shape.reshapeEquiv _ (ix3 i r k))) = _
  congr 1
  rw [show Shape.reshapeEquiv (s := S1x2x256x1024) (s' := S2x256x1024) squeezes_S1x2x256x1024_S2x256x1024.numel_eq (ix3 i r k)
      = Fin.cons ⟨0, Nat.one_pos⟩ (ix3 i r k) from Shape.reshapeEquiv_cons_one _ _]
  funext a; apply Fin.ext; rw [Rect.emb_apply]
  fin_cases a <;> simp [ix4, ix3] <;> rfl

theorem w2_emb (e : Fin 8) (b : Fin 8) (i : Fin 2) (r : Fin 256) (k : Fin 1024) :
    (w2M arg6 e b i).view.emb (ix2 r k)
      = arg6.view.emb (ix3 e ⟨b.val * 256 + r.val, by omega⟩ ⟨i.val * 1024 + k.val, by omega⟩) := by
  show arg6.view.emb ((Rect.unit (s := S8x2048x2048) ![e.val, b.val * 256, i.val * 1024] S1x256x1024.size (inb_w2 e b i)).emb
    (Shape.reshapeEquiv _ (ix2 r k))) = _
  congr 1
  rw [show Shape.reshapeEquiv (s := S1x256x1024) (s' := S256x1024) squeezes_S1x256x1024_S256x1024.numel_eq (ix2 r k)
      = Fin.cons ⟨0, Nat.one_pos⟩ (ix2 r k) from Shape.reshapeEquiv_cons_one _ _]
  funext a; apply Fin.ext; rw [Rect.emb_apply]
  fin_cases a <;> simp [ix3, ix2] <;> rfl

theorem half_set_mem (s : Fin 8) (i : Fin 2) (x : (halfM arg9 s i).view.ty.Idx) (h : x ∈ (halfM arg9 s i).view.set) :
    ∃ r k, x = arg9.view.emb (ix4 s i r k) := by
  obtain ⟨y, -, rfl⟩ := Finset.mem_map.mp h
  refine ⟨y 0, y 1, ?_⟩
  rw [← half_emb arg9 s i (y 0) (y 1)]
  congr 1; funext a; fin_cases a <;> rfl

theorem mem_half_set (s : Fin 8) (i : Fin 2) (r : Fin 256) (k : Fin 1024) :
    arg9.view.emb (ix4 s i r k) ∈ (halfM arg9 s i).view.set := by
  rw [← half_emb]; exact Finset.mem_map_of_mem _ (Finset.mem_univ _)

theorem mem_slot_set (s : Fin 8) (i : Fin 2) (r : Fin 256) (k : Fin 1024) :
    arg9.view.emb (ix4 s i r k) ∈ (slotM arg9 s).view.set := by
  rw [← slot_emb]; exact Finset.mem_map_of_mem _ (Finset.mem_univ _)

theorem half_subset (s : Fin 8) (i : Fin 2) : (halfM arg9 s i).view.set ⊆ (slotM arg9 s).view.set := by
  intro x hx
  obtain ⟨r, k, rfl⟩ := half_set_mem arg9 s i x hx
  exact mem_slot_set arg9 s i r k

theorem not_mem_half_one (s : Fin 8) (r : Fin 256) (k : Fin 1024) :
    arg9.view.emb (ix4 s 0 r k) ∉ (halfM arg9 s 1).view.set := by
  intro h
  obtain ⟨r', k', h'⟩ := half_set_mem arg9 s 1 _ h
  have := congrFun (arg9.view.emb.injective h') 1
  exact absurd (congrArg Fin.val this) Nat.zero_ne_one

theorem half_zero_subset (s : Fin 8) :
    (halfM arg9 s 0).view.set ⊆ (slotM arg9 s).view.set \ (halfM arg9 s 1).view.set := by
  intro x hx
  obtain ⟨r, k, rfl⟩ := half_set_mem arg9 s 0 x hx
  exact Finset.mem_sdiff.mpr ⟨mem_slot_set arg9 s 0 r k, not_mem_half_one arg9 s r k⟩

theorem slot_read (s : Fin 8) (i : Fin 2) (r : Fin 256) (k : Fin 1024) (f : arg9.view.ty.Contents (Elt F)) :
    (slotM arg9 s).view.read (Elt F) f (ix3 i r k) = arg9.view.read (Elt F) f (ix4 s i r k) := by
  rw [View.read_apply, View.read_apply]
  exact congrArg (fun x => _root_.cast _ (f x)) (slot_emb arg9 s i r k)

theorem half_read (s : Fin 8) (i : Fin 2) (r : Fin 256) (k : Fin 1024) (f : arg9.view.ty.Contents (Elt F)) :
    (halfM arg9 s i).view.read (Elt F) f (ix2 r k) = arg9.view.read (Elt F) f (ix4 s i r k) := by
  rw [View.read_apply, View.read_apply]
  exact congrArg (fun x => _root_.cast _ (f x)) (half_emb arg9 s i r k)

/-- What block `b` of the first weights of expert `e` is, read off the array. -/
def blk1 (W1 : arg4.view.ty.Contents (Elt F)) (e : Fin 8) (b : Fin 16) : Fin 2 → Fin 256 → Fin 1024 → Elt F .i8 :=
  fun i r k => arg4.view.read (Elt F) W1 (ix4 e i ⟨b.val * 256 + r.val, by omega⟩ k)
/-- What block `b` of the second weights of expert `e` is, read off the array. -/
def blk2 (W2 : arg6.view.ty.Contents (Elt F)) (e : Fin 8) (b : Fin 8) : Fin 2 → Fin 256 → Fin 1024 → Elt F .i8 :=
  fun i r k => arg6.view.read (Elt F) W2 (ix3 e ⟨b.val * 256 + r.val, by omega⟩ ⟨i.val * 1024 + k.val, by omega⟩)

theorem w1_read (W1 : arg4.view.ty.Contents (Elt F)) (e : Fin 8) (b : Fin 16) (i : Fin 2) (r : Fin 256) (k : Fin 1024) :
    (w1M arg4 e b).view.read (Elt F) W1 (ix3 i r k) = blk1 arg4 W1 e b i r k := by
  unfold blk1; rw [View.read_apply, View.read_apply]
  exact congrArg (fun x => _root_.cast _ (W1 x)) (w1_emb arg4 e b i r k)

theorem w2_read (W2 : arg6.view.ty.Contents (Elt F)) (e : Fin 8) (b : Fin 8) (i : Fin 2) (r : Fin 256) (k : Fin 1024) :
    (w2M arg6 e b i).view.read (Elt F) W2 (ix2 r k) = blk2 arg6 W2 e b i r k := by
  unfold blk2; rw [View.read_apply, View.read_apply]
  exact congrArg (fun x => _root_.cast _ (W2 x)) (w2_emb arg6 e b i r k)

/-! ## What a slot is -/

variable (W1 : Buf (Elt F) (arg4.view.loc (c : Thread nD τ))) (W2 : Buf (Elt F) (arg6.view.loc (c : Thread nD τ)))

/-- The share of the first weights slot `s` copies with; -/
abbrev tokA (s : Fin 8) : PosShare TreeShare := Transfers.shareTok fullShare 8 s
/-- of the second, one per half. -/
abbrev tokB (s : Fin 8) (i : Fin 2) : PosShare TreeShare := Transfers.shareTok fullShare 16 ⟨2 * s.val + i.val, by omega⟩

/-- Slot `s`'s shares of the two weight arrays. -/
def Toks (s : Fin 8) : sProp 𝕄 :=
  iprop((arg4.view.loc (c : Thread nD τ) ↦{tokA s} W1) ∗ (arg6.view.loc (c : Thread nD τ) ↦{tokB s 0} W2)
    ∗ (arg6.view.loc (c : Thread nD τ) ↦{tokB s 1} W2))

/-- An idle slot: any contents, its semaphore at zero, its shares at home. -/
def Idle (s : Fin 8) : sProp 𝕄 :=
  iprop((∃ f, (slotM arg9 s).view.loc (c : Thread nD τ) ↦[(slotM arg9 s).view.set]{fullShare} f)
    ∗ semVal ((c : Thread nD τ), SemLoc.dma (wsem arg16 s)) 0 ∗ Toks arg4 arg6 c W1 W2 s)

/-- A slot whose contents are `G`. -/
def Loaded (s : Fin 8) (G : Fin 2 → Fin 256 → Fin 1024 → Elt F .i8) : sProp 𝕄 :=
  iprop((∃ f, ((slotM arg9 s).view.loc (c : Thread nD τ) ↦[(slotM arg9 s).view.set]{fullShare} f)
      ∗ ⌜∀ i r k, arg9.view.read (Elt F) f (ix4 s i r k) = G i r k⌝)
    ∗ semVal ((c : Thread nD τ), SemLoc.dma (wsem arg16 s)) 0 ∗ Toks arg4 arg6 c W1 W2 s)

theorem Loaded_idle (s : Fin 8) (G : Fin 2 → Fin 256 → Fin 1024 → Elt F .i8) :
    Loaded arg4 arg6 arg9 arg16 c W1 W2 s G ⊢ Idle arg4 arg6 arg9 arg16 c W1 W2 s := by
  unfold Loaded Idle
  iintro ⟨⟨%f, Hf, -⟩, Hs, Ht⟩
  isplitl [Hf]; · iexists f; iexact Hf
  isplitl [Hs]; · iexact Hs
  iexact Ht

/-- A copy of block `b` of expert `e`'s first weights into slot `s` under way. -/
def Fly1 (s : Fin 8) (e : Fin 8) (b : Fin 16) : sProp 𝕄 :=
  iprop((∃ f, Transfers.Flight EC (c : Thread nD τ) (.dma (wsem arg16 s)) () (slotM arg9 s).view.dmaCredit
      iprop(((slotM arg9 s).view.loc (c : Thread nD τ) ↦[(slotM arg9 s).view.set]{fullShare}
          ((slotM arg9 s).view.write (Elt F) f (ReadAs.same.apply ((w1M arg4 e b).view.read (Elt F) W1)) Finset.univ))
        ∗ ((w1M arg4 e b).view.loc (c : Thread nD τ) ↦[(w1M arg4 e b).view.set]{tokA s} W1)))
    ∗ (arg4.view.loc (c : Thread nD τ) ↦[Finset.univ \ (w1M arg4 e b).view.set]{tokA s} W1)
    ∗ (arg6.view.loc (c : Thread nD τ) ↦{tokB s 0} W2) ∗ (arg6.view.loc (c : Thread nD τ) ↦{tokB s 1} W2))

/-- What the two copies of a block of the second weights deliver: half 0 of the slot (with whatever of the
    slot is not half 1), and half 1. -/
def deliv2 (s : Fin 8) (e : Fin 8) (b : Fin 8) (f : Buf (Elt F) (arg9.view.loc (c : Thread nD τ))) : Fin 2 → sProp 𝕄
  | ⟨0, _⟩ => iprop(((halfM arg9 s 0).view.loc (c : Thread nD τ) ↦[(slotM arg9 s).view.set \ (halfM arg9 s 1).view.set]{fullShare}
          ((halfM arg9 s 0).view.write (Elt F) f (ReadAs.same.apply ((w2M arg6 e b 0).view.read (Elt F) W2)) Finset.univ))
        ∗ ((w2M arg6 e b 0).view.loc (c : Thread nD τ) ↦[(w2M arg6 e b 0).view.set]{tokB s 0} W2))
  | ⟨1, _⟩ => iprop(((halfM arg9 s 1).view.loc (c : Thread nD τ) ↦[(halfM arg9 s 1).view.set]{fullShare}
          ((halfM arg9 s 1).view.write (Elt F) f (ReadAs.same.apply ((w2M arg6 e b 1).view.read (Elt F) W2)) Finset.univ))
        ∗ ((w2M arg6 e b 1).view.loc (c : Thread nD τ) ↦[(w2M arg6 e b 1).view.set]{tokB s 1} W2))

instance deliv2_storable (s : Fin 8) (e : Fin 8) (b : Fin 8) (f : Buf (Elt F) (arg9.view.loc (c : Thread nD τ))) :
    ∀ t, Storable (upEmb : UEmb _ 𝕄) (deliv2 arg6 arg9 c W2 s e b f t)
  | ⟨0, _⟩ => by unfold deliv2; infer_instance
  | ⟨1, _⟩ => by unfold deliv2; infer_instance

theorem deliv2_split (s : Fin 8) (e : Fin 8) (b : Fin 8) (f : Buf (Elt F) (arg9.view.loc (c : Thread nD τ))) :
    bigSep Finset.univ (deliv2 arg6 arg9 c W2 s e b f)
      ⊢ iprop((((halfM arg9 s 0).view.loc (c : Thread nD τ) ↦[(slotM arg9 s).view.set \ (halfM arg9 s 1).view.set]{fullShare}
          ((halfM arg9 s 0).view.write (Elt F) f (ReadAs.same.apply ((w2M arg6 e b 0).view.read (Elt F) W2)) Finset.univ))
        ∗ ((w2M arg6 e b 0).view.loc (c : Thread nD τ) ↦[(w2M arg6 e b 0).view.set]{tokB s 0} W2))
        ∗ ((halfM arg9 s 1).view.loc (c : Thread nD τ) ↦[(halfM arg9 s 1).view.set]{fullShare}
          ((halfM arg9 s 1).view.write (Elt F) f (ReadAs.same.apply ((w2M arg6 e b 1).view.read (Elt F) W2)) Finset.univ))
        ∗ ((w2M arg6 e b 1).view.loc (c : Thread nD τ) ↦[(w2M arg6 e b 1).view.set]{tokB s 1} W2)) := by
  rw [Idealize.SL.BI.bigSep_univ_eq_bigSepL [0, 1] (by decide) (by decide) _]
  exact .rfl

/-- The credit of one half. -/
abbrev N2 : ℕ := (halfM arg9 0 0).view.dmaCredit

/-- The two copies of block `b` of expert `e`'s second weights into slot `s` under way. -/
def Fly2 (s : Fin 8) (e : Fin 8) (b : Fin 8) : sProp 𝕄 :=
  iprop((∃ f, Transfers.Batch EC (c : Thread nD τ) (.dma (wsem arg16 s)) () (N2 arg9) (deliv2 arg6 arg9 c W2 s e b f) 2 0)
    ∗ (arg4.view.loc (c : Thread nD τ) ↦{tokA s} W1)
    ∗ (arg6.view.loc (c : Thread nD τ) ↦[Finset.univ \ (w2M arg6 e b 0).view.set]{tokB s 0} W2)
    ∗ (arg6.view.loc (c : Thread nD τ) ↦[Finset.univ \ (w2M arg6 e b 1).view.set]{tokB s 1} W2))

/-! ## The rules -/

variable {α : Type}

/-- Start the copy of a block of the first weights. -/
theorem start1 (s : Fin 8) (e : Fin 8) (b : Fin 16) {offS : Fin 1 → ℕ} {offD offA : Fin 4 → ℕ}
    (hS : offS = ![s.val]) (hD : offD = ![s.val, 0, 0, 0]) (hA : offA = ![e.val, 0, b.val * 256, 0])
    {inbS : ∀ a, offS a + S1.size a ≤ S8.size a} {inbD : ∀ a, offD a + S1x2x256x1024.size a ≤ S8x2x256x1024.size a}
    {inbA : ∀ a, offA a + S1x2x256x1024.size a ≤ S8x2x4096x1024.size a}
    {hr hr' : _} {hsrc hdst ht : _} {k : PUnit → Prog (TpuEff nD τ sig (Elt F) Λ₀ .tc) α} {Q : α → sProp 𝕄} :
    Idle arg4 arg6 arg9 arg16 c W1 W2 s
      ⊢ iprop((Fly1 arg4 arg6 arg9 arg16 c W1 W2 s e b -∗ wp frame (wpE defs₀ 𝒱₀ (c : Thread nD τ) none) Set.univ (k ⟨⟩) Q)
        -∗ wp frame (wpE defs₀ 𝒱₀ (c : Thread nD τ) none) Set.univ
          (.op (.enqueueDma ((arg4.slice (Rect.unit (s := S8x2x4096x1024) offA S1x2x256x1024.size inbA) hr).squeeze
              S2x256x1024 squeezes_S1x2x256x1024_S2x256x1024)
            (.here ((arg9.slice (Rect.unit (s := S8x2x256x1024) offD S1x2x256x1024.size inbD) hr').squeeze
              S2x256x1024 squeezes_S1x2x256x1024_S2x256x1024))
            (.dma ((arg16.slice (Rect.unit (s := S8) offS S1.size inbS)).squeeze S_ squeezes_S1_S_).sem) hsrc hdst ht) k) Q) := by
  subst hS hD hA
  unfold Idle Toks
  iintro ⟨⟨%f, Hf⟩, Hs, HA, HB⟩ Hk
  ihave HA' := (pointsTo_split_subset (Finset.subset_univ (w1M arg4 e b).view.set)).1 $$ HA
  icases HA' with ⟨HA, HAr⟩
  iapply (Transfers.wp_dmaLocal EC 𝒱₀ (c : Thread nD τ) none (src := w1M arg4 e b) (dst := slotM arg9 s) ()
    (slotM arg9 s).view.dmaCredit rfl ((slotM arg9 s).view.dmaCredit_pos (by decide)) subset_rfl) $$ [HA Hf Hs]
  · isplitl [HA]; · iexact HA
    isplitl [Hf]; · iexact Hf
    iexact Hs
  iintro HF
  iapply Hk
  unfold Fly1
  isplitl [HF]; · iexists f; iexact HF
  isplitl [HAr]; · iexact HAr
  iexact HB

/-- Await it. -/
theorem wait1 (s : Fin 8) (e : Fin 8) (b : Fin 16) {offS : Fin 1 → ℕ} (hS : offS = ![s.val])
    {inbS : ∀ a, offS a + S1.size a ≤ S8.size a} {offD : Fin 4 → ℕ}
    {inbD : ∀ a, offD a + S1x2x256x1024.size a ≤ S8x2x256x1024.size a} {W : Waits sig Unit} {sp' : Space} {s' : Shape} {e' : EltTy}
    {srcw : Memref sig .tc sp' s' e'} {hr' : _}
    {hsrc hdst : _} {k : PUnit → Prog (TpuEff nD τ sig (Elt F) Λ₀ .tc) α} {Q : α → sProp 𝕄} :
    iprop(Fly1 arg4 arg6 arg9 arg16 c W1 W2 s e b ∗ owes (c : Thread nD τ) 0 W)
      ⊢ iprop((iprop(Loaded arg4 arg6 arg9 arg16 c W1 W2 s (blk1 arg4 W1 e b) ∗ (∃ W', owes (c : Thread nD τ) 0 W'))
          -∗ wp frame (wpE defs₀ 𝒱₀ (c : Thread nD τ) none) Set.univ (k ⟨⟩) Q)
        -∗ wp frame (wpE defs₀ 𝒱₀ (c : Thread nD τ) none) Set.univ
          (.op (.waitDma2 ((arg16.slice (Rect.unit (s := S8) offS S1.size inbS)).squeeze S_ squeezes_S1_S_).sem srcw
            ((arg9.slice (Rect.unit (s := S8x2x256x1024) offD S1x2x256x1024.size inbD) hr').squeeze
              S2x256x1024 squeezes_S1x2x256x1024_S2x256x1024) hsrc hdst) k) Q) := by
  subst hS
  unfold Fly1 Loaded Toks
  iintro ⟨⟨⟨%f, HF⟩, HAr, HB⟩, HO⟩ Hk
  iapply (Transfers.wp_waitLocal EC 𝒱₀ (c : Thread nD τ) none (hsrc := hsrc) (hdst := hdst) ()
    (N := (slotM arg9 s).view.dmaCredit) rfl) $$ [HF HO]
  · isplitl [HF]; · iexact HF
    iexact HO
  iintro ⟨⟨Hf, HA⟩, Hs, HO⟩
  iapply Hk
  isplitr [HO]
  · isplitl [Hf]
    · iexists _
      isplitl [Hf]; · iexact Hf
      ipureintro
      intro i r k
      rw [← slot_read, View.read_write_univ]
      exact w1_read arg4 W1 e b i r k
    isplitl [Hs]; · iexact Hs
    isplitr [HB]
    · iapply (pointsTo_split_subset (Finset.subset_univ (w1M arg4 e b).view.set)).2
      isplitl [HA]; · iexact HA
      iexact HAr
    iexact HB
  iexists _; iexact HO

/-- Start the two copies of a block of the second weights. -/
theorem start2 (s : Fin 8) (e : Fin 8) (b : Fin 8) {offS offS' : Fin 1 → ℕ} {offD offD' : Fin 4 → ℕ} {offA offA' : Fin 3 → ℕ}
    (hS : offS = ![s.val]) (hD : offD = ![s.val, 0, 0, 0]) (hA : offA = ![e.val, b.val * 256, 0])
    (hS' : offS' = ![s.val]) (hD' : offD' = ![s.val, 1, 0, 0]) (hA' : offA' = ![e.val, b.val * 256, 1024])
    {inbS : ∀ a, offS a + S1.size a ≤ S8.size a} {inbD : ∀ a, offD a + S1x1x256x1024.size a ≤ S8x2x256x1024.size a}
    {inbA : ∀ a, offA a + S1x256x1024.size a ≤ S8x2048x2048.size a}
    {inbS' : ∀ a, offS' a + S1.size a ≤ S8.size a} {inbD' : ∀ a, offD' a + S1x1x256x1024.size a ≤ S8x2x256x1024.size a}
    {inbA' : ∀ a, offA' a + S1x256x1024.size a ≤ S8x2048x2048.size a}
    {hr hr' hr2 hr2' : _} {hsrc hdst ht hsrc' hdst' ht' : _} {k : PUnit → Prog (TpuEff nD τ sig (Elt F) Λ₀ .tc) α} {Q : α → sProp 𝕄} :
    Idle arg4 arg6 arg9 arg16 c W1 W2 s
      ⊢ iprop((Fly2 arg4 arg6 arg9 arg16 c W1 W2 s e b -∗ wp frame (wpE defs₀ 𝒱₀ (c : Thread nD τ) none) Set.univ (k ⟨⟩) Q)
        -∗ wp frame (wpE defs₀ 𝒱₀ (c : Thread nD τ) none) Set.univ
          (.op (.enqueueDma ((arg6.slice (Rect.unit (s := S8x2048x2048) offA S1x256x1024.size inbA) hr).squeeze
              S256x1024 squeezes_S1x256x1024_S256x1024)
            (.here ((arg9.slice (Rect.unit (s := S8x2x256x1024) offD S1x1x256x1024.size inbD) hr').squeeze
              S256x1024 squeezes_S1x1x256x1024_S256x1024))
            (.dma ((arg16.slice (Rect.unit (s := S8) offS S1.size inbS)).squeeze S_ squeezes_S1_S_).sem) hsrc hdst ht) fun _ =>
           .op (.enqueueDma ((arg6.slice (Rect.unit (s := S8x2048x2048) offA' S1x256x1024.size inbA') hr2).squeeze
              S256x1024 squeezes_S1x256x1024_S256x1024)
            (.here ((arg9.slice (Rect.unit (s := S8x2x256x1024) offD' S1x1x256x1024.size inbD') hr2').squeeze
              S256x1024 squeezes_S1x1x256x1024_S256x1024))
            (.dma ((arg16.slice (Rect.unit (s := S8) offS' S1.size inbS')).squeeze S_ squeezes_S1_S_).sem) hsrc' hdst' ht') k) Q) := by
  subst hS hD hA hS' hD' hA'
  unfold Idle Toks
  iintro ⟨⟨%f, Hf⟩, Hs, HA, HB0, HB1⟩ Hk
  ihave HB0' := (pointsTo_split_subset (Finset.subset_univ (w2M arg6 e b 0).view.set)).1 $$ HB0
  icases HB0' with ⟨HB0, HB0r⟩
  ihave HB1' := (pointsTo_split_subset (Finset.subset_univ (w2M arg6 e b 1).view.set)).1 $$ HB1
  icases HB1' with ⟨HB1, HB1r⟩
  ihave Hf' := (pointsTo_split_subset (half_subset arg9 s 1)).1 $$ Hf
  icases Hf' with ⟨Hf1, Hf0⟩
  imod (Transfers.batch_alloc' (Lvl := ℕ) EC (c : Thread nD τ) () (N2 arg9) (deliv2 arg6 arg9 c W2 s e b f)
    (sm := .dma (wsem arg16 s)) (E := Set.univ)) $$ Hs with HB
  iapply (Transfers.wp_dmaBatch EC 𝒱₀ (c : Thread nD τ) none (src := w2M arg6 e b 0) (dst := halfM arg9 s 0) () (N2 arg9) rfl
    (half_zero_subset arg9 s) (D := deliv2 arg6 arg9 c W2 s e b f) (j := 0) (u := 0) (by decide) (Nat.zero_le _)
    (by unfold deliv2; exact .rfl)) $$ [HB0 Hf0 HB]
  · isplitl [HB0]; · iexact HB0
    isplitl [Hf0]; · iexact Hf0
    iexact HB
  iintro HB
  iapply (Transfers.wp_dmaBatch EC 𝒱₀ (c : Thread nD τ) none (src := w2M arg6 e b 1) (dst := halfM arg9 s 1) () (N2 arg9) rfl
    subset_rfl (D := deliv2 arg6 arg9 c W2 s e b f) (j := 1) (u := 0) (by decide) (Nat.zero_le _)
    (by unfold deliv2; exact .rfl)) $$ [HB1 Hf1 HB]
  · isplitl [HB1]; · iexact HB1
    isplitl [Hf1]; · iexact Hf1
    iexact HB
  iintro HB
  iapply Hk
  unfold Fly2
  isplitl [HB]; · iexists f; iexact HB
  isplitl [HA]; · iexact HA
  isplitl [HB0r]; · iexact HB0r
  iexact HB1r

/-- Await both. -/
theorem wait2 (s : Fin 8) (e : Fin 8) (b : Fin 8) {offS offS' : Fin 1 → ℕ} (hS : offS = ![s.val]) (hS' : offS' = ![s.val])
    {inbS : ∀ a, offS a + S1.size a ≤ S8.size a} {inbS' : ∀ a, offS' a + S1.size a ≤ S8.size a} {offD offD' : Fin 4 → ℕ}
    {inbD : ∀ a, offD a + S1x1x256x1024.size a ≤ S8x2x256x1024.size a}
    {inbD' : ∀ a, offD' a + S1x1x256x1024.size a ≤ S8x2x256x1024.size a} {W : Waits sig Unit}
    {sp1 sp2 : Space} {s1 s2 : Shape} {e1 e2 : EltTy}
    {srcw : Memref sig .tc sp1 s1 e1} {srcw' : Memref sig .tc sp2 s2 e2} {hr hr' : _}
    {hsrc hdst hsrc' hdst' : _} {k : PUnit → Prog (TpuEff nD τ sig (Elt F) Λ₀ .tc) α} {Q : α → sProp 𝕄} :
    iprop(Fly2 arg4 arg6 arg9 arg16 c W1 W2 s e b ∗ owes (c : Thread nD τ) 0 W)
      ⊢ iprop((iprop(Loaded arg4 arg6 arg9 arg16 c W1 W2 s (blk2 arg6 W2 e b) ∗ (∃ W', owes (c : Thread nD τ) 0 W'))
          -∗ wp frame (wpE defs₀ 𝒱₀ (c : Thread nD τ) none) Set.univ (k ⟨⟩) Q)
        -∗ wp frame (wpE defs₀ 𝒱₀ (c : Thread nD τ) none) Set.univ
          (.op (.waitDma2 ((arg16.slice (Rect.unit (s := S8) offS S1.size inbS)).squeeze S_ squeezes_S1_S_).sem srcw
            ((arg9.slice (Rect.unit (s := S8x2x256x1024) offD S1x1x256x1024.size inbD) hr).squeeze
              S256x1024 squeezes_S1x1x256x1024_S256x1024) hsrc hdst) fun _ =>
           .op (.waitDma2 ((arg16.slice (Rect.unit (s := S8) offS' S1.size inbS')).squeeze S_ squeezes_S1_S_).sem srcw'
            ((arg9.slice (Rect.unit (s := S8x2x256x1024) offD' S1x1x256x1024.size inbD') hr').squeeze
              S256x1024 squeezes_S1x1x256x1024_S256x1024) hsrc' hdst') k) Q) := by
  subst hS hS'
  have hpos : 0 < N2 arg9 := (halfM arg9 0 0).view.dmaCredit_pos (by decide)
  unfold Fly2 Loaded Toks
  iintro ⟨⟨⟨%f, HF⟩, HA, HB0r, HB1r⟩, HO⟩ Hk
  iapply (Transfers.wp_waitBatch EC 𝒱₀ (c : Thread nD τ) none (n := 2) (hsrc := hsrc) (hdst := hdst) () (N := N2 arg9) (u := 0) rfl (by omega)) $$ [HF HO]
  · isplitl [HF]; · iexact HF
    iexact HO
  iintro ⟨HF, HO⟩
  iapply (Transfers.wp_waitBatchLast EC 𝒱₀ (c : Thread nD τ) none (n := 2) (hsrc := hsrc') (hdst := hdst') () (N := N2 arg9) (u := 0 + N2 arg9) rfl hpos (by omega)) $$ [HF HO]
  · isplitl [HF]; · iexact HF
    iexact HO
  iintro ⟨HD, Hs, HO⟩
  ihave HD' := (deliv2_split arg6 arg9 c W2 s e b f) $$ HD
  icases HD' with ⟨⟨Hf0, HB0⟩, Hf1, HB1⟩
  iapply Hk
  isplitr [HO]
  · isplitl [Hf0 Hf1]
    · iexists _
      isplitl [Hf0 Hf1]
      · iapply (pointsTo_join_subset (half_subset arg9 s 1))
        isplitl [Hf1]; · iexact Hf1
        iexact Hf0
      ipureintro
      intro i r k
      rcases (by omega : i.val = 0 ∨ i.val = 1) with h | h
      · obtain rfl : i = 0 := Fin.ext h
        rw [← w2_read, View.read_apply, Finset.piecewise_eq_of_notMem _ _ _ (not_mem_half_one arg9 s r k), ← View.read_apply (v := arg9.view),
          ← half_read, View.read_write_univ]
      · obtain rfl : i = 1 := Fin.ext h
        rw [← w2_read, View.read_apply, Finset.piecewise_eq_of_mem _ _ _ (mem_half_set arg9 s 1 r k), ← View.read_apply (v := arg9.view),
          ← half_read, View.read_write_univ]
    isplitl [Hs]; · iexact Hs
    isplitl [HA]; · iexact HA
    isplitl [HB0 HB0r]
    · iapply (pointsTo_split_subset (Finset.subset_univ (w2M arg6 e b 0).view.set)).2
      isplitl [HB0]; · iexact HB0
      iexact HB0r
    · iapply (pointsTo_split_subset (Finset.subset_univ (w2M arg6 e b 1).view.set)).2
      isplitl [HB1]; · iexact HB1
      iexact HB1r
  iexists _; iexact HO

end Cert.KernelIdeal.Own
-- ==== Proof.KernelIdeal.Scales.lean ====
/- The two scale buffers of the kernel, two slots each, one DMA semaphore per slot: a slot idle, in flight, loaded;
   and the rules that start and await the copies. -/
module

public import proofs.«01_k».proof.Proof.KernelIdeal.Ring

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UU nD τ) ℕ
local notation "EC" => countersEmb (U := UU nD τ)

theorem inb_sem2 (s : Fin 2) : ∀ a, (![s.val] : Fin 1 → ℕ) a + S1.size a ≤ S2.size a := by
  intro a; have := s.isLt; fin_cases a <;> simp [S1, S2] <;> omega
/-- The semaphore of slot `s` of a scale buffer. -/
abbrev ssem (sems : DmaSems sig S2) (s : Fin 2) : DmaSem sig :=
  ((sems.slice (Rect.unit (s := S2) ![s.val] S1.size (inb_sem2 s))).squeeze S_ squeezes_S1_S_).sem

section scalesFirst

variable (dstB : Memref sig .tc .vmem S2x16x8192 .bf16) (srcB : Memref sig .tc .hbm S8x16x8192 .bf16) (sems : DmaSems sig S2) (c : Dev nD)

theorem inb_dP (s : Fin 2) : ∀ a, (![s.val, 0, 0] : Fin 3 → ℕ) a + S1x16x8192.size a ≤ S2x16x8192.size a := by
  intro a; have := s.isLt; fin_cases a <;> simp [S1x16x8192, S2x16x8192] <;> omega
theorem inb_sP (e : Fin 8) : ∀ a, (![e.val, 0, 0] : Fin 3 → ℕ) a + S1x16x8192.size a ≤ S8x16x8192.size a := by
  intro a; have := e.isLt; fin_cases a <;> simp [S1x16x8192, S8x16x8192] <;> omega

/-- Slot `s` of the scale buffer. -/
abbrev dMP (s : Fin 2) : Memref sig .tc .vmem S16x8192 .bf16 :=
  (dstB.slice (Rect.unit (s := S2x16x8192) ![s.val, 0, 0] S1x16x8192.size (inb_dP s)) (fun _ => rfl)).squeeze S16x8192 squeezes_S1x16x8192_S16x8192
/-- The scales of expert `e`. -/
abbrev sMP (e : Fin 8) : Memref sig .tc .hbm S16x8192 .bf16 :=
  (srcB.slice (Rect.unit (s := S8x16x8192) ![e.val, 0, 0] S1x16x8192.size (inb_sP e)) (fun _ => rfl)).squeeze S16x8192 squeezes_S1x16x8192_S16x8192

theorem dP_emb (s : Fin 2) (g : Fin 16) (k : Fin 8192) : (dMP dstB s).view.emb (ix2 g k) = dstB.view.emb (ix3 s g k) := by
  show dstB.view.emb ((Rect.unit (s := S2x16x8192) ![s.val, 0, 0] S1x16x8192.size (inb_dP s)).emb (Shape.reshapeEquiv _ (ix2 g k))) = _
  congr 1
  rw [show Shape.reshapeEquiv (s := S1x16x8192) (s' := S16x8192) squeezes_S1x16x8192_S16x8192.numel_eq (ix2 g k)
      = Fin.cons ⟨0, Nat.one_pos⟩ (ix2 g k) from Shape.reshapeEquiv_cons_one _ _]
  funext a; apply Fin.ext; rw [Rect.emb_apply]
  fin_cases a <;> simp [ix3, ix2] <;> rfl

theorem sP_emb (e : Fin 8) (g : Fin 16) (k : Fin 8192) : (sMP srcB e).view.emb (ix2 g k) = srcB.view.emb (ix3 e g k) := by
  show srcB.view.emb ((Rect.unit (s := S8x16x8192) ![e.val, 0, 0] S1x16x8192.size (inb_sP e)).emb (Shape.reshapeEquiv _ (ix2 g k))) = _
  congr 1
  rw [show Shape.reshapeEquiv (s := S1x16x8192) (s' := S16x8192) squeezes_S1x16x8192_S16x8192.numel_eq (ix2 g k)
      = Fin.cons ⟨0, Nat.one_pos⟩ (ix2 g k) from Shape.reshapeEquiv_cons_one _ _]
  funext a; apply Fin.ext; rw [Rect.emb_apply]
  fin_cases a <;> simp [ix3, ix2] <;> rfl

theorem mem_dP_set (s : Fin 2) (g : Fin 16) (k : Fin 8192) : dstB.view.emb (ix3 s g k) ∈ (dMP dstB s).view.set := by
  rw [← dP_emb]; exact Finset.mem_map_of_mem _ (Finset.mem_univ _)

theorem dP_read (s : Fin 2) (g : Fin 16) (k : Fin 8192) (f : dstB.view.ty.Contents (Elt F)) :
    (dMP dstB s).view.read (Elt F) f (ix2 g k) = dstB.view.read (Elt F) f (ix3 s g k) := by
  rw [View.read_apply, View.read_apply]
  exact congrArg (fun x => _root_.cast _ (f x)) (dP_emb dstB s g k)

/-- The scales of expert `e`, read off the array. -/
def scP (V : srcB.view.ty.Contents (Elt F)) (e : Fin 8) : Fin 16 → Fin 8192 → Elt F .bf16 :=
  fun g k => srcB.view.read (Elt F) V (ix3 e g k)

theorem sP_read (V : srcB.view.ty.Contents (Elt F)) (e : Fin 8) (g : Fin 16) (k : Fin 8192) :
    (sMP srcB e).view.read (Elt F) V (ix2 g k) = scP srcB V e g k := by
  unfold scP; rw [View.read_apply, View.read_apply]
  exact congrArg (fun x => _root_.cast _ (V x)) (sP_emb srcB e g k)

variable (V : Buf (Elt F) (srcB.view.loc (c : Thread nD τ)))

/-- The share of the scales slot `s` copies with. -/
abbrev tokP (s : Fin 2) : PosShare TreeShare := Transfers.shareTok fullShare 2 s

/-- An idle slot. -/
def SIdleP (s : Fin 2) : sProp 𝕄 :=
  iprop((∃ f, (dMP dstB s).view.loc (c : Thread nD τ) ↦[(dMP dstB s).view.set]{fullShare} f)
    ∗ semVal ((c : Thread nD τ), SemLoc.dma (ssem sems s)) 0 ∗ (srcB.view.loc (c : Thread nD τ) ↦{tokP s} V))

/-- A slot holding the scales `G`. -/
def SLoadedP (s : Fin 2) (G : Fin 16 → Fin 8192 → Elt F .bf16) : sProp 𝕄 :=
  iprop((∃ f, ((dMP dstB s).view.loc (c : Thread nD τ) ↦[(dMP dstB s).view.set]{fullShare} f)
      ∗ ⌜∀ g k, dstB.view.read (Elt F) f (ix3 s g k) = G g k⌝)
    ∗ semVal ((c : Thread nD τ), SemLoc.dma (ssem sems s)) 0 ∗ (srcB.view.loc (c : Thread nD τ) ↦{tokP s} V))

theorem SLoadedP_idle (s : Fin 2) (G : Fin 16 → Fin 8192 → Elt F .bf16) : SLoadedP dstB srcB sems c V s G ⊢ SIdleP dstB srcB sems c V s := by
  unfold SLoadedP SIdleP
  iintro ⟨⟨%f, Hf, -⟩, Hs, Ht⟩
  isplitl [Hf]; · iexists f; iexact Hf
  isplitl [Hs]; · iexact Hs
  iexact Ht

/-- The copy of expert `e`'s scales into slot `s` under way. -/
def SFlyP (s : Fin 2) (e : Fin 8) : sProp 𝕄 :=
  iprop((∃ f, Transfers.Flight EC (c : Thread nD τ) (.dma (ssem sems s)) () (dMP dstB s).view.dmaCredit
      iprop(((dMP dstB s).view.loc (c : Thread nD τ) ↦[(dMP dstB s).view.set]{fullShare}
          ((dMP dstB s).view.write (Elt F) f (ReadAs.same.apply ((sMP srcB e).view.read (Elt F) V)) Finset.univ))
        ∗ ((sMP srcB e).view.loc (c : Thread nD τ) ↦[(sMP srcB e).view.set]{tokP s} V)))
    ∗ (srcB.view.loc (c : Thread nD τ) ↦[Finset.univ \ (sMP srcB e).view.set]{tokP s} V))

variable {α : Type}

theorem sstartP (s : Fin 2) (e : Fin 8) {offS : Fin 1 → ℕ} {offD offA : Fin 3 → ℕ}
    (hS : offS = ![s.val]) (hD : offD = ![s.val, 0, 0]) (hA : offA = ![e.val, 0, 0])
    {inbS : ∀ a, offS a + S1.size a ≤ S2.size a} {inbD : ∀ a, offD a + S1x16x8192.size a ≤ S2x16x8192.size a}
    {inbA : ∀ a, offA a + S1x16x8192.size a ≤ S8x16x8192.size a}
    {hr hr' : _} {hsrc hdst ht : _} {k : PUnit → Prog (TpuEff nD τ sig (Elt F) Λ₀ .tc) α} {Q : α → sProp 𝕄} :
    SIdleP dstB srcB sems c V s
      ⊢ iprop((SFlyP dstB srcB sems c V s e -∗ wp frame (wpE defs₀ 𝒱₀ (c : Thread nD τ) none) Set.univ (k ⟨⟩) Q)
        -∗ wp frame (wpE defs₀ 𝒱₀ (c : Thread nD τ) none) Set.univ
          (.op (.enqueueDma ((srcB.slice (Rect.unit (s := S8x16x8192) offA S1x16x8192.size inbA) hr).squeeze S16x8192 squeezes_S1x16x8192_S16x8192)
            (.here ((dstB.slice (Rect.unit (s := S2x16x8192) offD S1x16x8192.size inbD) hr').squeeze S16x8192 squeezes_S1x16x8192_S16x8192))
            (.dma ((sems.slice (Rect.unit (s := S2) offS S1.size inbS)).squeeze S_ squeezes_S1_S_).sem) hsrc hdst ht) k) Q) := by
  subst hS hD hA
  unfold SIdleP
  iintro ⟨⟨%f, Hf⟩, Hs, HA⟩ Hk
  ihave HA' := (pointsTo_split_subset (Finset.subset_univ (sMP srcB e).view.set)).1 $$ HA
  icases HA' with ⟨HA, HAr⟩
  iapply (Transfers.wp_dmaLocal EC 𝒱₀ (c : Thread nD τ) none (src := sMP srcB e) (dst := dMP dstB s) ()
    (dMP dstB s).view.dmaCredit rfl ((dMP dstB s).view.dmaCredit_pos (by decide)) subset_rfl) $$ [HA Hf Hs]
  · isplitl [HA]; · iexact HA
    isplitl [Hf]; · iexact Hf
    iexact Hs
  iintro HF
  iapply Hk
  unfold SFlyP
  isplitl [HF]; · iexists f; iexact HF
  iexact HAr

theorem swaitP (s : Fin 2) (e : Fin 8) {offS : Fin 1 → ℕ} (hS : offS = ![s.val])
    {inbS : ∀ a, offS a + S1.size a ≤ S2.size a} {offD : Fin 3 → ℕ}
    {inbD : ∀ a, offD a + S1x16x8192.size a ≤ S2x16x8192.size a} {W : Waits sig Unit} {sp' : Space} {s' : Shape} {e' : EltTy}
    {srcw : Memref sig .tc sp' s' e'} {hr' : _}
    {hsrc hdst : _} {k : PUnit → Prog (TpuEff nD τ sig (Elt F) Λ₀ .tc) α} {Q : α → sProp 𝕄} :
    iprop(SFlyP dstB srcB sems c V s e ∗ owes (c : Thread nD τ) 0 W)
      ⊢ iprop((iprop(SLoadedP dstB srcB sems c V s (scP srcB V e) ∗ (∃ W', owes (c : Thread nD τ) 0 W'))
          -∗ wp frame (wpE defs₀ 𝒱₀ (c : Thread nD τ) none) Set.univ (k ⟨⟩) Q)
        -∗ wp frame (wpE defs₀ 𝒱₀ (c : Thread nD τ) none) Set.univ
          (.op (.waitDma2 ((sems.slice (Rect.unit (s := S2) offS S1.size inbS)).squeeze S_ squeezes_S1_S_).sem srcw
            ((dstB.slice (Rect.unit (s := S2x16x8192) offD S1x16x8192.size inbD) hr').squeeze S16x8192 squeezes_S1x16x8192_S16x8192) hsrc hdst) k) Q) := by
  subst hS
  unfold SFlyP SLoadedP
  iintro ⟨⟨⟨%f, HF⟩, HAr⟩, HO⟩ Hk
  iapply (Transfers.wp_waitLocal EC 𝒱₀ (c : Thread nD τ) none (hsrc := hsrc) (hdst := hdst) ()
    (N := (dMP dstB s).view.dmaCredit) rfl) $$ [HF HO]
  · isplitl [HF]; · iexact HF
    iexact HO
  iintro ⟨⟨Hf, HA⟩, Hs, HO⟩
  iapply Hk
  isplitr [HO]
  · isplitl [Hf]
    · iexists _
      isplitl [Hf]; · iexact Hf
      ipureintro
      intro g k
      rw [← dP_read, View.read_write_univ]
      exact sP_read srcB V e g k
    isplitl [Hs]; · iexact Hs
    iapply (pointsTo_split_subset (Finset.subset_univ (sMP srcB e).view.set)).2
    isplitl [HA]; · iexact HA
    iexact HAr
  iexists _; iexact HO

end scalesFirst

section scalesSecond

variable (dstB : Memref sig .tc .vmem S2x32x2048 .bf16) (srcB : Memref sig .tc .hbm S8x32x2048 .bf16) (sems : DmaSems sig S2) (c : Dev nD)

theorem inb_dQ (s : Fin 2) : ∀ a, (![s.val, 0, 0] : Fin 3 → ℕ) a + S1x32x2048.size a ≤ S2x32x2048.size a := by
  intro a; have := s.isLt; fin_cases a <;> simp [S1x32x2048, S2x32x2048] <;> omega
theorem inb_sQ (e : Fin 8) : ∀ a, (![e.val, 0, 0] : Fin 3 → ℕ) a + S1x32x2048.size a ≤ S8x32x2048.size a := by
  intro a; have := e.isLt; fin_cases a <;> simp [S1x32x2048, S8x32x2048] <;> omega

/-- Slot `s` of the scale buffer. -/
abbrev dMQ (s : Fin 2) : Memref sig .tc .vmem S32x2048 .bf16 :=
  (dstB.slice (Rect.unit (s := S2x32x2048) ![s.val, 0, 0] S1x32x2048.size (inb_dQ s)) (fun _ => rfl)).squeeze S32x2048 squeezes_S1x32x2048_S32x2048
/-- The scales of expert `e`. -/
abbrev sMQ (e : Fin 8) : Memref sig .tc .hbm S32x2048 .bf16 :=
  (srcB.slice (Rect.unit (s := S8x32x2048) ![e.val, 0, 0] S1x32x2048.size (inb_sQ e)) (fun _ => rfl)).squeeze S32x2048 squeezes_S1x32x2048_S32x2048

theorem dQ_emb (s : Fin 2) (g : Fin 32) (k : Fin 2048) : (dMQ dstB s).view.emb (ix2 g k) = dstB.view.emb (ix3 s g k) := by
  show dstB.view.emb ((Rect.unit (s := S2x32x2048) ![s.val, 0, 0] S1x32x2048.size (inb_dQ s)).emb (Shape.reshapeEquiv _ (ix2 g k))) = _
  congr 1
  rw [show Shape.reshapeEquiv (s := S1x32x2048) (s' := S32x2048) squeezes_S1x32x2048_S32x2048.numel_eq (ix2 g k)
      = Fin.cons ⟨0, Nat.one_pos⟩ (ix2 g k) from Shape.reshapeEquiv_cons_one _ _]
  funext a; apply Fin.ext; rw [Rect.emb_apply]
  fin_cases a <;> simp [ix3, ix2] <;> rfl

theorem sQ_emb (e : Fin 8) (g : Fin 32) (k : Fin 2048) : (sMQ srcB e).view.emb (ix2 g k) = srcB.view.emb (ix3 e g k) := by
  show srcB.view.emb ((Rect.unit (s := S8x32x2048) ![e.val, 0, 0] S1x32x2048.size (inb_sQ e)).emb (Shape.reshapeEquiv _ (ix2 g k))) = _
  congr 1
  rw [show Shape.reshapeEquiv (s := S1x32x2048) (s' := S32x2048) squeezes_S1x32x2048_S32x2048.numel_eq (ix2 g k)
      = Fin.cons ⟨0, Nat.one_pos⟩ (ix2 g k) from Shape.reshapeEquiv_cons_one _ _]
  funext a; apply Fin.ext; rw [Rect.emb_apply]
  fin_cases a <;> simp [ix3, ix2] <;> rfl

theorem mem_dQ_set (s : Fin 2) (g : Fin 32) (k : Fin 2048) : dstB.view.emb (ix3 s g k) ∈ (dMQ dstB s).view.set := by
  rw [← dQ_emb]; exact Finset.mem_map_of_mem _ (Finset.mem_univ _)

theorem dQ_read (s : Fin 2) (g : Fin 32) (k : Fin 2048) (f : dstB.view.ty.Contents (Elt F)) :
    (dMQ dstB s).view.read (Elt F) f (ix2 g k) = dstB.view.read (Elt F) f (ix3 s g k) := by
  rw [View.read_apply, View.read_apply]
  exact congrArg (fun x => _root_.cast _ (f x)) (dQ_emb dstB s g k)

/-- The scales of expert `e`, read off the array. -/
def scQ (V : srcB.view.ty.Contents (Elt F)) (e : Fin 8) : Fin 32 → Fin 2048 → Elt F .bf16 :=
  fun g k => srcB.view.read (Elt F) V (ix3 e g k)

theorem sQ_read (V : srcB.view.ty.Contents (Elt F)) (e : Fin 8) (g : Fin 32) (k : Fin 2048) :
    (sMQ srcB e).view.read (Elt F) V (ix2 g k) = scQ srcB V e g k := by
  unfold scQ; rw [View.read_apply, View.read_apply]
  exact congrArg (fun x => _root_.cast _ (V x)) (sQ_emb srcB e g k)

variable (V : Buf (Elt F) (srcB.view.loc (c : Thread nD τ)))

/-- The share of the scales slot `s` copies with. -/
abbrev tokQ (s : Fin 2) : PosShare TreeShare := Transfers.shareTok fullShare 2 s

/-- An idle slot. -/
def SIdleQ (s : Fin 2) : sProp 𝕄 :=
  iprop((∃ f, (dMQ dstB s).view.loc (c : Thread nD τ) ↦[(dMQ dstB s).view.set]{fullShare} f)
    ∗ semVal ((c : Thread nD τ), SemLoc.dma (ssem sems s)) 0 ∗ (srcB.view.loc (c : Thread nD τ) ↦{tokQ s} V))

/-- A slot holding the scales `G`. -/
def SLoadedQ (s : Fin 2) (G : Fin 32 → Fin 2048 → Elt F .bf16) : sProp 𝕄 :=
  iprop((∃ f, ((dMQ dstB s).view.loc (c : Thread nD τ) ↦[(dMQ dstB s).view.set]{fullShare} f)
      ∗ ⌜∀ g k, dstB.view.read (Elt F) f (ix3 s g k) = G g k⌝)
    ∗ semVal ((c : Thread nD τ), SemLoc.dma (ssem sems s)) 0 ∗ (srcB.view.loc (c : Thread nD τ) ↦{tokQ s} V))

theorem SLoadedQ_idle (s : Fin 2) (G : Fin 32 → Fin 2048 → Elt F .bf16) : SLoadedQ dstB srcB sems c V s G ⊢ SIdleQ dstB srcB sems c V s := by
  unfold SLoadedQ SIdleQ
  iintro ⟨⟨%f, Hf, -⟩, Hs, Ht⟩
  isplitl [Hf]; · iexists f; iexact Hf
  isplitl [Hs]; · iexact Hs
  iexact Ht

/-- The copy of expert `e`'s scales into slot `s` under way. -/
def SFlyQ (s : Fin 2) (e : Fin 8) : sProp 𝕄 :=
  iprop((∃ f, Transfers.Flight EC (c : Thread nD τ) (.dma (ssem sems s)) () (dMQ dstB s).view.dmaCredit
      iprop(((dMQ dstB s).view.loc (c : Thread nD τ) ↦[(dMQ dstB s).view.set]{fullShare}
          ((dMQ dstB s).view.write (Elt F) f (ReadAs.same.apply ((sMQ srcB e).view.read (Elt F) V)) Finset.univ))
        ∗ ((sMQ srcB e).view.loc (c : Thread nD τ) ↦[(sMQ srcB e).view.set]{tokQ s} V)))
    ∗ (srcB.view.loc (c : Thread nD τ) ↦[Finset.univ \ (sMQ srcB e).view.set]{tokQ s} V))

variable {α : Type}

theorem sstartQ (s : Fin 2) (e : Fin 8) {offS : Fin 1 → ℕ} {offD offA : Fin 3 → ℕ}
    (hS : offS = ![s.val]) (hD : offD = ![s.val, 0, 0]) (hA : offA = ![e.val, 0, 0])
    {inbS : ∀ a, offS a + S1.size a ≤ S2.size a} {inbD : ∀ a, offD a + S1x32x2048.size a ≤ S2x32x2048.size a}
    {inbA : ∀ a, offA a + S1x32x2048.size a ≤ S8x32x2048.size a}
    {hr hr' : _} {hsrc hdst ht : _} {k : PUnit → Prog (TpuEff nD τ sig (Elt F) Λ₀ .tc) α} {Q : α → sProp 𝕄} :
    SIdleQ dstB srcB sems c V s
      ⊢ iprop((SFlyQ dstB srcB sems c V s e -∗ wp frame (wpE defs₀ 𝒱₀ (c : Thread nD τ) none) Set.univ (k ⟨⟩) Q)
        -∗ wp frame (wpE defs₀ 𝒱₀ (c : Thread nD τ) none) Set.univ
          (.op (.enqueueDma ((srcB.slice (Rect.unit (s := S8x32x2048) offA S1x32x2048.size inbA) hr).squeeze S32x2048 squeezes_S1x32x2048_S32x2048)
            (.here ((dstB.slice (Rect.unit (s := S2x32x2048) offD S1x32x2048.size inbD) hr').squeeze S32x2048 squeezes_S1x32x2048_S32x2048))
            (.dma ((sems.slice (Rect.unit (s := S2) offS S1.size inbS)).squeeze S_ squeezes_S1_S_).sem) hsrc hdst ht) k) Q) := by
  subst hS hD hA
  unfold SIdleQ
  iintro ⟨⟨%f, Hf⟩, Hs, HA⟩ Hk
  ihave HA' := (pointsTo_split_subset (Finset.subset_univ (sMQ srcB e).view.set)).1 $$ HA
  icases HA' with ⟨HA, HAr⟩
  iapply (Transfers.wp_dmaLocal EC 𝒱₀ (c : Thread nD τ) none (src := sMQ srcB e) (dst := dMQ dstB s) ()
    (dMQ dstB s).view.dmaCredit rfl ((dMQ dstB s).view.dmaCredit_pos (by decide)) subset_rfl) $$ [HA Hf Hs]
  · isplitl [HA]; · iexact HA
    isplitl [Hf]; · iexact Hf
    iexact Hs
  iintro HF
  iapply Hk
  unfold SFlyQ
  isplitl [HF]; · iexists f; iexact HF
  iexact HAr

theorem swaitQ (s : Fin 2) (e : Fin 8) {offS : Fin 1 → ℕ} (hS : offS = ![s.val])
    {inbS : ∀ a, offS a + S1.size a ≤ S2.size a} {offD : Fin 3 → ℕ}
    {inbD : ∀ a, offD a + S1x32x2048.size a ≤ S2x32x2048.size a} {W : Waits sig Unit} {sp' : Space} {s' : Shape} {e' : EltTy}
    {srcw : Memref sig .tc sp' s' e'} {hr' : _}
    {hsrc hdst : _} {k : PUnit → Prog (TpuEff nD τ sig (Elt F) Λ₀ .tc) α} {Q : α → sProp 𝕄} :
    iprop(SFlyQ dstB srcB sems c V s e ∗ owes (c : Thread nD τ) 0 W)
      ⊢ iprop((iprop(SLoadedQ dstB srcB sems c V s (scQ srcB V e) ∗ (∃ W', owes (c : Thread nD τ) 0 W'))
          -∗ wp frame (wpE defs₀ 𝒱₀ (c : Thread nD τ) none) Set.univ (k ⟨⟩) Q)
        -∗ wp frame (wpE defs₀ 𝒱₀ (c : Thread nD τ) none) Set.univ
          (.op (.waitDma2 ((sems.slice (Rect.unit (s := S2) offS S1.size inbS)).squeeze S_ squeezes_S1_S_).sem srcw
            ((dstB.slice (Rect.unit (s := S2x32x2048) offD S1x32x2048.size inbD) hr').squeeze S32x2048 squeezes_S1x32x2048_S32x2048) hsrc hdst) k) Q) := by
  subst hS
  unfold SFlyQ SLoadedQ
  iintro ⟨⟨⟨%f, HF⟩, HAr⟩, HO⟩ Hk
  iapply (Transfers.wp_waitLocal EC 𝒱₀ (c : Thread nD τ) none (hsrc := hsrc) (hdst := hdst) ()
    (N := (dMQ dstB s).view.dmaCredit) rfl) $$ [HF HO]
  · isplitl [HF]; · iexact HF
    iexact HO
  iintro ⟨⟨Hf, HA⟩, Hs, HO⟩
  iapply Hk
  isplitr [HO]
  · isplitl [Hf]
    · iexists _
      isplitl [Hf]; · iexact Hf
      ipureintro
      intro g k
      rw [← dQ_read, View.read_write_univ]
      exact sQ_read srcB V e g k
    isplitl [Hs]; · iexact Hs
    iapply (pointsTo_split_subset (Finset.subset_univ (sMQ srcB e).view.set)).2
    isplitl [HA]; · iexact HA
    iexact HAr
  iexists _; iexact HO

end scalesSecond

end Cert.KernelIdeal.Own
-- ==== Proof.KernelIdeal.Words.lean ====
/- The kernel's index words: what each offset, condition and check of its loops is as a number. -/
module

public import proofs.«01_k».proof.Proof.KernelIdeal.Ring

@[expose] public section

namespace Cert.KernelIdeal.Own

open Cert.KernelIdeal Cert.KernelIdeal.Gen
open Idealize.ShloMosaic

/-! ## The set bits of a mask -/

/-- How many of the experts below `j` the mask names. -/
def cntN (m j : ℕ) : ℕ := ((List.range j).filter fun i => m.testBit i).length
/-- How many experts the mask names. -/
abbrev popN (m : ℕ) : ℕ := cntN m 8
/-- The `p`-th expert the mask names. -/
def nthN (m p : ℕ) : ℕ := ((List.range 8).filter fun i => m.testBit i).getD p 0

/-- The number of active experts, as the kernel counts it. -/
def popW (v3 : BitVec 32) : BitVec 32 :=
  Scalar.addi (Scalar.addi (Scalar.addi (Scalar.addi (Scalar.addi (Scalar.addi (Scalar.addi (Scalar.addi 0#32 (Scalar.andi (Scalar.shrsi v3 0#32) 1#32)) (Scalar.andi (Scalar.shrsi v3 1#32) 1#32)) (Scalar.andi (Scalar.shrsi v3 2#32) 1#32)) (Scalar.andi (Scalar.shrsi v3 3#32) 1#32)) (Scalar.andi (Scalar.shrsi v3 4#32) 1#32)) (Scalar.andi (Scalar.shrsi v3 5#32) 1#32)) (Scalar.andi (Scalar.shrsi v3 6#32) 1#32)) (Scalar.andi (Scalar.shrsi v3 7#32) 1#32)

theorem popW_eq : ∀ m : Fin 256, popW (BitVec.ofNat 32 m.val) = BitVec.ofNat 32 (popN m.val) := by decide +kernel
theorem popN_le : ∀ m : Fin 256, popN m.val ≤ 8 := by decide +kernel
theorem nthN_lt : ∀ m : Fin 256, ∀ p : Fin 8, nthN m.val p.val < 8 := by decide +kernel
theorem trips3_eq : ∀ m : Fin 256, (k0_t3_loop (BitVec.ofNat 32 m.val)).trips = popN m.val := by decide +kernel
theorem trips6_eq : ∀ m : Fin 256, (k0_t6_loop (BitVec.ofNat 32 m.val)).trips = 0 := by decide +kernel
theorem ok3 : ∀ m : Fin 256, (k0_t3_loop (BitVec.ofNat 32 m.val)).OK := by decide +kernel
theorem ok6 : ∀ m : Fin 256, (k0_t6_loop (BitVec.ofNat 32 m.val)).OK := by decide +kernel
theorem trips4 : k0_t4_loop.trips = 16 := by decide
theorem trips5 : k0_t5_loop.trips = 8 := by decide

theorem off3_eq : ∀ m : Fin 256, k0_off3 (BitVec.ofNat 32 m.val) = ![cntN m.val 1] := by decide +kernel
theorem off4_eq : ∀ m : Fin 256, k0_off4 (BitVec.ofNat 32 m.val) = ![cntN m.val 2] := by decide +kernel
theorem off5_eq : ∀ m : Fin 256, k0_off5 (BitVec.ofNat 32 m.val) = ![cntN m.val 3] := by decide +kernel
theorem off6_eq : ∀ m : Fin 256, k0_off6 (BitVec.ofNat 32 m.val) = ![cntN m.val 4] := by decide +kernel
theorem off7_eq : ∀ m : Fin 256, k0_off7 (BitVec.ofNat 32 m.val) = ![cntN m.val 5] := by decide +kernel
theorem off8_eq : ∀ m : Fin 256, k0_off8 (BitVec.ofNat 32 m.val) = ![cntN m.val 6] := by decide +kernel
theorem off9_eq : ∀ m : Fin 256, k0_off9 (BitVec.ofNat 32 m.val) = ![cntN m.val 7] := by decide +kernel
theorem cntN_le : ∀ m : Fin 256, ∀ j : Fin 9, cntN m.val j.val ≤ j.val := by decide +kernel

/-- The last store of the list of active experts at position `p`. -/
def lastW (m p d : ℕ) : ℕ :=
  if p = cntN m 7 then 7 else if p = cntN m 6 then 6 else if p = cntN m 5 then 5 else if p = cntN m 4 then 4
  else if p = cntN m 3 then 3 else if p = cntN m 2 then 2 else if p = cntN m 1 then 1 else if p = 0 then 0 else d
theorem lastW_eq : ∀ m : Fin 256, ∀ p : Fin 8, p.val < popN m.val → lastW m.val p.val 99 = nthN m.val p.val := by decide +kernel

/-! ## The words of a chunk number -/

abbrev q4 (a b : ℕ) : BitVec 32 := Scalar.addi (Scalar.muli (Scf.iv 0#32 1#32 a) 24#32) (Scf.iv 0#32 1#32 b)
abbrev q5 (a b : ℕ) : BitVec 32 := Scalar.addi (Scalar.addi (Scalar.muli (Scf.iv 0#32 1#32 a) 24#32) 16#32) (Scf.iv 0#32 1#32 b)
abbrev pf (q : BitVec 32) : BitVec 32 := Scalar.subi (Scalar.addi q 8#32) 1#32
abbrev lt16 (q : BitVec 32) : BitVec 1 := Scalar.cmpi .ne (Scalar.extui (Scalar.cmpi .slt (Scalar.remsi q 24#32) 16#32)) 0#32
abbrev ge16 (q : BitVec 32) : BitVec 1 := Scalar.cmpi .ne (Scalar.extui (Scalar.cmpi .sge (Scalar.remsi q 24#32) 16#32)) 0#32

theorem q4_r8 : ∀ a : Fin 8, ∀ b : Fin 16, (Scalar.remsi (q4 a.val b.val) 8#32).toNat = (24 * a.val + b.val) % 8 := by decide +kernel
theorem q4_d : ∀ a : Fin 8, ∀ b : Fin 16, (Scalar.divsi (q4 a.val b.val) 24#32).toNat = a.val := by decide +kernel
theorem q4_r24 : ∀ a : Fin 8, ∀ b : Fin 16, (Scalar.remsi (q4 a.val b.val) 24#32).toNat = 0 + b.val := by decide +kernel
theorem q4_lt : ∀ a : Fin 8, ∀ b : Fin 16, lt16 (q4 a.val b.val) = 1#1 := by decide +kernel
theorem q4_ge : ∀ a : Fin 8, ∀ b : Fin 16, ge16 (q4 a.val b.val) = 0#1 := by decide +kernel
theorem q4_pr8 : ∀ a : Fin 8, ∀ b : Fin 16, (Scalar.remsi (pf (q4 a.val b.val)) 8#32).toNat = ((24 * a.val + b.val) + 7) % 8 := by decide +kernel
theorem q4_pd : ∀ a : Fin 8, ∀ b : Fin 16, (Scalar.divsi (pf (q4 a.val b.val)) 24#32).toNat = ((24 * a.val + b.val) + 7) / 24 := by decide +kernel
theorem q4_p256 : ∀ a : Fin 8, ∀ b : Fin 16, ((24 * a.val + b.val) + 7) % 24 < 16 → (Scalar.muli (Scalar.remsi (pf (q4 a.val b.val)) 24#32) 256#32).toNat = ((24 * a.val + b.val) + 7) % 24 * 256 := by decide +kernel
theorem q4_p256' : ∀ a : Fin 8, ∀ b : Fin 16, 16 ≤ ((24 * a.val + b.val) + 7) % 24 → (Scalar.muli (Scalar.subi (Scalar.remsi (pf (q4 a.val b.val)) 24#32) 16#32) 256#32).toNat = (((24 * a.val + b.val) + 7) % 24 - 16) * 256 := by decide +kernel
theorem q4_m256 : ∀ a : Fin 8, ∀ b : Fin 16, 256 ∣ (Scalar.muli (Scalar.remsi (q4 a.val b.val) 24#32) 256#32).toNat ∧ 256 ∣ (Scalar.muli (Scalar.subi (Scalar.remsi (q4 a.val b.val) 24#32) 16#32) 256#32).toNat
    ∧ 256 ∣ (Scalar.muli (Scalar.remsi (pf (q4 a.val b.val)) 24#32) 256#32).toNat ∧ 256 ∣ (Scalar.muli (Scalar.subi (Scalar.remsi (pf (q4 a.val b.val)) 24#32) 16#32) 256#32).toNat := by decide +kernel
theorem q4_plt : ∀ a : Fin 8, ∀ b : Fin 16, lt16 (pf (q4 a.val b.val)) = if ((24 * a.val + b.val) + 7) % 24 < 16 then 1#1 else 0#1 := by decide +kernel
theorem q4_pge : ∀ a : Fin 8, ∀ b : Fin 16, ge16 (pf (q4 a.val b.val)) = if ((24 * a.val + b.val) + 7) % 24 < 16 then 0#1 else 1#1 := by decide +kernel
theorem q4_more : ∀ a : Fin 8, ∀ b : Fin 16, ∀ p : Fin 9, Scalar.cmpi .ne (Scalar.extui (Scalar.cmpi .slt (pf (q4 a.val b.val)) (Scalar.muli (BitVec.ofNat 32 p.val) 24#32))) 0#32
    = if (24 * a.val + b.val) + 7 < 24 * p.val then 1#1 else 0#1 := by decide +kernel
theorem q4_c256 : ∀ b : Fin 16, (Scalar.muli (Scf.iv 0#32 1#32 b.val) 256#32).toNat = b.val * 256 := by decide +kernel
theorem q5_r8 : ∀ a : Fin 8, ∀ b : Fin 8, (Scalar.remsi (q5 a.val b.val) 8#32).toNat = (24 * a.val + 16 + b.val) % 8 := by decide +kernel
theorem q5_d : ∀ a : Fin 8, ∀ b : Fin 8, (Scalar.divsi (q5 a.val b.val) 24#32).toNat = a.val := by decide +kernel
theorem q5_r24 : ∀ a : Fin 8, ∀ b : Fin 8, (Scalar.remsi (q5 a.val b.val) 24#32).toNat = 16 + b.val := by decide +kernel
theorem q5_lt : ∀ a : Fin 8, ∀ b : Fin 8, lt16 (q5 a.val b.val) = 0#1 := by decide +kernel
theorem q5_ge : ∀ a : Fin 8, ∀ b : Fin 8, ge16 (q5 a.val b.val) = 1#1 := by decide +kernel
theorem q5_pr8 : ∀ a : Fin 8, ∀ b : Fin 8, (Scalar.remsi (pf (q5 a.val b.val)) 8#32).toNat = ((24 * a.val + 16 + b.val) + 7) % 8 := by decide +kernel
theorem q5_pd : ∀ a : Fin 8, ∀ b : Fin 8, (Scalar.divsi (pf (q5 a.val b.val)) 24#32).toNat = ((24 * a.val + 16 + b.val) + 7) / 24 := by decide +kernel
theorem q5_p256 : ∀ a : Fin 8, ∀ b : Fin 8, ((24 * a.val + 16 + b.val) + 7) % 24 < 16 → (Scalar.muli (Scalar.remsi (pf (q5 a.val b.val)) 24#32) 256#32).toNat = ((24 * a.val + 16 + b.val) + 7) % 24 * 256 := by decide +kernel
theorem q5_p256' : ∀ a : Fin 8, ∀ b : Fin 8, 16 ≤ ((24 * a.val + 16 + b.val) + 7) % 24 → (Scalar.muli (Scalar.subi (Scalar.remsi (pf (q5 a.val b.val)) 24#32) 16#32) 256#32).toNat = (((24 * a.val + 16 + b.val) + 7) % 24 - 16) * 256 := by decide +kernel
theorem q5_m256 : ∀ a : Fin 8, ∀ b : Fin 8, 256 ∣ (Scalar.muli (Scalar.remsi (q5 a.val b.val) 24#32) 256#32).toNat ∧ 256 ∣ (Scalar.muli (Scalar.subi (Scalar.remsi (q5 a.val b.val) 24#32) 16#32) 256#32).toNat
    ∧ 256 ∣ (Scalar.muli (Scalar.remsi (pf (q5 a.val b.val)) 24#32) 256#32).toNat ∧ 256 ∣ (Scalar.muli (Scalar.subi (Scalar.remsi (pf (q5 a.val b.val)) 24#32) 16#32) 256#32).toNat := by decide +kernel
theorem q5_plt : ∀ a : Fin 8, ∀ b : Fin 8, lt16 (pf (q5 a.val b.val)) = if ((24 * a.val + 16 + b.val) + 7) % 24 < 16 then 1#1 else 0#1 := by decide +kernel
theorem q5_pge : ∀ a : Fin 8, ∀ b : Fin 8, ge16 (pf (q5 a.val b.val)) = if ((24 * a.val + 16 + b.val) + 7) % 24 < 16 then 0#1 else 1#1 := by decide +kernel
theorem q5_more : ∀ a : Fin 8, ∀ b : Fin 8, ∀ p : Fin 9, Scalar.cmpi .ne (Scalar.extui (Scalar.cmpi .slt (pf (q5 a.val b.val)) (Scalar.muli (BitVec.ofNat 32 p.val) 24#32))) 0#32
    = if (24 * a.val + 16 + b.val) + 7 < 24 * p.val then 1#1 else 0#1 := by decide +kernel
theorem q5_c256 : ∀ b : Fin 8, (Scalar.muli (Scf.iv 0#32 1#32 b.val) 256#32).toNat = b.val * 256 := by decide +kernel
theorem q4_s256 : ∀ a : Fin 8, ∀ b : Fin 16, (Scalar.muli (Scalar.remsi (q4 a.val b.val) 24#32) 256#32).toNat = b.val * 256 := by decide +kernel
theorem q5_s256 : ∀ a : Fin 8, ∀ b : Fin 8, (Scalar.muli (Scalar.subi (Scalar.remsi (q5 a.val b.val) 24#32) 16#32) 256#32).toNat = b.val * 256 := by decide +kernel
theorem q4_up256 : ∀ b : Fin 16, (Scalar.addi 4096#32 (Scalar.muli (Scf.iv 0#32 1#32 b.val) 256#32)).toNat = 4096 + b.val * 256 := by decide +kernel
theorem q4_gate256 : ∀ b : Fin 16, (Scalar.addi 0#32 (Scalar.muli (Scf.iv 0#32 1#32 b.val) 256#32)).toNat = b.val * 256 := by decide +kernel
theorem a_r2 : ∀ a : Fin 8, (Scalar.remsi (Scf.iv 0#32 1#32 a.val) 2#32).toNat = a.val % 2 := by decide +kernel
theorem a_n : ∀ a : Fin 8, (Scf.iv 0#32 1#32 a.val : BitVec 32).toNat = a.val := by decide +kernel
theorem a1_r2 : ∀ a : Fin 8, (Scalar.remsi (Scalar.addi (Scf.iv 0#32 1#32 a.val) 1#32) 2#32).toNat = (a.val + 1) % 2 := by decide +kernel
theorem a1_n : ∀ a : Fin 8, (Scalar.addi (Scf.iv 0#32 1#32 a.val) 1#32).toNat = a.val + 1 := by decide +kernel
theorem a_more : ∀ a : Fin 8, ∀ p : Fin 9, Scalar.cmpi .ne (Scalar.extui (Scalar.cmpi .slt (Scalar.addi (Scf.iv 0#32 1#32 a.val) 1#32) (BitVec.ofNat 32 p.val))) 0#32
    = if a.val + 1 < p.val then 1#1 else 0#1 := by decide +kernel

/-! ## The offsets -/

section offsets
variable {v3 : BitVec 32} (t3 : Fin (k0_t3_loop v3).trips) (h3 : t3.val < 8) (t4 : Fin k0_t4_loop.trips) (t5 : Fin k0_t5_loop.trips)
include h3

theorem off79_eq : k0_off79 v3 t3 = ![t3.val] :=
  congrArg (fun n => (![n] : Fin 1 → ℕ)) (a_n ⟨t3.val, h3⟩)
theorem off80_eq : k0_off80 v3 t3 = ![t3.val % 2] :=
  congrArg (fun n => (![n] : Fin 1 → ℕ)) (a_r2 ⟨t3.val, h3⟩)
theorem off81_eq : k0_off81 v3 t3 = ![t3.val % 2, 0, 0] :=
  congrArg (fun n => (![n, 0, 0] : Fin 3 → ℕ)) (a_r2 ⟨t3.val, h3⟩)
theorem off83_eq : k0_off83 v3 t3 = ![t3.val % 2] :=
  congrArg (fun n => (![n] : Fin 1 → ℕ)) (a_r2 ⟨t3.val, h3⟩)
theorem off84_eq : k0_off84 v3 t3 = ![t3.val % 2, 0, 0] :=
  congrArg (fun n => (![n, 0, 0] : Fin 3 → ℕ)) (a_r2 ⟨t3.val, h3⟩)
theorem off86_eq : k0_off86 v3 t3 = ![t3.val + 1] :=
  congrArg (fun n => (![n] : Fin 1 → ℕ)) (a1_n ⟨t3.val, h3⟩)
theorem off87_eq : k0_off87 v3 t3 = ![(t3.val + 1) % 2] :=
  congrArg (fun n => (![n] : Fin 1 → ℕ)) (a1_r2 ⟨t3.val, h3⟩)
theorem off88_eq : k0_off88 v3 t3 = ![(t3.val + 1) % 2, 0, 0] :=
  congrArg (fun n => (![n, 0, 0] : Fin 3 → ℕ)) (a1_r2 ⟨t3.val, h3⟩)
theorem off90_eq : k0_off90 v3 t3 = ![(t3.val + 1) % 2] :=
  congrArg (fun n => (![n] : Fin 1 → ℕ)) (a1_r2 ⟨t3.val, h3⟩)
theorem off91_eq : k0_off91 v3 t3 = ![(t3.val + 1) % 2, 0, 0] :=
  congrArg (fun n => (![n, 0, 0] : Fin 3 → ℕ)) (a1_r2 ⟨t3.val, h3⟩)
theorem off93_eq : k0_off93 v3 t3 t4 = ![t3.val] :=
  congrArg (fun n => (![n] : Fin 1 → ℕ)) (q4_d ⟨t3.val, h3⟩ ⟨t4.val, t4.isLt.trans_eq trips4⟩)
theorem off94_eq : k0_off94 v3 t3 t4 = ![(24 * t3.val + t4.val) % 8] :=
  congrArg (fun n => (![n] : Fin 1 → ℕ)) (q4_r8 ⟨t3.val, h3⟩ ⟨t4.val, t4.isLt.trans_eq trips4⟩)
theorem off95_eq : k0_off95 v3 t3 t4 = ![(24 * t3.val + t4.val) % 8, 0, 0, 0] :=
  congrArg (fun n => (![n, 0, 0, 0] : Fin 4 → ℕ)) (q4_r8 ⟨t3.val, h3⟩ ⟨t4.val, t4.isLt.trans_eq trips4⟩)
theorem off96_eq (w : BitVec 32) : k0_off96 v3 t3 t4 w = ![w.toNat, 0, t4.val * 256, 0] :=
  congrArg (fun n => (![w.toNat, 0, n, 0] : Fin 4 → ℕ)) (q4_s256 ⟨t3.val, h3⟩ ⟨t4.val, t4.isLt.trans_eq trips4⟩)
theorem off97_eq : k0_off97 v3 t3 t4 = ![(24 * t3.val + t4.val) % 8] :=
  congrArg (fun n => (![n] : Fin 1 → ℕ)) (q4_r8 ⟨t3.val, h3⟩ ⟨t4.val, t4.isLt.trans_eq trips4⟩)
theorem off98_eq : k0_off98 v3 t3 t4 = ![(24 * t3.val + t4.val) % 8, 0, 0, 0] :=
  congrArg (fun n => (![n, 0, 0, 0] : Fin 4 → ℕ)) (q4_r8 ⟨t3.val, h3⟩ ⟨t4.val, t4.isLt.trans_eq trips4⟩)
theorem off100_eq : k0_off100 v3 t3 t4 = ![(24 * t3.val + t4.val) % 8, 1, 0, 0] :=
  congrArg (fun n => (![n, 1, 0, 0] : Fin 4 → ℕ)) (q4_r8 ⟨t3.val, h3⟩ ⟨t4.val, t4.isLt.trans_eq trips4⟩)
theorem off102_eq : k0_off102 v3 t3 t4 = ![(24 * t3.val + t4.val + 7) / 24] :=
  congrArg (fun n => (![n] : Fin 1 → ℕ)) (q4_pd ⟨t3.val, h3⟩ ⟨t4.val, t4.isLt.trans_eq trips4⟩)
theorem off103_eq : k0_off103 v3 t3 t4 = ![(24 * t3.val + t4.val + 7) % 8] :=
  congrArg (fun n => (![n] : Fin 1 → ℕ)) (q4_pr8 ⟨t3.val, h3⟩ ⟨t4.val, t4.isLt.trans_eq trips4⟩)
theorem off104_eq : k0_off104 v3 t3 t4 = ![(24 * t3.val + t4.val + 7) % 8, 0, 0, 0] :=
  congrArg (fun n => (![n, 0, 0, 0] : Fin 4 → ℕ)) (q4_pr8 ⟨t3.val, h3⟩ ⟨t4.val, t4.isLt.trans_eq trips4⟩)
theorem off105_eq (w : BitVec 32) (h : (24 * t3.val + t4.val + 7) % 24 < 16) : k0_off105 v3 t3 t4 w = ![w.toNat, 0, (24 * t3.val + t4.val + 7) % 24 * 256, 0] :=
  congrArg (fun n => (![w.toNat, 0, n, 0] : Fin 4 → ℕ)) (q4_p256 ⟨t3.val, h3⟩ ⟨t4.val, t4.isLt.trans_eq trips4⟩ h)
theorem off106_eq : k0_off106 v3 t3 t4 = ![(24 * t3.val + t4.val + 7) % 8] :=
  congrArg (fun n => (![n] : Fin 1 → ℕ)) (q4_pr8 ⟨t3.val, h3⟩ ⟨t4.val, t4.isLt.trans_eq trips4⟩)
theorem off107_eq : k0_off107 v3 t3 t4 = ![(24 * t3.val + t4.val + 7) % 8, 0, 0, 0] :=
  congrArg (fun n => (![n, 0, 0, 0] : Fin 4 → ℕ)) (q4_pr8 ⟨t3.val, h3⟩ ⟨t4.val, t4.isLt.trans_eq trips4⟩)
theorem off108_eq (w : BitVec 32) (h : 16 ≤ (24 * t3.val + t4.val + 7) % 24) : k0_off108 v3 t3 t4 w = ![w.toNat, ((24 * t3.val + t4.val + 7) % 24 - 16) * 256, 0] :=
  congrArg (fun n => (![w.toNat, n, 0] : Fin 3 → ℕ)) (q4_p256' ⟨t3.val, h3⟩ ⟨t4.val, t4.isLt.trans_eq trips4⟩ h)
theorem off109_eq : k0_off109 v3 t3 t4 = ![(24 * t3.val + t4.val + 7) % 8, 1, 0, 0] :=
  congrArg (fun n => (![n, 1, 0, 0] : Fin 4 → ℕ)) (q4_pr8 ⟨t3.val, h3⟩ ⟨t4.val, t4.isLt.trans_eq trips4⟩)
theorem off110_eq (w : BitVec 32) (h : 16 ≤ (24 * t3.val + t4.val + 7) % 24) : k0_off110 v3 t3 t4 w = ![w.toNat, ((24 * t3.val + t4.val + 7) % 24 - 16) * 256, 1024] :=
  congrArg (fun n => (![w.toNat, n, 1024] : Fin 3 → ℕ)) (q4_p256' ⟨t3.val, h3⟩ ⟨t4.val, t4.isLt.trans_eq trips4⟩ h)
theorem off112_eq : k0_off112 v3 t3 t4 = ![(24 * t3.val + t4.val) % 8, 0, 0, 0] :=
  congrArg (fun n => (![n, 0, 0, 0] : Fin 4 → ℕ)) (q4_r8 ⟨t3.val, h3⟩ ⟨t4.val, t4.isLt.trans_eq trips4⟩)
theorem off113_eq : k0_off113 v3 t3 t4 = ![(24 * t3.val + t4.val) % 8, 0, 0, 128] :=
  congrArg (fun n => (![n, 0, 0, 128] : Fin 4 → ℕ)) (q4_r8 ⟨t3.val, h3⟩ ⟨t4.val, t4.isLt.trans_eq trips4⟩)
theorem off114_eq : k0_off114 v3 t3 t4 = ![(24 * t3.val + t4.val) % 8, 0, 0, 256] :=
  congrArg (fun n => (![n, 0, 0, 256] : Fin 4 → ℕ)) (q4_r8 ⟨t3.val, h3⟩ ⟨t4.val, t4.isLt.trans_eq trips4⟩)
theorem off115_eq : k0_off115 v3 t3 t4 = ![(24 * t3.val + t4.val) % 8, 0, 0, 384] :=
  congrArg (fun n => (![n, 0, 0, 384] : Fin 4 → ℕ)) (q4_r8 ⟨t3.val, h3⟩ ⟨t4.val, t4.isLt.trans_eq trips4⟩)
theorem off116_eq : k0_off116 v3 t3 t4 = ![(24 * t3.val + t4.val) % 8, 0, 0, 512] :=
  congrArg (fun n => (![n, 0, 0, 512] : Fin 4 → ℕ)) (q4_r8 ⟨t3.val, h3⟩ ⟨t4.val, t4.isLt.trans_eq trips4⟩)
theorem off117_eq : k0_off117 v3 t3 t4 = ![(24 * t3.val + t4.val) % 8, 0, 0, 640] :=
  congrArg (fun n => (![n, 0, 0, 640] : Fin 4 → ℕ)) (q4_r8 ⟨t3.val, h3⟩ ⟨t4.val, t4.isLt.trans_eq trips4⟩)
theorem off118_eq : k0_off118 v3 t3 t4 = ![(24 * t3.val + t4.val) % 8, 0, 0, 768] :=
  congrArg (fun n => (![n, 0, 0, 768] : Fin 4 → ℕ)) (q4_r8 ⟨t3.val, h3⟩ ⟨t4.val, t4.isLt.trans_eq trips4⟩)
theorem off119_eq : k0_off119 v3 t3 t4 = ![(24 * t3.val + t4.val) % 8, 0, 0, 896] :=
  congrArg (fun n => (![n, 0, 0, 896] : Fin 4 → ℕ)) (q4_r8 ⟨t3.val, h3⟩ ⟨t4.val, t4.isLt.trans_eq trips4⟩)
theorem off120_eq : k0_off120 v3 t3 t4 = ![(24 * t3.val + t4.val) % 8, 1, 0, 0] :=
  congrArg (fun n => (![n, 1, 0, 0] : Fin 4 → ℕ)) (q4_r8 ⟨t3.val, h3⟩ ⟨t4.val, t4.isLt.trans_eq trips4⟩)
theorem off121_eq : k0_off121 v3 t3 t4 = ![(24 * t3.val + t4.val) % 8, 1, 0, 128] :=
  congrArg (fun n => (![n, 1, 0, 128] : Fin 4 → ℕ)) (q4_r8 ⟨t3.val, h3⟩ ⟨t4.val, t4.isLt.trans_eq trips4⟩)
theorem off122_eq : k0_off122 v3 t3 t4 = ![(24 * t3.val + t4.val) % 8, 1, 0, 256] :=
  congrArg (fun n => (![n, 1, 0, 256] : Fin 4 → ℕ)) (q4_r8 ⟨t3.val, h3⟩ ⟨t4.val, t4.isLt.trans_eq trips4⟩)
theorem off123_eq : k0_off123 v3 t3 t4 = ![(24 * t3.val + t4.val) % 8, 1, 0, 384] :=
  congrArg (fun n => (![n, 1, 0, 384] : Fin 4 → ℕ)) (q4_r8 ⟨t3.val, h3⟩ ⟨t4.val, t4.isLt.trans_eq trips4⟩)
theorem off124_eq : k0_off124 v3 t3 t4 = ![(24 * t3.val + t4.val) % 8, 1, 0, 512] :=
  congrArg (fun n => (![n, 1, 0, 512] : Fin 4 → ℕ)) (q4_r8 ⟨t3.val, h3⟩ ⟨t4.val, t4.isLt.trans_eq trips4⟩)
theorem off125_eq : k0_off125 v3 t3 t4 = ![(24 * t3.val + t4.val) % 8, 1, 0, 640] :=
  congrArg (fun n => (![n, 1, 0, 640] : Fin 4 → ℕ)) (q4_r8 ⟨t3.val, h3⟩ ⟨t4.val, t4.isLt.trans_eq trips4⟩)
theorem off126_eq : k0_off126 v3 t3 t4 = ![(24 * t3.val + t4.val) % 8, 1, 0, 768] :=
  congrArg (fun n => (![n, 1, 0, 768] : Fin 4 → ℕ)) (q4_r8 ⟨t3.val, h3⟩ ⟨t4.val, t4.isLt.trans_eq trips4⟩)
theorem off127_eq : k0_off127 v3 t3 t4 = ![(24 * t3.val + t4.val) % 8, 1, 0, 896] :=
  congrArg (fun n => (![n, 1, 0, 896] : Fin 4 → ℕ)) (q4_r8 ⟨t3.val, h3⟩ ⟨t4.val, t4.isLt.trans_eq trips4⟩)
omit h3 in
theorem off128_eq : k0_off128 t4 = ![0, t4.val * 256] :=
  congrArg (fun n => (![0, n] : Fin 2 → ℕ)) (q4_c256 ⟨t4.val, t4.isLt.trans_eq trips4⟩)
theorem off129_eq : k0_off129 v3 t3 = ![t3.val] :=
  congrArg (fun n => (![n] : Fin 1 → ℕ)) (a_n ⟨t3.val, h3⟩)
theorem off130_eq : k0_off130 v3 t3 t5 = ![t3.val] :=
  congrArg (fun n => (![n] : Fin 1 → ℕ)) (q5_d ⟨t3.val, h3⟩ ⟨t5.val, t5.isLt.trans_eq trips5⟩)
theorem off131_eq : k0_off131 v3 t3 t5 = ![(24 * t3.val + 16 + t5.val) % 8] :=
  congrArg (fun n => (![n] : Fin 1 → ℕ)) (q5_r8 ⟨t3.val, h3⟩ ⟨t5.val, t5.isLt.trans_eq trips5⟩)
theorem off132_eq : k0_off132 v3 t3 t5 = ![(24 * t3.val + 16 + t5.val) % 8, 0, 0, 0] :=
  congrArg (fun n => (![n, 0, 0, 0] : Fin 4 → ℕ)) (q5_r8 ⟨t3.val, h3⟩ ⟨t5.val, t5.isLt.trans_eq trips5⟩)
theorem off134_eq : k0_off134 v3 t3 t5 = ![(24 * t3.val + 16 + t5.val) % 8] :=
  congrArg (fun n => (![n] : Fin 1 → ℕ)) (q5_r8 ⟨t3.val, h3⟩ ⟨t5.val, t5.isLt.trans_eq trips5⟩)
theorem off135_eq : k0_off135 v3 t3 t5 = ![(24 * t3.val + 16 + t5.val) % 8, 0, 0, 0] :=
  congrArg (fun n => (![n, 0, 0, 0] : Fin 4 → ℕ)) (q5_r8 ⟨t3.val, h3⟩ ⟨t5.val, t5.isLt.trans_eq trips5⟩)
theorem off136_eq (w : BitVec 32) : k0_off136 v3 t3 t5 w = ![w.toNat, t5.val * 256, 0] :=
  congrArg (fun n => (![w.toNat, n, 0] : Fin 3 → ℕ)) (q5_s256 ⟨t3.val, h3⟩ ⟨t5.val, t5.isLt.trans_eq trips5⟩)
theorem off137_eq : k0_off137 v3 t3 t5 = ![(24 * t3.val + 16 + t5.val) % 8, 1, 0, 0] :=
  congrArg (fun n => (![n, 1, 0, 0] : Fin 4 → ℕ)) (q5_r8 ⟨t3.val, h3⟩ ⟨t5.val, t5.isLt.trans_eq trips5⟩)
theorem off138_eq (w : BitVec 32) : k0_off138 v3 t3 t5 w = ![w.toNat, t5.val * 256, 1024] :=
  congrArg (fun n => (![w.toNat, n, 1024] : Fin 3 → ℕ)) (q5_s256 ⟨t3.val, h3⟩ ⟨t5.val, t5.isLt.trans_eq trips5⟩)
theorem off139_eq : k0_off139 v3 t3 t5 = ![(24 * t3.val + 16 + t5.val + 7) / 24] :=
  congrArg (fun n => (![n] : Fin 1 → ℕ)) (q5_pd ⟨t3.val, h3⟩ ⟨t5.val, t5.isLt.trans_eq trips5⟩)
theorem off140_eq : k0_off140 v3 t3 t5 = ![(24 * t3.val + 16 + t5.val + 7) % 8] :=
  congrArg (fun n => (![n] : Fin 1 → ℕ)) (q5_pr8 ⟨t3.val, h3⟩ ⟨t5.val, t5.isLt.trans_eq trips5⟩)
theorem off141_eq : k0_off141 v3 t3 t5 = ![(24 * t3.val + 16 + t5.val + 7) % 8, 0, 0, 0] :=
  congrArg (fun n => (![n, 0, 0, 0] : Fin 4 → ℕ)) (q5_pr8 ⟨t3.val, h3⟩ ⟨t5.val, t5.isLt.trans_eq trips5⟩)
theorem off142_eq (w : BitVec 32) (h : (24 * t3.val + 16 + t5.val + 7) % 24 < 16) : k0_off142 v3 t3 t5 w = ![w.toNat, 0, (24 * t3.val + 16 + t5.val + 7) % 24 * 256, 0] :=
  congrArg (fun n => (![w.toNat, 0, n, 0] : Fin 4 → ℕ)) (q5_p256 ⟨t3.val, h3⟩ ⟨t5.val, t5.isLt.trans_eq trips5⟩ h)
theorem off143_eq : k0_off143 v3 t3 t5 = ![(24 * t3.val + 16 + t5.val + 7) % 8] :=
  congrArg (fun n => (![n] : Fin 1 → ℕ)) (q5_pr8 ⟨t3.val, h3⟩ ⟨t5.val, t5.isLt.trans_eq trips5⟩)
theorem off144_eq : k0_off144 v3 t3 t5 = ![(24 * t3.val + 16 + t5.val + 7) % 8, 0, 0, 0] :=
  congrArg (fun n => (![n, 0, 0, 0] : Fin 4 → ℕ)) (q5_pr8 ⟨t3.val, h3⟩ ⟨t5.val, t5.isLt.trans_eq trips5⟩)
theorem off145_eq (w : BitVec 32) (h : 16 ≤ (24 * t3.val + 16 + t5.val + 7) % 24) : k0_off145 v3 t3 t5 w = ![w.toNat, ((24 * t3.val + 16 + t5.val + 7) % 24 - 16) * 256, 0] :=
  congrArg (fun n => (![w.toNat, n, 0] : Fin 3 → ℕ)) (q5_p256' ⟨t3.val, h3⟩ ⟨t5.val, t5.isLt.trans_eq trips5⟩ h)
theorem off146_eq : k0_off146 v3 t3 t5 = ![(24 * t3.val + 16 + t5.val + 7) % 8, 1, 0, 0] :=
  congrArg (fun n => (![n, 1, 0, 0] : Fin 4 → ℕ)) (q5_pr8 ⟨t3.val, h3⟩ ⟨t5.val, t5.isLt.trans_eq trips5⟩)
theorem off147_eq (w : BitVec 32) (h : 16 ≤ (24 * t3.val + 16 + t5.val + 7) % 24) : k0_off147 v3 t3 t5 w = ![w.toNat, ((24 * t3.val + 16 + t5.val + 7) % 24 - 16) * 256, 1024] :=
  congrArg (fun n => (![w.toNat, n, 1024] : Fin 3 → ℕ)) (q5_p256' ⟨t3.val, h3⟩ ⟨t5.val, t5.isLt.trans_eq trips5⟩ h)
theorem off148_eq : k0_off148 v3 t3 t5 = ![t3.val % 2, 0, t5.val * 256] :=
  congrArg₂ (fun n n' => (![n, 0, n'] : Fin 3 → ℕ)) (a_r2 ⟨t3.val, h3⟩) (q5_c256 ⟨t5.val, t5.isLt.trans_eq trips5⟩)
theorem off149_eq : k0_off149 v3 t3 t5 = ![t3.val % 2, 16, t5.val * 256] :=
  congrArg₂ (fun n n' => (![n, 16, n'] : Fin 3 → ℕ)) (a_r2 ⟨t3.val, h3⟩) (q5_c256 ⟨t5.val, t5.isLt.trans_eq trips5⟩)
theorem off150_eq : k0_off150 v3 t3 t5 = ![(24 * t3.val + 16 + t5.val) % 8, 0, 0, 0] :=
  congrArg (fun n => (![n, 0, 0, 0] : Fin 4 → ℕ)) (q5_r8 ⟨t3.val, h3⟩ ⟨t5.val, t5.isLt.trans_eq trips5⟩)
theorem off151_eq : k0_off151 v3 t3 t5 = ![(24 * t3.val + 16 + t5.val) % 8, 0, 0, 128] :=
  congrArg (fun n => (![n, 0, 0, 128] : Fin 4 → ℕ)) (q5_r8 ⟨t3.val, h3⟩ ⟨t5.val, t5.isLt.trans_eq trips5⟩)
theorem off152_eq : k0_off152 v3 t3 t5 = ![(24 * t3.val + 16 + t5.val) % 8, 0, 0, 256] :=
  congrArg (fun n => (![n, 0, 0, 256] : Fin 4 → ℕ)) (q5_r8 ⟨t3.val, h3⟩ ⟨t5.val, t5.isLt.trans_eq trips5⟩)
theorem off153_eq : k0_off153 v3 t3 t5 = ![(24 * t3.val + 16 + t5.val) % 8, 0, 0, 384] :=
  congrArg (fun n => (![n, 0, 0, 384] : Fin 4 → ℕ)) (q5_r8 ⟨t3.val, h3⟩ ⟨t5.val, t5.isLt.trans_eq trips5⟩)
theorem off154_eq : k0_off154 v3 t3 t5 = ![(24 * t3.val + 16 + t5.val) % 8, 0, 0, 512] :=
  congrArg (fun n => (![n, 0, 0, 512] : Fin 4 → ℕ)) (q5_r8 ⟨t3.val, h3⟩ ⟨t5.val, t5.isLt.trans_eq trips5⟩)
theorem off155_eq : k0_off155 v3 t3 t5 = ![(24 * t3.val + 16 + t5.val) % 8, 0, 0, 640] :=
  congrArg (fun n => (![n, 0, 0, 640] : Fin 4 → ℕ)) (q5_r8 ⟨t3.val, h3⟩ ⟨t5.val, t5.isLt.trans_eq trips5⟩)
theorem off156_eq : k0_off156 v3 t3 t5 = ![(24 * t3.val + 16 + t5.val) % 8, 0, 0, 768] :=
  congrArg (fun n => (![n, 0, 0, 768] : Fin 4 → ℕ)) (q5_r8 ⟨t3.val, h3⟩ ⟨t5.val, t5.isLt.trans_eq trips5⟩)
theorem off157_eq : k0_off157 v3 t3 t5 = ![(24 * t3.val + 16 + t5.val) % 8, 0, 0, 896] :=
  congrArg (fun n => (![n, 0, 0, 896] : Fin 4 → ℕ)) (q5_r8 ⟨t3.val, h3⟩ ⟨t5.val, t5.isLt.trans_eq trips5⟩)
theorem off158_eq : k0_off158 v3 t3 t5 = ![(24 * t3.val + 16 + t5.val) % 8, 1, 0, 0] :=
  congrArg (fun n => (![n, 1, 0, 0] : Fin 4 → ℕ)) (q5_r8 ⟨t3.val, h3⟩ ⟨t5.val, t5.isLt.trans_eq trips5⟩)
theorem off159_eq : k0_off159 v3 t3 t5 = ![(24 * t3.val + 16 + t5.val) % 8, 1, 0, 128] :=
  congrArg (fun n => (![n, 1, 0, 128] : Fin 4 → ℕ)) (q5_r8 ⟨t3.val, h3⟩ ⟨t5.val, t5.isLt.trans_eq trips5⟩)
theorem off160_eq : k0_off160 v3 t3 t5 = ![(24 * t3.val + 16 + t5.val) % 8, 1, 0, 256] :=
  congrArg (fun n => (![n, 1, 0, 256] : Fin 4 → ℕ)) (q5_r8 ⟨t3.val, h3⟩ ⟨t5.val, t5.isLt.trans_eq trips5⟩)
theorem off161_eq : k0_off161 v3 t3 t5 = ![(24 * t3.val + 16 + t5.val) % 8, 1, 0, 384] :=
  congrArg (fun n => (![n, 1, 0, 384] : Fin 4 → ℕ)) (q5_r8 ⟨t3.val, h3⟩ ⟨t5.val, t5.isLt.trans_eq trips5⟩)
theorem off162_eq : k0_off162 v3 t3 t5 = ![(24 * t3.val + 16 + t5.val) % 8, 1, 0, 512] :=
  congrArg (fun n => (![n, 1, 0, 512] : Fin 4 → ℕ)) (q5_r8 ⟨t3.val, h3⟩ ⟨t5.val, t5.isLt.trans_eq trips5⟩)
theorem off163_eq : k0_off163 v3 t3 t5 = ![(24 * t3.val + 16 + t5.val) % 8, 1, 0, 640] :=
  congrArg (fun n => (![n, 1, 0, 640] : Fin 4 → ℕ)) (q5_r8 ⟨t3.val, h3⟩ ⟨t5.val, t5.isLt.trans_eq trips5⟩)
theorem off164_eq : k0_off164 v3 t3 t5 = ![(24 * t3.val + 16 + t5.val) % 8, 1, 0, 768] :=
  congrArg (fun n => (![n, 1, 0, 768] : Fin 4 → ℕ)) (q5_r8 ⟨t3.val, h3⟩ ⟨t5.val, t5.isLt.trans_eq trips5⟩)
theorem off165_eq : k0_off165 v3 t3 t5 = ![(24 * t3.val + 16 + t5.val) % 8, 1, 0, 896] :=
  congrArg (fun n => (![n, 1, 0, 896] : Fin 4 → ℕ)) (q5_r8 ⟨t3.val, h3⟩ ⟨t5.val, t5.isLt.trans_eq trips5⟩)
omit h3 in
theorem off166_eq : k0_off166 t5 = ![0, t5.val * 256] :=
  congrArg (fun n => (![0, n] : Fin 2 → ℕ)) (q5_c256 ⟨t5.val, t5.isLt.trans_eq trips5⟩)
theorem cond16_eq : k0_cond16 v3 t3 t4 = 1#1 := q4_lt ⟨t3.val, h3⟩ ⟨t4.val, t4.isLt.trans_eq trips4⟩
theorem cond17_eq : k0_cond17 v3 t3 t4 = 0#1 := q4_ge ⟨t3.val, h3⟩ ⟨t4.val, t4.isLt.trans_eq trips4⟩
theorem cond19_eq : k0_cond19 v3 t3 t4 = if (24 * t3.val + t4.val + 7) % 24 < 16 then 1#1 else 0#1 := q4_plt ⟨t3.val, h3⟩ ⟨t4.val, t4.isLt.trans_eq trips4⟩
theorem cond20_eq : k0_cond20 v3 t3 t4 = if (24 * t3.val + t4.val + 7) % 24 < 16 then 0#1 else 1#1 := q4_pge ⟨t3.val, h3⟩ ⟨t4.val, t4.isLt.trans_eq trips4⟩
theorem cond19_of (h : k0_cond19 v3 t3 t4 = 1#1) : (24 * t3.val + t4.val + 7) % 24 < 16 := by
  rw [cond19_eq t3 h3 t4] at h; by_contra h'; rw [if_neg h'] at h; exact absurd h (by decide)
theorem cond20_of (h : k0_cond20 v3 t3 t4 = 1#1) : 16 ≤ (24 * t3.val + t4.val + 7) % 24 := by
  rw [cond20_eq t3 h3 t4] at h; by_contra h'; rw [if_pos (by omega)] at h; exact absurd h (by decide)
theorem cond22_eq : k0_cond22 v3 t3 t5 = 1#1 := q5_ge ⟨t3.val, h3⟩ ⟨t5.val, t5.isLt.trans_eq trips5⟩
theorem cond21_eq : k0_cond21 v3 t3 t5 = 0#1 := q5_lt ⟨t3.val, h3⟩ ⟨t5.val, t5.isLt.trans_eq trips5⟩
theorem cond24_eq : k0_cond24 v3 t3 t5 = if (24 * t3.val + 16 + t5.val + 7) % 24 < 16 then 1#1 else 0#1 := q5_plt ⟨t3.val, h3⟩ ⟨t5.val, t5.isLt.trans_eq trips5⟩
theorem cond25_eq : k0_cond25 v3 t3 t5 = if (24 * t3.val + 16 + t5.val + 7) % 24 < 16 then 0#1 else 1#1 := q5_pge ⟨t3.val, h3⟩ ⟨t5.val, t5.isLt.trans_eq trips5⟩
theorem cond24_of (h : k0_cond24 v3 t3 t5 = 1#1) : (24 * t3.val + 16 + t5.val + 7) % 24 < 16 := by
  rw [cond24_eq t3 h3 t5] at h; by_contra h'; rw [if_neg h'] at h; exact absurd h (by decide)
theorem cond25_of (h : k0_cond25 v3 t3 t5 = 1#1) : 16 ≤ (24 * t3.val + 16 + t5.val + 7) % 24 := by
  rw [cond25_eq t3 h3 t5] at h; by_contra h'; rw [if_pos (by omega)] at h; exact absurd h (by decide)

theorem off111_gate : k0_off111 v3 t3 t4 0#32 = ![t3.val % 2, 0, t4.val * 256] :=
  congrArg₂ (fun n n' => (![n, 0, n'] : Fin 3 → ℕ)) (a_r2 ⟨t3.val, h3⟩) (q4_gate256 ⟨t4.val, t4.isLt.trans_eq trips4⟩)
theorem off111_up : k0_off111 v3 t3 t4 4096#32 = ![t3.val % 2, 0, 4096 + t4.val * 256] :=
  congrArg₂ (fun n n' => (![n, 0, n'] : Fin 3 → ℕ)) (a_r2 ⟨t3.val, h3⟩) (q4_up256 ⟨t4.val, t4.isLt.trans_eq trips4⟩)

end offsets

section counts
variable (m : Fin 256) (t3 : Fin (k0_t3_loop (BitVec.ofNat 32 m.val)).trips) (h3 : t3.val < 8) (t4 : Fin k0_t4_loop.trips) (t5 : Fin k0_t5_loop.trips)
include h3

theorem cond15_eq : k0_cond15 (BitVec.ofNat 32 m.val) t3 = if t3.val + 1 < popN m.val then 1#1 else 0#1 :=
  (congrArg (fun w => Scalar.cmpi .ne (Scalar.extui (Scalar.cmpi .slt (Scalar.addi (Scf.iv 0#32 1#32 t3.val) 1#32) w)) 0#32) (popW_eq m)).trans
    (a_more ⟨t3.val, h3⟩ ⟨popN m.val, Nat.lt_succ_of_le (popN_le m)⟩)
theorem cond18_eq : k0_cond18 (BitVec.ofNat 32 m.val) t3 t4 = if 24 * t3.val + t4.val + 7 < 24 * popN m.val then 1#1 else 0#1 :=
  (congrArg (fun w => Scalar.cmpi .ne (Scalar.extui (Scalar.cmpi .slt (pf (q4 t3.val t4.val)) (Scalar.muli w 24#32))) 0#32) (popW_eq m)).trans
    (q4_more ⟨t3.val, h3⟩ ⟨t4.val, t4.isLt.trans_eq trips4⟩ ⟨popN m.val, Nat.lt_succ_of_le (popN_le m)⟩)
theorem cond23_eq : k0_cond23 (BitVec.ofNat 32 m.val) t3 t5 = if 24 * t3.val + 16 + t5.val + 7 < 24 * popN m.val then 1#1 else 0#1 :=
  (congrArg (fun w => Scalar.cmpi .ne (Scalar.extui (Scalar.cmpi .slt (pf (q5 t3.val t5.val)) (Scalar.muli w 24#32))) 0#32) (popW_eq m)).trans
    (q5_more ⟨t3.val, h3⟩ ⟨t5.val, t5.isLt.trans_eq trips5⟩ ⟨popN m.val, Nat.lt_succ_of_le (popN_le m)⟩)

end counts

end Cert.KernelIdeal.Own
-- ==== Proof.KernelIdeal.Checks.lean ====
/- Every check the kernel makes of its index words holds. -/
module

public import proofs.«01_k».proof.Proof.KernelIdeal.Words

@[expose] public section

namespace Cert.KernelIdeal.Own

open Cert.KernelIdeal Cert.KernelIdeal.Gen
open Idealize.ShloMosaic

theorem h8 (m : Fin 256) (t3 : Fin (k0_t3_loop (BitVec.ofNat 32 m.val)).trips) : t3.val < 8 :=
  Nat.lt_of_lt_of_le (t3.isLt.trans_eq (trips3_eq m)) (popN_le m)
theorem hpop (m : Fin 256) (t3 : Fin (k0_t3_loop (BitVec.ofNat 32 m.val)).trips) : t3.val < popN m.val :=
  t3.isLt.trans_eq (trips3_eq m)

theorem no6 (m : Fin 256) (t6 : Fin (k0_t6_loop (BitVec.ofNat 32 m.val)).trips) : False :=
  Nat.not_lt_zero _ (t6.isLt.trans_eq (trips6_eq m))

/-- A block of rows of the first weights is made of whole words. -/
theorem words_w1 (e b : ℕ) (hinb : ∀ a, (![e, 0, b * 256, 0] : Fin 4 → ℕ) a + S1x2x256x1024.size a ≤ S8x2x4096x1024.size a) :
    (Rect.unit (s := S8x2x4096x1024) ![e, 0, b * 256, 0] S1x2x256x1024.size hinb).WholeWords (EltTy.packing .i8) :=
  Or.inl (Or.inr ⟨by decide, rfl, Or.inl ⟨(by show 4 ∣ b * 256; omega), (by show 4 ∣ 256; decide)⟩⟩)
/-- A block of rows of the second weights is made of whole words. -/
theorem words_w2 (e b z : ℕ) (hinb : ∀ a, (![e, b * 256, z] : Fin 3 → ℕ) a + S1x256x1024.size a ≤ S8x2048x2048.size a) :
    (Rect.unit (s := S8x2048x2048) ![e, b * 256, z] S1x256x1024.size hinb).WholeWords (EltTy.packing .i8) :=
  Or.inl (Or.inr ⟨by decide, rfl, Or.inl ⟨(by show 4 ∣ b * 256; omega), (by show 4 ∣ 256; decide)⟩⟩)

set_option maxHeartbeats 4000000 in
theorem chk1_0 (m : Fin 256) : k0_chk1_0 (BitVec.ofNat 32 m.val) :=
  ⟨(by rw [off3_eq m]; have := cntN_le m 1; simp only [show (((1 : Fin 9) : ℕ)) = 1 from rfl] at this; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by rw [off4_eq m]; have := cntN_le m 2; simp only [show (((2 : Fin 9) : ℕ)) = 2 from rfl] at this; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by rw [off5_eq m]; have := cntN_le m 3; simp only [show (((3 : Fin 9) : ℕ)) = 3 from rfl] at this; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by rw [off6_eq m]; have := cntN_le m 4; simp only [show (((4 : Fin 9) : ℕ)) = 4 from rfl] at this; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by rw [off7_eq m]; have := cntN_le m 5; simp only [show (((5 : Fin 9) : ℕ)) = 5 from rfl] at this; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by rw [off8_eq m]; have := cntN_le m 6; simp only [show (((6 : Fin 9) : ℕ)) = 6 from rfl] at this; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by rw [off9_eq m]; have := cntN_le m 7; simp only [show (((7 : Fin 9) : ℕ)) = 7 from rfl] at this; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   ok3 m,
   (by intro t3;  have := h8 m t3; rw [off79_eq t3 (h8 m t3)]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3;  have := h8 m t3; rw [off80_eq t3 (h8 m t3)]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3;  have := h8 m t3; rw [off81_eq t3 (h8 m t3)]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intros; exact Or.inr ⟨by decide, rfl, rfl, rfl⟩),
   (by intro t3;  have := h8 m t3; rw [off83_eq t3 (h8 m t3)]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3;  have := h8 m t3; rw [off84_eq t3 (h8 m t3)]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intros; exact Or.inr ⟨by decide, rfl, rfl, rfl⟩),
   (by intro t3 h15;  have := h8 m t3; rw [off86_eq t3 (h8 m t3)]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 h15;  have := h8 m t3; rw [off87_eq t3 (h8 m t3)]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 h15;  have := h8 m t3; rw [off88_eq t3 (h8 m t3)]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intros; exact Or.inr ⟨by decide, rfl, rfl, rfl⟩),
   (by intro t3 h15;  have := h8 m t3; rw [off90_eq t3 (h8 m t3)]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 h15;  have := h8 m t3; rw [off91_eq t3 (h8 m t3)]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intros; exact Or.inr ⟨by decide, rfl, rfl, rfl⟩),
   (by intro t3 t4;  have := h8 m t3; have := t4.isLt.trans_eq trips4; rw [off93_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (fun t3 t4 h16 => (q4_m256 ⟨t3.val, h8 m t3⟩ ⟨t4.val, t4.isLt.trans_eq trips4⟩).1),
   (by intro t3 t4 h16;  have := h8 m t3; have := t4.isLt.trans_eq trips4; rw [off94_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t4 h16;  have := h8 m t3; have := t4.isLt.trans_eq trips4; rw [off95_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intros; exact Or.inr ⟨by decide, rfl, rfl, rfl⟩),
   (by intro t3 t4 h17; rw [cond17_eq t3 (h8 m t3) t4] at h17; exact absurd h17 (by decide)),
   (by intro t3 t4 h17; rw [cond17_eq t3 (h8 m t3) t4] at h17; exact absurd h17 (by decide)),
   (by intro t3 t4 h17; rw [cond17_eq t3 (h8 m t3) t4] at h17; exact absurd h17 (by decide)),
   (by intros; exact Or.inr ⟨by decide, rfl, rfl, rfl⟩),
   (by intro t3 t4 h17; rw [cond17_eq t3 (h8 m t3) t4] at h17; exact absurd h17 (by decide))⟩

set_option maxHeartbeats 4000000 in
theorem chk1_1 (m : Fin 256) : k0_chk1_1 (BitVec.ofNat 32 m.val) :=
  ⟨(by intros; exact Or.inr ⟨by decide, rfl, rfl, rfl⟩),
   (by intro t3 t4 h18;  have := h8 m t3; have := t4.isLt.trans_eq trips4; rw [off102_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (fun t3 t4 h18 h19 => (q4_m256 ⟨t3.val, h8 m t3⟩ ⟨t4.val, t4.isLt.trans_eq trips4⟩).2.2.1),
   (by intro t3 t4 h18 h19;  have := h8 m t3; have := t4.isLt.trans_eq trips4; rw [off103_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t4 h18 h19;  have := h8 m t3; have := t4.isLt.trans_eq trips4; rw [off104_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intros; exact Or.inr ⟨by decide, rfl, rfl, rfl⟩),
   (fun t3 t4 h18 h20 => (q4_m256 ⟨t3.val, h8 m t3⟩ ⟨t4.val, t4.isLt.trans_eq trips4⟩).2.2.2),
   (by intro t3 t4 h18 h20;  have := h8 m t3; have := t4.isLt.trans_eq trips4; rw [off106_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t4 h18 h20;  have := h8 m t3; have := t4.isLt.trans_eq trips4; rw [off107_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intros; exact Or.inr ⟨by decide, rfl, rfl, rfl⟩),
   (by intro t3 t4 h18 h20;  have := h8 m t3; have := t4.isLt.trans_eq trips4; rw [off109_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intros; exact Or.inr ⟨by decide, rfl, rfl, rfl⟩),
   (by intro t3 t4 r;  have := h8 m t3; have := t4.isLt.trans_eq trips4; fin_cases r <;> (first | erw [off111_gate t3 (h8 m t3) t4] | erw [off111_up t3 (h8 m t3) t4]) <;> (intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega)),
   (by intro t3 t4;  have := h8 m t3; have := t4.isLt.trans_eq trips4; rw [off112_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t4;  have := h8 m t3; have := t4.isLt.trans_eq trips4; rw [off113_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t4;  have := h8 m t3; have := t4.isLt.trans_eq trips4; rw [off114_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t4;  have := h8 m t3; have := t4.isLt.trans_eq trips4; rw [off115_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t4;  have := h8 m t3; have := t4.isLt.trans_eq trips4; rw [off116_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t4;  have := h8 m t3; have := t4.isLt.trans_eq trips4; rw [off117_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t4;  have := h8 m t3; have := t4.isLt.trans_eq trips4; rw [off118_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t4;  have := h8 m t3; have := t4.isLt.trans_eq trips4; rw [off119_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t4;  have := h8 m t3; have := t4.isLt.trans_eq trips4; rw [off120_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t4;  have := h8 m t3; have := t4.isLt.trans_eq trips4; rw [off121_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t4;  have := h8 m t3; have := t4.isLt.trans_eq trips4; rw [off122_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t4;  have := h8 m t3; have := t4.isLt.trans_eq trips4; rw [off123_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t4;  have := h8 m t3; have := t4.isLt.trans_eq trips4; rw [off124_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t4;  have := h8 m t3; have := t4.isLt.trans_eq trips4; rw [off125_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t4;  have := h8 m t3; have := t4.isLt.trans_eq trips4; rw [off126_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t4;  have := h8 m t3; have := t4.isLt.trans_eq trips4; rw [off127_eq t3 (h8 m t3) t4]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3;  have := h8 m t3; rw [off129_eq t3 (h8 m t3)]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5;  have := h8 m t3; have := t5.isLt.trans_eq trips5; rw [off130_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5 h21; rw [cond21_eq t3 (h8 m t3) t5] at h21; exact absurd h21 (by decide))⟩

set_option maxHeartbeats 4000000 in
theorem chk1_2 (m : Fin 256) : k0_chk1_2 (BitVec.ofNat 32 m.val) :=
  ⟨(by intro t3 t5 h21; rw [cond21_eq t3 (h8 m t3) t5] at h21; exact absurd h21 (by decide)),
   (by intro t3 t5 h21; rw [cond21_eq t3 (h8 m t3) t5] at h21; exact absurd h21 (by decide)),
   (by intros; exact Or.inr ⟨by decide, rfl, rfl, rfl⟩),
   (fun t3 t5 h22 => (q5_m256 ⟨t3.val, h8 m t3⟩ ⟨t5.val, t5.isLt.trans_eq trips5⟩).2.1),
   (by intro t3 t5 h22;  have := h8 m t3; have := t5.isLt.trans_eq trips5; rw [off134_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5 h22;  have := h8 m t3; have := t5.isLt.trans_eq trips5; rw [off135_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intros; exact Or.inr ⟨by decide, rfl, rfl, rfl⟩),
   (by intro t3 t5 h22;  have := h8 m t3; have := t5.isLt.trans_eq trips5; rw [off137_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intros; exact Or.inr ⟨by decide, rfl, rfl, rfl⟩),
   (by intro t3 t5 h23;  have := h8 m t3; have := t5.isLt.trans_eq trips5; rw [off139_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (fun t3 t5 h23 h24 => (q5_m256 ⟨t3.val, h8 m t3⟩ ⟨t5.val, t5.isLt.trans_eq trips5⟩).2.2.1),
   (by intro t3 t5 h23 h24;  have := h8 m t3; have := t5.isLt.trans_eq trips5; rw [off140_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5 h23 h24;  have := h8 m t3; have := t5.isLt.trans_eq trips5; rw [off141_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intros; exact Or.inr ⟨by decide, rfl, rfl, rfl⟩),
   (fun t3 t5 h23 h25 => (q5_m256 ⟨t3.val, h8 m t3⟩ ⟨t5.val, t5.isLt.trans_eq trips5⟩).2.2.2),
   (by intro t3 t5 h23 h25;  have := h8 m t3; have := t5.isLt.trans_eq trips5; rw [off143_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5 h23 h25;  have := h8 m t3; have := t5.isLt.trans_eq trips5; rw [off144_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intros; exact Or.inr ⟨by decide, rfl, rfl, rfl⟩),
   (by intro t3 t5 h23 h25;  have := h8 m t3; have := t5.isLt.trans_eq trips5; rw [off146_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intros; exact Or.inr ⟨by decide, rfl, rfl, rfl⟩),
   (by intro t3 t5;  have := h8 m t3; have := t5.isLt.trans_eq trips5; rw [off148_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5;  have := h8 m t3; have := t5.isLt.trans_eq trips5; rw [off149_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5;  have := h8 m t3; have := t5.isLt.trans_eq trips5; rw [off150_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5;  have := h8 m t3; have := t5.isLt.trans_eq trips5; rw [off151_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5;  have := h8 m t3; have := t5.isLt.trans_eq trips5; rw [off152_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5;  have := h8 m t3; have := t5.isLt.trans_eq trips5; rw [off153_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5;  have := h8 m t3; have := t5.isLt.trans_eq trips5; rw [off154_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5;  have := h8 m t3; have := t5.isLt.trans_eq trips5; rw [off155_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5;  have := h8 m t3; have := t5.isLt.trans_eq trips5; rw [off156_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5;  have := h8 m t3; have := t5.isLt.trans_eq trips5; rw [off157_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5;  have := h8 m t3; have := t5.isLt.trans_eq trips5; rw [off158_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5;  have := h8 m t3; have := t5.isLt.trans_eq trips5; rw [off159_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega)⟩

set_option maxHeartbeats 4000000 in
theorem chk1_3 (m : Fin 256) : k0_chk1_3 (BitVec.ofNat 32 m.val) :=
  ⟨(by intro t3 t5;  have := h8 m t3; have := t5.isLt.trans_eq trips5; rw [off160_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5;  have := h8 m t3; have := t5.isLt.trans_eq trips5; rw [off161_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5;  have := h8 m t3; have := t5.isLt.trans_eq trips5; rw [off162_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5;  have := h8 m t3; have := t5.isLt.trans_eq trips5; rw [off163_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5;  have := h8 m t3; have := t5.isLt.trans_eq trips5; rw [off164_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro t3 t5;  have := h8 m t3; have := t5.isLt.trans_eq trips5; rw [off165_eq t3 (h8 m t3) t5]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   ok6 m,
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim)⟩

set_option maxHeartbeats 4000000 in
theorem chk1_4 (m : Fin 256) : k0_chk1_4 (BitVec.ofNat 32 m.val) :=
  ⟨(by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim)⟩

set_option maxHeartbeats 4000000 in
theorem chk1_5 (m : Fin 256) : k0_chk1_5 (BitVec.ofNat 32 m.val) :=
  ⟨(by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim),
   (by intro t6; exact (no6 m t6).elim)⟩

set_option maxHeartbeats 4000000 in
theorem chk1_6 (m : Fin 256) : k0_chk1_6 (BitVec.ofNat 32 m.val) :=
  ⟨(by intro t6; exact (no6 m t6).elim),
   (by intro t6; exact (no6 m t6).elim),
   (by intro t6; exact (no6 m t6).elim),
   (by intro t6; exact (no6 m t6).elim),
   (by intro t6; exact (no6 m t6).elim)⟩

theorem chk1 (m : Fin 256) : k0_chk1 (BitVec.ofNat 32 m.val) :=
  ⟨chk1_0 m, chk1_1 m, chk1_2 m, chk1_3 m, chk1_4 m, chk1_5 m, chk1_6 m⟩

theorem chk2 (w : BitVec 32) (hw : w.toNat < 8) : k0_chk2  w :=
  ⟨(by intro a; show (![w.toNat, 0, 0] : Fin 3 → ℕ) a + _ ≤ _; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intros; exact Or.inr ⟨by decide, rfl, rfl, rfl⟩),
   (by intro a; show (![w.toNat, 0, 0] : Fin 3 → ℕ) a + _ ≤ _; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intros; exact Or.inr ⟨by decide, rfl, rfl, rfl⟩)⟩

theorem chk10 (w : BitVec 32) (hw : w.toNat < 8) : k0_chk10  w :=
  ⟨(by intro a; show (![w.toNat, 0, 0] : Fin 3 → ℕ) a + _ ≤ _; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intros; exact Or.inr ⟨by decide, rfl, rfl, rfl⟩),
   (by intro a; show (![w.toNat, 0, 0] : Fin 3 → ℕ) a + _ ≤ _; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intros; exact Or.inr ⟨by decide, rfl, rfl, rfl⟩)⟩

theorem chk11 (m : Fin 256) (t3 : Fin (k0_t3_loop (BitVec.ofNat 32 m.val)).trips) (w : BitVec 32) (hw : w.toNat < 8) : k0_chk11 (BitVec.ofNat 32 m.val) t3 w :=
  ⟨(by intro _; intro a; show (![w.toNat, 0, 0] : Fin 3 → ℕ) a + _ ≤ _; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intros; exact Or.inr ⟨by decide, rfl, rfl, rfl⟩),
   (by intro _; intro a; show (![w.toNat, 0, 0] : Fin 3 → ℕ) a + _ ≤ _; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intros; exact Or.inr ⟨by decide, rfl, rfl, rfl⟩)⟩

theorem off19_eq (w : BitVec 32) : k0_off19 w = ![w.toNat, 0, 0 * 256, 0] :=
  congrArg (fun n => (![w.toNat, 0, n, 0] : Fin 4 → ℕ)) (by decide)
theorem chk3 (w : BitVec 32) (hw : w.toNat < 8) : k0_chk3 w :=
  ⟨(by intro _; rw [off19_eq w]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro _ hinb; revert hinb; rw [off19_eq w]; exact words_w1 _ _),
   (by intro h; exact absurd h (by decide)),
   (by intro h; exact absurd h (by decide)),
   (by intro h; exact absurd h (by decide)),
   (by intro h; exact absurd h (by decide))⟩

theorem off28_eq (w : BitVec 32) : k0_off28 w = ![w.toNat, 0, 1 * 256, 0] :=
  congrArg (fun n => (![w.toNat, 0, n, 0] : Fin 4 → ℕ)) (by decide)
theorem chk4 (w : BitVec 32) (hw : w.toNat < 8) : k0_chk4 w :=
  ⟨(by intro _; rw [off28_eq w]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro _ hinb; revert hinb; rw [off28_eq w]; exact words_w1 _ _),
   (by intro h; exact absurd h (by decide)),
   (by intro h; exact absurd h (by decide)),
   (by intro h; exact absurd h (by decide)),
   (by intro h; exact absurd h (by decide))⟩

theorem off37_eq (w : BitVec 32) : k0_off37 w = ![w.toNat, 0, 2 * 256, 0] :=
  congrArg (fun n => (![w.toNat, 0, n, 0] : Fin 4 → ℕ)) (by decide)
theorem chk5 (w : BitVec 32) (hw : w.toNat < 8) : k0_chk5 w :=
  ⟨(by intro _; rw [off37_eq w]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro _ hinb; revert hinb; rw [off37_eq w]; exact words_w1 _ _),
   (by intro h; exact absurd h (by decide)),
   (by intro h; exact absurd h (by decide)),
   (by intro h; exact absurd h (by decide)),
   (by intro h; exact absurd h (by decide))⟩

theorem off46_eq (w : BitVec 32) : k0_off46 w = ![w.toNat, 0, 3 * 256, 0] :=
  congrArg (fun n => (![w.toNat, 0, n, 0] : Fin 4 → ℕ)) (by decide)
theorem chk6 (w : BitVec 32) (hw : w.toNat < 8) : k0_chk6 w :=
  ⟨(by intro _; rw [off46_eq w]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro _ hinb; revert hinb; rw [off46_eq w]; exact words_w1 _ _),
   (by intro h; exact absurd h (by decide)),
   (by intro h; exact absurd h (by decide)),
   (by intro h; exact absurd h (by decide)),
   (by intro h; exact absurd h (by decide))⟩

theorem off55_eq (w : BitVec 32) : k0_off55 w = ![w.toNat, 0, 4 * 256, 0] :=
  congrArg (fun n => (![w.toNat, 0, n, 0] : Fin 4 → ℕ)) (by decide)
theorem chk7 (w : BitVec 32) (hw : w.toNat < 8) : k0_chk7 w :=
  ⟨(by intro _; rw [off55_eq w]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro _ hinb; revert hinb; rw [off55_eq w]; exact words_w1 _ _),
   (by intro h; exact absurd h (by decide)),
   (by intro h; exact absurd h (by decide)),
   (by intro h; exact absurd h (by decide)),
   (by intro h; exact absurd h (by decide))⟩

theorem off64_eq (w : BitVec 32) : k0_off64 w = ![w.toNat, 0, 5 * 256, 0] :=
  congrArg (fun n => (![w.toNat, 0, n, 0] : Fin 4 → ℕ)) (by decide)
theorem chk8 (w : BitVec 32) (hw : w.toNat < 8) : k0_chk8 w :=
  ⟨(by intro _; rw [off64_eq w]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro _ hinb; revert hinb; rw [off64_eq w]; exact words_w1 _ _),
   (by intro h; exact absurd h (by decide)),
   (by intro h; exact absurd h (by decide)),
   (by intro h; exact absurd h (by decide)),
   (by intro h; exact absurd h (by decide))⟩

theorem off73_eq (w : BitVec 32) : k0_off73 w = ![w.toNat, 0, 6 * 256, 0] :=
  congrArg (fun n => (![w.toNat, 0, n, 0] : Fin 4 → ℕ)) (by decide)
theorem chk9 (w : BitVec 32) (hw : w.toNat < 8) : k0_chk9 w :=
  ⟨(by intro _; rw [off73_eq w]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro _ hinb; revert hinb; rw [off73_eq w]; exact words_w1 _ _),
   (by intro h; exact absurd h (by decide)),
   (by intro h; exact absurd h (by decide)),
   (by intro h; exact absurd h (by decide)),
   (by intro h; exact absurd h (by decide))⟩

theorem chk13 (m : Fin 256) (t3 : Fin (k0_t3_loop (BitVec.ofNat 32 m.val)).trips) (t4 : Fin k0_t4_loop.trips) (w : BitVec 32) (hw : w.toNat < 8) : k0_chk13 (BitVec.ofNat 32 m.val) t3 t4 w :=
  ⟨(by intro _ h; have := h8 m t3; have := t4.isLt.trans_eq trips4; have := cond19_of t3 (h8 m t3) t4 h; rw [off105_eq t3 (h8 m t3) t4 w (cond19_of t3 (h8 m t3) t4 h)]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro _ h; intro hinb; revert hinb; rw [off105_eq t3 (h8 m t3) t4 w (cond19_of t3 (h8 m t3) t4 h)]; exact words_w1 _ _),
   (by intro _ h; have := h8 m t3; have := t4.isLt.trans_eq trips4; have := cond20_of t3 (h8 m t3) t4 h; rw [off108_eq t3 (h8 m t3) t4 w (cond20_of t3 (h8 m t3) t4 h)]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro _ h; intro hinb; revert hinb; rw [off108_eq t3 (h8 m t3) t4 w (cond20_of t3 (h8 m t3) t4 h)]; exact words_w2 _ _ _),
   (by intro _ h; have := h8 m t3; have := t4.isLt.trans_eq trips4; have := cond20_of t3 (h8 m t3) t4 h; rw [off110_eq t3 (h8 m t3) t4 w (cond20_of t3 (h8 m t3) t4 h)]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro _ h; intro hinb; revert hinb; rw [off110_eq t3 (h8 m t3) t4 w (cond20_of t3 (h8 m t3) t4 h)]; exact words_w2 _ _ _)⟩

theorem chk15 (m : Fin 256) (t3 : Fin (k0_t3_loop (BitVec.ofNat 32 m.val)).trips) (t5 : Fin k0_t5_loop.trips) (w : BitVec 32) (hw : w.toNat < 8) : k0_chk15 (BitVec.ofNat 32 m.val) t3 t5 w :=
  ⟨(by intro _ h; have := h8 m t3; have := t5.isLt.trans_eq trips5; have := cond24_of t3 (h8 m t3) t5 h; rw [off142_eq t3 (h8 m t3) t5 w (cond24_of t3 (h8 m t3) t5 h)]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro _ h; intro hinb; revert hinb; rw [off142_eq t3 (h8 m t3) t5 w (cond24_of t3 (h8 m t3) t5 h)]; exact words_w1 _ _),
   (by intro _ h; have := h8 m t3; have := t5.isLt.trans_eq trips5; have := cond25_of t3 (h8 m t3) t5 h; rw [off145_eq t3 (h8 m t3) t5 w (cond25_of t3 (h8 m t3) t5 h)]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro _ h; intro hinb; revert hinb; rw [off145_eq t3 (h8 m t3) t5 w (cond25_of t3 (h8 m t3) t5 h)]; exact words_w2 _ _ _),
   (by intro _ h; have := h8 m t3; have := t5.isLt.trans_eq trips5; have := cond25_of t3 (h8 m t3) t5 h; rw [off147_eq t3 (h8 m t3) t5 w (cond25_of t3 (h8 m t3) t5 h)]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro _ h; intro hinb; revert hinb; rw [off147_eq t3 (h8 m t3) t5 w (cond25_of t3 (h8 m t3) t5 h)]; exact words_w2 _ _ _)⟩

theorem chk12 (m : Fin 256) (t3 : Fin (k0_t3_loop (BitVec.ofNat 32 m.val)).trips) (t4 : Fin k0_t4_loop.trips) (w : BitVec 32) (hw : w.toNat < 8) : k0_chk12 (BitVec.ofNat 32 m.val) t3 t4 w :=
  ⟨(by intro  h; have := h8 m t3; have := t4.isLt.trans_eq trips4; rw [off96_eq t3 (h8 m t3) t4 w]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro  h; intro hinb; revert hinb; rw [off96_eq t3 (h8 m t3) t4 w]; exact words_w1 _ _),
   (by intro h; rw [cond17_eq t3 (h8 m t3) t4] at h; exact absurd h (by decide)),
   (by intro h; rw [cond17_eq t3 (h8 m t3) t4] at h; exact absurd h (by decide)),
   (by intro h; rw [cond17_eq t3 (h8 m t3) t4] at h; exact absurd h (by decide)),
   (by intro h; rw [cond17_eq t3 (h8 m t3) t4] at h; exact absurd h (by decide))⟩

theorem chk14 (m : Fin 256) (t3 : Fin (k0_t3_loop (BitVec.ofNat 32 m.val)).trips) (t5 : Fin k0_t5_loop.trips) (w : BitVec 32) (hw : w.toNat < 8) : k0_chk14 (BitVec.ofNat 32 m.val) t3 t5 w :=
  ⟨(by intro h; rw [cond21_eq t3 (h8 m t3) t5] at h; exact absurd h (by decide)),
   (by intro h; rw [cond21_eq t3 (h8 m t3) t5] at h; exact absurd h (by decide)),
   (by intro  h; have := h8 m t3; have := t5.isLt.trans_eq trips5; rw [off136_eq t3 (h8 m t3) t5 w]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro  h; intro hinb; revert hinb; rw [off136_eq t3 (h8 m t3) t5 w]; exact words_w2 _ _ _),
   (by intro  h; have := h8 m t3; have := t5.isLt.trans_eq trips5; rw [off138_eq t3 (h8 m t3) t5 w]; intro a; fin_cases a <;> simp [S1, S1x16x256, S1x16x8192, S1x1x256x1024, S1x1x256x128, S1x256x1024, S1x2x256x1024, S1x32x2048, S2, S2x16x8192, S2x32x2048, S8, S8x16x8192, S8x2048x2048, S8x2x256x1024, S8x2x4096x1024, S8x32x2048, S9] <;> omega),
   (by intro  h; intro hinb; revert hinb; rw [off138_eq t3 (h8 m t3) t5 w]; exact words_w2 _ _ _)⟩

end Cert.KernelIdeal.Own
-- ==== Proof.KernelIdeal.Held.lean ====
/- Buffers held at what they read, and the loads and stores of a block's computation: from the ring slot that
   holds a weight block, and from the buffers that hold scales, activations and sums. -/
module

public import proofs.«01_k».proof.Proof.KernelIdeal.Scales
public import proofs.«01_k».proof.Proof.KernelIdeal.Checks

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UU nD τ) ℕ

/-- A whole buffer that reads `X`. -/
def Held (c : Dev nD) {cs : CoreSpace} {sh : Shape} {e : EltTy} (m : Memref sig .tc cs sh e) (q : PosShare TreeShare)
    (X : sh.Idx → Elt F e) : sProp 𝕄 :=
  iprop(∃ f, (m.view.loc (c : Thread nD τ) ↦{q} f) ∗ ⌜∀ x, m.view.read (Elt F) f x = X x⌝)

section rules
variable {α : Type} (c : Dev nD) {cs : CoreSpace} {sh : Shape} {e : EltTy} (m : Memref sig .tc cs sh e) {q : PosShare TreeShare}
  {X : sh.Idx → Elt F e}

theorem held_load {r : LoadRect sh} {hl : m.view.LoadsAt r} {k : (r.shape.Idx → Elt F e) → Prog (TpuEff nD τ sig (Elt F) Λ₀ .tc) α}
    {Q : α → sProp 𝕄} :
    Held c m q X ⊢ iprop((Held c m q X -∗ wp frame (wpE defs₀ 𝒱₀ (c : Thread nD τ) none) Set.univ (k fun x => X (r.idx x)) Q)
      -∗ wp frame (wpE defs₀ 𝒱₀ (c : Thread nD τ) none) Set.univ (.op (.load m r hl) k) Q) := by
  iintro H Hk
  unfold Held
  icases H with ⟨%f, Hf, %hf⟩
  have he : m.view.readAt (Elt F) r f = fun x => X (r.idx x) := funext fun x => hf _
  iapply (wp_load 𝒱₀ (c : Thread nD τ) none Set.univ (m := m) (r := r) (hl := hl) (k := k) (Finset.subset_univ _)) $$ Hf
  iintro Hf
  rw [he]
  iapply Hk
  iexists f
  isplitl [Hf]; · iexact Hf
  ipureintro; exact hf

theorem held_store {r : Rect sh} {w : r.shape.Idx → Elt F e} {hs : _} {ho : _} {X' : sh.Idx → Elt F e}
    (hin : ∀ x, X' (r.emb x) = w x) (hout : ∀ y, (∀ z, r.emb z ≠ y) → X' y = X y)
    {k : PUnit → Prog (TpuEff nD τ sig (Elt F) Λ₀ .tc) α} {Q : α → sProp 𝕄} :
    Held c m fullShare X ⊢ iprop((Held c m fullShare X' -∗ wp frame (wpE defs₀ 𝒱₀ (c : Thread nD τ) none) Set.univ (k ⟨⟩) Q)
      -∗ wp frame (wpE defs₀ 𝒱₀ (c : Thread nD τ) none) Set.univ (.op (.store m r w Finset.univ hs ho) k) Q) := by
  iintro H Hk
  unfold Held
  icases H with ⟨%f, Hf, %hf⟩
  iapply (wp_store 𝒱₀ (c : Thread nD τ) none Set.univ (m := m) (r := r) (k := k) (Finset.subset_univ _)) $$ Hf
  iintro Hf
  iapply Hk
  iexists _
  isplitl [Hf]; · iexact Hf
  ipureintro
  intro x
  by_cases hx : ∃ z, r.emb z = x
  · obtain ⟨z, rfl⟩ := hx
    exact (View.read_slice_write_emb (v := m.view) r f w (Finset.mem_univ z)).trans (hin z).symm
  · have h1 : x ∉ Finset.univ.map r.emb := by
      intro h; obtain ⟨z, -, hz⟩ := Finset.mem_map.1 h; exact hx ⟨z, hz⟩
    exact (View.read_slice_write_of_not_mem (v := m.view) r f w Finset.univ h1).trans
      ((hf x).trans (hout x fun z hz => hx ⟨z, hz⟩).symm)

end rules

/-! ## What the loads of a block read -/

/-- A tile of 128 packed rows of half `i` of a block. -/
def ldT (G : Fin 2 → Fin 256 → Fin 1024 → Elt F .i8) (i : Fin 2) (kt : Fin 8) : Vec F S1x1x256x128 .i8 :=
  fun x => G i (x 2) ⟨128 * kt.val + (x 3).val, by have := kt.isLt; have : (x 3).val < 128 := (x 3).isLt; omega⟩
/-- What a load at a rectangle reads of a buffer. -/
def ldR {sh : Shape} {e : EltTy} (X : sh.Idx → Elt F e) (r : LoadRect sh) : r.shape.Idx → Elt F e := fun x => X (r.idx x)

section comp
variable {α : Type} (arg4 : Memref sig .tc .hbm S8x2x4096x1024 .i8) (arg6 : Memref sig .tc .hbm S8x2048x2048 .i8)
  (arg9 : Memref sig .tc .vmem S8x2x256x1024 .i8) (arg12 : Memref sig .tc .vmem S2x16x256 .bf16) {shx : Shape}
  (xm : Memref sig .tc .vmem shx .bf16) (arg16 : DmaSems sig S8) (c : Dev nD)
  (W1 : Buf (Elt F) (arg4.view.loc (c : Thread nD τ))) (W2 : Buf (Elt F) (arg6.view.loc (c : Thread nD τ)))

/-- What a block's computation holds: the ring slot with the block, the scales of the block's columns, the
    activations, and the rest `R`. -/
def Comp (s : Fin 8) (G : Fin 2 → Fin 256 → Fin 1024 → Elt F .i8) (D : S2x16x256.Idx → Elt F .bf16) (q : PosShare TreeShare)
    (X : shx.Idx → Elt F .bf16) (R : sProp 𝕄) : sProp 𝕄 :=
  iprop(Loaded arg4 arg6 arg9 arg16 c W1 W2 s G ∗ Held c arg12 fullShare D ∗ Held c xm q X ∗ R)

variable {arg4 arg6 arg9 arg12 xm arg16 c W1 W2}
variable {s : Fin 8} {G : Fin 2 → Fin 256 → Fin 1024 → Elt F .i8} {D : S2x16x256.Idx → Elt F .bf16} {q : PosShare TreeShare}
  {X : shx.Idx → Elt F .bf16}

theorem comp_ld12 {R : sProp 𝕄} {Q : α → sProp 𝕄} {r : LoadRect S2x16x256} {hl : arg12.view.LoadsAt r} {k : (r.shape.Idx → Elt F .bf16) → Prog (TpuEff nD τ sig (Elt F) Λ₀ .tc) α}
    (h : Comp arg4 arg6 arg9 arg12 xm arg16 c W1 W2 s G D q X R ⊢ wp frame (wpE defs₀ 𝒱₀ (c : Thread nD τ) none) Set.univ (k (ldR D r)) Q) :
    Comp arg4 arg6 arg9 arg12 xm arg16 c W1 W2 s G D q X R
      ⊢ wp frame (wpE defs₀ 𝒱₀ (c : Thread nD τ) none) Set.univ (.op (.load arg12 r hl) k) Q := by
  have h0 : Comp arg4 arg6 arg9 arg12 xm arg16 c W1 W2 s G D q X R ⊢ iprop(Held c arg12 fullShare D ∗ (Held c arg12 fullShare D -∗ Comp arg4 arg6 arg9 arg12 xm arg16 c W1 W2 s G D q X R)) := by
    unfold Comp
    iintro ⟨HL, HD, HX, HR⟩
    isplitl [HD]; · iexact HD
    iintro HD
    isplitl [HL]; · iexact HL
    isplitl [HD]; · iexact HD
    isplitl [HX]; · iexact HX
    iexact HR
  refine h0.trans ?_
  · iintro ⟨HD, Hk⟩
    iapply (held_load c arg12) $$ HD
    iintro HD
    iapply h
    iapply Hk
    iexact HD

theorem comp_ldX {R : sProp 𝕄} {Q : α → sProp 𝕄} {r : LoadRect shx} {hl : xm.view.LoadsAt r} {k : (r.shape.Idx → Elt F .bf16) → Prog (TpuEff nD τ sig (Elt F) Λ₀ .tc) α}
    (h : Comp arg4 arg6 arg9 arg12 xm arg16 c W1 W2 s G D q X R ⊢ wp frame (wpE defs₀ 𝒱₀ (c : Thread nD τ) none) Set.univ (k (ldR X r)) Q) :
    Comp arg4 arg6 arg9 arg12 xm arg16 c W1 W2 s G D q X R
      ⊢ wp frame (wpE defs₀ 𝒱₀ (c : Thread nD τ) none) Set.univ (.op (.load xm r hl) k) Q := by
  have h0 : Comp arg4 arg6 arg9 arg12 xm arg16 c W1 W2 s G D q X R ⊢ iprop(Held c xm q X ∗ (Held c xm q X -∗ Comp arg4 arg6 arg9 arg12 xm arg16 c W1 W2 s G D q X R)) := by
    unfold Comp
    iintro ⟨HL, HD, HX, HR⟩
    isplitl [HX]; · iexact HX
    iintro HX
    isplitl [HL]; · iexact HL
    isplitl [HD]; · iexact HD
    isplitl [HX]; · iexact HX
    iexact HR
  refine h0.trans ?_
  · iintro ⟨HD, Hk⟩
    iapply (held_load c xm) $$ HD
    iintro HD
    iapply h
    iapply Hk
    iexact HD

/-- A load of one of the other buffers of a block. -/
theorem comp_ldR {R : sProp 𝕄} {Q : α → sProp 𝕄} {cs : CoreSpace} {sh : Shape} {e : EltTy} {m : Memref sig .tc cs sh e} {q' : PosShare TreeShare} {Y : sh.Idx → Elt F e}
    {r : LoadRect sh} {hl : m.view.LoadsAt r} {k : (r.shape.Idx → Elt F e) → Prog (TpuEff nD τ sig (Elt F) Λ₀ .tc) α}
    (h : Comp arg4 arg6 arg9 arg12 xm arg16 c W1 W2 s G D q X iprop(Held c m q' Y ∗ R)
      ⊢ wp frame (wpE defs₀ 𝒱₀ (c : Thread nD τ) none) Set.univ (k (ldR Y r)) Q) :
    Comp arg4 arg6 arg9 arg12 xm arg16 c W1 W2 s G D q X iprop(Held c m q' Y ∗ R)
      ⊢ wp frame (wpE defs₀ 𝒱₀ (c : Thread nD τ) none) Set.univ (.op (.load m r hl) k) Q := by
  have h0 : Comp arg4 arg6 arg9 arg12 xm arg16 c W1 W2 s G D q X iprop(Held c m q' Y ∗ R) ⊢ iprop(Held c m q' Y ∗ (Held c m q' Y -∗ Comp arg4 arg6 arg9 arg12 xm arg16 c W1 W2 s G D q X iprop(Held c m q' Y ∗ R))) := by
    unfold Comp
    iintro ⟨HL, HD, HX, HM, HR⟩
    isplitl [HM]; · iexact HM
    iintro HM
    isplitl [HL]; · iexact HL
    isplitl [HD]; · iexact HD
    isplitl [HX]; · iexact HX
    isplitl [HM]; · iexact HM
    iexact HR
  refine h0.trans ?_
  · iintro ⟨HD, Hk⟩
    iapply (held_load c m) $$ HD
    iintro HD
    iapply h
    iapply Hk
    iexact HD

/-- A store to one of the other buffers of a block. -/
theorem comp_stR {R : sProp 𝕄} {Q : α → sProp 𝕄} {cs : CoreSpace} {sh : Shape} {e : EltTy} {m : Memref sig .tc cs sh e} {Y Y' : sh.Idx → Elt F e}
    {r : Rect sh} {w : r.shape.Idx → Elt F e} {hs : _} {ho : _}
    (hin : ∀ x, Y' (r.emb x) = w x) (hout : ∀ y, (∀ z, r.emb z ≠ y) → Y' y = Y y)
    {k : PUnit → Prog (TpuEff nD τ sig (Elt F) Λ₀ .tc) α}
    (h : Comp arg4 arg6 arg9 arg12 xm arg16 c W1 W2 s G D q X iprop(Held c m fullShare Y' ∗ R)
      ⊢ wp frame (wpE defs₀ 𝒱₀ (c : Thread nD τ) none) Set.univ (k ⟨⟩) Q) :
    Comp arg4 arg6 arg9 arg12 xm arg16 c W1 W2 s G D q X iprop(Held c m fullShare Y ∗ R)
      ⊢ wp frame (wpE defs₀ 𝒱₀ (c : Thread nD τ) none) Set.univ (.op (.store m r w Finset.univ hs ho) k) Q := by
  have h0 : Comp arg4 arg6 arg9 arg12 xm arg16 c W1 W2 s G D q X iprop(Held c m fullShare Y ∗ R) ⊢ iprop(Held c m fullShare Y ∗ (Held c m fullShare Y' -∗ Comp arg4 arg6 arg9 arg12 xm arg16 c W1 W2 s G D q X iprop(Held c m fullShare Y' ∗ R))) := by
    unfold Comp
    iintro ⟨HL, HD, HX, HM, HR⟩
    isplitl [HM]; · iexact HM
    iintro HM
    isplitl [HL]; · iexact HL
    isplitl [HD]; · iexact HD
    isplitl [HX]; · iexact HX
    isplitl [HM]; · iexact HM
    iexact HR
  refine h0.trans ?_
  · iintro ⟨HD, Hk⟩
    iapply (held_store c m hin hout) $$ HD
    iintro HD
    iapply h
    iapply Hk
    iexact HD

/-- A store of scales. -/
theorem comp_st12 {R : sProp 𝕄} {Q : α → sProp 𝕄} {D' : S2x16x256.Idx → Elt F .bf16} {r : Rect S2x16x256} {w : r.shape.Idx → Elt F .bf16} {hs : _} {ho : _}
    (hin : ∀ x, D' (r.emb x) = w x) (hout : ∀ y, (∀ z, r.emb z ≠ y) → D' y = D y)
    {k : PUnit → Prog (TpuEff nD τ sig (Elt F) Λ₀ .tc) α}
    (h : Comp arg4 arg6 arg9 arg12 xm arg16 c W1 W2 s G D' q X R
      ⊢ wp frame (wpE defs₀ 𝒱₀ (c : Thread nD τ) none) Set.univ (k ⟨⟩) Q) :
    Comp arg4 arg6 arg9 arg12 xm arg16 c W1 W2 s G D q X R
      ⊢ wp frame (wpE defs₀ 𝒱₀ (c : Thread nD τ) none) Set.univ (.op (.store arg12 r w Finset.univ hs ho) k) Q := by
  have h0 : Comp arg4 arg6 arg9 arg12 xm arg16 c W1 W2 s G D q X R ⊢ iprop(Held c arg12 fullShare D ∗ (Held c arg12 fullShare D' -∗ Comp arg4 arg6 arg9 arg12 xm arg16 c W1 W2 s G D' q X R)) := by
    unfold Comp
    iintro ⟨HL, HD, HX, HR⟩
    isplitl [HD]; · iexact HD
    iintro HD
    isplitl [HL]; · iexact HL
    isplitl [HD]; · iexact HD
    isplitl [HX]; · iexact HX
    iexact HR
  refine h0.trans ?_
  · iintro ⟨HD, Hk⟩
    iapply (held_store c arg12 hin hout) $$ HD
    iintro HD
    iapply h
    iapply Hk
    iexact HD

/-- A load of a tile of the block. -/
theorem comp_ld9 {R : sProp 𝕄} {Q : α → sProp 𝕄} (i : Fin 2) (kt : Fin 8) {off : Fin 4 → ℕ} (ho : off = ![s.val, i.val, 0, kt.val * 128])
    {inb : ∀ a, off a + S1x1x256x128.size a ≤ S8x2x256x1024.size a}
    {hl : arg9.view.LoadsAt (Rect.unit (s := S8x2x256x1024) off S1x1x256x128.size inb).toLoadRect}
    {k : Vec F S1x1x256x128 .i8 → Prog (TpuEff nD τ sig (Elt F) Λ₀ .tc) α}
    (h : Comp arg4 arg6 arg9 arg12 xm arg16 c W1 W2 s G D q X R ⊢ wp frame (wpE defs₀ 𝒱₀ (c : Thread nD τ) none) Set.univ (k (ldT G i kt)) Q) :
    Comp arg4 arg6 arg9 arg12 xm arg16 c W1 W2 s G D q X R
      ⊢ wp frame (wpE defs₀ 𝒱₀ (c : Thread nD τ) none) Set.univ
          (.op (.load arg9 (Rect.unit (s := S8x2x256x1024) off S1x1x256x128.size inb).toLoadRect hl) k) Q := by
  subst ho
  have hidx : ∀ x : S1x1x256x128.Idx,
      (Rect.unit (s := S8x2x256x1024) ![s.val, i.val, 0, kt.val * 128] S1x1x256x128.size inb).toLoadRect.idx x
        = ix4 s i (x 2 : Fin 256) (⟨128 * kt.val + (x 3).val, by have := kt.isLt; have : (x 3).val < 128 := (x 3).isLt; omega⟩ : Fin 1024) := by
    intro x
    have h0 : (x 0).val = 0 := by have : (x 0).val < 1 := (x 0).isLt; omega
    have h1 : (x 1).val = 0 := by have : (x 1).val < 1 := (x 1).isLt; omega
    funext a
    apply Fin.ext
    fin_cases a
    · show s.val + 1 * (x 0).val = s.val; omega
    · show i.val + 1 * (x 1).val = i.val; omega
    · show 0 + 1 * (x 2).val = (x 2).val; omega
    · show kt.val * 128 + 1 * (x 3).val = 128 * kt.val + (x 3).val; omega
  · unfold Comp at h ⊢
    unfold Loaded at h ⊢
    iintro ⟨⟨⟨%f, Hf, %hf⟩, Hs, Ht⟩, HD, HX, HR⟩
    have he : arg9.view.readAt (Elt F) (Rect.unit (s := S8x2x256x1024) ![s.val, i.val, 0, kt.val * 128] S1x1x256x128.size inb).toLoadRect f
        = ldT G i kt := funext fun x => by
      show arg9.view.read (Elt F) f _ = _
      exact (congrArg _ (hidx x)).trans (hf _ _ _)
    have hsub : arg9.view.setOn (Rect.unit (s := S8x2x256x1024) ![s.val, i.val, 0, kt.val * 128] S1x1x256x128.size inb).toLoadRect.set
        ⊆ (slotM arg9 s).view.set := by
      intro y hy
      obtain ⟨z, hz, rfl⟩ := Finset.mem_map.1 hy
      obtain ⟨x, rfl⟩ := LoadRect.exists_idx_of_mem _ hz
      rw [hidx x]
      exact mem_slot_set arg9 s _ _ _
    iapply (wp_load 𝒱₀ (c : Thread nD τ) none Set.univ (m := arg9) (hl := hl) (k := k) hsub) $$ Hf
    iintro Hf
    rw [he]
    iapply h
    isplitl [Hf Hs Ht]
    · isplitl [Hf]
      · iexists f
        isplitl [Hf]; · iexact Hf
        ipureintro; exact hf
      isplitl [Hs]; · iexact Hs
      iexact Ht
    isplitl [HD]; · iexact HD
    isplitl [HX]; · iexact HX
    iexact HR

end comp

end Cert.KernelIdeal.Own
-- ==== Proof.KernelIdeal.Parts.lean ====
/- The parts of a block computation, each as a function of the block, the scales and the activations. -/
module

public import proofs.«01_k».proof.Proof.KernelIdeal.Held

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UU nD τ) ℕ

def part3V (G : Fin 2 → Fin 256 → Fin 1024 → Elt F .i8) (D : S2x16x256.Idx → Elt F .bf16) (X : S48x2048.Idx → Elt F .bf16) (v278 : FVec F S256x256 .bf16) (v280 : FVec F S48x256 .bf16) : Σ' (v318 : FVec F S48x256 .f32), Vec F S1x1x256x128 .i8 :=
  ⟨k0_pay12 v278 v280 (ldT G 0 1) (ldR D (Rect.unit (s := S2x16x256) ![0, 2, 0] S1x1x256.size inb_S2x16x256_S1x1x256_0_2_0).toLoadRect) (ldR D (Rect.unit (s := S2x16x256) ![0, 3, 0] S1x1x256.size inb_S2x16x256_S1x1x256_0_3_0).toLoadRect) (ldR X (Rect.unit (s := S48x2048) ![0, 256] S48x256.size inb_S48x2048_S48x256_0_256).toLoadRect), (ldT G 0 2)⟩
theorem part3_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v209 : BitVec 32} {v278 : FVec F S256x256 .bf16} {v280 : FVec F S48x256 .bf16} {k0_t3 : Fin (k0_t3_loop v3).trips} {k0_t4 : Fin k0_t4_loop.trips}
    (h3 : k0_t3.val < 8) {s : Fin 8} (hs : s.val = (24 * k0_t3.val + k0_t4.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x2048.Idx → Elt F .bf16} {R : sProp 𝕄} {Q : (Σ' (v318 : FVec F S48x256 .f32), Vec F S1x1x256x128 .i8) → sProp 𝕄}
    (h : Comp arg4 arg6 arg9 arg12 arg1 arg16 c W1 W2 s G D q X R ⊢ Q (part3V G D X v278 v280)) :
    Comp arg4 arg6 arg9 arg12 arg1 arg16 c W1 W2 s G D q X R
      ⊢ wp frame (wpE defs₀ 𝒱₀ (c : Thread nD τ) none) Set.univ (k0_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t4 v209 v278 v280) Q := by
  rw [k0_part3_eq_skeleton]
  unfold k0_part3_skel
  refine comp_ld9 0 1 ((off113_eq k0_t3 h3 k0_t4).trans (by rw [hs]; rfl)) ?_
  refine comp_ld12 ?_
  refine comp_ld12 ?_
  refine comp_ldX ?_
  refine comp_ld9 0 2 ((off114_eq k0_t3 h3 k0_t4).trans (by rw [hs]; rfl)) ?_
  refine BIBase.Entails.trans ?_ (le_of_eq (wp_ret ..).symm)
  exact h.trans fupd_intro

def part4V (G : Fin 2 → Fin 256 → Fin 1024 → Elt F .i8) (D : S2x16x256.Idx → Elt F .bf16) (X : S48x2048.Idx → Elt F .bf16) (v318 : FVec F S48x256 .f32) (v320 : Vec F S1x1x256x128 .i8) : Σ' (v355 : FVec F S48x256 .f32), IVec S32x1x256 32 :=
  ⟨k0_pay13 v318 v320 (ldR D (Rect.unit (s := S2x16x256) ![0, 4, 0] S1x1x256.size inb_S2x16x256_S1x1x256_0_4_0).toLoadRect) (ldR D (Rect.unit (s := S2x16x256) ![0, 5, 0] S1x1x256.size inb_S2x16x256_S1x1x256_0_5_0).toLoadRect) (ldR X (Rect.unit (s := S48x2048) ![0, 512] S48x256.size inb_S48x2048_S48x256_0_512).toLoadRect), k0_pay14 (ldT G 0 3)⟩
theorem part4_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v209 : BitVec 32} {v318 : FVec F S48x256 .f32} {v320 : Vec F S1x1x256x128 .i8} {k0_t3 : Fin (k0_t3_loop v3).trips} {k0_t4 : Fin k0_t4_loop.trips}
    (h3 : k0_t3.val < 8) {s : Fin 8} (hs : s.val = (24 * k0_t3.val + k0_t4.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x2048.Idx → Elt F .bf16} {R : sProp 𝕄} {Q : (Σ' (v355 : FVec F S48x256 .f32), IVec S32x1x256 32) → sProp 𝕄}
    (h : Comp arg4 arg6 arg9 arg12 arg1 arg16 c W1 W2 s G D q X R ⊢ Q (part4V G D X v318 v320)) :
    Comp arg4 arg6 arg9 arg12 arg1 arg16 c W1 W2 s G D q X R
      ⊢ wp frame (wpE defs₀ 𝒱₀ (c : Thread nD τ) none) Set.univ (k0_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t4 v209 v318 v320) Q := by
  rw [k0_part4_eq_skeleton]
  unfold k0_part4_skel
  refine comp_ld12 ?_
  refine comp_ld12 ?_
  refine comp_ldX ?_
  refine comp_ld9 0 3 ((off115_eq k0_t3 h3 k0_t4).trans (by rw [hs]; rfl)) ?_
  refine BIBase.Entails.trans ?_ (le_of_eq (wp_ret ..).symm)
  exact h.trans fupd_intro

def part5V (G : Fin 2 → Fin 256 → Fin 1024 → Elt F .i8) (D : S2x16x256.Idx → Elt F .bf16) (X : S48x2048.Idx → Elt F .bf16) (v355 : FVec F S48x256 .f32) (v363 : IVec S32x1x256 32) : Σ' (v392 : FVec F S48x256 .f32) (v402 : IVec S32x8x256 32) (v405 : IVec S32x8x256 32), BitVec 32 :=
  ⟨k0_pay15 v355 v363 (ldR D (Rect.unit (s := S2x16x256) ![0, 6, 0] S1x1x256.size inb_S2x16x256_S1x1x256_0_6_0).toLoadRect) (ldR D (Rect.unit (s := S2x16x256) ![0, 7, 0] S1x1x256.size inb_S2x16x256_S1x1x256_0_7_0).toLoadRect) (ldR X (Rect.unit (s := S48x2048) ![0, 768] S48x256.size inb_S48x2048_S48x256_0_768).toLoadRect), k0_pay16 (ldT G 0 4), k0_pay17, 28#32⟩
theorem part5_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v209 : BitVec 32} {v355 : FVec F S48x256 .f32} {v363 : IVec S32x1x256 32} {k0_t3 : Fin (k0_t3_loop v3).trips} {k0_t4 : Fin k0_t4_loop.trips}
    (h3 : k0_t3.val < 8) {s : Fin 8} (hs : s.val = (24 * k0_t3.val + k0_t4.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x2048.Idx → Elt F .bf16} {R : sProp 𝕄} {Q : (Σ' (v392 : FVec F S48x256 .f32) (v402 : IVec S32x8x256 32) (v405 : IVec S32x8x256 32), BitVec 32) → sProp 𝕄}
    (h : Comp arg4 arg6 arg9 arg12 arg1 arg16 c W1 W2 s G D q X R ⊢ Q (part5V G D X v355 v363)) :
    Comp arg4 arg6 arg9 arg12 arg1 arg16 c W1 W2 s G D q X R
      ⊢ wp frame (wpE defs₀ 𝒱₀ (c : Thread nD τ) none) Set.univ (k0_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t4 v209 v355 v363) Q := by
  rw [k0_part5_eq_skeleton]
  unfold k0_part5_skel
  refine comp_ld12 ?_
  refine comp_ld12 ?_
  refine comp_ldX ?_
  refine comp_ld9 0 4 ((off116_eq k0_t3 h3 k0_t4).trans (by rw [hs]; rfl)) ?_
  refine BIBase.Entails.trans ?_ (le_of_eq (wp_ret ..).symm)
  exact h.trans fupd_intro

def part6V (G : Fin 2 → Fin 256 → Fin 1024 → Elt F .i8) (D : S2x16x256.Idx → Elt F .bf16) (X : S48x2048.Idx → Elt F .bf16) (v392 : FVec F S48x256 .f32) (v402 : IVec S32x8x256 32) (v405 : IVec S32x8x256 32) (c28_i32_228 : BitVec 32) : Σ' (v429 : FVec F S48x256 .f32), IVec S256x256 32 :=
  ⟨k0_pay18 v392 v402 v405 c28_i32_228 (ldR D (Rect.unit (s := S2x16x256) ![0, 8, 0] S1x1x256.size inb_S2x16x256_S1x1x256_0_8_0).toLoadRect) (ldR D (Rect.unit (s := S2x16x256) ![0, 9, 0] S1x1x256.size inb_S2x16x256_S1x1x256_0_9_0).toLoadRect) (ldR X (Rect.unit (s := S48x2048) ![0, 1024] S48x256.size inb_S48x2048_S48x256_0_1024).toLoadRect), k0_pay19 (ldT G 0 5)⟩
theorem part6_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v209 : BitVec 32} {v392 : FVec F S48x256 .f32} {v402 : IVec S32x8x256 32} {v405 : IVec S32x8x256 32} {c28_i32_228 : BitVec 32} {k0_t3 : Fin (k0_t3_loop v3).trips} {k0_t4 : Fin k0_t4_loop.trips}
    (h3 : k0_t3.val < 8) {s : Fin 8} (hs : s.val = (24 * k0_t3.val + k0_t4.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x2048.Idx → Elt F .bf16} {R : sProp 𝕄} {Q : (Σ' (v429 : FVec F S48x256 .f32), IVec S256x256 32) → sProp 𝕄}
    (h : Comp arg4 arg6 arg9 arg12 arg1 arg16 c W1 W2 s G D q X R ⊢ Q (part6V G D X v392 v402 v405 c28_i32_228)) :
    Comp arg4 arg6 arg9 arg12 arg1 arg16 c W1 W2 s G D q X R
      ⊢ wp frame (wpE defs₀ 𝒱₀ (c : Thread nD τ) none) Set.univ (k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t4 v209 v392 v402 v405 c28_i32_228) Q := by
  rw [k0_part6_eq_skeleton]
  unfold k0_part6_skel
  refine comp_ld12 ?_
  refine comp_ld12 ?_
  refine comp_ldX ?_
  refine comp_ld9 0 5 ((off117_eq k0_t3 h3 k0_t4).trans (by rw [hs]; rfl)) ?_
  refine BIBase.Entails.trans ?_ (le_of_eq (wp_ret ..).symm)
  exact h.trans fupd_intro

def part7V (G : Fin 2 → Fin 256 → Fin 1024 → Elt F .i8) (D : S2x16x256.Idx → Elt F .bf16) (X : S48x2048.Idx → Elt F .bf16) (v429 : FVec F S48x256 .f32) (v448 : IVec S256x256 32) : Σ' (v466 : FVec F S48x256 .f32) (v486 : FVec F S256x256 .bf16), FVec F S1x256 .bf16 :=
  ⟨k0_pay20 v429 v448 (ldR D (Rect.unit (s := S2x16x256) ![0, 10, 0] S1x1x256.size inb_S2x16x256_S1x1x256_0_10_0).toLoadRect) (ldR D (Rect.unit (s := S2x16x256) ![0, 11, 0] S1x1x256.size inb_S2x16x256_S1x1x256_0_11_0).toLoadRect) (ldR X (Rect.unit (s := S48x2048) ![0, 1280] S48x256.size inb_S48x2048_S48x256_0_1280).toLoadRect), k0_pay21 (ldT G 0 6), k0_pay22 (ldR D (Rect.unit (s := S2x16x256) ![0, 12, 0] S1x1x256.size inb_S2x16x256_S1x1x256_0_12_0).toLoadRect)⟩
theorem part7_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v209 : BitVec 32} {v429 : FVec F S48x256 .f32} {v448 : IVec S256x256 32} {k0_t3 : Fin (k0_t3_loop v3).trips} {k0_t4 : Fin k0_t4_loop.trips}
    (h3 : k0_t3.val < 8) {s : Fin 8} (hs : s.val = (24 * k0_t3.val + k0_t4.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x2048.Idx → Elt F .bf16} {R : sProp 𝕄} {Q : (Σ' (v466 : FVec F S48x256 .f32) (v486 : FVec F S256x256 .bf16), FVec F S1x256 .bf16) → sProp 𝕄}
    (h : Comp arg4 arg6 arg9 arg12 arg1 arg16 c W1 W2 s G D q X R ⊢ Q (part7V G D X v429 v448)) :
    Comp arg4 arg6 arg9 arg12 arg1 arg16 c W1 W2 s G D q X R
      ⊢ wp frame (wpE defs₀ 𝒱₀ (c : Thread nD τ) none) Set.univ (k0_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t4 v209 v429 v448) Q := by
  rw [k0_part7_eq_skeleton]
  unfold k0_part7_skel
  refine comp_ld12 ?_
  refine comp_ld12 ?_
  refine comp_ldX ?_
  refine comp_ld9 0 6 ((off118_eq k0_t3 h3 k0_t4).trans (by rw [hs]; rfl)) ?_
  refine comp_ld12 ?_
  refine BIBase.Entails.trans ?_ (le_of_eq (wp_ret ..).symm)
  exact h.trans fupd_intro

def part8V (G : Fin 2 → Fin 256 → Fin 1024 → Elt F .i8) (D : S2x16x256.Idx → Elt F .bf16) (X : S48x2048.Idx → Elt F .bf16) (v466 : FVec F S48x256 .f32) (v486 : FVec F S256x256 .bf16) (v489 : FVec F S1x256 .bf16) : Σ' (v503 : FVec F S48x256 .f32) (v523 : FVec F S256x256 .bf16) (v529 : FVec F S128x256 .bf16), Vec F S1x1x256 .bf16 :=
  ⟨k0_pay23 v466 v486 v489 (ldR D (Rect.unit (s := S2x16x256) ![0, 13, 0] S1x1x256.size inb_S2x16x256_S1x1x256_0_13_0).toLoadRect) (ldR X (Rect.unit (s := S48x2048) ![0, 1536] S48x256.size inb_S48x2048_S48x256_0_1536).toLoadRect), k0_pay24 (ldT G 0 7), k0_pay25 (ldT G 0 7) (ldR D (Rect.unit (s := S2x16x256) ![0, 14, 0] S1x1x256.size inb_S2x16x256_S1x1x256_0_14_0).toLoadRect), (ldR D (Rect.unit (s := S2x16x256) ![0, 15, 0] S1x1x256.size inb_S2x16x256_S1x1x256_0_15_0).toLoadRect)⟩
theorem part8_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v209 : BitVec 32} {v466 : FVec F S48x256 .f32} {v486 : FVec F S256x256 .bf16} {v489 : FVec F S1x256 .bf16} {k0_t3 : Fin (k0_t3_loop v3).trips} {k0_t4 : Fin k0_t4_loop.trips}
    (h3 : k0_t3.val < 8) {s : Fin 8} (hs : s.val = (24 * k0_t3.val + k0_t4.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x2048.Idx → Elt F .bf16} {R : sProp 𝕄} {Q : (Σ' (v503 : FVec F S48x256 .f32) (v523 : FVec F S256x256 .bf16) (v529 : FVec F S128x256 .bf16), Vec F S1x1x256 .bf16) → sProp 𝕄}
    (h : Comp arg4 arg6 arg9 arg12 arg1 arg16 c W1 W2 s G D q X R ⊢ Q (part8V G D X v466 v486 v489)) :
    Comp arg4 arg6 arg9 arg12 arg1 arg16 c W1 W2 s G D q X R
      ⊢ wp frame (wpE defs₀ 𝒱₀ (c : Thread nD τ) none) Set.univ (k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t4 v209 v466 v486 v489) Q := by
  rw [k0_part8_eq_skeleton]
  unfold k0_part8_skel
  refine comp_ld12 ?_
  refine comp_ldX ?_
  refine comp_ld9 0 7 ((off119_eq k0_t3 h3 k0_t4).trans (by rw [hs]; rfl)) ?_
  refine comp_ld12 ?_
  refine comp_ld12 ?_
  refine BIBase.Entails.trans ?_ (le_of_eq (wp_ret ..).symm)
  exact h.trans fupd_intro

def part9V (G : Fin 2 → Fin 256 → Fin 1024 → Elt F .i8) (D : S2x16x256.Idx → Elt F .bf16) (X : S48x2048.Idx → Elt F .bf16) (v503 : FVec F S48x256 .f32) (v523 : FVec F S256x256 .bf16) (v529 : FVec F S128x256 .bf16) (v530 : Vec F S1x1x256 .bf16) : Σ' (v540 : FVec F S48x256 .f32), FVec F S256x256 .bf16 :=
  ⟨k0_pay26 v503 v523 v529 v530 (ldR X (Rect.unit (s := S48x2048) ![0, 1792] S48x256.size inb_S48x2048_S48x256_0_1792).toLoadRect), k0_pay27 (ldT G 1 0) (ldR D (Rect.unit (s := S2x16x256) ![1, 0, 0] S1x1x256.size inb_S2x16x256_S1x1x256_1_0_0).toLoadRect) (ldR D (Rect.unit (s := S2x16x256) ![1, 1, 0] S1x1x256.size inb_S2x16x256_S1x1x256_1_1_0).toLoadRect)⟩
theorem part9_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v209 : BitVec 32} {v503 : FVec F S48x256 .f32} {v523 : FVec F S256x256 .bf16} {v529 : FVec F S128x256 .bf16} {v530 : Vec F S1x1x256 .bf16} {k0_t3 : Fin (k0_t3_loop v3).trips} {k0_t4 : Fin k0_t4_loop.trips}
    (h3 : k0_t3.val < 8) {s : Fin 8} (hs : s.val = (24 * k0_t3.val + k0_t4.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x2048.Idx → Elt F .bf16} {R : sProp 𝕄} {Q : (Σ' (v540 : FVec F S48x256 .f32), FVec F S256x256 .bf16) → sProp 𝕄}
    (h : Comp arg4 arg6 arg9 arg12 arg1 arg16 c W1 W2 s G D q X R ⊢ Q (part9V G D X v503 v523 v529 v530)) :
    Comp arg4 arg6 arg9 arg12 arg1 arg16 c W1 W2 s G D q X R
      ⊢ wp frame (wpE defs₀ 𝒱₀ (c : Thread nD τ) none) Set.univ (k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t4 v209 v503 v523 v529 v530) Q := by
  rw [k0_part9_eq_skeleton]
  unfold k0_part9_skel
  refine comp_ldX ?_
  refine comp_ld9 1 0 ((off120_eq k0_t3 h3 k0_t4).trans (by rw [hs]; rfl)) ?_
  refine comp_ld12 ?_
  refine comp_ld12 ?_
  refine BIBase.Entails.trans ?_ (le_of_eq (wp_ret ..).symm)
  exact h.trans fupd_intro

def part10V (G : Fin 2 → Fin 256 → Fin 1024 → Elt F .i8) (D : S2x16x256.Idx → Elt F .bf16) (X : S48x2048.Idx → Elt F .bf16) (v573 : FVec F S256x256 .bf16) : FVec F S48x256 .f32 :=
  (k0_pay28 v573 (ldR X (Rect.unit (s := S48x2048) ![0, 0] S48x256.size inb_S48x2048_S48x256_0_0).toLoadRect) (ldT G 1 1) (ldR D (Rect.unit (s := S2x16x256) ![1, 2, 0] S1x1x256.size inb_S2x16x256_S1x1x256_1_2_0).toLoadRect) (ldR D (Rect.unit (s := S2x16x256) ![1, 3, 0] S1x1x256.size inb_S2x16x256_S1x1x256_1_3_0).toLoadRect) (ldR X (Rect.unit (s := S48x2048) ![0, 256] S48x256.size inb_S48x2048_S48x256_0_256).toLoadRect))
theorem part10_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v209 : BitVec 32} {v573 : FVec F S256x256 .bf16} {k0_t3 : Fin (k0_t3_loop v3).trips} {k0_t4 : Fin k0_t4_loop.trips}
    (h3 : k0_t3.val < 8) {s : Fin 8} (hs : s.val = (24 * k0_t3.val + k0_t4.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x2048.Idx → Elt F .bf16} {R : sProp 𝕄} {Q : (FVec F S48x256 .f32) → sProp 𝕄}
    (h : Comp arg4 arg6 arg9 arg12 arg1 arg16 c W1 W2 s G D q X R ⊢ Q (part10V G D X v573)) :
    Comp arg4 arg6 arg9 arg12 arg1 arg16 c W1 W2 s G D q X R
      ⊢ wp frame (wpE defs₀ 𝒱₀ (c : Thread nD τ) none) Set.univ (k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t4 v209 v573) Q := by
  rw [k0_part10_eq_skeleton]
  unfold k0_part10_skel
  refine comp_ldX ?_
  refine comp_ld9 1 1 ((off121_eq k0_t3 h3 k0_t4).trans (by rw [hs]; rfl)) ?_
  refine comp_ld12 ?_
  refine comp_ld12 ?_
  refine comp_ldX ?_
  refine BIBase.Entails.trans ?_ (le_of_eq (wp_ret ..).symm)
  exact h.trans fupd_intro

def part11V (G : Fin 2 → Fin 256 → Fin 1024 → Elt F .i8) (D : S2x16x256.Idx → Elt F .bf16) (X : S48x2048.Idx → Elt F .bf16) (v613 : FVec F S48x256 .f32) : Σ' (v650 : FVec F S48x256 .f32) (v655 : IVec S32x256 32), BitVec 32 :=
  ⟨k0_pay29 v613 (ldT G 1 2) (ldR D (Rect.unit (s := S2x16x256) ![1, 4, 0] S1x1x256.size inb_S2x16x256_S1x1x256_1_4_0).toLoadRect) (ldR D (Rect.unit (s := S2x16x256) ![1, 5, 0] S1x1x256.size inb_S2x16x256_S1x1x256_1_5_0).toLoadRect) (ldR X (Rect.unit (s := S48x2048) ![0, 512] S48x256.size inb_S48x2048_S48x256_0_512).toLoadRect), k0_pay30 (ldT G 1 3), 2290649224#32⟩
theorem part11_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v209 : BitVec 32} {v613 : FVec F S48x256 .f32} {k0_t3 : Fin (k0_t3_loop v3).trips} {k0_t4 : Fin k0_t4_loop.trips}
    (h3 : k0_t3.val < 8) {s : Fin 8} (hs : s.val = (24 * k0_t3.val + k0_t4.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x2048.Idx → Elt F .bf16} {R : sProp 𝕄} {Q : (Σ' (v650 : FVec F S48x256 .f32) (v655 : IVec S32x256 32), BitVec 32) → sProp 𝕄}
    (h : Comp arg4 arg6 arg9 arg12 arg1 arg16 c W1 W2 s G D q X R ⊢ Q (part11V G D X v613)) :
    Comp arg4 arg6 arg9 arg12 arg1 arg16 c W1 W2 s G D q X R
      ⊢ wp frame (wpE defs₀ 𝒱₀ (c : Thread nD τ) none) Set.univ (k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t4 v209 v613) Q := by
  rw [k0_part11_eq_skeleton]
  unfold k0_part11_skel
  refine comp_ld9 1 2 ((off122_eq k0_t3 h3 k0_t4).trans (by rw [hs]; rfl)) ?_
  refine comp_ld12 ?_
  refine comp_ld12 ?_
  refine comp_ldX ?_
  refine comp_ld9 1 3 ((off123_eq k0_t3 h3 k0_t4).trans (by rw [hs]; rfl)) ?_
  refine BIBase.Entails.trans ?_ (le_of_eq (wp_ret ..).symm)
  exact h.trans fupd_intro

def part12V (G : Fin 2 → Fin 256 → Fin 1024 → Elt F .i8) (D : S2x16x256.Idx → Elt F .bf16) (X : S48x2048.Idx → Elt F .bf16) (v650 : FVec F S48x256 .f32) (v655 : IVec S32x256 32) (c_m2004318072_i32_324 : BitVec 32) : Σ' (v687 : FVec F S48x256 .f32) (v697 : IVec S32x8x256 32) (v698 : IVec S32x8x256 32), BitVec 32 :=
  ⟨k0_pay31 v650 v655 c_m2004318072_i32_324 (ldR D (Rect.unit (s := S2x16x256) ![1, 6, 0] S1x1x256.size inb_S2x16x256_S1x1x256_1_6_0).toLoadRect) (ldR D (Rect.unit (s := S2x16x256) ![1, 7, 0] S1x1x256.size inb_S2x16x256_S1x1x256_1_7_0).toLoadRect) (ldR X (Rect.unit (s := S48x2048) ![0, 768] S48x256.size inb_S48x2048_S48x256_0_768).toLoadRect), k0_pay32 (ldT G 1 4), (iota .tc S32x8x256 32 [1] iota_S32x8x256_d1_w32 : IVec S32x8x256 32), 4#32⟩
theorem part12_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v209 : BitVec 32} {v650 : FVec F S48x256 .f32} {v655 : IVec S32x256 32} {c_m2004318072_i32_324 : BitVec 32} {k0_t3 : Fin (k0_t3_loop v3).trips} {k0_t4 : Fin k0_t4_loop.trips}
    (h3 : k0_t3.val < 8) {s : Fin 8} (hs : s.val = (24 * k0_t3.val + k0_t4.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x2048.Idx → Elt F .bf16} {R : sProp 𝕄} {Q : (Σ' (v687 : FVec F S48x256 .f32) (v697 : IVec S32x8x256 32) (v698 : IVec S32x8x256 32), BitVec 32) → sProp 𝕄}
    (h : Comp arg4 arg6 arg9 arg12 arg1 arg16 c W1 W2 s G D q X R ⊢ Q (part12V G D X v650 v655 c_m2004318072_i32_324)) :
    Comp arg4 arg6 arg9 arg12 arg1 arg16 c W1 W2 s G D q X R
      ⊢ wp frame (wpE defs₀ 𝒱₀ (c : Thread nD τ) none) Set.univ (k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t4 v209 v650 v655 c_m2004318072_i32_324) Q := by
  rw [k0_part12_eq_skeleton]
  unfold k0_part12_skel
  refine comp_ld12 ?_
  refine comp_ld12 ?_
  refine comp_ldX ?_
  refine comp_ld9 1 4 ((off124_eq k0_t3 h3 k0_t4).trans (by rw [hs]; rfl)) ?_
  refine BIBase.Entails.trans ?_ (le_of_eq (wp_ret ..).symm)
  exact h.trans fupd_intro

def part13V (G : Fin 2 → Fin 256 → Fin 1024 → Elt F .i8) (D : S2x16x256.Idx → Elt F .bf16) (X : S48x2048.Idx → Elt F .bf16) (v687 : FVec F S48x256 .f32) (v697 : IVec S32x8x256 32) (v698 : IVec S32x8x256 32) (c4_i32_341 : BitVec 32) : Σ' (v724 : FVec F S48x256 .f32) (v740 : IVec S32x8x256 32), BitVec 32 :=
  ⟨k0_pay33 v687 v697 v698 c4_i32_341 (ldR D (Rect.unit (s := S2x16x256) ![1, 8, 0] S1x1x256.size inb_S2x16x256_S1x1x256_1_8_0).toLoadRect) (ldR D (Rect.unit (s := S2x16x256) ![1, 9, 0] S1x1x256.size inb_S2x16x256_S1x1x256_1_9_0).toLoadRect) (ldR X (Rect.unit (s := S48x2048) ![0, 1024] S48x256.size inb_S48x2048_S48x256_0_1024).toLoadRect), k0_pay34 (ldT G 1 5), 28#32⟩
theorem part13_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v209 : BitVec 32} {v687 : FVec F S48x256 .f32} {v697 : IVec S32x8x256 32} {v698 : IVec S32x8x256 32} {c4_i32_341 : BitVec 32} {k0_t3 : Fin (k0_t3_loop v3).trips} {k0_t4 : Fin k0_t4_loop.trips}
    (h3 : k0_t3.val < 8) {s : Fin 8} (hs : s.val = (24 * k0_t3.val + k0_t4.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x2048.Idx → Elt F .bf16} {R : sProp 𝕄} {Q : (Σ' (v724 : FVec F S48x256 .f32) (v740 : IVec S32x8x256 32), BitVec 32) → sProp 𝕄}
    (h : Comp arg4 arg6 arg9 arg12 arg1 arg16 c W1 W2 s G D q X R ⊢ Q (part13V G D X v687 v697 v698 c4_i32_341)) :
    Comp arg4 arg6 arg9 arg12 arg1 arg16 c W1 W2 s G D q X R
      ⊢ wp frame (wpE defs₀ 𝒱₀ (c : Thread nD τ) none) Set.univ (k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t4 v209 v687 v697 v698 c4_i32_341) Q := by
  rw [k0_part13_eq_skeleton]
  unfold k0_part13_skel
  refine comp_ld12 ?_
  refine comp_ld12 ?_
  refine comp_ldX ?_
  refine comp_ld9 1 5 ((off125_eq k0_t3 h3 k0_t4).trans (by rw [hs]; rfl)) ?_
  refine BIBase.Entails.trans ?_ (le_of_eq (wp_ret ..).symm)
  exact h.trans fupd_intro

def part14V (G : Fin 2 → Fin 256 → Fin 1024 → Elt F .i8) (D : S2x16x256.Idx → Elt F .bf16) (X : S48x2048.Idx → Elt F .bf16) (v724 : FVec F S48x256 .f32) (v740 : IVec S32x8x256 32) (c28_i32_359 : BitVec 32) : Σ' (v761 : FVec F S48x256 .f32), FVec F S256x256 .bf16 :=
  ⟨k0_pay35 v724 v740 c28_i32_359 (ldR D (Rect.unit (s := S2x16x256) ![1, 10, 0] S1x1x256.size inb_S2x16x256_S1x1x256_1_10_0).toLoadRect) (ldR D (Rect.unit (s := S2x16x256) ![1, 11, 0] S1x1x256.size inb_S2x16x256_S1x1x256_1_11_0).toLoadRect) (ldR X (Rect.unit (s := S48x2048) ![0, 1280] S48x256.size inb_S48x2048_S48x256_0_1280).toLoadRect), k0_pay36 (ldT G 1 6)⟩
theorem part14_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v209 : BitVec 32} {v724 : FVec F S48x256 .f32} {v740 : IVec S32x8x256 32} {c28_i32_359 : BitVec 32} {k0_t3 : Fin (k0_t3_loop v3).trips} {k0_t4 : Fin k0_t4_loop.trips}
    (h3 : k0_t3.val < 8) {s : Fin 8} (hs : s.val = (24 * k0_t3.val + k0_t4.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x2048.Idx → Elt F .bf16} {R : sProp 𝕄} {Q : (Σ' (v761 : FVec F S48x256 .f32), FVec F S256x256 .bf16) → sProp 𝕄}
    (h : Comp arg4 arg6 arg9 arg12 arg1 arg16 c W1 W2 s G D q X R ⊢ Q (part14V G D X v724 v740 c28_i32_359)) :
    Comp arg4 arg6 arg9 arg12 arg1 arg16 c W1 W2 s G D q X R
      ⊢ wp frame (wpE defs₀ 𝒱₀ (c : Thread nD τ) none) Set.univ (k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t4 v209 v724 v740 c28_i32_359) Q := by
  rw [k0_part14_eq_skeleton]
  unfold k0_part14_skel
  refine comp_ld12 ?_
  refine comp_ld12 ?_
  refine comp_ldX ?_
  refine comp_ld9 1 6 ((off126_eq k0_t3 h3 k0_t4).trans (by rw [hs]; rfl)) ?_
  refine BIBase.Entails.trans ?_ (le_of_eq (wp_ret ..).symm)
  exact h.trans fupd_intro

def part15V (G : Fin 2 → Fin 256 → Fin 1024 → Elt F .i8) (D : S2x16x256.Idx → Elt F .bf16) (X : S48x2048.Idx → Elt F .bf16) (v761 : FVec F S48x256 .f32) (v781 : FVec F S256x256 .bf16) : Σ' (v798 : FVec F S48x256 .f32) (v818 : FVec F S256x256 .bf16), FVec F S128x256 .bf16 :=
  ⟨k0_pay37 v761 v781 (ldR D (Rect.unit (s := S2x16x256) ![1, 12, 0] S1x1x256.size inb_S2x16x256_S1x1x256_1_12_0).toLoadRect) (ldR D (Rect.unit (s := S2x16x256) ![1, 13, 0] S1x1x256.size inb_S2x16x256_S1x1x256_1_13_0).toLoadRect) (ldR X (Rect.unit (s := S48x2048) ![0, 1536] S48x256.size inb_S48x2048_S48x256_0_1536).toLoadRect), k0_pay38 (ldT G 1 7), k0_pay39 (ldT G 1 7) (ldR D (Rect.unit (s := S2x16x256) ![1, 14, 0] S1x1x256.size inb_S2x16x256_S1x1x256_1_14_0).toLoadRect)⟩
theorem part15_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v209 : BitVec 32} {v761 : FVec F S48x256 .f32} {v781 : FVec F S256x256 .bf16} {k0_t3 : Fin (k0_t3_loop v3).trips} {k0_t4 : Fin k0_t4_loop.trips}
    (h3 : k0_t3.val < 8) {s : Fin 8} (hs : s.val = (24 * k0_t3.val + k0_t4.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x2048.Idx → Elt F .bf16} {R : sProp 𝕄} {Q : (Σ' (v798 : FVec F S48x256 .f32) (v818 : FVec F S256x256 .bf16), FVec F S128x256 .bf16) → sProp 𝕄}
    (h : Comp arg4 arg6 arg9 arg12 arg1 arg16 c W1 W2 s G D q X R ⊢ Q (part15V G D X v761 v781)) :
    Comp arg4 arg6 arg9 arg12 arg1 arg16 c W1 W2 s G D q X R
      ⊢ wp frame (wpE defs₀ 𝒱₀ (c : Thread nD τ) none) Set.univ (k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t4 v209 v761 v781) Q := by
  rw [k0_part15_eq_skeleton]
  unfold k0_part15_skel
  refine comp_ld12 ?_
  refine comp_ld12 ?_
  refine comp_ldX ?_
  refine comp_ld9 1 7 ((off127_eq k0_t3 h3 k0_t4).trans (by rw [hs]; rfl)) ?_
  refine comp_ld12 ?_
  refine BIBase.Entails.trans ?_ (le_of_eq (wp_ret ..).symm)
  exact h.trans fupd_intro

def part18V (G : Fin 2 → Fin 256 → Fin 1024 → Elt F .i8) (D : S2x16x256.Idx → Elt F .bf16) (X : S48x4096.Idx → Elt F .bf16) (v277 : FVec F S48x256 .f32) : Σ' (v313 : FVec F S48x256 .f32), IVec S32x1x256 32 :=
  ⟨k0_pay44 v277 (ldT G 0 1) (ldR D (Rect.unit (s := S2x16x256) ![0, 2, 0] S1x1x256.size inb_S2x16x256_S1x1x256_0_2_0).toLoadRect) (ldR D (Rect.unit (s := S2x16x256) ![0, 3, 0] S1x1x256.size inb_S2x16x256_S1x1x256_0_3_0).toLoadRect) (ldR X (Rect.unit (s := S48x4096) ![0, 256] S48x256.size inb_S48x4096_S48x256_0_256).toLoadRect), k0_pay45 (ldT G 0 2)⟩
theorem part18_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v210 : BitVec 32} {v277 : FVec F S48x256 .f32} {k0_t3 : Fin (k0_t3_loop v3).trips} {k0_t5 : Fin k0_t5_loop.trips}
    (h3 : k0_t3.val < 8) {s : Fin 8} (hs : s.val = (24 * k0_t3.val + 16 + k0_t5.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x4096.Idx → Elt F .bf16} {R : sProp 𝕄} {Q : (Σ' (v313 : FVec F S48x256 .f32), IVec S32x1x256 32) → sProp 𝕄}
    (h : Comp arg4 arg6 arg9 arg12 arg13 arg16 c W1 W2 s G D q X R ⊢ Q (part18V G D X v277)) :
    Comp arg4 arg6 arg9 arg12 arg13 arg16 c W1 W2 s G D q X R
      ⊢ wp frame (wpE defs₀ 𝒱₀ (c : Thread nD τ) none) Set.univ (k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t5 v210 v277) Q := by
  rw [k0_part18_eq_skeleton]
  unfold k0_part18_skel
  refine comp_ld9 0 1 ((off151_eq k0_t3 h3 k0_t5).trans (by rw [hs]; rfl)) ?_
  refine comp_ld12 ?_
  refine comp_ld12 ?_
  refine comp_ldX ?_
  refine comp_ld9 0 2 ((off152_eq k0_t3 h3 k0_t5).trans (by rw [hs]; rfl)) ?_
  refine BIBase.Entails.trans ?_ (le_of_eq (wp_ret ..).symm)
  exact h.trans fupd_intro

def part19V (G : Fin 2 → Fin 256 → Fin 1024 → Elt F .i8) (D : S2x16x256.Idx → Elt F .bf16) (X : S48x4096.Idx → Elt F .bf16) (v313 : FVec F S48x256 .f32) (v321 : IVec S32x1x256 32) : Σ' (v349 : FVec F S48x256 .f32) (v359 : IVec S32x8x256 32) (v362 : IVec S32x8x256 32), IVec S32x8x256 32 :=
  ⟨k0_pay46 v313 v321 (ldR D (Rect.unit (s := S2x16x256) ![0, 4, 0] S1x1x256.size inb_S2x16x256_S1x1x256_0_4_0).toLoadRect) (ldR D (Rect.unit (s := S2x16x256) ![0, 5, 0] S1x1x256.size inb_S2x16x256_S1x1x256_0_5_0).toLoadRect) (ldR X (Rect.unit (s := S48x4096) ![0, 512] S48x256.size inb_S48x4096_S48x256_0_512).toLoadRect), k0_pay47 (ldT G 0 3), k0_pay48, k0_pay49⟩
theorem part19_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v210 : BitVec 32} {v313 : FVec F S48x256 .f32} {v321 : IVec S32x1x256 32} {k0_t3 : Fin (k0_t3_loop v3).trips} {k0_t5 : Fin k0_t5_loop.trips}
    (h3 : k0_t3.val < 8) {s : Fin 8} (hs : s.val = (24 * k0_t3.val + 16 + k0_t5.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x4096.Idx → Elt F .bf16} {R : sProp 𝕄} {Q : (Σ' (v349 : FVec F S48x256 .f32) (v359 : IVec S32x8x256 32) (v362 : IVec S32x8x256 32), IVec S32x8x256 32) → sProp 𝕄}
    (h : Comp arg4 arg6 arg9 arg12 arg13 arg16 c W1 W2 s G D q X R ⊢ Q (part19V G D X v313 v321)) :
    Comp arg4 arg6 arg9 arg12 arg13 arg16 c W1 W2 s G D q X R
      ⊢ wp frame (wpE defs₀ 𝒱₀ (c : Thread nD τ) none) Set.univ (k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t5 v210 v313 v321) Q := by
  rw [k0_part19_eq_skeleton]
  unfold k0_part19_skel
  refine comp_ld12 ?_
  refine comp_ld12 ?_
  refine comp_ldX ?_
  refine comp_ld9 0 3 ((off153_eq k0_t3 h3 k0_t5).trans (by rw [hs]; rfl)) ?_
  refine BIBase.Entails.trans ?_ (le_of_eq (wp_ret ..).symm)
  exact h.trans fupd_intro

def part20V (G : Fin 2 → Fin 256 → Fin 1024 → Elt F .i8) (D : S2x16x256.Idx → Elt F .bf16) (X : S48x4096.Idx → Elt F .bf16) (v349 : FVec F S48x256 .f32) (v359 : IVec S32x8x256 32) (v362 : IVec S32x8x256 32) (v363 : IVec S32x8x256 32) : Σ' (v385 : FVec F S48x256 .f32), FVec F S256x256 .bf16 :=
  ⟨k0_pay50 v349 v359 v362 v363 (ldR D (Rect.unit (s := S2x16x256) ![0, 6, 0] S1x1x256.size inb_S2x16x256_S1x1x256_0_6_0).toLoadRect) (ldR D (Rect.unit (s := S2x16x256) ![0, 7, 0] S1x1x256.size inb_S2x16x256_S1x1x256_0_7_0).toLoadRect) (ldR X (Rect.unit (s := S48x4096) ![0, 768] S48x256.size inb_S48x4096_S48x256_0_768).toLoadRect), k0_pay51 (ldT G 0 4)⟩
theorem part20_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v210 : BitVec 32} {v349 : FVec F S48x256 .f32} {v359 : IVec S32x8x256 32} {v362 : IVec S32x8x256 32} {v363 : IVec S32x8x256 32} {k0_t3 : Fin (k0_t3_loop v3).trips} {k0_t5 : Fin k0_t5_loop.trips}
    (h3 : k0_t3.val < 8) {s : Fin 8} (hs : s.val = (24 * k0_t3.val + 16 + k0_t5.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x4096.Idx → Elt F .bf16} {R : sProp 𝕄} {Q : (Σ' (v385 : FVec F S48x256 .f32), FVec F S256x256 .bf16) → sProp 𝕄}
    (h : Comp arg4 arg6 arg9 arg12 arg13 arg16 c W1 W2 s G D q X R ⊢ Q (part20V G D X v349 v359 v362 v363)) :
    Comp arg4 arg6 arg9 arg12 arg13 arg16 c W1 W2 s G D q X R
      ⊢ wp frame (wpE defs₀ 𝒱₀ (c : Thread nD τ) none) Set.univ (k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t5 v210 v349 v359 v362 v363) Q := by
  rw [k0_part20_eq_skeleton]
  unfold k0_part20_skel
  refine comp_ld12 ?_
  refine comp_ld12 ?_
  refine comp_ldX ?_
  refine comp_ld9 0 4 ((off154_eq k0_t3 h3 k0_t5).trans (by rw [hs]; rfl)) ?_
  refine BIBase.Entails.trans ?_ (le_of_eq (wp_ret ..).symm)
  exact h.trans fupd_intro

def part21V (G : Fin 2 → Fin 256 → Fin 1024 → Elt F .i8) (D : S2x16x256.Idx → Elt F .bf16) (X : S48x4096.Idx → Elt F .bf16) (v385 : FVec F S48x256 .f32) (v405 : FVec F S256x256 .bf16) : Σ' (v421 : FVec F S48x256 .f32) (v441 : FVec F S256x256 .bf16), FVec F S128x256 .bf16 :=
  ⟨k0_pay52 v385 v405 (ldR D (Rect.unit (s := S2x16x256) ![0, 8, 0] S1x1x256.size inb_S2x16x256_S1x1x256_0_8_0).toLoadRect) (ldR D (Rect.unit (s := S2x16x256) ![0, 9, 0] S1x1x256.size inb_S2x16x256_S1x1x256_0_9_0).toLoadRect) (ldR X (Rect.unit (s := S48x4096) ![0, 1024] S48x256.size inb_S48x4096_S48x256_0_1024).toLoadRect), k0_pay53 (ldT G 0 5), k0_pay54 (ldT G 0 5) (ldR D (Rect.unit (s := S2x16x256) ![0, 10, 0] S1x1x256.size inb_S2x16x256_S1x1x256_0_10_0).toLoadRect)⟩
theorem part21_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v210 : BitVec 32} {v385 : FVec F S48x256 .f32} {v405 : FVec F S256x256 .bf16} {k0_t3 : Fin (k0_t3_loop v3).trips} {k0_t5 : Fin k0_t5_loop.trips}
    (h3 : k0_t3.val < 8) {s : Fin 8} (hs : s.val = (24 * k0_t3.val + 16 + k0_t5.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x4096.Idx → Elt F .bf16} {R : sProp 𝕄} {Q : (Σ' (v421 : FVec F S48x256 .f32) (v441 : FVec F S256x256 .bf16), FVec F S128x256 .bf16) → sProp 𝕄}
    (h : Comp arg4 arg6 arg9 arg12 arg13 arg16 c W1 W2 s G D q X R ⊢ Q (part21V G D X v385 v405)) :
    Comp arg4 arg6 arg9 arg12 arg13 arg16 c W1 W2 s G D q X R
      ⊢ wp frame (wpE defs₀ 𝒱₀ (c : Thread nD τ) none) Set.univ (k0_part21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t5 v210 v385 v405) Q := by
  rw [k0_part21_eq_skeleton]
  unfold k0_part21_skel
  refine comp_ld12 ?_
  refine comp_ld12 ?_
  refine comp_ldX ?_
  refine comp_ld9 0 5 ((off155_eq k0_t3 h3 k0_t5).trans (by rw [hs]; rfl)) ?_
  refine comp_ld12 ?_
  refine BIBase.Entails.trans ?_ (le_of_eq (wp_ret ..).symm)
  exact h.trans fupd_intro

def part22V (G : Fin 2 → Fin 256 → Fin 1024 → Elt F .i8) (D : S2x16x256.Idx → Elt F .bf16) (X : S48x4096.Idx → Elt F .bf16) (v421 : FVec F S48x256 .f32) (v441 : FVec F S256x256 .bf16) (v447 : FVec F S128x256 .bf16) : Σ' (v457 : FVec F S48x256 .f32) (v483 : FVec F S128x256 .bf16) (v487 : FVec F S128x256 .bf16), FVec F S128x256 .bf16 :=
  ⟨k0_pay55 v421 v441 v447 (ldR D (Rect.unit (s := S2x16x256) ![0, 11, 0] S1x1x256.size inb_S2x16x256_S1x1x256_0_11_0).toLoadRect) (ldR X (Rect.unit (s := S48x4096) ![0, 1280] S48x256.size inb_S48x4096_S48x256_0_1280).toLoadRect), k0_pay57 (ldT G 0 6) (ldR D (Rect.unit (s := S2x16x256) ![0, 12, 0] S1x1x256.size inb_S2x16x256_S1x1x256_0_12_0).toLoadRect), k0_pay58 (ldR D (Rect.unit (s := S2x16x256) ![0, 13, 0] S1x1x256.size inb_S2x16x256_S1x1x256_0_13_0).toLoadRect), k0_pay59 (ldT G 0 6)⟩
theorem part22_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v210 : BitVec 32} {v421 : FVec F S48x256 .f32} {v441 : FVec F S256x256 .bf16} {v447 : FVec F S128x256 .bf16} {k0_t3 : Fin (k0_t3_loop v3).trips} {k0_t5 : Fin k0_t5_loop.trips}
    (h3 : k0_t3.val < 8) {s : Fin 8} (hs : s.val = (24 * k0_t3.val + 16 + k0_t5.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x4096.Idx → Elt F .bf16} {R : sProp 𝕄} {Q : (Σ' (v457 : FVec F S48x256 .f32) (v483 : FVec F S128x256 .bf16) (v487 : FVec F S128x256 .bf16), FVec F S128x256 .bf16) → sProp 𝕄}
    (h : Comp arg4 arg6 arg9 arg12 arg13 arg16 c W1 W2 s G D q X R ⊢ Q (part22V G D X v421 v441 v447)) :
    Comp arg4 arg6 arg9 arg12 arg13 arg16 c W1 W2 s G D q X R
      ⊢ wp frame (wpE defs₀ 𝒱₀ (c : Thread nD τ) none) Set.univ (k0_part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t5 v210 v421 v441 v447) Q := by
  rw [k0_part22_eq_skeleton]
  unfold k0_part22_skel
  refine comp_ld12 ?_
  refine comp_ldX ?_
  refine comp_ld9 0 6 ((off156_eq k0_t3 h3 k0_t5).trans (by rw [hs]; rfl)) ?_
  refine comp_ld12 ?_
  refine comp_ld12 ?_
  refine BIBase.Entails.trans ?_ (le_of_eq (wp_ret ..).symm)
  exact h.trans fupd_intro

def part23V (G : Fin 2 → Fin 256 → Fin 1024 → Elt F .i8) (D : S2x16x256.Idx → Elt F .bf16) (X : S48x4096.Idx → Elt F .bf16) (v457 : FVec F S48x256 .f32) (v483 : FVec F S128x256 .bf16) (v487 : FVec F S128x256 .bf16) (v488 : FVec F S128x256 .bf16) : FVec F S48x256 .f32 :=
  (k0_pay60 v457 v483 v487 v488 (ldR X (Rect.unit (s := S48x4096) ![0, 1536] S48x256.size inb_S48x4096_S48x256_0_1536).toLoadRect) (ldT G 0 7) (ldR D (Rect.unit (s := S2x16x256) ![0, 14, 0] S1x1x256.size inb_S2x16x256_S1x1x256_0_14_0).toLoadRect) (ldR D (Rect.unit (s := S2x16x256) ![0, 15, 0] S1x1x256.size inb_S2x16x256_S1x1x256_0_15_0).toLoadRect) (ldR X (Rect.unit (s := S48x4096) ![0, 1792] S48x256.size inb_S48x4096_S48x256_0_1792).toLoadRect))
theorem part23_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v210 : BitVec 32} {v457 : FVec F S48x256 .f32} {v483 : FVec F S128x256 .bf16} {v487 : FVec F S128x256 .bf16} {v488 : FVec F S128x256 .bf16} {k0_t3 : Fin (k0_t3_loop v3).trips} {k0_t5 : Fin k0_t5_loop.trips}
    (h3 : k0_t3.val < 8) {s : Fin 8} (hs : s.val = (24 * k0_t3.val + 16 + k0_t5.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x4096.Idx → Elt F .bf16} {R : sProp 𝕄} {Q : (FVec F S48x256 .f32) → sProp 𝕄}
    (h : Comp arg4 arg6 arg9 arg12 arg13 arg16 c W1 W2 s G D q X R ⊢ Q (part23V G D X v457 v483 v487 v488)) :
    Comp arg4 arg6 arg9 arg12 arg13 arg16 c W1 W2 s G D q X R
      ⊢ wp frame (wpE defs₀ 𝒱₀ (c : Thread nD τ) none) Set.univ (k0_part23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t5 v210 v457 v483 v487 v488) Q := by
  rw [k0_part23_eq_skeleton]
  unfold k0_part23_skel
  refine comp_ldX ?_
  refine comp_ld9 0 7 ((off157_eq k0_t3 h3 k0_t5).trans (by rw [hs]; rfl)) ?_
  refine comp_ld12 ?_
  refine comp_ld12 ?_
  refine comp_ldX ?_
  refine BIBase.Entails.trans ?_ (le_of_eq (wp_ret ..).symm)
  exact h.trans fupd_intro

def part24V (G : Fin 2 → Fin 256 → Fin 1024 → Elt F .i8) (D : S2x16x256.Idx → Elt F .bf16) (X : S48x4096.Idx → Elt F .bf16) : Σ' (v564 : FVec F S48x256 .f32) (v569 : IVec S32x256 32), BitVec 32 :=
  ⟨k0_pay61 (ldT G 1 0) (ldR D (Rect.unit (s := S2x16x256) ![1, 0, 0] S1x1x256.size inb_S2x16x256_S1x1x256_1_0_0).toLoadRect) (ldR D (Rect.unit (s := S2x16x256) ![1, 1, 0] S1x1x256.size inb_S2x16x256_S1x1x256_1_1_0).toLoadRect) (ldR X (Rect.unit (s := S48x4096) ![0, 2048] S48x256.size inb_S48x4096_S48x256_0_2048).toLoadRect), k0_pay62 (ldT G 1 1), 2290649224#32⟩
theorem part24_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v210 : BitVec 32} {k0_t3 : Fin (k0_t3_loop v3).trips} {k0_t5 : Fin k0_t5_loop.trips}
    (h3 : k0_t3.val < 8) {s : Fin 8} (hs : s.val = (24 * k0_t3.val + 16 + k0_t5.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x4096.Idx → Elt F .bf16} {R : sProp 𝕄} {Q : (Σ' (v564 : FVec F S48x256 .f32) (v569 : IVec S32x256 32), BitVec 32) → sProp 𝕄}
    (h : Comp arg4 arg6 arg9 arg12 arg13 arg16 c W1 W2 s G D q X R ⊢ Q (part24V G D X )) :
    Comp arg4 arg6 arg9 arg12 arg13 arg16 c W1 W2 s G D q X R
      ⊢ wp frame (wpE defs₀ 𝒱₀ (c : Thread nD τ) none) Set.univ (k0_part24 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t5 v210) Q := by
  rw [k0_part24_eq_skeleton]
  unfold k0_part24_skel
  refine comp_ld9 1 0 ((off158_eq k0_t3 h3 k0_t5).trans (by rw [hs]; rfl)) ?_
  refine comp_ld12 ?_
  refine comp_ld12 ?_
  refine comp_ldX ?_
  refine comp_ld9 1 1 ((off159_eq k0_t3 h3 k0_t5).trans (by rw [hs]; rfl)) ?_
  refine BIBase.Entails.trans ?_ (le_of_eq (wp_ret ..).symm)
  exact h.trans fupd_intro

def part25V (G : Fin 2 → Fin 256 → Fin 1024 → Elt F .i8) (D : S2x16x256.Idx → Elt F .bf16) (X : S48x4096.Idx → Elt F .bf16) (v564 : FVec F S48x256 .f32) (v569 : IVec S32x256 32) (c_m2004318072_i32_289 : BitVec 32) : Σ' (v600 : FVec F S48x256 .f32) (v610 : IVec S32x8x256 32) (v611 : IVec S32x8x256 32), IVec S32x8x256 32 :=
  ⟨k0_pay63 v564 v569 c_m2004318072_i32_289 (ldR D (Rect.unit (s := S2x16x256) ![1, 2, 0] S1x1x256.size inb_S2x16x256_S1x1x256_1_2_0).toLoadRect) (ldR D (Rect.unit (s := S2x16x256) ![1, 3, 0] S1x1x256.size inb_S2x16x256_S1x1x256_1_3_0).toLoadRect) (ldR X (Rect.unit (s := S48x4096) ![0, 2304] S48x256.size inb_S48x4096_S48x256_0_2304).toLoadRect), k0_pay64 (ldT G 1 2), (iota .tc S32x8x256 32 [1] iota_S32x8x256_d1_w32 : IVec S32x8x256 32), k0_pay65⟩
theorem part25_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v210 : BitVec 32} {v564 : FVec F S48x256 .f32} {v569 : IVec S32x256 32} {c_m2004318072_i32_289 : BitVec 32} {k0_t3 : Fin (k0_t3_loop v3).trips} {k0_t5 : Fin k0_t5_loop.trips}
    (h3 : k0_t3.val < 8) {s : Fin 8} (hs : s.val = (24 * k0_t3.val + 16 + k0_t5.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x4096.Idx → Elt F .bf16} {R : sProp 𝕄} {Q : (Σ' (v600 : FVec F S48x256 .f32) (v610 : IVec S32x8x256 32) (v611 : IVec S32x8x256 32), IVec S32x8x256 32) → sProp 𝕄}
    (h : Comp arg4 arg6 arg9 arg12 arg13 arg16 c W1 W2 s G D q X R ⊢ Q (part25V G D X v564 v569 c_m2004318072_i32_289)) :
    Comp arg4 arg6 arg9 arg12 arg13 arg16 c W1 W2 s G D q X R
      ⊢ wp frame (wpE defs₀ 𝒱₀ (c : Thread nD τ) none) Set.univ (k0_part25 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t5 v210 v564 v569 c_m2004318072_i32_289) Q := by
  rw [k0_part25_eq_skeleton]
  unfold k0_part25_skel
  refine comp_ld12 ?_
  refine comp_ld12 ?_
  refine comp_ldX ?_
  refine comp_ld9 1 2 ((off160_eq k0_t3 h3 k0_t5).trans (by rw [hs]; rfl)) ?_
  refine BIBase.Entails.trans ?_ (le_of_eq (wp_ret ..).symm)
  exact h.trans fupd_intro

def part26V (G : Fin 2 → Fin 256 → Fin 1024 → Elt F .i8) (D : S2x16x256.Idx → Elt F .bf16) (X : S48x4096.Idx → Elt F .bf16) (v600 : FVec F S48x256 .f32) (v610 : IVec S32x8x256 32) (v611 : IVec S32x8x256 32) (v612 : IVec S32x8x256 32) : Σ' (v636 : FVec F S48x256 .f32), IVec S32x8x256 32 :=
  ⟨k0_pay66 v600 v610 v611 v612 (ldR D (Rect.unit (s := S2x16x256) ![1, 4, 0] S1x1x256.size inb_S2x16x256_S1x1x256_1_4_0).toLoadRect) (ldR D (Rect.unit (s := S2x16x256) ![1, 5, 0] S1x1x256.size inb_S2x16x256_S1x1x256_1_5_0).toLoadRect) (ldR X (Rect.unit (s := S48x4096) ![0, 2560] S48x256.size inb_S48x4096_S48x256_0_2560).toLoadRect), k0_pay67 (ldT G 1 3)⟩
theorem part26_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v210 : BitVec 32} {v600 : FVec F S48x256 .f32} {v610 : IVec S32x8x256 32} {v611 : IVec S32x8x256 32} {v612 : IVec S32x8x256 32} {k0_t3 : Fin (k0_t3_loop v3).trips} {k0_t5 : Fin k0_t5_loop.trips}
    (h3 : k0_t3.val < 8) {s : Fin 8} (hs : s.val = (24 * k0_t3.val + 16 + k0_t5.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x4096.Idx → Elt F .bf16} {R : sProp 𝕄} {Q : (Σ' (v636 : FVec F S48x256 .f32), IVec S32x8x256 32) → sProp 𝕄}
    (h : Comp arg4 arg6 arg9 arg12 arg13 arg16 c W1 W2 s G D q X R ⊢ Q (part26V G D X v600 v610 v611 v612)) :
    Comp arg4 arg6 arg9 arg12 arg13 arg16 c W1 W2 s G D q X R
      ⊢ wp frame (wpE defs₀ 𝒱₀ (c : Thread nD τ) none) Set.univ (k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t5 v210 v600 v610 v611 v612) Q := by
  rw [k0_part26_eq_skeleton]
  unfold k0_part26_skel
  refine comp_ld12 ?_
  refine comp_ld12 ?_
  refine comp_ldX ?_
  refine comp_ld9 1 3 ((off161_eq k0_t3 h3 k0_t5).trans (by rw [hs]; rfl)) ?_
  refine BIBase.Entails.trans ?_ (le_of_eq (wp_ret ..).symm)
  exact h.trans fupd_intro

def part27V (G : Fin 2 → Fin 256 → Fin 1024 → Elt F .i8) (D : S2x16x256.Idx → Elt F .bf16) (X : S48x4096.Idx → Elt F .bf16) (v636 : FVec F S48x256 .f32) (v654 : IVec S32x8x256 32) : Σ' (v672 : FVec F S48x256 .f32) (v692 : FVec F S256x256 .bf16), FVec F S1x256 .bf16 :=
  ⟨k0_pay68 v636 v654 (ldR D (Rect.unit (s := S2x16x256) ![1, 6, 0] S1x1x256.size inb_S2x16x256_S1x1x256_1_6_0).toLoadRect) (ldR D (Rect.unit (s := S2x16x256) ![1, 7, 0] S1x1x256.size inb_S2x16x256_S1x1x256_1_7_0).toLoadRect) (ldR X (Rect.unit (s := S48x4096) ![0, 2816] S48x256.size inb_S48x4096_S48x256_0_2816).toLoadRect), k0_pay69 (ldT G 1 4), k0_pay70 (ldR D (Rect.unit (s := S2x16x256) ![1, 8, 0] S1x1x256.size inb_S2x16x256_S1x1x256_1_8_0).toLoadRect)⟩
theorem part27_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v210 : BitVec 32} {v636 : FVec F S48x256 .f32} {v654 : IVec S32x8x256 32} {k0_t3 : Fin (k0_t3_loop v3).trips} {k0_t5 : Fin k0_t5_loop.trips}
    (h3 : k0_t3.val < 8) {s : Fin 8} (hs : s.val = (24 * k0_t3.val + 16 + k0_t5.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x4096.Idx → Elt F .bf16} {R : sProp 𝕄} {Q : (Σ' (v672 : FVec F S48x256 .f32) (v692 : FVec F S256x256 .bf16), FVec F S1x256 .bf16) → sProp 𝕄}
    (h : Comp arg4 arg6 arg9 arg12 arg13 arg16 c W1 W2 s G D q X R ⊢ Q (part27V G D X v636 v654)) :
    Comp arg4 arg6 arg9 arg12 arg13 arg16 c W1 W2 s G D q X R
      ⊢ wp frame (wpE defs₀ 𝒱₀ (c : Thread nD τ) none) Set.univ (k0_part27 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t5 v210 v636 v654) Q := by
  rw [k0_part27_eq_skeleton]
  unfold k0_part27_skel
  refine comp_ld12 ?_
  refine comp_ld12 ?_
  refine comp_ldX ?_
  refine comp_ld9 1 4 ((off162_eq k0_t3 h3 k0_t5).trans (by rw [hs]; rfl)) ?_
  refine comp_ld12 ?_
  refine BIBase.Entails.trans ?_ (le_of_eq (wp_ret ..).symm)
  exact h.trans fupd_intro

def part28V (G : Fin 2 → Fin 256 → Fin 1024 → Elt F .i8) (D : S2x16x256.Idx → Elt F .bf16) (X : S48x4096.Idx → Elt F .bf16) (v672 : FVec F S48x256 .f32) (v692 : FVec F S256x256 .bf16) (v695 : FVec F S1x256 .bf16) : Σ' (v708 : FVec F S48x256 .f32) (v728 : FVec F S256x256 .bf16) (v734 : FVec F S128x256 .bf16), FVec F S1x256 .bf16 :=
  ⟨k0_pay71 v672 v692 v695 (ldR D (Rect.unit (s := S2x16x256) ![1, 9, 0] S1x1x256.size inb_S2x16x256_S1x1x256_1_9_0).toLoadRect) (ldR X (Rect.unit (s := S48x4096) ![0, 3072] S48x256.size inb_S48x4096_S48x256_0_3072).toLoadRect), k0_pay72 (ldT G 1 5), k0_pay73 (ldT G 1 5) (ldR D (Rect.unit (s := S2x16x256) ![1, 10, 0] S1x1x256.size inb_S2x16x256_S1x1x256_1_10_0).toLoadRect), k0_pay74 (ldR D (Rect.unit (s := S2x16x256) ![1, 11, 0] S1x1x256.size inb_S2x16x256_S1x1x256_1_11_0).toLoadRect)⟩
theorem part28_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v210 : BitVec 32} {v672 : FVec F S48x256 .f32} {v692 : FVec F S256x256 .bf16} {v695 : FVec F S1x256 .bf16} {k0_t3 : Fin (k0_t3_loop v3).trips} {k0_t5 : Fin k0_t5_loop.trips}
    (h3 : k0_t3.val < 8) {s : Fin 8} (hs : s.val = (24 * k0_t3.val + 16 + k0_t5.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x4096.Idx → Elt F .bf16} {R : sProp 𝕄} {Q : (Σ' (v708 : FVec F S48x256 .f32) (v728 : FVec F S256x256 .bf16) (v734 : FVec F S128x256 .bf16), FVec F S1x256 .bf16) → sProp 𝕄}
    (h : Comp arg4 arg6 arg9 arg12 arg13 arg16 c W1 W2 s G D q X R ⊢ Q (part28V G D X v672 v692 v695)) :
    Comp arg4 arg6 arg9 arg12 arg13 arg16 c W1 W2 s G D q X R
      ⊢ wp frame (wpE defs₀ 𝒱₀ (c : Thread nD τ) none) Set.univ (k0_part28 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t5 v210 v672 v692 v695) Q := by
  rw [k0_part28_eq_skeleton]
  unfold k0_part28_skel
  refine comp_ld12 ?_
  refine comp_ldX ?_
  refine comp_ld9 1 5 ((off163_eq k0_t3 h3 k0_t5).trans (by rw [hs]; rfl)) ?_
  refine comp_ld12 ?_
  refine comp_ld12 ?_
  refine BIBase.Entails.trans ?_ (le_of_eq (wp_ret ..).symm)
  exact h.trans fupd_intro

def part29V (G : Fin 2 → Fin 256 → Fin 1024 → Elt F .i8) (D : S2x16x256.Idx → Elt F .bf16) (X : S48x4096.Idx → Elt F .bf16) (v708 : FVec F S48x256 .f32) (v728 : FVec F S256x256 .bf16) (v734 : FVec F S128x256 .bf16) (v736 : FVec F S1x256 .bf16) : Σ' (v744 : FVec F S48x256 .f32) (v777 : FVec F S256x256 .bf16), Vec F S48x256 .bf16 :=
  ⟨k0_pay75 v708 v728 v734 v736 (ldR X (Rect.unit (s := S48x4096) ![0, 3328] S48x256.size inb_S48x4096_S48x256_0_3328).toLoadRect), k0_pay76 (ldT G 1 6) (ldR D (Rect.unit (s := S2x16x256) ![1, 12, 0] S1x1x256.size inb_S2x16x256_S1x1x256_1_12_0).toLoadRect) (ldR D (Rect.unit (s := S2x16x256) ![1, 13, 0] S1x1x256.size inb_S2x16x256_S1x1x256_1_13_0).toLoadRect), (ldR X (Rect.unit (s := S48x4096) ![0, 3584] S48x256.size inb_S48x4096_S48x256_0_3584).toLoadRect)⟩
theorem part29_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v210 : BitVec 32} {v708 : FVec F S48x256 .f32} {v728 : FVec F S256x256 .bf16} {v734 : FVec F S128x256 .bf16} {v736 : FVec F S1x256 .bf16} {k0_t3 : Fin (k0_t3_loop v3).trips} {k0_t5 : Fin k0_t5_loop.trips}
    (h3 : k0_t3.val < 8) {s : Fin 8} (hs : s.val = (24 * k0_t3.val + 16 + k0_t5.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x4096.Idx → Elt F .bf16} {R : sProp 𝕄} {Q : (Σ' (v744 : FVec F S48x256 .f32) (v777 : FVec F S256x256 .bf16), Vec F S48x256 .bf16) → sProp 𝕄}
    (h : Comp arg4 arg6 arg9 arg12 arg13 arg16 c W1 W2 s G D q X R ⊢ Q (part29V G D X v708 v728 v734 v736)) :
    Comp arg4 arg6 arg9 arg12 arg13 arg16 c W1 W2 s G D q X R
      ⊢ wp frame (wpE defs₀ 𝒱₀ (c : Thread nD τ) none) Set.univ (k0_part29 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 k0_t5 v210 v708 v728 v734 v736) Q := by
  rw [k0_part29_eq_skeleton]
  unfold k0_part29_skel
  refine comp_ldX ?_
  refine comp_ld9 1 6 ((off164_eq k0_t3 h3 k0_t5).trans (by rw [hs]; rfl)) ?_
  refine comp_ld12 ?_
  refine comp_ld12 ?_
  refine comp_ldX ?_
  refine BIBase.Entails.trans ?_ (le_of_eq (wp_ret ..).symm)
  exact h.trans fupd_intro

def part30V (G : Fin 2 → Fin 256 → Fin 1024 → Elt F .i8) (D : S2x16x256.Idx → Elt F .bf16) (X : S48x4096.Idx → Elt F .bf16) (Y : S48x2048.Idx → Elt F .f32) (k0_t5 : Fin k0_t5_loop.trips) (v201 : FVec F S48x256 .f32) (v529 : FVec F S48x256 .f32) (v744 : FVec F S48x256 .f32) (v777 : FVec F S256x256 .bf16) (v778 : Vec F S48x256 .bf16) : Σ' (v818 : Vec F S48x256 .f32), FVec F S48x256 .f32 :=
  ⟨(ldR Y (Rect.unit (s := S48x2048) (k0_off166 k0_t5) S48x256.size (k0_off166_inb k0_t5)).toLoadRect), k0_pay77 v201 v529 v744 v777 v778 (ldT G 1 7) (ldR D (Rect.unit (s := S2x16x256) ![1, 14, 0] S1x1x256.size inb_S2x16x256_S1x1x256_1_14_0).toLoadRect) (ldR D (Rect.unit (s := S2x16x256) ![1, 15, 0] S1x1x256.size inb_S2x16x256_S1x1x256_1_15_0).toLoadRect) (ldR X (Rect.unit (s := S48x4096) ![0, 3840] S48x256.size inb_S48x4096_S48x256_0_3840).toLoadRect)⟩
theorem part30_ok {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2} {v3 : BitVec 32} {k0_hw1 : k0_chk1 v3} {v201 : FVec F S48x256 .f32} {v210 : BitVec 32} {v228 : BitVec 32} {v529 : FVec F S48x256 .f32} {v744 : FVec F S48x256 .f32} {v777 : FVec F S256x256 .bf16} {v778 : Vec F S48x256 .bf16} {k0_t3 : Fin (k0_t3_loop v3).trips} {k0_t5 : Fin k0_t5_loop.trips}
    (h3 : k0_t3.val < 8) {s : Fin 8} (hs : s.val = (24 * k0_t3.val + 16 + k0_t5.val) % 8) {c : Dev nD}
    {W1 : Buf (Elt F) (arg4.view.loc (c : Thread nD τ))} {W2 : Buf (Elt F) (arg6.view.loc (c : Thread nD τ))}
    {G : Fin 2 → Fin 256 → Fin 1024 → Elt F .i8} {D : S2x16x256.Idx → Elt F .bf16} {q : PosShare TreeShare}
    {X : S48x4096.Idx → Elt F .bf16} {Y : S48x2048.Idx → Elt F .f32} {R : sProp 𝕄} {Q : (Σ' (v818 : Vec F S48x256 .f32), FVec F S48x256 .f32) → sProp 𝕄}
    (h : Comp arg4 arg6 arg9 arg12 arg13 arg16 c W1 W2 s G D q X iprop(Held c arg14 fullShare Y ∗ R) ⊢ Q (part30V G D X Y k0_t5 v201 v529 v744 v777 v778)) :
    Comp arg4 arg6 arg9 arg12 arg13 arg16 c W1 W2 s G D q X iprop(Held c arg14 fullShare Y ∗ R)
      ⊢ wp frame (wpE defs₀ 𝒱₀ (c : Thread nD τ) none) Set.univ (k0_part30 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 k0_t3 v201 k0_t5 v210 v228 v529 v744 v777 v778) Q := by
  rw [k0_part30_eq_skeleton]
  unfold k0_part30_skel
  refine comp_ld9 1 7 ((off165_eq k0_t3 h3 k0_t5).trans (by rw [hs]; rfl)) ?_
  refine comp_ld12 ?_
  refine comp_ld12 ?_
  refine comp_ldX ?_
  refine comp_ldR ?_
  refine BIBase.Entails.trans ?_ (le_of_eq (wp_ret ..).symm)
  exact h.trans fupd_intro

end Cert.KernelIdeal.Own
-- ==== Proof.KernelIdeal.Cells.lean ====
/- The ring between chunks: which chunk each slot holds or awaits, and the head of a block, which awaits its
   chunk and starts the copy of the chunk seven ahead. -/
module

public import proofs.«01_k».proof.Proof.KernelIdeal.Parts
public import Idealize.ShloMosaic.Lib.Pipeline.Value

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UU nD τ) ℕ

/-! ## Chunks -/

/-- The ring slot of chunk `n`. -/
abbrev slotF (n : ℕ) : Fin 8 := ⟨n % 8, Nat.mod_lt _ (by decide)⟩
/-- The expert of chunk `n`. -/
abbrev expF (m : Fin 256) (n : ℕ) : Fin 8 := ⟨nthN m.val (n / 24) % 8, Nat.mod_lt _ (by decide)⟩
/-- The block of the first weights chunk `n` copies; -/
abbrev blkA (n : ℕ) : Fin 16 := ⟨n % 24 % 16, Nat.mod_lt _ (by decide)⟩
/-- the block of the second weights. -/
abbrev blkB (n : ℕ) : Fin 8 := ⟨(n % 24 - 16) % 8, Nat.mod_lt _ (by decide)⟩

/-- The list of active experts. -/
def ListOk (m : Fin 256) (L : S9.Idx → BitVec 32) : Prop :=
  ∀ p : Fin 9, p.val < popN m.val → L (ix1 p) = BitVec.ofNat 32 (nthN m.val p.val)

theorem ListOk.toNat {m : Fin 256} {L : S9.Idx → BitVec 32} (h : ListOk m L) {p : ℕ} (hp : p < popN m.val) :
    (L (ix1 ⟨p, lt_of_lt_of_le hp (le_trans (popN_le m) (by decide))⟩)).toNat = nthN m.val p % 8
      ∧ (L (ix1 ⟨p, lt_of_lt_of_le hp (le_trans (popN_le m) (by decide))⟩)).toNat < 8 := by
  have h8 := nthN_lt m ⟨p, lt_of_lt_of_le hp (popN_le m)⟩
  rw [h _ hp]
  simp only at h8 ⊢
  rw [BitVec.toNat_ofNat, Nat.mod_eq_of_lt (by omega)]
  omega

section cells
variable (arg4 : Memref sig .tc .hbm S8x2x4096x1024 .i8) (arg6 : Memref sig .tc .hbm S8x2048x2048 .i8)
  (arg9 : Memref sig .tc .vmem S8x2x256x1024 .i8) (arg16 : DmaSems sig S8) (c : Dev nD)
  (W1 : Buf (Elt F) (arg4.view.loc (c : Thread nD τ))) (W2 : Buf (Elt F) (arg6.view.loc (c : Thread nD τ))) (m : Fin 256)

/-- Chunk `n` in flight. -/
def Fly (n : ℕ) : sProp 𝕄 :=
  if n % 24 < 16 then Fly1 arg4 arg6 arg9 arg16 c W1 W2 (slotF n) (expF m n) (blkA n)
  else Fly2 arg4 arg6 arg9 arg16 c W1 W2 (slotF n) (expF m n) (blkB n)
/-- The slot of chunk `n` once its copy has been started: idle when there is no chunk `n`. -/
def Cell (n : ℕ) : sProp 𝕄 :=
  if n < 24 * popN m.val then Fly arg4 arg6 arg9 arg16 c W1 W2 m n else Idle arg4 arg6 arg9 arg16 c W1 W2 (slotF n)
/-- The six chunks after chunk `n`. -/
def Mid (n : ℕ) : sProp 𝕄 :=
  iprop(Cell arg4 arg6 arg9 arg16 c W1 W2 m (n + 1) ∗ Cell arg4 arg6 arg9 arg16 c W1 W2 m (n + 2) ∗ Cell arg4 arg6 arg9 arg16 c W1 W2 m (n + 3)
    ∗ Cell arg4 arg6 arg9 arg16 c W1 W2 m (n + 4) ∗ Cell arg4 arg6 arg9 arg16 c W1 W2 m (n + 5) ∗ Cell arg4 arg6 arg9 arg16 c W1 W2 m (n + 6))
/-- The ring before chunk `n` is awaited. -/
def RingAt (n : ℕ) : sProp 𝕄 :=
  iprop(Cell arg4 arg6 arg9 arg16 c W1 W2 m n ∗ Mid arg4 arg6 arg9 arg16 c W1 W2 m n ∗ Idle arg4 arg6 arg9 arg16 c W1 W2 (slotF (n + 7)))

theorem ring_next (n : ℕ) :
    iprop(Idle arg4 arg6 arg9 arg16 c W1 W2 (slotF n) ∗ Mid arg4 arg6 arg9 arg16 c W1 W2 m n ∗ Cell arg4 arg6 arg9 arg16 c W1 W2 m (n + 7))
      ⊢ RingAt arg4 arg6 arg9 arg16 c W1 W2 m (n + 1) := by
  unfold RingAt Mid
  rw [show slotF (n + 1 + 7) = slotF n from Fin.ext (by show (n + 1 + 7) % 8 = n % 8; omega)]
  iintro ⟨HI, ⟨H1, H2, H3, H4, H5, H6⟩, H7⟩
  isplitl [H1]; · iexact H1
  isplitl [H2 H3 H4 H5 H6 H7]
  · isplitl [H2]; · iexact H2
    isplitl [H3]; · iexact H3
    isplitl [H4]; · iexact H4
    isplitl [H5]; · iexact H5
    isplitl [H6]; · iexact H6
    iexact H7
  iexact HI

end cells

section loads
variable {α : Type} (c : Dev nD)

/-- A load of one word of a list of words. -/
theorem held_word (m : Memref sig .tc .smem S9 .i32) {q : PosShare TreeShare} {L : S9.Idx → Elt F .i32} (p : Fin 9) {off : Fin 1 → ℕ}
    (ho : off = ![p.val]) {inb : ∀ a, off a + S1.size a ≤ S9.size a} {h1 : _} {h2 : _}
    {k : Elt F .i32 → Prog (TpuEff nD τ sig (Elt F) Λ₀ .tc) α} {Q : α → sProp 𝕄} :
    Held (F := F) c m q L ⊢ iprop((Held (F := F) c m q L -∗ wp frame (wpE defs₀ 𝒱₀ (c : Thread nD τ) none) Set.univ (k (L (ix1 p))) Q)
      -∗ wp frame (wpE defs₀ 𝒱₀ (c : Thread nD τ) none) Set.univ
        ((smemLoad m (Rect.unit (s := S9) off S1.size inb) h1 h2 : Prog (TpuEff nD τ sig (Elt F) Λ₀ .tc) (Elt F .i32)) >>= k) Q) := by
  subst ho
  have hx : ∀ x : S1.Idx, (Rect.unit (s := S9) ![p.val] S1.size inb).toLoadRect.idx x = ix1 p := by
    intro x
    funext a
    apply Fin.ext
    fin_cases a
    have : (x 0).val < 1 := (x 0).isLt
    show p.val + 1 * (x 0).val = p.val; omega
  iintro H Hk
  iapply (held_load c m (hl := View.loadsAt_rect (View.loads_smem_one h2 h1)) (r := (Rect.unit (s := S9) ![p.val] S1.size inb).toLoadRect)
    (k := fun f => k (f (Shape.Idx.first (h1.symm ▸ Nat.one_pos))))) $$ H
  iintro H
  have e := congrArg L (hx (Shape.Idx.first (h1.symm ▸ Nat.one_pos)))
  beta_reduce
  erw [e]
  iapply Hk
  iexact H

/-- A load of a block of sixteen rows of scales from the slot that holds them. -/
theorem sloadP (dstB : Memref sig .tc .vmem S2x16x8192 .bf16) (srcB : Memref sig .tc .hbm S8x16x8192 .bf16) (sems : DmaSems sig S2)
    (V : Buf (Elt F) (srcB.view.loc (c : Thread nD τ))) (s : Fin 2) {G : Fin 16 → Fin 8192 → Elt F .bf16} (z : ℕ) (hz : z + 256 ≤ 8192) {off : Fin 3 → ℕ}
    (ho : off = ![s.val, 0, z]) {inb : ∀ a, off a + S1x16x256.size a ≤ S2x16x8192.size a}
    {hl : dstB.view.LoadsAt (Rect.unit (s := S2x16x8192) off S1x16x256.size inb).toLoadRect}
    {k : Vec F S1x16x256 .bf16 → Prog (TpuEff nD τ sig (Elt F) Λ₀ .tc) α} {Q : α → sProp 𝕄} :
    SLoadedP dstB srcB sems c V s G ⊢ iprop((SLoadedP dstB srcB sems c V s G -∗ wp frame (wpE defs₀ 𝒱₀ (c : Thread nD τ) none) Set.univ
        (k (fun x => G (x 1) ⟨z + (x 2).val, by have : (x 2).val < 256 := (x 2).isLt; omega⟩)) Q)
      -∗ wp frame (wpE defs₀ 𝒱₀ (c : Thread nD τ) none) Set.univ
        (.op (.load dstB (Rect.unit (s := S2x16x8192) off S1x16x256.size inb).toLoadRect hl) k) Q) := by
  subst ho
  have hidx : ∀ x : S1x16x256.Idx, (Rect.unit (s := S2x16x8192) ![s.val, 0, z] S1x16x256.size inb).toLoadRect.idx x
      = ix3 s (x 1 : Fin 16) (⟨z + (x 2).val, by have : (x 2).val < 256 := (x 2).isLt; omega⟩ : Fin 8192) := by
    intro x
    have h0 : (x 0).val = 0 := by have : (x 0).val < 1 := (x 0).isLt; omega
    funext a
    apply Fin.ext
    fin_cases a
    · show s.val + 1 * (x 0).val = s.val; omega
    · show 0 + 1 * (x 1).val = (x 1).val; omega
    · show z + 1 * (x 2).val = z + (x 2).val; omega
  unfold SLoadedP
  iintro ⟨⟨%f, Hf, %hf⟩, Hs, Ht⟩ Hk
  have he : dstB.view.readAt (Elt F) (Rect.unit (s := S2x16x8192) ![s.val, 0, z] S1x16x256.size inb).toLoadRect f
      = fun x => G (x 1) ⟨z + (x 2).val, by have : (x 2).val < 256 := (x 2).isLt; omega⟩ := funext fun x => by
    show dstB.view.read (Elt F) f _ = _
    exact (congrArg _ (hidx x)).trans (hf _ _)
  have hsub : dstB.view.setOn (Rect.unit (s := S2x16x8192) ![s.val, 0, z] S1x16x256.size inb).toLoadRect.set ⊆ (dMP dstB s).view.set := by
    intro y hy
    obtain ⟨x', hz', rfl⟩ := Finset.mem_map.1 hy
    obtain ⟨x, rfl⟩ := LoadRect.exists_idx_of_mem _ hz'
    rw [hidx x]
    exact mem_dP_set dstB s _ _
  iapply (wp_load 𝒱₀ (c : Thread nD τ) none Set.univ (m := dstB) (hl := hl) (k := k) hsub) $$ Hf
  iintro Hf
  rw [he]
  iapply Hk
  isplitl [Hf]
  · iexists f
    isplitl [Hf]; · iexact Hf
    ipureintro; exact hf
  isplitl [Hs]; · iexact Hs
  iexact Ht

/-- The second weights' scales likewise, from row `y` on. -/
theorem sloadQ (dstB : Memref sig .tc .vmem S2x32x2048 .bf16) (srcB : Memref sig .tc .hbm S8x32x2048 .bf16) (sems : DmaSems sig S2)
    (V : Buf (Elt F) (srcB.view.loc (c : Thread nD τ))) (s : Fin 2) {G : Fin 32 → Fin 2048 → Elt F .bf16} (y z : ℕ) (hy : y + 16 ≤ 32) (hz : z + 256 ≤ 2048)
    {off : Fin 3 → ℕ}
    (ho : off = ![s.val, y, z]) {inb : ∀ a, off a + S1x16x256.size a ≤ S2x32x2048.size a}
    {hl : dstB.view.LoadsAt (Rect.unit (s := S2x32x2048) off S1x16x256.size inb).toLoadRect}
    {k : Vec F S1x16x256 .bf16 → Prog (TpuEff nD τ sig (Elt F) Λ₀ .tc) α} {Q : α → sProp 𝕄} :
    SLoadedQ dstB srcB sems c V s G ⊢ iprop((SLoadedQ dstB srcB sems c V s G -∗ wp frame (wpE defs₀ 𝒱₀ (c : Thread nD τ) none) Set.univ
        (k (fun x => G ⟨y + (x 1).val, by have : (x 1).val < 16 := (x 1).isLt; omega⟩ ⟨z + (x 2).val, by have : (x 2).val < 256 := (x 2).isLt; omega⟩)) Q)
      -∗ wp frame (wpE defs₀ 𝒱₀ (c : Thread nD τ) none) Set.univ
        (.op (.load dstB (Rect.unit (s := S2x32x2048) off S1x16x256.size inb).toLoadRect hl) k) Q) := by
  subst ho
  have hidx : ∀ x : S1x16x256.Idx, (Rect.unit (s := S2x32x2048) ![s.val, y, z] S1x16x256.size inb).toLoadRect.idx x
      = ix3 s (⟨y + (x 1).val, by have : (x 1).val < 16 := (x 1).isLt; omega⟩ : Fin 32) (⟨z + (x 2).val, by have : (x 2).val < 256 := (x 2).isLt; omega⟩ : Fin 2048) := by
    intro x
    have h0 : (x 0).val = 0 := by have : (x 0).val < 1 := (x 0).isLt; omega
    funext a
    apply Fin.ext
    fin_cases a
    · show s.val + 1 * (x 0).val = s.val; omega
    · show y + 1 * (x 1).val = y + (x 1).val; omega
    · show z + 1 * (x 2).val = z + (x 2).val; omega
  unfold SLoadedQ
  iintro ⟨⟨%f, Hf, %hf⟩, Hs, Ht⟩ Hk
  have he : dstB.view.readAt (Elt F) (Rect.unit (s := S2x32x2048) ![s.val, y, z] S1x16x256.size inb).toLoadRect f
      = fun x => G ⟨y + (x 1).val, by have : (x 1).val < 16 := (x 1).isLt; omega⟩ ⟨z + (x 2).val, by have : (x 2).val < 256 := (x 2).isLt; omega⟩ := funext fun x => by
    show dstB.view.read (Elt F) f _ = _
    exact (congrArg _ (hidx x)).trans (hf _ _)
  have hsub : dstB.view.setOn (Rect.unit (s := S2x32x2048) ![s.val, y, z] S1x16x256.size inb).toLoadRect.set ⊆ (dMQ dstB s).view.set := by
    intro y' hy'
    obtain ⟨x', hz', rfl⟩ := Finset.mem_map.1 hy'
    obtain ⟨x, rfl⟩ := LoadRect.exists_idx_of_mem _ hz'
    rw [hidx x]
    exact mem_dQ_set dstB s _ _
  iapply (wp_load 𝒱₀ (c : Thread nD τ) none Set.univ (m := dstB) (hl := hl) (k := k) hsub) $$ Hf
  iintro Hf
  rw [he]
  iapply Hk
  isplitl [Hf]
  · iexists f
    isplitl [Hf]; · iexact Hf
    ipureintro; exact hf
  isplitl [Hs]; · iexact Hs
  iexact Ht

end loads

theorem pay8_eq (v : Vec F S1x16x256 .bf16) : k0_pay8 v = v := shapeCast_shapeCast v _ _
theorem pay9_eq (v : Vec F S1x16x256 .bf16) : k0_pay9 v = v := shapeCast_shapeCast v _ _
theorem pay40_eq (v : Vec F S1x16x256 .bf16) : k0_pay40 v = v := shapeCast_shapeCast v _ _
theorem pay42_eq (v : Vec F S1x16x256 .bf16) : k0_pay42 (k0_pay41 v) = v := shapeCast_shapeCast v _ _

end Cert.KernelIdeal.Own
-- ==== Proof.KernelIdeal.Rows.lean ====
/- The two blocks of sixteen rows of scales a block of weights uses. -/
module

public import proofs.«01_k».proof.Proof.KernelIdeal.Cells

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UU nD τ) ℕ

theorem bind_ok {α β : Type} {c : Dev nD} {p : Prog (TpuEff nD τ sig (Elt F) Λ₀ .tc) α} {k : α → Prog (TpuEff nD τ sig (Elt F) Λ₀ .tc) β}
    {P : sProp 𝕄} {Q : β → sProp 𝕄} (h : P ⊢ wp frame (wpE defs₀ 𝒱₀ (c : Thread nD τ) none) Set.univ p fun a => wp frame (wpE defs₀ 𝒱₀ (c : Thread nD τ) none) Set.univ (k a) Q) : P ⊢ wp frame (wpE defs₀ 𝒱₀ (c : Thread nD τ) none) Set.univ (p >>= k) Q :=
  h.trans (le_of_eq (wp_bind ..).symm)

theorem ret_ok {α : Type} {c : Dev nD} {a : α} {P : sProp 𝕄} {Q : α → sProp 𝕄} (h : P ⊢ Q a) :
    P ⊢ wp frame (wpE defs₀ 𝒱₀ (c : Thread nD τ) none) Set.univ (.ret a) Q :=
  BIBase.Entails.trans (h.trans fupd_intro) (le_of_eq (wp_ret ..).symm)

theorem wp_pos {α : Type} {c : Dev nD} {P : Prop} {d : Decidable P} (h : P) {t : P → Prog (TpuEff nD τ sig (Elt F) Λ₀ .tc) α}
    {e : ¬ P → Prog (TpuEff nD τ sig (Elt F) Λ₀ .tc) α} {Q : α → sProp 𝕄} :
    wp frame (wpE defs₀ 𝒱₀ (c : Thread nD τ) none) Set.univ (t h) Q ⊢ wp frame (wpE defs₀ 𝒱₀ (c : Thread nD τ) none) Set.univ (@dite _ P d t e) Q := by rw [dif_pos h]

theorem wp_neg {α : Type} {c : Dev nD} {P : Prop} {d : Decidable P} (h : ¬ P) {t : P → Prog (TpuEff nD τ sig (Elt F) Λ₀ .tc) α}
    {e : ¬ P → Prog (TpuEff nD τ sig (Elt F) Λ₀ .tc) α} {Q : α → sProp 𝕄} :
    wp frame (wpE defs₀ 𝒱₀ (c : Thread nD τ) none) Set.univ (e h) Q ⊢ wp frame (wpE defs₀ 𝒱₀ (c : Thread nD τ) none) Set.univ (@dite _ P d t e) Q := by rw [dif_neg h]

/-- Sixteen rows of 256 scales of the first weights, from column `z` on. -/
def gblk (G : Fin 16 → Fin 8192 → Elt F .bf16) (z : ℕ) (hz : z + 256 ≤ 8192) : Vec F S1x16x256 .bf16 :=
  fun x => G (x 1) ⟨z + (x 2).val, by have : (x 2).val < 256 := (x 2).isLt; omega⟩
/-- Sixteen rows of 256 scales of the second weights, from row `y` and column `z` on. -/
def qblk (G : Fin 32 → Fin 2048 → Elt F .bf16) (y z : ℕ) (hy : y + 16 ≤ 32) (hz : z + 256 ≤ 2048) : Vec F S1x16x256 .bf16 :=
  fun x => G ⟨y + (x 1).val, by have : (x 1).val < 16 := (x 1).isLt; omega⟩ ⟨z + (x 2).val, by have : (x 2).val < 256 := (x 2).isLt; omega⟩

/-- The scale rows with the first sixteen replaced. -/
def put0 (D : S2x16x256.Idx → Elt F .bf16) (v : Vec F S1x16x256 .bf16) : S2x16x256.Idx → Elt F .bf16 :=
  fun y => if (y 0).val = 0 then v (ix3 0 (y 1) (y 2)) else D y
/-- The scale rows of two blocks. -/
def both (v w : Vec F S1x16x256 .bf16) : S2x16x256.Idx → Elt F .bf16 :=
  fun y => if (y 0).val = 0 then v (ix3 0 (y 1) (y 2)) else w (ix3 0 (y 1) (y 2))

theorem emb_row (i : Fin 2) {inb : ∀ a, (![i.val, 0, 0] : Fin 3 → ℕ) a + S1x16x256.size a ≤ S2x16x256.size a} (x : S1x16x256.Idx) :
    (Rect.unit (s := S2x16x256) ![i.val, 0, 0] S1x16x256.size inb).emb x = ix3 i (x 1 : Fin 16) (x 2 : Fin 256) := by
  have h0 : (x 0).val = 0 := by have : (x 0).val < 1 := (x 0).isLt; omega
  funext a
  apply Fin.ext
  fin_cases a
  · show i.val + 1 * (x 0).val = i.val; omega
  · show 0 + 1 * (x 1).val = (x 1).val; omega
  · show 0 + 1 * (x 2).val = (x 2).val; omega

theorem row_eta (x : S1x16x256.Idx) : ix3 (0 : Fin 1) (x 1 : Fin 16) (x 2 : Fin 256) = x := by
  funext a
  fin_cases a
  · apply Fin.ext; have : (x 0).val < 1 := (x 0).isLt; show 0 = (x 0).val; omega
  · rfl
  · rfl

theorem put0_in {D : S2x16x256.Idx → Elt F .bf16} {v : Vec F S1x16x256 .bf16} (x : S1x16x256.Idx) :
    put0 D v ((Rect.unit (s := S2x16x256) ![0, 0, 0] S1x16x256.size inb_S2x16x256_S1x16x256_0_0_0).emb x) = v x := by
  rw [show (Rect.unit (s := S2x16x256) ![0, 0, 0] S1x16x256.size inb_S2x16x256_S1x16x256_0_0_0).emb x = _ from emb_row 0 x]
  exact congrArg v (row_eta x)

theorem put0_out {D : S2x16x256.Idx → Elt F .bf16} {v : Vec F S1x16x256 .bf16} (y : S2x16x256.Idx)
    (h : ∀ z, (Rect.unit (s := S2x16x256) ![0, 0, 0] S1x16x256.size inb_S2x16x256_S1x16x256_0_0_0).emb z ≠ y) : put0 D v y = D y := by
  unfold put0
  by_cases h0 : (y 0).val = 0
  · exfalso
    refine h (ix3 (0 : Fin 1) (y 1 : Fin 16) (y 2 : Fin 256)) ((emb_row 0 _).trans ?_)
    funext a
    fin_cases a
    · exact Fin.ext h0.symm
    · rfl
    · rfl
  · rw [if_neg h0]

theorem both_in {v w : Vec F S1x16x256 .bf16} (x : S1x16x256.Idx) :
    both v w ((Rect.unit (s := S2x16x256) ![1, 0, 0] S1x16x256.size inb_S2x16x256_S1x16x256_1_0_0).emb x) = w x := by
  rw [show (Rect.unit (s := S2x16x256) ![1, 0, 0] S1x16x256.size inb_S2x16x256_S1x16x256_1_0_0).emb x = _ from emb_row 1 x]
  exact congrArg w (row_eta x)

theorem both_out {D : S2x16x256.Idx → Elt F .bf16} {v w : Vec F S1x16x256 .bf16} (y : S2x16x256.Idx)
    (h : ∀ z, (Rect.unit (s := S2x16x256) ![1, 0, 0] S1x16x256.size inb_S2x16x256_S1x16x256_1_0_0).emb z ≠ y) : both v w y = put0 D v y := by
  unfold both put0
  by_cases h0 : (y 0).val = 0
  · rw [if_pos h0, if_pos h0]
  · exfalso
    refine h (ix3 (0 : Fin 1) (y 1 : Fin 16) (y 2 : Fin 256)) ((emb_row 1 _).trans ?_)
    funext a
    fin_cases a
    · apply Fin.ext; have : (y 0).val < 2 := (y 0).isLt; show 1 = (y 0).val; omega
    · rfl
    · rfl

end Cert.KernelIdeal.Own
-- ==== Proof.KernelIdeal.Head1.lean ====
/- The head of a block of the first weights: its chunk is awaited, the copy of the chunk seven ahead is started, and the rows of
   scales of the block are put in place. -/
module

public import proofs.«01_k».proof.Proof.KernelIdeal.Rows

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UU nD τ) ℕ

set_option maxHeartbeats 4000000

variable {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2}

/-- The head of a block of the first weights. -/
theorem part1_ok (m : Fin 256) {k0_hw1 : k0_chk1 (BitVec.ofNat 32 m.val)} (t3 : Fin (k0_t3_loop (BitVec.ofNat 32 m.val)).trips) (t4 : Fin k0_t4_loop.trips)
    {v43 arg19 v147 c0_i32_128 c1_i32_130 : BitVec 32} {c : Dev nD}
    {W1 : Buf (Elt F) (arg4.view.loc (c : Thread nD τ))} {W2 : Buf (Elt F) (arg6.view.loc (c : Thread nD τ))} {V : Buf (Elt F) (arg5.view.loc (c : Thread nD τ))}
    {n : ℕ} (hn : n = 24 * t3.val + t4.val) {s : Fin 2} (hs : s.val = t3.val % 2) (hz : t4.val * 256 + 256 ≤ 8192) {G : Fin 16 → Fin 8192 → Elt F .bf16} {D : S2x16x256.Idx → Elt F .bf16}
    {L : S9.Idx → BitVec 32} (hL : ListOk m L) {R : sProp 𝕄} {Q : (Σ' (arg20 : BitVec 32) (v209 : BitVec 32), BitVec 32) → sProp 𝕄}
    (h : ∀ w1 w2 w3, iprop(Loaded arg4 arg6 arg9 arg16 c W1 W2 (slotF n) (blk1 arg4 W1 (expF m n) (blkA n)) ∗ Mid arg4 arg6 arg9 arg16 c W1 W2 m n ∗ Cell arg4 arg6 arg9 arg16 c W1 W2 m (n + 7) ∗ SLoadedP arg10 arg5 arg17 c V s G ∗ Held c arg15 fullShare L ∗ Held c arg12 fullShare (put0 D (gblk G (t4.val * 256) hz)) ∗ (∃ W, owes (c : Thread nD τ) 0 W) ∗ R) ⊢ Q ⟨w1, w2, w3⟩) :
    iprop(RingAt arg4 arg6 arg9 arg16 c W1 W2 m n ∗ SLoadedP arg10 arg5 arg17 c V s G ∗ Held c arg15 fullShare L ∗ Held c arg12 fullShare D ∗ (∃ W, owes (c : Thread nD τ) 0 W) ∗ R)
      ⊢ wp frame (wpE defs₀ 𝒱₀ (c : Thread nD τ) none) Set.univ (k0_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 (BitVec.ofNat 32 m.val) k0_hw1 v43 t3 arg19 v147 c0_i32_128 c1_i32_130 t4) Q := by
  have h3 := h8 m t3
  have hp3 := hpop m t3
  have h4 := t4.isLt.trans_eq trips4
  have hlt : n < 24 * popN m.val := by omega
  have hd : n / 24 = t3.val := by omega
  have hm : n % 24 < 16 := by omega
  rw [k0_part1_eq_skeleton]
  unfold k0_part1_skel
  unfold RingAt
  rw [show Cell arg4 arg6 arg9 arg16 c W1 W2 m n = Fly1 arg4 arg6 arg9 arg16 c W1 W2 (slotF n) (expF m n) (blkA n) by unfold Cell Fly; rw [if_pos hlt, if_pos hm]]
  iintro ⟨⟨HC, HM, HI⟩, HS, HL, HD, ⟨%W, HO⟩, HR⟩
  iapply (held_word c arg15 ⟨t3.val, by omega⟩ (off93_eq t3 h3 t4)) $$ HL
  iintro HL
  iapply (wp_assume 𝒱₀ (c : Thread nD τ) none Set.univ (chk12 m t3 t4 _ (hL.toNat hp3).2))
  iapply (wp_pos (cond16_eq t3 h3 t4))
  iapply (wait1 arg4 arg6 arg9 arg16 c W1 W2 (slotF n) (expF m n) (blkA n) ((off94_eq t3 h3 t4).trans (by rw [hn]))) $$ [HC HO]
  · isplitl [HC]; · iexact HC
    iexact HO
  iintro ⟨HF, HO⟩
  iapply (wp_neg (show ¬ k0_cond17 (BitVec.ofNat 32 m.val) t3 t4 = 1#1 by rw [cond17_eq t3 h3 t4]; decide))
  by_cases hc : n + 7 < 24 * popN m.val
  · have e18 : k0_cond18 (BitVec.ofNat 32 m.val) t3 t4 = 1#1 := by rw [cond18_eq m t3 h3 t4, if_pos (by omega)]
    have hq : (n + 7) / 24 < popN m.val := by omega
    iapply (wp_pos e18)
    iapply (held_word c arg15 ⟨(n + 7) / 24, by have := popN_le m; omega⟩ ((off102_eq t3 h3 t4).trans (by show _ = ![(n + 7) / 24]; rw [hn]))) $$ HL
    iintro HL
    have hw := hL.toNat hq
    iapply (wp_assume 𝒱₀ (c : Thread nD τ) none Set.univ (chk13 m t3 t4 _ hw.2))
    by_cases hb : (n + 7) % 24 < 16
    · iapply (wp_pos (show k0_cond19 (BitVec.ofNat 32 m.val) t3 t4 = 1#1 by rw [cond19_eq t3 h3 t4, if_pos (by omega)]))
      iapply (start1 arg4 arg6 arg9 arg16 c W1 W2 (slotF (n + 7)) (expF m (n + 7)) (blkA (n + 7)) ((off103_eq t3 h3 t4).trans (by rw [hn])) ((off104_eq t3 h3 t4).trans (by rw [hn]))
        ((off105_eq t3 h3 t4 _ (by omega)).trans (by rw [hw.1, ← hn]; show _ = ![_, 0, (n + 7) % 24 % 16 * 256, 0]; rw [Nat.mod_eq_of_lt hb]))) $$ HI
      iintro HI
      iapply (wp_neg (show ¬ k0_cond20 (BitVec.ofNat 32 m.val) t3 t4 = 1#1 by rw [cond20_eq t3 h3 t4, if_pos (by omega)]; decide))
      have eC : Cell arg4 arg6 arg9 arg16 c W1 W2 m (n + 7) = Fly1 arg4 arg6 arg9 arg16 c W1 W2 (slotF (n + 7)) (expF m (n + 7)) (blkA (n + 7)) := by unfold Cell Fly; rw [if_pos hc, if_pos hb]
      iapply (sloadP c arg10 arg5 arg17 V s (t4.val * 256) hz ((off111_gate t3 h3 t4).trans (by rw [hs]))) $$ HS
      iintro HS
      iapply (held_load c arg12) $$ HD
      iintro HD
      iapply (held_store c arg12 (X' := put0 D (gblk G (t4.val * 256) hz)) (fun x => (put0_in x).trans (congrFun (pay8_eq _).symm x)) put0_out) $$ HD
      iintro HD
      iapply (ret_ok (h _ _ _))
      isplitl [HF]; · iexact HF
      isplitl [HM]; · iexact HM
      isplitl [HI]; · rw [eC]; iexact HI
      isplitl [HS]; · iexact HS
      isplitl [HL]; · iexact HL
      isplitl [HD]; · iexact HD
      isplitl [HO]; · iexact HO
      iexact HR
    · iapply (wp_neg (show ¬ k0_cond19 (BitVec.ofNat 32 m.val) t3 t4 = 1#1 by rw [cond19_eq t3 h3 t4, if_neg (by omega)]; decide))
      iapply (wp_pos (show k0_cond20 (BitVec.ofNat 32 m.val) t3 t4 = 1#1 by rw [cond20_eq t3 h3 t4, if_neg (by omega)]))
      have hbe : ((n + 7) % 24 - 16) % 8 = (n + 7) % 24 - 16 := by omega
      iapply (start2 arg4 arg6 arg9 arg16 c W1 W2 (slotF (n + 7)) (expF m (n + 7)) (blkB (n + 7)) ((off106_eq t3 h3 t4).trans (by rw [hn])) ((off107_eq t3 h3 t4).trans (by rw [hn]))
        ((off108_eq t3 h3 t4 _ (by omega)).trans (by rw [hw.1, ← hn]; show _ = ![_, ((n + 7) % 24 - 16) % 8 * 256, 0]; rw [hbe]))
        ((off106_eq t3 h3 t4).trans (by rw [hn])) ((off109_eq t3 h3 t4).trans (by rw [hn]))
        ((off110_eq t3 h3 t4 _ (by omega)).trans (by rw [hw.1, ← hn]; show _ = ![_, ((n + 7) % 24 - 16) % 8 * 256, 1024]; rw [hbe]))) $$ HI
      iintro HI
      have eC : Cell arg4 arg6 arg9 arg16 c W1 W2 m (n + 7) = Fly2 arg4 arg6 arg9 arg16 c W1 W2 (slotF (n + 7)) (expF m (n + 7)) (blkB (n + 7)) := by unfold Cell Fly; rw [if_pos hc, if_neg hb]
      iapply (sloadP c arg10 arg5 arg17 V s (t4.val * 256) hz ((off111_gate t3 h3 t4).trans (by rw [hs]))) $$ HS
      iintro HS
      iapply (held_load c arg12) $$ HD
      iintro HD
      iapply (held_store c arg12 (X' := put0 D (gblk G (t4.val * 256) hz)) (fun x => (put0_in x).trans (congrFun (pay8_eq _).symm x)) put0_out) $$ HD
      iintro HD
      iapply (ret_ok (h _ _ _))
      isplitl [HF]; · iexact HF
      isplitl [HM]; · iexact HM
      isplitl [HI]; · rw [eC]; iexact HI
      isplitl [HS]; · iexact HS
      isplitl [HL]; · iexact HL
      isplitl [HD]; · iexact HD
      isplitl [HO]; · iexact HO
      iexact HR
  · iapply (wp_neg (show ¬ k0_cond18 (BitVec.ofNat 32 m.val) t3 t4 = 1#1 by rw [cond18_eq m t3 h3 t4, if_neg (by omega)]; decide))
    have eC : Cell arg4 arg6 arg9 arg16 c W1 W2 m (n + 7) = Idle arg4 arg6 arg9 arg16 c W1 W2 (slotF (n + 7)) := by unfold Cell; rw [if_neg hc]
    iapply (sloadP c arg10 arg5 arg17 V s (t4.val * 256) hz ((off111_gate t3 h3 t4).trans (by rw [hs]))) $$ HS
    iintro HS
    iapply (held_load c arg12) $$ HD
    iintro HD
    iapply (held_store c arg12 (X' := put0 D (gblk G (t4.val * 256) hz)) (fun x => (put0_in x).trans (congrFun (pay8_eq _).symm x)) put0_out) $$ HD
    iintro HD
    iapply (ret_ok (h _ _ _))
    isplitl [HF]; · iexact HF
    isplitl [HM]; · iexact HM
    isplitl [HI]; · rw [eC]; iexact HI
    isplitl [HS]; · iexact HS
    isplitl [HL]; · iexact HL
    isplitl [HD]; · iexact HD
    isplitl [HO]; · iexact HO
    iexact HR

end Cert.KernelIdeal.Own
-- ==== Proof.KernelIdeal.Step1.lean ====
/- One block of the first weights, from the head of the block to the store of what it makes. -/
module

public import proofs.«01_k».proof.Proof.KernelIdeal.Head1

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UU nD τ) ℕ

set_option maxHeartbeats 4000000

def part2V (G : Fin 2 → Fin 256 → Fin 1024 → Elt F .i8) (D : S2x16x256.Idx → Elt F .bf16) (X : S48x2048.Idx → Elt F .bf16) : Σ' (v278 : FVec F S256x256 .bf16), FVec F S48x256 .bf16 :=
  ⟨k0_pay10 (ldT G 0 0) (ldR D (Rect.unit (s := S2x16x256) ![0, 0, 0] S1x1x256.size inb_S2x16x256_S1x1x256_0_0_0).toLoadRect) (ldR D (Rect.unit (s := S2x16x256) ![0, 1, 0] S1x1x256.size inb_S2x16x256_S1x1x256_0_1_0).toLoadRect), k0_pay11 (ldR X (Rect.unit (s := S48x2048) ![0, 0] S48x256.size inb_S48x2048_S48x256_0_0).toLoadRect)⟩
/-- The tile of activations one block of the first weights makes. -/
def tile1V (G : Fin 2 → Fin 256 → Fin 1024 → Elt F .i8) (D : S2x16x256.Idx → Elt F .bf16) (X : S48x2048.Idx → Elt F .bf16) : FVec F S48x256 .bf16 :=
  let p2 := part2V G D X
  let p3 := part3V G D X p2.1 p2.2
  let p4 := part4V G D X p3.1 p3.2
  let p5 := part5V G D X p4.1 p4.2
  let p6 := part6V G D X p5.1 p5.2.1 p5.2.2.1 p5.2.2.2
  let p7 := part7V G D X p6.1 p6.2
  let p8 := part8V G D X p7.1 p7.2.1 p7.2.2
  let p9 := part9V G D X p8.1 p8.2.1 p8.2.2.1 p8.2.2.2
  let p10 := part10V G D X p9.2
  let p11 := part11V G D X p10
  let p12 := part12V G D X p11.1 p11.2.1 p11.2.2
  let p13 := part13V G D X p12.1 p12.2.1 p12.2.2.1 p12.2.2.2
  let p14 := part14V G D X p13.1 p13.2.1 p13.2.2
  let p15 := part15V G D X p14.1 p14.2
  k0_pay78 p9.1 p15.1 p15.2.1 p15.2.2 (ldR D (Rect.unit (s := S2x16x256) ![1, 15, 0] S1x1x256.size inb_S2x16x256_S1x1x256_1_15_0).toLoadRect) (ldR X (Rect.unit (s := S48x2048) ![0, 1792] S48x256.size inb_S48x2048_S48x256_0_1792).toLoadRect)

variable {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2}

/-- A buffer with 256 of its columns replaced. -/
def putH (H : S48x4096.Idx → Elt F .bf16) (b : ℕ) (v : FVec F S48x256 .bf16) : S48x4096.Idx → Elt F .bf16 :=
  fun y => if (y 1).val / 256 = b then v (ix2 (y 0 : Fin 48) (⟨(y 1).val % 256, Nat.mod_lt _ (by decide)⟩ : Fin 256)) else H y

theorem putH_emb {b : ℕ} {off : Fin 2 → ℕ} (ho : off = ![0, b * 256]) {inb : ∀ a, off a + S48x256.size a ≤ S48x4096.size a} (hb : b * 256 + 256 ≤ 4096) (x : S48x256.Idx) :
    (Rect.unit (s := S48x4096) off S48x256.size inb).emb x
      = ix2 (x 0 : Fin 48) (⟨b * 256 + (x 1).val, by have : (x 1).val < 256 := (x 1).isLt; omega⟩ : Fin 4096) := by
  subst ho
  funext a
  apply Fin.ext
  fin_cases a
  · show 0 + 1 * (x 0).val = (x 0).val; omega
  · show b * 256 + 1 * (x 1).val = b * 256 + (x 1).val; omega

theorem putH_in {H : S48x4096.Idx → Elt F .bf16} {b : ℕ} {v : FVec F S48x256 .bf16} {off : Fin 2 → ℕ} (ho : off = ![0, b * 256])
    {inb : ∀ a, off a + S48x256.size a ≤ S48x4096.size a} (hb : b * 256 + 256 ≤ 4096) (x : S48x256.Idx) :
    putH H b v ((Rect.unit (s := S48x4096) off S48x256.size inb).emb x) = v x := by
  have h1 : (x 1).val < 256 := (x 1).isLt
  rw [putH_emb ho hb x]
  unfold putH
  rw [if_pos (show (b * 256 + (x 1).val) / 256 = b by omega)]
  refine congrArg v ?_
  funext a
  fin_cases a
  · rfl
  · exact Fin.ext (show (b * 256 + (x 1).val) % 256 = (x 1).val by omega)

theorem putH_out {H : S48x4096.Idx → Elt F .bf16} {b : ℕ} {v : FVec F S48x256 .bf16} {off : Fin 2 → ℕ} (ho : off = ![0, b * 256])
    {inb : ∀ a, off a + S48x256.size a ≤ S48x4096.size a} (hb : b * 256 + 256 ≤ 4096) (y : S48x4096.Idx)
    (h : ∀ z, (Rect.unit (s := S48x4096) off S48x256.size inb).emb z ≠ y) : putH H b v y = H y := by
  unfold putH
  by_cases h0 : (y 1).val / 256 = b
  · exfalso
    refine h (ix2 (y 0 : Fin 48) (⟨(y 1).val % 256, Nat.mod_lt _ (by decide)⟩ : Fin 256)) ((putH_emb ho hb _).trans ?_)
    funext a
    fin_cases a
    · rfl
    · exact Fin.ext (show b * 256 + (y 1).val % 256 = (y 1).val by omega)
  · rw [if_neg h0]

/-- A load of a block of scales of the first weights within a block. -/
theorem comp_ldS {α : Type} {c : Dev nD} {W1 : Buf (Elt F) (arg4.view.loc (c : Thread nD τ))} {W2 : Buf (Elt F) (arg6.view.loc (c : Thread nD τ))} {V : Buf (Elt F) (arg5.view.loc (c : Thread nD τ))}
    {s : Fin 8} {s' : Fin 2} {GW : Fin 2 → Fin 256 → Fin 1024 → Elt F .i8} {G : Fin 16 → Fin 8192 → Elt F .bf16} {D : S2x16x256.Idx → Elt F .bf16} {q : PosShare TreeShare}
    {X : S48x2048.Idx → Elt F .bf16} {R : sProp 𝕄} (z : ℕ) (hz : z + 256 ≤ 8192) {off : Fin 3 → ℕ} (ho : off = ![s'.val, 0, z])
    {inb : ∀ a, off a + S1x16x256.size a ≤ S2x16x8192.size a} {hl : arg10.view.LoadsAt (Rect.unit (s := S2x16x8192) off S1x16x256.size inb).toLoadRect}
    {k : Vec F S1x16x256 .bf16 → Prog (TpuEff nD τ sig (Elt F) Λ₀ .tc) α} {Q : α → sProp 𝕄}
    (h : Comp arg4 arg6 arg9 arg12 arg1 arg16 c W1 W2 s GW D q X iprop(SLoadedP arg10 arg5 arg17 c V s' G ∗ R) ⊢ wp frame (wpE defs₀ 𝒱₀ (c : Thread nD τ) none) Set.univ (k (gblk G z hz)) Q) :
    Comp arg4 arg6 arg9 arg12 arg1 arg16 c W1 W2 s GW D q X iprop(SLoadedP arg10 arg5 arg17 c V s' G ∗ R)
      ⊢ wp frame (wpE defs₀ 𝒱₀ (c : Thread nD τ) none) Set.univ (.op (.load arg10 (Rect.unit (s := S2x16x8192) off S1x16x256.size inb).toLoadRect hl) k) Q := by
  have h0 : Comp arg4 arg6 arg9 arg12 arg1 arg16 c W1 W2 s GW D q X iprop(SLoadedP arg10 arg5 arg17 c V s' G ∗ R)
      ⊢ iprop(SLoadedP arg10 arg5 arg17 c V s' G ∗ (SLoadedP arg10 arg5 arg17 c V s' G -∗ Comp arg4 arg6 arg9 arg12 arg1 arg16 c W1 W2 s GW D q X iprop(SLoadedP arg10 arg5 arg17 c V s' G ∗ R))) := by
    unfold Comp
    iintro ⟨HL, HD, HX, HM, HR⟩
    isplitl [HM]; · iexact HM
    iintro HM
    isplitl [HL]; · iexact HL
    isplitl [HD]; · iexact HD
    isplitl [HX]; · iexact HX
    isplitl [HM]; · iexact HM
    iexact HR
  refine h0.trans ?_
  · iintro ⟨HD, Hk⟩
    iapply (sloadP c arg10 arg5 arg17 V s' z hz ho) $$ HD
    iintro HD
    iapply h
    iapply Hk
    iexact HD

theorem part2_ok {v3 : BitVec 32} {k0_hw1 : k0_chk1 v3} (t3 : Fin (k0_t3_loop v3).trips) (h3 : t3.val < 8) (t4 : Fin k0_t4_loop.trips) {v209 v238 : BitVec 32} {c : Dev nD}
    {W1 : Buf (Elt F) (arg4.view.loc (c : Thread nD τ))} {W2 : Buf (Elt F) (arg6.view.loc (c : Thread nD τ))} {V : Buf (Elt F) (arg5.view.loc (c : Thread nD τ))}
    {s : Fin 8} (hs : s.val = (24 * t3.val + t4.val) % 8) {s' : Fin 2} (hs' : s'.val = t3.val % 2) (hz : t4.val * 256 + 256 ≤ 8192) (hz2 : 4096 + t4.val * 256 + 256 ≤ 8192)
    {GW : Fin 2 → Fin 256 → Fin 1024 → Elt F .i8} {G : Fin 16 → Fin 8192 → Elt F .bf16} {D : S2x16x256.Idx → Elt F .bf16} {q : PosShare TreeShare}
    {X : S48x2048.Idx → Elt F .bf16} {R : sProp 𝕄} {Q : (Σ' (v278 : FVec F S256x256 .bf16), FVec F S48x256 .bf16) → sProp 𝕄}
    (h : Comp arg4 arg6 arg9 arg12 arg1 arg16 c W1 W2 s GW (both (gblk G (t4.val * 256) hz) (gblk G (4096 + t4.val * 256) hz2)) q X iprop(SLoadedP arg10 arg5 arg17 c V s' G ∗ R) ⊢ Q (part2V GW (both (gblk G (t4.val * 256) hz) (gblk G (4096 + t4.val * 256) hz2)) X)) :
    Comp arg4 arg6 arg9 arg12 arg1 arg16 c W1 W2 s GW (put0 D (gblk G (t4.val * 256) hz)) q X iprop(SLoadedP arg10 arg5 arg17 c V s' G ∗ R)
      ⊢ wp frame (wpE defs₀ 𝒱₀ (c : Thread nD τ) none) Set.univ (k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 t3 t4 v209 v238) Q := by
  rw [k0_part2_eq_skeleton]
  unfold k0_part2_skel
  refine comp_ldS (4096 + t4.val * 256) hz2 ((off111_up t3 h3 t4).trans (by rw [hs'])) ?_
  refine comp_ld12 ?_
  refine comp_st12 (D' := (both (gblk G (t4.val * 256) hz) (gblk G (4096 + t4.val * 256) hz2))) (fun x => (both_in x).trans (congrFun (pay9_eq _).symm x)) both_out ?_
  refine comp_ld9 0 0 ((off112_eq t3 h3 t4).trans (by rw [hs]; rfl)) ?_
  refine comp_ld12 ?_
  refine comp_ld12 ?_
  refine comp_ldX ?_
  exact ret_ok h

attribute [local irreducible] part2V part3V part4V part5V part6V part7V part8V part9V part10V part11V part12V part13V part14V part15V

/-- One block of the first weights. -/
theorem t4_step (m : Fin 256) {k0_hw1 : k0_chk1 (BitVec.ofNat 32 m.val)} (t3 : Fin (k0_t3_loop (BitVec.ofNat 32 m.val)).trips) (t4 : Fin k0_t4_loop.trips)
    {v42 : BitVec 32} {v43 : BitVec 32} {c0_i32_107 : BitVec 32} {c1_i32_109 : BitVec 32} {arg19 : BitVec 32} {v147 : BitVec 32} {c : Dev nD}
    {W1 : Buf (Elt F) (arg4.view.loc (c : Thread nD τ))} {W2 : Buf (Elt F) (arg6.view.loc (c : Thread nD τ))} {V : Buf (Elt F) (arg5.view.loc (c : Thread nD τ))}
    {n : ℕ} (hn : n = 24 * t3.val + t4.val) {s' : Fin 2} (hs' : s'.val = t3.val % 2) (hz : t4.val * 256 + 256 ≤ 8192) (hz2 : 4096 + t4.val * 256 + 256 ≤ 8192) {G : Fin 16 → Fin 8192 → Elt F .bf16}
    {L : S9.Idx → BitVec 32} (hL : ListOk m L) {q : PosShare TreeShare} {X : S48x2048.Idx → Elt F .bf16} {H : S48x4096.Idx → Elt F .bf16} {R : sProp 𝕄} {Q : Unit → sProp 𝕄}
    (h : iprop(RingAt arg4 arg6 arg9 arg16 c W1 W2 m (n + 1) ∗ SLoadedP arg10 arg5 arg17 c V s' G ∗ Held c arg15 fullShare L ∗ (∃ D, Held c arg12 fullShare D) ∗ (∃ W, owes (c : Thread nD τ) 0 W) ∗ Held c arg1 q X ∗ Held c arg13 fullShare (putH H t4.val (tile1V (blk1 arg4 W1 (expF m n) (blkA n)) (both (gblk G (t4.val * 256) hz) (gblk G (4096 + t4.val * 256) hz2)) X)) ∗ R) ⊢ Q ⟨⟩) :
    iprop(RingAt arg4 arg6 arg9 arg16 c W1 W2 m n ∗ SLoadedP arg10 arg5 arg17 c V s' G ∗ Held c arg15 fullShare L ∗ (∃ D, Held c arg12 fullShare D) ∗ (∃ W, owes (c : Thread nD τ) 0 W) ∗ Held c arg1 q X ∗ Held c arg13 fullShare (H) ∗ R)
      ⊢ wp frame (wpE defs₀ 𝒱₀ (c : Thread nD τ) none) Set.univ (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 (BitVec.ofNat 32 m.val) k0_hw1 v42 v43 c0_i32_107 c1_i32_109 t3 arg19 v147 t4 ⟨⟩) Q := by
  have h3 := h8 m t3
  have hs : (slotF n).val = (24 * t3.val + t4.val) % 8 := by show n % 8 = _; rw [hn]
  iintro ⟨HG, HS, HL, ⟨%D, HD⟩, HO, HX, HY, HR⟩
  unfold k0_t4_body
  iapply (bind_ok (part1_ok (R := iprop(Held c arg1 q X ∗ Held c arg13 fullShare H ∗ R)) m t3 t4 hn hs' hz hL ?hh))
  case hh =>
    intros
    refine BIBase.Entails.trans (Q := Comp arg4 arg6 arg9 arg12 arg1 arg16 c W1 W2 (slotF n) (blk1 arg4 W1 (expF m n) (blkA n)) (put0 D (gblk G (t4.val * 256) hz)) q X iprop(SLoadedP arg10 arg5 arg17 c V s' G ∗ Held c arg13 fullShare H ∗ Mid arg4 arg6 arg9 arg16 c W1 W2 m n ∗ Cell arg4 arg6 arg9 arg16 c W1 W2 m (n + 7) ∗ Held c arg15 fullShare L ∗ (∃ W, owes (c : Thread nD τ) 0 W) ∗ R)) ?_ ?_
    · unfold Comp
      iintro ⟨HF, HM, HC, HS, HL, HD, HO, HX, HY, HR⟩
      isplitl [HF]; · iexact HF
      isplitl [HD]; · iexact HD
      isplitl [HX]; · iexact HX
      isplitl [HS]; · iexact HS
      isplitl [HY]; · iexact HY
      isplitl [HM]; · iexact HM
      isplitl [HC]; · iexact HC
      isplitl [HL]; · iexact HL
      isplitl [HO]; · iexact HO
      iexact HR
    · refine bind_ok (part2_ok t3 h3 t4 hs hs' hz hz2 ?_)
      refine bind_ok (part3_ok h3 hs ?_)
      refine bind_ok (part4_ok h3 hs ?_)
      refine bind_ok (part5_ok h3 hs ?_)
      refine bind_ok (part6_ok h3 hs ?_)
      refine bind_ok (part7_ok h3 hs ?_)
      refine bind_ok (part8_ok h3 hs ?_)
      refine bind_ok (part9_ok h3 hs ?_)
      refine bind_ok (part10_ok h3 hs ?_)
      refine bind_ok (part11_ok h3 hs ?_)
      refine bind_ok (part12_ok h3 hs ?_)
      refine bind_ok (part13_ok h3 hs ?_)
      refine bind_ok (part14_ok h3 hs ?_)
      refine bind_ok (part15_ok h3 hs ?_)
      refine comp_ld12 ?_
      refine comp_ldX ?_
      refine BIBase.Entails.trans (Q := Comp arg4 arg6 arg9 arg12 arg1 arg16 c W1 W2 (slotF n) (blk1 arg4 W1 (expF m n) (blkA n)) (both (gblk G (t4.val * 256) hz) (gblk G (4096 + t4.val * 256) hz2)) q X iprop(Held c arg13 fullShare H ∗ SLoadedP arg10 arg5 arg17 c V s' G ∗ Mid arg4 arg6 arg9 arg16 c W1 W2 m n ∗ Cell arg4 arg6 arg9 arg16 c W1 W2 m (n + 7) ∗ Held c arg15 fullShare L ∗ (∃ W, owes (c : Thread nD τ) 0 W) ∗ R)) ?_ ?_
      · unfold Comp
        iintro ⟨HF, HD, HX, HS, HY, HR⟩
        isplitl [HF]; · iexact HF
        isplitl [HD]; · iexact HD
        isplitl [HX]; · iexact HX
        isplitl [HY]; · iexact HY
        isplitl [HS]; · iexact HS
        iexact HR
      refine comp_ldR ?_
      refine comp_stR (Y' := putH H t4.val (tile1V (blk1 arg4 W1 (expF m n) (blkA n)) (both (gblk G (t4.val * 256) hz) (gblk G (4096 + t4.val * 256) hz2)) X)) (putH_in (off128_eq t4) (by have := t4.isLt.trans_eq trips4; omega)) (putH_out (off128_eq t4) (by have := t4.isLt.trans_eq trips4; omega)) ?_
      refine ret_ok (BIBase.Entails.trans ?_ h)
      unfold Comp
      iintro ⟨HF, HD, HX, HY, HS, HM, HC, HL, HO, HR⟩
      isplitl [HF HM HC]
      · iapply (ring_next arg4 arg6 arg9 arg16 c W1 W2 m n)
        isplitl [HF]
        · iapply (Loaded_idle arg4 arg6 arg9 arg16 c W1 W2 (slotF n) (blk1 arg4 W1 (expF m n) (blkA n)))
          iexact HF
        isplitl [HM]; · iexact HM
        iexact HC
      isplitl [HS]; · iexact HS
      isplitl [HL]; · iexact HL
      isplitl [HD]; · iexists _; iexact HD
      isplitl [HO]; · iexact HO
      isplitl [HX]; · iexact HX
      isplitl [HY]; · iexact HY
      iexact HR
  isplitl [HG]; · iexact HG
  isplitl [HS]; · iexact HS
  isplitl [HL]; · iexact HL
  isplitl [HD]; · iexact HD
  isplitl [HO]; · iexact HO
  isplitl [HX]; · iexact HX
  isplitl [HY]; · iexact HY
  iexact HR

end Cert.KernelIdeal.Own
-- ==== Proof.KernelIdeal.Head2.lean ====
/- The head of a block of the second weights: its chunk is awaited, the copy of the chunk seven ahead is started, and the rows of
   scales of the block are put in place. -/
module

public import proofs.«01_k».proof.Proof.KernelIdeal.Rows

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UU nD τ) ℕ

set_option maxHeartbeats 4000000

variable {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2}

/-- The head of a block of the second weights. -/
theorem part16_ok (m : Fin 256) {k0_hw1 : k0_chk1 (BitVec.ofNat 32 m.val)} (t3 : Fin (k0_t3_loop (BitVec.ofNat 32 m.val)).trips) (t5 : Fin k0_t5_loop.trips)
    {v43 arg19 v147 c0_i32_147 c1_i32_149 : BitVec 32} {c : Dev nD}
    {W1 : Buf (Elt F) (arg4.view.loc (c : Thread nD τ))} {W2 : Buf (Elt F) (arg6.view.loc (c : Thread nD τ))} {V : Buf (Elt F) (arg7.view.loc (c : Thread nD τ))}
    {n : ℕ} (hn : n = 24 * t3.val + 16 + t5.val) {s : Fin 2} (hs : s.val = t3.val % 2) (hz : t5.val * 256 + 256 ≤ 2048) {G : Fin 32 → Fin 2048 → Elt F .bf16} {D : S2x16x256.Idx → Elt F .bf16}
    {L : S9.Idx → BitVec 32} (hL : ListOk m L) {R : sProp 𝕄} {Q : (Σ' (v210 : BitVec 32) (v228 : BitVec 32), FVec F S16x256 .bf16) → sProp 𝕄}
    (h : ∀ w1 w2, iprop(Loaded arg4 arg6 arg9 arg16 c W1 W2 (slotF n) (blk2 arg6 W2 (expF m n) (blkB n)) ∗ Mid arg4 arg6 arg9 arg16 c W1 W2 m n ∗ Cell arg4 arg6 arg9 arg16 c W1 W2 m (n + 7) ∗ SLoadedQ arg11 arg7 arg18 c V s G ∗ Held c arg15 fullShare L ∗ Held c arg12 fullShare (put0 D (qblk G 0 (t5.val * 256) (by decide) hz)) ∗ (∃ W, owes (c : Thread nD τ) 0 W) ∗ R) ⊢ Q ⟨w1, w2, k0_pay41 (qblk G 16 (t5.val * 256) (by decide) hz)⟩) :
    iprop(RingAt arg4 arg6 arg9 arg16 c W1 W2 m n ∗ SLoadedQ arg11 arg7 arg18 c V s G ∗ Held c arg15 fullShare L ∗ Held c arg12 fullShare D ∗ (∃ W, owes (c : Thread nD τ) 0 W) ∗ R)
      ⊢ wp frame (wpE defs₀ 𝒱₀ (c : Thread nD τ) none) Set.univ (k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 (BitVec.ofNat 32 m.val) k0_hw1 v43 t3 arg19 v147 c0_i32_147 c1_i32_149 t5) Q := by
  have h3 := h8 m t3
  have hp3 := hpop m t3
  have h4 := t5.isLt.trans_eq trips5
  have hlt : n < 24 * popN m.val := by omega
  have hd : n / 24 = t3.val := by omega
  have hm : n % 24 ≥ 16 := by omega
  rw [k0_part16_eq_skeleton]
  unfold k0_part16_skel
  unfold RingAt
  rw [show Cell arg4 arg6 arg9 arg16 c W1 W2 m n = Fly2 arg4 arg6 arg9 arg16 c W1 W2 (slotF n) (expF m n) (blkB n) by unfold Cell Fly; rw [if_pos hlt, if_neg (by omega)]]
  iintro ⟨⟨HC, HM, HI⟩, HS, HL, HD, ⟨%W, HO⟩, HR⟩
  iapply (held_word c arg15 ⟨t3.val, by omega⟩ (off130_eq t3 h3 t5)) $$ HL
  iintro HL
  iapply (wp_assume 𝒱₀ (c : Thread nD τ) none Set.univ (chk14 m t3 t5 _ (hL.toNat hp3).2))
  iapply (wp_neg (show ¬ k0_cond21 (BitVec.ofNat 32 m.val) t3 t5 = 1#1 by rw [cond21_eq t3 h3 t5]; decide))
  iapply (wp_pos (cond22_eq t3 h3 t5))
  iapply (wait2 arg4 arg6 arg9 arg16 c W1 W2 (slotF n) (expF m n) (blkB n) ((off134_eq t3 h3 t5).trans (by rw [hn])) ((off134_eq t3 h3 t5).trans (by rw [hn]))) $$ [HC HO]
  · isplitl [HC]; · iexact HC
    iexact HO
  iintro ⟨HF, HO⟩
  by_cases hc : n + 7 < 24 * popN m.val
  · have e18 : k0_cond23 (BitVec.ofNat 32 m.val) t3 t5 = 1#1 := by rw [cond23_eq m t3 h3 t5, if_pos (by omega)]
    have hq : (n + 7) / 24 < popN m.val := by omega
    iapply (wp_pos e18)
    iapply (held_word c arg15 ⟨(n + 7) / 24, by have := popN_le m; omega⟩ ((off139_eq t3 h3 t5).trans (by show _ = ![(n + 7) / 24]; rw [hn]))) $$ HL
    iintro HL
    have hw := hL.toNat hq
    iapply (wp_assume 𝒱₀ (c : Thread nD τ) none Set.univ (chk15 m t3 t5 _ hw.2))
    by_cases hb : (n + 7) % 24 < 16
    · iapply (wp_pos (show k0_cond24 (BitVec.ofNat 32 m.val) t3 t5 = 1#1 by rw [cond24_eq t3 h3 t5, if_pos (by omega)]))
      iapply (start1 arg4 arg6 arg9 arg16 c W1 W2 (slotF (n + 7)) (expF m (n + 7)) (blkA (n + 7)) ((off140_eq t3 h3 t5).trans (by rw [hn])) ((off141_eq t3 h3 t5).trans (by rw [hn]))
        ((off142_eq t3 h3 t5 _ (by omega)).trans (by rw [hw.1, ← hn]; show _ = ![_, 0, (n + 7) % 24 % 16 * 256, 0]; rw [Nat.mod_eq_of_lt hb]))) $$ HI
      iintro HI
      iapply (wp_neg (show ¬ k0_cond25 (BitVec.ofNat 32 m.val) t3 t5 = 1#1 by rw [cond25_eq t3 h3 t5, if_pos (by omega)]; decide))
      have eC : Cell arg4 arg6 arg9 arg16 c W1 W2 m (n + 7) = Fly1 arg4 arg6 arg9 arg16 c W1 W2 (slotF (n + 7)) (expF m (n + 7)) (blkA (n + 7)) := by unfold Cell Fly; rw [if_pos hc, if_pos hb]
      iapply (sloadQ c arg11 arg7 arg18 V s 0 (t5.val * 256) (by decide) hz ((off148_eq t3 h3 t5).trans (by rw [hs]))) $$ HS
      iintro HS
      iapply (held_load c arg12) $$ HD
      iintro HD
      iapply (held_store c arg12 (X' := put0 D (qblk G 0 (t5.val * 256) (by decide) hz)) (fun x => (put0_in x).trans (congrFun (pay40_eq _).symm x)) put0_out) $$ HD
      iintro HD
      iapply (sloadQ c arg11 arg7 arg18 V s 16 (t5.val * 256) (by decide) hz ((off149_eq t3 h3 t5).trans (by rw [hs]))) $$ HS
      iintro HS
      iapply (ret_ok (h _ _))
      isplitl [HF]; · iexact HF
      isplitl [HM]; · iexact HM
      isplitl [HI]; · rw [eC]; iexact HI
      isplitl [HS]; · iexact HS
      isplitl [HL]; · iexact HL
      isplitl [HD]; · iexact HD
      isplitl [HO]; · iexact HO
      iexact HR
    · iapply (wp_neg (show ¬ k0_cond24 (BitVec.ofNat 32 m.val) t3 t5 = 1#1 by rw [cond24_eq t3 h3 t5, if_neg (by omega)]; decide))
      iapply (wp_pos (show k0_cond25 (BitVec.ofNat 32 m.val) t3 t5 = 1#1 by rw [cond25_eq t3 h3 t5, if_neg (by omega)]))
      have hbe : ((n + 7) % 24 - 16) % 8 = (n + 7) % 24 - 16 := by omega
      iapply (start2 arg4 arg6 arg9 arg16 c W1 W2 (slotF (n + 7)) (expF m (n + 7)) (blkB (n + 7)) ((off143_eq t3 h3 t5).trans (by rw [hn])) ((off144_eq t3 h3 t5).trans (by rw [hn]))
        ((off145_eq t3 h3 t5 _ (by omega)).trans (by rw [hw.1, ← hn]; show _ = ![_, ((n + 7) % 24 - 16) % 8 * 256, 0]; rw [hbe]))
        ((off143_eq t3 h3 t5).trans (by rw [hn])) ((off146_eq t3 h3 t5).trans (by rw [hn]))
        ((off147_eq t3 h3 t5 _ (by omega)).trans (by rw [hw.1, ← hn]; show _ = ![_, ((n + 7) % 24 - 16) % 8 * 256, 1024]; rw [hbe]))) $$ HI
      iintro HI
      have eC : Cell arg4 arg6 arg9 arg16 c W1 W2 m (n + 7) = Fly2 arg4 arg6 arg9 arg16 c W1 W2 (slotF (n + 7)) (expF m (n + 7)) (blkB (n + 7)) := by unfold Cell Fly; rw [if_pos hc, if_neg hb]
      iapply (sloadQ c arg11 arg7 arg18 V s 0 (t5.val * 256) (by decide) hz ((off148_eq t3 h3 t5).trans (by rw [hs]))) $$ HS
      iintro HS
      iapply (held_load c arg12) $$ HD
      iintro HD
      iapply (held_store c arg12 (X' := put0 D (qblk G 0 (t5.val * 256) (by decide) hz)) (fun x => (put0_in x).trans (congrFun (pay40_eq _).symm x)) put0_out) $$ HD
      iintro HD
      iapply (sloadQ c arg11 arg7 arg18 V s 16 (t5.val * 256) (by decide) hz ((off149_eq t3 h3 t5).trans (by rw [hs]))) $$ HS
      iintro HS
      iapply (ret_ok (h _ _))
      isplitl [HF]; · iexact HF
      isplitl [HM]; · iexact HM
      isplitl [HI]; · rw [eC]; iexact HI
      isplitl [HS]; · iexact HS
      isplitl [HL]; · iexact HL
      isplitl [HD]; · iexact HD
      isplitl [HO]; · iexact HO
      iexact HR
  · iapply (wp_neg (show ¬ k0_cond23 (BitVec.ofNat 32 m.val) t3 t5 = 1#1 by rw [cond23_eq m t3 h3 t5, if_neg (by omega)]; decide))
    have eC : Cell arg4 arg6 arg9 arg16 c W1 W2 m (n + 7) = Idle arg4 arg6 arg9 arg16 c W1 W2 (slotF (n + 7)) := by unfold Cell; rw [if_neg hc]
    iapply (sloadQ c arg11 arg7 arg18 V s 0 (t5.val * 256) (by decide) hz ((off148_eq t3 h3 t5).trans (by rw [hs]))) $$ HS
    iintro HS
    iapply (held_load c arg12) $$ HD
    iintro HD
    iapply (held_store c arg12 (X' := put0 D (qblk G 0 (t5.val * 256) (by decide) hz)) (fun x => (put0_in x).trans (congrFun (pay40_eq _).symm x)) put0_out) $$ HD
    iintro HD
    iapply (sloadQ c arg11 arg7 arg18 V s 16 (t5.val * 256) (by decide) hz ((off149_eq t3 h3 t5).trans (by rw [hs]))) $$ HS
    iintro HS
    iapply (ret_ok (h _ _))
    isplitl [HF]; · iexact HF
    isplitl [HM]; · iexact HM
    isplitl [HI]; · rw [eC]; iexact HI
    isplitl [HS]; · iexact HS
    isplitl [HL]; · iexact HL
    isplitl [HD]; · iexact HD
    isplitl [HO]; · iexact HO
    iexact HR

end Cert.KernelIdeal.Own
-- ==== Proof.KernelIdeal.Step2.lean ====
/- One block of the second weights, from the head of the block to the store of what it makes. -/
module

public import proofs.«01_k».proof.Proof.KernelIdeal.Head2

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UU nD τ) ℕ

set_option maxHeartbeats 4000000

def part17V (G : Fin 2 → Fin 256 → Fin 1024 → Elt F .i8) (D : S2x16x256.Idx → Elt F .bf16) (X : S48x4096.Idx → Elt F .bf16) : FVec F S48x256 .f32 :=
  k0_pay43 (ldT G 0 0) (ldR D (Rect.unit (s := S2x16x256) ![0, 0, 0] S1x1x256.size inb_S2x16x256_S1x1x256_0_0_0).toLoadRect) (ldR D (Rect.unit (s := S2x16x256) ![0, 1, 0] S1x1x256.size inb_S2x16x256_S1x1x256_0_1_0).toLoadRect) (ldR X (Rect.unit (s := S48x4096) ![0, 0] S48x256.size inb_S48x4096_S48x256_0_0).toLoadRect)
/-- The columns of the sum before a block of the second weights, and what the block contributes to them. -/
def tile2V (G : Fin 2 → Fin 256 → Fin 1024 → Elt F .i8) (D : S2x16x256.Idx → Elt F .bf16) (X : S48x4096.Idx → Elt F .bf16) (Y : S48x2048.Idx → Elt F .f32) (k0_t5 : Fin k0_t5_loop.trips)
    (v201 : FVec F S48x256 .f32) : Σ' (v818 : Vec F S48x256 .f32), FVec F S48x256 .f32 :=
  let p17 := part17V G D X
  let p18 := part18V G D X p17
  let p19 := part19V G D X p18.1 p18.2
  let p20 := part20V G D X p19.1 p19.2.1 p19.2.2.1 p19.2.2.2
  let p21 := part21V G D X p20.1 p20.2
  let p22 := part22V G D X p21.1 p21.2.1 p21.2.2
  let p23 := part23V G D X p22.1 p22.2.1 p22.2.2.1 p22.2.2.2
  let p24 := part24V G D X
  let p25 := part25V G D X p24.1 p24.2.1 p24.2.2
  let p26 := part26V G D X p25.1 p25.2.1 p25.2.2.1 p25.2.2.2
  let p27 := part27V G D X p26.1 p26.2
  let p28 := part28V G D X p27.1 p27.2.1 p27.2.2
  let p29 := part29V G D X p28.1 p28.2.1 p28.2.2.1 p28.2.2.2
  let p30 := part30V G D X Y k0_t5 v201 p23 p29.1 p29.2.1 p29.2.2
  p30

variable {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2}

/-- A buffer with 256 of its columns replaced. -/
def putA (H : S48x2048.Idx → Elt F .f32) (b : ℕ) (v : FVec F S48x256 .f32) : S48x2048.Idx → Elt F .f32 :=
  fun y => if (y 1).val / 256 = b then v (ix2 (y 0 : Fin 48) (⟨(y 1).val % 256, Nat.mod_lt _ (by decide)⟩ : Fin 256)) else H y

theorem putA_emb {b : ℕ} {off : Fin 2 → ℕ} (ho : off = ![0, b * 256]) {inb : ∀ a, off a + S48x256.size a ≤ S48x2048.size a} (hb : b * 256 + 256 ≤ 2048) (x : S48x256.Idx) :
    (Rect.unit (s := S48x2048) off S48x256.size inb).emb x
      = ix2 (x 0 : Fin 48) (⟨b * 256 + (x 1).val, by have : (x 1).val < 256 := (x 1).isLt; omega⟩ : Fin 2048) := by
  subst ho
  funext a
  apply Fin.ext
  fin_cases a
  · show 0 + 1 * (x 0).val = (x 0).val; omega
  · show b * 256 + 1 * (x 1).val = b * 256 + (x 1).val; omega

theorem putA_in {H : S48x2048.Idx → Elt F .f32} {b : ℕ} {v : FVec F S48x256 .f32} {off : Fin 2 → ℕ} (ho : off = ![0, b * 256])
    {inb : ∀ a, off a + S48x256.size a ≤ S48x2048.size a} (hb : b * 256 + 256 ≤ 2048) (x : S48x256.Idx) :
    putA H b v ((Rect.unit (s := S48x2048) off S48x256.size inb).emb x) = v x := by
  have h1 : (x 1).val < 256 := (x 1).isLt
  rw [putA_emb ho hb x]
  unfold putA
  rw [if_pos (show (b * 256 + (x 1).val) / 256 = b by omega)]
  refine congrArg v ?_
  funext a
  fin_cases a
  · rfl
  · exact Fin.ext (show (b * 256 + (x 1).val) % 256 = (x 1).val by omega)

theorem putA_out {H : S48x2048.Idx → Elt F .f32} {b : ℕ} {v : FVec F S48x256 .f32} {off : Fin 2 → ℕ} (ho : off = ![0, b * 256])
    {inb : ∀ a, off a + S48x256.size a ≤ S48x2048.size a} (hb : b * 256 + 256 ≤ 2048) (y : S48x2048.Idx)
    (h : ∀ z, (Rect.unit (s := S48x2048) off S48x256.size inb).emb z ≠ y) : putA H b v y = H y := by
  unfold putA
  by_cases h0 : (y 1).val / 256 = b
  · exfalso
    refine h (ix2 (y 0 : Fin 48) (⟨(y 1).val % 256, Nat.mod_lt _ (by decide)⟩ : Fin 256)) ((putA_emb ho hb _).trans ?_)
    funext a
    fin_cases a
    · rfl
    · exact Fin.ext (show b * 256 + (y 1).val % 256 = (y 1).val by omega)
  · rw [if_neg h0]

theorem part17_ok {v3 : BitVec 32} {k0_hw1 : k0_chk1 v3} (t3 : Fin (k0_t3_loop v3).trips) (h3 : t3.val < 8) (t5 : Fin k0_t5_loop.trips) {v210 : BitVec 32} {c : Dev nD}
    {W1 : Buf (Elt F) (arg4.view.loc (c : Thread nD τ))} {W2 : Buf (Elt F) (arg6.view.loc (c : Thread nD τ))} {V : Buf (Elt F) (arg7.view.loc (c : Thread nD τ))}
    {s : Fin 8} (hs : s.val = (24 * t3.val + 16 + t5.val) % 8) {s' : Fin 2} (hs' : s'.val = t3.val % 2) (hz : t5.val * 256 + 256 ≤ 2048)
    {GW : Fin 2 → Fin 256 → Fin 1024 → Elt F .i8} {G : Fin 32 → Fin 2048 → Elt F .bf16} {D : S2x16x256.Idx → Elt F .bf16} {q : PosShare TreeShare}
    {X : S48x4096.Idx → Elt F .bf16} {R : sProp 𝕄} {Q : (FVec F S48x256 .f32) → sProp 𝕄}
    (h : Comp arg4 arg6 arg9 arg12 arg13 arg16 c W1 W2 s GW (both (qblk G 0 (t5.val * 256) (by decide) hz) (qblk G 16 (t5.val * 256) (by decide) hz)) q X R ⊢ Q (part17V GW (both (qblk G 0 (t5.val * 256) (by decide) hz) (qblk G 16 (t5.val * 256) (by decide) hz)) X)) :
    Comp arg4 arg6 arg9 arg12 arg13 arg16 c W1 W2 s GW (put0 D (qblk G 0 (t5.val * 256) (by decide) hz)) q X R
      ⊢ wp frame (wpE defs₀ 𝒱₀ (c : Thread nD τ) none) Set.univ (k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v3 k0_hw1 t3 t5 v210 (k0_pay41 (qblk G 16 (t5.val * 256) (by decide) hz))) Q := by
  rw [k0_part17_eq_skeleton]
  unfold k0_part17_skel
  refine comp_ld12 ?_
  refine comp_st12 (D' := (both (qblk G 0 (t5.val * 256) (by decide) hz) (qblk G 16 (t5.val * 256) (by decide) hz))) (fun x => (both_in x).trans (congrFun (pay42_eq _).symm x)) both_out ?_
  refine comp_ld9 0 0 ((off150_eq t3 h3 t5).trans (by rw [hs]; rfl)) ?_
  refine comp_ld12 ?_
  refine comp_ld12 ?_
  refine comp_ldX ?_
  exact ret_ok h

attribute [local irreducible] part17V part18V part19V part20V part21V part22V part23V part24V part25V part26V part27V part28V part29V part30V

/-- One block of the second weights. -/
theorem t5_step (m : Fin 256) {k0_hw1 : k0_chk1 (BitVec.ofNat 32 m.val)} (t3 : Fin (k0_t3_loop (BitVec.ofNat 32 m.val)).trips) (t5 : Fin k0_t5_loop.trips)
    {v43 : BitVec 32} {arg19 : BitVec 32} {v147 : BitVec 32} {v173 : IVec S2x48 1} {v177 : FVec F S2x48 .f32} {c : Dev nD}
    {W1 : Buf (Elt F) (arg4.view.loc (c : Thread nD τ))} {W2 : Buf (Elt F) (arg6.view.loc (c : Thread nD τ))} {V : Buf (Elt F) (arg7.view.loc (c : Thread nD τ))}
    {n : ℕ} (hn : n = 24 * t3.val + 16 + t5.val) {s' : Fin 2} (hs' : s'.val = t3.val % 2) (hz : t5.val * 256 + 256 ≤ 2048) {G : Fin 32 → Fin 2048 → Elt F .bf16}
    {L : S9.Idx → BitVec 32} (hL : ListOk m L) {q : PosShare TreeShare} {X : S48x4096.Idx → Elt F .bf16} {Y : S48x2048.Idx → Elt F .f32} {R : sProp 𝕄} {Q : Unit → sProp 𝕄}
    (h : iprop(RingAt arg4 arg6 arg9 arg16 c W1 W2 m (n + 1) ∗ SLoadedQ arg11 arg7 arg18 c V s' G ∗ Held c arg15 fullShare L ∗ (∃ D, Held c arg12 fullShare D) ∗ (∃ W, owes (c : Thread nD τ) 0 W) ∗ Held c arg13 q X ∗ Held c arg14 fullShare (putA Y t5.val (k0_pay3 v173 (tile2V (blk2 arg6 W2 (expF m n) (blkB n)) (both (qblk G 0 (t5.val * 256) (by decide) hz) (qblk G 16 (t5.val * 256) (by decide) hz)) X Y t5 (k0_pay2 v177)).1 (tile2V (blk2 arg6 W2 (expF m n) (blkB n)) (both (qblk G 0 (t5.val * 256) (by decide) hz) (qblk G 16 (t5.val * 256) (by decide) hz)) X Y t5 (k0_pay2 v177)).2)) ∗ R) ⊢ Q ⟨⟩) :
    iprop(RingAt arg4 arg6 arg9 arg16 c W1 W2 m n ∗ SLoadedQ arg11 arg7 arg18 c V s' G ∗ Held c arg15 fullShare L ∗ (∃ D, Held c arg12 fullShare D) ∗ (∃ W, owes (c : Thread nD τ) 0 W) ∗ Held c arg13 q X ∗ Held c arg14 fullShare (Y) ∗ R)
      ⊢ wp frame (wpE defs₀ 𝒱₀ (c : Thread nD τ) none) Set.univ (k0_t5_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 (BitVec.ofNat 32 m.val) k0_hw1 v43 t3 arg19 v147 v173 v177 t5 ⟨⟩) Q := by
  have h3 := h8 m t3
  have hs : (slotF n).val = (24 * t3.val + 16 + t5.val) % 8 := by show n % 8 = _; rw [hn]
  iintro ⟨HG, HS, HL, ⟨%D, HD⟩, HO, HX, HY, HR⟩
  unfold k0_t5_body
  iapply (bind_ok (part16_ok (R := iprop(Held c arg13 q X ∗ Held c arg14 fullShare Y ∗ R)) m t3 t5 hn hs' hz hL ?hh))
  case hh =>
    intros
    refine BIBase.Entails.trans (Q := Comp arg4 arg6 arg9 arg12 arg13 arg16 c W1 W2 (slotF n) (blk2 arg6 W2 (expF m n) (blkB n)) (put0 D (qblk G 0 (t5.val * 256) (by decide) hz)) q X iprop(Held c arg14 fullShare Y ∗ SLoadedQ arg11 arg7 arg18 c V s' G ∗ Mid arg4 arg6 arg9 arg16 c W1 W2 m n ∗ Cell arg4 arg6 arg9 arg16 c W1 W2 m (n + 7) ∗ Held c arg15 fullShare L ∗ (∃ W, owes (c : Thread nD τ) 0 W) ∗ R)) ?_ ?_
    · unfold Comp
      iintro ⟨HF, HM, HC, HS, HL, HD, HO, HX, HY, HR⟩
      isplitl [HF]; · iexact HF
      isplitl [HD]; · iexact HD
      isplitl [HX]; · iexact HX
      isplitl [HY]; · iexact HY
      isplitl [HS]; · iexact HS
      isplitl [HM]; · iexact HM
      isplitl [HC]; · iexact HC
      isplitl [HL]; · iexact HL
      isplitl [HO]; · iexact HO
      iexact HR
    · refine bind_ok (part17_ok t3 h3 t5 hs hs' hz (V := V) ?_)
      refine bind_ok (part18_ok h3 hs ?_)
      refine bind_ok (part19_ok h3 hs ?_)
      refine bind_ok (part20_ok h3 hs ?_)
      refine bind_ok (part21_ok h3 hs ?_)
      refine bind_ok (part22_ok h3 hs ?_)
      refine bind_ok (part23_ok h3 hs ?_)
      refine bind_ok (part24_ok h3 hs ?_)
      refine bind_ok (part25_ok h3 hs ?_)
      refine bind_ok (part26_ok h3 hs ?_)
      refine bind_ok (part27_ok h3 hs ?_)
      refine bind_ok (part28_ok h3 hs ?_)
      refine bind_ok (part29_ok h3 hs ?_)
      refine bind_ok (part30_ok h3 hs ?_)
      refine comp_ldR ?_
      refine comp_stR (Y' := putA Y t5.val (k0_pay3 v173 (tile2V (blk2 arg6 W2 (expF m n) (blkB n)) (both (qblk G 0 (t5.val * 256) (by decide) hz) (qblk G 16 (t5.val * 256) (by decide) hz)) X Y t5 (k0_pay2 v177)).1 (tile2V (blk2 arg6 W2 (expF m n) (blkB n)) (both (qblk G 0 (t5.val * 256) (by decide) hz) (qblk G 16 (t5.val * 256) (by decide) hz)) X Y t5 (k0_pay2 v177)).2)) (putA_in (off166_eq t5) (by have := t5.isLt.trans_eq trips5; omega)) (putA_out (off166_eq t5) (by have := t5.isLt.trans_eq trips5; omega)) ?_
      refine ret_ok (BIBase.Entails.trans ?_ h)
      unfold Comp
      iintro ⟨HF, HD, HX, HY, HS, HM, HC, HL, HO, HR⟩
      isplitl [HF HM HC]
      · iapply (ring_next arg4 arg6 arg9 arg16 c W1 W2 m n)
        isplitl [HF]
        · iapply (Loaded_idle arg4 arg6 arg9 arg16 c W1 W2 (slotF n) (blk2 arg6 W2 (expF m n) (blkB n)))
          iexact HF
        isplitl [HM]; · iexact HM
        iexact HC
      isplitl [HS]; · iexact HS
      isplitl [HL]; · iexact HL
      isplitl [HD]; · iexists _; iexact HD
      isplitl [HO]; · iexact HO
      isplitl [HX]; · iexact HX
      isplitl [HY]; · iexact HY
      iexact HR
  isplitl [HG]; · iexact HG
  isplitl [HS]; · iexact HS
  isplitl [HL]; · iexact HL
  isplitl [HD]; · iexact HD
  isplitl [HO]; · iexact HO
  isplitl [HX]; · iexact HX
  isplitl [HY]; · iexact HY
  iexact HR

end Cert.KernelIdeal.Own
-- ==== Proof.KernelIdeal.Mask.lean ====
/- The mask of the experts the tokens name and the list of active experts. -/
module

public import proofs.«01_k».proof.Proof.KernelIdeal.Cells

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UU nD τ) ℕ

/-- The expert in place `a`. -/
abbrev exF (m : Fin 256) (a : ℕ) : Fin 8 := ⟨nthN m.val a % 8, Nat.mod_lt _ (by decide)⟩
/-- The slot of the scales of the expert in place `a`. -/
abbrev slot2 (a : ℕ) : Fin 2 := ⟨a % 2, Nat.mod_lt _ (by decide)⟩

theorem expF_eq (m : Fin 256) {n a : ℕ} (h : n / 24 = a) : expF m n = exF m a := by subst h; rfl

/-! ## The mask -/

/-- The `j`-th choice, the first choices of all tokens before the second choices. -/
abbrev tok (j : ℕ) : S2x48.Idx := ix2 (⟨j / 48 % 2, Nat.mod_lt _ (by decide)⟩ : Fin 2) (⟨j % 48, Nat.mod_lt _ (by decide)⟩ : Fin 48)

/-- The mask of the experts the first `k` choices name. -/
def maskW (ids : S2x48.Idx → BitVec 32) : ℕ → BitVec 32
  | 0 => 0#32
  | k + 1 => Scalar.ori (maskW ids k) (Scalar.shli 1#32 (ids (tok k)))

theorem shl_one : ∀ i : Fin 8, (Scalar.shli 1#32 (BitVec.ofNat 32 i.val)).toNat = 2 ^ i.val := by decide +kernel

theorem maskW_facts {ids : S2x48.Idx → BitVec 32} (h : ∀ y, (ids y).toNat < 8) (k : ℕ) :
    (maskW ids k).toNat < 2 ^ 8 ∧ ∀ e, (maskW ids k).toNat.testBit e = true ↔ ∃ j, j < k ∧ (ids (tok j)).toNat = e := by
  induction k with
  | zero => exact ⟨by show (0#32).toNat < 2 ^ 8; decide, fun e => by simp [maskW]⟩
  | succ k ih =>
    have hs : (Scalar.shli 1#32 (ids (tok k))).toNat = 2 ^ (ids (tok k)).toNat := by
      have := shl_one ⟨(ids (tok k)).toNat, h _⟩
      simpa using this
    have e : (maskW ids (k + 1)).toNat = (maskW ids k).toNat ||| 2 ^ (ids (tok k)).toNat := by
      show (maskW ids k ||| Scalar.shli 1#32 (ids (tok k))).toNat = _
      rw [BitVec.toNat_or, hs]
    rw [e]
    refine ⟨Nat.or_lt_two_pow ih.1 (Nat.pow_lt_pow_right (by decide) (h _)), fun e => ?_⟩
    rw [Nat.testBit_or, Bool.or_eq_true, ih.2 e, Nat.testBit_two_pow]
    constructor
    · rintro (⟨j, hj, he⟩ | he)
      · exact ⟨j, by omega, he⟩
      · exact ⟨k, by omega, of_decide_eq_true he⟩
    · rintro ⟨j, hj, he⟩
      by_cases hk : j = k
      · subst hk; exact Or.inr (decide_eq_true he)
      · exact Or.inl ⟨j, by omega, he⟩

/-- The mask of all choices. -/
def maskF (ids : S2x48.Idx → BitVec 32) : Fin 256 := ⟨(maskW ids 96).toNat % 256, Nat.mod_lt _ (by decide)⟩

theorem maskF_eq {ids : S2x48.Idx → BitVec 32} (h : ∀ y, (ids y).toNat < 8) : maskW ids 96 = BitVec.ofNat 32 (maskF ids).val := by
  have := (maskW_facts h 96).1
  apply BitVec.eq_of_toNat_eq
  show _ = (BitVec.ofNat 32 ((maskW ids 96).toNat % 256)).toNat
  rw [BitVec.toNat_ofNat]
  omega

theorem maskF_bit {ids : S2x48.Idx → BitVec 32} (h : ∀ y, (ids y).toNat < 8) (e : ℕ) :
    (maskF ids).val.testBit e = true ↔ ∃ y, (ids y).toNat = e := by
  have h9 := (maskW_facts h 96).1
  have h1 : (maskF ids).val = (maskW ids 96).toNat := Nat.mod_eq_of_lt h9
  rw [h1, (maskW_facts h 96).2 e]
  constructor
  · rintro ⟨j, -, he⟩; exact ⟨_, he⟩
  · rintro ⟨y, he⟩
    have h0 : (y 0).val < 2 := (y 0).isLt
    have h1 : (y 1).val < 48 := (y 1).isLt
    refine ⟨48 * (y 0).val + (y 1).val, by omega, ?_⟩
    rw [show tok (48 * (y 0).val + (y 1).val) = y from ?_]
    · exact he
    · funext a
      apply Fin.ext
      fin_cases a
      · show (48 * (y 0).val + (y 1).val) / 48 % 2 = (y 0).val; omega
      · show (48 * (y 0).val + (y 1).val) % 48 = (y 1).val; omega

theorem pop_pos : ∀ m : Fin 256, ∀ e : Fin 8, m.val.testBit e.val = true → 0 < popN m.val := by decide +kernel

theorem maskF_pos {ids : S2x48.Idx → BitVec 32} (h : ∀ y, (ids y).toNat < 8) : 0 < popN (maskF ids).val :=
  pop_pos _ ⟨_, h (tok 0)⟩ ((maskF_bit h _).2 ⟨tok 0, rfl⟩)

theorem trips1 : k0_t1_loop.trips = 48 := by decide
theorem trips2 : k0_t2_loop.trips = 48 := by decide
theorem off1_eq' : ∀ t : Fin 48, k0_off1 ⟨t.val, t.isLt.trans_eq trips1.symm⟩ = ![0, t.val] := by decide +kernel
theorem off2_eq' : ∀ t : Fin 48, k0_off2 ⟨t.val, t.isLt.trans_eq trips2.symm⟩ = ![1, t.val] := by decide +kernel
theorem off1_eq (t : Fin k0_t1_loop.trips) : k0_off1 t = ![0, t.val] := off1_eq' ⟨t.val, t.isLt.trans_eq trips1⟩
theorem off2_eq (t : Fin k0_t2_loop.trips) : k0_off2 t = ![1, t.val] := off2_eq' ⟨t.val, t.isLt.trans_eq trips2⟩

/-- A load of one word of a table. -/
theorem held_word2 {α : Type} (c : Dev nD) (m : Memref sig .tc .smem S2x48 .i32) {q : PosShare TreeShare} {L : S2x48.Idx → Elt F .i32} (r : Fin 2) (p : Fin 48) {off : Fin 2 → ℕ}
    (ho : off = ![r.val, p.val]) {inb : ∀ a, off a + S1x1.size a ≤ S2x48.size a} {h1 : _} {h2 : _}
    {k : Elt F .i32 → Prog (TpuEff nD τ sig (Elt F) Λ₀ .tc) α} {Q : α → sProp 𝕄} :
    Held (F := F) c m q L ⊢ iprop((Held (F := F) c m q L -∗ wp frame (wpE defs₀ 𝒱₀ (c : Thread nD τ) none) Set.univ (k (L (ix2 r p))) Q)
      -∗ wp frame (wpE defs₀ 𝒱₀ (c : Thread nD τ) none) Set.univ ((smemLoad m (Rect.unit (s := S2x48) off S1x1.size inb) h1 h2 : Prog (TpuEff nD τ sig (Elt F) Λ₀ .tc) (Elt F .i32)) >>= k) Q) := by
  subst ho
  have hx : ∀ x : S1x1.Idx, (Rect.unit (s := S2x48) ![r.val, p.val] S1x1.size inb).toLoadRect.idx x = ix2 r p := by
    intro x
    funext a
    apply Fin.ext
    fin_cases a
    · have : (x 0).val < 1 := (x 0).isLt
      show r.val + 1 * (x 0).val = r.val; omega
    · have : (x 1).val < 1 := (x 1).isLt
      show p.val + 1 * (x 1).val = p.val; omega
  iintro H Hk
  iapply (held_load c m (hl := View.loadsAt_rect (View.loads_smem_one h2 h1)) (r := (Rect.unit (s := S2x48) ![r.val, p.val] S1x1.size inb).toLoadRect)
    (k := fun f => k (f (Shape.Idx.first (h1.symm ▸ Nat.one_pos))))) $$ H
  iintro H
  have e := congrArg L (hx (Shape.Idx.first (h1.symm ▸ Nat.one_pos)))
  beta_reduce
  erw [e]
  iapply Hk
  iexact H

/-! ## The list of active experts -/

/-- The list with the word at `p` replaced. -/
def setW (L : S9.Idx → BitVec 32) (p : ℕ) (w : BitVec 32) : S9.Idx → BitVec 32 := fun y => if (y 0).val = p then w else L y

theorem emb_word {p : ℕ} {off : Fin 1 → ℕ} (ho : off = ![p]) {inb : ∀ a, off a + S1.size a ≤ S9.size a} (x : S1.Idx) :
    ((Rect.unit (s := S9) off S1.size inb).emb x 0).val = p := by
  subst ho
  have : (x 0).val < 1 := (x 0).isLt
  show p + 1 * (x 0).val = p; omega

theorem held_set {α : Type} (c : Dev nD) (m : Memref sig .tc .smem S9 .i32) {L : S9.Idx → BitVec 32} {p : ℕ} {off : Fin 1 → ℕ} (ho : off = ![p])
    {inb : ∀ a, off a + S1.size a ≤ S9.size a} {w : BitVec 32} {hs : _} {hx : _} {k : PUnit → Prog (TpuEff nD τ sig (Elt F) Λ₀ .tc) α} {Q : α → sProp 𝕄} :
    Held (F := F) c m fullShare L ⊢ iprop((Held (F := F) c m fullShare (setW L p w) -∗ wp frame (wpE defs₀ 𝒱₀ (c : Thread nD τ) none) Set.univ (k ⟨⟩) Q)
      -∗ wp frame (wpE defs₀ 𝒱₀ (c : Thread nD τ) none) Set.univ (.op (.store m (Rect.unit (s := S9) off S1.size inb) (fun _ => w) Finset.univ hs hx) k) Q) := by
  have h1 : ∀ x, setW L p w ((Rect.unit (s := S9) off S1.size inb).emb x) = w := fun x => if_pos (emb_word ho x)
  have h2 : ∀ y, (∀ z, (Rect.unit (s := S9) off S1.size inb).emb z ≠ y) → setW L p w y = L y := fun y hy => if_neg fun e => hy (ix1 (0 : Fin 1)) (by
    funext a
    fin_cases a
    exact Fin.ext ((emb_word ho _).trans e.symm))
  exact held_store c m (F := F) (X := L) (X' := setW L p w) h1 h2

/-- The list of active experts up to the fourth. -/
abbrev list5 (m : Fin 256) (L : S9.Idx → BitVec 32) : S9.Idx → BitVec 32 :=
  setW (setW (setW (setW (setW L 0 0#32) (cntN m.val 1) 1#32) (cntN m.val 2) 2#32) (cntN m.val 3) 3#32) (cntN m.val 4) 4#32

/-- The list the prologue writes. -/
abbrev listW (m : Fin 256) (L : S9.Idx → BitVec 32) : S9.Idx → BitVec 32 :=
  setW (setW (setW (list5 m L) (cntN m.val 5) 5#32) (cntN m.val 6) 6#32) (cntN m.val 7) 7#32

theorem listW_ok (m : Fin 256) (L : S9.Idx → BitVec 32) : ListOk m (listW m L) := by
  intro p hp
  have hp8 : p.val < 8 := lt_of_lt_of_le hp (popN_le m)
  have h := lastW_eq m ⟨p.val, hp8⟩ hp
  have hn := nthN_lt m ⟨p.val, hp8⟩
  simp only at h hn
  rw [← h] at hn
  rw [← h]
  unfold lastW at hn ⊢
  show (if p.val = cntN m.val 7 then 7#32 else if p.val = cntN m.val 6 then 6#32 else if p.val = cntN m.val 5 then 5#32
    else if p.val = cntN m.val 4 then 4#32 else if p.val = cntN m.val 3 then 3#32 else if p.val = cntN m.val 2 then 2#32
    else if p.val = cntN m.val 1 then 1#32 else if p.val = 0 then 0#32 else L (ix1 p)) = _
  split_ifs at hn ⊢ <;> first | rfl | omega

end Cert.KernelIdeal.Own
-- ==== Proof.KernelIdeal.Blocks.lean ====
/- The work of one expert: its scales are awaited and those of the next are started, sixteen blocks of the first
   weights make its activations, and eight blocks of the second add its part to the sum. -/
module

public import proofs.«01_k».proof.Proof.KernelIdeal.Step1
public import proofs.«01_k».proof.Proof.KernelIdeal.Step2
public import proofs.«01_k».proof.Proof.KernelIdeal.Mask

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UU nD τ) ℕ

set_option maxHeartbeats 4000000

theorem ent_of_eq {P Q : sProp 𝕄} (h : P = Q) : P ⊢ Q := le_of_eq h

/-- A loop by its invariant. -/
theorem loop_ok {l : Scf.Loop 32} {hok : l.OK} {c : Dev nD} {body : Fin l.trips → Unit → Prog (TpuEff nD τ sig (Elt F) Λ₀ .tc) Unit}
    (I : ℕ → sProp 𝕄) (hbody : ∀ k, I k.val ⊢ wp frame (wpE defs₀ 𝒱₀ (c : Thread nD τ) none) Set.univ (body k ⟨⟩) (fun _ => I (k.val + 1))) {P : sProp 𝕄} {Q : Unit → sProp 𝕄}
    (h0 : P ⊢ I 0) (h1 : I l.trips ⊢ Q ⟨⟩) : P ⊢ wp frame (wpE defs₀ 𝒱₀ (c : Thread nD τ) none) Set.univ (Scf.Loop.for l hok ⟨⟩ body) Q := by
  refine BIBase.Entails.trans ?_ (Scf.wp_for _ _ _ _ _ _ hok ⟨⟩ body (fun k _ => I k) (fun k _ => hbody k))
  iintro H
  isplitl [H]
  · iapply h0; iexact H
  · iintro %_ H
    iapply h1; iexact H

/-- The activations of one expert. -/
def hOf (Wf : Fin 16 → Fin 2 → Fin 256 → Fin 1024 → Elt F .i8) (G : Fin 16 → Fin 8192 → Elt F .bf16) (X : S48x2048.Idx → Elt F .bf16) :
    S48x4096.Idx → Elt F .bf16 := fun y =>
  tile1V (Wf ⟨(y 1).val / 256, by have : (y 1).val < 4096 := (y 1).isLt; omega⟩)
    (both (gblk G ((y 1).val / 256 * 256) (by have : (y 1).val < 4096 := (y 1).isLt; omega))
      (gblk G (4096 + (y 1).val / 256 * 256) (by have : (y 1).val < 4096 := (y 1).isLt; omega))) X
    (ix2 (y 0 : Fin 48) (⟨(y 1).val % 256, Nat.mod_lt _ (by decide)⟩ : Fin 256))

/-- What a block of the second weights contributes. -/
def tile2U (G : Fin 2 → Fin 256 → Fin 1024 → Elt F .i8) (D : S2x16x256.Idx → Elt F .bf16) (X : S48x4096.Idx → Elt F .bf16)
    (v201 : FVec F S48x256 .f32) : FVec F S48x256 .f32 :=
  (tile2V G D X (fun _ => v201 (ix2 (0 : Fin 48) (0 : Fin 256))) ⟨0, by rw [trips5]; decide⟩ v201).2
theorem tile2V_snd {G : Fin 2 → Fin 256 → Fin 1024 → Elt F .i8} {D : S2x16x256.Idx → Elt F .bf16} {X : S48x4096.Idx → Elt F .bf16} {Y : S48x2048.Idx → Elt F .f32}
    {t5 : Fin k0_t5_loop.trips} {v201 : FVec F S48x256 .f32} : (tile2V G D X Y t5 v201).2 = tile2U G D X v201 := rfl

/-- 256 columns of the sum. -/
def colA (Y : S48x2048.Idx → Elt F .f32) (b : Fin 8) : Vec F S48x256 .f32 := fun x =>
  Y (ix2 (x 0 : Fin 48) (⟨b.val * 256 + (x 1).val, by have : (x 1).val < 256 := (x 1).isLt; omega⟩ : Fin 2048))
theorem tile2V_fst {G : Fin 2 → Fin 256 → Fin 1024 → Elt F .i8} {D : S2x16x256.Idx → Elt F .bf16} {X : S48x4096.Idx → Elt F .bf16} {Y : S48x2048.Idx → Elt F .f32}
    {t5 : Fin k0_t5_loop.trips} {v201 : FVec F S48x256 .f32} :
    (tile2V G D X Y t5 v201).1 = colA Y ⟨t5.val, t5.isLt.trans_eq trips5⟩ := by
  show ldR Y (Rect.unit (s := S48x2048) (k0_off166 t5) S48x256.size (k0_off166_inb t5)).toLoadRect = _
  funext x
  exact congrArg Y (putA_emb (off166_eq t5) (by have := t5.isLt.trans_eq trips5; omega) x)

/-- The sum after one more expert. -/
def accOf (Wf : Fin 8 → Fin 2 → Fin 256 → Fin 1024 → Elt F .i8) (G : Fin 32 → Fin 2048 → Elt F .bf16) (H : S48x4096.Idx → Elt F .bf16)
    (v173 : IVec S2x48 1) (v177 : FVec F S2x48 .f32) (Y : S48x2048.Idx → Elt F .f32) : S48x2048.Idx → Elt F .f32 := fun y =>
  k0_pay3 v173 (colA Y ⟨(y 1).val / 256, by have : (y 1).val < 2048 := (y 1).isLt; omega⟩)
    (tile2U (Wf ⟨(y 1).val / 256, by have : (y 1).val < 2048 := (y 1).isLt; omega⟩)
      (both (qblk G 0 ((y 1).val / 256 * 256) (by decide) (by have : (y 1).val < 2048 := (y 1).isLt; omega))
        (qblk G 16 ((y 1).val / 256 * 256) (by decide) (by have : (y 1).val < 2048 := (y 1).isLt; omega))) H (k0_pay2 v177))
    (ix2 (y 0 : Fin 48) (⟨(y 1).val % 256, Nat.mod_lt _ (by decide)⟩ : Fin 256))

/-- Columns below `256 k` replaced. -/
def uptoH (T H : S48x4096.Idx → Elt F .bf16) (k : ℕ) : S48x4096.Idx → Elt F .bf16 := fun y => if (y 1).val / 256 < k then T y else H y
def uptoA (T H : S48x2048.Idx → Elt F .f32) (k : ℕ) : S48x2048.Idx → Elt F .f32 := fun y => if (y 1).val / 256 < k then T y else H y

theorem uptoH_succ {T H : S48x4096.Idx → Elt F .bf16} {k : ℕ} {v : FVec F S48x256 .bf16}
    (h : ∀ y : S48x4096.Idx, (y 1).val / 256 = k → v (ix2 (y 0 : Fin 48) (⟨(y 1).val % 256, Nat.mod_lt _ (by decide)⟩ : Fin 256)) = T y) :
    putH (uptoH T H k) k v = uptoH T H (k + 1) := by
  funext y
  unfold putH uptoH
  by_cases h0 : (y 1).val / 256 = k
  · rw [if_pos h0, if_pos (by omega)]; exact h y h0
  · rw [if_neg h0]
    by_cases h1 : (y 1).val / 256 < k
    · rw [if_pos h1, if_pos (by omega)]
    · rw [if_neg h1, if_neg (by omega)]
theorem uptoA_succ {T H : S48x2048.Idx → Elt F .f32} {k : ℕ} {v : FVec F S48x256 .f32}
    (h : ∀ y : S48x2048.Idx, (y 1).val / 256 = k → v (ix2 (y 0 : Fin 48) (⟨(y 1).val % 256, Nat.mod_lt _ (by decide)⟩ : Fin 256)) = T y) :
    putA (uptoA T H k) k v = uptoA T H (k + 1) := by
  funext y
  unfold putA uptoA
  by_cases h0 : (y 1).val / 256 = k
  · rw [if_pos h0, if_pos (by omega)]; exact h y h0
  · rw [if_neg h0]
    by_cases h1 : (y 1).val / 256 < k
    · rw [if_pos h1, if_pos (by omega)]
    · rw [if_neg h1, if_neg (by omega)]

variable {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2}

/-- The sixteen blocks of the first weights of one expert. -/
theorem t4_loop (m : Fin 256) {k0_hw1 : k0_chk1 (BitVec.ofNat 32 m.val)} (t3 : Fin (k0_t3_loop (BitVec.ofNat 32 m.val)).trips)
    {v42 : BitVec 32} {v43 : BitVec 32} {c0_i32_107 : BitVec 32} {c1_i32_109 : BitVec 32} {arg19 : BitVec 32} {v147 : BitVec 32} {c : Dev nD} {hok : k0_t4_loop.OK}
    {W1 : Buf (Elt F) (arg4.view.loc (c : Thread nD τ))} {W2 : Buf (Elt F) (arg6.view.loc (c : Thread nD τ))} {V : Buf (Elt F) (arg5.view.loc (c : Thread nD τ))}
    {L : S9.Idx → BitVec 32} (hL : ListOk m L) {q : PosShare TreeShare} {X : S48x2048.Idx → Elt F .bf16} {H : S48x4096.Idx → Elt F .bf16} {R : sProp 𝕄} {Q : Unit → sProp 𝕄}
    (h : iprop(RingAt arg4 arg6 arg9 arg16 c W1 W2 m (24 * t3.val + 16) ∗ SLoadedP arg10 arg5 arg17 c V (slot2 t3.val) (scP arg5 V (exF m t3.val)) ∗ Held c arg15 fullShare L ∗ (∃ D, Held c arg12 fullShare D) ∗ (∃ W, owes (c : Thread nD τ) 0 W) ∗ Held c arg1 q X ∗ Held c arg13 fullShare ((hOf (blk1 arg4 W1 (exF m t3.val)) (scP arg5 V (exF m t3.val)) X)) ∗ R) ⊢ Q ⟨⟩) :
    iprop(RingAt arg4 arg6 arg9 arg16 c W1 W2 m (24 * t3.val) ∗ SLoadedP arg10 arg5 arg17 c V (slot2 t3.val) (scP arg5 V (exF m t3.val)) ∗ Held c arg15 fullShare L ∗ (∃ D, Held c arg12 fullShare D) ∗ (∃ W, owes (c : Thread nD τ) 0 W) ∗ Held c arg1 q X ∗ Held c arg13 fullShare (H) ∗ R)
      ⊢ wp frame (wpE defs₀ 𝒱₀ (c : Thread nD τ) none) Set.univ (Scf.Loop.for k0_t4_loop hok ⟨⟩ (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 (BitVec.ofNat 32 m.val) k0_hw1 v42 v43 c0_i32_107 c1_i32_109 t3 arg19 v147)) Q := by
  refine loop_ok (fun k => iprop(RingAt arg4 arg6 arg9 arg16 c W1 W2 m (24 * t3.val + k) ∗ SLoadedP arg10 arg5 arg17 c V (slot2 t3.val) (scP arg5 V (exF m t3.val)) ∗ Held c arg15 fullShare L ∗ (∃ D, Held c arg12 fullShare D) ∗ (∃ W, owes (c : Thread nD τ) 0 W) ∗ Held c arg1 q X ∗ Held c arg13 fullShare (uptoH (hOf (blk1 arg4 W1 (exF m t3.val)) (scP arg5 V (exF m t3.val)) X) H k) ∗ R)) ?_ ?_ ?_
  · intro t4
    have hn : (24 * t3.val + t4.val) / 24 = t3.val := by have := t4.isLt.trans_eq trips4; omega
    refine t4_step m t3 t4 rfl rfl (by have := t4.isLt.trans_eq trips4; omega) (by have := t4.isLt.trans_eq trips4; omega) hL ?_
    rw [expF_eq m hn]
    refine ent_of_eq ?_
    rw [uptoH_succ (T := (hOf (blk1 arg4 W1 (exF m t3.val)) (scP arg5 V (exF m t3.val)) X))]
    · rfl
    · intro y hy
      have hb : blkA (24 * t3.val + t4.val) = ⟨(y 1).val / 256, by have : (y 1).val < 4096 := (y 1).isLt; omega⟩ := by
        apply Fin.ext; have := t4.isLt.trans_eq trips4; show (24 * t3.val + t4.val) % 24 % 16 = (y 1).val / 256; omega
      rw [hb]
      unfold hOf
      obtain ⟨n, hl⟩ := t4
      change (y 1).val / 256 = n at hy
      subst hy
      rfl
  · refine ent_of_eq ?_
    rw [show uptoH (hOf (blk1 arg4 W1 (exF m t3.val)) (scP arg5 V (exF m t3.val)) X) H 0 = H from funext fun y => if_neg (Nat.not_lt_zero _)]
    rfl
  · rw [trips4, show uptoH (hOf (blk1 arg4 W1 (exF m t3.val)) (scP arg5 V (exF m t3.val)) X) H 16 = (hOf (blk1 arg4 W1 (exF m t3.val)) (scP arg5 V (exF m t3.val)) X) from funext fun y => if_pos (by have : (y 1).val < 4096 := (y 1).isLt; omega)]
    exact h

/-- The eight blocks of the second weights of one expert. -/
theorem t5_loop (m : Fin 256) {k0_hw1 : k0_chk1 (BitVec.ofNat 32 m.val)} (t3 : Fin (k0_t3_loop (BitVec.ofNat 32 m.val)).trips)
    {v43 : BitVec 32} {arg19 : BitVec 32} {v147 : BitVec 32} {v173 : IVec S2x48 1} {v177 : FVec F S2x48 .f32} {c : Dev nD} {hok : k0_t5_loop.OK}
    {W1 : Buf (Elt F) (arg4.view.loc (c : Thread nD τ))} {W2 : Buf (Elt F) (arg6.view.loc (c : Thread nD τ))} {V : Buf (Elt F) (arg7.view.loc (c : Thread nD τ))}
    {L : S9.Idx → BitVec 32} (hL : ListOk m L) {q : PosShare TreeShare} {X : S48x4096.Idx → Elt F .bf16} {Y : S48x2048.Idx → Elt F .f32} {R : sProp 𝕄} {Q : Unit → sProp 𝕄}
    (h : iprop(RingAt arg4 arg6 arg9 arg16 c W1 W2 m (24 * t3.val + 16 + 8) ∗ SLoadedQ arg11 arg7 arg18 c V (slot2 t3.val) (scQ arg7 V (exF m t3.val)) ∗ Held c arg15 fullShare L ∗ (∃ D, Held c arg12 fullShare D) ∗ (∃ W, owes (c : Thread nD τ) 0 W) ∗ Held c arg13 q X ∗ Held c arg14 fullShare ((accOf (blk2 arg6 W2 (exF m t3.val)) (scQ arg7 V (exF m t3.val)) X v173 v177 Y)) ∗ R) ⊢ Q ⟨⟩) :
    iprop(RingAt arg4 arg6 arg9 arg16 c W1 W2 m (24 * t3.val + 16) ∗ SLoadedQ arg11 arg7 arg18 c V (slot2 t3.val) (scQ arg7 V (exF m t3.val)) ∗ Held c arg15 fullShare L ∗ (∃ D, Held c arg12 fullShare D) ∗ (∃ W, owes (c : Thread nD τ) 0 W) ∗ Held c arg13 q X ∗ Held c arg14 fullShare (Y) ∗ R)
      ⊢ wp frame (wpE defs₀ 𝒱₀ (c : Thread nD τ) none) Set.univ (Scf.Loop.for k0_t5_loop hok ⟨⟩ (k0_t5_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 (BitVec.ofNat 32 m.val) k0_hw1 v43 t3 arg19 v147 v173 v177)) Q := by
  refine loop_ok (fun k => iprop(RingAt arg4 arg6 arg9 arg16 c W1 W2 m (24 * t3.val + 16 + k) ∗ SLoadedQ arg11 arg7 arg18 c V (slot2 t3.val) (scQ arg7 V (exF m t3.val)) ∗ Held c arg15 fullShare L ∗ (∃ D, Held c arg12 fullShare D) ∗ (∃ W, owes (c : Thread nD τ) 0 W) ∗ Held c arg13 q X ∗ Held c arg14 fullShare (uptoA (accOf (blk2 arg6 W2 (exF m t3.val)) (scQ arg7 V (exF m t3.val)) X v173 v177 Y) Y k) ∗ R)) ?_ ?_ ?_
  · intro t5
    have hn : (24 * t3.val + 16 + t5.val) / 24 = t3.val := by have := t5.isLt.trans_eq trips5; omega
    refine t5_step m t3 t5 rfl rfl (by have := t5.isLt.trans_eq trips5; omega) hL ?_
    rw [expF_eq m hn]
    refine ent_of_eq ?_
    rw [uptoA_succ (T := (accOf (blk2 arg6 W2 (exF m t3.val)) (scQ arg7 V (exF m t3.val)) X v173 v177 Y))]
    · rfl
    · intro y hy
      have hb : blkB (24 * t3.val + 16 + t5.val) = ⟨(y 1).val / 256, by have : (y 1).val < 2048 := (y 1).isLt; omega⟩ := by
        apply Fin.ext; have := t5.isLt.trans_eq trips5; show ((24 * t3.val + 16 + t5.val) % 24 - 16) % 8 = (y 1).val / 256; omega
      have hc : ∀ b : Fin 8, b.val = t5.val → colA (uptoA (accOf (blk2 arg6 W2 (exF m t3.val)) (scQ arg7 V (exF m t3.val)) X v173 v177 Y) Y t5.val) b = colA Y b := fun b e => funext fun x => by
        have h1 : (x 1).val < 256 := (x 1).isLt
        show (if (b.val * 256 + (x 1).val) / 256 < t5.val then _ else _) = _
        rw [if_neg (by omega)]
        rfl
      rw [tile2V_snd, tile2V_fst, hb, hc ⟨t5.val, t5.isLt.trans_eq trips5⟩ rfl]
      unfold accOf
      obtain ⟨n, hl⟩ := t5
      change (y 1).val / 256 = n at hy
      subst hy
      rfl
  · refine ent_of_eq ?_
    rw [show uptoA (accOf (blk2 arg6 W2 (exF m t3.val)) (scQ arg7 V (exF m t3.val)) X v173 v177 Y) Y 0 = Y from funext fun y => if_neg (Nat.not_lt_zero _)]
  · rw [trips5, show uptoA (accOf (blk2 arg6 W2 (exF m t3.val)) (scQ arg7 V (exF m t3.val)) X v173 v177 Y) Y 8 = (accOf (blk2 arg6 W2 (exF m t3.val)) (scQ arg7 V (exF m t3.val)) X v173 v177 Y) from funext fun y => if_pos (by have : (y 1).val < 2048 := (y 1).isLt; omega)]
    exact h

end Cert.KernelIdeal.Own
-- ==== Proof.KernelIdeal.Experts.lean ====
/- The loop over the active experts. -/
module

public import proofs.«01_k».proof.Proof.KernelIdeal.Blocks

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UU nD τ) ℕ

set_option maxHeartbeats 4000000

/-- The slot of the scales of the expert in place `a` once their copy has been started: idle when there is no such expert. -/
def SCellP (dstB : Memref sig .tc .vmem S2x16x8192 .bf16) (srcB : Memref sig .tc .hbm S8x16x8192 .bf16) (sems : DmaSems sig S2) (c : Dev nD)
    (V : Buf (Elt F) (srcB.view.loc (c : Thread nD τ))) (m : Fin 256) (a : ℕ) : sProp 𝕄 :=
  if a < popN m.val then SFlyP dstB srcB sems c V (slot2 a) (exF m a) else SIdleP dstB srcB sems c V (slot2 a)

/-- The slot of the scales of the expert in place `a` once their copy has been started: idle when there is no such expert. -/
def SCellQ (dstB : Memref sig .tc .vmem S2x32x2048 .bf16) (srcB : Memref sig .tc .hbm S8x32x2048 .bf16) (sems : DmaSems sig S2) (c : Dev nD)
    (V : Buf (Elt F) (srcB.view.loc (c : Thread nD τ))) (m : Fin 256) (a : ℕ) : sProp 𝕄 :=
  if a < popN m.val then SFlyQ dstB srcB sems c V (slot2 a) (exF m a) else SIdleQ dstB srcB sems c V (slot2 a)

variable {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2}

theorem ldR_whole {e : EltTy} (X : S2x48.Idx → Elt F e) :
    ldR X (Rect.unit (s := S2x48) ![0, 0] S2x48.size inb_S2x48_S2x48_0_0).toLoadRect = X := by
  funext x
  refine congrArg X (funext fun a => Fin.ext ?_)
  fin_cases a
  · show 0 + 1 * (x 0).val = (x 0).val; omega
  · show 0 + 1 * (x 1).val = (x 1).val; omega

/-- The first weights of one expert, with its scales awaited and those of the next expert started. -/
theorem part31_ok (m : Fin 256) {k0_hw1 : k0_chk1 (BitVec.ofNat 32 m.val)} (t3 : Fin (k0_t3_loop (BitVec.ofNat 32 m.val)).trips)
    {v42 : BitVec 32} {v43 : BitVec 32} {c0_i32_107 : BitVec 32} {c1_i32_109 : BitVec 32} {c : Dev nD}
    {W1 : Buf (Elt F) (arg4.view.loc (c : Thread nD τ))} {W2 : Buf (Elt F) (arg6.view.loc (c : Thread nD τ))}
    {V5 : Buf (Elt F) (arg5.view.loc (c : Thread nD τ))} {V7 : Buf (Elt F) (arg7.view.loc (c : Thread nD τ))}
    {L : S9.Idx → BitVec 32} (hL : ListOk m L) {q1 q2 q3 : PosShare TreeShare} {X : S48x2048.Idx → Elt F .bf16} {ids : S2x48.Idx → Elt F .i32} {ew : S2x48.Idx → Elt F .f32} {R : sProp 𝕄} {Q : (Σ' (arg19 : BitVec 32) (v147 : BitVec 32) (v173 : IVec S2x48 1), FVec F S2x48 .f32) → sProp 𝕄}
    (h : ∀ w1 w2, iprop(RingAt arg4 arg6 arg9 arg16 c W1 W2 m (24 * t3.val + 16) ∗ SLoadedP arg10 arg5 arg17 c V5 (slot2 t3.val) (scP arg5 V5 (exF m t3.val)) ∗ SCellP arg10 arg5 arg17 c V5 m (t3.val + 1) ∗ SLoadedQ arg11 arg7 arg18 c V7 (slot2 t3.val) (scQ arg7 V7 (exF m t3.val)) ∗ SCellQ arg11 arg7 arg18 c V7 m (t3.val + 1) ∗ Held c arg15 fullShare L ∗ (∃ D, Held c arg12 fullShare D) ∗ (∃ W, owes (c : Thread nD τ) 0 W) ∗ Held c arg1 q1 X ∗ Held c arg13 fullShare (hOf (blk1 arg4 W1 (exF m t3.val)) (scP arg5 V5 (exF m t3.val)) X) ∗ Held c arg2 q2 ids ∗ Held c arg3 q3 ew ∗ R) ⊢ Q ⟨w1, w2, k0_pay79 (BitVec.ofNat 32 (nthN m.val t3.val)) ids, k0_pay80 (BitVec.ofNat 32 (nthN m.val t3.val)) ids ew⟩) :
    iprop(RingAt arg4 arg6 arg9 arg16 c W1 W2 m (24 * t3.val) ∗ SCellP arg10 arg5 arg17 c V5 m t3.val ∗ SIdleP arg10 arg5 arg17 c V5 (slot2 (t3.val + 1)) ∗ SCellQ arg11 arg7 arg18 c V7 m t3.val ∗ SIdleQ arg11 arg7 arg18 c V7 (slot2 (t3.val + 1)) ∗ Held c arg15 fullShare L ∗ (∃ D, Held c arg12 fullShare D) ∗ (∃ W, owes (c : Thread nD τ) 0 W) ∗ Held c arg1 q1 X ∗ (∃ H, Held c arg13 fullShare H) ∗ Held c arg2 q2 ids ∗ Held c arg3 q3 ew ∗ R)
      ⊢ wp frame (wpE defs₀ 𝒱₀ (c : Thread nD τ) none) Set.univ (k0_part31 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 (BitVec.ofNat 32 m.val) k0_hw1 v42 v43 c0_i32_107 c1_i32_109 t3) Q := by
  have h3 := h8 m t3
  have hp3 := hpop m t3
  have hw := hL.toNat hp3
  have hfin : ∀ w1 w2, iprop(RingAt arg4 arg6 arg9 arg16 c W1 W2 m (24 * t3.val + 16) ∗ SLoadedP arg10 arg5 arg17 c V5 (slot2 t3.val) (scP arg5 V5 (exF m t3.val)) ∗ SCellP arg10 arg5 arg17 c V5 m (t3.val + 1) ∗ SLoadedQ arg11 arg7 arg18 c V7 (slot2 t3.val) (scQ arg7 V7 (exF m t3.val)) ∗ SCellQ arg11 arg7 arg18 c V7 m (t3.val + 1) ∗ Held c arg15 fullShare L ∗ (∃ D, Held c arg12 fullShare D) ∗ (∃ W, owes (c : Thread nD τ) 0 W) ∗ Held c arg1 q1 X ∗ Held c arg13 fullShare (hOf (blk1 arg4 W1 (exF m t3.val)) (scP arg5 V5 (exF m t3.val)) X) ∗ Held c arg2 q2 ids ∗ Held c arg3 q3 ew ∗ R) ⊢ Q ⟨w1, w2, k0_pay79 (L (ix1 ⟨t3.val, by omega⟩)) (ldR ids (Rect.unit (s := S2x48) ![0, 0] S2x48.size inb_S2x48_S2x48_0_0).toLoadRect),
      k0_pay80 (L (ix1 ⟨t3.val, by omega⟩)) (ldR ids (Rect.unit (s := S2x48) ![0, 0] S2x48.size inb_S2x48_S2x48_0_0).toLoadRect) (ldR ew (Rect.unit (s := S2x48) ![0, 0] S2x48.size inb_S2x48_S2x48_0_0).toLoadRect)⟩ := by
    intro w1 w2
    rw [ldR_whole, ldR_whole, hL ⟨t3.val, by omega⟩ hp3]
    exact h w1 w2
  rw [k0_part31_eq_skeleton]
  unfold k0_part31_skel
  rw [show SCellP arg10 arg5 arg17 c V5 m t3.val = SFlyP arg10 arg5 arg17 c V5 (slot2 t3.val) (exF m t3.val) from if_pos hp3,
    show SCellQ arg11 arg7 arg18 c V7 m t3.val = SFlyQ arg11 arg7 arg18 c V7 (slot2 t3.val) (exF m t3.val) from if_pos hp3]
  iintro ⟨HG, HSP, HIP, HSQ, HIQ, HL, HD, ⟨%W, HO⟩, HX, ⟨%H, HY⟩, H2, H3, HR⟩
  iapply (held_word c arg15 ⟨t3.val, by omega⟩ (off79_eq t3 h3)) $$ HL
  iintro HL
  iapply (wp_assume 𝒱₀ (c : Thread nD τ) none Set.univ (chk10 _ hw.2))
  iapply (swaitP arg10 arg5 arg17 c V5 (slot2 t3.val) (exF m t3.val) (off80_eq t3 h3)) $$ [HSP HO]
  · isplitl [HSP]; · iexact HSP
    iexact HO
  iintro ⟨HSP, ⟨%W', HO⟩⟩
  iapply (swaitQ arg11 arg7 arg18 c V7 (slot2 t3.val) (exF m t3.val) (off83_eq t3 h3)) $$ [HSQ HO]
  · isplitl [HSQ]; · iexact HSQ
    iexact HO
  iintro ⟨HSQ, HO⟩
  by_cases hc : t3.val + 1 < popN m.val
  · iapply (wp_pos (show k0_cond15 (BitVec.ofNat 32 m.val) t3 = 1#1 by rw [cond15_eq m t3 h3, if_pos hc]))
    iapply (held_word c arg15 ⟨t3.val + 1, by have := popN_le m; omega⟩ (off86_eq t3 h3)) $$ HL
    iintro HL
    have hw' := hL.toNat hc
    iapply (wp_assume 𝒱₀ (c : Thread nD τ) none Set.univ (chk11 m t3 _ hw'.2))
    iapply (sstartP arg10 arg5 arg17 c V5 (slot2 (t3.val + 1)) (exF m (t3.val + 1)) (off87_eq t3 h3) (off88_eq t3 h3)
      (show k0_off89 _ = _ by show ![_, 0, 0] = ![nthN m.val (t3.val + 1) % 8, 0, 0]; rw [hw'.1])) $$ HIP
    iintro HIP
    iapply (sstartQ arg11 arg7 arg18 c V7 (slot2 (t3.val + 1)) (exF m (t3.val + 1)) (off90_eq t3 h3) (off91_eq t3 h3)
      (show k0_off92 _ = _ by show ![_, 0, 0] = ![nthN m.val (t3.val + 1) % 8, 0, 0]; rw [hw'.1])) $$ HIQ
    iintro HIQ
    have eP : SCellP arg10 arg5 arg17 c V5 m (t3.val + 1) = SFlyP arg10 arg5 arg17 c V5 (slot2 (t3.val + 1)) (exF m (t3.val + 1)) := if_pos hc
    have eQ : SCellQ arg11 arg7 arg18 c V7 m (t3.val + 1) = SFlyQ arg11 arg7 arg18 c V7 (slot2 (t3.val + 1)) (exF m (t3.val + 1)) := if_pos hc
    iapply (bind_ok (t4_loop (R := iprop(SCellP arg10 arg5 arg17 c V5 m (t3.val + 1) ∗ SLoadedQ arg11 arg7 arg18 c V7 (slot2 t3.val) (scQ arg7 V7 (exF m t3.val)) ∗ SCellQ arg11 arg7 arg18 c V7 m (t3.val + 1) ∗ Held c arg2 q2 ids ∗ Held c arg3 q3 ew ∗ R)) m t3 hL ?tl))
    case tl =>
      iintro ⟨HG, HSP, HL, HD, HO, HX, HY, HCP, HSQ, HCQ, H2, H3, HR⟩
      iapply (held_word c arg15 ⟨t3.val, by omega⟩ (off129_eq t3 h3)) $$ HL
      iintro HL
      iapply (held_load c arg2) $$ H2
      iintro H2
      iapply (held_load c arg3) $$ H3
      iintro H3
      iapply (ret_ok (Q := Q) (hfin _ _))
      isplitl [HG]; · iexact HG
      isplitl [HSP]; · iexact HSP
      isplitl [HCP]; · iexact HCP
      isplitl [HSQ]; · iexact HSQ
      isplitl [HCQ]; · iexact HCQ
      isplitl [HL]; · iexact HL
      isplitl [HD]; · iexact HD
      isplitl [HO]; · iexact HO
      isplitl [HX]; · iexact HX
      isplitl [HY]; · iexact HY
      isplitl [H2]; · iexact H2
      isplitl [H3]; · iexact H3
      iexact HR
    isplitl [HG]; · iexact HG
    isplitl [HSP]; · iexact HSP
    isplitl [HL]; · iexact HL
    isplitl [HD]; · iexact HD
    isplitl [HO]; · iexact HO
    isplitl [HX]; · iexact HX
    isplitl [HY]; · iexact HY
    isplitl [HIP]; · rw [eP]; iexact HIP
    isplitl [HSQ]; · iexact HSQ
    isplitl [HIQ]; · rw [eQ]; iexact HIQ
    isplitl [H2]; · iexact H2
    isplitl [H3]; · iexact H3
    iexact HR
  · iapply (wp_neg (show ¬ k0_cond15 (BitVec.ofNat 32 m.val) t3 = 1#1 by rw [cond15_eq m t3 h3, if_neg hc]; decide))
    have eP : SCellP arg10 arg5 arg17 c V5 m (t3.val + 1) = SIdleP arg10 arg5 arg17 c V5 (slot2 (t3.val + 1)) := if_neg hc
    have eQ : SCellQ arg11 arg7 arg18 c V7 m (t3.val + 1) = SIdleQ arg11 arg7 arg18 c V7 (slot2 (t3.val + 1)) := if_neg hc
    iapply (bind_ok (t4_loop (R := iprop(SCellP arg10 arg5 arg17 c V5 m (t3.val + 1) ∗ SLoadedQ arg11 arg7 arg18 c V7 (slot2 t3.val) (scQ arg7 V7 (exF m t3.val)) ∗ SCellQ arg11 arg7 arg18 c V7 m (t3.val + 1) ∗ Held c arg2 q2 ids ∗ Held c arg3 q3 ew ∗ R)) m t3 hL ?tl))
    case tl =>
      iintro ⟨HG, HSP, HL, HD, HO, HX, HY, HCP, HSQ, HCQ, H2, H3, HR⟩
      iapply (held_word c arg15 ⟨t3.val, by omega⟩ (off129_eq t3 h3)) $$ HL
      iintro HL
      iapply (held_load c arg2) $$ H2
      iintro H2
      iapply (held_load c arg3) $$ H3
      iintro H3
      iapply (ret_ok (Q := Q) (hfin _ _))
      isplitl [HG]; · iexact HG
      isplitl [HSP]; · iexact HSP
      isplitl [HCP]; · iexact HCP
      isplitl [HSQ]; · iexact HSQ
      isplitl [HCQ]; · iexact HCQ
      isplitl [HL]; · iexact HL
      isplitl [HD]; · iexact HD
      isplitl [HO]; · iexact HO
      isplitl [HX]; · iexact HX
      isplitl [HY]; · iexact HY
      isplitl [H2]; · iexact H2
      isplitl [H3]; · iexact H3
      iexact HR
    isplitl [HG]; · iexact HG
    isplitl [HSP]; · iexact HSP
    isplitl [HL]; · iexact HL
    isplitl [HD]; · iexact HD
    isplitl [HO]; · iexact HO
    isplitl [HX]; · iexact HX
    isplitl [HY]; · iexact HY
    isplitl [HIP]; · rw [eP]; iexact HIP
    isplitl [HSQ]; · iexact HSQ
    isplitl [HIQ]; · rw [eQ]; iexact HIQ
    isplitl [H2]; · iexact H2
    isplitl [H3]; · iexact H3
    iexact HR

/-- The sum after the experts in the first `a` places. -/
def accAt (arg4 : Memref sig .tc .hbm S8x2x4096x1024 .i8) (arg5 : Memref sig .tc .hbm S8x16x8192 .bf16) (arg6 : Memref sig .tc .hbm S8x2048x2048 .i8)
    (arg7 : Memref sig .tc .hbm S8x32x2048 .bf16) (c : Dev nD)
    (W1 : Buf (Elt F) (arg4.view.loc (c : Thread nD τ))) (W2 : Buf (Elt F) (arg6.view.loc (c : Thread nD τ)))
    (V5 : Buf (Elt F) (arg5.view.loc (c : Thread nD τ))) (V7 : Buf (Elt F) (arg7.view.loc (c : Thread nD τ))) (m : Fin 256)
    (X : S48x2048.Idx → Elt F .bf16) (ids : S2x48.Idx → Elt F .i32) (ew : S2x48.Idx → Elt F .f32) (Y : S48x2048.Idx → Elt F .f32) : ℕ → S48x2048.Idx → Elt F .f32
  | 0 => Y
  | a + 1 => accOf (blk2 arg6 W2 (exF m a)) (scQ arg7 V7 (exF m a)) (hOf (blk1 arg4 W1 (exF m a)) (scP arg5 V5 (exF m a)) X)
      (k0_pay79 (BitVec.ofNat 32 (nthN m.val a)) ids) (k0_pay80 (BitVec.ofNat 32 (nthN m.val a)) ids ew)
      (accAt arg4 arg5 arg6 arg7 c W1 W2 V5 V7 m X ids ew Y a)

/-- The loop over the active experts. -/
theorem t3_loop (m : Fin 256) {k0_hw1 : k0_chk1 (BitVec.ofNat 32 m.val)} {hok : (k0_t3_loop (BitVec.ofNat 32 m.val)).OK}
    {v42 : BitVec 32} {v43 : BitVec 32} {c0_i32_107 : BitVec 32} {c : Dev nD}
    {W1 : Buf (Elt F) (arg4.view.loc (c : Thread nD τ))} {W2 : Buf (Elt F) (arg6.view.loc (c : Thread nD τ))}
    {V5 : Buf (Elt F) (arg5.view.loc (c : Thread nD τ))} {V7 : Buf (Elt F) (arg7.view.loc (c : Thread nD τ))}
    {L : S9.Idx → BitVec 32} (hL : ListOk m L) {q1 q2 q3 : PosShare TreeShare} {X : S48x2048.Idx → Elt F .bf16} {ids : S2x48.Idx → Elt F .i32} {ew : S2x48.Idx → Elt F .f32} {Y : S48x2048.Idx → Elt F .f32} {R : sProp 𝕄} {Q : Unit → sProp 𝕄}
    (h : iprop(RingAt arg4 arg6 arg9 arg16 c W1 W2 m (24 * (popN m.val)) ∗ SCellP arg10 arg5 arg17 c V5 m (popN m.val) ∗ SIdleP arg10 arg5 arg17 c V5 (slot2 (popN m.val + 1)) ∗ SCellQ arg11 arg7 arg18 c V7 m (popN m.val) ∗ SIdleQ arg11 arg7 arg18 c V7 (slot2 (popN m.val + 1)) ∗ Held c arg15 fullShare L ∗ (∃ D, Held c arg12 fullShare D) ∗ (∃ W, owes (c : Thread nD τ) 0 W) ∗ Held c arg1 q1 X ∗ (∃ H, Held c arg13 fullShare H) ∗ Held c arg2 q2 ids ∗ Held c arg3 q3 ew ∗ Held c arg14 fullShare (accAt arg4 arg5 arg6 arg7 c W1 W2 V5 V7 m X ids ew Y (popN m.val)) ∗ R) ⊢ Q ⟨⟩) :
    iprop(RingAt arg4 arg6 arg9 arg16 c W1 W2 m (24 * (0)) ∗ SCellP arg10 arg5 arg17 c V5 m (0) ∗ SIdleP arg10 arg5 arg17 c V5 (slot2 (0 + 1)) ∗ SCellQ arg11 arg7 arg18 c V7 m (0) ∗ SIdleQ arg11 arg7 arg18 c V7 (slot2 (0 + 1)) ∗ Held c arg15 fullShare L ∗ (∃ D, Held c arg12 fullShare D) ∗ (∃ W, owes (c : Thread nD τ) 0 W) ∗ Held c arg1 q1 X ∗ (∃ H, Held c arg13 fullShare H) ∗ Held c arg2 q2 ids ∗ Held c arg3 q3 ew ∗ Held c arg14 fullShare (accAt arg4 arg5 arg6 arg7 c W1 W2 V5 V7 m X ids ew Y (0)) ∗ R)
      ⊢ wp frame (wpE defs₀ 𝒱₀ (c : Thread nD τ) none) Set.univ (Scf.Loop.for (k0_t3_loop (BitVec.ofNat 32 m.val)) hok ⟨⟩ (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 (BitVec.ofNat 32 m.val) k0_hw1 v42 v43 c0_i32_107)) Q := by
  refine loop_ok (fun a => iprop(RingAt arg4 arg6 arg9 arg16 c W1 W2 m (24 * (a)) ∗ SCellP arg10 arg5 arg17 c V5 m (a) ∗ SIdleP arg10 arg5 arg17 c V5 (slot2 (a + 1)) ∗ SCellQ arg11 arg7 arg18 c V7 m (a) ∗ SIdleQ arg11 arg7 arg18 c V7 (slot2 (a + 1)) ∗ Held c arg15 fullShare L ∗ (∃ D, Held c arg12 fullShare D) ∗ (∃ W, owes (c : Thread nD τ) 0 W) ∗ Held c arg1 q1 X ∗ (∃ H, Held c arg13 fullShare H) ∗ Held c arg2 q2 ids ∗ Held c arg3 q3 ew ∗ Held c arg14 fullShare (accAt arg4 arg5 arg6 arg7 c W1 W2 V5 V7 m X ids ew Y (a)) ∗ R)) ?_ (ent_of_eq rfl) ?_
  · intro t3
    iintro ⟨HG, HSP, HIP, HSQ, HIQ, HL, HD, HO, HX, HY, H2, H3, HA, HR⟩
    unfold k0_t3_body
    iapply (bind_ok (part31_ok (R := iprop(Held c arg14 fullShare (accAt arg4 arg5 arg6 arg7 c W1 W2 V5 V7 m X ids ew Y t3.val) ∗ R)) (c := c) (W1 := W1) (W2 := W2) (V5 := V5) (V7 := V7) (q1 := q1) (q2 := q2) (q3 := q3) (X := X) (ids := ids) (ew := ew) m t3 hL ?hh))
    case hh =>
      intro w1 w2
      iintro ⟨HG, HSP, HCP, HSQ, HCQ, HL, HD, HO, HX, HY, H2, H3, HA, HR⟩
      iapply (bind_ok (t5_loop (R := iprop(SLoadedP arg10 arg5 arg17 c V5 (slot2 t3.val) (scP arg5 V5 (exF m t3.val)) ∗ SCellP arg10 arg5 arg17 c V5 m (t3.val + 1) ∗ SCellQ arg11 arg7 arg18 c V7 m (t3.val + 1) ∗ Held c arg1 q1 X ∗ Held c arg2 q2 ids ∗ Held c arg3 q3 ew ∗ R)) (c := c) (W1 := W1) (W2 := W2) (V := V7) (Y := accAt arg4 arg5 arg6 arg7 c W1 W2 V5 V7 m X ids ew Y t3.val) m t3 hL ?h5))
      case h5 =>
        refine ret_ok ?_
        rw [show slot2 (t3.val + 1 + 1) = slot2 t3.val from Fin.ext (by show (t3.val + 1 + 1) % 2 = t3.val % 2; omega),
          show 24 * (t3.val + 1) = 24 * t3.val + 16 + 8 by ring]
        iintro ⟨HG, HSQ, HL, HD, HO, HY, HA, HSP, HCP, HCQ, HX, H2, H3, HR⟩
        isplitl [HG]; · iexact HG
        isplitl [HCP]; · iexact HCP
        isplitl [HSP]; · iapply (SLoadedP_idle arg10 arg5 arg17 c V5); iexact HSP
        isplitl [HCQ]; · iexact HCQ
        isplitl [HSQ]; · iapply (SLoadedQ_idle arg11 arg7 arg18 c V7); iexact HSQ
        isplitl [HL]; · iexact HL
        isplitl [HD]; · iexact HD
        isplitl [HO]; · iexact HO
        isplitl [HX]; · iexact HX
        isplitl [HY]; · iexists (hOf (blk1 arg4 W1 (exF m t3.val)) (scP arg5 V5 (exF m t3.val)) X); iexact HY
        isplitl [H2]; · iexact H2
        isplitl [H3]; · iexact H3
        isplitl [HA]; · iexact HA
        iexact HR
      isplitl [HG]; · iexact HG
      isplitl [HSQ]; · iexact HSQ
      isplitl [HL]; · iexact HL
      isplitl [HD]; · iexact HD
      isplitl [HO]; · iexact HO
      isplitl [HY]; · iexact HY
      isplitl [HA]; · iexact HA
      isplitl [HSP]; · iexact HSP
      isplitl [HCP]; · iexact HCP
      isplitl [HCQ]; · iexact HCQ
      isplitl [HX]; · iexact HX
      isplitl [H2]; · iexact H2
      isplitl [H3]; · iexact H3
      iexact HR
    isplitl [HG]; · iexact HG
    isplitl [HSP]; · iexact HSP
    isplitl [HIP]; · iexact HIP
    isplitl [HSQ]; · iexact HSQ
    isplitl [HIQ]; · iexact HIQ
    isplitl [HL]; · iexact HL
    isplitl [HD]; · iexact HD
    isplitl [HO]; · iexact HO
    isplitl [HX]; · iexact HX
    isplitl [HY]; · iexact HY
    isplitl [H2]; · iexact H2
    isplitl [H3]; · iexact H3
    isplitl [HA]; · iexact HA
    iexact HR
  · rw [trips3_eq m]
    exact h

end Cert.KernelIdeal.Own
-- ==== Proof.KernelIdeal.Prologue.lean ====
/- The prologue: the mask, the list of active experts, the first scales and the first seven chunks. -/
module

public import proofs.«01_k».proof.Proof.KernelIdeal.Mask
public import proofs.«01_k».proof.Proof.KernelIdeal.Rows

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UU nD τ) ℕ

set_option maxHeartbeats 4000000

theorem cond1_eq : k0_cond1 = 1#1 := by decide
theorem cond2_eq : k0_cond2 = 0#1 := by decide
theorem cond3_eq : k0_cond3 = 1#1 := by decide
theorem cond4_eq : k0_cond4 = 0#1 := by decide
theorem cond5_eq : k0_cond5 = 1#1 := by decide
theorem cond6_eq : k0_cond6 = 0#1 := by decide
theorem cond7_eq : k0_cond7 = 1#1 := by decide
theorem cond8_eq : k0_cond8 = 0#1 := by decide
theorem cond9_eq : k0_cond9 = 1#1 := by decide
theorem cond10_eq : k0_cond10 = 0#1 := by decide
theorem cond11_eq : k0_cond11 = 1#1 := by decide
theorem cond12_eq : k0_cond12 = 0#1 := by decide
theorem cond13_eq : k0_cond13 = 1#1 := by decide
theorem cond14_eq : k0_cond14 = 0#1 := by decide

attribute [local irreducible] k0_cond1 k0_cond2 k0_cond3 k0_cond4 k0_cond5 k0_cond6 k0_cond7 k0_cond8 k0_cond9 k0_cond10 k0_cond11 k0_cond12 k0_cond13 k0_cond14

variable {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2}

theorem mask1 {c : Dev nD} {q : PosShare TreeShare} {ids : S2x48.Idx → BitVec 32} {hok : k0_t1_loop.OK} {P : sProp 𝕄} {Q : BitVec 32 → sProp 𝕄}
    (h : iprop(Held (F := F) c arg0 q ids ∗ P) ⊢ Q (maskW ids 48)) :
    iprop(Held (F := F) c arg0 q ids ∗ P) ⊢ wp frame (wpE defs₀ 𝒱₀ (c : Thread nD τ) none) Set.univ (Scf.Loop.for k0_t1_loop hok 0#32 (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18)) Q := by
  refine BIBase.Entails.trans ?_ (Scf.wp_for _ _ _ _ _ _ hok 0#32 _ (fun k a => iprop(⌜a = maskW ids k⌝ ∗ Held (F := F) c arg0 q ids ∗ P)) ?_)
  · iintro H
    isplitl [H]
    · isplitl []; · ipureintro; rfl
      iexact H
    · iintro %a ⟨%ha, H⟩
      rw [show Scf.trips k0_t1_loop.lb k0_t1_loop.ub k0_t1_loop.st = 48 from trips1] at ha
      rw [ha]
      iapply h; iexact H
  · intro t a
    have ht : t.val < 48 := t.isLt.trans_eq trips1
    iintro ⟨%ha, H, HP⟩
    unfold k0_t1_body
    iapply (held_word2 c arg0 0 ⟨t.val, ht⟩ (off1_eq t)) $$ H
    iintro H
    iapply (ret_ok (P := iprop(Held (F := F) c arg0 q ids ∗ P)))
    · iintro H
      isplitl []
      · ipureintro
        subst ha
        show Scalar.ori (maskW ids t.val) _ = Scalar.ori (maskW ids t.val) _
        rw [show tok t.val = ix2 (0 : Fin 2) (⟨t.val, ht⟩ : Fin 48) from by
          funext a; apply Fin.ext; fin_cases a
          · show t.val / 48 % 2 = 0; omega
          · show t.val % 48 = t.val; omega]
      · iexact H
    isplitl [H]; · iexact H
    iexact HP

theorem mask2 {c : Dev nD} {q : PosShare TreeShare} {ids : S2x48.Idx → BitVec 32} {hok : k0_t2_loop.OK} {P : sProp 𝕄} {Q : BitVec 32 → sProp 𝕄}
    (h : iprop(Held (F := F) c arg0 q ids ∗ P) ⊢ Q (maskW ids 96)) :
    iprop(Held (F := F) c arg0 q ids ∗ P) ⊢ wp frame (wpE defs₀ 𝒱₀ (c : Thread nD τ) none) Set.univ (Scf.Loop.for k0_t2_loop hok (maskW ids 48) (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18)) Q := by
  refine BIBase.Entails.trans ?_ (Scf.wp_for _ _ _ _ _ _ hok (maskW ids 48) _ (fun k a => iprop(⌜a = maskW ids (48 + k)⌝ ∗ Held (F := F) c arg0 q ids ∗ P)) ?_)
  · iintro H
    isplitl [H]
    · isplitl []; · ipureintro; rfl
      iexact H
    · iintro %a ⟨%ha, H⟩
      rw [show Scf.trips k0_t2_loop.lb k0_t2_loop.ub k0_t2_loop.st = 48 from trips2] at ha
      rw [ha]
      iapply h; iexact H
  · intro t a
    have ht : t.val < 48 := t.isLt.trans_eq trips2
    iintro ⟨%ha, H, HP⟩
    unfold k0_t2_body
    iapply (held_word2 c arg0 1 ⟨t.val, ht⟩ (off2_eq t)) $$ H
    iintro H
    iapply (ret_ok (P := iprop(Held (F := F) c arg0 q ids ∗ P)))
    · iintro H
      isplitl []
      · ipureintro
        subst ha
        show Scalar.ori (maskW ids (48 + t.val)) _ = Scalar.ori (maskW ids (48 + t.val)) _
        refine congrArg (fun y => Scalar.ori (maskW ids (48 + t.val)) (Scalar.shli 1#32 (ids y))) (Eq.symm (?_ : tok (48 + t.val) = ix2 (1 : Fin 2) (⟨t.val, ht⟩ : Fin 48)))
        exact (by
          funext a; apply Fin.ext; fin_cases a
          · show (48 + t.val) / 48 % 2 = 1; omega
          · show (48 + t.val) % 48 = t.val; omega)
      · iexact H
    isplitl [H]; · iexact H
    iexact HP

/-- A dead load of one word of the list of active experts. -/
theorem cnt9 (m : Fin 256) (j : ℕ) (hj : j < 9) : cntN m.val j < 9 := by
  have := cntN_le m ⟨j, hj⟩; simp only at this; omega

theorem part63_ok {c : Dev nD} {q : PosShare TreeShare} {ids : S2x48.Idx → BitVec 32} (hids : ∀ y, (ids y).toNat < 8) {L : S9.Idx → BitVec 32} {R : sProp 𝕄}
    {Q : (Σ' (v3 : BitVec 32) (k0_hw1 : k0_chk1 v3), BitVec 32) → sProp 𝕄}
    (h : ∀ hw w, iprop(Held (F := F) c arg0 q ids ∗ Held (F := F) c arg15 fullShare (list5 (maskF ids) L) ∗ R) ⊢ Q ⟨BitVec.ofNat 32 (maskF ids).val, hw, w⟩) :
    iprop(Held (F := F) c arg0 q ids ∗ Held (F := F) c arg15 fullShare L ∗ R) ⊢ wp frame (wpE defs₀ 𝒱₀ (c : Thread nD τ) none) Set.univ (k0_part63 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18) Q := by
  generalize hm : maskF ids = m at h
  have e3 : maskW ids 96 = BitVec.ofNat 32 m.val := hm ▸ maskF_eq hids
  rw [k0_part63_eq_skeleton]
  unfold k0_part63_skel
  refine bind_ok (mask1 ?_)
  refine bind_ok (mask2 ?_)
  rw [e3]
  iintro ⟨H0, HL, HR⟩
  iapply (wp_assume 𝒱₀ (c : Thread nD τ) none Set.univ (chk1 m))
  iapply (held_word c arg15 0 (off := ![0]) rfl (h1 := numel1_S1) (h2 := rfl)) $$ HL
  iintro HL
  iapply (held_set c arg15 (p := 0) (off := ![0]) rfl) $$ HL
  iintro HL
  iapply (held_word c arg15 ⟨cntN m.val 1, cnt9 m 1 (by decide)⟩ (off3_eq m) (h1 := numel1_S1) (h2 := rfl)) $$ HL
  iintro HL
  iapply (held_set c arg15 (off3_eq m)) $$ HL
  iintro HL
  iapply (held_word c arg15 ⟨cntN m.val 2, cnt9 m 2 (by decide)⟩ (off4_eq m) (h1 := numel1_S1) (h2 := rfl)) $$ HL
  iintro HL
  iapply (held_set c arg15 (off4_eq m)) $$ HL
  iintro HL
  iapply (held_word c arg15 ⟨cntN m.val 3, cnt9 m 3 (by decide)⟩ (off5_eq m) (h1 := numel1_S1) (h2 := rfl)) $$ HL
  iintro HL
  iapply (held_set c arg15 (off5_eq m)) $$ HL
  iintro HL
  iapply (held_word c arg15 ⟨cntN m.val 4, cnt9 m 4 (by decide)⟩ (off6_eq m) (h1 := numel1_S1) (h2 := rfl)) $$ HL
  iintro HL
  iapply (held_set c arg15 (off6_eq m)) $$ HL
  iintro HL
  iapply (ret_ok (h _ _))
  isplitl [H0]; · iexact H0
  isplitl [HL]; · iexact HL
  iexact HR

theorem part64_ok (m : Fin 256) (hpos : 0 < popN m.val) {hw1 : k0_chk1 (BitVec.ofNat 32 m.val)} {v27 : BitVec 32} {c : Dev nD} {L : S9.Idx → BitVec 32}
    {V5 : Buf (Elt F) (arg5.view.loc (c : Thread nD τ))} {V7 : Buf (Elt F) (arg7.view.loc (c : Thread nD τ))} {R : sProp 𝕄}
    {Q : (Σ' (v42 : BitVec 32), BitVec 32) → sProp 𝕄}
    (h : ∀ w1 w2, iprop(Held (F := F) c arg15 fullShare (listW m L) ∗ SFlyP arg10 arg5 arg17 c V5 (slot2 0) (exF m 0) ∗ SFlyQ arg11 arg7 arg18 c V7 (slot2 0) (exF m 0) ∗ R) ⊢ Q ⟨w1, w2⟩) :
    iprop(Held (F := F) c arg15 fullShare (list5 m L) ∗ SIdleP arg10 arg5 arg17 c V5 (slot2 0) ∗ SIdleQ arg11 arg7 arg18 c V7 (slot2 0) ∗ R)
      ⊢ wp frame (wpE defs₀ 𝒱₀ (c : Thread nD τ) none) Set.univ (k0_part64 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 (BitVec.ofNat 32 m.val) hw1 v27) Q := by
  have hw : (listW m L (ix1 (0 : Fin 9))).toNat = nthN m.val 0 % 8 ∧ (listW m L (ix1 (0 : Fin 9))).toNat < 8 := (listW_ok m L).toNat hpos
  rw [k0_part64_eq_skeleton]
  unfold k0_part64_skel
  iintro ⟨HL, HP, HQ, HR⟩
  iapply (held_word c arg15 ⟨cntN m.val 5, cnt9 m 5 (by decide)⟩ (off7_eq m) (h1 := numel1_S1) (h2 := rfl)) $$ HL
  iintro HL
  iapply (held_set c arg15 (off7_eq m)) $$ HL
  iintro HL
  iapply (held_word c arg15 ⟨cntN m.val 6, cnt9 m 6 (by decide)⟩ (off8_eq m) (h1 := numel1_S1) (h2 := rfl)) $$ HL
  iintro HL
  iapply (held_set c arg15 (off8_eq m)) $$ HL
  iintro HL
  iapply (held_word c arg15 ⟨cntN m.val 7, cnt9 m 7 (by decide)⟩ (off9_eq m) (h1 := numel1_S1) (h2 := rfl)) $$ HL
  iintro HL
  iapply (held_set c arg15 (off9_eq m)) $$ HL
  iintro HL
  iapply (held_word c arg15 (0 : Fin 9) (L := listW m L) (off := ![0]) rfl (h1 := numel1_S1) (h2 := rfl)) $$ HL
  iintro HL
  iapply (wp_assume 𝒱₀ (c : Thread nD τ) none Set.univ (chk2 _ hw.2))
  iapply (sstartP arg10 arg5 arg17 c V5 (slot2 0) (exF m 0) (show k0_off10 = ![0] by decide) (show k0_off11 = ![0, 0, 0] by decide)
    (show k0_off12 _ = _ by show ![_, 0, 0] = ![nthN m.val 0 % 8, 0, 0]; rw [hw.1])) $$ HP
  iintro HP
  iapply (sstartQ arg11 arg7 arg18 c V7 (slot2 0) (exF m 0) (show k0_off13 = ![0] by decide) (show k0_off14 = ![0, 0, 0] by decide)
    (show k0_off15 _ = _ by show ![_, 0, 0] = ![nthN m.val 0 % 8, 0, 0]; rw [hw.1])) $$ HQ
  iintro HQ
  iapply (ret_ok (h _ _))
  isplitl [HL]; · iexact HL
  isplitl [HP]; · iexact HP
  isplitl [HQ]; · iexact HQ
  iexact HR

theorem part65_ok (m : Fin 256) (hpos : 0 < popN m.val) {c : Dev nD} {W1 : Buf (Elt F) (arg4.view.loc (c : Thread nD τ))} {W2 : Buf (Elt F) (arg6.view.loc (c : Thread nD τ))} {L : S9.Idx → BitVec 32} (hL : ListOk m L) {R : sProp 𝕄}
    {Q : (Σ' (v82 : BitVec 32) (v84 : Elt F .i32) (k0_hw5 : k0_chk5 v84), BitVec 32) → sProp 𝕄}
    (h : ∀ w1 hw w2, iprop(Held (F := F) c arg15 fullShare L ∗ Fly1 arg4 arg6 arg9 arg16 c W1 W2 (slotF 0) (expF m 0) (blkA 0) ∗ Fly1 arg4 arg6 arg9 arg16 c W1 W2 (slotF 1) (expF m 1) (blkA 1) ∗ R) ⊢ Q ⟨w1, L (ix1 0), hw, w2⟩) :
    iprop(Held (F := F) c arg15 fullShare L ∗ Idle arg4 arg6 arg9 arg16 c W1 W2 (slotF 0) ∗ Idle arg4 arg6 arg9 arg16 c W1 W2 (slotF 1) ∗ R) ⊢ wp frame (wpE defs₀ 𝒱₀ (c : Thread nD τ) none) Set.univ (k0_part65 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18) Q := by
  have hw : (L (ix1 (0 : Fin 9))).toNat = nthN m.val 0 % 8 ∧ (L (ix1 (0 : Fin 9))).toNat < 8 := hL.toNat hpos
  rw [k0_part65_eq_skeleton]
  unfold k0_part65_skel
  iintro ⟨HL, H0, H1, HR⟩
  iapply (held_word c arg15 (0 : Fin 9) (show k0_off16 = ![0] by decide)) $$ HL
  iintro HL
  iapply (wp_assume 𝒱₀ (c : Thread nD τ) none Set.univ (chk3 _ hw.2))
  iapply (wp_pos cond1_eq)
  iapply (start1 arg4 arg6 arg9 arg16 c W1 W2 (slotF 0) (expF m 0) (blkA 0) (show k0_off17 = ![0] by decide) (show k0_off18 = ![0, 0, 0, 0] by decide)
    ((off19_eq _).trans (by rw [hw.1]))) $$ H0
  iintro H0
  iapply (wp_neg (show ¬ k0_cond2 = 1#1 by rw [cond2_eq]; decide))
  iapply (held_word c arg15 (0 : Fin 9) (show k0_off25 = ![0] by decide)) $$ HL
  iintro HL
  iapply (wp_assume 𝒱₀ (c : Thread nD τ) none Set.univ (chk4 _ hw.2))
  iapply (wp_pos cond3_eq)
  iapply (start1 arg4 arg6 arg9 arg16 c W1 W2 (slotF 1) (expF m 1) (blkA 1) (show k0_off26 = ![1] by decide) (show k0_off27 = ![1, 0, 0, 0] by decide)
    ((off28_eq _).trans (by rw [hw.1]))) $$ H1
  iintro H1
  iapply (wp_neg (show ¬ k0_cond4 = 1#1 by rw [cond4_eq]; decide))
  iapply (held_word c arg15 (0 : Fin 9) (show k0_off34 = ![0] by decide)) $$ HL
  iintro HL
  iapply (wp_assume 𝒱₀ (c : Thread nD τ) none Set.univ (chk5 _ hw.2))
  iapply (ret_ok (h _ _ _))
  isplitl [HL]; · iexact HL
  isplitl [H0]; · iexact H0
  isplitl [H1]; · iexact H1
  iexact HR

theorem part66_ok (m : Fin 256) (hpos : 0 < popN m.val) {c : Dev nD} {W1 : Buf (Elt F) (arg4.view.loc (c : Thread nD τ))} {W2 : Buf (Elt F) (arg6.view.loc (c : Thread nD τ))} {L : S9.Idx → BitVec 32} (hL : ListOk m L) {w1 w2 : BitVec 32} {hw5 : k0_chk5 (L (ix1 0))} {R : sProp 𝕄}
    {Q : PUnit → sProp 𝕄}
    (h : iprop(Held (F := F) c arg15 fullShare L ∗ Fly1 arg4 arg6 arg9 arg16 c W1 W2 (slotF 2) (expF m 2) (blkA 2) ∗ Fly1 arg4 arg6 arg9 arg16 c W1 W2 (slotF 3) (expF m 3) (blkA 3) ∗ Fly1 arg4 arg6 arg9 arg16 c W1 W2 (slotF 4) (expF m 4) (blkA 4) ∗ R) ⊢ Q ⟨⟩) :
    iprop(Held (F := F) c arg15 fullShare L ∗ Idle arg4 arg6 arg9 arg16 c W1 W2 (slotF 2) ∗ Idle arg4 arg6 arg9 arg16 c W1 W2 (slotF 3) ∗ Idle arg4 arg6 arg9 arg16 c W1 W2 (slotF 4) ∗ R) ⊢ wp frame (wpE defs₀ 𝒱₀ (c : Thread nD τ) none) Set.univ (k0_part66 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 w1 (L (ix1 0)) hw5 w2) Q := by
  have hw : (L (ix1 (0 : Fin 9))).toNat = nthN m.val 0 % 8 ∧ (L (ix1 (0 : Fin 9))).toNat < 8 := hL.toNat hpos
  rw [k0_part66_eq_skeleton]
  unfold k0_part66_skel
  iintro ⟨HL, H2, H3, H4, HR⟩
  iapply (wp_pos cond5_eq)
  iapply (start1 arg4 arg6 arg9 arg16 c W1 W2 (slotF 2) (expF m 2) (blkA 2) (show k0_off35 = ![2] by decide) (show k0_off36 = ![2, 0, 0, 0] by decide)
    ((off37_eq _).trans (by rw [hw.1]))) $$ H2
  iintro H2
  iapply (wp_neg (show ¬ k0_cond6 = 1#1 by rw [cond6_eq]; decide))
  iapply (held_word c arg15 (0 : Fin 9) (show k0_off43 = ![0] by decide)) $$ HL
  iintro HL
  iapply (wp_assume 𝒱₀ (c : Thread nD τ) none Set.univ (chk6 _ hw.2))
  iapply (wp_pos cond7_eq)
  iapply (start1 arg4 arg6 arg9 arg16 c W1 W2 (slotF 3) (expF m 3) (blkA 3) (show k0_off44 = ![3] by decide) (show k0_off45 = ![3, 0, 0, 0] by decide)
    ((off46_eq _).trans (by rw [hw.1]))) $$ H3
  iintro H3
  iapply (wp_neg (show ¬ k0_cond8 = 1#1 by rw [cond8_eq]; decide))
  iapply (held_word c arg15 (0 : Fin 9) (show k0_off52 = ![0] by decide)) $$ HL
  iintro HL
  iapply (wp_assume 𝒱₀ (c : Thread nD τ) none Set.univ (chk7 _ hw.2))
  iapply (wp_pos cond9_eq)
  iapply (start1 arg4 arg6 arg9 arg16 c W1 W2 (slotF 4) (expF m 4) (blkA 4) (show k0_off53 = ![4] by decide) (show k0_off54 = ![4, 0, 0, 0] by decide)
    ((off55_eq _).trans (by rw [hw.1]))) $$ H4
  iintro H4
  iapply (wp_neg (show ¬ k0_cond10 = 1#1 by rw [cond10_eq]; decide))
  iapply (ret_ok h)
  isplitl [HL]; · iexact HL
  isplitl [H2]; · iexact H2
  isplitl [H3]; · iexact H3
  isplitl [H4]; · iexact H4
  iexact HR

theorem whole_emb {inb : ∀ a, (![0, 0] : Fin 2 → ℕ) a + S48x2048.size a ≤ S48x2048.size a} (x : S48x2048.Idx) :
    (Rect.unit (s := S48x2048) ![0, 0] S48x2048.size inb).emb x = x := by
  funext a
  apply Fin.ext
  fin_cases a
  · show 0 + 1 * (x 0).val = (x 0).val; omega
  · show 0 + 1 * (x 1).val = (x 1).val; omega

theorem part67_ok (m : Fin 256) (hpos : 0 < popN m.val) {c : Dev nD} {W1 : Buf (Elt F) (arg4.view.loc (c : Thread nD τ))} {W2 : Buf (Elt F) (arg6.view.loc (c : Thread nD τ))} {L : S9.Idx → BitVec 32} (hL : ListOk m L) {v42 : BitVec 32} {R : sProp 𝕄}
    {Q : (Σ' (c0_i32_107 : BitVec 32), BitVec 32) → sProp 𝕄}
    (h : ∀ w1 w2, iprop(Held (F := F) c arg15 fullShare L ∗ Fly1 arg4 arg6 arg9 arg16 c W1 W2 (slotF 5) (expF m 5) (blkA 5) ∗ Fly1 arg4 arg6 arg9 arg16 c W1 W2 (slotF 6) (expF m 6) (blkA 6) ∗ Held c arg14 fullShare (k0_pay154 (F := F)) ∗ R) ⊢ Q ⟨w1, w2⟩) :
    iprop(Held (F := F) c arg15 fullShare L ∗ Idle arg4 arg6 arg9 arg16 c W1 W2 (slotF 5) ∗ Idle arg4 arg6 arg9 arg16 c W1 W2 (slotF 6) ∗ (∃ Y, Held c arg14 fullShare Y) ∗ R) ⊢ wp frame (wpE defs₀ 𝒱₀ (c : Thread nD τ) none) Set.univ (k0_part67 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 v42) Q := by
  have hw : (L (ix1 (0 : Fin 9))).toNat = nthN m.val 0 % 8 ∧ (L (ix1 (0 : Fin 9))).toNat < 8 := hL.toNat hpos
  rw [k0_part67_eq_skeleton]
  unfold k0_part67_skel
  iintro ⟨HL, H5, H6, ⟨%Y, HA⟩, HR⟩
  iapply (held_word c arg15 (0 : Fin 9) (show k0_off61 = ![0] by decide)) $$ HL
  iintro HL
  iapply (wp_assume 𝒱₀ (c : Thread nD τ) none Set.univ (chk8 _ hw.2))
  iapply (wp_pos cond11_eq)
  iapply (start1 arg4 arg6 arg9 arg16 c W1 W2 (slotF 5) (expF m 5) (blkA 5) (show k0_off62 = ![5] by decide) (show k0_off63 = ![5, 0, 0, 0] by decide)
    ((off64_eq _).trans (by rw [hw.1]))) $$ H5
  iintro H5
  iapply (wp_neg (show ¬ k0_cond12 = 1#1 by rw [cond12_eq]; decide))
  iapply (held_word c arg15 (0 : Fin 9) (show k0_off70 = ![0] by decide)) $$ HL
  iintro HL
  iapply (wp_assume 𝒱₀ (c : Thread nD τ) none Set.univ (chk9 _ hw.2))
  iapply (wp_pos cond13_eq)
  iapply (start1 arg4 arg6 arg9 arg16 c W1 W2 (slotF 6) (expF m 6) (blkA 6) (show k0_off71 = ![6] by decide) (show k0_off72 = ![6, 0, 0, 0] by decide)
    ((off73_eq _).trans (by rw [hw.1]))) $$ H6
  iintro H6
  iapply (wp_neg (show ¬ k0_cond14 = 1#1 by rw [cond14_eq]; decide))
  iapply (held_load c arg14) $$ HA
  iintro HA
  iapply (held_store c arg14 (X' := k0_pay154 (F := F)) (fun x => congrArg _ (whole_emb x)) (fun y hy => absurd (whole_emb y) (hy y))) $$ HA
  iintro HA
  iapply (ret_ok (h _ _))
  isplitl [HL]; · iexact HL
  isplitl [H5]; · iexact H5
  isplitl [H6]; · iexact H6
  isplitl [HA]; · iexact HA
  iexact HR

end Cert.KernelIdeal.Own
-- ==== Proof.KernelIdeal.Body.lean ====
/- The whole body of the kernel: the prologue, the loop over the active experts and the store of the result. -/
module

public import proofs.«01_k».proof.Proof.KernelIdeal.Experts
public import proofs.«01_k».proof.Proof.KernelIdeal.Prologue

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UU nD τ) ℕ

set_option maxHeartbeats 4000000

/-- The ring with every slot idle. -/
def Idles (arg4 : Memref sig .tc .hbm S8x2x4096x1024 .i8) (arg6 : Memref sig .tc .hbm S8x2048x2048 .i8)
  (arg9 : Memref sig .tc .vmem S8x2x256x1024 .i8) (arg16 : DmaSems sig S8) (c : Dev nD)
  (W1 : Buf (Elt F) (arg4.view.loc (c : Thread nD τ))) (W2 : Buf (Elt F) (arg6.view.loc (c : Thread nD τ))) : sProp 𝕄 :=
  iprop(Idle arg4 arg6 arg9 arg16 c W1 W2 (0) ∗ Idle arg4 arg6 arg9 arg16 c W1 W2 (1) ∗ Idle arg4 arg6 arg9 arg16 c W1 W2 (2) ∗ Idle arg4 arg6 arg9 arg16 c W1 W2 (3) ∗ Idle arg4 arg6 arg9 arg16 c W1 W2 (4) ∗ Idle arg4 arg6 arg9 arg16 c W1 W2 (5) ∗ Idle arg4 arg6 arg9 arg16 c W1 W2 (6) ∗ Idle arg4 arg6 arg9 arg16 c W1 W2 (7))

/-- Once every expert is done the ring is idle. -/
theorem ring_end (arg4 : Memref sig .tc .hbm S8x2x4096x1024 .i8) (arg6 : Memref sig .tc .hbm S8x2048x2048 .i8)
  (arg9 : Memref sig .tc .vmem S8x2x256x1024 .i8) (arg16 : DmaSems sig S8) (c : Dev nD)
  (W1 : Buf (Elt F) (arg4.view.loc (c : Thread nD τ))) (W2 : Buf (Elt F) (arg6.view.loc (c : Thread nD τ))) (m : Fin 256) :
    RingAt arg4 arg6 arg9 arg16 c W1 W2 m (24 * popN m.val) ⊢ Idles arg4 arg6 arg9 arg16 c W1 W2 := by
  have e : ∀ j : ℕ, Cell arg4 arg6 arg9 arg16 c W1 W2 m (24 * popN m.val + j) = Idle arg4 arg6 arg9 arg16 c W1 W2 (slotF j) := fun j => by
    unfold Cell
    rw [if_neg (by omega), show slotF (24 * popN m.val + j) = slotF j from Fin.ext (by show (24 * popN m.val + j) % 8 = j % 8; omega)]
  unfold RingAt Mid Idles
  rw [e 1, e 2, e 3, e 4, e 5, e 6, show Cell arg4 arg6 arg9 arg16 c W1 W2 m (24 * popN m.val) = Idle arg4 arg6 arg9 arg16 c W1 W2 (slotF 0) from e 0,
    show slotF (24 * popN m.val + 7) = slotF 7 from Fin.ext (by show (24 * popN m.val + 7) % 8 = 7 % 8; omega)]
  iintro ⟨H0, ⟨H1, H2, H3, H4, H5, H6⟩, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- Once every expert is done both slots of the scales of the first weights are idle. -/
theorem scales_endP (dstB : Memref sig .tc .vmem S2x16x8192 .bf16) (srcB : Memref sig .tc .hbm S8x16x8192 .bf16) (sems : DmaSems sig S2) (c : Dev nD)
    (V : Buf (Elt F) (srcB.view.loc (c : Thread nD τ))) (m : Fin 256) :
    iprop(SCellP dstB srcB sems c V m (popN m.val) ∗ SIdleP dstB srcB sems c V (slot2 (popN m.val + 1)))
      ⊢ iprop(SIdleP dstB srcB sems c V 0 ∗ SIdleP dstB srcB sems c V 1) := by
  rw [show SCellP dstB srcB sems c V m (popN m.val) = SIdleP dstB srcB sems c V (slot2 (popN m.val)) from if_neg (lt_irrefl _)]
  rcases Nat.mod_two_eq_zero_or_one (popN m.val) with h | h
  · rw [show slot2 (popN m.val) = 0 from Fin.ext h, show slot2 (popN m.val + 1) = 1 from Fin.ext (by show (popN m.val + 1) % 2 = 1; omega)]
  · rw [show slot2 (popN m.val) = 1 from Fin.ext h, show slot2 (popN m.val + 1) = 0 from Fin.ext (by show (popN m.val + 1) % 2 = 0; omega)]
    iintro ⟨H1, H0⟩
    isplitl [H0]; · iexact H0
    iexact H1

/-- Once every expert is done both slots of the scales of the second weights are idle. -/
theorem scales_endQ (dstB : Memref sig .tc .vmem S2x32x2048 .bf16) (srcB : Memref sig .tc .hbm S8x32x2048 .bf16) (sems : DmaSems sig S2) (c : Dev nD)
    (V : Buf (Elt F) (srcB.view.loc (c : Thread nD τ))) (m : Fin 256) :
    iprop(SCellQ dstB srcB sems c V m (popN m.val) ∗ SIdleQ dstB srcB sems c V (slot2 (popN m.val + 1)))
      ⊢ iprop(SIdleQ dstB srcB sems c V 0 ∗ SIdleQ dstB srcB sems c V 1) := by
  rw [show SCellQ dstB srcB sems c V m (popN m.val) = SIdleQ dstB srcB sems c V (slot2 (popN m.val)) from if_neg (lt_irrefl _)]
  rcases Nat.mod_two_eq_zero_or_one (popN m.val) with h | h
  · rw [show slot2 (popN m.val) = 0 from Fin.ext h, show slot2 (popN m.val + 1) = 1 from Fin.ext (by show (popN m.val + 1) % 2 = 1; omega)]
  · rw [show slot2 (popN m.val) = 1 from Fin.ext h, show slot2 (popN m.val + 1) = 0 from Fin.ext (by show (popN m.val + 1) % 2 = 0; omega)]
    iintro ⟨H1, H0⟩
    isplitl [H0]; · iexact H0
    iexact H1

variable {arg0 : Memref sig .tc .smem S2x48 .i32} {harg0 : arg0.IsWhole} {arg1 : Memref sig .tc .vmem S48x2048 .bf16} {harg1 : arg1.IsWhole} {arg2 : Memref sig .tc .vmem S2x48 .i32} {harg2 : arg2.IsWhole} {arg3 : Memref sig .tc .vmem S2x48 .f32} {harg3 : arg3.IsWhole} {arg4 : Memref sig .tc .hbm S8x2x4096x1024 .i8} {harg4 : arg4.IsWhole} {arg5 : Memref sig .tc .hbm S8x16x8192 .bf16} {harg5 : arg5.IsWhole} {arg6 : Memref sig .tc .hbm S8x2048x2048 .i8} {harg6 : arg6.IsWhole} {arg7 : Memref sig .tc .hbm S8x32x2048 .bf16} {harg7 : arg7.IsWhole} {arg8 : Memref sig .tc .vmem S48x2048 .bf16} {harg8 : arg8.IsWhole} {arg9 : Memref sig .tc .vmem S8x2x256x1024 .i8} {harg9 : arg9.IsWhole} {arg10 : Memref sig .tc .vmem S2x16x8192 .bf16} {harg10 : arg10.IsWhole} {arg11 : Memref sig .tc .vmem S2x32x2048 .bf16} {harg11 : arg11.IsWhole} {arg12 : Memref sig .tc .vmem S2x16x256 .bf16} {harg12 : arg12.IsWhole} {arg13 : Memref sig .tc .vmem S48x4096 .bf16} {harg13 : arg13.IsWhole} {arg14 : Memref sig .tc .vmem S48x2048 .f32} {harg14 : arg14.IsWhole} {arg15 : Memref sig .tc .smem S9 .i32} {harg15 : arg15.IsWhole} {arg16 : DmaSems sig S8} {arg17 : DmaSems sig S2} {arg18 : DmaSems sig S2}

theorem slot2_one : slot2 1 = 1 := rfl

theorem cell_start (arg4 : Memref sig .tc .hbm S8x2x4096x1024 .i8) (arg6 : Memref sig .tc .hbm S8x2048x2048 .i8)
  (arg9 : Memref sig .tc .vmem S8x2x256x1024 .i8) (arg16 : DmaSems sig S8) (c : Dev nD)
  (W1 : Buf (Elt F) (arg4.view.loc (c : Thread nD τ))) (W2 : Buf (Elt F) (arg6.view.loc (c : Thread nD τ))) (m : Fin 256) (hpos : 0 < popN m.val) (j : ℕ) (hj : j < 16) :
    Cell arg4 arg6 arg9 arg16 c W1 W2 m j = Fly1 arg4 arg6 arg9 arg16 c W1 W2 (slotF j) (expF m j) (blkA j) := by
  unfold Cell Fly
  rw [if_pos (by omega), if_pos (by omega)]

theorem whole_emb48 {inb : ∀ a, (![0, 0] : Fin 2 → ℕ) a + S48x2048.size a ≤ S48x2048.size a} (x : S48x2048.Idx) :
    (Rect.unit (s := S48x2048) ![0, 0] S48x2048.size inb).emb x = x := by
  funext a; apply Fin.ext; rw [Rect.emb_apply]
  fin_cases a
  · show 0 + 1 * (x 0).val = (x 0).val; omega
  · show 0 + 1 * (x 1).val = (x 1).val; omega

/-- The body of the kernel. -/
theorem body_ok {c : Dev nD} {q0 q1 q2 q3 : PosShare TreeShare} {ids : S2x48.Idx → BitVec 32} (hids : ∀ y, (ids y).toNat < 8) {ids' : S2x48.Idx → Elt F .i32}
    {X : S48x2048.Idx → Elt F .bf16} {ew : S2x48.Idx → Elt F .f32}
    {W1 : Buf (Elt F) (arg4.view.loc (c : Thread nD τ))} {W2 : Buf (Elt F) (arg6.view.loc (c : Thread nD τ))}
    {V5 : Buf (Elt F) (arg5.view.loc (c : Thread nD τ))} {V7 : Buf (Elt F) (arg7.view.loc (c : Thread nD τ))} {Q : PUnit → sProp 𝕄}
    (h : iprop(Held (F := F) c arg0 q0 ids ∗ Held c arg1 q1 X ∗ Held (F := F) c arg2 q2 ids' ∗ Held c arg3 q3 ew ∗ Idles arg4 arg6 arg9 arg16 c W1 W2 ∗ (SIdleP arg10 arg5 arg17 c V5 0 ∗ SIdleP arg10 arg5 arg17 c V5 1) ∗ (SIdleQ arg11 arg7 arg18 c V7 0 ∗ SIdleQ arg11 arg7 arg18 c V7 1) ∗ (∃ L, Held (F := F) c arg15 fullShare L) ∗ (∃ D, Held c arg12 fullShare D) ∗ (∃ H, Held c arg13 fullShare H) ∗ (∃ Y, Held c arg14 fullShare Y) ∗ Held c arg8 fullShare (k0_pay7 (accAt arg4 arg5 arg6 arg7 c W1 W2 V5 V7 (maskF ids) X ids' ew (k0_pay154 (F := F)) (popN (maskF ids).val))) ∗ (∃ W, owes (c : Thread nD τ) 0 W)) ⊢ Q ⟨⟩) :
    iprop(Held (F := F) c arg0 q0 ids ∗ Held c arg1 q1 X ∗ Held (F := F) c arg2 q2 ids' ∗ Held c arg3 q3 ew ∗ Idles arg4 arg6 arg9 arg16 c W1 W2 ∗ (SIdleP arg10 arg5 arg17 c V5 0 ∗ SIdleP arg10 arg5 arg17 c V5 1) ∗ (SIdleQ arg11 arg7 arg18 c V7 0 ∗ SIdleQ arg11 arg7 arg18 c V7 1) ∗ (∃ L, Held (F := F) c arg15 fullShare L) ∗ (∃ D, Held c arg12 fullShare D) ∗ (∃ H, Held c arg13 fullShare H) ∗ (∃ Y, Held c arg14 fullShare Y) ∗ (∃ O, Held c arg8 fullShare O) ∗ (∃ W, owes (c : Thread nD τ) 0 W))
      ⊢ wp frame (wpE defs₀ 𝒱₀ (c : Thread nD τ) none) Set.univ (cc0__body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18) Q := by
  have hpos : 0 < popN (maskF ids).val := maskF_pos hids
  rw [cc0__body_eq_skeleton]
  unfold cc0__body_skel Idles
  iintro ⟨H0, H1, H2, H3, ⟨I0, I1, I2, I3, I4, I5, I6, I7⟩, ⟨P0, P1⟩, ⟨Q0, Q1⟩, ⟨%L, HL⟩, HD, HH, HA, HO, HW⟩
  iapply (bind_ok (part63_ok (R := iprop(Held c arg1 q1 X ∗ Held (F := F) c arg2 q2 ids' ∗ Held c arg3 q3 ew ∗ Idle arg4 arg6 arg9 arg16 c W1 W2 (slotF 0) ∗ Idle arg4 arg6 arg9 arg16 c W1 W2 (slotF 1) ∗ Idle arg4 arg6 arg9 arg16 c W1 W2 (slotF 2) ∗ Idle arg4 arg6 arg9 arg16 c W1 W2 (slotF 3) ∗ Idle arg4 arg6 arg9 arg16 c W1 W2 (slotF 4) ∗ Idle arg4 arg6 arg9 arg16 c W1 W2 (slotF 5) ∗ Idle arg4 arg6 arg9 arg16 c W1 W2 (slotF 6) ∗ Idle arg4 arg6 arg9 arg16 c W1 W2 (slotF 7) ∗ SIdleP arg10 arg5 arg17 c V5 (slot2 0) ∗ SIdleP arg10 arg5 arg17 c V5 (slot2 1) ∗ SIdleQ arg11 arg7 arg18 c V7 (slot2 0) ∗ SIdleQ arg11 arg7 arg18 c V7 (slot2 1) ∗ (∃ D, Held c arg12 fullShare D) ∗ (∃ H, Held c arg13 fullShare H) ∗ (∃ Y, Held c arg14 fullShare Y) ∗ (∃ O, Held c arg8 fullShare O) ∗ (∃ W, owes (c : Thread nD τ) 0 W))) (c := c) (q := q0) (L := L) hids ?s63))
  case s63 =>
    generalize maskF ids = m at hpos h
    intro hw1 w
    iintro ⟨H0, HL, H1, H2, H3, I0, I1, I2, I3, I4, I5, I6, I7, P0, P1, Q0, Q1, HD, HH, HA, HO, HW⟩
    iapply (bind_ok (part64_ok (R := iprop(Held (F := F) c arg0 q0 ids ∗ Held c arg1 q1 X ∗ Held (F := F) c arg2 q2 ids' ∗ Held c arg3 q3 ew ∗ Idle arg4 arg6 arg9 arg16 c W1 W2 (slotF 0) ∗ Idle arg4 arg6 arg9 arg16 c W1 W2 (slotF 1) ∗ Idle arg4 arg6 arg9 arg16 c W1 W2 (slotF 2) ∗ Idle arg4 arg6 arg9 arg16 c W1 W2 (slotF 3) ∗ Idle arg4 arg6 arg9 arg16 c W1 W2 (slotF 4) ∗ Idle arg4 arg6 arg9 arg16 c W1 W2 (slotF 5) ∗ Idle arg4 arg6 arg9 arg16 c W1 W2 (slotF 6) ∗ Idle arg4 arg6 arg9 arg16 c W1 W2 (slotF 7) ∗ SIdleP arg10 arg5 arg17 c V5 (slot2 1) ∗ SIdleQ arg11 arg7 arg18 c V7 (slot2 1) ∗ (∃ D, Held c arg12 fullShare D) ∗ (∃ H, Held c arg13 fullShare H) ∗ (∃ Y, Held c arg14 fullShare Y) ∗ (∃ O, Held c arg8 fullShare O) ∗ (∃ W, owes (c : Thread nD τ) 0 W))) (c := c) (V5 := V5) (V7 := V7) (L := L) m hpos ?s64))
    case s64 =>
      have hL := listW_ok m L
      generalize listW m L = LW at hL
      intro v42 v43
      iintro ⟨HL, P0, Q0, H0, H1, H2, H3, I0, I1, I2, I3, I4, I5, I6, I7, P1, Q1, HD, HH, HA, HO, HW⟩
      iapply (bind_ok (part65_ok (R := iprop(SFlyP arg10 arg5 arg17 c V5 (slot2 0) (exF m 0) ∗ SFlyQ arg11 arg7 arg18 c V7 (slot2 0) (exF m 0) ∗ Held (F := F) c arg0 q0 ids ∗ Held c arg1 q1 X ∗ Held (F := F) c arg2 q2 ids' ∗ Held c arg3 q3 ew ∗ Idle arg4 arg6 arg9 arg16 c W1 W2 (slotF 2) ∗ Idle arg4 arg6 arg9 arg16 c W1 W2 (slotF 3) ∗ Idle arg4 arg6 arg9 arg16 c W1 W2 (slotF 4) ∗ Idle arg4 arg6 arg9 arg16 c W1 W2 (slotF 5) ∗ Idle arg4 arg6 arg9 arg16 c W1 W2 (slotF 6) ∗ Idle arg4 arg6 arg9 arg16 c W1 W2 (slotF 7) ∗ SIdleP arg10 arg5 arg17 c V5 (slot2 1) ∗ SIdleQ arg11 arg7 arg18 c V7 (slot2 1) ∗ (∃ D, Held c arg12 fullShare D) ∗ (∃ H, Held c arg13 fullShare H) ∗ (∃ Y, Held c arg14 fullShare Y) ∗ (∃ O, Held c arg8 fullShare O) ∗ (∃ W, owes (c : Thread nD τ) 0 W))) (c := c) (W1 := W1) (W2 := W2) m hpos hL ?s65))
      case s65 =>
        intro w1 hw5 w2
        iintro ⟨HL, I0, I1, P0, Q0, H0, H1, H2, H3, I2, I3, I4, I5, I6, I7, P1, Q1, HD, HH, HA, HO, HW⟩
        iapply (bind_ok (part66_ok (R := iprop(Fly1 arg4 arg6 arg9 arg16 c W1 W2 (slotF 0) (expF m 0) (blkA 0) ∗ Fly1 arg4 arg6 arg9 arg16 c W1 W2 (slotF 1) (expF m 1) (blkA 1) ∗ SFlyP arg10 arg5 arg17 c V5 (slot2 0) (exF m 0) ∗ SFlyQ arg11 arg7 arg18 c V7 (slot2 0) (exF m 0) ∗ Held (F := F) c arg0 q0 ids ∗ Held c arg1 q1 X ∗ Held (F := F) c arg2 q2 ids' ∗ Held c arg3 q3 ew ∗ Idle arg4 arg6 arg9 arg16 c W1 W2 (slotF 5) ∗ Idle arg4 arg6 arg9 arg16 c W1 W2 (slotF 6) ∗ Idle arg4 arg6 arg9 arg16 c W1 W2 (slotF 7) ∗ SIdleP arg10 arg5 arg17 c V5 (slot2 1) ∗ SIdleQ arg11 arg7 arg18 c V7 (slot2 1) ∗ (∃ D, Held c arg12 fullShare D) ∗ (∃ H, Held c arg13 fullShare H) ∗ (∃ Y, Held c arg14 fullShare Y) ∗ (∃ O, Held c arg8 fullShare O) ∗ (∃ W, owes (c : Thread nD τ) 0 W))) (c := c) (W1 := W1) (W2 := W2) m hpos hL ?s66))
        case s66 =>
          iintro ⟨HL, I2, I3, I4, I0, I1, P0, Q0, H0, H1, H2, H3, I5, I6, I7, P1, Q1, HD, HH, HA, HO, HW⟩
          iapply (bind_ok (part67_ok (R := iprop(Fly1 arg4 arg6 arg9 arg16 c W1 W2 (slotF 0) (expF m 0) (blkA 0) ∗ Fly1 arg4 arg6 arg9 arg16 c W1 W2 (slotF 1) (expF m 1) (blkA 1) ∗ Fly1 arg4 arg6 arg9 arg16 c W1 W2 (slotF 2) (expF m 2) (blkA 2) ∗ Fly1 arg4 arg6 arg9 arg16 c W1 W2 (slotF 3) (expF m 3) (blkA 3) ∗ Fly1 arg4 arg6 arg9 arg16 c W1 W2 (slotF 4) (expF m 4) (blkA 4) ∗ SFlyP arg10 arg5 arg17 c V5 (slot2 0) (exF m 0) ∗ SFlyQ arg11 arg7 arg18 c V7 (slot2 0) (exF m 0) ∗ Held (F := F) c arg0 q0 ids ∗ Held c arg1 q1 X ∗ Held (F := F) c arg2 q2 ids' ∗ Held c arg3 q3 ew ∗ Idle arg4 arg6 arg9 arg16 c W1 W2 (slotF 7) ∗ SIdleP arg10 arg5 arg17 c V5 (slot2 1) ∗ SIdleQ arg11 arg7 arg18 c V7 (slot2 1) ∗ (∃ D, Held c arg12 fullShare D) ∗ (∃ H, Held c arg13 fullShare H) ∗ (∃ O, Held c arg8 fullShare O) ∗ (∃ W, owes (c : Thread nD τ) 0 W))) (c := c) (W1 := W1) (W2 := W2) m hpos hL ?s67))
          case s67 =>
            intro cc v142
            iintro ⟨HL, I5, I6, HA, I0, I1, I2, I3, I4, P0, Q0, H0, H1, H2, H3, I7, P1, Q1, HD, HH, HO, HW⟩
            iapply (bind_ok (t3_loop (Y := k0_pay154 (F := F)) (R := iprop(Held (F := F) c arg0 q0 ids ∗ (∃ O, Held c arg8 fullShare O))) (c := c) (W1 := W1) (W2 := W2) (V5 := V5) (V7 := V7) (q1 := q1) (q2 := q2) (q3 := q3) (X := X) (ids := ids') (ew := ew) m hL ?s3))
            case s3 =>
              iintro ⟨HR, P0, P1, Q0, Q1, HL, HD, HW, H1, HH, H2, H3, HA, H0, ⟨%O0, HO⟩⟩
              iapply (bind_ok (loop_ok (fun _ => iprop(RingAt arg4 arg6 arg9 arg16 c W1 W2 m (24 * popN m.val) ∗ SCellP arg10 arg5 arg17 c V5 m (popN m.val) ∗ SIdleP arg10 arg5 arg17 c V5 (slot2 (popN m.val + 1)) ∗ SCellQ arg11 arg7 arg18 c V7 m (popN m.val) ∗ SIdleQ arg11 arg7 arg18 c V7 (slot2 (popN m.val + 1)) ∗ Held (F := F) c arg15 fullShare LW ∗ (∃ D, Held c arg12 fullShare D) ∗ (∃ W, owes (c : Thread nD τ) 0 W) ∗ Held c arg1 q1 X ∗ (∃ H, Held c arg13 fullShare H) ∗ Held (F := F) c arg2 q2 ids' ∗ Held c arg3 q3 ew ∗ Held c arg14 fullShare (accAt arg4 arg5 arg6 arg7 c W1 W2 V5 V7 m X ids' ew (k0_pay154 (F := F)) (popN m.val)) ∗ Held (F := F) c arg0 q0 ids ∗ Held c arg8 fullShare O0)) (fun t6 => (no6 m t6).elim) (ent_of_eq rfl) ?s6))
              case s6 =>
                iintro ⟨HR, P0, P1, Q0, Q1, HL, HD, HW, H1, HH, H2, H3, HA, H0, HO⟩
                iapply (held_load c arg14) $$ HA
                iintro HA
                iapply (held_load c arg8) $$ HO
                iintro HO
                iapply (held_store c arg8 (X' := k0_pay7 (accAt arg4 arg5 arg6 arg7 c W1 W2 V5 V7 m X ids' ew (k0_pay154 (F := F)) (popN m.val)))
                  (fun x => by rw [whole_emb48]; exact congrFun (congrArg k0_pay7 (funext fun y => (congrArg _ (whole_emb48 y)).symm)) x)
                  (fun y hy => absurd (whole_emb48 y) (hy y))) $$ HO
                iintro HO
                iapply (ret_ok (Q := Q) h)
                isplitl [H0]; · iexact H0
                isplitl [H1]; · iexact H1
                isplitl [H2]; · iexact H2
                isplitl [H3]; · iexact H3
                isplitl [HR]; · iapply (ring_end arg4 arg6 arg9 arg16 c W1 W2 m); iexact HR
                isplitl [P0 P1]
                · iapply (scales_endP arg10 arg5 arg17 c V5 m)
                  isplitl [P0]; · iexact P0
                  iexact P1
                isplitl [Q0 Q1]
                · iapply (scales_endQ arg11 arg7 arg18 c V7 m)
                  isplitl [Q0]; · iexact Q0
                  iexact Q1
                isplitl [HL]; · iexists LW; iexact HL
                isplitl [HD]; · iexact HD
                isplitl [HH]; · iexact HH
                isplitl [HA]; · iexists (accAt arg4 arg5 arg6 arg7 c W1 W2 V5 V7 m X ids' ew (k0_pay154 (F := F)) (popN m.val)); iexact HA
                isplitl [HO]; · iexact HO
                iexact HW
              isplitl [HR]; · iexact HR
              isplitl [P0]; · iexact P0
              isplitl [P1]; · iexact P1
              isplitl [Q0]; · iexact Q0
              isplitl [Q1]; · iexact Q1
              isplitl [HL]; · iexact HL
              isplitl [HD]; · iexact HD
              isplitl [HW]; · iexact HW
              isplitl [H1]; · iexact H1
              isplitl [HH]; · iexact HH
              isplitl [H2]; · iexact H2
              isplitl [H3]; · iexact H3
              isplitl [HA]; · iexact HA
              isplitl [H0]; · iexact H0
              iexact HO

            isplitl [I0 I1 I2 I3 I4 I5 I6 I7]
            · unfold RingAt Mid
              isplitl [I0]; · rw [show Cell arg4 arg6 arg9 arg16 c W1 W2 m (24 * 0) = _ from cell_start arg4 arg6 arg9 arg16 c W1 W2 m hpos 0 (by decide)]; iexact I0
              isplitl [I1 I2 I3 I4 I5 I6]
              · isplitl [I1]; · rw [show Cell arg4 arg6 arg9 arg16 c W1 W2 m (24 * 0 + 1) = _ from cell_start arg4 arg6 arg9 arg16 c W1 W2 m hpos 1 (by decide)]; iexact I1
                isplitl [I2]; · rw [show Cell arg4 arg6 arg9 arg16 c W1 W2 m (24 * 0 + 2) = _ from cell_start arg4 arg6 arg9 arg16 c W1 W2 m hpos 2 (by decide)]; iexact I2
                isplitl [I3]; · rw [show Cell arg4 arg6 arg9 arg16 c W1 W2 m (24 * 0 + 3) = _ from cell_start arg4 arg6 arg9 arg16 c W1 W2 m hpos 3 (by decide)]; iexact I3
                isplitl [I4]; · rw [show Cell arg4 arg6 arg9 arg16 c W1 W2 m (24 * 0 + 4) = _ from cell_start arg4 arg6 arg9 arg16 c W1 W2 m hpos 4 (by decide)]; iexact I4
                isplitl [I5]; · rw [show Cell arg4 arg6 arg9 arg16 c W1 W2 m (24 * 0 + 5) = _ from cell_start arg4 arg6 arg9 arg16 c W1 W2 m hpos 5 (by decide)]; iexact I5
                rw [show Cell arg4 arg6 arg9 arg16 c W1 W2 m (24 * 0 + 6) = _ from cell_start arg4 arg6 arg9 arg16 c W1 W2 m hpos 6 (by decide)]; iexact I6
              iexact I7
            isplitl [P0]; · rw [show SCellP arg10 arg5 arg17 c V5 m 0 = SFlyP arg10 arg5 arg17 c V5 (slot2 0) (exF m 0) from if_pos hpos]; iexact P0
            isplitl [P1]; · iexact P1
            isplitl [Q0]; · rw [show SCellQ arg11 arg7 arg18 c V7 m 0 = SFlyQ arg11 arg7 arg18 c V7 (slot2 0) (exF m 0) from if_pos hpos]; iexact Q0
            isplitl [Q1]; · iexact Q1
            isplitl [HL]; · iexact HL
            isplitl [HD]; · iexact HD
            isplitl [HW]; · iexact HW
            isplitl [H1]; · iexact H1
            isplitl [HH]; · iexact HH
            isplitl [H2]; · iexact H2
            isplitl [H3]; · iexact H3
            isplitl [HA]; · iexact HA
            isplitl [H0]; · iexact H0
            iexact HO

          isplitl [HL]; · iexact HL
          isplitl [I5]; · iexact I5
          isplitl [I6]; · iexact I6
          isplitl [HA]; · iexact HA
          isplitl [I0]; · iexact I0
          isplitl [I1]; · iexact I1
          isplitl [I2]; · iexact I2
          isplitl [I3]; · iexact I3
          isplitl [I4]; · iexact I4
          isplitl [P0]; · iexact P0
          isplitl [Q0]; · iexact Q0
          isplitl [H0]; · iexact H0
          isplitl [H1]; · iexact H1
          isplitl [H2]; · iexact H2
          isplitl [H3]; · iexact H3
          isplitl [I7]; · iexact I7
          isplitl [P1]; · iexact P1
          isplitl [Q1]; · iexact Q1
          isplitl [HD]; · iexact HD
          isplitl [HH]; · iexact HH
          isplitl [HO]; · iexact HO
          iexact HW

        isplitl [HL]; · iexact HL
        isplitl [I2]; · iexact I2
        isplitl [I3]; · iexact I3
        isplitl [I4]; · iexact I4
        isplitl [I0]; · iexact I0
        isplitl [I1]; · iexact I1
        isplitl [P0]; · iexact P0
        isplitl [Q0]; · iexact Q0
        isplitl [H0]; · iexact H0
        isplitl [H1]; · iexact H1
        isplitl [H2]; · iexact H2
        isplitl [H3]; · iexact H3
        isplitl [I5]; · iexact I5
        isplitl [I6]; · iexact I6
        isplitl [I7]; · iexact I7
        isplitl [P1]; · iexact P1
        isplitl [Q1]; · iexact Q1
        isplitl [HD]; · iexact HD
        isplitl [HH]; · iexact HH
        isplitl [HA]; · iexact HA
        isplitl [HO]; · iexact HO
        iexact HW

      isplitl [HL]; · iexact HL
      isplitl [I0]; · iexact I0
      isplitl [I1]; · iexact I1
      isplitl [P0]; · iexact P0
      isplitl [Q0]; · iexact Q0
      isplitl [H0]; · iexact H0
      isplitl [H1]; · iexact H1
      isplitl [H2]; · iexact H2
      isplitl [H3]; · iexact H3
      isplitl [I2]; · iexact I2
      isplitl [I3]; · iexact I3
      isplitl [I4]; · iexact I4
      isplitl [I5]; · iexact I5
      isplitl [I6]; · iexact I6
      isplitl [I7]; · iexact I7
      isplitl [P1]; · iexact P1
      isplitl [Q1]; · iexact Q1
      isplitl [HD]; · iexact HD
      isplitl [HH]; · iexact HH
      isplitl [HA]; · iexact HA
      isplitl [HO]; · iexact HO
      iexact HW

    isplitl [HL]; · iexact HL
    isplitl [P0]; · iexact P0
    isplitl [Q0]; · iexact Q0
    isplitl [H0]; · iexact H0
    isplitl [H1]; · iexact H1
    isplitl [H2]; · iexact H2
    isplitl [H3]; · iexact H3
    isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [P1]; · iexact P1
    isplitl [Q1]; · iexact Q1
    isplitl [HD]; · iexact HD
    isplitl [HH]; · iexact HH
    isplitl [HA]; · iexact HA
    isplitl [HO]; · iexact HO
    iexact HW

  isplitl [H0]; · iexact H0
  isplitl [HL]; · iexact HL
  isplitl [H1]; · iexact H1
  isplitl [H2]; · iexact H2
  isplitl [H3]; · iexact H3
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [P0]; · iexact P0
  isplitl [P1]; · iexact P1
  isplitl [Q0]; · iexact Q0
  isplitl [Q1]; · iexact Q1
  isplitl [HD]; · iexact HD
  isplitl [HH]; · iexact HH
  isplitl [HA]; · iexact HA
  isplitl [HO]; · iexact HO
  iexact HW

end Cert.KernelIdeal.Own
-- ==== Proof.KernelIdeal.Split.lean ====
/- The buffers the region hands the body, cut into the slots of the rings and the shares the copies use; and put together again. -/
module

public import proofs.«01_k».proof.Proof.KernelIdeal.Body
public import proofs.«01_k».proof.Proof.Gen.KernelIdeal.Launch

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UU nD τ) ℕ

set_option maxHeartbeats 1000000

/-! ## The operands -/

abbrev M4 : Memref sig .tc .hbm S8x2x4096x1024 .i8 := Memref.whole main_v5
abbrev M5 : Memref sig .tc .hbm S8x16x8192 .bf16 := Memref.whole main_v6
abbrev M6 : Memref sig .tc .hbm S8x2048x2048 .i8 := Memref.whole main_arg5
abbrev M7 : Memref sig .tc .hbm S8x32x2048 .bf16 := Memref.whole main_v7
abbrev M9 : Memref sig .tc .vmem S8x2x256x1024 .i8 := Memref.whole cc0_scratch0
abbrev M10 : Memref sig .tc .vmem S2x16x8192 .bf16 := Memref.whole cc0_scratch1
abbrev M11 : Memref sig .tc .vmem S2x32x2048 .bf16 := Memref.whole cc0_scratch2

/-! ## Which elements a slot holds -/

theorem ring_slot (s : Fin 8) (x : S8x2x256x1024.Idx) : x ∈ (slotM M9 s).view.set ↔ x 0 = s := by
  constructor
  · intro h
    obtain ⟨y, -, rfl⟩ := Finset.mem_map.mp h
    have e : y = ix3 (y 0) (y 1) (y 2) := by funext a; fin_cases a <;> rfl
    rw [e]
    exact congrFun (slot_emb M9 s (y 0) (y 1) (y 2)) 0
  · rintro rfl
    have := mem_slot_set M9 (x 0) (x 1) (x 2) (x 3)
    rwa [show M9.view.emb (ix4 (x 0) (x 1) (x 2) (x 3)) = x from by funext a; fin_cases a <;> rfl] at this

theorem P_slot (s : Fin 2) (x : S2x16x8192.Idx) : x ∈ (dMP M10 s).view.set ↔ x 0 = s := by
  constructor
  · intro h
    obtain ⟨y, -, rfl⟩ := Finset.mem_map.mp h
    have e : y = ix2 (y 0) (y 1) := by funext a; fin_cases a <;> rfl
    rw [e]
    exact congrFun (dP_emb M10 s (y 0) (y 1)) 0
  · rintro rfl
    have := mem_dP_set M10 (x 0) (x 1) (x 2)
    rwa [show M10.view.emb (ix3 (x 0) (x 1) (x 2)) = x from by funext a; fin_cases a <;> rfl] at this

theorem Q_slot (s : Fin 2) (x : S2x32x2048.Idx) : x ∈ (dMQ M11 s).view.set ↔ x 0 = s := by
  constructor
  · intro h
    obtain ⟨y, -, rfl⟩ := Finset.mem_map.mp h
    have e : y = ix2 (y 0) (y 1) := by funext a; fin_cases a <;> rfl
    rw [e]
    exact congrFun (dQ_emb M11 s (y 0) (y 1)) 0
  · rintro rfl
    have := mem_dQ_set M11 (x 0) (x 1) (x 2)
    rwa [show M11.view.emb (ix3 (x 0) (x 1) (x 2)) = x from by funext a; fin_cases a <;> rfl] at this

/-- Sets that are the fibres of a map are disjoint; -/
theorem fibres_disjoint {A B : Type} [DecidableEq A] (I : B → Finset A) (g : A → B) (h : ∀ b x, x ∈ I b ↔ g x = b) (b b' : B) (hb : b ≠ b') :
    Disjoint (I b) (I b') :=
  Finset.disjoint_left.mpr fun x hx hx' => hb (((h b x).mp hx).symm.trans ((h b' x).mp hx'))
/-- and cover. -/
theorem fibres_cover {A B : Type} [DecidableEq A] [Fintype A] [Fintype B] (I : B → Finset A) (g : A → B) (h : ∀ b x, x ∈ I b ↔ g x = b) :
    Finset.univ.biUnion I = Finset.univ :=
  Finset.eq_univ_iff_forall.mpr fun x => Finset.mem_biUnion.mpr ⟨g x, Finset.mem_univ _, (h _ _).mpr rfl⟩

theorem sep_fin2 {M : Type} [URA M] (Φ : Fin 2 → sProp M) : bigSep Finset.univ Φ = iprop(Φ 0 ∗ Φ 1) :=
  bigSep_univ_eq_bigSepL [(0 : Fin 2), (1 : Fin 2)] (by decide) (by decide) Φ
theorem sep_fin8 {M : Type} [URA M] (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ
theorem sep_fin16 {M : Type} [URA M] (Φ : Fin 16 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide) Φ

/-- A whole buffer and its shares. -/
theorem shares (ℓ : Loc nD τ sig) (f : Buf (Elt F) ℓ) (n : ℕ) :
    (ℓ ↦{fullShare} f : sProp 𝕄) = iprop((ℓ ↦{Transfers.shareDrop fullShare n} f) ∗ bigSep Finset.univ fun i : Fin n => ℓ ↦{Transfers.shareTok fullShare n i} f) :=
  BI.equiv_iff.mp ⟨Transfers.pointsTo_toks_split fullShare n, Transfers.pointsTo_toks_join fullShare n⟩

/-! ## The rings whole, and slot by slot -/

theorem ring_cut (c : Dev nD) : iprop(∃ f : Buf (Elt F) ((c : Thread nD τ).loc cc0_scratch0), ((c : Thread nD τ).loc cc0_scratch0) ↦{fullShare} f)
    ⊢ (bigSep Finset.univ fun s : Fin 8 => iprop(∃ f, (slotM M9 s).view.loc (c : Thread nD τ) ↦[(slotM M9 s).view.set]{fullShare} f) : sProp 𝕄) := by
  iintro ⟨%f, H⟩
  iapply (show (((c : Thread nD τ).loc cc0_scratch0) ↦{fullShare} f : sProp 𝕄) ⊢ (bigSep Finset.univ fun s : Fin 8 => iprop(∃ f, (slotM M9 s).view.loc (c : Thread nD τ) ↦[(slotM M9 s).view.set]{fullShare} f) : sProp 𝕄) from by
    rw [Ring.pointsTo_blocks (ℓ := (c : Thread nD τ).loc cc0_scratch0) (fun s => (slotM M9 s).view.set) (fun s s' h => fibres_disjoint _ (fun x : S8x2x256x1024.Idx => x 0) ring_slot s s' h) (fibres_cover _ (fun x : S8x2x256x1024.Idx => x 0) ring_slot) f]
    exact bigSep_mono fun s _ => (show (((c : Thread nD τ).loc cc0_scratch0) ↦[(slotM M9 s).view.set]{fullShare} f : sProp 𝕄) ⊢ iprop(∃ f, (slotM M9 s).view.loc (c : Thread nD τ) ↦[(slotM M9 s).view.set]{fullShare} f) from by iintro H; iexists f; iexact H))
  iexact H

theorem ring_mend (c : Dev nD) [Nonempty (Buf (Elt F) ((c : Thread nD τ).loc cc0_scratch0))] : (bigSep Finset.univ fun s : Fin 8 => iprop(∃ f, (slotM M9 s).view.loc (c : Thread nD τ) ↦[(slotM M9 s).view.set]{fullShare} f) : sProp 𝕄)
    ⊢ iprop(∃ f : Buf (Elt F) ((c : Thread nD τ).loc cc0_scratch0), ((c : Thread nD τ).loc cc0_scratch0) ↦{fullShare} f) :=
  Ring.pointsTo_blocks_join_exists (ℓ := (c : Thread nD τ).loc cc0_scratch0) (fun s => (slotM M9 s).view.set) (fun s s' h => fibres_disjoint _ (fun x : S8x2x256x1024.Idx => x 0) ring_slot s s' h) (fibres_cover _ (fun x : S8x2x256x1024.Idx => x 0) ring_slot) (Classical.arbitrary _)

theorem P_cut (c : Dev nD) : iprop(∃ f : Buf (Elt F) ((c : Thread nD τ).loc cc0_scratch1), ((c : Thread nD τ).loc cc0_scratch1) ↦{fullShare} f)
    ⊢ (bigSep Finset.univ fun s : Fin 2 => iprop(∃ f, (dMP M10 s).view.loc (c : Thread nD τ) ↦[(dMP M10 s).view.set]{fullShare} f) : sProp 𝕄) := by
  iintro ⟨%f, H⟩
  iapply (show (((c : Thread nD τ).loc cc0_scratch1) ↦{fullShare} f : sProp 𝕄) ⊢ (bigSep Finset.univ fun s : Fin 2 => iprop(∃ f, (dMP M10 s).view.loc (c : Thread nD τ) ↦[(dMP M10 s).view.set]{fullShare} f) : sProp 𝕄) from by
    rw [Ring.pointsTo_blocks (ℓ := (c : Thread nD τ).loc cc0_scratch1) (fun s => (dMP M10 s).view.set) (fun s s' h => fibres_disjoint _ (fun x : S2x16x8192.Idx => x 0) P_slot s s' h) (fibres_cover _ (fun x : S2x16x8192.Idx => x 0) P_slot) f]
    exact bigSep_mono fun s _ => (show (((c : Thread nD τ).loc cc0_scratch1) ↦[(dMP M10 s).view.set]{fullShare} f : sProp 𝕄) ⊢ iprop(∃ f, (dMP M10 s).view.loc (c : Thread nD τ) ↦[(dMP M10 s).view.set]{fullShare} f) from by iintro H; iexists f; iexact H))
  iexact H

theorem P_mend (c : Dev nD) [Nonempty (Buf (Elt F) ((c : Thread nD τ).loc cc0_scratch1))] : (bigSep Finset.univ fun s : Fin 2 => iprop(∃ f, (dMP M10 s).view.loc (c : Thread nD τ) ↦[(dMP M10 s).view.set]{fullShare} f) : sProp 𝕄)
    ⊢ iprop(∃ f : Buf (Elt F) ((c : Thread nD τ).loc cc0_scratch1), ((c : Thread nD τ).loc cc0_scratch1) ↦{fullShare} f) :=
  Ring.pointsTo_blocks_join_exists (ℓ := (c : Thread nD τ).loc cc0_scratch1) (fun s => (dMP M10 s).view.set) (fun s s' h => fibres_disjoint _ (fun x : S2x16x8192.Idx => x 0) P_slot s s' h) (fibres_cover _ (fun x : S2x16x8192.Idx => x 0) P_slot) (Classical.arbitrary _)

theorem Q_cut (c : Dev nD) : iprop(∃ f : Buf (Elt F) ((c : Thread nD τ).loc cc0_scratch2), ((c : Thread nD τ).loc cc0_scratch2) ↦{fullShare} f)
    ⊢ (bigSep Finset.univ fun s : Fin 2 => iprop(∃ f, (dMQ M11 s).view.loc (c : Thread nD τ) ↦[(dMQ M11 s).view.set]{fullShare} f) : sProp 𝕄) := by
  iintro ⟨%f, H⟩
  iapply (show (((c : Thread nD τ).loc cc0_scratch2) ↦{fullShare} f : sProp 𝕄) ⊢ (bigSep Finset.univ fun s : Fin 2 => iprop(∃ f, (dMQ M11 s).view.loc (c : Thread nD τ) ↦[(dMQ M11 s).view.set]{fullShare} f) : sProp 𝕄) from by
    rw [Ring.pointsTo_blocks (ℓ := (c : Thread nD τ).loc cc0_scratch2) (fun s => (dMQ M11 s).view.set) (fun s s' h => fibres_disjoint _ (fun x : S2x32x2048.Idx => x 0) Q_slot s s' h) (fibres_cover _ (fun x : S2x32x2048.Idx => x 0) Q_slot) f]
    exact bigSep_mono fun s _ => (show (((c : Thread nD τ).loc cc0_scratch2) ↦[(dMQ M11 s).view.set]{fullShare} f : sProp 𝕄) ⊢ iprop(∃ f, (dMQ M11 s).view.loc (c : Thread nD τ) ↦[(dMQ M11 s).view.set]{fullShare} f) from by iintro H; iexists f; iexact H))
  iexact H

theorem Q_mend (c : Dev nD) [Nonempty (Buf (Elt F) ((c : Thread nD τ).loc cc0_scratch2))] : (bigSep Finset.univ fun s : Fin 2 => iprop(∃ f, (dMQ M11 s).view.loc (c : Thread nD τ) ↦[(dMQ M11 s).view.set]{fullShare} f) : sProp 𝕄)
    ⊢ iprop(∃ f : Buf (Elt F) ((c : Thread nD τ).loc cc0_scratch2), ((c : Thread nD τ).loc cc0_scratch2) ↦{fullShare} f) :=
  Ring.pointsTo_blocks_join_exists (ℓ := (c : Thread nD τ).loc cc0_scratch2) (fun s => (dMQ M11 s).view.set) (fun s s' h => fibres_disjoint _ (fun x : S2x32x2048.Idx => x 0) Q_slot s s' h) (fibres_cover _ (fun x : S2x32x2048.Idx => x 0) Q_slot) (Classical.arbitrary _)

theorem idles_cut (c : Dev nD) (W1 : Buf (Elt F) (M4.view.loc (c : Thread nD τ))) (W2 : Buf (Elt F) (M6.view.loc (c : Thread nD τ))) :
    (iprop((bigSep Finset.univ fun s : Fin 8 => iprop(∃ f, (slotM M9 s).view.loc (c : Thread nD τ) ↦[(slotM M9 s).view.set]{fullShare} f)) ∗ (semVal ((c : Thread nD τ), SemLoc.dma (wsem cc0_scratch7 0)) 0 ∗ semVal ((c : Thread nD τ), SemLoc.dma (wsem cc0_scratch7 1)) 0 ∗ semVal ((c : Thread nD τ), SemLoc.dma (wsem cc0_scratch7 2)) 0 ∗ semVal ((c : Thread nD τ), SemLoc.dma (wsem cc0_scratch7 3)) 0 ∗ semVal ((c : Thread nD τ), SemLoc.dma (wsem cc0_scratch7 4)) 0 ∗ semVal ((c : Thread nD τ), SemLoc.dma (wsem cc0_scratch7 5)) 0 ∗ semVal ((c : Thread nD τ), SemLoc.dma (wsem cc0_scratch7 6)) 0 ∗ semVal ((c : Thread nD τ), SemLoc.dma (wsem cc0_scratch7 7)) 0) ∗ (M4.view.loc (c : Thread nD τ) ↦{fullShare} W1) ∗ (M6.view.loc (c : Thread nD τ) ↦{fullShare} W2)) : sProp 𝕄)
      ⊢ iprop(Idles M4 M6 M9 cc0_scratch7 c W1 W2 ∗ (M4.view.loc (c : Thread nD τ) ↦{Transfers.shareDrop fullShare 8} W1) ∗ (M6.view.loc (c : Thread nD τ) ↦{Transfers.shareDrop fullShare 16} W2)) := by
  rw [sep_fin8, shares (M4.view.loc (c : Thread nD τ)) W1 8, shares (M6.view.loc (c : Thread nD τ)) W2 16, sep_fin8, sep_fin16]
  unfold Idles Idle Toks
  iintro ⟨⟨B0, B1, B2, B3, B4, B5, B6, B7⟩, ⟨S0, S1, S2, S3, S4, S5, S6, S7⟩, ⟨A, A0, A1, A2, A3, A4, A5, A6, A7⟩, ⟨T, T0, T1, T2, T3, T4, T5, T6, T7, T8, T9, T10, T11, T12, T13, T14, T15⟩⟩
  isplitl [B0 B1 B2 B3 B4 B5 B6 B7 S0 S1 S2 S3 S4 S5 S6 S7 A0 A1 A2 A3 A4 A5 A6 A7 T0 T1 T2 T3 T4 T5 T6 T7 T8 T9 T10 T11 T12 T13 T14 T15]
  · isplitl [B0 S0 A0 T0 T1]
    · isplitl [B0]; · iexact B0
      isplitl [S0]; · iexact S0
      isplitl [A0]; · iexact A0
      isplitl [T0]; · iexact T0
      iexact T1
    isplitl [B1 S1 A1 T2 T3]
    · isplitl [B1]; · iexact B1
      isplitl [S1]; · iexact S1
      isplitl [A1]; · iexact A1
      isplitl [T2]; · iexact T2
      iexact T3
    isplitl [B2 S2 A2 T4 T5]
    · isplitl [B2]; · iexact B2
      isplitl [S2]; · iexact S2
      isplitl [A2]; · iexact A2
      isplitl [T4]; · iexact T4
      iexact T5
    isplitl [B3 S3 A3 T6 T7]
    · isplitl [B3]; · iexact B3
      isplitl [S3]; · iexact S3
      isplitl [A3]; · iexact A3
      isplitl [T6]; · iexact T6
      iexact T7
    isplitl [B4 S4 A4 T8 T9]
    · isplitl [B4]; · iexact B4
      isplitl [S4]; · iexact S4
      isplitl [A4]; · iexact A4
      isplitl [T8]; · iexact T8
      iexact T9
    isplitl [B5 S5 A5 T10 T11]
    · isplitl [B5]; · iexact B5
      isplitl [S5]; · iexact S5
      isplitl [A5]; · iexact A5
      isplitl [T10]; · iexact T10
      iexact T11
    isplitl [B6 S6 A6 T12 T13]
    · isplitl [B6]; · iexact B6
      isplitl [S6]; · iexact S6
      isplitl [A6]; · iexact A6
      isplitl [T12]; · iexact T12
      iexact T13
    isplitl [B7]; · iexact B7
    isplitl [S7]; · iexact S7
    isplitl [A7]; · iexact A7
    isplitl [T14]; · iexact T14
    iexact T15
  isplitl [A]; · iexact A
  iexact T

theorem idles_mend (c : Dev nD) (W1 : Buf (Elt F) (M4.view.loc (c : Thread nD τ))) (W2 : Buf (Elt F) (M6.view.loc (c : Thread nD τ))) :
    (iprop(Idles M4 M6 M9 cc0_scratch7 c W1 W2 ∗ (M4.view.loc (c : Thread nD τ) ↦{Transfers.shareDrop fullShare 8} W1) ∗ (M6.view.loc (c : Thread nD τ) ↦{Transfers.shareDrop fullShare 16} W2)) : sProp 𝕄)
      ⊢ iprop((bigSep Finset.univ fun s : Fin 8 => iprop(∃ f, (slotM M9 s).view.loc (c : Thread nD τ) ↦[(slotM M9 s).view.set]{fullShare} f)) ∗ (semVal ((c : Thread nD τ), SemLoc.dma (wsem cc0_scratch7 0)) 0 ∗ semVal ((c : Thread nD τ), SemLoc.dma (wsem cc0_scratch7 1)) 0 ∗ semVal ((c : Thread nD τ), SemLoc.dma (wsem cc0_scratch7 2)) 0 ∗ semVal ((c : Thread nD τ), SemLoc.dma (wsem cc0_scratch7 3)) 0 ∗ semVal ((c : Thread nD τ), SemLoc.dma (wsem cc0_scratch7 4)) 0 ∗ semVal ((c : Thread nD τ), SemLoc.dma (wsem cc0_scratch7 5)) 0 ∗ semVal ((c : Thread nD τ), SemLoc.dma (wsem cc0_scratch7 6)) 0 ∗ semVal ((c : Thread nD τ), SemLoc.dma (wsem cc0_scratch7 7)) 0) ∗ (M4.view.loc (c : Thread nD τ) ↦{fullShare} W1) ∗ (M6.view.loc (c : Thread nD τ) ↦{fullShare} W2)) := by
  rw [sep_fin8, shares (M4.view.loc (c : Thread nD τ)) W1 8, shares (M6.view.loc (c : Thread nD τ)) W2 16, sep_fin8, sep_fin16]
  unfold Idles Idle Toks
  iintro ⟨⟨⟨B0, S0, A0, T0, T1⟩, ⟨B1, S1, A1, T2, T3⟩, ⟨B2, S2, A2, T4, T5⟩, ⟨B3, S3, A3, T6, T7⟩, ⟨B4, S4, A4, T8, T9⟩, ⟨B5, S5, A5, T10, T11⟩, ⟨B6, S6, A6, T12, T13⟩, ⟨B7, S7, A7, T14, T15⟩⟩, A, T⟩
  isplitl [B0 B1 B2 B3 B4 B5 B6 B7]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [A A0 A1 A2 A3 A4 A5 A6 A7]
  · isplitl [A]; · iexact A
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [T]; · iexact T
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  iexact T15

theorem scalesP_cut (c : Dev nD) (V : Buf (Elt F) (M5.view.loc (c : Thread nD τ))) :
    (iprop((bigSep Finset.univ fun s : Fin 2 => iprop(∃ f, (dMP M10 s).view.loc (c : Thread nD τ) ↦[(dMP M10 s).view.set]{fullShare} f)) ∗ (semVal ((c : Thread nD τ), SemLoc.dma (ssem cc0_scratch8 0)) 0 ∗ semVal ((c : Thread nD τ), SemLoc.dma (ssem cc0_scratch8 1)) 0) ∗ (M5.view.loc (c : Thread nD τ) ↦{fullShare} V)) : sProp 𝕄)
      ⊢ iprop(((SIdleP M10 M5 cc0_scratch8 c V 0) ∗ (SIdleP M10 M5 cc0_scratch8 c V 1)) ∗ (M5.view.loc (c : Thread nD τ) ↦{Transfers.shareDrop fullShare 2} V)) := by
  rw [sep_fin2, shares (M5.view.loc (c : Thread nD τ)) V 2, sep_fin2]
  unfold SIdleP
  iintro ⟨⟨B0, B1⟩, ⟨S0, S1⟩, ⟨A, A0, A1⟩⟩
  isplitl [B0 B1 S0 S1 A0 A1]
  · isplitl [B0 S0 A0]
    · isplitl [B0]; · iexact B0
      isplitl [S0]; · iexact S0
      iexact A0
    isplitl [B1]; · iexact B1
    isplitl [S1]; · iexact S1
    iexact A1
  iexact A

theorem scalesP_mend (c : Dev nD) (V : Buf (Elt F) (M5.view.loc (c : Thread nD τ))) :
    (iprop(((SIdleP M10 M5 cc0_scratch8 c V 0) ∗ (SIdleP M10 M5 cc0_scratch8 c V 1)) ∗ (M5.view.loc (c : Thread nD τ) ↦{Transfers.shareDrop fullShare 2} V)) : sProp 𝕄)
      ⊢ iprop((bigSep Finset.univ fun s : Fin 2 => iprop(∃ f, (dMP M10 s).view.loc (c : Thread nD τ) ↦[(dMP M10 s).view.set]{fullShare} f)) ∗ (semVal ((c : Thread nD τ), SemLoc.dma (ssem cc0_scratch8 0)) 0 ∗ semVal ((c : Thread nD τ), SemLoc.dma (ssem cc0_scratch8 1)) 0) ∗ (M5.view.loc (c : Thread nD τ) ↦{fullShare} V)) := by
  rw [sep_fin2, shares (M5.view.loc (c : Thread nD τ)) V 2, sep_fin2]
  unfold SIdleP
  iintro ⟨⟨⟨B0, S0, A0⟩, ⟨B1, S1, A1⟩⟩, A⟩
  isplitl [B0 B1]
  · isplitl [B0]; · iexact B0
    iexact B1
  isplitl [S0 S1]
  · isplitl [S0]; · iexact S0
    iexact S1
  isplitl [A]; · iexact A
  isplitl [A0]; · iexact A0
  iexact A1

theorem scalesQ_cut (c : Dev nD) (V : Buf (Elt F) (M7.view.loc (c : Thread nD τ))) :
    (iprop((bigSep Finset.univ fun s : Fin 2 => iprop(∃ f, (dMQ M11 s).view.loc (c : Thread nD τ) ↦[(dMQ M11 s).view.set]{fullShare} f)) ∗ (semVal ((c : Thread nD τ), SemLoc.dma (ssem cc0_scratch9 0)) 0 ∗ semVal ((c : Thread nD τ), SemLoc.dma (ssem cc0_scratch9 1)) 0) ∗ (M7.view.loc (c : Thread nD τ) ↦{fullShare} V)) : sProp 𝕄)
      ⊢ iprop(((SIdleQ M11 M7 cc0_scratch9 c V 0) ∗ (SIdleQ M11 M7 cc0_scratch9 c V 1)) ∗ (M7.view.loc (c : Thread nD τ) ↦{Transfers.shareDrop fullShare 2} V)) := by
  rw [sep_fin2, shares (M7.view.loc (c : Thread nD τ)) V 2, sep_fin2]
  unfold SIdleQ
  iintro ⟨⟨B0, B1⟩, ⟨S0, S1⟩, ⟨A, A0, A1⟩⟩
  isplitl [B0 B1 S0 S1 A0 A1]
  · isplitl [B0 S0 A0]
    · isplitl [B0]; · iexact B0
      isplitl [S0]; · iexact S0
      iexact A0
    isplitl [B1]; · iexact B1
    isplitl [S1]; · iexact S1
    iexact A1
  iexact A

theorem scalesQ_mend (c : Dev nD) (V : Buf (Elt F) (M7.view.loc (c : Thread nD τ))) :
    (iprop(((SIdleQ M11 M7 cc0_scratch9 c V 0) ∗ (SIdleQ M11 M7 cc0_scratch9 c V 1)) ∗ (M7.view.loc (c : Thread nD τ) ↦{Transfers.shareDrop fullShare 2} V)) : sProp 𝕄)
      ⊢ iprop((bigSep Finset.univ fun s : Fin 2 => iprop(∃ f, (dMQ M11 s).view.loc (c : Thread nD τ) ↦[(dMQ M11 s).view.set]{fullShare} f)) ∗ (semVal ((c : Thread nD τ), SemLoc.dma (ssem cc0_scratch9 0)) 0 ∗ semVal ((c : Thread nD τ), SemLoc.dma (ssem cc0_scratch9 1)) 0) ∗ (M7.view.loc (c : Thread nD τ) ↦{fullShare} V)) := by
  rw [sep_fin2, shares (M7.view.loc (c : Thread nD τ)) V 2, sep_fin2]
  unfold SIdleQ
  iintro ⟨⟨⟨B0, S0, A0⟩, ⟨B1, S1, A1⟩⟩, A⟩
  isplitl [B0 B1]
  · isplitl [B0]; · iexact B0
    iexact B1
  isplitl [S0 S1]
  · isplitl [S0]; · iexact S0
    iexact S1
  isplitl [A]; · iexact A
  isplitl [A0]; · iexact A0
  iexact A1

/-! ## Whole staging buffers -/

theorem held_of_owns (c : Dev nD) {cs : CoreSpace} {sh : Shape} {e : EltTy} (m : Memref sig .tc cs sh e) (hm : m.IsWhole) (q : PosShare TreeShare) (X : sh.Idx → Elt F e) :
    (owns (c : Thread nD τ) m q X : sProp 𝕄) ⊢ Held c m q X := by
  unfold owns Held
  rw [hm.set_eq_univ]
  iintro ⟨%f, %hf, H⟩
  iexists f
  isplitl [H]; · iexact H
  ipureintro; exact fun x => congrFun hf x

theorem owns_of_held (c : Dev nD) {cs : CoreSpace} {sh : Shape} {e : EltTy} (m : Memref sig .tc cs sh e) (hm : m.IsWhole) (q : PosShare TreeShare) (X : sh.Idx → Elt F e) :
    (Held c m q X : sProp 𝕄) ⊢ owns (c : Thread nD τ) m q X := by
  unfold owns Held
  rw [hm.set_eq_univ]
  iintro ⟨%f, H, %hf⟩
  iexists f
  isplitr
  · ipureintro; exact funext hf
  iexact H

theorem held_of_some (c : Dev nD) {cs : CoreSpace} {sh : Shape} {e : EltTy} (m : Memref sig .tc cs sh e) :
    (iprop(∃ f : Buf (Elt F) (m.view.loc (c : Thread nD τ)), m.view.loc (c : Thread nD τ) ↦{fullShare} f) : sProp 𝕄) ⊢ iprop(∃ X, Held c m fullShare X) := by
  unfold Held
  iintro ⟨%f, H⟩
  iexists (m.view.read (Elt F) f)
  iexists f
  isplitl [H]; · iexact H
  ipureintro; exact fun _ => rfl

theorem some_of_held (c : Dev nD) {cs : CoreSpace} {sh : Shape} {e : EltTy} (m : Memref sig .tc cs sh e) :
    (iprop(∃ X, Held c m fullShare X) : sProp 𝕄) ⊢ iprop(∃ f : Buf (Elt F) (m.view.loc (c : Thread nD τ)), m.view.loc (c : Thread nD τ) ↦{fullShare} f) := by
  unfold Held
  iintro ⟨%X, %f, H, -⟩
  iexists f; iexact H

end Cert.KernelIdeal.Own
-- ==== Proof.KernelIdeal.Launch.lean ====
/- The launch of the kernel: what the region starts from and ends with, the body at its one grid point, and the run of the whole program. -/
module

public import proofs.«01_k».proof.Proof.KernelIdeal.Split
public import proofs.«01_k».proof.Proof.Gen.KernelIdeal.Frame
public import Idealize.ShloMosaic.Lib.Pipeline.FrameBody
public import Idealize.ShloMosaic.Lib.Pipeline.Value
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## @main around the region -/

set_option maxHeartbeats 800000 in
theorem hmain : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The arrays the body copies from itself. -/
def H0 : Finset (Ref sig .tc) := {main_v5, main_v6, main_arg5, main_v7}
theorem H0_sub : H0 ⊆ Pipeline.restRefs sig spec0 := by decide

theorem sfx_sub' : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  intro b hb h
  have hb' : b ≠ main_v8 ∧ b ≠ main_v9 := (by decide : ∀ b ∈ H0, b ≠ main_v8 ∧ b ≠ main_v9) b hb
  rcases Finset.mem_insert.mp h with h | h
  · exact hb'.1 (Proc.devRef_injective _ h)
  · exact hb'.2 (Proc.devRef_injective _ (Finset.mem_singleton.mp h))

theorem W_arg0 (dats : (p : Fin _) → (c : Dev nD) → Dat τ (Elt F) Unit ℕ (UU nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_arg1 (dats : (p : Fin _) → (c : Dev nD) → Dat τ (Elt F) Unit ℕ (UU nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_arg2 (dats : (p : Fin _) → (c : Dev nD) → Dat τ (Elt F) Unit ℕ (UU nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_arg3 (dats : (p : Fin _) → (c : Dev nD) → Dat τ (Elt F) Unit ℕ (UU nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_arg4 (dats : (p : Fin _) → (c : Dev nD) → Dat τ (Elt F) Unit ℕ (UU nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_arg5 (dats : (p : Fin _) → (c : Dev nD) → Dat τ (Elt F) Unit ℕ (UU nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_arg6 (dats : (p : Fin _) → (c : Dev nD) → Dat τ (Elt F) Unit ℕ (UU nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The semaphores the body uses -/

abbrev osem0 : Fin 12 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16] : Fin 12 → SemLoc sig) j
theorem ownSemFacts0 : Pipeline.OwnSemFacts spec0 osem0 := by decide

theorem ownSems0_list (c : Dev nD) :
    (Pipeline.ownSems0 (Ix := Unit) (Name := ℕ) (U := UU nD τ) (Lvl := ℕ) (Val := Elt F) (τ := τ) osem0 c : sProp 𝕄)
      = iprop(semVal ((c : Thread nD τ), SemLoc.dma (wsem cc0_scratch7 0)) 0 ∗ semVal ((c : Thread nD τ), SemLoc.dma (wsem cc0_scratch7 1)) 0 ∗ semVal ((c : Thread nD τ), SemLoc.dma (wsem cc0_scratch7 2)) 0 ∗ semVal ((c : Thread nD τ), SemLoc.dma (wsem cc0_scratch7 3)) 0 ∗ semVal ((c : Thread nD τ), SemLoc.dma (wsem cc0_scratch7 4)) 0 ∗ semVal ((c : Thread nD τ), SemLoc.dma (wsem cc0_scratch7 5)) 0 ∗ semVal ((c : Thread nD τ), SemLoc.dma (wsem cc0_scratch7 6)) 0 ∗ semVal ((c : Thread nD τ), SemLoc.dma (wsem cc0_scratch7 7)) 0 ∗ semVal ((c : Thread nD τ), SemLoc.dma (ssem cc0_scratch8 0)) 0 ∗ semVal ((c : Thread nD τ), SemLoc.dma (ssem cc0_scratch8 1)) 0 ∗ semVal ((c : Thread nD τ), SemLoc.dma (ssem cc0_scratch9 0)) 0 ∗ semVal ((c : Thread nD τ), SemLoc.dma (ssem cc0_scratch9 1)) 0) := by
  rw [Pipeline.ownSems0_eq_of_list c osem0 [0, 1, 2, 3, 4, 5, 6, 7, 8, 9, 10, 11] (by decide) (by decide)]
  rw [show wsem cc0_scratch7 0 = 5 from by decide, show wsem cc0_scratch7 1 = 6 from by decide, show wsem cc0_scratch7 2 = 7 from by decide, show wsem cc0_scratch7 3 = 8 from by decide, show wsem cc0_scratch7 4 = 9 from by decide, show wsem cc0_scratch7 5 = 10 from by decide, show wsem cc0_scratch7 6 = 11 from by decide, show wsem cc0_scratch7 7 = 12 from by decide,
    show ssem cc0_scratch8 0 = 13 from by decide, show ssem cc0_scratch8 1 = 14 from by decide, show ssem cc0_scratch9 0 = 15 from by decide, show ssem cc0_scratch9 1 = 16 from by decide]
  rfl

theorem H0_list (c : Dev nD) :
    (bigSep H0 (fun b => ((c : Thread nD τ).loc b) ↦{fullShare} V m c b) : sProp 𝕄)
      = iprop((((c : Thread nD τ).loc main_v5) ↦{fullShare} V m c main_v5) ∗ (((c : Thread nD τ).loc main_v6) ↦{fullShare} V m c main_v6)
          ∗ (((c : Thread nD τ).loc main_arg5) ↦{fullShare} V m c main_arg5) ∗ (((c : Thread nD τ).loc main_v7) ↦{fullShare} V m c main_v7)) := by
  rw [BI.bigSep_eq_bigSepL_of_eq [main_v5, main_v6, main_arg5, main_v7] (by decide) (by decide)]; rfl

/-! ## The proof data -/

/-- What the body leaves in the result's buffer. -/
abbrev resultV (c : Dev nD) : S48x2048.Idx → Elt F .bf16 :=
  k0_pay7 (accAt M4 M5 M6 M7 c (V m c main_v5) (V m c main_arg5) (V m c main_v6) (V m c main_v7) (maskF (V m c main_v1)) (V m c main_v4)
    (V m c main_v1) (V m c main_v3) (k0_pay154 (F := F)) (popN (maskF (V m c main_v1)).val))

def dats (_ : Fin 1) (c : Dev nD) : Dat τ (Elt F) Unit ℕ (UU nD τ) ℕ cfg0 c where
  A w := V m c (Pipeline.arrRef spec0 w)
  after w t := match w with
    | ⟨0, _⟩ => V m c main_v1
    | ⟨1, _⟩ => V m c main_v4
    | ⟨2, _⟩ => V m c main_v1
    | ⟨3, _⟩ => V m c main_v3
    | ⟨4, _⟩ => resultV m c
  Φ _ := Pipeline.ΦD osem0 spec0 H0 (V m) c
  q w := Pipeline.shareOf spec0 w
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = V m c main_v1 := by
  unfold Dat.before
  rw [if_pos (fetch0_0 t)]
  funext y
  refine (show _ = V m c main_v1 _ from rfl).trans (congrArg (V m c main_v1) (a₂ := y) ?_)
  funext a; apply Fin.ext
  fin_cases a
  · show 0 * _ + 1 * (y 0).val = (y 0).val; omega
  · show 0 * _ + 1 * (y 1).val = (y 1).val; omega

theorem before1 (c : Dev nD) (t : Fin cfg0.N) (d) : (dats m 0 c).before 1 t d = V m c main_v4 := by
  unfold Dat.before
  rw [if_pos (fetch0_1 t)]
  funext y
  refine (show _ = V m c main_v4 _ from rfl).trans (congrArg (V m c main_v4) (a₂ := y) ?_)
  funext a; apply Fin.ext
  fin_cases a
  · show 0 * _ + 1 * (y 0).val = (y 0).val; omega
  · show 0 * _ + 1 * (y 1).val = (y 1).val; omega

theorem before2 (c : Dev nD) (t : Fin cfg0.N) (d) : (dats m 0 c).before 2 t d = V m c main_v1 := by
  unfold Dat.before
  rw [if_pos (fetch0_2 t)]
  funext y
  refine (show _ = V m c main_v1 _ from rfl).trans (congrArg (V m c main_v1) (a₂ := y) ?_)
  funext a; apply Fin.ext
  fin_cases a
  · show 0 * _ + 1 * (y 0).val = (y 0).val; omega
  · show 0 * _ + 1 * (y 1).val = (y 1).val; omega

theorem before3 (c : Dev nD) (t : Fin cfg0.N) (d) : (dats m 0 c).before 3 t d = V m c main_v3 := by
  unfold Dat.before
  rw [if_pos (fetch0_3 t)]
  funext y
  refine (show _ = V m c main_v3 _ from rfl).trans (congrArg (V m c main_v3) (a₂ := y) ?_)
  funext a; apply Fin.ext
  fin_cases a
  · show 0 * _ + 1 * (y 0).val = (y 0).val; omega
  · show 0 * _ + 1 * (y 1).val = (y 1).val; omega

theorem after4 (c : Dev nD) (t : Fin cfg0.N) : (dats m 0 c).after 4 t = resultV m c := by dsimp only [dats]

/-! ## The body at the one grid point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t))

/-- What of the invariant the body does not use. -/
def Kept (c : Dev nD) : sProp 𝕄 :=
  iprop((∃ r, prngReg c r) ∗ ((M4.view.loc (c : Thread nD τ) ↦{Transfers.shareDrop fullShare 8} V m c main_v5)
    ∗ (M6.view.loc (c : Thread nD τ) ↦{Transfers.shareDrop fullShare 16} V m c main_arg5))
    ∗ (M5.view.loc (c : Thread nD τ) ↦{Transfers.shareDrop fullShare 2} V m c main_v6)
    ∗ (M7.view.loc (c : Thread nD τ) ↦{Transfers.shareDrop fullShare 2} V m c main_v7))

/-- What of the invariant the body uses. -/
def Used (c : Dev nD) : sProp 𝕄 :=
  iprop(Idles M4 M6 M9 cc0_scratch7 c (V m c main_v5) (V m c main_arg5)
    ∗ (SIdleP M10 M5 cc0_scratch8 c (V m c main_v6) 0 ∗ SIdleP M10 M5 cc0_scratch8 c (V m c main_v6) 1)
    ∗ (SIdleQ M11 M7 cc0_scratch9 c (V m c main_v7) 0 ∗ SIdleQ M11 M7 cc0_scratch9 c (V m c main_v7) 1)
    ∗ (∃ L, Held (F := F) c (Memref.whole cc0_scratch6 : Memref sig .tc .smem S9 .i32) fullShare L)
    ∗ (∃ D, Held c (Memref.whole cc0_scratch3 : Memref sig .tc .vmem S2x16x256 .bf16) fullShare D)
    ∗ (∃ H, Held c (Memref.whole cc0_scratch4 : Memref sig .tc .vmem S48x4096 .bf16) fullShare H)
    ∗ (∃ Y, Held c (Memref.whole cc0_scratch5 : Memref sig .tc .vmem S48x2048 .f32) fullShare Y))

theorem phi_cut (c : Dev nD) : Pipeline.ΦD osem0 spec0 H0 (V m) c ⊢ iprop(Used m c ∗ Kept m c) := by
  rw [Pipeline.ΦD_eq, scopedRest0_eq, ownSems0_list, H0_list]
  unfold Used Kept
  iintro ⟨⟨B0, B1, B2, B3, B4, B5, B6⟩, R, ⟨S0, S1, S2, S3, S4, S5, S6, S7, P0, P1, Q0, Q1⟩, ⟨V5, V6, A5, V7⟩⟩
  ihave B0 := (ring_cut c) $$ B0
  ihave B1 := (P_cut c) $$ B1
  ihave B2 := (Q_cut c) $$ B2
  ihave I := (idles_cut c (V m c main_v5) (V m c main_arg5)) $$ [B0 S0 S1 S2 S3 S4 S5 S6 S7 V5 A5]
  · isplitl [B0]; · iexact B0
    isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [V5]; · iexact V5
    iexact A5
  icases I with ⟨I, IA, IB⟩
  ihave P := (scalesP_cut c (V m c main_v6)) $$ [B1 P0 P1 V6]
  · isplitl [B1]; · iexact B1
    isplitl [P0 P1]
    · isplitl [P0]; · iexact P0
      iexact P1
    iexact V6
  icases P with ⟨P, PA⟩
  ihave Q := (scalesQ_cut c (V m c main_v7)) $$ [B2 Q0 Q1 V7]
  · isplitl [B2]; · iexact B2
    isplitl [Q0 Q1]
    · isplitl [Q0]; · iexact Q0
      iexact Q1
    iexact V7
  icases Q with ⟨Q, QA⟩
  isplitl [I P Q B3 B4 B5 B6]
  · isplitl [I]; · iexact I
    isplitl [P]; · iexact P
    isplitl [Q]; · iexact Q
    isplitl [B6]; · iapply (held_of_some c (Memref.whole cc0_scratch6 : Memref sig .tc .smem S9 .i32)); iexact B6
    isplitl [B3]; · iapply (held_of_some c (Memref.whole cc0_scratch3 : Memref sig .tc .vmem S2x16x256 .bf16)); iexact B3
    isplitl [B4]; · iapply (held_of_some c (Memref.whole cc0_scratch4 : Memref sig .tc .vmem S48x4096 .bf16)); iexact B4
    iapply (held_of_some c (Memref.whole cc0_scratch5 : Memref sig .tc .vmem S48x2048 .f32)); iexact B5
  isplitl [R]; · iexact R
  isplitl [IA IB]
  · isplitl [IA]; · iexact IA
    iexact IB
  isplitl [PA]; · iexact PA
  iexact QA

theorem phi_mend (c : Dev nD) : iprop(Used m c ∗ Kept m c) ⊢ Pipeline.ΦD osem0 spec0 H0 (V m) c := by
  rw [Pipeline.ΦD_eq, scopedRest0_eq, ownSems0_list, H0_list]
  unfold Used Kept
  iintro ⟨⟨I, P, Q, B6, B3, B4, B5⟩, R, ⟨IA, IB⟩, PA, QA⟩
  ihave I := (idles_mend c (V m c main_v5) (V m c main_arg5)) $$ [I IA IB]
  · isplitl [I]; · iexact I
    isplitl [IA]; · iexact IA
    iexact IB
  icases I with ⟨B0, ⟨S0, S1, S2, S3, S4, S5, S6, S7⟩, V5, A5⟩
  ihave P := (scalesP_mend c (V m c main_v6)) $$ [P PA]
  · isplitl [P]; · iexact P
    iexact PA
  icases P with ⟨B1, ⟨P0, P1⟩, V6⟩
  ihave Q := (scalesQ_mend c (V m c main_v7)) $$ [Q QA]
  · isplitl [Q]; · iexact Q
    iexact QA
  icases Q with ⟨B2, ⟨Q0, Q1⟩, V7⟩
  haveI : Nonempty (Buf (Elt F) ((c : Thread nD τ).loc cc0_scratch0)) := ⟨fun _ => (0#8 : BitVec 8)⟩
  haveI : Nonempty (Buf (Elt F) ((c : Thread nD τ).loc cc0_scratch1)) := ⟨fun _ => (FloatOps.ofBits .bf16 0#16 : F .bf16)⟩
  haveI : Nonempty (Buf (Elt F) ((c : Thread nD τ).loc cc0_scratch2)) := ⟨fun _ => (FloatOps.ofBits .bf16 0#16 : F .bf16)⟩
  ihave B0 := (ring_mend c) $$ B0
  ihave B1 := (P_mend c) $$ B1
  ihave B2 := (Q_mend c) $$ B2
  isplitl [B0 B1 B2 B3 B4 B5 B6]
  · isplitl [B0]; · iexact B0
    isplitl [B1]; · iexact B1
    isplitl [B2]; · iexact B2
    isplitl [B3]; · iapply (some_of_held c (Memref.whole cc0_scratch3 : Memref sig .tc .vmem S2x16x256 .bf16)); iexact B3
    isplitl [B4]; · iapply (some_of_held c (Memref.whole cc0_scratch4 : Memref sig .tc .vmem S48x4096 .bf16)); iexact B4
    isplitl [B5]; · iapply (some_of_held c (Memref.whole cc0_scratch5 : Memref sig .tc .vmem S48x2048 .f32)); iexact B5
    iapply (some_of_held c (Memref.whole cc0_scratch6 : Memref sig .tc .smem S9 .i32)); iexact B6
  isplitl [R]; · iexact R
  isplitl [S0 S1 S2 S3 S4 S5 S6 S7 P0 P1 Q0 Q1]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [P0]; · iexact P0
    isplitl [P1]; · iexact P1
    isplitl [Q0]; · iexact Q0
    iexact Q1
  isplitl [V5]; · iexact V5
  isplitl [V6]; · iexact V6
  isplitl [A5]; · iexact A5
  iexact V7

theorem held_before (c : Dev nD) {cs : CoreSpace} {sh : Shape} {e : EltTy} (M : Memref sig .tc cs sh e) (hM : M.IsWhole) (X Y : sh.Idx → Elt F e) (h : X = Y) :
    (owns (c : Thread nD τ) M fullShare X : sProp 𝕄) ⊢ Held c M fullShare Y := by
  subst h; exact held_of_owns c M hM fullShare X

/-- What the body starts from is what its proof needs and what it does not touch; -/
theorem pre_cut (c : Dev nD) (t : Fin cfg0.N) : bodyPre m c t ⊢ iprop((Held (F := F) c (win0_0.stage (cfg0.slots t 0)) fullShare (V m c main_v1) ∗ Held c (win0_1.stage (cfg0.slots t 1)) fullShare (V m c main_v4) ∗ Held (F := F) c (win0_2.stage (cfg0.slots t 2)) fullShare (V m c main_v1) ∗ Held c (win0_3.stage (cfg0.slots t 3)) fullShare (V m c main_v3) ∗ Used m c ∗ (∃ O, Held c (win0_4.stage (cfg0.slots t 4)) fullShare O) ∗ (∃ W, owes (c : Thread nD τ) 0 W)) ∗ Kept m c) := by
  unfold bodyPre
  rw [show (dats m 0 c).Φ t.castSucc = Pipeline.ΦD osem0 spec0 H0 (V m) c from rfl]
  unfold Dat.owesAt Pipeline.owesWithin
  rw [show (dats m 0 c).owed t.castSucc = 0 from rfl]
  iintro ⟨HΦ, ⟨%W, -, HW⟩, ⟨%d0, H0⟩, ⟨%d1, H1⟩, ⟨%d2, H2⟩, ⟨%d3, H3⟩, ⟨%d4, H4⟩⟩
  ihave HΦ := (phi_cut m c) $$ HΦ
  icases HΦ with ⟨U, K⟩
  isplitr [K]
  · isplitl [H0]; · iapply (held_before c (win0_0.stage (cfg0.slots t 0)) (hstage0_0 0) _ (V m c main_v1) (before0 m c t d0)); iexact H0
    isplitl [H1]; · iapply (held_before c (win0_1.stage (cfg0.slots t 1)) (hstage0_1 0) _ (V m c main_v4) (before1 m c t d1)); iexact H1
    isplitl [H2]; · iapply (held_before c (win0_2.stage (cfg0.slots t 2)) (hstage0_2 0) _ (V m c main_v1) (before2 m c t d2)); iexact H2
    isplitl [H3]; · iapply (held_before c (win0_3.stage (cfg0.slots t 3)) (hstage0_3 0) _ (V m c main_v3) (before3 m c t d3)); iexact H3
    isplitl [U]; · iexact U
    isplitl [H4]; · iexists _; iapply (held_of_owns c (win0_4.stage (cfg0.slots t 4)) (hstage0_4 0) fullShare _); iexact H4
    iexists W; iexact HW
  iexact K

/-- and what it ends with makes the invariant again. -/
theorem post_mend (c : Dev nD) (t : Fin cfg0.N) : iprop((Held (F := F) c (win0_0.stage (cfg0.slots t 0)) fullShare (V m c main_v1) ∗ Held c (win0_1.stage (cfg0.slots t 1)) fullShare (V m c main_v4) ∗ Held (F := F) c (win0_2.stage (cfg0.slots t 2)) fullShare (V m c main_v1) ∗ Held c (win0_3.stage (cfg0.slots t 3)) fullShare (V m c main_v3) ∗ Used m c ∗ Held c (win0_4.stage (cfg0.slots t 4)) fullShare (resultV m c) ∗ (∃ W, owes (c : Thread nD τ) 0 W)) ∗ Kept m c) ⊢ bodyPost m c t := by
  unfold bodyPost
  rw [show (dats m 0 c).Φ t.succ = Pipeline.ΦD osem0 spec0 H0 (V m) c from rfl]
  unfold Dat.owesAt Pipeline.owesWithin
  rw [show (dats m 0 c).owed t.succ = 0 from rfl]
  iintro ⟨⟨H0, H1, H2, H3, U, H4, ⟨%W, HW⟩⟩, K⟩
  isplitl [U K]
  · iapply (phi_mend m c)
    isplitl [U]; · iexact U
    iexact K
  isplitl [HW]
  · iexists W; isplitr; · ipureintro; exact fun _ _ => Or.inl trivial
    iexact HW
  isplitl [H0]; · iapply (owns_of_held c (win0_0.stage (cfg0.slots t 0)) (hstage0_0 0) fullShare (V m c main_v1)); iexact H0
  isplitl [H1]; · iapply (owns_of_held c (win0_1.stage (cfg0.slots t 1)) (hstage0_1 0) fullShare (V m c main_v4)); iexact H1
  isplitl [H2]; · iapply (owns_of_held c (win0_2.stage (cfg0.slots t 2)) (hstage0_2 0) fullShare (V m c main_v1)); iexact H2
  isplitl [H3]; · iapply (owns_of_held c (win0_3.stage (cfg0.slots t 3)) (hstage0_3 0) fullShare (V m c main_v3)); iexact H3
  iapply (owns_of_held c (win0_4.stage (cfg0.slots t 4)) (hstage0_4 0) fullShare (resultV m c)); iexact H4

theorem wp_keep {c : Dev nD} {Q : PUnit → sProp 𝕄} {p : Prog (TpuEff nD τ sig (Elt F) Λ₀ .tc) PUnit} {A B K : sProp 𝕄}
    (h : A ⊢ wp frame (wpE defs₀ 𝒱₀ (c : Thread nD τ) none) Set.univ p fun _ => B) (hQ : iprop(B ∗ K) ⊢ Q ⟨⟩) :
    iprop(A ∗ K) ⊢ wp frame (wpE defs₀ 𝒱₀ (c : Thread nD τ) none) Set.univ p Q := by
  exact (sep_mono h .rfl).trans ((wp_frame_r _ _ _).trans (wp_mono _ _ _ fun _ => hQ))

set_option maxHeartbeats 2000000 in
theorem sound_body (hids : ∀ c y, (V m c main_v1 y : BitVec 32).toNat < 8) (c : Dev nD) (t : Fin cfg0.N) :
    bodyPre m c t ⊢ wp frame (wpE (defs₀ (F := F)) 𝒱₀ c none) Set.univ (bodyAt0 t) (fun _ => bodyPost m c t) := by
  refine (pre_cut m c t).trans (wp_keep (A := iprop(Held (F := F) c (win0_0.stage (cfg0.slots t 0)) fullShare (V m c main_v1) ∗ Held c (win0_1.stage (cfg0.slots t 1)) fullShare (V m c main_v4) ∗ Held (F := F) c (win0_2.stage (cfg0.slots t 2)) fullShare (V m c main_v1) ∗ Held c (win0_3.stage (cfg0.slots t 3)) fullShare (V m c main_v3) ∗ Used m c ∗ (∃ O, Held c (win0_4.stage (cfg0.slots t 4)) fullShare O) ∗ (∃ W, owes (c : Thread nD τ) 0 W))) (B := iprop(Held (F := F) c (win0_0.stage (cfg0.slots t 0)) fullShare (V m c main_v1) ∗ Held c (win0_1.stage (cfg0.slots t 1)) fullShare (V m c main_v4) ∗ Held (F := F) c (win0_2.stage (cfg0.slots t 2)) fullShare (V m c main_v1) ∗ Held c (win0_3.stage (cfg0.slots t 3)) fullShare (V m c main_v3) ∗ Used m c ∗ Held c (win0_4.stage (cfg0.slots t 4)) fullShare (resultV m c) ∗ (∃ W, owes (c : Thread nD τ) 0 W))) (K := Kept m c) ?_ (post_mend m c t))
  unfold bodyAt0 Used
  refine (show _ ⊢ _ from by
    iintro ⟨H0, H1, H2, H3, ⟨I, P, Q, L, D, H, Y⟩, O, W⟩
    isplitl [H0]; · iexact H0
    isplitl [H1]; · iexact H1
    isplitl [H2]; · iexact H2
    isplitl [H3]; · iexact H3
    isplitl [I]; · iexact I
    isplitl [P]; · iexact P
    isplitl [Q]; · iexact Q
    isplitl [L]; · iexact L
    isplitl [D]; · iexact D
    isplitl [H]; · iexact H
    isplitl [Y]; · iexact Y
    isplitl [O]; · iexact O
    iexact W).trans (body_ok (c := c) (q0 := fullShare) (q1 := fullShare) (q2 := fullShare) (q3 := fullShare) (ids := V m c main_v1) (hids c) (ids' := V m c main_v1) (X := V m c main_v4) (ew := V m c main_v3)
      (W1 := V m c main_v5) (W2 := V m c main_arg5) (V5 := V m c main_v6) (V7 := V m c main_v7) (Q := fun _ => iprop(Held (F := F) c (win0_0.stage (cfg0.slots t 0)) fullShare (V m c main_v1) ∗ Held c (win0_1.stage (cfg0.slots t 1)) fullShare (V m c main_v4) ∗ Held (F := F) c (win0_2.stage (cfg0.slots t 2)) fullShare (V m c main_v1) ∗ Held c (win0_3.stage (cfg0.slots t 3)) fullShare (V m c main_v3) ∗ (Idles M4 M6 M9 cc0_scratch7 c (V m c main_v5) (V m c main_arg5) ∗ (SIdleP M10 M5 cc0_scratch8 c (V m c main_v6) 0 ∗ SIdleP M10 M5 cc0_scratch8 c (V m c main_v6) 1) ∗ (SIdleQ M11 M7 cc0_scratch9 c (V m c main_v7) 0 ∗ SIdleQ M11 M7 cc0_scratch9 c (V m c main_v7) 1) ∗ (∃ L, Held (F := F) c (Memref.whole cc0_scratch6 : Memref sig .tc .smem S9 .i32) fullShare L) ∗ (∃ D, Held c (Memref.whole cc0_scratch3 : Memref sig .tc .vmem S2x16x256 .bf16) fullShare D) ∗ (∃ H, Held c (Memref.whole cc0_scratch4 : Memref sig .tc .vmem S48x4096 .bf16) fullShare H) ∗ (∃ Y, Held c (Memref.whole cc0_scratch5 : Memref sig .tc .vmem S48x2048 .f32) fullShare Y)) ∗ Held c (win0_4.stage (cfg0.slots t 4)) fullShare (resultV m c) ∗ (∃ W, owes (c : Thread nD τ) 0 W))) ?_)
  exact (show _ ⊢ _ from by
    iintro ⟨H0, H1, H2, H3, I, P, Q, L, D, H, Y, O, W⟩
    isplitl [H0]; · iexact H0
    isplitl [H1]; · iexact H1
    isplitl [H2]; · iexact H2
    isplitl [H3]; · iexact H3
    isplitl [I P Q L D H Y]
    · isplitl [I]; · iexact I
      isplitl [P]; · iexact P
      isplitl [Q]; · iexact Q
      isplitl [L]; · iexact L
      isplitl [D]; · iexact D
      isplitl [H]; · iexact H
      iexact Y
    isplitl [O]; · iexact O
    iexact W)

theorem defs₀_row (t : Fin cfg0.N) : defs₀ (F := F) .tc cfg0.body (cfg0.bodyArgs t (cfg0.slots t)) = bodyAt0 t := by
  unfold defs₀; rw [Defs.onTc_tc]

theorem body_obligation (hids : ∀ c y, (V m c main_v1 y : BitVec 32).toNat < 8) (c : Dev nD) :
    BodyObligation (dats (F := F) m 0 c) (defs₀ (F := F)) 𝒱₀ () Set.univ := fun t => by
  rw [bigSep_W0, bigSep_W0, defs₀_row]
  exact triple_restated (sound_body m hids c t) rfl .rfl fun _ => .rfl

/-! ## The run -/

set_option backward.isDefEq.respectTransparency.types false in
theorem run_main (hids : ∀ c y, (V m c main_v1 y : BitVec 32).toNat < 8) :
    θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_dma_around_shared cfgs (dats m) (0 : Fin 1) launch₀0 osem0 defs₀ 𝒱₀ ownSemFacts0 H0 H0_sub m ρ main
    (hbody := fun c => (body_obligation m hids c).loose) (hq := fun _ _ _ => rfl) (howed := fun _ _ => rfl) (V₀ := V0 m) (opss := [hostOps1])
    (hsub := sfx_sub') (hfresh := sfx_fresh) (hkeep := sfx_keeps) (hmain := hmain m) (hA := A_eq m)
    (hin := fun _ => .rfl) (hout := fun _ => .rfl) (Q' := _) (hQ' := fun _ h => h)

/-- The program terminates, its arguments end as they began, every semaphore ends at zero. -/
theorem frame (hids : ∀ c y, (V m c main_v1 y : BitVec 32).toNat < 8) :
    θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (W_arg0 m (dats m) c),
      ((h.1 c).2 main_arg1 (Pipeline.mem_restRefs_of main_arg1 (by decide) (by decide))).trans (W_arg1 m (dats m) c),
      ((h.1 c).2 main_arg2 (Pipeline.mem_restRefs_of main_arg2 (by decide) (by decide))).trans (W_arg2 m (dats m) c),
      ((h.1 c).2 main_arg3 (Pipeline.mem_restRefs_of main_arg3 (by decide) (by decide))).trans (W_arg3 m (dats m) c),
      ((h.1 c).2 main_arg4 (Pipeline.mem_restRefs_of main_arg4 (by decide) (by decide))).trans (W_arg4 m (dats m) c),
      ((h.1 c).2 main_arg5 (Pipeline.mem_restRefs_of main_arg5 (by decide) (by decide))).trans (W_arg5 m (dats m) c),
      ((h.1 c).2 main_arg6 (Pipeline.mem_restRefs_of main_arg6 (by decide) (by decide))).trans (W_arg6 m (dats m) c)⟩, h.2⟩) (run_main m ρ hids)

end Cert.KernelIdeal.Own
-- ==== Proof.KernelIdeal.Host.lean ====
/- The arrays the host prepares for the kernel, entry by entry. -/
module

public import proofs.«01_k».proof.Proof.KernelIdeal.Launch
public import Idealize.ShloMosaic.Lib.StableHlo.Run

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.Sem
open Idealize.ShloMosaic.ValueIdx

variable {F : FTy → Type} [FloatOps F]
variable (m : (ℓ : Loc nD τ sig) → Buf (Elt F) ℓ) (c : Dev nD)

theorem V_ids : V m c main_v1 = transpose S2x48 [1, 0] (shapeCast S48x2 (m ((c : Thread nD τ).loc main_arg1)) shapeCasts_S48x1x2_S48x2) transposes_S48x2_S2x48_1_0 := by
  unfold V V0 hostOps0; simp only [List.flatten_cons, List.flatten_nil, List.append_nil]; after_results_simp <;> rfl
theorem V_ew : V m c main_v3 = transpose S2x48 [1, 0] (shapeCast S48x2 (m ((c : Thread nD τ).loc main_arg2)) shapeCasts_S48x1x2_S48x2) transposes_S48x2_S2x48_1_0 := by
  unfold V V0 hostOps0; simp only [List.flatten_cons, List.flatten_nil, List.append_nil]; after_results_simp <;> rfl
theorem V_x : V m c main_v4 = shapeCast S48x2048 (m ((c : Thread nD τ).loc main_arg0)) shapeCasts_S48x1x2048_S48x2048 := by
  unfold V V0 hostOps0; simp only [List.flatten_cons, List.flatten_nil, List.append_nil]; after_results_simp <;> rfl
theorem V_w1 : V m c main_v5 = shapeCast S8x2x4096x1024 (m ((c : Thread nD τ).loc main_arg3)) shapeCasts_S8x8192x1024_S8x2x4096x1024 := by
  unfold V V0 hostOps0; simp only [List.flatten_cons, List.flatten_nil, List.append_nil]; after_results_simp <;> rfl
theorem V_s1 : V m c main_v6 = transpose S8x16x8192 [0, 2, 1] (m ((c : Thread nD τ).loc main_arg4)) transposes_S8x8192x16_S8x16x8192_0_2_1 := by
  unfold V V0 hostOps0; simp only [List.flatten_cons, List.flatten_nil, List.append_nil]; after_results_simp <;> rfl
theorem V_s2 : V m c main_v7 = transpose S8x32x2048 [0, 2, 1] (m ((c : Thread nD τ).loc main_arg6)) transposes_S8x2048x32_S8x32x2048_0_2_1 := by
  unfold V V0 hostOps0; simp only [List.flatten_cons, List.flatten_nil, List.append_nil]; after_results_simp <;> rfl

/-- Every id of the kernel is an id of the argument. -/
theorem ids_mem (y : S2x48.Idx) : ∃ x : S48x1x2.Idx, V m c main_v1 y = m ((c : Thread nD τ).loc main_arg1) x := by
  rw [V_ids]; exact ⟨_, rfl⟩

theorem ids_lt (h : ∀ (c : Dev nD) (x : S48x1x2.Idx), (m ((c : Thread nD τ).loc main_arg1) x : BitVec 32).toNat < 8) (c : Dev nD) (y : S2x48.Idx) :
    (V m c main_v1 y : BitVec 32).toNat < 8 := by
  obtain ⟨x, hx⟩ := ids_mem m c y
  rw [hx]; exact h c x

end Cert.KernelIdeal.Own
-- ==== Proof.Pre.lean ====
/- What the two preconditions say of the ids, entry by entry. -/
module

public import proofs.«01_k».proof.Proof.Gen.Pre_named
public import proofs.«01_k».proof.Proof.Gen.Pre_routed
public import Idealize.ShloMosaic.Lib.ValueIdx

@[expose] public section

noncomputable section

namespace Cert.Ids

open Idealize.ShloMosaic Idealize.ShloMosaic.ValueIdx

theorem bits_and : ∀ a b : BitVec 1, a &&& b = 1#1 → a = 1#1 ∧ b = 1#1 := by decide
theorem bit_true : ∀ b : Bool, BitVec.ofBool b = 1#1 → b = true := by decide

/-- A word at least 0 and less than 8, both signed, is less than 8. -/
theorem lt8 (w : BitVec 32) (h : IntOp.cmpi .sge w 0#32 &&& IntOp.cmpi .slt w 8#32 = 1#1) : w.toNat < 8 := by
  obtain ⟨h0, h8⟩ := bits_and _ _ h
  have h0 := bit_true _ h0
  have h8 := bit_true _ h8
  simp only [BitVec.sle, BitVec.slt, decide_eq_true_eq] at h0 h8
  have e := BitVec.toInt_eq_toNat_cond w
  have hw := w.isLt
  have z : (0#32 : BitVec 32).toInt = 0 := by decide
  have e8 : (8#32 : BitVec 32).toInt = 8 := by decide
  rw [z] at h0; rw [e8] at h8
  split at e <;> omega

variable {F : FTy → Type} [FloatOps F]
  (a0 : FVec F ⟨3, ![48, 1, 2048]⟩ .bf16) (ids : IVec ⟨3, ![48, 1, 2]⟩ 32) (a2 : FVec F ⟨3, ![48, 1, 2]⟩ .f32) (a3 : IVec ⟨3, ![8, 8192, 1024]⟩ 8)
  (a4 : FVec F ⟨3, ![8, 8192, 16]⟩ .bf16) (a5 : IVec ⟨3, ![8, 2048, 2048]⟩ 8) (a6 : FVec F ⟨3, ![8, 2048, 32]⟩ .bf16)

/-- Under `named` every id names an expert. -/
theorem named_lt [Cert.Pre_named.Facts] (h : Cert.Pre_named.fn (F := F) a0 ids a2 a3 a4 a5 a6 = fun _ => 1#1) (x : Shape.Idx ⟨3, ![48, 1, 2]⟩) :
    (ids x : BitVec 32).toNat < 8 := lt8 _ (congrFun h x)

/-- Under `routed` every id names an expert, -/
theorem routed_lt [Cert.Pre_routed.Facts] (h : Cert.Pre_routed.fn (F := F) a0 ids a2 a3 a4 a5 a6 = fun _ => 1#1) (x : Shape.Idx ⟨3, ![48, 1, 2]⟩) :
    (ids x : BitVec 32).toNat < 8 := lt8 _ (bits_and _ _ (congrFun h x)).1

/-- and the two ids of a token differ. -/
theorem routed_ne [Cert.Pre_routed.Facts] (h : Cert.Pre_routed.fn (F := F) a0 ids a2 a3 a4 a5 a6 = fun _ => 1#1) (t : Fin 48) :
    (ids (ix3 t (0 : Fin 1) (0 : Fin 2)) : BitVec 32) ≠ ids (ix3 t (0 : Fin 1) (1 : Fin 2)) := by
  have h2 := (bits_and _ _ (congrFun h (ix3 t (0 : Fin 1) (0 : Fin 2)))).2
  have h3 : IntOp.cmpi .ne (ids (ix3 t (0 : Fin 1) (0 : Fin 2))) (ids (ix3 t (0 : Fin 1) (1 : Fin 2))) = 1#1 := by
    refine Eq.trans ?_ h2
    show _ = IntOp.cmpi .ne (ids _) (ids _)
    congr 2
    · funext a; apply Fin.ext; fin_cases a
      · exact (Nat.zero_add t.val).symm
      · rfl
      · rfl
    · funext a; apply Fin.ext; fin_cases a
      · exact (Nat.zero_add t.val).symm
      · rfl
      · rfl
  have h4 := bit_true _ h3
  simpa using h4

end Cert.Ids
-- ==== Proof.Value.Sums.lean ====
/- Sums over a range cut in equal pieces, and the four-bit codes packed in a byte. -/
module

public import Idealize.ShloMosaic.PureOps.Ideal
public import Idealize.ShloMosaic.Lib.IdealHost

@[expose] public section

namespace Cert.Val

open Idealize.ShloMosaic

theorem mul_add_lt {m n N : ℕ} (h : m * n = N) (a : Fin m) (b : Fin n) : n * a.val + b.val < N := by
  have h1 : n * a.val + n ≤ n * m := by
    have := Nat.mul_le_mul_left n (Nat.succ_le_of_lt a.isLt)
    rwa [Nat.mul_succ] at this
  have := b.isLt
  rw [Nat.mul_comm n m, h] at h1
  omega

/-- A sum cut in `m` pieces of `n` terms. -/
theorem sum_cut {M : Type} [AddCommMonoid M] {m n N : ℕ} (h : m * n = N) (f : Fin N → M) :
    ∑ a : Fin m, ∑ b : Fin n, f ⟨n * a.val + b.val, mul_add_lt h a b⟩ = ∑ K : Fin N, f K := by
  subst h
  rw [← Fintype.sum_prod_type', ← Equiv.sum_comp finProdFinEquiv]
  refine Finset.sum_congr rfl fun p _ => congrArg f (Fin.ext ?_)
  show n * p.1.val + p.2.val = p.2.val + n * p.1.val
  omega

/-- The terms at even and at odd places make the whole sum. -/
theorem sum_even_odd {M : Type} [AddCommMonoid M] {m N : ℕ} (h : m * 2 = N) (f : Fin N → M) :
    (∑ p : Fin m, f ⟨p.val * 2, by have := p.isLt; omega⟩) + (∑ p : Fin m, f ⟨p.val * 2 + 1, by have := p.isLt; omega⟩)
      = ∑ K : Fin N, f K := by
  rw [← sum_cut h f, ← Finset.sum_add_distrib]
  refine Finset.sum_congr rfl fun p _ => ?_
  rw [Fin.sum_univ_two]
  congr 2 <;> apply Fin.ext <;> simp <;> omega

/-- The four-bit code at place `j` of a byte (the low half at even places), less eight. -/
def nib (b : BitVec 8) (j : ℕ) : EReal :=
  (((((if j % 2 = 0 then b.toNat % 16 else b.toNat / 16 : ℕ) : ℤ) - 8 : ℤ) : ℝ) : EReal)

theorem ofBits_eight : Ideal.ofBits .bf16 0x4100#16 = ((8 : ℝ) : EReal) := by
  simp [Ideal.ofBits, Ideal.ieee]
  rw [← EReal.coe_mul]
  norm_num

theorem and15 : ∀ b : BitVec 8, (IntOp.andi (b.setWidth 32) 15#32).toInt = ((b.toNat % 16 : ℕ) : ℤ) := by decide +kernel
theorem shr4 : ∀ b : BitVec 8, (IntOp.shrsi ArithUnit.host (b.setWidth 32) 4#32).toInt = ((b.toNat / 16 : ℕ) : ℤ) := by decide +kernel

theorem lo_code (b : BitVec 8) : (FloatOps.sitofp (F := Ideal) FTy.bf16 (IntOp.andi (b.setWidth 32) 15#32) - Ideal.ofBits FTy.bf16 16640#16 : EReal) = nib b 0 := by
  rw [show Ideal.ofBits FTy.bf16 16640#16 = ((8 : ℝ) : EReal) from ofBits_eight]
  show (((IntOp.andi (b.setWidth 32) 15#32).toInt : ℝ) : EReal) - ((8 : ℝ) : EReal) = _
  rw [and15, ← EReal.coe_sub]
  unfold nib
  simp
theorem hi_code (b : BitVec 8) : (FloatOps.sitofp (F := Ideal) FTy.bf16 (IntOp.shrsi ArithUnit.host (b.setWidth 32) 4#32) - Ideal.ofBits FTy.bf16 16640#16 : EReal) = nib b 1 := by
  rw [show Ideal.ofBits FTy.bf16 16640#16 = ((8 : ℝ) : EReal) from ofBits_eight]
  show (((IntOp.shrsi ArithUnit.host (b.setWidth 32) 4#32).toInt : ℝ) : EReal) - ((8 : ℝ) : EReal) = _
  rw [shr4, ← EReal.coe_sub]
  unfold nib
  simp

theorem nib_congr (b : BitVec 8) {j k : ℕ} (h : j % 2 = k % 2) : nib b j = nib b k := by unfold nib; rw [h]

/-- A four-bit code with its top bit turned over, read with its sign. -/
theorem nib4 : ∀ x : BitVec 4, ((x ^^^ 8#4).signExtend 32).toInt = (x.toNat : ℤ) - 8 := by decide +kernel

/-- The four bits at place `j` of a word, moved to the top and back down with their sign. -/
theorem shl_shr (w : BitVec 32) (j : Fin 8) :
    (IntOp.shrsi ArithUnit.vector (IntOp.shli ArithUnit.vector (IntOp.xori w 2290649224#32) (IntOp.subi 28#32 (IntOp.muli 4#32 (BitVec.ofNat 32 j.val)))) 28#32)
      = ((w.extractLsb' (4 * j.val) 4) ^^^ 8#4).signExtend 32 := by
  have h8 : (2290649224#32 : BitVec 32).extractLsb' (4 * j.val) 4 = 8#4 := (by decide +kernel : ∀ j : Fin 8, (2290649224#32 : BitVec 32).extractLsb' (4 * j.val) 4 = 8#4) j
  have hs : (IntOp.subi 28#32 (IntOp.muli 4#32 (BitVec.ofNat 32 j.val))).toNat = 28 - 4 * j.val :=
    (by decide +kernel : ∀ j : Fin 8, (IntOp.subi 28#32 (IntOp.muli 4#32 (BitVec.ofNat 32 j.val))).toNat = 28 - 4 * j.val) j
  have hx : ∀ x : BitVec 32, IntOp.shrsi ArithUnit.vector x 28#32 = x.sshiftRight 28 := fun x => rfl
  have hl : ∀ x : BitVec 32, IntOp.shli ArithUnit.vector x (IntOp.subi 28#32 (IntOp.muli 4#32 (BitVec.ofNat 32 j.val))) = x <<< (28 - 4 * j.val) := by
    intro x
    unfold IntOp.shli
    rw [if_pos (by rw [hs]; omega)]
    rw [BitVec.shiftLeft_eq', hs]
  rw [hx, hl, ← h8]
  have hj := j.isLt
  unfold IntOp.xori
  rw [← BitVec.extractLsb'_xor]
  generalize w ^^^ 2290649224#32 = v
  apply BitVec.eq_of_getLsbD_eq
  intro i hi
  rw [BitVec.getLsbD_sshiftRight, BitVec.getLsbD_signExtend]
  by_cases h4 : i < 4
  · simp only [BitVec.getLsbD_shiftLeft, BitVec.getLsbD_extractLsb']
    rw [if_pos (by omega), if_pos h4]
    rw [show 28 + i - (28 - 4 * j.val) = 4 * j.val + i by omega]
    simp [h4, hi, show 28 + i < 32 by omega, show ¬ 28 + i < 28 - 4 * j.val by omega]
  · rw [if_neg (by omega), if_neg h4]
    rw [BitVec.msb_eq_getLsbD_last, BitVec.msb_eq_getLsbD_last]
    simp only [BitVec.getLsbD_shiftLeft, BitVec.getLsbD_extractLsb']
    rw [show 32 - 1 - (28 - 4 * j.val) = 4 * j.val + (4 - 1) by omega]
    simp [hi, show ¬ 31 < 28 - 4 * j.val by omega]

end Cert.Val
-- ==== Proof.Value.Tile.lean ====
/- One tile of unpacked weights read entry by entry. -/
module

public import proofs.«01_k».proof.Proof.KernelIdeal.Step1
public import proofs.«01_k».proof.Proof.KernelIdeal.Blocks
public import proofs.«01_k».proof.Proof.Value.Sums
public import Idealize.ShloMosaic.Lib.Pointwise
public import Idealize.ShloMosaic.Lib.BitcastFour

@[expose] public section

noncomputable section

namespace Cert.Val

open Cert.KernelIdeal Cert.KernelIdeal.Gen Cert.KernelIdeal.Own Idealize.ShloMosaic

theorem half_lo : ∀ b : BitVec 8, (b.extractLsb' 0 4).toNat = b.toNat % 16 := by decide +kernel
theorem half_hi : ∀ b : BitVec 8, (b.extractLsb' 4 4).toNat = b.toNat / 16 := by decide +kernel

/-- A four-bit code of a word of four bytes, moved to the top and back: the code of its byte, less eight. -/
theorem word_nib (x : (⟨2, ![128, 256]⟩ : Shape).Idx → BitVec 8) (h : (⟨2, ![128, 256]⟩ : Shape).Bitcasts 8 ⟨2, ![32, 256]⟩ 32)
    (i : Fin 32) (n : Fin 256) (j : ℕ) (hj : j < 8) (p : Fin 128) (hp : p.val = 4 * i.val + j / 2) :
    (FloatOps.sitofp (F := Ideal) FTy.bf16 (IntOp.shrsi ArithUnit.vector (IntOp.shli ArithUnit.vector
        (IntOp.xori (bitcast ⟨2, ![32, 256]⟩ 32 x h (ix2 i n)) 2290649224#32) (IntOp.subi 28#32 (IntOp.muli 4#32 (BitVec.ofNat 32 j)))) 28#32) : EReal)
      = nib (x (ix2 p n)) j := by
  rw [shl_shr _ ⟨j, hj⟩]
  have he : (bitcast ⟨2, ![32, 256]⟩ 32 x h (ix2 i n)).extractLsb' (4 * j) 4 = (x (ix2 p n)).extractLsb' (4 * (j % 2)) 4 := by
    apply BitVec.eq_of_getLsbD_eq
    intro b hb
    rw [BitVec.getLsbD_extractLsb', BitVec.getLsbD_extractLsb']
    have e := bitcast_8_32_getLsbD_ix2 x h i n (4 * j + b) (by omega) p (by omega)
    rw [show (4 * j + b) % 8 = 4 * (j % 2) + b by omega] at e
    exact congrArg (decide (b < 4) && ·) e
  show ((((BitVec.extractLsb' (4 * j) 4 _ ^^^ 8#4).signExtend 32).toInt : ℝ) : EReal) = _
  rw [nib4, he]
  unfold nib
  rcases Nat.mod_two_eq_zero_or_one j with h0 | h0
  · rw [h0, if_pos rfl, half_lo]
  · rw [h0, if_neg (by decide), half_hi]

theorem tile_apply (w : Vec Ideal S1x1x256x128 .i8) (r0 r1 : Vec Ideal S1x1x256 .bf16) (k n : Fin 256) :
    (k0_pay10 w r0 r1 (ix2 k n) : EReal)
      = nib (w (ix4 0 0 n ⟨k.val / 2, by have := k.isLt; omega⟩)) k.val * (if k.val < 128 then r0 (ix3 0 0 n) else r1 (ix3 0 0 n)) := by
  have hk := k.isLt
  have hx : ∀ q : Fin 128, (transpose S128x256 [1, 0] (shapeCast S256x128 w shapeCasts_S1x1x256x128_S256x128) transposes_S256x128_p1_0_S128x256) (ix2 q n) = w (ix4 0 0 n q) := by
    intro q
    pointwise
  pointwise [k0_pay10]
  have h2 := word_nib (transpose S128x256 [1, 0] (shapeCast S256x128 w shapeCasts_S1x1x256x128_S256x128) transposes_S256x128_p1_0_S128x256)
    bitcasts_S128x256_w8_S32x256_w32 ⟨k.val / 8, by omega⟩ n (k.val % 8) (Nat.mod_lt _ (by decide)) ⟨k.val / 2, by omega⟩ (by show k.val / 2 = 4 * (k.val / 8) + k.val % 8 / 2; omega)
  rw [hx, nib_congr _ (show (k.val % 8) % 2 = k.val % 2 by omega)] at h2
  split
  · exact congrArg (· * _) h2
  · have e1 : 128 + (k.val - 128) = k.val := by omega
    simp only [e1]
    exact congrArg (· * _) h2

/-- A block of activations times a tile. -/
def dotT (a : Vec Ideal S48x256 .bf16) (w : Vec Ideal S1x1x256x128 .i8) (r0 r1 : Vec Ideal S1x1x256 .bf16) : FVec Ideal S48x256 .f32 :=
  matmul dot_S48x256_S256x256_S48x256_1_0_0_1_n_n none (k0_pay11 a) (k0_pay10 w r0 r1) (constant S48x256 .f32 0x00000000#32)

theorem dotT_apply (a : Vec Ideal S48x256 .bf16) (w : Vec Ideal S1x1x256x128 .i8) (r0 r1 : Vec Ideal S1x1x256 .bf16) (t : Fin 48) (n : Fin 256) :
    (dotT a w r0 r1 (ix2 t n) : EReal) = ∑ k : Fin 256, (a (ix2 t k) : EReal)
      * (nib (w (ix4 0 0 n ⟨k.val / 2, by have := k.isLt; omega⟩)) k.val * (if k.val < 128 then (r0 (ix3 0 0 n) : EReal) else r1 (ix3 0 0 n))) := by
  have e : (dotT a w r0 r1 (ix2 t n) : EReal) = ∑ k : Fin 256, (a (ix2 t k) : EReal) * (k0_pay10 w r0 r1 (ix2 k n) : EReal) := by
    pointwise [dotT, k0_pay11]
  rw [e]
  exact Finset.sum_congr rfl fun k _ => congrArg _ (tile_apply w r0 r1 k n)

/-- The rows of scales one tile reads. -/
def rowOf (D : S2x16x256.Idx → Elt Ideal .bf16) (i : Fin 2) (g : Fin 16) : Vec Ideal S1x1x256 .bf16 := fun y => D (ix3 i g (y 2))
/-- Columns of a buffer from place `o` on. -/
def colsOf {m : ℕ} (X : (⟨2, ![48, m]⟩ : Shape).Idx → EReal) (o : ℕ) (h : o + 256 ≤ m) : Vec Ideal S48x256 .bf16 :=
  fun y => X (ix2 (y 0) ⟨o + (y 1).val, by have : (y 1).val < 256 := (y 1).isLt; omega⟩)

/-- The eight products of one pass over a block, added in order. -/
def dots8 {m : ℕ} (G : Fin 2 → Fin 256 → Fin 1024 → Elt Ideal .i8) (D : S2x16x256.Idx → Elt Ideal .bf16)
    (X : (⟨2, ![48, m]⟩ : Shape).Idx → EReal) (i : Fin 2) (o : ℕ) (h : o + 2048 ≤ m) : FVec Ideal S48x256 .f32 :=
  addf (addf (addf (addf (addf (addf (addf
    (dotT (colsOf X (o + 256 * 0) (by omega)) (ldT G i 0) (rowOf D i 0) (rowOf D i 1))
    (dotT (colsOf X (o + 256 * 1) (by omega)) (ldT G i 1) (rowOf D i 2) (rowOf D i 3)))
    (dotT (colsOf X (o + 256 * 2) (by omega)) (ldT G i 2) (rowOf D i 4) (rowOf D i 5)))
    (dotT (colsOf X (o + 256 * 3) (by omega)) (ldT G i 3) (rowOf D i 6) (rowOf D i 7)))
    (dotT (colsOf X (o + 256 * 4) (by omega)) (ldT G i 4) (rowOf D i 8) (rowOf D i 9)))
    (dotT (colsOf X (o + 256 * 5) (by omega)) (ldT G i 5) (rowOf D i 10) (rowOf D i 11)))
    (dotT (colsOf X (o + 256 * 6) (by omega)) (ldT G i 6) (rowOf D i 12) (rowOf D i 13)))
    (dotT (colsOf X (o + 256 * 7) (by omega)) (ldT G i 7) (rowOf D i 14) (rowOf D i 15))

/-- One term of the whole sum. -/
def term8 {m : ℕ} (G : Fin 2 → Fin 256 → Fin 1024 → Elt Ideal .i8) (D : S2x16x256.Idx → Elt Ideal .bf16)
    (X : (⟨2, ![48, m]⟩ : Shape).Idx → EReal) (i : Fin 2) (o : ℕ) (h : o + 2048 ≤ m) (t : Fin 48) (n : Fin 256) (K : Fin 2048) : EReal :=
  X (ix2 t ⟨o + K.val, by have := K.isLt; omega⟩)
      * (nib (G i n ⟨K.val / 2, by have := K.isLt; omega⟩) K.val * (D (ix3 i ⟨K.val / 128, by have := K.isLt; omega⟩ n) : EReal))

/-- One product of a pass, as a piece of the whole sum. -/
theorem dotT_piece {m : ℕ} (G : Fin 2 → Fin 256 → Fin 1024 → Elt Ideal .i8) (D : S2x16x256.Idx → Elt Ideal .bf16)
    (X : (⟨2, ![48, m]⟩ : Shape).Idx → EReal) (i : Fin 2) (o : ℕ) (h : o + 2048 ≤ m) (t : Fin 48) (n : Fin 256)
    (a : Fin 8) (g0 g1 : Fin 16) (h0 : g0.val = 2 * a.val) (h1 : g1.val = 2 * a.val + 1) (h' : o + 256 * a.val + 256 ≤ m) :
    (dotT (colsOf X (o + 256 * a.val) h') (ldT G i a) (rowOf D i g0) (rowOf D i g1) (ix2 t n) : EReal)
      = ∑ b : Fin 256, term8 G D X i o h t n ⟨256 * a.val + b.val, mul_add_lt (m := 8) rfl a b⟩ := by
  rw [dotT_apply]
  refine Finset.sum_congr rfl fun b _ => ?_
  have ha := a.isLt
  have hb := b.isLt
  refine congrArg₂ _ ?_ (congrArg₂ _ ?_ ?_)
  · exact congrArg (fun q => X (ix2 t q)) (Fin.ext (by show o + 256 * a.val + b.val = o + (256 * a.val + b.val); omega))
  · show nib (G i n ⟨128 * a.val + b.val / 2, _⟩) b.val = nib (G i n ⟨(256 * a.val + b.val) / 2, _⟩) (256 * a.val + b.val)
    rw [nib_congr _ (show (256 * a.val + b.val) % 2 = b.val % 2 by omega)]
    exact congrArg (fun q => nib (G i n q) b.val) (Fin.ext (by show 128 * a.val + b.val / 2 = (256 * a.val + b.val) / 2; omega))
  · split
    · exact congrArg (fun q => D (ix3 i q n)) (Fin.ext (by show g0.val = (256 * a.val + b.val) / 128; omega))
    · exact congrArg (fun q => D (ix3 i q n)) (Fin.ext (by show g1.val = (256 * a.val + b.val) / 128; omega))

theorem dots8_apply {m : ℕ} (G : Fin 2 → Fin 256 → Fin 1024 → Elt Ideal .i8) (D : S2x16x256.Idx → Elt Ideal .bf16)
    (X : (⟨2, ![48, m]⟩ : Shape).Idx → EReal) (i : Fin 2) (o : ℕ) (h : o + 2048 ≤ m) (t : Fin 48) (n : Fin 256) :
    (dots8 G D X i o h (ix2 t n) : EReal) = ∑ K : Fin 2048, term8 G D X i o h t n K := by
  rw [← sum_cut (m := 8) (n := 256) rfl, Fin.sum_univ_eight]
  show _ + _ + _ + _ + _ + _ + _ + _ = _
  rw [← dotT_piece G D X i o h t n 0 0 1 rfl rfl (by show o + 256 * 0 + 256 ≤ m; omega), ← dotT_piece G D X i o h t n 1 2 3 rfl rfl (by show o + 256 * 1 + 256 ≤ m; omega),
    ← dotT_piece G D X i o h t n 2 4 5 rfl rfl (by show o + 256 * 2 + 256 ≤ m; omega), ← dotT_piece G D X i o h t n 3 6 7 rfl rfl (by show o + 256 * 3 + 256 ≤ m; omega),
    ← dotT_piece G D X i o h t n 4 8 9 rfl rfl (by show o + 256 * 4 + 256 ≤ m; omega), ← dotT_piece G D X i o h t n 5 10 11 rfl rfl (by show o + 256 * 5 + 256 ≤ m; omega),
    ← dotT_piece G D X i o h t n 6 12 13 rfl rfl (by show o + 256 * 6 + 256 ≤ m; omega), ← dotT_piece G D X i o h t n 7 14 15 rfl rfl (by show o + 256 * 7 + 256 ≤ m; omega)]
  rfl

end Cert.Val
-- ==== Proof.Value.Pass.lean ====
/- What one block of each of the two weight arrays makes, read entry by entry. -/
module

public import proofs.«01_k».proof.Proof.Value.Tile

@[expose] public section

noncomputable section

namespace Cert.Val

open Cert.KernelIdeal Cert.KernelIdeal.Gen Cert.KernelIdeal.Own Idealize.ShloMosaic

/-- Eight products over given blocks, tiles and scale rows, added in order. -/
def dotsF (A : Fin 8 → Vec Ideal S48x256 .bf16) (W : Fin 8 → Vec Ideal S1x1x256x128 .i8) (R : Fin 16 → Vec Ideal S1x1x256 .bf16) : FVec Ideal S48x256 .f32 :=
  addf (addf (addf (addf (addf (addf (addf
    (dotT (A 0) (W 0) (R 0) (R 1)) (dotT (A 1) (W 1) (R 2) (R 3))) (dotT (A 2) (W 2) (R 4) (R 5))) (dotT (A 3) (W 3) (R 6) (R 7)))
    (dotT (A 4) (W 4) (R 8) (R 9))) (dotT (A 5) (W 5) (R 10) (R 11))) (dotT (A 6) (W 6) (R 12) (R 13))) (dotT (A 7) (W 7) (R 14) (R 15))

def rowLd (D : S2x16x256.Idx → Elt Ideal .bf16) (i : Fin 2) (g : Fin 16) : Vec Ideal S1x1x256 .bf16 :=
  ldR D (Rect.unit (s := S2x16x256) ![i.val, g.val, 0] S1x1x256.size (by have := i.isLt; have := g.isLt; intro a; fin_cases a <;> simp [S1x1x256, S2x16x256] <;> omega)).toLoadRect

def colLd1 (X : S48x2048.Idx → Elt Ideal .bf16) (a : Fin 8) : Vec Ideal S48x256 .bf16 :=
  ldR X (Rect.unit (s := S48x2048) ![0, 256 * a.val] S48x256.size (by have := a.isLt; intro a; fin_cases a <;> simp [S48x256, S48x2048] <;> omega)).toLoadRect

def colLd2 (X : S48x4096.Idx → Elt Ideal .bf16) (o : ℕ) (h : o + 2048 ≤ 4096) (a : Fin 8) : Vec Ideal S48x256 .bf16 :=
  ldR X (Rect.unit (s := S48x4096) ![0, o + 256 * a.val] S48x256.size (by have := a.isLt; intro a; fin_cases a <;> simp [S48x256, S48x4096] <;> omega)).toLoadRect

theorem rowLd_eq (D : S2x16x256.Idx → Elt Ideal .bf16) (i : Fin 2) (g : Fin 16) : rowLd D i g = rowOf D i g := by
  funext y
  refine congrArg D ?_
  have h0 : (y 0).val = 0 := by have : (y 0).val < 1 := (y 0).isLt; omega
  have h1 : (y 1).val = 0 := by have : (y 1).val < 1 := (y 1).isLt; omega
  funext a
  apply Fin.ext
  match a with
  | ⟨0, _⟩ => show i.val + 1 * (y 0).val = i.val; omega
  | ⟨1, _⟩ => show g.val + 1 * (y 1).val = g.val; omega
  | ⟨2, _⟩ => show 0 + 1 * (y 2).val = (y 2).val; omega

theorem colLd1_eq (X : S48x2048.Idx → Elt Ideal .bf16) (a : Fin 8) : colLd1 X a = colsOf X (0 + 256 * a.val) (by have := a.isLt; omega) := by
  funext y
  refine congrArg X ?_
  funext b
  apply Fin.ext
  match b with
  | ⟨0, _⟩ => show 0 + 1 * (y 0).val = (y 0).val; omega
  | ⟨1, _⟩ => show 256 * a.val + 1 * (y 1).val = 0 + 256 * a.val + (y 1).val; omega

theorem colLd2_eq (X : S48x4096.Idx → Elt Ideal .bf16) (o : ℕ) (h : o + 2048 ≤ 4096) (a : Fin 8) : colLd2 X o h a = colsOf X (o + 256 * a.val) (by have := a.isLt; omega) := by
  funext y
  refine congrArg X ?_
  funext b
  apply Fin.ext
  match b with
  | ⟨0, _⟩ => show 0 + 1 * (y 0).val = (y 0).val; omega
  | ⟨1, _⟩ => show o + 256 * a.val + 1 * (y 1).val = o + 256 * a.val + (y 1).val; omega

theorem dotsF_1 (G : Fin 2 → Fin 256 → Fin 1024 → Elt Ideal .i8) (D : S2x16x256.Idx → Elt Ideal .bf16) (X : S48x2048.Idx → Elt Ideal .bf16) (i : Fin 2) :
    dotsF (colLd1 X) (ldT G i) (rowLd D i) = dots8 G D X i 0 (by decide) := by
  unfold dotsF
  simp only [colLd1_eq, rowLd_eq]
  rfl

theorem dotsF_2 (G : Fin 2 → Fin 256 → Fin 1024 → Elt Ideal .i8) (D : S2x16x256.Idx → Elt Ideal .bf16) (X : S48x4096.Idx → Elt Ideal .bf16) (i : Fin 2)
    (o : ℕ) (h : o + 2048 ≤ 4096) :
    dotsF (colLd2 X o h) (ldT G i) (rowLd D i) = dots8 G D X i o h := by
  unfold dotsF
  simp only [colLd2_eq, rowLd_eq]
  rfl

set_option maxRecDepth 16384

theorem tile1V_eq (G : Fin 2 → Fin 256 → Fin 1024 → Elt Ideal .i8) (D : S2x16x256.Idx → Elt Ideal .bf16) (X : S48x2048.Idx → Elt Ideal .bf16) :
    tile1V G D X = shapeCast S48x256 (truncf .bf16 (mulf (mulf (dotsF (colLd1 X) (ldT G 0) (rowLd D 0)) (logistic (dotsF (colLd1 X) (ldT G 0) (rowLd D 0))))
      (dotsF (colLd1 X) (ldT G 1) (rowLd D 1))) bitsLt_bf16_f32) shapeCasts_S48x256_S48x256 := by
  rfl

/-- A block of activations, taken as it is, times a tile. -/
def dotU (a : Vec Ideal S48x256 .bf16) (w : Vec Ideal S1x1x256x128 .i8) (r0 r1 : Vec Ideal S1x1x256 .bf16) : FVec Ideal S48x256 .f32 :=
  matmul dot_S48x256_S256x256_S48x256_1_0_0_1_n_n none (φ₁ := .bf16) (a : FVec Ideal S48x256 .bf16) (k0_pay10 w r0 r1) (constant S48x256 .f32 0x00000000#32)

theorem dotU_eq (a : Vec Ideal S48x256 .bf16) (w : Vec Ideal S1x1x256x128 .i8) (r0 r1 : Vec Ideal S1x1x256 .bf16) : dotU a w r0 r1 = dotT a w r0 r1 := by
  unfold dotU dotT
  congr 1
  funext y
  obtain ⟨t, n, rfl⟩ : ∃ (t : Fin 48) (n : Fin 256), y = ix2 t n := ⟨y 0, y 1, eq_ix2 y⟩
  pointwise [k0_pay11]

/-- Eight such products added in order. -/
def dotsU (A : Fin 8 → Vec Ideal S48x256 .bf16) (W : Fin 8 → Vec Ideal S1x1x256x128 .i8) (R : Fin 16 → Vec Ideal S1x1x256 .bf16) : FVec Ideal S48x256 .f32 :=
  addf (addf (addf (addf (addf (addf (addf
    (dotU (A 0) (W 0) (R 0) (R 1)) (dotU (A 1) (W 1) (R 2) (R 3))) (dotU (A 2) (W 2) (R 4) (R 5))) (dotU (A 3) (W 3) (R 6) (R 7)))
    (dotU (A 4) (W 4) (R 8) (R 9))) (dotU (A 5) (W 5) (R 10) (R 11))) (dotU (A 6) (W 6) (R 12) (R 13))) (dotU (A 7) (W 7) (R 14) (R 15))

theorem dotsU_eq (A : Fin 8 → Vec Ideal S48x256 .bf16) (W : Fin 8 → Vec Ideal S1x1x256x128 .i8) (R : Fin 16 → Vec Ideal S1x1x256 .bf16) : dotsU A W R = dotsF A W R := by
  unfold dotsU dotsF
  simp only [dotU_eq]

theorem tile2U_eq (G : Fin 2 → Fin 256 → Fin 1024 → Elt Ideal .i8) (D : S2x16x256.Idx → Elt Ideal .bf16) (X : S48x4096.Idx → Elt Ideal .bf16) (v : FVec Ideal S48x256 .f32) :
    tile2U G D X v = mulf (addf (dotsU (colLd2 X 0 (by decide)) (ldT G 0) (rowLd D 0)) (dotsU (colLd2 X 2048 (by decide)) (ldT G 1) (rowLd D 1))) v := by
  rfl

theorem tile1V_apply (G : Fin 2 → Fin 256 → Fin 1024 → Elt Ideal .i8) (D : S2x16x256.Idx → Elt Ideal .bf16) (X : S48x2048.Idx → Elt Ideal .bf16) (t : Fin 48) (n : Fin 256) :
    (tile1V G D X (ix2 t n) : EReal) = (∑ K, term8 G D X 0 0 (by decide) t n K) * Ideal.logistic (∑ K, term8 G D X 0 0 (by decide) t n K) * (∑ K, term8 G D X 1 0 (by decide) t n K) := by
  rw [tile1V_eq, dotsF_1, dotsF_1, ← dots8_apply, ← dots8_apply]
  generalize dots8 G D X 0 0 _ = g
  generalize dots8 G D X 1 0 _ = u
  pointwise

theorem tile2U_apply (G : Fin 2 → Fin 256 → Fin 1024 → Elt Ideal .i8) (D : S2x16x256.Idx → Elt Ideal .bf16) (X : S48x4096.Idx → Elt Ideal .bf16) (v : FVec Ideal S48x256 .f32) (t : Fin 48) (n : Fin 256) :
    (tile2U G D X v (ix2 t n) : EReal) = ((∑ K, term8 G D X 0 0 (by decide) t n K) + (∑ K, term8 G D X 1 2048 (by decide) t n K)) * (v (ix2 t n) : EReal) := by
  rw [tile2U_eq, dotsU_eq, dotsU_eq, dotsF_2, dotsF_2, ← dots8_apply, ← dots8_apply]
  rfl

end Cert.Val
-- ==== Proof.Value.Pick.lean ====
/- A sum that keeps the one term with a given number. -/
module

public import Idealize.ShloMosaic.PureOps.Ideal
public import Idealize.ShloMosaic.Lib.IdealHost

@[expose] public section

namespace Cert.Val

open Idealize.ShloMosaic

theorem cmp_self (w : BitVec 32) : IntOp.cmpi CmpIPredicate.eq w w = 1#1 := by simp [IntOp.cmpi]

theorem cmp_ne {w v : BitVec 32} (h : w ≠ v) : IntOp.cmpi CmpIPredicate.eq w v = 0#1 := by
  show BitVec.ofBool (w == v) = 0#1
  rw [beq_false_of_ne h]; rfl

/-- The sum over numbers below `n` that keeps the one a word names. -/
theorem pickN {n : ℕ} (hn : n ≤ 2 ^ 32) (w : BitVec 32) (hw : w.toNat < n) (f : Fin n → EReal) :
    ∑ e : Fin n, Scalar.select (IntOp.cmpi CmpIPredicate.eq w (BitVec.ofNat 32 e.val)) (f e) 0 = f ⟨w.toNat, hw⟩ := by
  rw [Finset.sum_eq_single (⟨w.toNat, hw⟩ : Fin n)]
  · show Scalar.select (IntOp.cmpi CmpIPredicate.eq w (BitVec.ofNat 32 w.toNat)) _ _ = _
    rw [BitVec.ofNat_toNat, BitVec.setWidth_eq, cmp_self]; rfl
  · intro e _ he
    rw [cmp_ne (fun h => he (Fin.ext ?_))]
    · rfl
    · show e.val = w.toNat
      rw [h, BitVec.toNat_ofNat, Nat.mod_eq_of_lt (e.isLt.trans_le hn)]
  · exact fun h => absurd (Finset.mem_univ _) h

/-- The same for the word of a number. -/
theorem diag {n : ℕ} (hn : n ≤ 2 ^ 32) (t : Fin n) (f : Fin n → EReal) :
    ∑ x : Fin n, Scalar.select (IntOp.cmpi CmpIPredicate.eq (BitVec.ofNat 32 t.val) (BitVec.ofNat 32 x.val)) (f x) 0 = f t := by
  have h : (BitVec.ofNat 32 t.val).toNat = t.val := by rw [BitVec.toNat_ofNat, Nat.mod_eq_of_lt (t.isLt.trans_le hn)]
  rw [pickN hn _ (h.trans_lt t.isLt)]
  exact congrArg f (Fin.ext h)

end Cert.Val
-- ==== Proof.Value.RefVal.lean ====
/- The reference's result read entry by entry: its two products with the unpacked weights, its activations and its sums. -/
module

public import proofs.«01_k».proof.Proof.Gen.ReferenceIdeal.Run
public import Idealize.ShloMosaic.Lib.Pointwise
public import Idealize.ShloMosaic.Lib.IdealHost
public import proofs.«01_k».proof.Proof.Value.Sums
public import proofs.«01_k».proof.Proof.Value.Pick

@[expose] public section

noncomputable section

namespace Cert.Val

open Cert.ReferenceIdeal Cert.ReferenceIdeal.Gen Idealize.ShloMosaic

/-- Gate and up projections of every token by every expert. -/
def refG (x : FVec Ideal S48x1x2048 .bf16) (w : IVec S8x8192x1024 8) (s : FVec Ideal S8x8192x16 .bf16) : FVec Ideal S8x48x8192 .f32 :=
  addf (Host.dotGeneral dot_S8x48x1024_S8x8192x1024_S8x48x8192_2_2_1_1_0_0 none (shapeCast _ (extractStridedSlice S8x48x1024x1 ![0, 0, 0, 0] (shapeCast _ (broadcastInDim S8x48x2048 ![0, 1, 2] bcast_S1x48x2048_S8x48x2048_0_1_2 (shapeCast _ x shapeCasts_S48x1x2048_S1x48x2048)) shapeCasts_S8x48x2048_S8x48x1024x2) slices_S8x48x1024x2_S8x48x1024x1_0_0_0_0) shapeCasts_S8x48x1024x1_S8x48x1024) (mulf (subf (sitofp .bf16 (andi (extui 32 w natLt_8_32) (broadcastInDim S8x8192x1024 ![] bcast_S_S8x8192x1024 (constantI S_ 32 15#32)))) (broadcastInDim S8x8192x1024 ![] bcast_S_S8x8192x1024 (constant S_ .bf16 0x4100#16))) (shapeCast _ (broadcastInDim S8x8192x16x64 ![0, 1, 2] bcast_S8x8192x16_S8x8192x16x64_0_1_2 s) shapeCasts_S8x8192x16x64_S8x8192x1024)))
    (Host.dotGeneral dot_S8x48x1024_S8x8192x1024_S8x48x8192_2_2_1_1_0_0 none (shapeCast _ (extractStridedSlice S8x48x1024x1 ![0, 0, 0, 1] (shapeCast _ (broadcastInDim S8x48x2048 ![0, 1, 2] bcast_S1x48x2048_S8x48x2048_0_1_2 (shapeCast _ x shapeCasts_S48x1x2048_S1x48x2048)) shapeCasts_S8x48x2048_S8x48x1024x2) slices_S8x48x1024x2_S8x48x1024x1_0_0_0_1) shapeCasts_S8x48x1024x1_S8x48x1024) (mulf (subf (sitofp .bf16 (Host.shrsi (extui 32 w natLt_8_32) (broadcastInDim S8x8192x1024 ![] bcast_S_S8x8192x1024 (constantI S_ 32 4#32)))) (broadcastInDim S8x8192x1024 ![] bcast_S_S8x8192x1024 (constant S_ .bf16 0x4100#16))) (shapeCast _ (broadcastInDim S8x8192x16x64 ![0, 1, 2] bcast_S8x8192x16_S8x8192x16x64_0_1_2 s) shapeCasts_S8x8192x16x64_S8x8192x1024)))

/-- A product of a row of activations with a row of unpacked weights: one scale for 128 entries. -/
def specG (x : FVec Ideal S48x1x2048 .bf16) (w : IVec S8x8192x1024 8) (s : FVec Ideal S8x8192x16 .bf16) (e : Fin 8) (t : Fin 48) (r : Fin 8192) : EReal :=
  ∑ K : Fin 2048, x (ix3 t 0 K) * (nib (w (ix3 e r ⟨K.val / 2, by have := K.isLt; omega⟩)) K.val * s (ix3 e r ⟨K.val / 128, by have := K.isLt; omega⟩))

theorem refG_apply (x : FVec Ideal S48x1x2048 .bf16) (w : IVec S8x8192x1024 8) (s : FVec Ideal S8x8192x16 .bf16) (e : Fin 8) (t : Fin 48) (r : Fin 8192) :
    refG x w s (ix3 e t r) = specG x w s e t r := by
  pointwise [refG]
  unfold specG
  rw [← sum_even_odd (m := 1024) rfl]
  congr 1
  · refine Finset.sum_congr rfl fun p _ => ?_
    rw [lo_code]
    refine congrArg _ (congrArg₂ _ ?_ ?_)
    · rw [nib_congr _ (show (p.val * 2) % 2 = 0 % 2 by omega)]
      exact congrArg (fun q => nib (w (ix3 e r q)) 0) (Fin.ext (by show p.val = p.val * 2 / 2; omega))
    · exact congrArg (fun q => s (ix3 e r q)) (Fin.ext (by show p.val / 64 = p.val * 2 / 128; omega))
  · refine Finset.sum_congr rfl fun p _ => ?_
    rw [hi_code]
    refine congrArg _ (congrArg₂ _ ?_ ?_)
    · rw [nib_congr _ (show (p.val * 2 + 1) % 2 = 1 % 2 by omega)]
      exact congrArg (fun q => nib (w (ix3 e r q)) 1) (Fin.ext (by show p.val = (p.val * 2 + 1) / 2; omega))
    · exact congrArg (fun q => s (ix3 e r q)) (Fin.ext (by show p.val / 64 = (p.val * 2 + 1) / 128; omega))

/-- Their activations. -/
def refH (g : FVec Ideal S8x48x8192 .f32) : FVec Ideal S8x48x4096 .bf16 :=
  truncf .bf16 (mulf (mulf (extractStridedSlice S8x48x4096 ![0, 0, 0] g slices_S8x48x8192_S8x48x4096_0_0_0) (Host.divf (broadcastInDim S8x48x4096 ![] bcast_S_S8x48x4096 (constant S_ .f32 0x3F800000#32)) (addf (broadcastInDim S8x48x4096 ![] bcast_S_S8x48x4096 (constant S_ .f32 0x3F800000#32)) (Host.exp (Host.negf (extractStridedSlice S8x48x4096 ![0, 0, 0] g slices_S8x48x8192_S8x48x4096_0_0_0)))))) (extractStridedSlice S8x48x4096 ![0, 0, 4096] g slices_S8x48x8192_S8x48x4096_0_0_4096)) bitsLt_bf16_f32

/-- One activation: the gate times its logistic, times the up projection. -/
def specH (x : FVec Ideal S48x1x2048 .bf16) (w : IVec S8x8192x1024 8) (s : FVec Ideal S8x8192x16 .bf16) (e : Fin 8) (t : Fin 48) (r : Fin 4096) : EReal :=
  specG x w s e t ⟨r.val, by have := r.isLt; omega⟩ * Ideal.logistic (specG x w s e t ⟨r.val, by have := r.isLt; omega⟩)
    * specG x w s e t ⟨4096 + r.val, by have := r.isLt; omega⟩

theorem refH_apply (x : FVec Ideal S48x1x2048 .bf16) (w : IVec S8x8192x1024 8) (s : FVec Ideal S8x8192x16 .bf16) (e : Fin 8) (t : Fin 48) (r : Fin 4096) :
    refH (refG x w s) (ix3 e t r) = specH x w s e t r := by
  unfold specH
  rw [← refG_apply, ← refG_apply]
  generalize refG x w s = g
  pointwise [refH]
  rfl

/-- The experts' results. -/
def refY (h : FVec Ideal S8x48x4096 .bf16) (w : IVec S8x2048x2048 8) (s : FVec Ideal S8x2048x32 .bf16) : FVec Ideal S8x48x2048 .f32 :=
  addf (Host.dotGeneral dot_S8x48x2048_S8x2048x2048_S8x48x2048_2_2_1_1_0_0 none (shapeCast _ (extractStridedSlice S8x48x2048x1 ![0, 0, 0, 0] (shapeCast _ h shapeCasts_S8x48x4096_S8x48x2048x2) slices_S8x48x2048x2_S8x48x2048x1_0_0_0_0) shapeCasts_S8x48x2048x1_S8x48x2048) (mulf (subf (sitofp .bf16 (andi (extui 32 w natLt_8_32) (broadcastInDim S8x2048x2048 ![] bcast_S_S8x2048x2048 (constantI S_ 32 15#32)))) (broadcastInDim S8x2048x2048 ![] bcast_S_S8x2048x2048 (constant S_ .bf16 0x4100#16))) (shapeCast _ (broadcastInDim S8x2048x32x64 ![0, 1, 2] bcast_S8x2048x32_S8x2048x32x64_0_1_2 s) shapeCasts_S8x2048x32x64_S8x2048x2048)))
    (Host.dotGeneral dot_S8x48x2048_S8x2048x2048_S8x48x2048_2_2_1_1_0_0 none (shapeCast _ (extractStridedSlice S8x48x2048x1 ![0, 0, 0, 1] (shapeCast _ h shapeCasts_S8x48x4096_S8x48x2048x2) slices_S8x48x2048x2_S8x48x2048x1_0_0_0_1) shapeCasts_S8x48x2048x1_S8x48x2048) (mulf (subf (sitofp .bf16 (Host.shrsi (extui 32 w natLt_8_32) (broadcastInDim S8x2048x2048 ![] bcast_S_S8x2048x2048 (constantI S_ 32 4#32)))) (broadcastInDim S8x2048x2048 ![] bcast_S_S8x2048x2048 (constant S_ .bf16 0x4100#16))) (shapeCast _ (broadcastInDim S8x2048x32x64 ![0, 1, 2] bcast_S8x2048x32_S8x2048x32x64_0_1_2 s) shapeCasts_S8x2048x32x64_S8x2048x2048)))

/-- One entry of an expert's result. -/
def specY (h : Fin 4096 → EReal) (w : IVec S8x2048x2048 8) (s : FVec Ideal S8x2048x32 .bf16) (e : Fin 8) (d : Fin 2048) : EReal :=
  ∑ K : Fin 4096, h K * (nib (w (ix3 e d ⟨K.val / 2, by have := K.isLt; omega⟩)) K.val * s (ix3 e d ⟨K.val / 128, by have := K.isLt; omega⟩))

theorem refY_apply (h : FVec Ideal S8x48x4096 .bf16) (w : IVec S8x2048x2048 8) (s : FVec Ideal S8x2048x32 .bf16) (e : Fin 8) (t : Fin 48) (d : Fin 2048) :
    refY h w s (ix3 e t d) = specY (fun K => h (ix3 e t K)) w s e d := by
  pointwise [refY]
  unfold specY
  rw [← sum_even_odd (m := 2048) rfl]
  congr 1
  · refine Finset.sum_congr rfl fun p _ => ?_
    rw [lo_code]
    refine congrArg _ (congrArg₂ _ ?_ ?_)
    · rw [nib_congr _ (show (p.val * 2) % 2 = 0 % 2 by omega)]
      exact congrArg (fun q => nib (w (ix3 e d q)) 0) (Fin.ext (by show p.val = p.val * 2 / 2; omega))
    · exact congrArg (fun q => s (ix3 e d q)) (Fin.ext (by show p.val / 64 = p.val * 2 / 128; omega))
  · refine Finset.sum_congr rfl fun p _ => ?_
    rw [hi_code]
    refine congrArg _ (congrArg₂ _ ?_ ?_)
    · rw [nib_congr _ (show (p.val * 2 + 1) % 2 = 1 % 2 by omega)]
      exact congrArg (fun q => nib (w (ix3 e d q)) 1) (Fin.ext (by show p.val = (p.val * 2 + 1) / 2; omega))
    · exact congrArg (fun q => s (ix3 e d q)) (Fin.ext (by show p.val / 64 = (p.val * 2 + 1) / 128; omega))

/-- The tokens' results: at each of its two choices the chosen expert's, weighted and added. -/
def refO (y : FVec Ideal S8x48x2048 .f32) (ids : IVec S48x1x2 32) (ew : FVec Ideal S48x1x2 .f32) : FVec Ideal S48x1x2048 .bf16 :=
  shapeCast _ (truncf .bf16 (Host.reduceAdd (mulf (Host.reduceAdd (select (cmpi .eq (broadcastInDim S8x48x2x2048 ![0, 1, 2, 3] bcast_S1x48x2x1_S8x48x2x2048_0_1_2_3 (shapeCast _ ids shapeCasts_S48x1x2_S1x48x2x1)) (iotaInDim S8x48x2x2048 32 0)) (broadcastInDim S8x48x2x2048 ![0, 1, 2, 3] bcast_S8x48x1x2048_S8x48x2x2048_0_1_2_3 (broadcastInDim S8x48x1x2048 ![0, 1, 3] bcast_S8x48x2048_S8x48x1x2048_0_1_3 y)) (broadcastInDim S8x48x2x2048 ![] bcast_S_S8x48x2x2048 (id (constant S_ .f32 0x00000000#32)))) (constant S_ .f32 0x00000000#32) reducesTo_S8x48x2x2048_S48x2x2048_d0 h_S_) (broadcastInDim S48x2x2048 ![0, 1, 2] bcast_S48x2x1_S48x2x2048_0_1_2 (shapeCast _ ew shapeCasts_S48x1x2_S48x2x1))) (constant S_ .f32 0x00000000#32) reducesTo_S48x2x2048_S48x2048_d1 h_S_) bitsLt_bf16_f32) shapeCasts_S48x2048_S48x1x2048

theorem refO_apply (y : FVec Ideal S8x48x2048 .f32) (ids : IVec S48x1x2 32) (ew : FVec Ideal S48x1x2 .f32)
    (hids : ∀ j, (ids j).toNat < 8) (t : Fin 48) (d : Fin 2048) :
    refO y ids ew (ix3 t 0 d) = y (ix3 ⟨(ids (ix3 t 0 0)).toNat, hids _⟩ t d) * ew (ix3 t 0 0)
      + y (ix3 ⟨(ids (ix3 t 0 1)).toNat, hids _⟩ t d) * ew (ix3 t 0 1) := by
  pointwise [refO]
  rw [show id (constant (F := Ideal) S_ FTy.f32 0#32) ix0 = (0 : EReal) from Ideal.ofBits_zero_f32]
  rw [Fin.sum_univ_two]
  rw [pickN (by decide) _ (hids (ix3 t 0 0)) fun e => y (ix3 e t d), pickN (by decide) _ (hids (ix3 t 0 1)) fun e => y (ix3 e t d)]

theorem res_eq (m : (ℓ : Loc nD τ sig) → Buf (Elt Ideal) ℓ) (c : Dev nD) :
    Value.res_main_v65 m c = refO (refY (refH (refG (m ((c.tc : Thread nD τ).loc main_arg0)) (m ((c.tc : Thread nD τ).loc main_arg3)) (m ((c.tc : Thread nD τ).loc main_arg4))))
        (m ((c.tc : Thread nD τ).loc main_arg5)) (m ((c.tc : Thread nD τ).loc main_arg6)))
      (m ((c.tc : Thread nD τ).loc main_arg1)) (m ((c.tc : Thread nD τ).loc main_arg2)) := by
  unfold Value.res_main_v65 refO refY refH refG
  rfl

end Cert.Val
-- ==== Proof.Value.Weigh.lean ====
/- The weighting of one expert's part: a row of two sums turned to a column, and the parts of the tokens that chose it added. -/
module

public import proofs.«01_k».proof.Proof.Gen.KernelIdeal
public import proofs.«01_k».proof.Proof.KernelIdeal.Blocks
public import proofs.«01_k».proof.Proof.Value.Pick
public import Idealize.ShloMosaic.Lib.Pointwise

@[expose] public section

noncomputable section

namespace Cert.Val

open Cert.KernelIdeal Cert.KernelIdeal.Gen Idealize.ShloMosaic

theorem pay2_apply (v : FVec Ideal S2x48 .f32) (t : Fin 48) (n : Fin 256) :
    (k0_pay2 v (ix2 t n) : EReal) = v (ix2 0 t) + v (ix2 1 t) := by
  pointwise [k0_pay2, k0_pay1]
  rw [diag (by decide) t fun x => ∑ k : Fin 2, (v (ix2 k x) : EReal), Fin.sum_univ_two]

theorem pay3_apply (hit : IVec S2x48 1) (acc : Vec Ideal S48x256 .f32) (new : FVec Ideal S48x256 .f32) (t : Fin 48) (n : Fin 256) :
    (k0_pay3 hit acc new (ix2 t n) : EReal)
      = acc (ix2 t n) + if (0 : EReal) < Scalar.select (hit (ix2 0 t)) 1 0 + Scalar.select (hit (ix2 1 t)) 1 0 then (new (ix2 t n) : EReal) else 0 := by
  pointwise [k0_pay3, k0_pay1]
  rw [diag (by decide) t fun x => ∑ k : Fin 2, (Scalar.select (hit (ix2 k x)) 1 0 : EReal), Fin.sum_univ_two]

theorem pay79_apply (w : BitVec 32) (ids : Vec Ideal S2x48 .i32) (k : Fin 2) (t : Fin 48) :
    k0_pay79 (F := Ideal) w ids (ix2 k t) = IntOp.cmpi .eq (ids (ix2 k t)) w := by
  pointwise [k0_pay79]

theorem pay80_apply (w : BitVec 32) (ids : Vec Ideal S2x48 .i32) (ew : Vec Ideal S2x48 .f32) (k : Fin 2) (t : Fin 48) :
    (k0_pay80 (F := Ideal) w ids ew (ix2 k t) : EReal) = Scalar.select (IntOp.cmpi .eq (ids (ix2 k t)) w) (ew (ix2 k t)) 0 := by
  pointwise [k0_pay80, k0_pay79]

theorem pay154_apply (y : S48x2048.Idx) : (k0_pay154 (F := Ideal) y : EReal) = 0 := by
  obtain ⟨t, n, rfl⟩ : ∃ (t : Fin 48) (n : Fin 2048), y = ix2 t n := ⟨y 0, y 1, eq_ix2 y⟩
  pointwise [k0_pay154]

end Cert.Val
-- ==== Proof.Value.Entries.lean ====
/- One expert's hidden row and one expert's output, entry by entry, as the sums of the specification. -/
module

public import proofs.«01_k».proof.Proof.Value.Pass
public import proofs.«01_k».proof.Proof.Value.RefVal
public import proofs.«01_k».proof.Proof.Value.Weigh

@[expose] public section

noncomputable section

namespace Cert.Val

open Cert.KernelIdeal Cert.KernelIdeal.Gen Cert.KernelIdeal.Own Idealize.ShloMosaic

theorem specG_of {G : Fin 2 → Fin 256 → Fin 1024 → Elt Ideal .i8} {D : S2x16x256.Idx → Elt Ideal .bf16} {X : S48x2048.Idx → EReal}
    {x : FVec Ideal S48x1x2048 .bf16} {w : IVec S8x8192x1024 8} {s : FVec Ideal S8x8192x16 .bf16} {e : Fin 8} {t : Fin 48} {r : Fin 8192} {i : Fin 2} {n : Fin 256}
    (hX : ∀ K, X (ix2 t K) = x (ix3 t 0 K)) (hG : ∀ k, G i n k = w (ix3 e r k)) (hD : ∀ g, D (ix3 i g n) = s (ix3 e r g)) :
    ∑ K, term8 G D X i 0 (by decide) t n K = specG x w s e t r := by
  refine Finset.sum_congr rfl fun K _ => ?_
  unfold term8
  rw [hG, hD, ← hX]
  exact congrArg (fun q => X (ix2 t q) * _) (Fin.ext (Nat.zero_add _))

theorem specY_of {G : Fin 2 → Fin 256 → Fin 1024 → Elt Ideal .i8} {D : S2x16x256.Idx → Elt Ideal .bf16} {H : S48x4096.Idx → EReal}
    {w : IVec S8x2048x2048 8} {s : FVec Ideal S8x2048x32 .bf16} {e : Fin 8} {t : Fin 48} {d : Fin 2048} {n : Fin 256}
    (hG : ∀ (i : Fin 2) (k : Fin 1024), G i n k = w (ix3 e d ⟨i.val * 1024 + k.val, by omega⟩))
    (hD : ∀ (i : Fin 2) (g : Fin 16), D (ix3 i g n) = s (ix3 e d ⟨16 * i.val + g.val, by omega⟩)) :
    (∑ K, term8 G D H 0 0 (by decide) t n K) + (∑ K, term8 G D H 1 2048 (by decide) t n K) = specY (fun K => H (ix2 t K)) w s e d := by
  unfold specY
  rw [← sum_cut (m := 2) (n := 2048) rfl, Fin.sum_univ_two]
  refine congrArg₂ _ (Finset.sum_congr rfl fun K _ => ?_) (Finset.sum_congr rfl fun K _ => ?_)
  all_goals
    unfold term8
    rw [hG, hD]
    refine congrArg₂ _ ?_ (congrArg₂ _ ?_ ?_)
  · exact congrArg (fun q => H (ix2 t q)) (Fin.ext (by show 0 + K.val = 2048 * 0 + K.val; omega))
  · rw [nib_congr (j := K.val) (k := 2048 * (0 : Fin 2).val + K.val) _ (by show K.val % 2 = (2048 * 0 + K.val) % 2; omega)]
    exact congrArg (fun q => nib (w (ix3 e d q)) _) (Fin.ext (by show 0 * 1024 + K.val / 2 = (2048 * 0 + K.val) / 2; omega))
  · exact congrArg (fun q => s (ix3 e d q)) (Fin.ext (by show 16 * 0 + K.val / 128 = (2048 * 0 + K.val) / 128; omega))
  · exact congrArg (fun q => H (ix2 t q)) (Fin.ext (by show 2048 + K.val = 2048 * 1 + K.val; omega))
  · rw [nib_congr (j := K.val) (k := 2048 * (1 : Fin 2).val + K.val) _ (by show K.val % 2 = (2048 * 1 + K.val) % 2; omega)]
    exact congrArg (fun q => nib (w (ix3 e d q)) _) (Fin.ext (by show 1 * 1024 + K.val / 2 = (2048 * 1 + K.val) / 2; omega))
  · exact congrArg (fun q => s (ix3 e d q)) (Fin.ext (by show 16 * 1 + K.val / 128 = (2048 * 1 + K.val) / 128; omega))

/-- An expert's hidden row. -/
theorem hOf_apply {Wf : Fin 16 → Fin 2 → Fin 256 → Fin 1024 → Elt Ideal .i8} {S : Fin 16 → Fin 8192 → Elt Ideal .bf16} {X : S48x2048.Idx → Elt Ideal .bf16}
    {x : FVec Ideal S48x1x2048 .bf16} {w : IVec S8x8192x1024 8} {s : FVec Ideal S8x8192x16 .bf16} {e : Fin 8}
    (hX : ∀ t K, X (ix2 t K) = x (ix3 t 0 K))
    (hW : ∀ (b : Fin 16) (i : Fin 2) (r : Fin 256) (k : Fin 1024), Wf b i r k = w (ix3 e ⟨4096 * i.val + (b.val * 256 + r.val), by omega⟩ k))
    (hS : ∀ (g : Fin 16) (r : Fin 8192), S g r = s (ix3 e r g)) (t : Fin 48) (K : Fin 4096) :
    (hOf Wf S X (ix2 t K) : EReal) = specH x w s e t K := by
  have hK := K.isLt
  unfold hOf
  show (tile1V _ _ X (ValueIdx.ix2 t (⟨K.val % 256, _⟩ : Fin 256)) : EReal) = _
  rw [← ix2_eq_valueIdx, tile1V_apply]
  unfold specH
  have e0 : ∀ D : S2x16x256.Idx → Elt Ideal .bf16, (∀ g, D (ix3 0 g ⟨K.val % 256, Nat.mod_lt _ (by decide)⟩) = s (ix3 e ⟨K.val, by omega⟩ g)) →
      ∑ Q, term8 (Wf ⟨K.val / 256, by omega⟩) D X 0 0 (by decide) t ⟨K.val % 256, Nat.mod_lt _ (by decide)⟩ Q = specG x w s e t ⟨K.val, by omega⟩ := fun D hD =>
    specG_of (hX t) (fun k => (hW _ _ _ _).trans (congrArg (fun q => w (ix3 e q k)) (Fin.ext (by show 4096 * 0 + (K.val / 256 * 256 + K.val % 256) = K.val; omega)))) hD
  have e1 : ∀ D : S2x16x256.Idx → Elt Ideal .bf16, (∀ g, D (ix3 1 g ⟨K.val % 256, Nat.mod_lt _ (by decide)⟩) = s (ix3 e ⟨4096 + K.val, by omega⟩ g)) →
      ∑ Q, term8 (Wf ⟨K.val / 256, by omega⟩) D X 1 0 (by decide) t ⟨K.val % 256, Nat.mod_lt _ (by decide)⟩ Q = specG x w s e t ⟨4096 + K.val, by omega⟩ := fun D hD =>
    specG_of (hX t) (fun k => (hW _ _ _ _).trans (congrArg (fun q => w (ix3 e q k)) (Fin.ext (by show 4096 * 1 + (K.val / 256 * 256 + K.val % 256) = 4096 + K.val; omega)))) hD
  refine congrArg₂ _ (congrArg₂ _ (e0 _ fun g => ?_) (congrArg _ (e0 _ fun g => ?_))) (e1 _ fun g => ?_)
  · exact (hS _ _).trans (congrArg (fun q => s (ix3 e q g)) (Fin.ext (by show K.val / 256 * 256 + K.val % 256 = K.val; omega)))
  · exact (hS _ _).trans (congrArg (fun q => s (ix3 e q g)) (Fin.ext (by show K.val / 256 * 256 + K.val % 256 = K.val; omega)))
  · exact (hS _ _).trans (congrArg (fun q => s (ix3 e q g)) (Fin.ext (by show 4096 + K.val / 256 * 256 + K.val % 256 = 4096 + K.val; omega)))

/-- An expert's part of a token's result, given how the token's two choices name it. -/
theorem accOf_apply {Wf : Fin 8 → Fin 2 → Fin 256 → Fin 1024 → Elt Ideal .i8} {S : Fin 32 → Fin 2048 → Elt Ideal .bf16} {H : S48x4096.Idx → Elt Ideal .bf16}
    {w : IVec S8x2048x2048 8} {s : FVec Ideal S8x2048x32 .bf16} {e : Fin 8}
    (hW : ∀ (b : Fin 8) (i : Fin 2) (r : Fin 256) (k : Fin 1024), Wf b i r k = w (ix3 e ⟨b.val * 256 + r.val, by omega⟩ ⟨i.val * 1024 + k.val, by omega⟩))
    (hS : ∀ (g : Fin 32) (r : Fin 2048), S g r = s (ix3 e r g)) (hit : IVec S2x48 1) (v : FVec Ideal S2x48 .f32) (Y : S48x2048.Idx → Elt Ideal .f32)
    (t : Fin 48) (d : Fin 2048) :
    (accOf Wf S H hit v Y (ix2 t d) : EReal)
      = Y (ix2 t d) + if (0 : EReal) < Scalar.select (hit (ix2 0 t)) 1 0 + Scalar.select (hit (ix2 1 t)) 1 0
          then specY (fun K => H (ix2 t K)) w s e d * ((v (ix2 0 t) : EReal) + v (ix2 1 t)) else 0 := by
  have hd := d.isLt
  unfold accOf
  show (k0_pay3 hit (colA Y _) (tile2U _ _ H (k0_pay2 v)) (ValueIdx.ix2 t (⟨d.val % 256, _⟩ : Fin 256)) : EReal) = _
  rw [← ix2_eq_valueIdx, pay3_apply, tile2U_apply, pay2_apply]
  refine congrArg₂ _ ?_ ?_
  · exact congrArg (fun q => Y (ix2 t q)) (Fin.ext (by show d.val / 256 * 256 + d.val % 256 = d.val; omega))
  · rw [specY_of (w := w) (s := s) (e := e) (d := d)]
    · intro i k
      exact (hW _ _ _ _).trans (congrArg (fun q => w (ix3 e q _)) (Fin.ext (by show d.val / 256 * 256 + d.val % 256 = d.val; omega)))
    · intro i g
      have hr : (⟨d.val / 256 * 256 + d.val % 256, by omega⟩ : Fin 2048) = d := Fin.ext (by show d.val / 256 * 256 + d.val % 256 = d.val; omega)
      fin_cases i
      · exact (hS _ _).trans (congrArg₂ (fun q g' => s (ix3 e q g')) hr (Fin.ext (by show 0 + g.val = 16 * 0 + g.val; omega)))
      · exact (hS _ _).trans (congrArg₂ (fun q g' => s (ix3 e q g')) hr (Fin.ext (by show 16 + g.val = 16 * 1 + g.val; omega)))

end Cert.Val
-- ==== Proof.Value.Cut.lean ====
/- The reshape that cuts the rows of the first weights in two halves, at an entry. -/
module

public import proofs.«01_k».proof.Proof.Gen.KernelIdeal
public import Idealize.ShloMosaic.Lib.Pointwise

@[expose] public section

namespace Cert.Val

open Cert.KernelIdeal Cert.KernelIdeal.Gen Idealize.ShloMosaic

theorem cut_apply (w : IVec S8x8192x1024 8) (e : Fin 8) (i : Fin 2) (r : Fin 4096) (k : Fin 1024) :
    shapeCast S8x2x4096x1024 w shapeCasts_S8x8192x1024_S8x2x4096x1024 (ix4 e i r k) = w (ix3 e ⟨i.val * 4096 + r.val, by omega⟩ k) := by
  pointwise []

end Cert.Val
-- ==== Proof.Value.Active.lean ====
/- The sum over the active experts, in the order the kernel visits them, is a sum over all experts. -/
module

public import proofs.«01_k».proof.Proof.KernelIdeal.Mask
public import proofs.«01_k».proof.Proof.Value.Pick

@[expose] public section

namespace Cert.Val

open Cert.KernelIdeal.Own Idealize.ShloMosaic

theorem active_mem : ∀ (m : Fin 256) (a : Fin 8), a.val < popN m.val → m.val.testBit (exF m a.val).val = true := by decide +kernel
theorem active_inj : ∀ (m : Fin 256) (a b : Fin 8), a.val < popN m.val → b.val < popN m.val → exF m a.val = exF m b.val → a = b := by decide +kernel
theorem active_surj : ∀ (m : Fin 256) (e : Fin 8), m.val.testBit e.val = true → ∃ a : Fin 8, a.val < popN m.val ∧ exF m a.val = e := by decide +kernel
theorem active_le : ∀ m : Fin 256, popN m.val ≤ 8 := by decide +kernel

/-- The visited experts are those whose bits are set. -/
theorem sum_active {M : Type} [AddCommMonoid M] (m : Fin 256) (f : Fin 8 → M) (h : ∀ e : Fin 8, m.val.testBit e.val = false → f e = 0) :
    ∑ a ∈ Finset.range (popN m.val), f (exF m a) = ∑ e : Fin 8, f e := by
  rw [← Finset.sum_filter_add_sum_filter_not Finset.univ fun e : Fin 8 => m.val.testBit e.val = true]
  rw [Finset.sum_eq_zero (s := Finset.univ.filter fun e : Fin 8 => ¬ m.val.testBit e.val = true) (fun e he => h e (by simpa using he)), add_zero]
  have hle := active_le m
  refine Finset.sum_nbij (fun a => exF m a) ?_ ?_ ?_ fun _ _ => rfl
  · intro a ha
    rw [Finset.mem_range] at ha
    exact Finset.mem_filter.2 ⟨Finset.mem_univ _, active_mem m ⟨a, by omega⟩ ha⟩
  · intro a ha b hb hab
    rw [Finset.mem_coe, Finset.mem_range] at ha hb
    exact congrArg Fin.val (active_inj m ⟨a, by omega⟩ ⟨b, by omega⟩ ha hb hab)
  · intro e he
    obtain ⟨a, ha, hae⟩ := active_surj m e (Finset.mem_filter.1 he).2
    exact ⟨a.val, Finset.mem_coe.2 (Finset.mem_range.2 ha), hae⟩

/-- An expert's share of a token: its output times the weights of the choices that name it. -/
noncomputable def share (i0 i1 : BitVec 32) (w0 w1 : EReal) (e : BitVec 32) (y : EReal) : EReal :=
  if (0 : EReal) < Scalar.select (IntOp.cmpi CmpIPredicate.eq i0 e) 1 0 + Scalar.select (IntOp.cmpi CmpIPredicate.eq i1 e) 1 0
    then y * (Scalar.select (IntOp.cmpi CmpIPredicate.eq i0 e) w0 0 + Scalar.select (IntOp.cmpi CmpIPredicate.eq i1 e) w1 0) else 0

/-- For two different choices the share splits by choice. -/
theorem share_eq {i0 i1 : BitVec 32} (h : i0 ≠ i1) (w0 w1 : EReal) (e : BitVec 32) (y : EReal) :
    share i0 i1 w0 w1 e y = Scalar.select (IntOp.cmpi CmpIPredicate.eq i0 e) (y * w0) 0 + Scalar.select (IntOp.cmpi CmpIPredicate.eq i1 e) (y * w1) 0 := by
  have s1 : ∀ a b : EReal, Scalar.select (1#1) a b = a := fun _ _ => rfl
  have s0 : ∀ a b : EReal, Scalar.select (0#1) a b = b := fun _ _ => rfl
  unfold share
  by_cases h0 : i0 = e
  · have h1 : i1 ≠ e := fun h1 => h (h0.trans h1.symm)
    subst h0
    rw [cmp_self, cmp_ne h1, s1, s1, s1, s0, s0, s0, add_zero, add_zero, add_zero, if_pos zero_lt_one]
  · rw [cmp_ne h0, s0, s0, s0, zero_add, zero_add, zero_add]
    by_cases h1 : i1 = e
    · subst h1
      rw [cmp_self, s1, s1, s1, if_pos zero_lt_one]
    · rw [cmp_ne h1, s0, s0, s0, if_neg (lt_irrefl _)]

/-- The shares of all experts make the two chosen outputs, each times its weight. -/
theorem sum_share {i0 i1 : BitVec 32} (h : i0 ≠ i1) (h0 : i0.toNat < 8) (h1 : i1.toNat < 8) (w0 w1 : EReal) (y : Fin 8 → EReal) :
    ∑ e : Fin 8, share i0 i1 w0 w1 (BitVec.ofNat 32 e.val) (y e) = y ⟨i0.toNat, h0⟩ * w0 + y ⟨i1.toNat, h1⟩ * w1 := by
  rw [Finset.sum_congr rfl fun e _ => share_eq h w0 w1 (BitVec.ofNat 32 e.val) (y e), Finset.sum_add_distrib,
    pickN (by decide) i0 h0 fun e => y e * w0, pickN (by decide) i1 h1 fun e => y e * w1]

/-- An expert that neither choice names has no share. -/
theorem share_zero {i0 i1 e : BitVec 32} (h0 : i0 ≠ e) (h1 : i1 ≠ e) (w0 w1 y : EReal) : share i0 i1 w0 w1 e y = 0 := by
  unfold share
  rw [cmp_ne h0, cmp_ne h1]
  exact if_neg (by rw [show (Scalar.select (0#1) (1 : EReal) 0) = 0 from rfl, add_zero]; exact lt_irrefl _)

end Cert.Val
-- ==== Proof.Value.Result.lean ====
/- What the kernel leaves in its result, entry by entry: the reference's value. -/
module

public import proofs.«01_k».proof.Proof.KernelIdeal.Host
public import proofs.«01_k».proof.Proof.Value.Entries
public import proofs.«01_k».proof.Proof.Value.Cut
public import proofs.«01_k».proof.Proof.Value.Active

@[expose] public section

set_option maxRecDepth 16384

noncomputable section

namespace Cert.Val

open Cert.KernelIdeal Cert.KernelIdeal.Gen Cert.KernelIdeal.Own Idealize.ShloMosaic Idealize.ShloMosaic.TcCoe Idealize.SL Idealize.SL.Sem

variable (m : (ℓ : Loc nD τ sig) → Buf (Elt Ideal) ℓ) (c : Dev nD)

/-! ## The arguments as arrays -/

abbrev aX : FVec Ideal S48x1x2048 .bf16 := m ((c : Thread nD τ).loc main_arg0)
abbrev aI : IVec S48x1x2 32 := m ((c : Thread nD τ).loc main_arg1)
abbrev aE : FVec Ideal S48x1x2 .f32 := m ((c : Thread nD τ).loc main_arg2)
abbrev aW1 : IVec S8x8192x1024 8 := m ((c : Thread nD τ).loc main_arg3)
abbrev aS1 : FVec Ideal S8x8192x16 .bf16 := m ((c : Thread nD τ).loc main_arg4)
abbrev aW2 : IVec S8x2048x2048 8 := m ((c : Thread nD τ).loc main_arg5)
abbrev aS2 : FVec Ideal S8x2048x32 .bf16 := m ((c : Thread nD τ).loc main_arg6)

/-! ## The prepared arrays at an entry -/

theorem ids_at (k : Fin 2) (t : Fin 48) : (V m c main_v1 (ix2 k t) : BitVec 32) = aI m c (ix3 t 0 k) := by
  rw [V_ids]; pointwise []
theorem ew_at (k : Fin 2) (t : Fin 48) : (V m c main_v3 (ix2 k t) : EReal) = aE m c (ix3 t 0 k) := by
  rw [V_ew]; pointwise []
theorem x_at (t : Fin 48) (K : Fin 2048) : (V m c main_v4 (ix2 t K) : EReal) = aX m c (ix3 t 0 K) := by
  rw [V_x]; pointwise []
theorem w1_at (e : Fin 8) (b : Fin 16) (i : Fin 2) (r : Fin 256) (k : Fin 1024) :
    (blk1 (F := Ideal) M4 (V m c main_v5) e b i r k : BitVec 8) = aW1 m c (ix3 e ⟨4096 * i.val + (b.val * 256 + r.val), by omega⟩ k) := by
  show (V m c main_v5 (ValueIdx.ix4 e i ⟨b.val * 256 + r.val, _⟩ k) : BitVec 8) = _
  rw [← ix4_eq_valueIdx, V_w1, cut_apply]
  exact congrArg (fun q => aW1 m c (ix3 e q k)) (Fin.ext (by show i.val * 4096 + (b.val * 256 + r.val) = 4096 * i.val + (b.val * 256 + r.val); omega))
theorem s1_at (e : Fin 8) (g : Fin 16) (r : Fin 8192) : (scP (F := Ideal) M5 (V m c main_v6) e g r : EReal) = aS1 m c (ix3 e r g) := by
  show (V m c main_v6 (ValueIdx.ix3 e g r) : EReal) = _
  rw [← ix3_eq_valueIdx, V_s1]; pointwise []
theorem w2_at (e : Fin 8) (b : Fin 8) (i : Fin 2) (r : Fin 256) (k : Fin 1024) :
    (blk2 (F := Ideal) M6 (V m c main_arg5) e b i r k : BitVec 8) = aW2 m c (ix3 e ⟨b.val * 256 + r.val, by omega⟩ ⟨i.val * 1024 + k.val, by omega⟩) := by
  show (V m c main_arg5 (ValueIdx.ix3 e ⟨b.val * 256 + r.val, _⟩ ⟨i.val * 1024 + k.val, _⟩) : BitVec 8) = _
  rw [← ix3_eq_valueIdx, V_main_arg5]
theorem s2_at (e : Fin 8) (g : Fin 32) (r : Fin 2048) : (scQ (F := Ideal) M7 (V m c main_v7) e g r : EReal) = aS2 m c (ix3 e r g) := by
  show (V m c main_v7 (ValueIdx.ix3 e g r) : EReal) = _
  rw [← ix3_eq_valueIdx, V_s2]; pointwise []

/-! ## The sum over the experts -/

/-- Expert `e`'s output for token `t` at column `d`. -/
def outE (t : Fin 48) (d : Fin 2048) (e : Fin 8) : EReal :=
  specY (fun K => specH (aX m c) (aW1 m c) (aS1 m c) e t K) (aW2 m c) (aS2 m c) e d

theorem accAt_apply (M : Fin 256) (t : Fin 48) (d : Fin 2048) (a : ℕ) :
    (accAt M4 M5 M6 M7 c (V m c main_v5) (V m c main_arg5) (V m c main_v6) (V m c main_v7) M (V m c main_v4)
      (V m c main_v1) (V m c main_v3) (k0_pay154 (F := Ideal)) a (ix2 t d) : EReal)
      = ∑ j ∈ Finset.range a, share (aI m c (ix3 t 0 0)) (aI m c (ix3 t 0 1)) (aE m c (ix3 t 0 0)) (aE m c (ix3 t 0 1))
          (BitVec.ofNat 32 (nthN M.val j)) (outE m c t d (exF M j)) := by
  induction a with
  | zero => rw [Finset.range_zero, Finset.sum_empty]; exact pay154_apply _
  | succ a ih =>
    rw [Finset.sum_range_succ, ← ih]
    refine (accOf_apply (e := exF M a) (w2_at m c _) (s2_at m c _) _ _ _ t d).trans (congrArg₂ _ rfl ?_)
    rw [pay79_apply, pay79_apply, pay80_apply, pay80_apply, ids_at, ids_at, ew_at, ew_at]
    unfold share outE
    rw [show (fun K : Fin 4096 => (hOf (blk1 (F := Ideal) M4 (V m c main_v5) (exF M a)) (scP (F := Ideal) M5 (V m c main_v6) (exF M a)) (V m c main_v4) (ix2 t K) : EReal))
        = fun K => specH (aX m c) (aW1 m c) (aS1 m c) (exF M a) t K from
      funext fun K => hOf_apply (x_at m c) (w1_at m c _) (s1_at m c _) t K]

theorem nthN_ex : ∀ (M : Fin 256) (a : Fin 8), a.val < popN M.val → nthN M.val a.val = (exF M a.val).val := by decide +kernel

/-- The kernel's result at an entry. -/
theorem result_apply (hids : ∀ x, (aI m c x).toNat < 8) (hne : ∀ t : Fin 48, aI m c (ix3 t 0 0) ≠ aI m c (ix3 t 0 1)) (t : Fin 48) (d : Fin 2048) :
    (resultV m c (ix2 t d) : EReal)
      = outE m c t d ⟨(aI m c (ix3 t 0 0)).toNat, hids _⟩ * aE m c (ix3 t 0 0) + outE m c t d ⟨(aI m c (ix3 t 0 1)).toNat, hids _⟩ * aE m c (ix3 t 0 1) := by
  have hV : ∀ y, (V m c main_v1 y : BitVec 32).toNat < 8 := fun y => by
    obtain ⟨x, hx⟩ := ids_mem m c y
    rw [hx]; exact hids x
  refine (accAt_apply m c (maskF (V m c main_v1)) t d (popN (maskF (V m c main_v1)).val)).trans ?_
  rw [← sum_share (hne t) (hids _) (hids _) _ _ (outE m c t d)]
  rw [← sum_active (maskF (V m c main_v1)) fun e => share (aI m c (ix3 t 0 0)) (aI m c (ix3 t 0 1)) (aE m c (ix3 t 0 0)) (aE m c (ix3 t 0 1)) (BitVec.ofNat 32 e.val) (outE m c t d e)]
  · refine Finset.sum_congr rfl fun j hj => ?_
    have hj := Finset.mem_range.1 hj
    have hle := active_le (maskF (V m c main_v1))
    rw [nthN_ex _ ⟨j, by omega⟩ hj]
  · intro e he
    have hno : ∀ k : Fin 2, aI m c (ix3 t 0 k) ≠ BitVec.ofNat 32 e.val := fun k hk => by
      have := (maskF_bit hV e.val).2 ⟨ix2 k t, by rw [ids_at, hk, BitVec.toNat_ofNat, Nat.mod_eq_of_lt (by have := e.isLt; omega)]⟩
      rw [this] at he; exact absurd he (by decide)
    exact share_zero (hno 0) (hno 1) _ _ _

end Cert.Val
-- ==== Proof.Value.Run.lean ====
/- The run of the kernel: its result array is what its one grid point leaves, with a middle axis of extent one. -/
module

public import proofs.«01_k».proof.Proof.KernelIdeal.Host
public import Idealize.ShloMosaic.Lib.Pipeline.ValueKit
public import Idealize.ShloMosaic.Lib.StableHlo.Run

@[expose] public section

set_option maxRecDepth 16384

noncomputable section

namespace Cert.Val

open Cert.KernelIdeal Cert.KernelIdeal.Gen Cert.KernelIdeal.Own Idealize.ShloMosaic Idealize.ShloMosaic.TcCoe Idealize.ShloMosaic.Tactic Idealize.SL Idealize.SL.Sem

variable {F : FTy → Type} [FloatOps F]
variable (m : (ℓ : Loc nD τ sig) → Buf (Elt F) ℓ) (c : Dev nD)

theorem arr_result : (dats (F := F) m 0 c).arrAt 4 cfg0.N = resultV m c := by
  refine (dats m 0 c).arrAt_eq_of_after_last 4 t0_0 (by decide +kernel) _ fun j => ?_
  blk_simp
  rfl

theorem W_result : Pipeline.afterTail₀ cfgs (dats (F := F) m) 0 (V0 m) [hostOps1] c main_v9
    = shapeCast S48x1x2048 (resultV m c) shapeCasts_S48x2048_S48x1x2048 := by
  unfold Pipeline.afterTail₀ hostOps1
  simp only [List.flatten_cons, List.flatten_nil, List.append_nil]
  after_results_simp
  have h := (dats (F := F) m 0 c).withArrays_arrAt sharedIn0 (V0 m c) (A_eq m c) 4
  exact congrArg (fun q => shapeCast S48x1x2048 q shapeCasts_S48x2048_S48x1x2048) (h.trans (arr_result m c))

end Cert.Val
-- ==== Proof.Value.Tie.lean ====
/- The kernel's result is the reference's. -/
module

public import proofs.«01_k».proof.Proof.Value.Result
public import proofs.«01_k».proof.Proof.Value.Run

@[expose] public section

noncomputable section

namespace Cert.Val

open Cert.KernelIdeal Cert.KernelIdeal.Gen Cert.KernelIdeal.Own Idealize.ShloMosaic Idealize.ShloMosaic.TcCoe Idealize.SL Idealize.SL.Sem

variable (m : (ℓ : Loc nD τ sig) → Buf (Elt Ideal) ℓ) (c : Dev nD)

theorem unflatten_apply (v : FVec Ideal S48x2048 .bf16) (t : Fin 48) (d : Fin 2048) :
    (shapeCast S48x1x2048 v shapeCasts_S48x2048_S48x1x2048 (ix3 t 0 d) : EReal) = v (ix2 t d) := by
  pointwise []

/-- The result array of the kernel is the reference's composed term of the same arguments. -/
theorem tie (hids : ∀ x, (aI m c x).toNat < 8) (hne : ∀ t : Fin 48, aI m c (ix3 t 0 0) ≠ aI m c (ix3 t 0 1)) :
    (shapeCast S48x1x2048 (resultV m c) shapeCasts_S48x2048_S48x1x2048 : FVec Ideal S48x1x2048 .bf16)
      = refO (refY (refH (refG (aX m c) (aW1 m c) (aS1 m c))) (aW2 m c) (aS2 m c)) (aI m c) (aE m c) := by
  funext y
  obtain ⟨t, z, d, rfl⟩ : ∃ (t : Fin 48) (z : Fin 1) (d : Fin 2048), y = ix3 t z d := ⟨y 0, y 1, y 2, eq_ix3 y⟩
  obtain rfl : z = 0 := Subsingleton.elim _ _
  refine (unflatten_apply _ t d).trans ((result_apply m c hids hne t d).trans ?_)
  refine Eq.trans ?_ (refO_apply _ _ _ hids t d).symm
  have h : ∀ e : Fin 8, outE m c t d e = refY (refH (refG (aX m c) (aW1 m c) (aS1 m c))) (aW2 m c) (aS2 m c) (ix3 e t d) := fun e => by
    rw [refY_apply]
    unfold outE
    rw [show (fun K : Fin 4096 => (refH (refG (aX m c) (aW1 m c) (aS1 m c)) (ix3 e t K) : EReal)) = fun K => specH (aX m c) (aW1 m c) (aS1 m c) e t K from
      funext fun K => refH_apply _ _ _ e t K]
  rw [h, h]

end Cert.Val
-- ==== Proof.lean ====
/- The proof of the certificate's claim, put together from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_named
public import proofs.«01_k».proof.Proof.Gen.Pre_routed
public import proofs.«01_k».proof.Proof.Same
public import proofs.«01_k».proof.Proof.KernelIdeal.Host
public import proofs.«01_k».proof.Proof.Pre
public import proofs.«01_k».proof.Proof.Value.Tie
public import Idealize.ShloMosaic.Lib.Quiescent

@[expose] public section

noncomputable section

namespace Cert.Proof

open Idealize.ShloMosaic Idealize.SL.Sem

theorem frame_Kernel : Cert.quiescent_Kernel (hKernel := Cert.Kernel.Gen.facts) (hPre_named := Cert.Pre_named.Gen.facts) := by
  intro m g h
  rw [Cert.Same.defs_eq, Cert.Same.main_eq]
  exact Cert.KernelIdeal.Own.frame m g (Cert.KernelIdeal.Own.ids_lt m fun c x =>
    @Cert.Ids.named_lt Bits _ _ _ _ _ _ _ _ Cert.Pre_named.Gen.facts (h c) x)

theorem frame_KernelIdeal : Cert.quiescent_KernelIdeal (hKernelIdeal := Cert.KernelIdeal.Gen.facts) (hPre_named := Cert.Pre_named.Gen.facts) := by
  intro m g h
  exact Cert.KernelIdeal.Own.frame m g (Cert.KernelIdeal.Own.ids_lt m fun c x =>
    @Cert.Ids.named_lt Ideal _ _ _ _ _ _ _ _ Cert.Pre_named.Gen.facts (h c) x)

theorem frame_KernelIdeal_routed : Cert.quiescent_KernelIdeal_pre_routed (hKernelIdeal := Cert.KernelIdeal.Gen.facts) (hPre_routed := Cert.Pre_routed.Gen.facts) := by
  intro m g h
  exact Cert.KernelIdeal.Own.frame m g (Cert.KernelIdeal.Own.ids_lt m fun c x =>
    @Cert.Ids.routed_lt Ideal _ _ _ _ _ _ _ _ Cert.Pre_routed.Gen.facts (h c) x)

theorem frame_ReferenceIdeal : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (Cert.ReferenceIdeal.Value.run m g)

theorem frame_ReferenceIdeal_routed : Cert.quiescent_ReferenceIdeal_pre_routed (hReferenceIdeal := Cert.ReferenceIdeal.Gen.facts) (hPre_routed := Cert.Pre_routed.Gen.facts) := by
  intro m g _
  exact frame_ReferenceIdeal m g trivial

/-- The kernel's run ends with the reshaped array its grid point leaves; the reference's run ends with its composed term; the two are equal. -/
theorem algebraic : Cert.algebraic_KernelIdeal_ReferenceIdeal_pre_routed (hKernelIdeal := Cert.KernelIdeal.Gen.facts) (hReferenceIdeal := Cert.ReferenceIdeal.Gen.facts)
    (hPre_routed := Cert.Pre_routed.Gen.facts) := by
  intro m g m' g' h hagree
  have hids : ∀ (c : Dev Cert.KernelIdeal.nD) x, (Cert.Val.aI m c x).toNat < 8 := fun c x =>
    @Cert.Ids.routed_lt Ideal _ _ _ _ _ _ _ _ Cert.Pre_routed.Gen.facts (h c) x
  have hne : ∀ (c : Dev Cert.KernelIdeal.nD) (t : Fin 48), Cert.Val.aI m c (ix3 t 0 0) ≠ Cert.Val.aI m c (ix3 t 0 1) := fun c t =>
    @Cert.Ids.routed_ne Ideal _ _ _ _ _ _ _ _ Cert.Pre_routed.Gen.facts (h c) t
  have hV := Cert.KernelIdeal.Own.ids_lt m hids
  refine ⟨fun c => shapeCast Cert.KernelIdeal.S48x1x2048 (Cert.KernelIdeal.Own.resultV m c) Cert.KernelIdeal.Gen.shapeCasts_S48x2048_S48x1x2048, ?_, ?_⟩
  · exact (θ_run _ _ _).mono (fun r hr => fun c =>
      ⟨((hr.1.1 c).2 Cert.KernelIdeal.main_v9 (Pipeline.mem_restRefs_of Cert.KernelIdeal.main_v9 (by decide) (by decide))).trans (Cert.Val.W_result m c), hr.2.1 c⟩)
      (θ_run_and (Cert.KernelIdeal.Own.run_main m g hV) (Cert.KernelIdeal.Own.frame m g hV))
  · refine (θ_run _ _ _).mono (fun r hr c => ⟨?_, (hr c).2⟩) (Cert.ReferenceIdeal.Value.run m' g')
    obtain ⟨h0, h1, h2, h3, h4, h5, h6⟩ := hagree c
    refine (hr c).1.trans ((Cert.Val.res_eq m' c).trans ?_)
    rw [h0, h1, h2, h3, h4, h5, h6]
    exact (Cert.Val.tie m c (hids c) (hne c)).symm

theorem claim : Cert.Claim := ⟨Cert.Kernel.Gen.facts, Cert.KernelIdeal.Gen.facts, Cert.ReferenceIdeal.Gen.facts, Cert.Pre_named.Gen.facts, Cert.Pre_routed.Gen.facts,
  frame_Kernel, frame_KernelIdeal, frame_KernelIdeal_routed, frame_ReferenceIdeal, frame_ReferenceIdeal_routed, trivial, algebraic⟩

end Cert.Proof

end
